-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SortCall (m : (ℓ : Loc Cert.SortCall.nD Cert.SortCall.τ Cert.SortCall.sig) → Buf (Elt Bits) ℓ) : Prop :=
  True

def Pre_SortReference (m : (ℓ : Loc Cert.SortReference.nD Cert.SortReference.τ Cert.SortReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_SortCall [hSortCall : Cert.SortCall.Facts] : Prop :=
  ∀ (m : (ℓ : Loc Cert.SortCall.nD Cert.SortCall.τ Cert.SortCall.sig) → Buf (Elt Bits) ℓ) (g : Dev Cert.SortCall.nD → PrngReg), Pre_SortCall m →
    θ_run (Cert.SortCall.defs (F := Bits)) (Cert.SortCall.threads (F := Bits)) ⟨m, fun _ => 0, g⟩ (fun r => (∀ c : Dev Cert.SortCall.nD,
      r.2.mem ((c.tc : Thread Cert.SortCall.nD Cert.SortCall.τ).loc Cert.SortCall.main_arg0) = m ((c.tc : Thread Cert.SortCall.nD Cert.SortCall.τ).loc Cert.SortCall.main_arg0)
      ∧ r.2.mem ((c.tc : Thread Cert.SortCall.nD Cert.SortCall.τ).loc Cert.SortCall.main_arg1) = m ((c.tc : Thread Cert.SortCall.nD Cert.SortCall.τ).loc Cert.SortCall.main_arg1))
      ∧ r.2.sem = fun _ => 0)

def quiescent_SortReference [hSortReference : Cert.SortReference.Facts] : Prop :=
  ∀ (m : (ℓ : Loc Cert.SortReference.nD Cert.SortReference.τ Cert.SortReference.sig) → Buf (Elt Bits) ℓ) (g : Dev Cert.SortReference.nD → PrngReg), Pre_SortReference m →
    θ_run (Cert.SortReference.defs (F := Bits)) (onTc (τ := Cert.SortReference.τ) (Cert.SortReference.main (F := Bits))) ⟨m, fun _ => 0, g⟩ (fun r => (∀ c : Dev Cert.SortReference.nD,
      r.2.mem ((c.tc : Thread Cert.SortReference.nD Cert.SortReference.τ).loc Cert.SortReference.main_arg0) = m ((c.tc : Thread Cert.SortReference.nD Cert.SortReference.τ).loc Cert.SortReference.main_arg0)
      ∧ r.2.mem ((c.tc : Thread Cert.SortReference.nD Cert.SortReference.τ).loc Cert.SortReference.main_arg1) = m ((c.tc : Thread Cert.SortReference.nD Cert.SortReference.τ).loc Cert.SortReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1288_2) = v0 c
          ∧ r.2.mem ((c.tc : Thread Cert.ReferenceIdeal.nD Cert.ReferenceIdeal.τ).loc Cert.ReferenceIdeal.main_v1289_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_SortCall_SortReference [hSortCall : Cert.SortCall.Facts] [hSortReference : Cert.SortReference.Facts] : Prop :=
  ∀ (m : (ℓ : Loc Cert.SortCall.nD Cert.SortCall.τ Cert.SortCall.sig) → Buf (Elt Bits) ℓ) (g : Dev Cert.SortCall.nD → PrngReg)
    (m' : (ℓ : Loc Cert.SortReference.nD Cert.SortReference.τ Cert.SortReference.sig) → Buf (Elt Bits) ℓ) (g' : Dev Cert.SortReference.nD → PrngReg), Pre_SortCall m →
    (∀ c : Dev Cert.SortCall.nD,
      m' ((c.tc : Thread Cert.SortReference.nD Cert.SortReference.τ).loc Cert.SortReference.main_arg0) = m ((c.tc : Thread Cert.SortCall.nD Cert.SortCall.τ).loc Cert.SortCall.main_arg0)
      ∧ m' ((c.tc : Thread Cert.SortReference.nD Cert.SortReference.τ).loc Cert.SortReference.main_arg1) = m ((c.tc : Thread Cert.SortCall.nD Cert.SortCall.τ).loc Cert.SortCall.main_arg1)) →
    ∃ (v0 : (c : Dev Cert.SortCall.nD) → Buf (Elt Bits) ((c.tc : Thread Cert.SortCall.nD Cert.SortCall.τ).loc Cert.SortCall.main_v0_0)) (v1 : (c : Dev Cert.SortCall.nD) → Buf (Elt Bits) ((c.tc : Thread Cert.SortCall.nD Cert.SortCall.τ).loc Cert.SortCall.main_v0_1)),
      θ_run (Cert.SortCall.defs (F := Bits)) (Cert.SortCall.threads (F := Bits)) ⟨m, fun _ => 0, g⟩ (fun r => ∀ c : Dev Cert.SortCall.nD,
          r.2.mem ((c.tc : Thread Cert.SortCall.nD Cert.SortCall.τ).loc Cert.SortCall.main_v0_0) = v0 c
          ∧ r.2.mem ((c.tc : Thread Cert.SortCall.nD Cert.SortCall.τ).loc Cert.SortCall.main_v0_1) = v1 c
          ∧ r.2.mem ((c.tc : Thread Cert.SortCall.nD Cert.SortCall.τ).loc Cert.SortCall.main_arg0) = m ((c.tc : Thread Cert.SortCall.nD Cert.SortCall.τ).loc Cert.SortCall.main_arg0)
          ∧ r.2.mem ((c.tc : Thread Cert.SortCall.nD Cert.SortCall.τ).loc Cert.SortCall.main_arg1) = m ((c.tc : Thread Cert.SortCall.nD Cert.SortCall.τ).loc Cert.SortCall.main_arg1))
      ∧ θ_run (Cert.SortReference.defs (F := Bits)) (onTc (τ := Cert.SortReference.τ) (Cert.SortReference.main (F := Bits))) ⟨m', fun _ => 0, g'⟩ (fun r => ∀ c : Dev Cert.SortReference.nD,
          r.2.mem ((c.tc : Thread Cert.SortReference.nD Cert.SortReference.τ).loc Cert.SortReference.main_v5_2) = v0 c
          ∧ r.2.mem ((c.tc : Thread Cert.SortReference.nD Cert.SortReference.τ).loc Cert.SortReference.main_v6_1) = v1 c
          ∧ r.2.mem ((c.tc : Thread Cert.SortReference.nD Cert.SortReference.τ).loc Cert.SortReference.main_arg0) = m' ((c.tc : Thread Cert.SortReference.nD Cert.SortReference.τ).loc Cert.SortReference.main_arg0)
          ∧ r.2.mem ((c.tc : Thread Cert.SortReference.nD Cert.SortReference.τ).loc Cert.SortReference.main_arg1) = m' ((c.tc : Thread Cert.SortReference.nD Cert.SortReference.τ).loc Cert.SortReference.main_arg1))

def Claim : Prop :=
  ∃ (hKernel : Cert.Kernel.Facts) (hKernelIdeal : Cert.KernelIdeal.Facts) (hReferenceIdeal : Cert.ReferenceIdeal.Facts) (hSortCall : Cert.SortCall.Facts) (hSortReference : Cert.SortReference.Facts),
    quiescent_Kernel (hKernel := hKernel)
    ∧ quiescent_KernelIdeal (hKernelIdeal := hKernelIdeal)
    ∧ quiescent_ReferenceIdeal (hReferenceIdeal := hReferenceIdeal)
    ∧ quiescent_SortCall (hSortCall := hSortCall)
    ∧ quiescent_SortReference (hSortReference := hSortReference)
    ∧ preserves_Kernel_KernelIdeal
    ∧ algebraic_KernelIdeal_ReferenceIdeal (hKernelIdeal := hKernelIdeal) (hReferenceIdeal := hReferenceIdeal)
    ∧ bitexact_SortCall_SortReference (hSortCall := hSortCall) (hSortReference := hSortReference)
-- ==== Kernel.lean ====
abbrev S16x8192x3 : Shape := ⟨3, ![16, 8192, 3]⟩
abbrev S3x16x8192 : Shape := ⟨3, ![3, 16, 8192]⟩
abbrev S3x16x64x128 : Shape := ⟨4, ![3, 16, 64, 128]⟩
abbrev S16x64x128 : Shape := ⟨3, ![16, 64, 128]⟩
abbrev S3x4x64x128 : Shape := ⟨4, ![3, 4, 64, 128]⟩
abbrev S4x64x128 : Shape := ⟨3, ![4, 64, 128]⟩
abbrev S1x1x64x128 : Shape := ⟨4, ![1, 1, 64, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S4x128 : Shape := ⟨2, ![4, 128]⟩
abbrev S2x128 : Shape := ⟨2, ![2, 128]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x8 : Shape := ⟨2, ![1, 8]⟩
abbrev S1x4 : Shape := ⟨2, ![1, 4]⟩
abbrev S1x2 : Shape := ⟨2, ![1, 2]⟩
abbrev S1x1 : Shape := ⟨2, ![1, 1]⟩
abbrev S1x64x128 : Shape := ⟨3, ![1, 64, 128]⟩
abbrev S16x8192 : Shape := ⟨2, ![16, 8192]⟩
abbrev S8192 : Shape := ⟨1, ![8192]⟩
abbrev S2048 : Shape := ⟨1, ![2048]⟩
abbrev S_ : Shape := ⟨0, ![]⟩
abbrev S1x8192 : Shape := ⟨2, ![1, 8192]⟩
abbrev S16 : Shape := ⟨1, ![16]⟩

abbrev nBuf : Table → Nat
  | .hbm => 9
  | .local .tc .vmem => 6
  | .local .scVector .vmem => 11
  | _ => 0

abbrev bufTy : (tb : Table) → Fin (nBuf tb) → BufTy
  | .hbm, ⟨0, _⟩ => ⟨S16x8192x3, .f32⟩
  | .hbm, ⟨1, _⟩ => ⟨S3x16x8192, .f32⟩
  | .hbm, ⟨2, _⟩ => ⟨S3x16x64x128, .f32⟩
  | .hbm, ⟨3, _⟩ => ⟨S16x64x128, .i32⟩
  | .hbm, ⟨4, _⟩ => ⟨S16x64x128, .i32⟩
  | .hbm, ⟨5, _⟩ => ⟨S16x8192, .i32⟩
  | .hbm, ⟨6, _⟩ => ⟨S16x8192, .i32⟩
  | .hbm, ⟨7, _⟩ => ⟨S16x8192, .i32⟩
  | .hbm, ⟨8, _⟩ => ⟨S16x8192, .i32⟩
  | .local .tc .vmem, ⟨0, _⟩ => ⟨S3x4x64x128, .f32⟩
  | .local .tc .vmem, ⟨1, _⟩ => ⟨S3x4x64x128, .f32⟩
  | .local .tc .vmem, ⟨2, _⟩ => ⟨S4x64x128, .i32⟩
  | .local .tc .vmem, ⟨3, _⟩ => ⟨S4x64x128, .i32⟩
  | .local .tc .vmem, ⟨4, _⟩ => ⟨S4x64x128, .i32⟩
  | .local .tc .vmem, ⟨5, _⟩ => ⟨S4x64x128, .i32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8192, .i32⟩
  | .local .scVector .vmem, ⟨4, _⟩ => ⟨S8192, .i32⟩
  | .local .scVector .vmem, ⟨5, _⟩ => ⟨S8192, .i32⟩
  | .local .scVector .vmem, ⟨6, _⟩ => ⟨S8192, .i32⟩
  | .local .scVector .vmem, ⟨7, _⟩ => ⟨S2048, .i32⟩
  | .local .scVector .vmem, ⟨8, _⟩ => ⟨S2048, .i32⟩
  | .local .scVector .vmem, ⟨9, _⟩ => ⟨S2048, .i32⟩
  | .local .scVector .vmem, ⟨10, _⟩ => ⟨S2048, .i32⟩
  | _, _ => ⟨S16x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v3_scv : Ref sig .scVector := ⟨.hbm, 5, rfl⟩
abbrev main_v4_scv : Ref sig .scVector := ⟨.hbm, 6, rfl⟩
abbrev main_v5_0_scv : Ref sig .scVector := ⟨.hbm, 7, rfl⟩
abbrev main_v5_1_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_119_r0 : BitVec 32 := 0#32
  ![v1.toNat, 0]
@[reducible] def k1_t1_loop : Scf.Loop 32 :=
  let c0_i32_2 : BitVec 32 := 0#32
  let c128_i32 : BitVec 32 := 128#32
  let v7 : BitVec 32 := Scalar.addi c0_i32_2 c128_i32
  let c1_i32 : BitVec 32 := 1#32
  ⟨c0_i32_2, v7, c1_i32⟩
def k1_off2 (k1_t1 : Fin k1_t1_loop.trips) : Fin 1 → Nat :=
  let c0_i32_2 : BitVec 32 := 0#32
  let c1_i32 : BitVec 32 := 1#32
  let arg17 : BitVec 32 := Scf.iv c0_i32_2 c1_i32 k1_t1
  let c16_i32_119 : BitVec 32 := 16#32
  let v55 : BitVec 32 := Scalar.muli arg17 c16_i32_119
  let v56 : Index := Scalar.indexCast v55
  ![v56.toNat]
@[reducible] def k1_t2_loop : Scf.Loop 32 :=
  let c0_i32_5 : BitVec 32 := 0#32
  let c128_i32_6 : BitVec 32 := 128#32
  let v9 : BitVec 32 := Scalar.addi c0_i32_5 c128_i32_6
  let c1_i32_7 : BitVec 32 := 1#32
  ⟨c0_i32_5, v9, c1_i32_7⟩
def k1_off3 (k1_t2 : Fin k1_t2_loop.trips) : Fin 1 → Nat :=
  let c0_i32_5 : BitVec 32 := 0#32
  let c1_i32_7 : BitVec 32 := 1#32
  let arg17 : BitVec 32 := Scf.iv c0_i32_5 c1_i32_7 k1_t2
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk1 (i : grid1.Coords) (v62 : IVec S16 32) : Prop :=
  (∀ (k1_h1 : k1_cond1 i = 1#1), ∀ a x, ((![v62] : Fin 1 → IVec S16 32) a x).toNat < S2048.size a) ∧
  (∀ (k1_h1 : k1_cond1 i = 1#1), ∀ a x, ((![v62] : Fin 1 → IVec S16 32) a x).toNat < S2048.size a)
theorem k1_idx1_inb : ∀ (i : grid1.Coords) (v62 : IVec S16 32) (k1_hw1 : k1_chk1 i v62), ∀ (k1_h1 : k1_cond1 i = 1#1), ∀ a x, ((![v62] : Fin 1 → IVec S16 32) a x).toNat < S2048.size a := fun i v62 k1_hw1 k1_h1 => k1_hw1.1 k1_h1
theorem k1_idx2_inb : ∀ (i : grid1.Coords) (v62 : IVec S16 32) (k1_hw1 : k1_chk1 i v62), ∀ (k1_h1 : k1_cond1 i = 1#1), ∀ a x, ((![v62] : Fin 1 → IVec S16 32) a x).toNat < S2048.size a := fun i v62 k1_hw1 k1_h1 => k1_hw1.2 k1_h1
def k1_off4 (k1_t2 : Fin k1_t2_loop.trips) (c0_i32_120 : BitVec 32) : Fin 1 → Nat :=
  let c0_i32_5 : BitVec 32 := 0#32
  let c1_i32_7 : BitVec 32 := 1#32
  let arg17 : BitVec 32 := Scf.iv c0_i32_5 c1_i32_7 k1_t2
  let c16_i32_119 : BitVec 32 := 16#32
  let v55 : BitVec 32 := Scalar.muli arg17 c16_i32_119
  let v56 : BitVec 32 := Scalar.addi v55 c0_i32_120
  let v69 : Index := Scalar.indexCast v56
  ![v69.toNat]

def k1_chk2 (i : grid1.Coords) (v78 : IVec S16 32) : Prop :=
  (∀ (k1_h1 : k1_cond1 i = 1#1), ∀ a x, ((![v78] : Fin 1 → IVec S16 32) a x).toNat < S2048.size a) ∧
  (∀ (k1_h1 : k1_cond1 i = 1#1), ∀ a x, ((![v78] : Fin 1 → IVec S16 32) a x).toNat < S2048.size a)
theorem k1_idx3_inb : ∀ (i : grid1.Coords) (v78 : IVec S16 32) (k1_hw2 : k1_chk2 i v78), ∀ (k1_h1 : k1_cond1 i = 1#1), ∀ a x, ((![v78] : Fin 1 → IVec S16 32) a x).toNat < S2048.size a := fun i v78 k1_hw2 k1_h1 => k1_hw2.1 k1_h1
theorem k1_idx4_inb : ∀ (i : grid1.Coords) (v78 : IVec S16 32) (k1_hw2 : k1_chk2 i v78), ∀ (k1_h1 : k1_cond1 i = 1#1), ∀ a x, ((![v78] : Fin 1 → IVec S16 32) a x).toNat < S2048.size a := fun i v78 k1_hw2 k1_h1 => k1_hw2.2 k1_h1
def k1_off5 (k1_t2 : Fin k1_t2_loop.trips) (c2048_i32 : BitVec 32) : Fin 1 → Nat :=
  let c0_i32_5 : BitVec 32 := 0#32
  let c1_i32_7 : BitVec 32 := 1#32
  let arg17 : BitVec 32 := Scf.iv c0_i32_5 c1_i32_7 k1_t2
  let c16_i32_123 : BitVec 32 := 16#32
  let v71 : BitVec 32 := Scalar.muli arg17 c16_i32_123
  let v72 : BitVec 32 := Scalar.addi v71 c2048_i32
  let v85 : Index := Scalar.indexCast v72
  ![v85.toNat]

def k1_chk3 (i : grid1.Coords) (v94 : IVec S16 32) : Prop :=
  (∀ (k1_h1 : k1_cond1 i = 1#1), ∀ a x, ((![v94] : Fin 1 → IVec S16 32) a x).toNat < S2048.size a) ∧
  (∀ (k1_h1 : k1_cond1 i = 1#1), ∀ a x, ((![v94] : Fin 1 → IVec S16 32) a x).toNat < S2048.size a)
theorem k1_idx5_inb : ∀ (i : grid1.Coords) (v94 : IVec S16 32) (k1_hw3 : k1_chk3 i v94), ∀ (k1_h1 : k1_cond1 i = 1#1), ∀ a x, ((![v94] : Fin 1 → IVec S16 32) a x).toNat < S2048.size a := fun i v94 k1_hw3 k1_h1 => k1_hw3.1 k1_h1
theorem k1_idx6_inb : ∀ (i : grid1.Coords) (v94 : IVec S16 32) (k1_hw3 : k1_chk3 i v94), ∀ (k1_h1 : k1_cond1 i = 1#1), ∀ a x, ((![v94] : Fin 1 → IVec S16 32) a x).toNat < S2048.size a := fun i v94 k1_hw3 k1_h1 => k1_hw3.2 k1_h1
def k1_off6 (k1_t2 : Fin k1_t2_loop.trips) (c4096_i32 : BitVec 32) : Fin 1 → Nat :=
  let c0_i32_5 : BitVec 32 := 0#32
  let c1_i32_7 : BitVec 32 := 1#32
  let arg17 : BitVec 32 := Scf.iv c0_i32_5 c1_i32_7 k1_t2
  let c16_i32_130 : BitVec 32 := 16#32
  let v87 : BitVec 32 := Scalar.muli arg17 c16_i32_130
  let v88 : BitVec 32 := Scalar.addi v87 c4096_i32
  let v101 : Index := Scalar.indexCast v88
  ![v101.toNat]

def k1_chk4 (i : grid1.Coords) (v110 : IVec S16 32) : Prop :=
  (∀ (k1_h1 : k1_cond1 i = 1#1), ∀ a x, ((![v110] : Fin 1 → IVec S16 32) a x).toNat < S2048.size a) ∧
  (∀ (k1_h1 : k1_cond1 i = 1#1), ∀ a x, ((![v110] : Fin 1 → IVec S16 32) a x).toNat < S2048.size a)
theorem k1_idx7_inb : ∀ (i : grid1.Coords) (v110 : IVec S16 32) (k1_hw4 : k1_chk4 i v110), ∀ (k1_h1 : k1_cond1 i = 1#1), ∀ a x, ((![v110] : Fin 1 → IVec S16 32) a x).toNat < S2048.size a := fun i v110 k1_hw4 k1_h1 => k1_hw4.1 k1_h1
theorem k1_idx8_inb : ∀ (i : grid1.Coords) (v110 : IVec S16 32) (k1_hw4 : k1_chk4 i v110), ∀ (k1_h1 : k1_cond1 i = 1#1), ∀ a x, ((![v110] : Fin 1 → IVec S16 32) a x).toNat < S2048.size a := fun i v110 k1_hw4 k1_h1 => k1_hw4.2 k1_h1
def k1_off7 (k1_t2 : Fin k1_t2_loop.trips) : Fin 1 → Nat :=
  let c0_i32_5 : BitVec 32 := 0#32
  let c1_i32_7 : BitVec 32 := 1#32
  let arg17 : BitVec 32 := Scf.iv c0_i32_5 c1_i32_7 k1_t2
  let c16_i32_137 : BitVec 32 := 16#32
  let v103 : BitVec 32 := Scalar.muli arg17 c16_i32_137
  let c6144_i32 : BitVec 32 := 6144#32
  let v104 : BitVec 32 := Scalar.addi v103 c6144_i32
  let v117 : Index := Scalar.indexCast v104
  ![v117.toNat]
@[reducible] def k1_t3_loop : Scf.Loop 32 :=
  let c0_i32_10 : BitVec 32 := 0#32
  let c128_i32_11 : BitVec 32 := 128#32
  let v11 : BitVec 32 := Scalar.addi c0_i32_10 c128_i32_11
  let c1_i32_12 : BitVec 32 := 1#32
  ⟨c0_i32_10, v11, c1_i32_12⟩
def k1_off8 (k1_t3 : Fin k1_t3_loop.trips) : Fin 1 → Nat :=
  let c0_i32_10 : BitVec 32 := 0#32
  let c1_i32_12 : BitVec 32 := 1#32
  let arg17 : BitVec 32 := Scf.iv c0_i32_10 c1_i32_12 k1_t3
  let c16_i32_119 : BitVec 32 := 16#32
  let v55 : BitVec 32 := Scalar.muli arg17 c16_i32_119
  let v56 : Index := Scalar.indexCast v55
  ![v56.toNat]
@[reducible] def k1_t4_loop : Scf.Loop 32 :=
  let c0_i32_15 : BitVec 32 := 0#32
  let c128_i32_16 : BitVec 32 := 128#32
  let v13 : BitVec 32 := Scalar.addi c0_i32_15 c128_i32_16
  let c1_i32_17 : BitVec 32 := 1#32
  ⟨c0_i32_15, v13, c1_i32_17⟩
def k1_off9 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk5 (i : grid1.Coords) (v62 : IVec S16 32) : Prop :=
  (∀ (k1_h1 : k1_cond1 i = 1#1), ∀ a x, ((![v62] : Fin 1 → IVec S16 32) a x).toNat < S2048.size a)
theorem k1_idx9_inb : ∀ (i : grid1.Coords) (v62 : IVec S16 32) (k1_hw5 : k1_chk5 i v62), ∀ (k1_h1 : k1_cond1 i = 1#1), ∀ a x, ((![v62] : Fin 1 → IVec S16 32) a x).toNat < S2048.size a := fun i v62 k1_hw5 k1_h1 => k1_hw5 k1_h1
def k1_off10 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k1_chk6 (i : grid1.Coords) (v66 : IVec S16 32) : Prop :=
  (∀ (k1_h1 : k1_cond1 i = 1#1), ∀ a x, ((![v66] : Fin 1 → IVec S16 32) a x).toNat < S8192.size a) ∧
  (∀ (k1_h1 : k1_cond1 i = 1#1), ∀ a x, ((![v66] : Fin 1 → IVec S16 32) a x).toNat < S8192.size a) ∧
  (∀ (k1_h1 : k1_cond1 i = 1#1), ∀ a x, ((![v66] : Fin 1 → IVec S16 32) a x).toNat < S8192.size a)
theorem k1_idx10_inb : ∀ (i : grid1.Coords) (v66 : IVec S16 32) (k1_hw6 : k1_chk6 i v66), ∀ (k1_h1 : k1_cond1 i = 1#1), ∀ a x, ((![v66] : Fin 1 → IVec S16 32) a x).toNat < S8192.size a := fun i v66 k1_hw6 k1_h1 => k1_hw6.1 k1_h1
theorem k1_idx11_inb : ∀ (i : grid1.Coords) (v66 : IVec S16 32) (k1_hw6 : k1_chk6 i v66), ∀ (k1_h1 : k1_cond1 i = 1#1), ∀ a x, ((![v66] : Fin 1 → IVec S16 32) a x).toNat < S8192.size a := fun i v66 k1_hw6 k1_h1 => k1_hw6.2.1 k1_h1
theorem k1_idx12_inb : ∀ (i : grid1.Coords) (v66 : IVec S16 32) (k1_hw6 : k1_chk6 i v66), ∀ (k1_h1 : k1_cond1 i = 1#1), ∀ a x, ((![v66] : Fin 1 → IVec S16 32) a x).toNat < S8192.size a := fun i v66 k1_hw6 k1_h1 => k1_hw6.2.2 k1_h1
def k1_off11 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_122 : BitVec 32 := 16#32
  let v71 : BitVec 32 := Scalar.muli arg17 c16_i32_122
  let c2048_i32 : BitVec 32 := 2048#32
  let v72 : BitVec 32 := Scalar.addi v71 c2048_i32
  let v73 : Index := Scalar.indexCast v72
  ![v73.toNat]

def k1_chk7 (i : grid1.Coords) (v78 : IVec S16 32) : Prop :=
  (∀ (k1_h1 : k1_cond1 i = 1#1), ∀ a x, ((![v78] : Fin 1 → IVec S16 32) a x).toNat < S2048.size a)
theorem k1_idx13_inb : ∀ (i : grid1.Coords) (v78 : IVec S16 32) (k1_hw7 : k1_chk7 i v78), ∀ (k1_h1 : k1_cond1 i = 1#1), ∀ a x, ((![v78] : Fin 1 → IVec S16 32) a x).toNat < S2048.size a := fun i v78 k1_hw7 k1_h1 => k1_hw7 k1_h1
def k1_off12 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_122 : BitVec 32 := 16#32
  let v71 : BitVec 32 := Scalar.muli arg17 c16_i32_122
  let c2048_i32 : BitVec 32 := 2048#32
  let v72 : BitVec 32 := Scalar.addi v71 c2048_i32
  let v80 : Index := Scalar.indexCast v72
  ![v80.toNat]

def k1_chk8 (i : grid1.Coords) (v82 : IVec S16 32) : Prop :=
  (∀ (k1_h1 : k1_cond1 i = 1#1), ∀ a x, ((![v82] : Fin 1 → IVec S16 32) a x).toNat < S8192.size a) ∧
  (∀ (k1_h1 : k1_cond1 i = 1#1), ∀ a x, ((![v82] : Fin 1 → IVec S16 32) a x).toNat < S8192.size a) ∧
  (∀ (k1_h1 : k1_cond1 i = 1#1), ∀ a x, ((![v82] : Fin 1 → IVec S16 32) a x).toNat < S8192.size a)
theorem k1_idx14_inb : ∀ (i : grid1.Coords) (v82 : IVec S16 32) (k1_hw8 : k1_chk8 i v82), ∀ (k1_h1 : k1_cond1 i = 1#1), ∀ a x, ((![v82] : Fin 1 → IVec S16 32) a x).toNat < S8192.size a := fun i v82 k1_hw8 k1_h1 => k1_hw8.1 k1_h1
theorem k1_idx15_inb : ∀ (i : grid1.Coords) (v82 : IVec S16 32) (k1_hw8 : k1_chk8 i v82), ∀ (k1_h1 : k1_cond1 i = 1#1), ∀ a x, ((![v82] : Fin 1 → IVec S16 32) a x).toNat < S8192.size a := fun i v82 k1_hw8 k1_h1 => k1_hw8.2.1 k1_h1
theorem k1_idx16_inb : ∀ (i : grid1.Coords) (v82 : IVec S16 32) (k1_hw8 : k1_chk8 i v82), ∀ (k1_h1 : k1_cond1 i = 1#1), ∀ a x, ((![v82] : Fin 1 → IVec S16 32) a x).toNat < S8192.size a := fun i v82 k1_hw8 k1_h1 => k1_hw8.2.2 k1_h1
def k1_off13 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_125 : BitVec 32 := 16#32
  let v87 : BitVec 32 := Scalar.muli arg17 c16_i32_125
  let c4096_i32 : BitVec 32 := 4096#32
  let v88 : BitVec 32 := Scalar.addi v87 c4096_i32
  let v89 : Index := Scalar.indexCast v88
  ![v89.toNat]

def k1_chk9 (i : grid1.Coords) (v94 : IVec S16 32) : Prop :=
  (∀ (k1_h1 : k1_cond1 i = 1#1), ∀ a x, ((![v94] : Fin 1 → IVec S16 32) a x).toNat < S2048.size a)
theorem k1_idx17_inb : ∀ (i : grid1.Coords) (v94 : IVec S16 32) (k1_hw9 : k1_chk9 i v94), ∀ (k1_h1 : k1_cond1 i = 1#1), ∀ a x, ((![v94] : Fin 1 → IVec S16 32) a x).toNat < S2048.size a := fun i v94 k1_hw9 k1_h1 => k1_hw9 k1_h1
def k1_off14 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_125 : BitVec 32 := 16#32
  let v87 : BitVec 32 := Scalar.muli arg17 c16_i32_125
  let c4096_i32 : BitVec 32 := 4096#32
  let v88 : BitVec 32 := Scalar.addi v87 c4096_i32
  let v96 : Index := Scalar.indexCast v88
  ![v96.toNat]

def k1_chk10 (i : grid1.Coords) (v98 : IVec S16 32) : Prop :=
  (∀ (k1_h1 : k1_cond1 i = 1#1), ∀ a x, ((![v98] : Fin 1 → IVec S16 32) a x).toNat < S8192.size a) ∧
  (∀ (k1_h1 : k1_cond1 i = 1#1), ∀ a x, ((![v98] : Fin 1 → IVec S16 32) a x).toNat < S8192.size a) ∧
  (∀ (k1_h1 : k1_cond1 i = 1#1), ∀ a x, ((![v98] : Fin 1 → IVec S16 32) a x).toNat < S8192.size a)
theorem k1_idx18_inb : ∀ (i : grid1.Coords) (v98 : IVec S16 32) (k1_hw10 : k1_chk10 i v98), ∀ (k1_h1 : k1_cond1 i = 1#1), ∀ a x, ((![v98] : Fin 1 → IVec S16 32) a x).toNat < S8192.size a := fun i v98 k1_hw10 k1_h1 => k1_hw10.1 k1_h1
theorem k1_idx19_inb : ∀ (i : grid1.Coords) (v98 : IVec S16 32) (k1_hw10 : k1_chk10 i v98), ∀ (k1_h1 : k1_cond1 i = 1#1), ∀ a x, ((![v98] : Fin 1 → IVec S16 32) a x).toNat < S8192.size a := fun i v98 k1_hw10 k1_h1 => k1_hw10.2.1 k1_h1
theorem k1_idx20_inb : ∀ (i : grid1.Coords) (v98 : IVec S16 32) (k1_hw10 : k1_chk10 i v98), ∀ (k1_h1 : k1_cond1 i = 1#1), ∀ a x, ((![v98] : Fin 1 → IVec S16 32) a x).toNat < S8192.size a := fun i v98 k1_hw10 k1_h1 => k1_hw10.2.2 k1_h1
def k1_off15 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_128 : BitVec 32 := 16#32
  let v103 : BitVec 32 := Scalar.muli arg17 c16_i32_128
  let c6144_i32 : BitVec 32 := 6144#32
  let v104 : BitVec 32 := Scalar.addi v103 c6144_i32
  let v105 : Index := Scalar.indexCast v104
  ![v105.toNat]

def k1_chk11 (i : grid1.Coords) (v110 : IVec S16 32) : Prop :=
  (∀ (k1_h1 : k1_cond1 i = 1#1), ∀ a x, ((![v110] : Fin 1 → IVec S16 32) a x).toNat < S2048.size a)
theorem k1_idx21_inb : ∀ (i : grid1.Coords) (v110 : IVec S16 32) (k1_hw11 : k1_chk11 i v110), ∀ (k1_h1 : k1_cond1 i = 1#1), ∀ a x, ((![v110] : Fin 1 → IVec S16 32) a x).toNat < S2048.size a := fun i v110 k1_hw11 k1_h1 => k1_hw11 k1_h1
def k1_off16 (k1_t4 : Fin k1_t4_loop.trips) : Fin 1 → Nat :=
  let c0_i32_15 : BitVec 32 := 0#32
  let c1_i32_17 : BitVec 32 := 1#32
  let arg17 : BitVec 32 := Scf.iv c0_i32_15 c1_i32_17 k1_t4
  let c16_i32_128 : BitVec 32 := 16#32
  let v103 : BitVec 32 := Scalar.muli arg17 c16_i32_128
  let c6144_i32 : BitVec 32 := 6144#32
  let v104 : BitVec 32 := Scalar.addi v103 c6144_i32
  let v112 : Index := Scalar.indexCast v104
  ![v112.toNat]

def k1_chk12 (i : grid1.Coords) (v114 : IVec S16 32) : Prop :=
  (∀ (k1_h1 : k1_cond1 i = 1#1), ∀ a x, ((![v114] : Fin 1 → IVec S16 32) a x).toNat < S8192.size a) ∧
  (∀ (k1_h1 : k1_cond1 i = 1#1), ∀ a x, ((![v114] : Fin 1 → IVec S16 32) a x).toNat < S8192.size a) ∧
  (∀ (k1_h1 : k1_cond1 i = 1#1), ∀ a x, ((![v114] : Fin 1 → IVec S16 32) a x).toNat < S8192.size a)
theorem k1_idx22_inb : ∀ (i : grid1.Coords) (v114 : IVec S16 32) (k1_hw12 : k1_chk12 i v114), ∀ (k1_h1 : k1_cond1 i = 1#1), ∀ a x, ((![v114] : Fin 1 → IVec S16 32) a x).toNat < S8192.size a := fun i v114 k1_hw12 k1_h1 => k1_hw12.1 k1_h1
theorem k1_idx23_inb : ∀ (i : grid1.Coords) (v114 : IVec S16 32) (k1_hw12 : k1_chk12 i v114), ∀ (k1_h1 : k1_cond1 i = 1#1), ∀ a x, ((![v114] : Fin 1 → IVec S16 32) a x).toNat < S8192.size a := fun i v114 k1_hw12 k1_h1 => k1_hw12.2.1 k1_h1
theorem k1_idx24_inb : ∀ (i : grid1.Coords) (v114 : IVec S16 32) (k1_hw12 : k1_chk12 i v114), ∀ (k1_h1 : k1_cond1 i = 1#1), ∀ a x, ((![v114] : Fin 1 → IVec S16 32) a x).toNat < S8192.size a := fun i v114 k1_hw12 k1_h1 => k1_hw12.2.2 k1_h1
@[reducible] def k1_t5_loop : Scf.Loop 32 :=
  let c0_i32_20 : BitVec 32 := 0#32
  let c128_i32_21 : BitVec 32 := 128#32
  let v15 : BitVec 32 := Scalar.addi c0_i32_20 c128_i32_21
  let c1_i32_22 : BitVec 32 := 1#32
  ⟨c0_i32_20, v15, c1_i32_22⟩
def k1_off17 (k1_t5 : Fin k1_t5_loop.trips) : Fin 1 → Nat :=
  let c0_i32_20 : BitVec 32 := 0#32
  let c1_i32_22 : BitVec 32 := 1#32
  let arg17 : BitVec 32 := Scf.iv c0_i32_20 c1_i32_22 k1_t5
  let c16_i32_119 : BitVec 32 := 16#32
  let v55 : BitVec 32 := Scalar.muli arg17 c16_i32_119
  let v56 : Index := Scalar.indexCast v55
  ![v56.toNat]
@[reducible] def k1_t6_loop : Scf.Loop 32 :=
  let c0_i32_25 : BitVec 32 := 0#32
  let c128_i32_26 : BitVec 32 := 128#32
  let v17 : BitVec 32 := Scalar.addi c0_i32_25 c128_i32_26
  let c1_i32_27 : BitVec 32 := 1#32
  ⟨c0_i32_25, v17, c1_i32_27⟩
def k1_off18 (k1_t6 : Fin k1_t6_loop.trips) : Fin 1 → Nat :=
  let c0_i32_25 : BitVec 32 := 0#32
  let c1_i32_27 : BitVec 32 := 1#32
  let arg17 : BitVec 32 := Scf.iv c0_i32_25 c1_i32_27 k1_t6
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk13 (i : grid1.Coords) (v62 : IVec S16 32) : Prop :=
  (∀ (k1_h1 : k1_cond1 i = 1#1), ∀ a x, ((![v62] : Fin 1 → IVec S16 32) a x).toNat < S2048.size a) ∧
  (∀ (k1_h1 : k1_cond1 i = 1#1), ∀ a x, ((![v62] : Fin 1 → IVec S16 32) a x).toNat < S2048.size a)
theorem k1_idx25_inb : ∀ (i : grid1.Coords) (v62 : IVec S16 32) (k1_hw13 : k1_chk13 i v62), ∀ (k1_h1 : k1_cond1 i = 1#1), ∀ a x, ((![v62] : Fin 1 → IVec S16 32) a x).toNat < S2048.size a := fun i v62 k1_hw13 k1_h1 => k1_hw13.1 k1_h1
theorem k1_idx26_inb : ∀ (i : grid1.Coords) (v62 : IVec S16 32) (k1_hw13 : k1_chk13 i v62), ∀ (k1_h1 : k1_cond1 i = 1#1), ∀ a x, ((![v62] : Fin 1 → IVec S16 32) a x).toNat < S2048.size a := fun i v62 k1_hw13 k1_h1 => k1_hw13.2 k1_h1
def k1_off19 (k1_t6 : Fin k1_t6_loop.trips) (c0_i32_120 : BitVec 32) : Fin 1 → Nat :=
  let c0_i32_25 : BitVec 32 := 0#32
  let c1_i32_27 : BitVec 32 := 1#32
  let arg17 : BitVec 32 := Scf.iv c0_i32_25 c1_i32_27 k1_t6
  let c16_i32_119 : BitVec 32 := 16#32
  let v55 : BitVec 32 := Scalar.muli arg17 c16_i32_119
  let v56 : BitVec 32 := Scalar.addi v55 c0_i32_120
  let v69 : Index := Scalar.indexCast v56
  ![v69.toNat]

def k1_chk14 (i : grid1.Coords) (v78 : IVec S16 32) : Prop :=
  (∀ (k1_h1 : k1_cond1 i = 1#1), ∀ a x, ((![v78] : Fin 1 → IVec S16 32) a x).toNat < S2048.size a) ∧
  (∀ (k1_h1 : k1_cond1 i = 1#1), ∀ a x, ((![v78] : Fin 1 → IVec S16 32) a x).toNat < S2048.size a)
theorem k1_idx27_inb : ∀ (i : grid1.Coords) (v78 : IVec S16 32) (k1_hw14 : k1_chk14 i v78), ∀ (k1_h1 : k1_cond1 i = 1#1), ∀ a x, ((![v78] : Fin 1 → IVec S16 32) a x).toNat < S2048.size a := fun i v78 k1_hw14 k1_h1 => k1_hw14.1 k1_h1
theorem k1_idx28_inb : ∀ (i : grid1.Coords) (v78 : IVec S16 32) (k1_hw14 : k1_chk14 i v78), ∀ (k1_h1 : k1_cond1 i = 1#1), ∀ a x, ((![v78] : Fin 1 → IVec S16 32) a x).toNat < S2048.size a := fun i v78 k1_hw14 k1_h1 => k1_hw14.2 k1_h1
def k1_off20 (k1_t6 : Fin k1_t6_loop.trips) (c2048_i32 : BitVec 32) : Fin 1 → Nat :=
  let c0_i32_25 : BitVec 32 := 0#32
  let c1_i32_27 : BitVec 32 := 1#32
  let arg17 : BitVec 32 := Scf.iv c0_i32_25 c1_i32_27 k1_t6
  let c16_i32_122 : BitVec 32 := 16#32
  let v71 : BitVec 32 := Scalar.muli arg17 c16_i32_122
  let v72 : BitVec 32 := Scalar.addi v71 c2048_i32
  let v85 : Index := Scalar.indexCast v72
  ![v85.toNat]

def k1_chk15 (i : grid1.Coords) (v94 : IVec S16 32) : Prop :=
  (∀ (k1_h1 : k1_cond1 i = 1#1), ∀ a x, ((![v94] : Fin 1 → IVec S16 32) a x).toNat < S2048.size a) ∧
  (∀ (k1_h1 : k1_cond1 i = 1#1), ∀ a x, ((![v94] : Fin 1 → IVec S16 32) a x).toNat < S2048.size a)
theorem k1_idx29_inb : ∀ (i : grid1.Coords) (v94 : IVec S16 32) (k1_hw15 : k1_chk15 i v94), ∀ (k1_h1 : k1_cond1 i = 1#1), ∀ a x, ((![v94] : Fin 1 → IVec S16 32) a x).toNat < S2048.size a := fun i v94 k1_hw15 k1_h1 => k1_hw15.1 k1_h1
theorem k1_idx30_inb : ∀ (i : grid1.Coords) (v94 : IVec S16 32) (k1_hw15 : k1_chk15 i v94), ∀ (k1_h1 : k1_cond1 i = 1#1), ∀ a x, ((![v94] : Fin 1 → IVec S16 32) a x).toNat < S2048.size a := fun i v94 k1_hw15 k1_h1 => k1_hw15.2 k1_h1
def k1_off21 (k1_t6 : Fin k1_t6_loop.trips) (c4096_i32 : BitVec 32) : Fin 1 → Nat :=
  let c0_i32_25 : BitVec 32 := 0#32
  let c1_i32_27 : BitVec 32 := 1#32
  let arg17 : BitVec 32 := Scf.iv c0_i32_25 c1_i32_27 k1_t6
  let c16_i32_129 : BitVec 32 := 16#32
  let v87 : BitVec 32 := Scalar.muli arg17 c16_i32_129
  let v88 : BitVec 32 := Scalar.addi v87 c4096_i32
  let v101 : Index := Scalar.indexCast v88
  ![v101.toNat]

def k1_chk16 (i : grid1.Coords) (v110 : IVec S16 32) : Prop :=
  (∀ (k1_h1 : k1_cond1 i = 1#1), ∀ a x, ((![v110] : Fin 1 → IVec S16 32) a x).toNat < S2048.size a) ∧
  (∀ (k1_h1 : k1_cond1 i = 1#1), ∀ a x, ((![v110] : Fin 1 → IVec S16 32) a x).toNat < S2048.size a)
theorem k1_idx31_inb : ∀ (i : grid1.Coords) (v110 : IVec S16 32) (k1_hw16 : k1_chk16 i v110), ∀ (k1_h1 : k1_cond1 i = 1#1), ∀ a x, ((![v110] : Fin 1 → IVec S16 32) a x).toNat < S2048.size a := fun i v110 k1_hw16 k1_h1 => k1_hw16.1 k1_h1
theorem k1_idx32_inb : ∀ (i : grid1.Coords) (v110 : IVec S16 32) (k1_hw16 : k1_chk16 i v110), ∀ (k1_h1 : k1_cond1 i = 1#1), ∀ a x, ((![v110] : Fin 1 → IVec S16 32) a x).toNat < S2048.size a := fun i v110 k1_hw16 k1_h1 => k1_hw16.2 k1_h1
def k1_off22 (k1_t6 : Fin k1_t6_loop.trips) : Fin 1 → Nat :=
  let c0_i32_25 : BitVec 32 := 0#32
  let c1_i32_27 : BitVec 32 := 1#32
  let arg17 : BitVec 32 := Scf.iv c0_i32_25 c1_i32_27 k1_t6
  let c16_i32_136 : BitVec 32 := 16#32
  let v103 : BitVec 32 := Scalar.muli arg17 c16_i32_136
  let c6144_i32 : BitVec 32 := 6144#32
  let v104 : BitVec 32 := Scalar.addi v103 c6144_i32
  let v117 : Index := Scalar.indexCast v104
  ![v117.toNat]
@[reducible] def k1_t7_loop : Scf.Loop 32 :=
  let c0_i32_30 : BitVec 32 := 0#32
  let c128_i32_31 : BitVec 32 := 128#32
  let v19 : BitVec 32 := Scalar.addi c0_i32_30 c128_i32_31
  let c1_i32_32 : BitVec 32 := 1#32
  ⟨c0_i32_30, v19, c1_i32_32⟩
def k1_off23 (k1_t7 : Fin k1_t7_loop.trips) : Fin 1 → Nat :=
  let c0_i32_30 : BitVec 32 := 0#32
  let c1_i32_32 : BitVec 32 := 1#32
  let arg17 : BitVec 32 := Scf.iv c0_i32_30 c1_i32_32 k1_t7
  let c16_i32_119 : BitVec 32 := 16#32
  let v55 : BitVec 32 := Scalar.muli arg17 c16_i32_119
  let v56 : Index := Scalar.indexCast v55
  ![v56.toNat]
@[reducible] def k1_t8_loop : Scf.Loop 32 :=
  let c0_i32_35 : BitVec 32 := 0#32
  let c128_i32_36 : BitVec 32 := 128#32
  let v21 : BitVec 32 := Scalar.addi c0_i32_35 c128_i32_36
  let c1_i32_37 : BitVec 32 := 1#32
  ⟨c0_i32_35, v21, c1_i32_37⟩
def k1_off24 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk17 (i : grid1.Coords) (v62 : IVec S16 32) : Prop :=
  (∀ (k1_h1 : k1_cond1 i = 1#1), ∀ a x, ((![v62] : Fin 1 → IVec S16 32) a x).toNat < S2048.size a)
theorem k1_idx33_inb : ∀ (i : grid1.Coords) (v62 : IVec S16 32) (k1_hw17 : k1_chk17 i v62), ∀ (k1_h1 : k1_cond1 i = 1#1), ∀ a x, ((![v62] : Fin 1 → IVec S16 32) a x).toNat < S2048.size a := fun i v62 k1_hw17 k1_h1 => k1_hw17 k1_h1
def k1_off25 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k1_chk18 (i : grid1.Coords) (v66 : IVec S16 32) : Prop :=
  (∀ (k1_h1 : k1_cond1 i = 1#1), ∀ a x, ((![v66] : Fin 1 → IVec S16 32) a x).toNat < S8192.size a) ∧
  (∀ (k1_h1 : k1_cond1 i = 1#1), ∀ a x, ((![v66] : Fin 1 → IVec S16 32) a x).toNat < S8192.size a) ∧
  (∀ (k1_h1 : k1_cond1 i = 1#1), ∀ a x, ((![v66] : Fin 1 → IVec S16 32) a x).toNat < S8192.size a)
theorem k1_idx34_inb : ∀ (i : grid1.Coords) (v66 : IVec S16 32) (k1_hw18 : k1_chk18 i v66), ∀ (k1_h1 : k1_cond1 i = 1#1), ∀ a x, ((![v66] : Fin 1 → IVec S16 32) a x).toNat < S8192.size a := fun i v66 k1_hw18 k1_h1 => k1_hw18.1 k1_h1
theorem k1_idx35_inb : ∀ (i : grid1.Coords) (v66 : IVec S16 32) (k1_hw18 : k1_chk18 i v66), ∀ (k1_h1 : k1_cond1 i = 1#1), ∀ a x, ((![v66] : Fin 1 → IVec S16 32) a x).toNat < S8192.size a := fun i v66 k1_hw18 k1_h1 => k1_hw18.2.1 k1_h1
theorem k1_idx36_inb : ∀ (i : grid1.Coords) (v66 : IVec S16 32) (k1_hw18 : k1_chk18 i v66), ∀ (k1_h1 : k1_cond1 i = 1#1), ∀ a x, ((![v66] : Fin 1 → IVec S16 32) a x).toNat < S8192.size a := fun i v66 k1_hw18 k1_h1 => k1_hw18.2.2 k1_h1
def k1_off26 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_121 : BitVec 32 := 16#32
  let v71 : BitVec 32 := Scalar.muli arg17 c16_i32_121
  let c2048_i32 : BitVec 32 := 2048#32
  let v72 : BitVec 32 := Scalar.addi v71 c2048_i32
  let v73 : Index := Scalar.indexCast v72
  ![v73.toNat]

def k1_chk19 (i : grid1.Coords) (v78 : IVec S16 32) : Prop :=
  (∀ (k1_h1 : k1_cond1 i = 1#1), ∀ a x, ((![v78] : Fin 1 → IVec S16 32) a x).toNat < S2048.size a)
theorem k1_idx37_inb : ∀ (i : grid1.Coords) (v78 : IVec S16 32) (k1_hw19 : k1_chk19 i v78), ∀ (k1_h1 : k1_cond1 i = 1#1), ∀ a x, ((![v78] : Fin 1 → IVec S16 32) a x).toNat < S2048.size a := fun i v78 k1_hw19 k1_h1 => k1_hw19 k1_h1
def k1_off27 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_121 : BitVec 32 := 16#32
  let v71 : BitVec 32 := Scalar.muli arg17 c16_i32_121
  let c2048_i32 : BitVec 32 := 2048#32
  let v72 : BitVec 32 := Scalar.addi v71 c2048_i32
  let v80 : Index := Scalar.indexCast v72
  ![v80.toNat]

def k1_chk20 (i : grid1.Coords) (v82 : IVec S16 32) : Prop :=
  (∀ (k1_h1 : k1_cond1 i = 1#1), ∀ a x, ((![v82] : Fin 1 → IVec S16 32) a x).toNat < S8192.size a) ∧
  (∀ (k1_h1 : k1_cond1 i = 1#1), ∀ a x, ((![v82] : Fin 1 → IVec S16 32) a x).toNat < S8192.size a) ∧
  (∀ (k1_h1 : k1_cond1 i = 1#1), ∀ a x, ((![v82] : Fin 1 → IVec S16 32) a x).toNat < S8192.size a)
theorem k1_idx38_inb : ∀ (i : grid1.Coords) (v82 : IVec S16 32) (k1_hw20 : k1_chk20 i v82), ∀ (k1_h1 : k1_cond1 i = 1#1), ∀ a x, ((![v82] : Fin 1 → IVec S16 32) a x).toNat < S8192.size a := fun i v82 k1_hw20 k1_h1 => k1_hw20.1 k1_h1
theorem k1_idx39_inb : ∀ (i : grid1.Coords) (v82 : IVec S16 32) (k1_hw20 : k1_chk20 i v82), ∀ (k1_h1 : k1_cond1 i = 1#1), ∀ a x, ((![v82] : Fin 1 → IVec S16 32) a x).toNat < S8192.size a := fun i v82 k1_hw20 k1_h1 => k1_hw20.2.1 k1_h1
theorem k1_idx40_inb : ∀ (i : grid1.Coords) (v82 : IVec S16 32) (k1_hw20 : k1_chk20 i v82), ∀ (k1_h1 : k1_cond1 i = 1#1), ∀ a x, ((![v82] : Fin 1 → IVec S16 32) a x).toNat < S8192.size a := fun i v82 k1_hw20 k1_h1 => k1_hw20.2.2 k1_h1
def k1_off28 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_124 : BitVec 32 := 16#32
  let v87 : BitVec 32 := Scalar.muli arg17 c16_i32_124
  let c4096_i32 : BitVec 32 := 4096#32
  let v88 : BitVec 32 := Scalar.addi v87 c4096_i32
  let v89 : Index := Scalar.indexCast v88
  ![v89.toNat]

def k1_chk21 (i : grid1.Coords) (v94 : IVec S16 32) : Prop :=
  (∀ (k1_h1 : k1_cond1 i = 1#1), ∀ a x, ((![v94] : Fin 1 → IVec S16 32) a x).toNat < S2048.size a)
theorem k1_idx41_inb : ∀ (i : grid1.Coords) (v94 : IVec S16 32) (k1_hw21 : k1_chk21 i v94), ∀ (k1_h1 : k1_cond1 i = 1#1), ∀ a x, ((![v94] : Fin 1 → IVec S16 32) a x).toNat < S2048.size a := fun i v94 k1_hw21 k1_h1 => k1_hw21 k1_h1
def k1_off29 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_124 : BitVec 32 := 16#32
  let v87 : BitVec 32 := Scalar.muli arg17 c16_i32_124
  let c4096_i32 : BitVec 32 := 4096#32
  let v88 : BitVec 32 := Scalar.addi v87 c4096_i32
  let v96 : Index := Scalar.indexCast v88
  ![v96.toNat]

def k1_chk22 (i : grid1.Coords) (v98 : IVec S16 32) : Prop :=
  (∀ (k1_h1 : k1_cond1 i = 1#1), ∀ a x, ((![v98] : Fin 1 → IVec S16 32) a x).toNat < S8192.size a) ∧
  (∀ (k1_h1 : k1_cond1 i = 1#1), ∀ a x, ((![v98] : Fin 1 → IVec S16 32) a x).toNat < S8192.size a) ∧
  (∀ (k1_h1 : k1_cond1 i = 1#1), ∀ a x, ((![v98] : Fin 1 → IVec S16 32) a x).toNat < S8192.size a)
theorem k1_idx42_inb : ∀ (i : grid1.Coords) (v98 : IVec S16 32) (k1_hw22 : k1_chk22 i v98), ∀ (k1_h1 : k1_cond1 i = 1#1), ∀ a x, ((![v98] : Fin 1 → IVec S16 32) a x).toNat < S8192.size a := fun i v98 k1_hw22 k1_h1 => k1_hw22.1 k1_h1
theorem k1_idx43_inb : ∀ (i : grid1.Coords) (v98 : IVec S16 32) (k1_hw22 : k1_chk22 i v98), ∀ (k1_h1 : k1_cond1 i = 1#1), ∀ a x, ((![v98] : Fin 1 → IVec S16 32) a x).toNat < S8192.size a := fun i v98 k1_hw22 k1_h1 => k1_hw22.2.1 k1_h1
theorem k1_idx44_inb : ∀ (i : grid1.Coords) (v98 : IVec S16 32) (k1_hw22 : k1_chk22 i v98), ∀ (k1_h1 : k1_cond1 i = 1#1), ∀ a x, ((![v98] : Fin 1 → IVec S16 32) a x).toNat < S8192.size a := fun i v98 k1_hw22 k1_h1 => k1_hw22.2.2 k1_h1
def k1_off30 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_127 : BitVec 32 := 16#32
  let v103 : BitVec 32 := Scalar.muli arg17 c16_i32_127
  let c6144_i32 : BitVec 32 := 6144#32
  let v104 : BitVec 32 := Scalar.addi v103 c6144_i32
  let v105 : Index := Scalar.indexCast v104
  ![v105.toNat]

def k1_chk23 (i : grid1.Coords) (v110 : IVec S16 32) : Prop :=
  (∀ (k1_h1 : k1_cond1 i = 1#1), ∀ a x, ((![v110] : Fin 1 → IVec S16 32) a x).toNat < S2048.size a)
theorem k1_idx45_inb : ∀ (i : grid1.Coords) (v110 : IVec S16 32) (k1_hw23 : k1_chk23 i v110), ∀ (k1_h1 : k1_cond1 i = 1#1), ∀ a x, ((![v110] : Fin 1 → IVec S16 32) a x).toNat < S2048.size a := fun i v110 k1_hw23 k1_h1 => k1_hw23 k1_h1
def k1_off31 (k1_t8 : Fin k1_t8_loop.trips) : Fin 1 → Nat :=
  let c0_i32_35 : BitVec 32 := 0#32
  let c1_i32_37 : BitVec 32 := 1#32
  let arg17 : BitVec 32 := Scf.iv c0_i32_35 c1_i32_37 k1_t8
  let c16_i32_127 : BitVec 32 := 16#32
  let v103 : BitVec 32 := Scalar.muli arg17 c16_i32_127
  let c6144_i32 : BitVec 32 := 6144#32
  let v104 : BitVec 32 := Scalar.addi v103 c6144_i32
  let v112 : Index := Scalar.indexCast v104
  ![v112.toNat]

def k1_chk24 (i : grid1.Coords) (v114 : IVec S16 32) : Prop :=
  (∀ (k1_h1 : k1_cond1 i = 1#1), ∀ a x, ((![v114] : Fin 1 → IVec S16 32) a x).toNat < S8192.size a) ∧
  (∀ (k1_h1 : k1_cond1 i = 1#1), ∀ a x, ((![v114] : Fin 1 → IVec S16 32) a x).toNat < S8192.size a) ∧
  (∀ (k1_h1 : k1_cond1 i = 1#1), ∀ a x, ((![v114] : Fin 1 → IVec S16 32) a x).toNat < S8192.size a)
theorem k1_idx46_inb : ∀ (i : grid1.Coords) (v114 : IVec S16 32) (k1_hw24 : k1_chk24 i v114), ∀ (k1_h1 : k1_cond1 i = 1#1), ∀ a x, ((![v114] : Fin 1 → IVec S16 32) a x).toNat < S8192.size a := fun i v114 k1_hw24 k1_h1 => k1_hw24.1 k1_h1
theorem k1_idx47_inb : ∀ (i : grid1.Coords) (v114 : IVec S16 32) (k1_hw24 : k1_chk24 i v114), ∀ (k1_h1 : k1_cond1 i = 1#1), ∀ a x, ((![v114] : Fin 1 → IVec S16 32) a x).toNat < S8192.size a := fun i v114 k1_hw24 k1_h1 => k1_hw24.2.1 k1_h1
theorem k1_idx48_inb : ∀ (i : grid1.Coords) (v114 : IVec S16 32) (k1_hw24 : k1_chk24 i v114), ∀ (k1_h1 : k1_cond1 i = 1#1), ∀ a x, ((![v114] : Fin 1 → IVec S16 32) a x).toNat < S8192.size a := fun i v114 k1_hw24 k1_h1 => k1_hw24.2.2 k1_h1
@[reducible] def k1_t9_loop : Scf.Loop 32 :=
  let c0_i32_40 : BitVec 32 := 0#32
  let c128_i32_41 : BitVec 32 := 128#32
  let v23 : BitVec 32 := Scalar.addi c0_i32_40 c128_i32_41
  let c1_i32_42 : BitVec 32 := 1#32
  ⟨c0_i32_40, v23, c1_i32_42⟩
def k1_off32 (k1_t9 : Fin k1_t9_loop.trips) : Fin 1 → Nat :=
  let c0_i32_40 : BitVec 32 := 0#32
  let c1_i32_42 : BitVec 32 := 1#32
  let arg17 : BitVec 32 := Scf.iv c0_i32_40 c1_i32_42 k1_t9
  let c16_i32_119 : BitVec 32 := 16#32
  let v55 : BitVec 32 := Scalar.muli arg17 c16_i32_119
  let v56 : Index := Scalar.indexCast v55
  ![v56.toNat]
@[reducible] def k1_t10_loop : Scf.Loop 32 :=
  let c0_i32_45 : BitVec 32 := 0#32
  let c128_i32_46 : BitVec 32 := 128#32
  let v25 : BitVec 32 := Scalar.addi c0_i32_45 c128_i32_46
  let c1_i32_47 : BitVec 32 := 1#32
  ⟨c0_i32_45, v25, c1_i32_47⟩
def k1_off33 (k1_t10 : Fin k1_t10_loop.trips) : Fin 1 → Nat :=
  let c0_i32_45 : BitVec 32 := 0#32
  let c1_i32_47 : BitVec 32 := 1#32
  let arg17 : BitVec 32 := Scf.iv c0_i32_45 c1_i32_47 k1_t10
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk25 (i : grid1.Coords) (v69 : IVec S16 32) : Prop :=
  (∀ (k1_h1 : k1_cond1 i = 1#1), ∀ a x, ((![v69] : Fin 1 → IVec S16 32) a x).toNat < S2048.size a) ∧
  (∀ (k1_h1 : k1_cond1 i = 1#1), ∀ a x, ((![v69] : Fin 1 → IVec S16 32) a x).toNat < S2048.size a)
theorem k1_idx49_inb : ∀ (i : grid1.Coords) (v69 : IVec S16 32) (k1_hw25 : k1_chk25 i v69), ∀ (k1_h1 : k1_cond1 i = 1#1), ∀ a x, ((![v69] : Fin 1 → IVec S16 32) a x).toNat < S2048.size a := fun i v69 k1_hw25 k1_h1 => k1_hw25.1 k1_h1
theorem k1_idx50_inb : ∀ (i : grid1.Coords) (v69 : IVec S16 32) (k1_hw25 : k1_chk25 i v69), ∀ (k1_h1 : k1_cond1 i = 1#1), ∀ a x, ((![v69] : Fin 1 → IVec S16 32) a x).toNat < S2048.size a := fun i v69 k1_hw25 k1_h1 => k1_hw25.2 k1_h1
def k1_off34 (k1_t10 : Fin k1_t10_loop.trips) (c0_i32_120 : BitVec 32) : Fin 1 → Nat :=
  let c0_i32_45 : BitVec 32 := 0#32
  let c1_i32_47 : BitVec 32 := 1#32
  let arg17 : BitVec 32 := Scf.iv c0_i32_45 c1_i32_47 k1_t10
  let c16_i32_119 : BitVec 32 := 16#32
  let v55 : BitVec 32 := Scalar.muli arg17 c16_i32_119
  let v56 : BitVec 32 := Scalar.addi v55 c0_i32_120
  let v76 : Index := Scalar.indexCast v56
  ![v76.toNat]

def k1_chk26 (i : grid1.Coords) (v92 : IVec S16 32) : Prop :=
  (∀ (k1_h1 : k1_cond1 i = 1#1), ∀ a x, ((![v92] : Fin 1 → IVec S16 32) a x).toNat < S2048.size a) ∧
  (∀ (k1_h1 : k1_cond1 i = 1#1), ∀ a x, ((![v92] : Fin 1 → IVec S16 32) a x).toNat < S2048.size a)
theorem k1_idx51_inb : ∀ (i : grid1.Coords) (v92 : IVec S16 32) (k1_hw26 : k1_chk26 i v92), ∀ (k1_h1 : k1_cond1 i = 1#1), ∀ a x, ((![v92] : Fin 1 → IVec S16 32) a x).toNat < S2048.size a := fun i v92 k1_hw26 k1_h1 => k1_hw26.1 k1_h1
theorem k1_idx52_inb : ∀ (i : grid1.Coords) (v92 : IVec S16 32) (k1_hw26 : k1_chk26 i v92), ∀ (k1_h1 : k1_cond1 i = 1#1), ∀ a x, ((![v92] : Fin 1 → IVec S16 32) a x).toNat < S2048.size a := fun i v92 k1_hw26 k1_h1 => k1_hw26.2 k1_h1
def k1_off35 (k1_t10 : Fin k1_t10_loop.trips) (c2048_i32 : BitVec 32) : Fin 1 → Nat :=
  let c0_i32_45 : BitVec 32 := 0#32
  let c1_i32_47 : BitVec 32 := 1#32
  let arg17 : BitVec 32 := Scf.iv c0_i32_45 c1_i32_47 k1_t10
  let c16_i32_123 : BitVec 32 := 16#32
  let v78 : BitVec 32 := Scalar.muli arg17 c16_i32_123
  let v79 : BitVec 32 := Scalar.addi v78 c2048_i32
  let v99 : Index := Scalar.indexCast v79
  ![v99.toNat]

def k1_chk27 (i : grid1.Coords) (v115 : IVec S16 32) : Prop :=
  (∀ (k1_h1 : k1_cond1 i = 1#1), ∀ a x, ((![v115] : Fin 1 → IVec S16 32) a x).toNat < S2048.size a) ∧
  (∀ (k1_h1 : k1_cond1 i = 1#1), ∀ a x, ((![v115] : Fin 1 → IVec S16 32) a x).toNat < S2048.size a)
theorem k1_idx53_inb : ∀ (i : grid1.Coords) (v115 : IVec S16 32) (k1_hw27 : k1_chk27 i v115), ∀ (k1_h1 : k1_cond1 i = 1#1), ∀ a x, ((![v115] : Fin 1 → IVec S16 32) a x).toNat < S2048.size a := fun i v115 k1_hw27 k1_h1 => k1_hw27.1 k1_h1
theorem k1_idx54_inb : ∀ (i : grid1.Coords) (v115 : IVec S16 32) (k1_hw27 : k1_chk27 i v115), ∀ (k1_h1 : k1_cond1 i = 1#1), ∀ a x, ((![v115] : Fin 1 → IVec S16 32) a x).toNat < S2048.size a := fun i v115 k1_hw27 k1_h1 => k1_hw27.2 k1_h1
def k1_off36 (k1_t10 : Fin k1_t10_loop.trips) (c4096_i32 : BitVec 32) : Fin 1 → Nat :=
  let c0_i32_45 : BitVec 32 := 0#32
  let c1_i32_47 : BitVec 32 := 1#32
  let arg17 : BitVec 32 := Scf.iv c0_i32_45 c1_i32_47 k1_t10
  let c16_i32_132 : BitVec 32 := 16#32
  let v101 : BitVec 32 := Scalar.muli arg17 c16_i32_132
  let v102 : BitVec 32 := Scalar.addi v101 c4096_i32
  let v122 : Index := Scalar.indexCast v102
  ![v122.toNat]

def k1_chk28 (i : grid1.Coords) (v138 : IVec S16 32) : Prop :=
  (∀ (k1_h1 : k1_cond1 i = 1#1), ∀ a x, ((![v138] : Fin 1 → IVec S16 32) a x).toNat < S2048.size a) ∧
  (∀ (k1_h1 : k1_cond1 i = 1#1), ∀ a x, ((![v138] : Fin 1 → IVec S16 32) a x).toNat < S2048.size a)
theorem k1_idx55_inb : ∀ (i : grid1.Coords) (v138 : IVec S16 32) (k1_hw28 : k1_chk28 i v138), ∀ (k1_h1 : k1_cond1 i = 1#1), ∀ a x, ((![v138] : Fin 1 → IVec S16 32) a x).toNat < S2048.size a := fun i v138 k1_hw28 k1_h1 => k1_hw28.1 k1_h1
theorem k1_idx56_inb : ∀ (i : grid1.Coords) (v138 : IVec S16 32) (k1_hw28 : k1_chk28 i v138), ∀ (k1_h1 : k1_cond1 i = 1#1), ∀ a x, ((![v138] : Fin 1 → IVec S16 32) a x).toNat < S2048.size a := fun i v138 k1_hw28 k1_h1 => k1_hw28.2 k1_h1
def k1_off37 (k1_t10 : Fin k1_t10_loop.trips) : Fin 1 → Nat :=
  let c0_i32_45 : BitVec 32 := 0#32
  let c1_i32_47 : BitVec 32 := 1#32
  let arg17 : BitVec 32 := Scf.iv c0_i32_45 c1_i32_47 k1_t10
  let c16_i32_141 : BitVec 32 := 16#32
  let v124 : BitVec 32 := Scalar.muli arg17 c16_i32_141
  let c6144_i32 : BitVec 32 := 6144#32
  let v125 : BitVec 32 := Scalar.addi v124 c6144_i32
  let v145 : Index := Scalar.indexCast v125
  ![v145.toNat]
@[reducible] def k1_t11_loop : Scf.Loop 32 :=
  let c0_i32_50 : BitVec 32 := 0#32
  let c128_i32_51 : BitVec 32 := 128#32
  let v27 : BitVec 32 := Scalar.addi c0_i32_50 c128_i32_51
  let c1_i32_52 : BitVec 32 := 1#32
  ⟨c0_i32_50, v27, c1_i32_52⟩
def k1_off38 (k1_t11 : Fin k1_t11_loop.trips) : Fin 1 → Nat :=
  let c0_i32_50 : BitVec 32 := 0#32
  let c1_i32_52 : BitVec 32 := 1#32
  let arg17 : BitVec 32 := Scf.iv c0_i32_50 c1_i32_52 k1_t11
  let c16_i32_119 : BitVec 32 := 16#32
  let v55 : BitVec 32 := Scalar.muli arg17 c16_i32_119
  let v56 : Index := Scalar.indexCast v55
  ![v56.toNat]
@[reducible] def k1_t12_loop : Scf.Loop 32 :=
  let c0_i32_55 : BitVec 32 := 0#32
  let c128_i32_56 : BitVec 32 := 128#32
  let v29 : BitVec 32 := Scalar.addi c0_i32_55 c128_i32_56
  let c1_i32_57 : BitVec 32 := 1#32
  ⟨c0_i32_55, v29, c1_i32_57⟩
def k1_off39 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk29 (i : grid1.Coords) (v69 : IVec S16 32) : Prop :=
  (∀ (k1_h1 : k1_cond1 i = 1#1), ∀ a x, ((![v69] : Fin 1 → IVec S16 32) a x).toNat < S2048.size a)
theorem k1_idx57_inb : ∀ (i : grid1.Coords) (v69 : IVec S16 32) (k1_hw29 : k1_chk29 i v69), ∀ (k1_h1 : k1_cond1 i = 1#1), ∀ a x, ((![v69] : Fin 1 → IVec S16 32) a x).toNat < S2048.size a := fun i v69 k1_hw29 k1_h1 => k1_hw29 k1_h1
def k1_off40 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_119 : BitVec 32 := 16#32
  let v55 : BitVec 32 := Scalar.muli arg17 c16_i32_119
  let c0_i32_120 : BitVec 32 := 0#32
  let v56 : BitVec 32 := Scalar.addi v55 c0_i32_120
  let v71 : Index := Scalar.indexCast v56
  ![v71.toNat]

def k1_chk30 (i : grid1.Coords) (v73 : IVec S16 32) : Prop :=
  (∀ (k1_h1 : k1_cond1 i = 1#1), ∀ a x, ((![v73] : Fin 1 → IVec S16 32) a x).toNat < S8192.size a) ∧
  (∀ (k1_h1 : k1_cond1 i = 1#1), ∀ a x, ((![v73] : Fin 1 → IVec S16 32) a x).toNat < S8192.size a)
theorem k1_idx58_inb : ∀ (i : grid1.Coords) (v73 : IVec S16 32) (k1_hw30 : k1_chk30 i v73), ∀ (k1_h1 : k1_cond1 i = 1#1), ∀ a x, ((![v73] : Fin 1 → IVec S16 32) a x).toNat < S8192.size a := fun i v73 k1_hw30 k1_h1 => k1_hw30.1 k1_h1
theorem k1_idx59_inb : ∀ (i : grid1.Coords) (v73 : IVec S16 32) (k1_hw30 : k1_chk30 i v73), ∀ (k1_h1 : k1_cond1 i = 1#1), ∀ a x, ((![v73] : Fin 1 → IVec S16 32) a x).toNat < S8192.size a := fun i v73 k1_hw30 k1_h1 => k1_hw30.2 k1_h1
def k1_off41 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_122 : BitVec 32 := 16#32
  let v76 : BitVec 32 := Scalar.muli arg17 c16_i32_122
  let c2048_i32 : BitVec 32 := 2048#32
  let v77 : BitVec 32 := Scalar.addi v76 c2048_i32
  let v78 : Index := Scalar.indexCast v77
  ![v78.toNat]

def k1_chk31 (i : grid1.Coords) (v90 : IVec S16 32) : Prop :=
  (∀ (k1_h1 : k1_cond1 i = 1#1), ∀ a x, ((![v90] : Fin 1 → IVec S16 32) a x).toNat < S2048.size a)
theorem k1_idx60_inb : ∀ (i : grid1.Coords) (v90 : IVec S16 32) (k1_hw31 : k1_chk31 i v90), ∀ (k1_h1 : k1_cond1 i = 1#1), ∀ a x, ((![v90] : Fin 1 → IVec S16 32) a x).toNat < S2048.size a := fun i v90 k1_hw31 k1_h1 => k1_hw31 k1_h1
def k1_off42 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_122 : BitVec 32 := 16#32
  let v76 : BitVec 32 := Scalar.muli arg17 c16_i32_122
  let c2048_i32 : BitVec 32 := 2048#32
  let v77 : BitVec 32 := Scalar.addi v76 c2048_i32
  let v92 : Index := Scalar.indexCast v77
  ![v92.toNat]

def k1_chk32 (i : grid1.Coords) (v94 : IVec S16 32) : Prop :=
  (∀ (k1_h1 : k1_cond1 i = 1#1), ∀ a x, ((![v94] : Fin 1 → IVec S16 32) a x).toNat < S8192.size a) ∧
  (∀ (k1_h1 : k1_cond1 i = 1#1), ∀ a x, ((![v94] : Fin 1 → IVec S16 32) a x).toNat < S8192.size a)
theorem k1_idx61_inb : ∀ (i : grid1.Coords) (v94 : IVec S16 32) (k1_hw32 : k1_chk32 i v94), ∀ (k1_h1 : k1_cond1 i = 1#1), ∀ a x, ((![v94] : Fin 1 → IVec S16 32) a x).toNat < S8192.size a := fun i v94 k1_hw32 k1_h1 => k1_hw32.1 k1_h1
theorem k1_idx62_inb : ∀ (i : grid1.Coords) (v94 : IVec S16 32) (k1_hw32 : k1_chk32 i v94), ∀ (k1_h1 : k1_cond1 i = 1#1), ∀ a x, ((![v94] : Fin 1 → IVec S16 32) a x).toNat < S8192.size a := fun i v94 k1_hw32 k1_h1 => k1_hw32.2 k1_h1
def k1_off43 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_127 : BitVec 32 := 16#32
  let v97 : BitVec 32 := Scalar.muli arg17 c16_i32_127
  let c4096_i32 : BitVec 32 := 4096#32
  let v98 : BitVec 32 := Scalar.addi v97 c4096_i32
  let v99 : Index := Scalar.indexCast v98
  ![v99.toNat]

def k1_chk33 (i : grid1.Coords) (v111 : IVec S16 32) : Prop :=
  (∀ (k1_h1 : k1_cond1 i = 1#1), ∀ a x, ((![v111] : Fin 1 → IVec S16 32) a x).toNat < S2048.size a)
theorem k1_idx63_inb : ∀ (i : grid1.Coords) (v111 : IVec S16 32) (k1_hw33 : k1_chk33 i v111), ∀ (k1_h1 : k1_cond1 i = 1#1), ∀ a x, ((![v111] : Fin 1 → IVec S16 32) a x).toNat < S2048.size a := fun i v111 k1_hw33 k1_h1 => k1_hw33 k1_h1
def k1_off44 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_127 : BitVec 32 := 16#32
  let v97 : BitVec 32 := Scalar.muli arg17 c16_i32_127
  let c4096_i32 : BitVec 32 := 4096#32
  let v98 : BitVec 32 := Scalar.addi v97 c4096_i32
  let v113 : Index := Scalar.indexCast v98
  ![v113.toNat]

def k1_chk34 (i : grid1.Coords) (v115 : IVec S16 32) : Prop :=
  (∀ (k1_h1 : k1_cond1 i = 1#1), ∀ a x, ((![v115] : Fin 1 → IVec S16 32) a x).toNat < S8192.size a) ∧
  (∀ (k1_h1 : k1_cond1 i = 1#1), ∀ a x, ((![v115] : Fin 1 → IVec S16 32) a x).toNat < S8192.size a)
theorem k1_idx64_inb : ∀ (i : grid1.Coords) (v115 : IVec S16 32) (k1_hw34 : k1_chk34 i v115), ∀ (k1_h1 : k1_cond1 i = 1#1), ∀ a x, ((![v115] : Fin 1 → IVec S16 32) a x).toNat < S8192.size a := fun i v115 k1_hw34 k1_h1 => k1_hw34.1 k1_h1
theorem k1_idx65_inb : ∀ (i : grid1.Coords) (v115 : IVec S16 32) (k1_hw34 : k1_chk34 i v115), ∀ (k1_h1 : k1_cond1 i = 1#1), ∀ a x, ((![v115] : Fin 1 → IVec S16 32) a x).toNat < S8192.size a := fun i v115 k1_hw34 k1_h1 => k1_hw34.2 k1_h1
def k1_off45 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_132 : BitVec 32 := 16#32
  let v118 : BitVec 32 := Scalar.muli arg17 c16_i32_132
  let c6144_i32 : BitVec 32 := 6144#32
  let v119 : BitVec 32 := Scalar.addi v118 c6144_i32
  let v120 : Index := Scalar.indexCast v119
  ![v120.toNat]

def k1_chk35 (i : grid1.Coords) (v132 : IVec S16 32) : Prop :=
  (∀ (k1_h1 : k1_cond1 i = 1#1), ∀ a x, ((![v132] : Fin 1 → IVec S16 32) a x).toNat < S2048.size a)
theorem k1_idx66_inb : ∀ (i : grid1.Coords) (v132 : IVec S16 32) (k1_hw35 : k1_chk35 i v132), ∀ (k1_h1 : k1_cond1 i = 1#1), ∀ a x, ((![v132] : Fin 1 → IVec S16 32) a x).toNat < S2048.size a := fun i v132 k1_hw35 k1_h1 => k1_hw35 k1_h1
def k1_off46 (k1_t12 : Fin k1_t12_loop.trips) : Fin 1 → Nat :=
  let c0_i32_55 : BitVec 32 := 0#32
  let c1_i32_57 : BitVec 32 := 1#32
  let arg17 : BitVec 32 := Scf.iv c0_i32_55 c1_i32_57 k1_t12
  let c16_i32_132 : BitVec 32 := 16#32
  let v118 : BitVec 32 := Scalar.muli arg17 c16_i32_132
  let c6144_i32 : BitVec 32 := 6144#32
  let v119 : BitVec 32 := Scalar.addi v118 c6144_i32
  let v134 : Index := Scalar.indexCast v119
  ![v134.toNat]

def k1_chk36 (i : grid1.Coords) (v136 : IVec S16 32) : Prop :=
  (∀ (k1_h1 : k1_cond1 i = 1#1), ∀ a x, ((![v136] : Fin 1 → IVec S16 32) a x).toNat < S8192.size a) ∧
  (∀ (k1_h1 : k1_cond1 i = 1#1), ∀ a x, ((![v136] : Fin 1 → IVec S16 32) a x).toNat < S8192.size a)
theorem k1_idx67_inb : ∀ (i : grid1.Coords) (v136 : IVec S16 32) (k1_hw36 : k1_chk36 i v136), ∀ (k1_h1 : k1_cond1 i = 1#1), ∀ a x, ((![v136] : Fin 1 → IVec S16 32) a x).toNat < S8192.size a := fun i v136 k1_hw36 k1_h1 => k1_hw36.1 k1_h1
theorem k1_idx68_inb : ∀ (i : grid1.Coords) (v136 : IVec S16 32) (k1_hw36 : k1_chk36 i v136), ∀ (k1_h1 : k1_cond1 i = 1#1), ∀ a x, ((![v136] : Fin 1 → IVec S16 32) a x).toNat < S8192.size a := fun i v136 k1_hw36 k1_h1 => k1_hw36.2 k1_h1
@[reducible] def k1_t13_loop : Scf.Loop 32 :=
  let c0_i32_60 : BitVec 32 := 0#32
  let c128_i32_61 : BitVec 32 := 128#32
  let v31 : BitVec 32 := Scalar.addi c0_i32_60 c128_i32_61
  let c1_i32_62 : BitVec 32 := 1#32
  ⟨c0_i32_60, v31, c1_i32_62⟩
def k1_off47 (k1_t13 : Fin k1_t13_loop.trips) : Fin 1 → Nat :=
  let c0_i32_60 : BitVec 32 := 0#32
  let c1_i32_62 : BitVec 32 := 1#32
  let arg17 : BitVec 32 := Scf.iv c0_i32_60 c1_i32_62 k1_t13
  let c16_i32_119 : BitVec 32 := 16#32
  let v55 : BitVec 32 := Scalar.muli arg17 c16_i32_119
  let v56 : Index := Scalar.indexCast v55
  ![v56.toNat]
@[reducible] def k1_t14_loop : Scf.Loop 32 :=
  let c0_i32_65 : BitVec 32 := 0#32
  let c128_i32_66 : BitVec 32 := 128#32
  let v33 : BitVec 32 := Scalar.addi c0_i32_65 c128_i32_66
  let c1_i32_67 : BitVec 32 := 1#32
  ⟨c0_i32_65, v33, c1_i32_67⟩
def k1_off48 (k1_t14 : Fin k1_t14_loop.trips) : Fin 1 → Nat :=
  let c0_i32_65 : BitVec 32 := 0#32
  let c1_i32_67 : BitVec 32 := 1#32
  let arg17 : BitVec 32 := Scf.iv c0_i32_65 c1_i32_67 k1_t14
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk37 (i : grid1.Coords) (v62 : IVec S16 32) : Prop :=
  (∀ (k1_h1 : k1_cond1 i = 1#1), ∀ a x, ((![v62] : Fin 1 → IVec S16 32) a x).toNat < S2048.size a) ∧
  (∀ (k1_h1 : k1_cond1 i = 1#1), ∀ a x, ((![v62] : Fin 1 → IVec S16 32) a x).toNat < S2048.size a)
theorem k1_idx69_inb : ∀ (i : grid1.Coords) (v62 : IVec S16 32) (k1_hw37 : k1_chk37 i v62), ∀ (k1_h1 : k1_cond1 i = 1#1), ∀ a x, ((![v62] : Fin 1 → IVec S16 32) a x).toNat < S2048.size a := fun i v62 k1_hw37 k1_h1 => k1_hw37.1 k1_h1
theorem k1_idx70_inb : ∀ (i : grid1.Coords) (v62 : IVec S16 32) (k1_hw37 : k1_chk37 i v62), ∀ (k1_h1 : k1_cond1 i = 1#1), ∀ a x, ((![v62] : Fin 1 → IVec S16 32) a x).toNat < S2048.size a := fun i v62 k1_hw37 k1_h1 => k1_hw37.2 k1_h1
def k1_off49 (k1_t14 : Fin k1_t14_loop.trips) (c0_i32_120 : BitVec 32) : Fin 1 → Nat :=
  let c0_i32_65 : BitVec 32 := 0#32
  let c1_i32_67 : BitVec 32 := 1#32
  let arg17 : BitVec 32 := Scf.iv c0_i32_65 c1_i32_67 k1_t14
  let c16_i32_119 : BitVec 32 := 16#32
  let v55 : BitVec 32 := Scalar.muli arg17 c16_i32_119
  let v56 : BitVec 32 := Scalar.addi v55 c0_i32_120
  let v69 : Index := Scalar.indexCast v56
  ![v69.toNat]

def k1_chk38 (i : grid1.Coords) (v78 : IVec S16 32) : Prop :=
  (∀ (k1_h1 : k1_cond1 i = 1#1), ∀ a x, ((![v78] : Fin 1 → IVec S16 32) a x).toNat < S2048.size a) ∧
  (∀ (k1_h1 : k1_cond1 i = 1#1), ∀ a x, ((![v78] : Fin 1 → IVec S16 32) a x).toNat < S2048.size a)
theorem k1_idx71_inb : ∀ (i : grid1.Coords) (v78 : IVec S16 32) (k1_hw38 : k1_chk38 i v78), ∀ (k1_h1 : k1_cond1 i = 1#1), ∀ a x, ((![v78] : Fin 1 → IVec S16 32) a x).toNat < S2048.size a := fun i v78 k1_hw38 k1_h1 => k1_hw38.1 k1_h1
theorem k1_idx72_inb : ∀ (i : grid1.Coords) (v78 : IVec S16 32) (k1_hw38 : k1_chk38 i v78), ∀ (k1_h1 : k1_cond1 i = 1#1), ∀ a x, ((![v78] : Fin 1 → IVec S16 32) a x).toNat < S2048.size a := fun i v78 k1_hw38 k1_h1 => k1_hw38.2 k1_h1
def k1_off50 (k1_t14 : Fin k1_t14_loop.trips) (c2048_i32 : BitVec 32) : Fin 1 → Nat :=
  let c0_i32_65 : BitVec 32 := 0#32
  let c1_i32_67 : BitVec 32 := 1#32
  let arg17 : BitVec 32 := Scf.iv c0_i32_65 c1_i32_67 k1_t14
  let c16_i32_123 : BitVec 32 := 16#32
  let v71 : BitVec 32 := Scalar.muli arg17 c16_i32_123
  let v72 : BitVec 32 := Scalar.addi v71 c2048_i32
  let v85 : Index := Scalar.indexCast v72
  ![v85.toNat]

def k1_chk39 (i : grid1.Coords) (v94 : IVec S16 32) : Prop :=
  (∀ (k1_h1 : k1_cond1 i = 1#1), ∀ a x, ((![v94] : Fin 1 → IVec S16 32) a x).toNat < S2048.size a) ∧
  (∀ (k1_h1 : k1_cond1 i = 1#1), ∀ a x, ((![v94] : Fin 1 → IVec S16 32) a x).toNat < S2048.size a)
theorem k1_idx73_inb : ∀ (i : grid1.Coords) (v94 : IVec S16 32) (k1_hw39 : k1_chk39 i v94), ∀ (k1_h1 : k1_cond1 i = 1#1), ∀ a x, ((![v94] : Fin 1 → IVec S16 32) a x).toNat < S2048.size a := fun i v94 k1_hw39 k1_h1 => k1_hw39.1 k1_h1
theorem k1_idx74_inb : ∀ (i : grid1.Coords) (v94 : IVec S16 32) (k1_hw39 : k1_chk39 i v94), ∀ (k1_h1 : k1_cond1 i = 1#1), ∀ a x, ((![v94] : Fin 1 → IVec S16 32) a x).toNat < S2048.size a := fun i v94 k1_hw39 k1_h1 => k1_hw39.2 k1_h1
def k1_off51 (k1_t14 : Fin k1_t14_loop.trips) (c4096_i32 : BitVec 32) : Fin 1 → Nat :=
  let c0_i32_65 : BitVec 32 := 0#32
  let c1_i32_67 : BitVec 32 := 1#32
  let arg17 : BitVec 32 := Scf.iv c0_i32_65 c1_i32_67 k1_t14
  let c16_i32_130 : BitVec 32 := 16#32
  let v87 : BitVec 32 := Scalar.muli arg17 c16_i32_130
  let v88 : BitVec 32 := Scalar.addi v87 c4096_i32
  let v101 : Index := Scalar.indexCast v88
  ![v101.toNat]

def k1_chk40 (i : grid1.Coords) (v110 : IVec S16 32) : Prop :=
  (∀ (k1_h1 : k1_cond1 i = 1#1), ∀ a x, ((![v110] : Fin 1 → IVec S16 32) a x).toNat < S2048.size a) ∧
  (∀ (k1_h1 : k1_cond1 i = 1#1), ∀ a x, ((![v110] : Fin 1 → IVec S16 32) a x).toNat < S2048.size a)
theorem k1_idx75_inb : ∀ (i : grid1.Coords) (v110 : IVec S16 32) (k1_hw40 : k1_chk40 i v110), ∀ (k1_h1 : k1_cond1 i = 1#1), ∀ a x, ((![v110] : Fin 1 → IVec S16 32) a x).toNat < S2048.size a := fun i v110 k1_hw40 k1_h1 => k1_hw40.1 k1_h1
theorem k1_idx76_inb : ∀ (i : grid1.Coords) (v110 : IVec S16 32) (k1_hw40 : k1_chk40 i v110), ∀ (k1_h1 : k1_cond1 i = 1#1), ∀ a x, ((![v110] : Fin 1 → IVec S16 32) a x).toNat < S2048.size a := fun i v110 k1_hw40 k1_h1 => k1_hw40.2 k1_h1
def k1_off52 (k1_t14 : Fin k1_t14_loop.trips) : Fin 1 → Nat :=
  let c0_i32_65 : BitVec 32 := 0#32
  let c1_i32_67 : BitVec 32 := 1#32
  let arg17 : BitVec 32 := Scf.iv c0_i32_65 c1_i32_67 k1_t14
  let c16_i32_137 : BitVec 32 := 16#32
  let v103 : BitVec 32 := Scalar.muli arg17 c16_i32_137
  let c6144_i32 : BitVec 32 := 6144#32
  let v104 : BitVec 32 := Scalar.addi v103 c6144_i32
  let v117 : Index := Scalar.indexCast v104
  ![v117.toNat]
@[reducible] def k1_t15_loop : Scf.Loop 32 :=
  let c0_i32_70 : BitVec 32 := 0#32
  let c128_i32_71 : BitVec 32 := 128#32
  let v35 : BitVec 32 := Scalar.addi c0_i32_70 c128_i32_71
  let c1_i32_72 : BitVec 32 := 1#32
  ⟨c0_i32_70, v35, c1_i32_72⟩
def k1_off53 (k1_t15 : Fin k1_t15_loop.trips) : Fin 1 → Nat :=
  let c0_i32_70 : BitVec 32 := 0#32
  let c1_i32_72 : BitVec 32 := 1#32
  let arg17 : BitVec 32 := Scf.iv c0_i32_70 c1_i32_72 k1_t15
  let c16_i32_119 : BitVec 32 := 16#32
  let v55 : BitVec 32 := Scalar.muli arg17 c16_i32_119
  let v56 : Index := Scalar.indexCast v55
  ![v56.toNat]
@[reducible] def k1_t16_loop : Scf.Loop 32 :=
  let c0_i32_75 : BitVec 32 := 0#32
  let c128_i32_76 : BitVec 32 := 128#32
  let v37 : BitVec 32 := Scalar.addi c0_i32_75 c128_i32_76
  let c1_i32_77 : BitVec 32 := 1#32
  ⟨c0_i32_75, v37, c1_i32_77⟩
def k1_off54 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk41 (i : grid1.Coords) (v62 : IVec S16 32) : Prop :=
  (∀ (k1_h1 : k1_cond1 i = 1#1), ∀ a x, ((![v62] : Fin 1 → IVec S16 32) a x).toNat < S2048.size a)
theorem k1_idx77_inb : ∀ (i : grid1.Coords) (v62 : IVec S16 32) (k1_hw41 : k1_chk41 i v62), ∀ (k1_h1 : k1_cond1 i = 1#1), ∀ a x, ((![v62] : Fin 1 → IVec S16 32) a x).toNat < S2048.size a := fun i v62 k1_hw41 k1_h1 => k1_hw41 k1_h1
def k1_off55 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k1_chk42 (i : grid1.Coords) (v66 : IVec S16 32) : Prop :=
  (∀ (k1_h1 : k1_cond1 i = 1#1), ∀ a x, ((![v66] : Fin 1 → IVec S16 32) a x).toNat < S8192.size a) ∧
  (∀ (k1_h1 : k1_cond1 i = 1#1), ∀ a x, ((![v66] : Fin 1 → IVec S16 32) a x).toNat < S8192.size a)
theorem k1_idx78_inb : ∀ (i : grid1.Coords) (v66 : IVec S16 32) (k1_hw42 : k1_chk42 i v66), ∀ (k1_h1 : k1_cond1 i = 1#1), ∀ a x, ((![v66] : Fin 1 → IVec S16 32) a x).toNat < S8192.size a := fun i v66 k1_hw42 k1_h1 => k1_hw42.1 k1_h1
theorem k1_idx79_inb : ∀ (i : grid1.Coords) (v66 : IVec S16 32) (k1_hw42 : k1_chk42 i v66), ∀ (k1_h1 : k1_cond1 i = 1#1), ∀ a x, ((![v66] : Fin 1 → IVec S16 32) a x).toNat < S8192.size a := fun i v66 k1_hw42 k1_h1 => k1_hw42.2 k1_h1
def k1_off56 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_122 : BitVec 32 := 16#32
  let v69 : BitVec 32 := Scalar.muli arg17 c16_i32_122
  let c2048_i32 : BitVec 32 := 2048#32
  let v70 : BitVec 32 := Scalar.addi v69 c2048_i32
  let v71 : Index := Scalar.indexCast v70
  ![v71.toNat]

def k1_chk43 (i : grid1.Coords) (v76 : IVec S16 32) : Prop :=
  (∀ (k1_h1 : k1_cond1 i = 1#1), ∀ a x, ((![v76] : Fin 1 → IVec S16 32) a x).toNat < S2048.size a)
theorem k1_idx80_inb : ∀ (i : grid1.Coords) (v76 : IVec S16 32) (k1_hw43 : k1_chk43 i v76), ∀ (k1_h1 : k1_cond1 i = 1#1), ∀ a x, ((![v76] : Fin 1 → IVec S16 32) a x).toNat < S2048.size a := fun i v76 k1_hw43 k1_h1 => k1_hw43 k1_h1
def k1_off57 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_122 : BitVec 32 := 16#32
  let v69 : BitVec 32 := Scalar.muli arg17 c16_i32_122
  let c2048_i32 : BitVec 32 := 2048#32
  let v70 : BitVec 32 := Scalar.addi v69 c2048_i32
  let v78 : Index := Scalar.indexCast v70
  ![v78.toNat]

def k1_chk44 (i : grid1.Coords) (v80 : IVec S16 32) : Prop :=
  (∀ (k1_h1 : k1_cond1 i = 1#1), ∀ a x, ((![v80] : Fin 1 → IVec S16 32) a x).toNat < S8192.size a) ∧
  (∀ (k1_h1 : k1_cond1 i = 1#1), ∀ a x, ((![v80] : Fin 1 → IVec S16 32) a x).toNat < S8192.size a)
theorem k1_idx81_inb : ∀ (i : grid1.Coords) (v80 : IVec S16 32) (k1_hw44 : k1_chk44 i v80), ∀ (k1_h1 : k1_cond1 i = 1#1), ∀ a x, ((![v80] : Fin 1 → IVec S16 32) a x).toNat < S8192.size a := fun i v80 k1_hw44 k1_h1 => k1_hw44.1 k1_h1
theorem k1_idx82_inb : ∀ (i : grid1.Coords) (v80 : IVec S16 32) (k1_hw44 : k1_chk44 i v80), ∀ (k1_h1 : k1_cond1 i = 1#1), ∀ a x, ((![v80] : Fin 1 → IVec S16 32) a x).toNat < S8192.size a := fun i v80 k1_hw44 k1_h1 => k1_hw44.2 k1_h1
def k1_off58 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_125 : BitVec 32 := 16#32
  let v83 : BitVec 32 := Scalar.muli arg17 c16_i32_125
  let c4096_i32 : BitVec 32 := 4096#32
  let v84 : BitVec 32 := Scalar.addi v83 c4096_i32
  let v85 : Index := Scalar.indexCast v84
  ![v85.toNat]

def k1_chk45 (i : grid1.Coords) (v90 : IVec S16 32) : Prop :=
  (∀ (k1_h1 : k1_cond1 i = 1#1), ∀ a x, ((![v90] : Fin 1 → IVec S16 32) a x).toNat < S2048.size a)
theorem k1_idx83_inb : ∀ (i : grid1.Coords) (v90 : IVec S16 32) (k1_hw45 : k1_chk45 i v90), ∀ (k1_h1 : k1_cond1 i = 1#1), ∀ a x, ((![v90] : Fin 1 → IVec S16 32) a x).toNat < S2048.size a := fun i v90 k1_hw45 k1_h1 => k1_hw45 k1_h1
def k1_off59 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_125 : BitVec 32 := 16#32
  let v83 : BitVec 32 := Scalar.muli arg17 c16_i32_125
  let c4096_i32 : BitVec 32 := 4096#32
  let v84 : BitVec 32 := Scalar.addi v83 c4096_i32
  let v92 : Index := Scalar.indexCast v84
  ![v92.toNat]

def k1_chk46 (i : grid1.Coords) (v94 : IVec S16 32) : Prop :=
  (∀ (k1_h1 : k1_cond1 i = 1#1), ∀ a x, ((![v94] : Fin 1 → IVec S16 32) a x).toNat < S8192.size a) ∧
  (∀ (k1_h1 : k1_cond1 i = 1#1), ∀ a x, ((![v94] : Fin 1 → IVec S16 32) a x).toNat < S8192.size a)
theorem k1_idx84_inb : ∀ (i : grid1.Coords) (v94 : IVec S16 32) (k1_hw46 : k1_chk46 i v94), ∀ (k1_h1 : k1_cond1 i = 1#1), ∀ a x, ((![v94] : Fin 1 → IVec S16 32) a x).toNat < S8192.size a := fun i v94 k1_hw46 k1_h1 => k1_hw46.1 k1_h1
theorem k1_idx85_inb : ∀ (i : grid1.Coords) (v94 : IVec S16 32) (k1_hw46 : k1_chk46 i v94), ∀ (k1_h1 : k1_cond1 i = 1#1), ∀ a x, ((![v94] : Fin 1 → IVec S16 32) a x).toNat < S8192.size a := fun i v94 k1_hw46 k1_h1 => k1_hw46.2 k1_h1
def k1_off60 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_128 : BitVec 32 := 16#32
  let v97 : BitVec 32 := Scalar.muli arg17 c16_i32_128
  let c6144_i32 : BitVec 32 := 6144#32
  let v98 : BitVec 32 := Scalar.addi v97 c6144_i32
  let v99 : Index := Scalar.indexCast v98
  ![v99.toNat]

def k1_chk47 (i : grid1.Coords) (v104 : IVec S16 32) : Prop :=
  (∀ (k1_h1 : k1_cond1 i = 1#1), ∀ a x, ((![v104] : Fin 1 → IVec S16 32) a x).toNat < S2048.size a)
theorem k1_idx86_inb : ∀ (i : grid1.Coords) (v104 : IVec S16 32) (k1_hw47 : k1_chk47 i v104), ∀ (k1_h1 : k1_cond1 i = 1#1), ∀ a x, ((![v104] : Fin 1 → IVec S16 32) a x).toNat < S2048.size a := fun i v104 k1_hw47 k1_h1 => k1_hw47 k1_h1
def k1_off61 (k1_t16 : Fin k1_t16_loop.trips) : Fin 1 → Nat :=
  let c0_i32_75 : BitVec 32 := 0#32
  let c1_i32_77 : BitVec 32 := 1#32
  let arg17 : BitVec 32 := Scf.iv c0_i32_75 c1_i32_77 k1_t16
  let c16_i32_128 : BitVec 32 := 16#32
  let v97 : BitVec 32 := Scalar.muli arg17 c16_i32_128
  let c6144_i32 : BitVec 32 := 6144#32
  let v98 : BitVec 32 := Scalar.addi v97 c6144_i32
  let v106 : Index := Scalar.indexCast v98
  ![v106.toNat]

def k1_chk48 (i : grid1.Coords) (v108 : IVec S16 32) : Prop :=
  (∀ (k1_h1 : k1_cond1 i = 1#1), ∀ a x, ((![v108] : Fin 1 → IVec S16 32) a x).toNat < S8192.size a) ∧
  (∀ (k1_h1 : k1_cond1 i = 1#1), ∀ a x, ((![v108] : Fin 1 → IVec S16 32) a x).toNat < S8192.size a)
theorem k1_idx87_inb : ∀ (i : grid1.Coords) (v108 : IVec S16 32) (k1_hw48 : k1_chk48 i v108), ∀ (k1_h1 : k1_cond1 i = 1#1), ∀ a x, ((![v108] : Fin 1 → IVec S16 32) a x).toNat < S8192.size a := fun i v108 k1_hw48 k1_h1 => k1_hw48.1 k1_h1
theorem k1_idx88_inb : ∀ (i : grid1.Coords) (v108 : IVec S16 32) (k1_hw48 : k1_chk48 i v108), ∀ (k1_h1 : k1_cond1 i = 1#1), ∀ a x, ((![v108] : Fin 1 → IVec S16 32) a x).toNat < S8192.size a := fun i v108 k1_hw48 k1_h1 => k1_hw48.2 k1_h1
@[reducible] def k1_t17_loop : Scf.Loop 32 :=
  let c0_i32_80 : BitVec 32 := 0#32
  let c128_i32_81 : BitVec 32 := 128#32
  let v39 : BitVec 32 := Scalar.addi c0_i32_80 c128_i32_81
  let c1_i32_82 : BitVec 32 := 1#32
  ⟨c0_i32_80, v39, c1_i32_82⟩
def k1_off62 (k1_t17 : Fin k1_t17_loop.trips) : Fin 1 → Nat :=
  let c0_i32_80 : BitVec 32 := 0#32
  let c1_i32_82 : BitVec 32 := 1#32
  let arg17 : BitVec 32 := Scf.iv c0_i32_80 c1_i32_82 k1_t17
  let c16_i32_119 : BitVec 32 := 16#32
  let v55 : BitVec 32 := Scalar.muli arg17 c16_i32_119
  let v56 : Index := Scalar.indexCast v55
  ![v56.toNat]
@[reducible] def k1_t18_loop : Scf.Loop 32 :=
  let c0_i32_85 : BitVec 32 := 0#32
  let c128_i32_86 : BitVec 32 := 128#32
  let v41 : BitVec 32 := Scalar.addi c0_i32_85 c128_i32_86
  let c1_i32_87 : BitVec 32 := 1#32
  ⟨c0_i32_85, v41, c1_i32_87⟩
def k1_off63 (k1_t18 : Fin k1_t18_loop.trips) : Fin 1 → Nat :=
  let c0_i32_85 : BitVec 32 := 0#32
  let c1_i32_87 : BitVec 32 := 1#32
  let arg17 : BitVec 32 := Scf.iv c0_i32_85 c1_i32_87 k1_t18
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk49 (i : grid1.Coords) (v62 : IVec S16 32) : Prop :=
  (∀ (k1_h1 : k1_cond1 i = 1#1), ∀ a x, ((![v62] : Fin 1 → IVec S16 32) a x).toNat < S2048.size a) ∧
  (∀ (k1_h1 : k1_cond1 i = 1#1), ∀ a x, ((![v62] : Fin 1 → IVec S16 32) a x).toNat < S2048.size a)
theorem k1_idx89_inb : ∀ (i : grid1.Coords) (v62 : IVec S16 32) (k1_hw49 : k1_chk49 i v62), ∀ (k1_h1 : k1_cond1 i = 1#1), ∀ a x, ((![v62] : Fin 1 → IVec S16 32) a x).toNat < S2048.size a := fun i v62 k1_hw49 k1_h1 => k1_hw49.1 k1_h1
theorem k1_idx90_inb : ∀ (i : grid1.Coords) (v62 : IVec S16 32) (k1_hw49 : k1_chk49 i v62), ∀ (k1_h1 : k1_cond1 i = 1#1), ∀ a x, ((![v62] : Fin 1 → IVec S16 32) a x).toNat < S2048.size a := fun i v62 k1_hw49 k1_h1 => k1_hw49.2 k1_h1
def k1_off64 (k1_t18 : Fin k1_t18_loop.trips) (c0_i32_120 : BitVec 32) : Fin 1 → Nat :=
  let c0_i32_85 : BitVec 32 := 0#32
  let c1_i32_87 : BitVec 32 := 1#32
  let arg17 : BitVec 32 := Scf.iv c0_i32_85 c1_i32_87 k1_t18
  let c16_i32_119 : BitVec 32 := 16#32
  let v55 : BitVec 32 := Scalar.muli arg17 c16_i32_119
  let v56 : BitVec 32 := Scalar.addi v55 c0_i32_120
  let v69 : Index := Scalar.indexCast v56
  ![v69.toNat]

def k1_chk50 (i : grid1.Coords) (v78 : IVec S16 32) : Prop :=
  (∀ (k1_h1 : k1_cond1 i = 1#1), ∀ a x, ((![v78] : Fin 1 → IVec S16 32) a x).toNat < S2048.size a) ∧
  (∀ (k1_h1 : k1_cond1 i = 1#1), ∀ a x, ((![v78] : Fin 1 → IVec S16 32) a x).toNat < S2048.size a)
theorem k1_idx91_inb : ∀ (i : grid1.Coords) (v78 : IVec S16 32) (k1_hw50 : k1_chk50 i v78), ∀ (k1_h1 : k1_cond1 i = 1#1), ∀ a x, ((![v78] : Fin 1 → IVec S16 32) a x).toNat < S2048.size a := fun i v78 k1_hw50 k1_h1 => k1_hw50.1 k1_h1
theorem k1_idx92_inb : ∀ (i : grid1.Coords) (v78 : IVec S16 32) (k1_hw50 : k1_chk50 i v78), ∀ (k1_h1 : k1_cond1 i = 1#1), ∀ a x, ((![v78] : Fin 1 → IVec S16 32) a x).toNat < S2048.size a := fun i v78 k1_hw50 k1_h1 => k1_hw50.2 k1_h1
def k1_off65 (k1_t18 : Fin k1_t18_loop.trips) (c2048_i32 : BitVec 32) : Fin 1 → Nat :=
  let c0_i32_85 : BitVec 32 := 0#32
  let c1_i32_87 : BitVec 32 := 1#32
  let arg17 : BitVec 32 := Scf.iv c0_i32_85 c1_i32_87 k1_t18
  let c16_i32_122 : BitVec 32 := 16#32
  let v71 : BitVec 32 := Scalar.muli arg17 c16_i32_122
  let v72 : BitVec 32 := Scalar.addi v71 c2048_i32
  let v85 : Index := Scalar.indexCast v72
  ![v85.toNat]

def k1_chk51 (i : grid1.Coords) (v94 : IVec S16 32) : Prop :=
  (∀ (k1_h1 : k1_cond1 i = 1#1), ∀ a x, ((![v94] : Fin 1 → IVec S16 32) a x).toNat < S2048.size a) ∧
  (∀ (k1_h1 : k1_cond1 i = 1#1), ∀ a x, ((![v94] : Fin 1 → IVec S16 32) a x).toNat < S2048.size a)
theorem k1_idx93_inb : ∀ (i : grid1.Coords) (v94 : IVec S16 32) (k1_hw51 : k1_chk51 i v94), ∀ (k1_h1 : k1_cond1 i = 1#1), ∀ a x, ((![v94] : Fin 1 → IVec S16 32) a x).toNat < S2048.size a := fun i v94 k1_hw51 k1_h1 => k1_hw51.1 k1_h1
theorem k1_idx94_inb : ∀ (i : grid1.Coords) (v94 : IVec S16 32) (k1_hw51 : k1_chk51 i v94), ∀ (k1_h1 : k1_cond1 i = 1#1), ∀ a x, ((![v94] : Fin 1 → IVec S16 32) a x).toNat < S2048.size a := fun i v94 k1_hw51 k1_h1 => k1_hw51.2 k1_h1
def k1_off66 (k1_t18 : Fin k1_t18_loop.trips) (c4096_i32 : BitVec 32) : Fin 1 → Nat :=
  let c0_i32_85 : BitVec 32 := 0#32
  let c1_i32_87 : BitVec 32 := 1#32
  let arg17 : BitVec 32 := Scf.iv c0_i32_85 c1_i32_87 k1_t18
  let c16_i32_129 : BitVec 32 := 16#32
  let v87 : BitVec 32 := Scalar.muli arg17 c16_i32_129
  let v88 : BitVec 32 := Scalar.addi v87 c4096_i32
  let v101 : Index := Scalar.indexCast v88
  ![v101.toNat]

def k1_chk52 (i : grid1.Coords) (v110 : IVec S16 32) : Prop :=
  (∀ (k1_h1 : k1_cond1 i = 1#1), ∀ a x, ((![v110] : Fin 1 → IVec S16 32) a x).toNat < S2048.size a) ∧
  (∀ (k1_h1 : k1_cond1 i = 1#1), ∀ a x, ((![v110] : Fin 1 → IVec S16 32) a x).toNat < S2048.size a)
theorem k1_idx95_inb : ∀ (i : grid1.Coords) (v110 : IVec S16 32) (k1_hw52 : k1_chk52 i v110), ∀ (k1_h1 : k1_cond1 i = 1#1), ∀ a x, ((![v110] : Fin 1 → IVec S16 32) a x).toNat < S2048.size a := fun i v110 k1_hw52 k1_h1 => k1_hw52.1 k1_h1
theorem k1_idx96_inb : ∀ (i : grid1.Coords) (v110 : IVec S16 32) (k1_hw52 : k1_chk52 i v110), ∀ (k1_h1 : k1_cond1 i = 1#1), ∀ a x, ((![v110] : Fin 1 → IVec S16 32) a x).toNat < S2048.size a := fun i v110 k1_hw52 k1_h1 => k1_hw52.2 k1_h1
def k1_off67 (k1_t18 : Fin k1_t18_loop.trips) : Fin 1 → Nat :=
  let c0_i32_85 : BitVec 32 := 0#32
  let c1_i32_87 : BitVec 32 := 1#32
  let arg17 : BitVec 32 := Scf.iv c0_i32_85 c1_i32_87 k1_t18
  let c16_i32_136 : BitVec 32 := 16#32
  let v103 : BitVec 32 := Scalar.muli arg17 c16_i32_136
  let c6144_i32 : BitVec 32 := 6144#32
  let v104 : BitVec 32 := Scalar.addi v103 c6144_i32
  let v117 : Index := Scalar.indexCast v104
  ![v117.toNat]
@[reducible] def k1_t19_loop : Scf.Loop 32 :=
  let c0_i32_90 : BitVec 32 := 0#32
  let c128_i32_91 : BitVec 32 := 128#32
  let v43 : BitVec 32 := Scalar.addi c0_i32_90 c128_i32_91
  let c1_i32_92 : BitVec 32 := 1#32
  ⟨c0_i32_90, v43, c1_i32_92⟩
def k1_off68 (k1_t19 : Fin k1_t19_loop.trips) : Fin 1 → Nat :=
  let c0_i32_90 : BitVec 32 := 0#32
  let c1_i32_92 : BitVec 32 := 1#32
  let arg17 : BitVec 32 := Scf.iv c0_i32_90 c1_i32_92 k1_t19
  let c16_i32_119 : BitVec 32 := 16#32
  let v55 : BitVec 32 := Scalar.muli arg17 c16_i32_119
  let v56 : Index := Scalar.indexCast v55
  ![v56.toNat]
@[reducible] def k1_t20_loop : Scf.Loop 32 :=
  let c0_i32_95 : BitVec 32 := 0#32
  let c128_i32_96 : BitVec 32 := 128#32
  let v45 : BitVec 32 := Scalar.addi c0_i32_95 c128_i32_96
  let c1_i32_97 : BitVec 32 := 1#32
  ⟨c0_i32_95, v45, c1_i32_97⟩
def k1_off69 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk53 (i : grid1.Coords) (v62 : IVec S16 32) : Prop :=
  (∀ (k1_h1 : k1_cond1 i = 1#1), ∀ a x, ((![v62] : Fin 1 → IVec S16 32) a x).toNat < S2048.size a)
theorem k1_idx97_inb : ∀ (i : grid1.Coords) (v62 : IVec S16 32) (k1_hw53 : k1_chk53 i v62), ∀ (k1_h1 : k1_cond1 i = 1#1), ∀ a x, ((![v62] : Fin 1 → IVec S16 32) a x).toNat < S2048.size a := fun i v62 k1_hw53 k1_h1 => k1_hw53 k1_h1
def k1_off70 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k1_chk54 (i : grid1.Coords) (v66 : IVec S16 32) : Prop :=
  (∀ (k1_h1 : k1_cond1 i = 1#1), ∀ a x, ((![v66] : Fin 1 → IVec S16 32) a x).toNat < S8192.size a) ∧
  (∀ (k1_h1 : k1_cond1 i = 1#1), ∀ a x, ((![v66] : Fin 1 → IVec S16 32) a x).toNat < S8192.size a)
theorem k1_idx98_inb : ∀ (i : grid1.Coords) (v66 : IVec S16 32) (k1_hw54 : k1_chk54 i v66), ∀ (k1_h1 : k1_cond1 i = 1#1), ∀ a x, ((![v66] : Fin 1 → IVec S16 32) a x).toNat < S8192.size a := fun i v66 k1_hw54 k1_h1 => k1_hw54.1 k1_h1
theorem k1_idx99_inb : ∀ (i : grid1.Coords) (v66 : IVec S16 32) (k1_hw54 : k1_chk54 i v66), ∀ (k1_h1 : k1_cond1 i = 1#1), ∀ a x, ((![v66] : Fin 1 → IVec S16 32) a x).toNat < S8192.size a := fun i v66 k1_hw54 k1_h1 => k1_hw54.2 k1_h1
def k1_off71 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_121 : BitVec 32 := 16#32
  let v69 : BitVec 32 := Scalar.muli arg17 c16_i32_121
  let c2048_i32 : BitVec 32 := 2048#32
  let v70 : BitVec 32 := Scalar.addi v69 c2048_i32
  let v71 : Index := Scalar.indexCast v70
  ![v71.toNat]

def k1_chk55 (i : grid1.Coords) (v76 : IVec S16 32) : Prop :=
  (∀ (k1_h1 : k1_cond1 i = 1#1), ∀ a x, ((![v76] : Fin 1 → IVec S16 32) a x).toNat < S2048.size a)
theorem k1_idx100_inb : ∀ (i : grid1.Coords) (v76 : IVec S16 32) (k1_hw55 : k1_chk55 i v76), ∀ (k1_h1 : k1_cond1 i = 1#1), ∀ a x, ((![v76] : Fin 1 → IVec S16 32) a x).toNat < S2048.size a := fun i v76 k1_hw55 k1_h1 => k1_hw55 k1_h1
def k1_off72 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_121 : BitVec 32 := 16#32
  let v69 : BitVec 32 := Scalar.muli arg17 c16_i32_121
  let c2048_i32 : BitVec 32 := 2048#32
  let v70 : BitVec 32 := Scalar.addi v69 c2048_i32
  let v78 : Index := Scalar.indexCast v70
  ![v78.toNat]

def k1_chk56 (i : grid1.Coords) (v80 : IVec S16 32) : Prop :=
  (∀ (k1_h1 : k1_cond1 i = 1#1), ∀ a x, ((![v80] : Fin 1 → IVec S16 32) a x).toNat < S8192.size a) ∧
  (∀ (k1_h1 : k1_cond1 i = 1#1), ∀ a x, ((![v80] : Fin 1 → IVec S16 32) a x).toNat < S8192.size a)
theorem k1_idx101_inb : ∀ (i : grid1.Coords) (v80 : IVec S16 32) (k1_hw56 : k1_chk56 i v80), ∀ (k1_h1 : k1_cond1 i = 1#1), ∀ a x, ((![v80] : Fin 1 → IVec S16 32) a x).toNat < S8192.size a := fun i v80 k1_hw56 k1_h1 => k1_hw56.1 k1_h1
theorem k1_idx102_inb : ∀ (i : grid1.Coords) (v80 : IVec S16 32) (k1_hw56 : k1_chk56 i v80), ∀ (k1_h1 : k1_cond1 i = 1#1), ∀ a x, ((![v80] : Fin 1 → IVec S16 32) a x).toNat < S8192.size a := fun i v80 k1_hw56 k1_h1 => k1_hw56.2 k1_h1
def k1_off73 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_124 : BitVec 32 := 16#32
  let v83 : BitVec 32 := Scalar.muli arg17 c16_i32_124
  let c4096_i32 : BitVec 32 := 4096#32
  let v84 : BitVec 32 := Scalar.addi v83 c4096_i32
  let v85 : Index := Scalar.indexCast v84
  ![v85.toNat]

def k1_chk57 (i : grid1.Coords) (v90 : IVec S16 32) : Prop :=
  (∀ (k1_h1 : k1_cond1 i = 1#1), ∀ a x, ((![v90] : Fin 1 → IVec S16 32) a x).toNat < S2048.size a)
theorem k1_idx103_inb : ∀ (i : grid1.Coords) (v90 : IVec S16 32) (k1_hw57 : k1_chk57 i v90), ∀ (k1_h1 : k1_cond1 i = 1#1), ∀ a x, ((![v90] : Fin 1 → IVec S16 32) a x).toNat < S2048.size a := fun i v90 k1_hw57 k1_h1 => k1_hw57 k1_h1
def k1_off74 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_124 : BitVec 32 := 16#32
  let v83 : BitVec 32 := Scalar.muli arg17 c16_i32_124
  let c4096_i32 : BitVec 32 := 4096#32
  let v84 : BitVec 32 := Scalar.addi v83 c4096_i32
  let v92 : Index := Scalar.indexCast v84
  ![v92.toNat]

def k1_chk58 (i : grid1.Coords) (v94 : IVec S16 32) : Prop :=
  (∀ (k1_h1 : k1_cond1 i = 1#1), ∀ a x, ((![v94] : Fin 1 → IVec S16 32) a x).toNat < S8192.size a) ∧
  (∀ (k1_h1 : k1_cond1 i = 1#1), ∀ a x, ((![v94] : Fin 1 → IVec S16 32) a x).toNat < S8192.size a)
theorem k1_idx104_inb : ∀ (i : grid1.Coords) (v94 : IVec S16 32) (k1_hw58 : k1_chk58 i v94), ∀ (k1_h1 : k1_cond1 i = 1#1), ∀ a x, ((![v94] : Fin 1 → IVec S16 32) a x).toNat < S8192.size a := fun i v94 k1_hw58 k1_h1 => k1_hw58.1 k1_h1
theorem k1_idx105_inb : ∀ (i : grid1.Coords) (v94 : IVec S16 32) (k1_hw58 : k1_chk58 i v94), ∀ (k1_h1 : k1_cond1 i = 1#1), ∀ a x, ((![v94] : Fin 1 → IVec S16 32) a x).toNat < S8192.size a := fun i v94 k1_hw58 k1_h1 => k1_hw58.2 k1_h1
def k1_off75 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_127 : BitVec 32 := 16#32
  let v97 : BitVec 32 := Scalar.muli arg17 c16_i32_127
  let c6144_i32 : BitVec 32 := 6144#32
  let v98 : BitVec 32 := Scalar.addi v97 c6144_i32
  let v99 : Index := Scalar.indexCast v98
  ![v99.toNat]

def k1_chk59 (i : grid1.Coords) (v104 : IVec S16 32) : Prop :=
  (∀ (k1_h1 : k1_cond1 i = 1#1), ∀ a x, ((![v104] : Fin 1 → IVec S16 32) a x).toNat < S2048.size a)
theorem k1_idx106_inb : ∀ (i : grid1.Coords) (v104 : IVec S16 32) (k1_hw59 : k1_chk59 i v104), ∀ (k1_h1 : k1_cond1 i = 1#1), ∀ a x, ((![v104] : Fin 1 → IVec S16 32) a x).toNat < S2048.size a := fun i v104 k1_hw59 k1_h1 => k1_hw59 k1_h1
def k1_off76 (k1_t20 : Fin k1_t20_loop.trips) : Fin 1 → Nat :=
  let c0_i32_95 : BitVec 32 := 0#32
  let c1_i32_97 : BitVec 32 := 1#32
  let arg17 : BitVec 32 := Scf.iv c0_i32_95 c1_i32_97 k1_t20
  let c16_i32_127 : BitVec 32 := 16#32
  let v97 : BitVec 32 := Scalar.muli arg17 c16_i32_127
  let c6144_i32 : BitVec 32 := 6144#32
  let v98 : BitVec 32 := Scalar.addi v97 c6144_i32
  let v106 : Index := Scalar.indexCast v98
  ![v106.toNat]

def k1_chk60 (i : grid1.Coords) (v108 : IVec S16 32) : Prop :=
  (∀ (k1_h1 : k1_cond1 i = 1#1), ∀ a x, ((![v108] : Fin 1 → IVec S16 32) a x).toNat < S8192.size a) ∧
  (∀ (k1_h1 : k1_cond1 i = 1#1), ∀ a x, ((![v108] : Fin 1 → IVec S16 32) a x).toNat < S8192.size a)
theorem k1_idx107_inb : ∀ (i : grid1.Coords) (v108 : IVec S16 32) (k1_hw60 : k1_chk60 i v108), ∀ (k1_h1 : k1_cond1 i = 1#1), ∀ a x, ((![v108] : Fin 1 → IVec S16 32) a x).toNat < S8192.size a := fun i v108 k1_hw60 k1_h1 => k1_hw60.1 k1_h1
theorem k1_idx108_inb : ∀ (i : grid1.Coords) (v108 : IVec S16 32) (k1_hw60 : k1_chk60 i v108), ∀ (k1_h1 : k1_cond1 i = 1#1), ∀ a x, ((![v108] : Fin 1 → IVec S16 32) a x).toNat < S8192.size a := fun i v108 k1_hw60 k1_h1 => k1_hw60.2 k1_h1
@[reducible] def k1_t21_loop : Scf.Loop 32 :=
  let c0_i32_100 : BitVec 32 := 0#32
  let c128_i32_101 : BitVec 32 := 128#32
  let v47 : BitVec 32 := Scalar.addi c0_i32_100 c128_i32_101
  let c1_i32_102 : BitVec 32 := 1#32
  ⟨c0_i32_100, v47, c1_i32_102⟩
def k1_off77 (k1_t21 : Fin k1_t21_loop.trips) : Fin 1 → Nat :=
  let c0_i32_100 : BitVec 32 := 0#32
  let c1_i32_102 : BitVec 32 := 1#32
  let arg17 : BitVec 32 := Scf.iv c0_i32_100 c1_i32_102 k1_t21
  let c16_i32_119 : BitVec 32 := 16#32
  let v55 : BitVec 32 := Scalar.muli arg17 c16_i32_119
  let v56 : Index := Scalar.indexCast v55
  ![v56.toNat]
@[reducible] def k1_t22_loop : Scf.Loop 32 :=
  let c0_i32_105 : BitVec 32 := 0#32
  let c128_i32_106 : BitVec 32 := 128#32
  let v49 : BitVec 32 := Scalar.addi c0_i32_105 c128_i32_106
  let c1_i32_107 : BitVec 32 := 1#32
  ⟨c0_i32_105, v49, c1_i32_107⟩
def k1_off78 (k1_t22 : Fin k1_t22_loop.trips) : Fin 1 → Nat :=
  let c0_i32_105 : BitVec 32 := 0#32
  let c1_i32_107 : BitVec 32 := 1#32
  let arg17 : BitVec 32 := Scf.iv c0_i32_105 c1_i32_107 k1_t22
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk61 (i : grid1.Coords) (v62 : IVec S16 32) : Prop :=
  (∀ (k1_h1 : k1_cond1 i = 1#1), ∀ a x, ((![v62] : Fin 1 → IVec S16 32) a x).toNat < S2048.size a) ∧
  (∀ (k1_h1 : k1_cond1 i = 1#1), ∀ a x, ((![v62] : Fin 1 → IVec S16 32) a x).toNat < S2048.size a)
theorem k1_idx109_inb : ∀ (i : grid1.Coords) (v62 : IVec S16 32) (k1_hw61 : k1_chk61 i v62), ∀ (k1_h1 : k1_cond1 i = 1#1), ∀ a x, ((![v62] : Fin 1 → IVec S16 32) a x).toNat < S2048.size a := fun i v62 k1_hw61 k1_h1 => k1_hw61.1 k1_h1
theorem k1_idx110_inb : ∀ (i : grid1.Coords) (v62 : IVec S16 32) (k1_hw61 : k1_chk61 i v62), ∀ (k1_h1 : k1_cond1 i = 1#1), ∀ a x, ((![v62] : Fin 1 → IVec S16 32) a x).toNat < S2048.size a := fun i v62 k1_hw61 k1_h1 => k1_hw61.2 k1_h1
def k1_off79 (k1_t22 : Fin k1_t22_loop.trips) (c0_i32_120 : BitVec 32) : Fin 1 → Nat :=
  let c0_i32_105 : BitVec 32 := 0#32
  let c1_i32_107 : BitVec 32 := 1#32
  let arg17 : BitVec 32 := Scf.iv c0_i32_105 c1_i32_107 k1_t22
  let c16_i32_119 : BitVec 32 := 16#32
  let v55 : BitVec 32 := Scalar.muli arg17 c16_i32_119
  let v56 : BitVec 32 := Scalar.addi v55 c0_i32_120
  let v69 : Index := Scalar.indexCast v56
  ![v69.toNat]

def k1_chk62 (i : grid1.Coords) (v78 : IVec S16 32) : Prop :=
  (∀ (k1_h1 : k1_cond1 i = 1#1), ∀ a x, ((![v78] : Fin 1 → IVec S16 32) a x).toNat < S2048.size a) ∧
  (∀ (k1_h1 : k1_cond1 i = 1#1), ∀ a x, ((![v78] : Fin 1 → IVec S16 32) a x).toNat < S2048.size a)
theorem k1_idx111_inb : ∀ (i : grid1.Coords) (v78 : IVec S16 32) (k1_hw62 : k1_chk62 i v78), ∀ (k1_h1 : k1_cond1 i = 1#1), ∀ a x, ((![v78] : Fin 1 → IVec S16 32) a x).toNat < S2048.size a := fun i v78 k1_hw62 k1_h1 => k1_hw62.1 k1_h1
theorem k1_idx112_inb : ∀ (i : grid1.Coords) (v78 : IVec S16 32) (k1_hw62 : k1_chk62 i v78), ∀ (k1_h1 : k1_cond1 i = 1#1), ∀ a x, ((![v78] : Fin 1 → IVec S16 32) a x).toNat < S2048.size a := fun i v78 k1_hw62 k1_h1 => k1_hw62.2 k1_h1
def k1_off80 (k1_t22 : Fin k1_t22_loop.trips) (c2048_i32 : BitVec 32) : Fin 1 → Nat :=
  let c0_i32_105 : BitVec 32 := 0#32
  let c1_i32_107 : BitVec 32 := 1#32
  let arg17 : BitVec 32 := Scf.iv c0_i32_105 c1_i32_107 k1_t22
  let c16_i32_122 : BitVec 32 := 16#32
  let v71 : BitVec 32 := Scalar.muli arg17 c16_i32_122
  let v72 : BitVec 32 := Scalar.addi v71 c2048_i32
  let v85 : Index := Scalar.indexCast v72
  ![v85.toNat]

def k1_chk63 (i : grid1.Coords) (v94 : IVec S16 32) : Prop :=
  (∀ (k1_h1 : k1_cond1 i = 1#1), ∀ a x, ((![v94] : Fin 1 → IVec S16 32) a x).toNat < S2048.size a) ∧
  (∀ (k1_h1 : k1_cond1 i = 1#1), ∀ a x, ((![v94] : Fin 1 → IVec S16 32) a x).toNat < S2048.size a)
theorem k1_idx113_inb : ∀ (i : grid1.Coords) (v94 : IVec S16 32) (k1_hw63 : k1_chk63 i v94), ∀ (k1_h1 : k1_cond1 i = 1#1), ∀ a x, ((![v94] : Fin 1 → IVec S16 32) a x).toNat < S2048.size a := fun i v94 k1_hw63 k1_h1 => k1_hw63.1 k1_h1
theorem k1_idx114_inb : ∀ (i : grid1.Coords) (v94 : IVec S16 32) (k1_hw63 : k1_chk63 i v94), ∀ (k1_h1 : k1_cond1 i = 1#1), ∀ a x, ((![v94] : Fin 1 → IVec S16 32) a x).toNat < S2048.size a := fun i v94 k1_hw63 k1_h1 => k1_hw63.2 k1_h1
def k1_off81 (k1_t22 : Fin k1_t22_loop.trips) (c4096_i32 : BitVec 32) : Fin 1 → Nat :=
  let c0_i32_105 : BitVec 32 := 0#32
  let c1_i32_107 : BitVec 32 := 1#32
  let arg17 : BitVec 32 := Scf.iv c0_i32_105 c1_i32_107 k1_t22
  let c16_i32_129 : BitVec 32 := 16#32
  let v87 : BitVec 32 := Scalar.muli arg17 c16_i32_129
  let v88 : BitVec 32 := Scalar.addi v87 c4096_i32
  let v101 : Index := Scalar.indexCast v88
  ![v101.toNat]

def k1_chk64 (i : grid1.Coords) (v110 : IVec S16 32) : Prop :=
  (∀ (k1_h1 : k1_cond1 i = 1#1), ∀ a x, ((![v110] : Fin 1 → IVec S16 32) a x).toNat < S2048.size a) ∧
  (∀ (k1_h1 : k1_cond1 i = 1#1), ∀ a x, ((![v110] : Fin 1 → IVec S16 32) a x).toNat < S2048.size a)
theorem k1_idx115_inb : ∀ (i : grid1.Coords) (v110 : IVec S16 32) (k1_hw64 : k1_chk64 i v110), ∀ (k1_h1 : k1_cond1 i = 1#1), ∀ a x, ((![v110] : Fin 1 → IVec S16 32) a x).toNat < S2048.size a := fun i v110 k1_hw64 k1_h1 => k1_hw64.1 k1_h1
theorem k1_idx116_inb : ∀ (i : grid1.Coords) (v110 : IVec S16 32) (k1_hw64 : k1_chk64 i v110), ∀ (k1_h1 : k1_cond1 i = 1#1), ∀ a x, ((![v110] : Fin 1 → IVec S16 32) a x).toNat < S2048.size a := fun i v110 k1_hw64 k1_h1 => k1_hw64.2 k1_h1
def k1_off82 (k1_t22 : Fin k1_t22_loop.trips) : Fin 1 → Nat :=
  let c0_i32_105 : BitVec 32 := 0#32
  let c1_i32_107 : BitVec 32 := 1#32
  let arg17 : BitVec 32 := Scf.iv c0_i32_105 c1_i32_107 k1_t22
  let c16_i32_136 : BitVec 32 := 16#32
  let v103 : BitVec 32 := Scalar.muli arg17 c16_i32_136
  let c6144_i32 : BitVec 32 := 6144#32
  let v104 : BitVec 32 := Scalar.addi v103 c6144_i32
  let v117 : Index := Scalar.indexCast v104
  ![v117.toNat]
@[reducible] def k1_t23_loop : Scf.Loop 32 :=
  let c0_i32_110 : BitVec 32 := 0#32
  let c128_i32_111 : BitVec 32 := 128#32
  let v51 : BitVec 32 := Scalar.addi c0_i32_110 c128_i32_111
  let c1_i32_112 : BitVec 32 := 1#32
  ⟨c0_i32_110, v51, c1_i32_112⟩
def k1_off83 (k1_t23 : Fin k1_t23_loop.trips) : Fin 1 → Nat :=
  let c0_i32_110 : BitVec 32 := 0#32
  let c1_i32_112 : BitVec 32 := 1#32
  let arg17 : BitVec 32 := Scf.iv c0_i32_110 c1_i32_112 k1_t23
  let c16_i32_119 : BitVec 32 := 16#32
  let v55 : BitVec 32 := Scalar.muli arg17 c16_i32_119
  let v56 : Index := Scalar.indexCast v55
  ![v56.toNat]
@[reducible] def k1_t24_loop : Scf.Loop 32 :=
  let c0_i32_115 : BitVec 32 := 0#32
  let c128_i32_116 : BitVec 32 := 128#32
  let v53 : BitVec 32 := Scalar.addi c0_i32_115 c128_i32_116
  let c1_i32_117 : BitVec 32 := 1#32
  ⟨c0_i32_115, v53, c1_i32_117⟩
def k1_off84 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k1_chk65 (i : grid1.Coords) (v62 : IVec S16 32) : Prop :=
  (∀ (k1_h1 : k1_cond1 i = 1#1), ∀ a x, ((![v62] : Fin 1 → IVec S16 32) a x).toNat < S2048.size a)
theorem k1_idx117_inb : ∀ (i : grid1.Coords) (v62 : IVec S16 32) (k1_hw65 : k1_chk65 i v62), ∀ (k1_h1 : k1_cond1 i = 1#1), ∀ a x, ((![v62] : Fin 1 → IVec S16 32) a x).toNat < S2048.size a := fun i v62 k1_hw65 k1_h1 => k1_hw65 k1_h1
def k1_off85 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k1_chk66 (i : grid1.Coords) (v66 : IVec S16 32) : Prop :=
  (∀ (k1_h1 : k1_cond1 i = 1#1), ∀ a x, ((![v66] : Fin 1 → IVec S16 32) a x).toNat < S8192.size a)
theorem k1_idx118_inb : ∀ (i : grid1.Coords) (v66 : IVec S16 32) (k1_hw66 : k1_chk66 i v66), ∀ (k1_h1 : k1_cond1 i = 1#1), ∀ a x, ((![v66] : Fin 1 → IVec S16 32) a x).toNat < S8192.size a := fun i v66 k1_hw66 k1_h1 => k1_hw66 k1_h1

def k1_chk67 (i : grid1.Coords) (v68 : IVec S16 32) : Prop :=
  (∀ (k1_h1 : k1_cond1 i = 1#1), ∀ a x, ((![v68] : Fin 1 → IVec S16 32) a x).toNat < S8192.size a)
theorem k1_idx119_inb : ∀ (i : grid1.Coords) (v68 : IVec S16 32) (k1_hw67 : k1_chk67 i v68), ∀ (k1_h1 : k1_cond1 i = 1#1), ∀ a x, ((![v68] : Fin 1 → IVec S16 32) a x).toNat < S8192.size a := fun i v68 k1_hw67 k1_h1 => k1_hw67 k1_h1
def k1_off86 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_121 : BitVec 32 := 16#32
  let v69 : BitVec 32 := Scalar.muli arg17 c16_i32_121
  let c2048_i32 : BitVec 32 := 2048#32
  let v70 : BitVec 32 := Scalar.addi v69 c2048_i32
  let v71 : Index := Scalar.indexCast v70
  ![v71.toNat]

def k1_chk68 (i : grid1.Coords) (v76 : IVec S16 32) : Prop :=
  (∀ (k1_h1 : k1_cond1 i = 1#1), ∀ a x, ((![v76] : Fin 1 → IVec S16 32) a x).toNat < S2048.size a)
theorem k1_idx120_inb : ∀ (i : grid1.Coords) (v76 : IVec S16 32) (k1_hw68 : k1_chk68 i v76), ∀ (k1_h1 : k1_cond1 i = 1#1), ∀ a x, ((![v76] : Fin 1 → IVec S16 32) a x).toNat < S2048.size a := fun i v76 k1_hw68 k1_h1 => k1_hw68 k1_h1
def k1_off87 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_121 : BitVec 32 := 16#32
  let v69 : BitVec 32 := Scalar.muli arg17 c16_i32_121
  let c2048_i32 : BitVec 32 := 2048#32
  let v70 : BitVec 32 := Scalar.addi v69 c2048_i32
  let v78 : Index := Scalar.indexCast v70
  ![v78.toNat]

def k1_chk69 (i : grid1.Coords) (v80 : IVec S16 32) : Prop :=
  (∀ (k1_h1 : k1_cond1 i = 1#1), ∀ a x, ((![v80] : Fin 1 → IVec S16 32) a x).toNat < S8192.size a)
theorem k1_idx121_inb : ∀ (i : grid1.Coords) (v80 : IVec S16 32) (k1_hw69 : k1_chk69 i v80), ∀ (k1_h1 : k1_cond1 i = 1#1), ∀ a x, ((![v80] : Fin 1 → IVec S16 32) a x).toNat < S8192.size a := fun i v80 k1_hw69 k1_h1 => k1_hw69 k1_h1

def k1_chk70 (i : grid1.Coords) (v82 : IVec S16 32) : Prop :=
  (∀ (k1_h1 : k1_cond1 i = 1#1), ∀ a x, ((![v82] : Fin 1 → IVec S16 32) a x).toNat < S8192.size a)
theorem k1_idx122_inb : ∀ (i : grid1.Coords) (v82 : IVec S16 32) (k1_hw70 : k1_chk70 i v82), ∀ (k1_h1 : k1_cond1 i = 1#1), ∀ a x, ((![v82] : Fin 1 → IVec S16 32) a x).toNat < S8192.size a := fun i v82 k1_hw70 k1_h1 => k1_hw70 k1_h1
def k1_off88 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_124 : BitVec 32 := 16#32
  let v83 : BitVec 32 := Scalar.muli arg17 c16_i32_124
  let c4096_i32 : BitVec 32 := 4096#32
  let v84 : BitVec 32 := Scalar.addi v83 c4096_i32
  let v85 : Index := Scalar.indexCast v84
  ![v85.toNat]

def k1_chk71 (i : grid1.Coords) (v90 : IVec S16 32) : Prop :=
  (∀ (k1_h1 : k1_cond1 i = 1#1), ∀ a x, ((![v90] : Fin 1 → IVec S16 32) a x).toNat < S2048.size a)
theorem k1_idx123_inb : ∀ (i : grid1.Coords) (v90 : IVec S16 32) (k1_hw71 : k1_chk71 i v90), ∀ (k1_h1 : k1_cond1 i = 1#1), ∀ a x, ((![v90] : Fin 1 → IVec S16 32) a x).toNat < S2048.size a := fun i v90 k1_hw71 k1_h1 => k1_hw71 k1_h1
def k1_off89 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_124 : BitVec 32 := 16#32
  let v83 : BitVec 32 := Scalar.muli arg17 c16_i32_124
  let c4096_i32 : BitVec 32 := 4096#32
  let v84 : BitVec 32 := Scalar.addi v83 c4096_i32
  let v92 : Index := Scalar.indexCast v84
  ![v92.toNat]

def k1_chk72 (i : grid1.Coords) (v94 : IVec S16 32) : Prop :=
  (∀ (k1_h1 : k1_cond1 i = 1#1), ∀ a x, ((![v94] : Fin 1 → IVec S16 32) a x).toNat < S8192.size a)
theorem k1_idx124_inb : ∀ (i : grid1.Coords) (v94 : IVec S16 32) (k1_hw72 : k1_chk72 i v94), ∀ (k1_h1 : k1_cond1 i = 1#1), ∀ a x, ((![v94] : Fin 1 → IVec S16 32) a x).toNat < S8192.size a := fun i v94 k1_hw72 k1_h1 => k1_hw72 k1_h1

def k1_chk73 (i : grid1.Coords) (v96 : IVec S16 32) : Prop :=
  (∀ (k1_h1 : k1_cond1 i = 1#1), ∀ a x, ((![v96] : Fin 1 → IVec S16 32) a x).toNat < S8192.size a)
theorem k1_idx125_inb : ∀ (i : grid1.Coords) (v96 : IVec S16 32) (k1_hw73 : k1_chk73 i v96), ∀ (k1_h1 : k1_cond1 i = 1#1), ∀ a x, ((![v96] : Fin 1 → IVec S16 32) a x).toNat < S8192.size a := fun i v96 k1_hw73 k1_h1 => k1_hw73 k1_h1
def k1_off90 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_127 : BitVec 32 := 16#32
  let v97 : BitVec 32 := Scalar.muli arg17 c16_i32_127
  let c6144_i32 : BitVec 32 := 6144#32
  let v98 : BitVec 32 := Scalar.addi v97 c6144_i32
  let v99 : Index := Scalar.indexCast v98
  ![v99.toNat]

def k1_chk74 (i : grid1.Coords) (v104 : IVec S16 32) : Prop :=
  (∀ (k1_h1 : k1_cond1 i = 1#1), ∀ a x, ((![v104] : Fin 1 → IVec S16 32) a x).toNat < S2048.size a)
theorem k1_idx126_inb : ∀ (i : grid1.Coords) (v104 : IVec S16 32) (k1_hw74 : k1_chk74 i v104), ∀ (k1_h1 : k1_cond1 i = 1#1), ∀ a x, ((![v104] : Fin 1 → IVec S16 32) a x).toNat < S2048.size a := fun i v104 k1_hw74 k1_h1 => k1_hw74 k1_h1
def k1_off91 (k1_t24 : Fin k1_t24_loop.trips) : Fin 1 → Nat :=
  let c0_i32_115 : BitVec 32 := 0#32
  let c1_i32_117 : BitVec 32 := 1#32
  let arg17 : BitVec 32 := Scf.iv c0_i32_115 c1_i32_117 k1_t24
  let c16_i32_127 : BitVec 32 := 16#32
  let v97 : BitVec 32 := Scalar.muli arg17 c16_i32_127
  let c6144_i32 : BitVec 32 := 6144#32
  let v98 : BitVec 32 := Scalar.addi v97 c6144_i32
  let v106 : Index := Scalar.indexCast v98
  ![v106.toNat]

def k1_chk75 (i : grid1.Coords) (v108 : IVec S16 32) : Prop :=
  (∀ (k1_h1 : k1_cond1 i = 1#1), ∀ a x, ((![v108] : Fin 1 → IVec S16 32) a x).toNat < S8192.size a)
theorem k1_idx127_inb : ∀ (i : grid1.Coords) (v108 : IVec S16 32) (k1_hw75 : k1_chk75 i v108), ∀ (k1_h1 : k1_cond1 i = 1#1), ∀ a x, ((![v108] : Fin 1 → IVec S16 32) a x).toNat < S8192.size a := fun i v108 k1_hw75 k1_h1 => k1_hw75 k1_h1

def k1_chk76 (i : grid1.Coords) (v110 : IVec S16 32) : Prop :=
  (∀ (k1_h1 : k1_cond1 i = 1#1), ∀ a x, ((![v110] : Fin 1 → IVec S16 32) a x).toNat < S8192.size a)
theorem k1_idx128_inb : ∀ (i : grid1.Coords) (v110 : IVec S16 32) (k1_hw76 : k1_chk76 i v110), ∀ (k1_h1 : k1_cond1 i = 1#1), ∀ a x, ((![v110] : Fin 1 → IVec S16 32) a x).toNat < S8192.size a := fun i v110 k1_hw76 k1_h1 => k1_hw76 k1_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x8192x3 : Shape := ⟨3, ![16, 8192, 3]⟩
abbrev S_ : Shape := ⟨0, ![]⟩
abbrev S16x3 : Shape := ⟨2, ![16, 3]⟩
abbrev S16x1x3 : Shape := ⟨3, ![16, 1, 3]⟩
abbrev S16x8192 : Shape := ⟨2, ![16, 8192]⟩
abbrev S16 : Shape := ⟨1, ![16]⟩
abbrev S16x1x1 : Shape := ⟨3, ![16, 1, 1]⟩
abbrev S16x8192x1 : Shape := ⟨3, ![16, 8192, 1]⟩

abbrev nBuf : Space → Nat
  | .hbm => 1777
  | .vmem => 0
  | .smem => 0
  | _ => 0

abbrev hbmTy0_0 (i : Nat) : BufTy := match i % 128 with
  | 0 => ⟨S16x8192x3, .f32⟩
  | 1 => ⟨S_, .f32⟩
  | 2 => ⟨S16x3, .f32⟩
  | 3 => ⟨S16x1x3, .f32⟩
  | 4 => ⟨S_, .f32⟩
  | 5 => ⟨S16x1x3, .f32⟩
  | 6 => ⟨S16x1x3, .f32⟩
  | 7 => ⟨S16x8192x3, .f32⟩
  | 8 => ⟨S16x8192x3, .f32⟩
  | 9 => ⟨S16x8192x3, .f32⟩
  | 10 => ⟨S_, .f32⟩
  | 11 => ⟨S16x8192, .f32⟩
  | 12 => ⟨S_, .f32⟩
  | 13 => ⟨S16, .f32⟩
  | 14 => ⟨S16, .f32⟩
  | 15 => ⟨S16x1x1, .f32⟩
  | 16 => ⟨S_, .f32⟩
  | 17 => ⟨S16x1x1, .f32⟩
  | 18 => ⟨S16x1x1, .f32⟩
  | 19 => ⟨S_, .f32⟩
  | 20 => ⟨S16x1x1, .f32⟩
  | 21 => ⟨S16x1x1, .f32⟩
  | 22 => ⟨S16x8192x3, .f32⟩
  | 23 => ⟨S16x8192x3, .f32⟩
  | 24 => ⟨S16x8192x3, .f32⟩
  | 25 => ⟨S16x8192x3, .f32⟩
  | 26 => ⟨S_, .f32⟩
  | 27 => ⟨S16x1x1, .f32⟩
  | 28 => ⟨S16x1x1, .f32⟩
  | 29 => ⟨S16x8192x3, .f32⟩
  | 30 => ⟨S16x8192x3, .f32⟩
  | 31 => ⟨S_, .f32⟩
  | 32 => ⟨S16x8192x3, .f32⟩
  | 33 => ⟨S16x8192x3, .f32⟩
  | 34 => ⟨S16x8192x3, .i32⟩
  | 35 => ⟨S_, .i32⟩
  | 36 => ⟨S16x8192x3, .i32⟩
  | 37 => ⟨S16x8192x3, .i32⟩
  | 38 => ⟨S16x8192x1, .i32⟩
  | 39 => ⟨S16x8192, .i32⟩
  | 40 => ⟨S16x8192x1, .i32⟩
  | 41 => ⟨S16x8192, .i32⟩
  | 42 => ⟨S16x8192x1, .i32⟩
  | 43 => ⟨S16x8192, .i32⟩
  | 44 => ⟨S_, .i32⟩
  | 45 => ⟨S16x8192, .i32⟩
  | 46 => ⟨S16x8192, .i32⟩
  | 47 => ⟨S_, .i32⟩
  | 48 => ⟨S16x8192, .i32⟩
  | 49 => ⟨S16x8192, .i1⟩
  | 50 => ⟨S_, .i32⟩
  | 51 => ⟨S16x8192, .i32⟩
  | 52 => ⟨S16x8192, .i32⟩
  | 53 => ⟨S16x8192, .i32⟩
  | 54 => ⟨S_, .i32⟩
  | 55 => ⟨S16x8192, .i32⟩
  | 56 => ⟨S16x8192, .i32⟩
  | 57 => ⟨S_, .i32⟩
  | 58 => ⟨S16x8192, .i32⟩
  | 59 => ⟨S16x8192, .i1⟩
  | 60 => ⟨S16x8192, .i32⟩
  | 61 => ⟨S_, .i32⟩
  | 62 => ⟨S16x8192, .i32⟩
  | 63 => ⟨S16x8192, .i32⟩
  | 64 => ⟨S_, .i32⟩
  | 65 => ⟨S16x8192, .i32⟩
  | 66 => ⟨S16x8192, .i32⟩
  | 67 => ⟨S16x8192, .i32⟩
  | 68 => ⟨S16x8192, .i32⟩
  | 69 => ⟨S16x8192, .i32⟩
  | 70 => ⟨S16x8192, .i32⟩
  | 71 => ⟨S_, .i32⟩
  | 72 => ⟨S16x8192, .i32⟩
  | 73 => ⟨S16x8192, .i32⟩
  | 74 => ⟨S_, .i32⟩
  | 75 => ⟨S16x8192, .i32⟩
  | 76 => ⟨S16x8192, .i1⟩
  | 77 => ⟨S16x8192, .i32⟩
  | 78 => ⟨S_, .i32⟩
  | 79 => ⟨S16x8192, .i32⟩
  | 80 => ⟨S16x8192, .i32⟩
  | 81 => ⟨S_, .i32⟩
  | 82 => ⟨S16x8192, .i32⟩
  | 83 => ⟨S16x8192, .i32⟩
  | 84 => ⟨S16x8192, .i32⟩
  | 85 => ⟨S16x8192, .i32⟩
  | 86 => ⟨S16x8192, .i32⟩
  | 87 => ⟨S16x8192, .i32⟩
  | 88 => ⟨S_, .i32⟩
  | 89 => ⟨S16x8192, .i32⟩
  | 90 => ⟨S16x8192, .i32⟩
  | 91 => ⟨S_, .i32⟩
  | 92 => ⟨S16x8192, .i32⟩
  | 93 => ⟨S16x8192, .i1⟩
  | 94 => ⟨S_, .i32⟩
  | 95 => ⟨S16x8192, .i32⟩
  | 96 => ⟨S16x8192, .i32⟩
  | 97 => ⟨S16x8192, .i32⟩
  | 98 => ⟨S_, .i32⟩
  | 99 => ⟨S16x8192, .i32⟩
  | 100 => ⟨S16x8192, .i32⟩
  | 101 => ⟨S_, .i32⟩
  | 102 => ⟨S16x8192, .i32⟩
  | 103 => ⟨S16x8192, .i1⟩
  | 104 => ⟨S16x8192, .i32⟩
  | 105 => ⟨S_, .i32⟩
  | 106 => ⟨S16x8192, .i32⟩
  | 107 => ⟨S16x8192, .i32⟩
  | 108 => ⟨S_, .i32⟩
  | 109 => ⟨S16x8192, .i32⟩
  | 110 => ⟨S16x8192, .i32⟩
  | 111 => ⟨S16x8192, .i32⟩
  | 112 => ⟨S16x8192, .i32⟩
  | 113 => ⟨S16x8192, .i32⟩
  | 114 => ⟨S16x8192, .i32⟩
  | 115 => ⟨S_, .i32⟩
  | 116 => ⟨S16x8192, .i32⟩
  | 117 => ⟨S16x8192, .i32⟩
  | 118 => ⟨S_, .i32⟩
  | 119 => ⟨S16x8192, .i32⟩
  | 120 => ⟨S16x8192, .i1⟩
  | 121 => ⟨S16x8192, .i32⟩
  | 122 => ⟨S_, .i32⟩
  | 123 => ⟨S16x8192, .i32⟩
  | 124 => ⟨S16x8192, .i32⟩
  | 125 => ⟨S_, .i32⟩
  | 126 => ⟨S16x8192, .i32⟩
  | 127 => ⟨S16x8192, .i32⟩
  | _ => ⟨S16x8192x3, .f32⟩

abbrev hbmTy0_1 (i : Nat) : BufTy := match i % 128 with
  | 0 => ⟨S16x8192, .i32⟩
  | 1 => ⟨S16x8192, .i32⟩
  | 2 => ⟨S16x8192, .i32⟩
  | 3 => ⟨S16x8192, .i32⟩
  | 4 => ⟨S_, .i32⟩
  | 5 => ⟨S16x8192, .i32⟩
  | 6 => ⟨S16x8192, .i32⟩
  | 7 => ⟨S_, .i32⟩
  | 8 => ⟨S16x8192, .i32⟩
  | 9 => ⟨S16x8192, .i1⟩
  | 10 => ⟨S_, .i32⟩
  | 11 => ⟨S16x8192, .i32⟩
  | 12 => ⟨S16x8192, .i32⟩
  | 13 => ⟨S16x8192, .i32⟩
  | 14 => ⟨S_, .i32⟩
  | 15 => ⟨S16x8192, .i32⟩
  | 16 => ⟨S16x8192, .i32⟩
  | 17 => ⟨S_, .i32⟩
  | 18 => ⟨S16x8192, .i32⟩
  | 19 => ⟨S16x8192, .i1⟩
  | 20 => ⟨S16x8192, .i32⟩
  | 21 => ⟨S_, .i32⟩
  | 22 => ⟨S16x8192, .i32⟩
  | 23 => ⟨S16x8192, .i32⟩
  | 24 => ⟨S_, .i32⟩
  | 25 => ⟨S16x8192, .i32⟩
  | 26 => ⟨S16x8192, .i32⟩
  | 27 => ⟨S16x8192, .i32⟩
  | 28 => ⟨S16x8192, .i32⟩
  | 29 => ⟨S16x8192, .i32⟩
  | 30 => ⟨S16x8192, .i32⟩
  | 31 => ⟨S_, .i32⟩
  | 32 => ⟨S16x8192, .i32⟩
  | 33 => ⟨S16x8192, .i32⟩
  | 34 => ⟨S_, .i32⟩
  | 35 => ⟨S16x8192, .i32⟩
  | 36 => ⟨S16x8192, .i1⟩
  | 37 => ⟨S16x8192, .i32⟩
  | 38 => ⟨S_, .i32⟩
  | 39 => ⟨S16x8192, .i32⟩
  | 40 => ⟨S16x8192, .i32⟩
  | 41 => ⟨S_, .i32⟩
  | 42 => ⟨S16x8192, .i32⟩
  | 43 => ⟨S16x8192, .i32⟩
  | 44 => ⟨S16x8192, .i32⟩
  | 45 => ⟨S16x8192, .i32⟩
  | 46 => ⟨S16x8192, .i32⟩
  | 47 => ⟨S16x8192, .i32⟩
  | 48 => ⟨S_, .i32⟩
  | 49 => ⟨S16x8192, .i32⟩
  | 50 => ⟨S16x8192, .i32⟩
  | 51 => ⟨S_, .i32⟩
  | 52 => ⟨S16x8192, .i32⟩
  | 53 => ⟨S16x8192, .i1⟩
  | 54 => ⟨S_, .i32⟩
  | 55 => ⟨S16x8192, .i32⟩
  | 56 => ⟨S16x8192, .i32⟩
  | 57 => ⟨S16x8192, .i32⟩
  | 58 => ⟨S_, .i32⟩
  | 59 => ⟨S16x8192, .i32⟩
  | 60 => ⟨S16x8192, .i32⟩
  | 61 => ⟨S_, .i32⟩
  | 62 => ⟨S16x8192, .i32⟩
  | 63 => ⟨S16x8192, .i1⟩
  | 64 => ⟨S16x8192, .i32⟩
  | 65 => ⟨S_, .i32⟩
  | 66 => ⟨S16x8192, .i32⟩
  | 67 => ⟨S16x8192, .i32⟩
  | 68 => ⟨S_, .i32⟩
  | 69 => ⟨S16x8192, .i32⟩
  | 70 => ⟨S16x8192, .i32⟩
  | 71 => ⟨S16x8192, .i32⟩
  | 72 => ⟨S16x8192, .i32⟩
  | 73 => ⟨S16x8192, .i32⟩
  | 74 => ⟨S16x8192, .i32⟩
  | 75 => ⟨S_, .i32⟩
  | 76 => ⟨S16x8192, .i32⟩
  | 77 => ⟨S16x8192, .i32⟩
  | 78 => ⟨S_, .i32⟩
  | 79 => ⟨S16x8192, .i32⟩
  | 80 => ⟨S16x8192, .i1⟩
  | 81 => ⟨S16x8192, .i32⟩
  | 82 => ⟨S_, .i32⟩
  | 83 => ⟨S16x8192, .i32⟩
  | 84 => ⟨S16x8192, .i32⟩
  | 85 => ⟨S_, .i32⟩
  | 86 => ⟨S16x8192, .i32⟩
  | 87 => ⟨S16x8192, .i32⟩
  | 88 => ⟨S16x8192, .i32⟩
  | 89 => ⟨S16x8192, .i32⟩
  | 90 => ⟨S16x8192, .i32⟩
  | 91 => ⟨S16x8192, .i32⟩
  | 92 => ⟨S_, .i32⟩
  | 93 => ⟨S16x8192, .i32⟩
  | 94 => ⟨S16x8192, .i32⟩
  | 95 => ⟨S_, .i32⟩
  | 96 => ⟨S16x8192, .i32⟩
  | 97 => ⟨S16x8192, .i1⟩
  | 98 => ⟨S_, .i32⟩
  | 99 => ⟨S16x8192, .i32⟩
  | 100 => ⟨S16x8192, .i32⟩
  | 101 => ⟨S16x8192, .i32⟩
  | 102 => ⟨S_, .i32⟩
  | 103 => ⟨S16x8192, .i32⟩
  | 104 => ⟨S16x8192, .i32⟩
  | 105 => ⟨S_, .i32⟩
  | 106 => ⟨S16x8192, .i32⟩
  | 107 => ⟨S16x8192, .i1⟩
  | 108 => ⟨S16x8192, .i32⟩
  | 109 => ⟨S_, .i32⟩
  | 110 => ⟨S16x8192, .i32⟩
  | 111 => ⟨S16x8192, .i32⟩
  | 112 => ⟨S_, .i32⟩
  | 113 => ⟨S16x8192, .i32⟩
  | 114 => ⟨S16x8192, .i32⟩
  | 115 => ⟨S16x8192, .i32⟩
  | 116 => ⟨S16x8192, .i32⟩
  | 117 => ⟨S16x8192, .i32⟩
  | 118 => ⟨S16x8192, .i32⟩
  | 119 => ⟨S_, .i32⟩
  | 120 => ⟨S16x8192, .i32⟩
  | 121 => ⟨S16x8192, .i32⟩
  | 122 => ⟨S_, .i32⟩
  | 123 => ⟨S16x8192, .i32⟩
  | 124 => ⟨S16x8192, .i1⟩
  | 125 => ⟨S16x8192, .i32⟩
  | 126 => ⟨S_, .i32⟩
  | 127 => ⟨S16x8192, .i32⟩
  | _ => ⟨S16x8192x3, .f32⟩

abbrev hbmTy0_2 (i : Nat) : BufTy := match i % 128 with
  | 0 => ⟨S16x8192, .i32⟩
  | 1 => ⟨S_, .i32⟩
  | 2 => ⟨S16x8192, .i32⟩
  | 3 => ⟨S16x8192, .i32⟩
  | 4 => ⟨S16x8192, .i32⟩
  | 5 => ⟨S16x8192, .i32⟩
  | 6 => ⟨S16x8192, .i32⟩
  | 7 => ⟨S16x8192, .i32⟩
  | 8 => ⟨S_, .i32⟩
  | 9 => ⟨S16x8192, .i32⟩
  | 10 => ⟨S16x8192, .i32⟩
  | 11 => ⟨S_, .i32⟩
  | 12 => ⟨S16x8192, .i32⟩
  | 13 => ⟨S16x8192, .i1⟩
  | 14 => ⟨S_, .i32⟩
  | 15 => ⟨S16x8192, .i32⟩
  | 16 => ⟨S16x8192, .i32⟩
  | 17 => ⟨S16x8192, .i32⟩
  | 18 => ⟨S_, .i32⟩
  | 19 => ⟨S16x8192, .i32⟩
  | 20 => ⟨S16x8192, .i32⟩
  | 21 => ⟨S_, .i32⟩
  | 22 => ⟨S16x8192, .i32⟩
  | 23 => ⟨S16x8192, .i1⟩
  | 24 => ⟨S16x8192, .i32⟩
  | 25 => ⟨S_, .i32⟩
  | 26 => ⟨S16x8192, .i32⟩
  | 27 => ⟨S16x8192, .i32⟩
  | 28 => ⟨S_, .i32⟩
  | 29 => ⟨S16x8192, .i32⟩
  | 30 => ⟨S16x8192, .i32⟩
  | 31 => ⟨S16x8192, .i32⟩
  | 32 => ⟨S16x8192, .i32⟩
  | 33 => ⟨S16x8192, .i32⟩
  | 34 => ⟨S16x8192, .i32⟩
  | 35 => ⟨S_, .i32⟩
  | 36 => ⟨S16x8192, .i32⟩
  | 37 => ⟨S16x8192, .i32⟩
  | 38 => ⟨S_, .i32⟩
  | 39 => ⟨S16x8192, .i32⟩
  | 40 => ⟨S16x8192, .i1⟩
  | 41 => ⟨S16x8192, .i32⟩
  | 42 => ⟨S_, .i32⟩
  | 43 => ⟨S16x8192, .i32⟩
  | 44 => ⟨S16x8192, .i32⟩
  | 45 => ⟨S_, .i32⟩
  | 46 => ⟨S16x8192, .i32⟩
  | 47 => ⟨S16x8192, .i32⟩
  | 48 => ⟨S16x8192, .i32⟩
  | 49 => ⟨S16x8192, .i32⟩
  | 50 => ⟨S16x8192, .i32⟩
  | 51 => ⟨S16x8192, .i32⟩
  | 52 => ⟨S_, .i32⟩
  | 53 => ⟨S16x8192, .i32⟩
  | 54 => ⟨S16x8192, .i32⟩
  | 55 => ⟨S_, .i32⟩
  | 56 => ⟨S16x8192, .i32⟩
  | 57 => ⟨S16x8192, .i1⟩
  | 58 => ⟨S_, .i32⟩
  | 59 => ⟨S16x8192, .i32⟩
  | 60 => ⟨S16x8192, .i32⟩
  | 61 => ⟨S16x8192, .i32⟩
  | 62 => ⟨S_, .i32⟩
  | 63 => ⟨S16x8192, .i32⟩
  | 64 => ⟨S16x8192, .i32⟩
  | 65 => ⟨S_, .i32⟩
  | 66 => ⟨S16x8192, .i32⟩
  | 67 => ⟨S16x8192, .i1⟩
  | 68 => ⟨S16x8192, .i32⟩
  | 69 => ⟨S_, .i32⟩
  | 70 => ⟨S16x8192, .i32⟩
  | 71 => ⟨S16x8192, .i32⟩
  | 72 => ⟨S_, .i32⟩
  | 73 => ⟨S16x8192, .i32⟩
  | 74 => ⟨S16x8192, .i32⟩
  | 75 => ⟨S16x8192, .i32⟩
  | 76 => ⟨S16x8192, .i32⟩
  | 77 => ⟨S16x8192, .i32⟩
  | 78 => ⟨S16x8192, .i32⟩
  | 79 => ⟨S_, .i32⟩
  | 80 => ⟨S16x8192, .i32⟩
  | 81 => ⟨S16x8192, .i32⟩
  | 82 => ⟨S_, .i32⟩
  | 83 => ⟨S16x8192, .i32⟩
  | 84 => ⟨S16x8192, .i1⟩
  | 85 => ⟨S16x8192, .i32⟩
  | 86 => ⟨S_, .i32⟩
  | 87 => ⟨S16x8192, .i32⟩
  | 88 => ⟨S16x8192, .i32⟩
  | 89 => ⟨S_, .i32⟩
  | 90 => ⟨S16x8192, .i32⟩
  | 91 => ⟨S16x8192, .i32⟩
  | 92 => ⟨S16x8192, .i32⟩
  | 93 => ⟨S16x8192, .i32⟩
  | 94 => ⟨S16x8192, .i32⟩
  | 95 => ⟨S16x8192, .i32⟩
  | 96 => ⟨S_, .i32⟩
  | 97 => ⟨S16x8192, .i32⟩
  | 98 => ⟨S16x8192, .i32⟩
  | 99 => ⟨S_, .i32⟩
  | 100 => ⟨S16x8192, .i32⟩
  | 101 => ⟨S16x8192, .i1⟩
  | 102 => ⟨S_, .i32⟩
  | 103 => ⟨S16x8192, .i32⟩
  | 104 => ⟨S16x8192, .i32⟩
  | 105 => ⟨S16x8192, .i32⟩
  | 106 => ⟨S_, .i32⟩
  | 107 => ⟨S16x8192, .i32⟩
  | 108 => ⟨S16x8192, .i32⟩
  | 109 => ⟨S_, .i32⟩
  | 110 => ⟨S16x8192, .i32⟩
  | 111 => ⟨S16x8192, .i1⟩
  | 112 => ⟨S16x8192, .i32⟩
  | 113 => ⟨S_, .i32⟩
  | 114 => ⟨S16x8192, .i32⟩
  | 115 => ⟨S16x8192, .i32⟩
  | 116 => ⟨S_, .i32⟩
  | 117 => ⟨S16x8192, .i32⟩
  | 118 => ⟨S16x8192, .i32⟩
  | 119 => ⟨S16x8192, .i32⟩
  | 120 => ⟨S16x8192, .i32⟩
  | 121 => ⟨S16x8192, .i32⟩
  | 122 => ⟨S16x8192, .i32⟩
  | 123 => ⟨S_, .i32⟩
  | 124 => ⟨S16x8192, .i32⟩
  | 125 => ⟨S16x8192, .i32⟩
  | 126 => ⟨S_, .i32⟩
  | 127 => ⟨S16x8192, .i32⟩
  | _ => ⟨S16x8192x3, .f32⟩

abbrev hbmTy0_3 (i : Nat) : BufTy := match i % 128 with
  | 0 => ⟨S16x8192, .i1⟩
  | 1 => ⟨S16x8192, .i32⟩
  | 2 => ⟨S_, .i32⟩
  | 3 => ⟨S16x8192, .i32⟩
  | 4 => ⟨S16x8192, .i32⟩
  | 5 => ⟨S_, .i32⟩
  | 6 => ⟨S16x8192, .i32⟩
  | 7 => ⟨S16x8192, .i32⟩
  | 8 => ⟨S16x8192, .i32⟩
  | 9 => ⟨S16x8192, .i32⟩
  | 10 => ⟨S16x8192, .i32⟩
  | 11 => ⟨S16x8192, .i32⟩
  | 12 => ⟨S_, .i32⟩
  | 13 => ⟨S16x8192, .i32⟩
  | 14 => ⟨S16x8192, .i32⟩
  | 15 => ⟨S_, .i32⟩
  | 16 => ⟨S16x8192, .i32⟩
  | 17 => ⟨S16x8192, .i1⟩
  | 18 => ⟨S_, .i32⟩
  | 19 => ⟨S16x8192, .i32⟩
  | 20 => ⟨S16x8192, .i32⟩
  | 21 => ⟨S16x8192, .i32⟩
  | 22 => ⟨S_, .i32⟩
  | 23 => ⟨S16x8192, .i32⟩
  | 24 => ⟨S16x8192, .i32⟩
  | 25 => ⟨S_, .i32⟩
  | 26 => ⟨S16x8192, .i32⟩
  | 27 => ⟨S16x8192, .i1⟩
  | 28 => ⟨S16x8192, .i32⟩
  | 29 => ⟨S_, .i32⟩
  | 30 => ⟨S16x8192, .i32⟩
  | 31 => ⟨S16x8192, .i32⟩
  | 32 => ⟨S_, .i32⟩
  | 33 => ⟨S16x8192, .i32⟩
  | 34 => ⟨S16x8192, .i32⟩
  | 35 => ⟨S16x8192, .i32⟩
  | 36 => ⟨S16x8192, .i32⟩
  | 37 => ⟨S16x8192, .i32⟩
  | 38 => ⟨S16x8192, .i32⟩
  | 39 => ⟨S_, .i32⟩
  | 40 => ⟨S16x8192, .i32⟩
  | 41 => ⟨S16x8192, .i32⟩
  | 42 => ⟨S_, .i32⟩
  | 43 => ⟨S16x8192, .i32⟩
  | 44 => ⟨S16x8192, .i1⟩
  | 45 => ⟨S16x8192, .i32⟩
  | 46 => ⟨S_, .i32⟩
  | 47 => ⟨S16x8192, .i32⟩
  | 48 => ⟨S16x8192, .i32⟩
  | 49 => ⟨S_, .i32⟩
  | 50 => ⟨S16x8192, .i32⟩
  | 51 => ⟨S16x8192, .i32⟩
  | 52 => ⟨S16x8192, .i32⟩
  | 53 => ⟨S16x8192, .i32⟩
  | 54 => ⟨S16x8192, .i32⟩
  | 55 => ⟨S16x8192, .i32⟩
  | 56 => ⟨S_, .i32⟩
  | 57 => ⟨S16x8192, .i32⟩
  | 58 => ⟨S16x8192, .i32⟩
  | 59 => ⟨S_, .i32⟩
  | 60 => ⟨S16x8192, .i32⟩
  | 61 => ⟨S16x8192, .i1⟩
  | 62 => ⟨S_, .i32⟩
  | 63 => ⟨S16x8192, .i32⟩
  | 64 => ⟨S16x8192, .i32⟩
  | 65 => ⟨S16x8192, .i32⟩
  | 66 => ⟨S_, .i32⟩
  | 67 => ⟨S16x8192, .i32⟩
  | 68 => ⟨S16x8192, .i32⟩
  | 69 => ⟨S_, .i32⟩
  | 70 => ⟨S16x8192, .i32⟩
  | 71 => ⟨S16x8192, .i1⟩
  | 72 => ⟨S16x8192, .i32⟩
  | 73 => ⟨S_, .i32⟩
  | 74 => ⟨S16x8192, .i32⟩
  | 75 => ⟨S16x8192, .i32⟩
  | 76 => ⟨S_, .i32⟩
  | 77 => ⟨S16x8192, .i32⟩
  | 78 => ⟨S16x8192, .i32⟩
  | 79 => ⟨S16x8192, .i32⟩
  | 80 => ⟨S16x8192, .i32⟩
  | 81 => ⟨S16x8192, .i32⟩
  | 82 => ⟨S16x8192, .i32⟩
  | 83 => ⟨S_, .i32⟩
  | 84 => ⟨S16x8192, .i32⟩
  | 85 => ⟨S16x8192, .i32⟩
  | 86 => ⟨S_, .i32⟩
  | 87 => ⟨S16x8192, .i32⟩
  | 88 => ⟨S16x8192, .i1⟩
  | 89 => ⟨S16x8192, .i32⟩
  | 90 => ⟨S_, .i32⟩
  | 91 => ⟨S16x8192, .i32⟩
  | 92 => ⟨S16x8192, .i32⟩
  | 93 => ⟨S_, .i32⟩
  | 94 => ⟨S16x8192, .i32⟩
  | 95 => ⟨S16x8192, .i32⟩
  | 96 => ⟨S16x8192, .i32⟩
  | 97 => ⟨S16x8192, .i32⟩
  | 98 => ⟨S16x8192, .i32⟩
  | 99 => ⟨S16x8192, .i32⟩
  | 100 => ⟨S_, .i32⟩
  | 101 => ⟨S16x8192, .i32⟩
  | 102 => ⟨S16x8192, .i32⟩
  | 103 => ⟨S_, .i32⟩
  | 104 => ⟨S16x8192, .i32⟩
  | 105 => ⟨S16x8192, .i1⟩
  | 106 => ⟨S_, .i32⟩
  | 107 => ⟨S16x8192, .i32⟩
  | 108 => ⟨S16x8192, .i32⟩
  | 109 => ⟨S16x8192, .i32⟩
  | 110 => ⟨S_, .i32⟩
  | 111 => ⟨S16x8192, .i32⟩
  | 112 => ⟨S16x8192, .i32⟩
  | 113 => ⟨S_, .i32⟩
  | 114 => ⟨S16x8192, .i32⟩
  | 115 => ⟨S16x8192, .i1⟩
  | 116 => ⟨S16x8192, .i32⟩
  | 117 => ⟨S_, .i32⟩
  | 118 => ⟨S16x8192, .i32⟩
  | 119 => ⟨S16x8192, .i32⟩
  | 120 => ⟨S_, .i32⟩
  | 121 => ⟨S16x8192, .i32⟩
  | 122 => ⟨S16x8192, .i32⟩
  | 123 => ⟨S16x8192, .i32⟩
  | 124 => ⟨S16x8192, .i32⟩
  | 125 => ⟨S16x8192, .i32⟩
  | 126 => ⟨S16x8192, .i32⟩
  | 127 => ⟨S_, .i32⟩
  | _ => ⟨S16x8192x3, .f32⟩

abbrev hbmTy0_4 (i : Nat) : BufTy := match i % 128 with
  | 0 => ⟨S16x8192, .i32⟩
  | 1 => ⟨S16x8192, .i32⟩
  | 2 => ⟨S_, .i32⟩
  | 3 => ⟨S16x8192, .i32⟩
  | 4 => ⟨S16x8192, .i1⟩
  | 5 => ⟨S16x8192, .i32⟩
  | 6 => ⟨S_, .i32⟩
  | 7 => ⟨S16x8192, .i32⟩
  | 8 => ⟨S16x8192, .i32⟩
  | 9 => ⟨S_, .i32⟩
  | 10 => ⟨S16x8192, .i32⟩
  | 11 => ⟨S16x8192, .i32⟩
  | 12 => ⟨S16x8192, .i32⟩
  | 13 => ⟨S16x8192, .i32⟩
  | 14 => ⟨S16x8192, .i32⟩
  | 15 => ⟨S16x8192, .i32⟩
  | 16 => ⟨S_, .i32⟩
  | 17 => ⟨S16x8192, .i32⟩
  | 18 => ⟨S16x8192, .i32⟩
  | 19 => ⟨S_, .i32⟩
  | 20 => ⟨S16x8192, .i32⟩
  | 21 => ⟨S16x8192, .i1⟩
  | 22 => ⟨S_, .i32⟩
  | 23 => ⟨S16x8192, .i32⟩
  | 24 => ⟨S16x8192, .i32⟩
  | 25 => ⟨S16x8192, .i32⟩
  | 26 => ⟨S_, .i32⟩
  | 27 => ⟨S16x8192, .i32⟩
  | 28 => ⟨S16x8192, .i32⟩
  | 29 => ⟨S_, .i32⟩
  | 30 => ⟨S16x8192, .i32⟩
  | 31 => ⟨S16x8192, .i1⟩
  | 32 => ⟨S16x8192, .i32⟩
  | 33 => ⟨S_, .i32⟩
  | 34 => ⟨S16x8192, .i32⟩
  | 35 => ⟨S16x8192, .i32⟩
  | 36 => ⟨S_, .i32⟩
  | 37 => ⟨S16x8192, .i32⟩
  | 38 => ⟨S16x8192, .i32⟩
  | 39 => ⟨S16x8192, .i32⟩
  | 40 => ⟨S16x8192, .i32⟩
  | 41 => ⟨S16x8192, .i32⟩
  | 42 => ⟨S16x8192, .i32⟩
  | 43 => ⟨S_, .i32⟩
  | 44 => ⟨S16x8192, .i32⟩
  | 45 => ⟨S16x8192, .i32⟩
  | 46 => ⟨S_, .i32⟩
  | 47 => ⟨S16x8192, .i32⟩
  | 48 => ⟨S16x8192, .i1⟩
  | 49 => ⟨S16x8192, .i32⟩
  | 50 => ⟨S_, .i32⟩
  | 51 => ⟨S16x8192, .i32⟩
  | 52 => ⟨S16x8192, .i32⟩
  | 53 => ⟨S_, .i32⟩
  | 54 => ⟨S16x8192, .i32⟩
  | 55 => ⟨S16x8192, .i32⟩
  | 56 => ⟨S16x8192, .i32⟩
  | 57 => ⟨S16x8192, .i32⟩
  | 58 => ⟨S16x8192, .i32⟩
  | 59 => ⟨S16x8192, .i32⟩
  | 60 => ⟨S_, .i32⟩
  | 61 => ⟨S16x8192, .i32⟩
  | 62 => ⟨S16x8192, .i32⟩
  | 63 => ⟨S_, .i32⟩
  | 64 => ⟨S16x8192, .i32⟩
  | 65 => ⟨S16x8192, .i1⟩
  | 66 => ⟨S_, .i32⟩
  | 67 => ⟨S16x8192, .i32⟩
  | 68 => ⟨S16x8192, .i32⟩
  | 69 => ⟨S16x8192, .i32⟩
  | 70 => ⟨S_, .i32⟩
  | 71 => ⟨S16x8192, .i32⟩
  | 72 => ⟨S16x8192, .i32⟩
  | 73 => ⟨S_, .i32⟩
  | 74 => ⟨S16x8192, .i32⟩
  | 75 => ⟨S16x8192, .i1⟩
  | 76 => ⟨S16x8192, .i32⟩
  | 77 => ⟨S_, .i32⟩
  | 78 => ⟨S16x8192, .i32⟩
  | 79 => ⟨S16x8192, .i32⟩
  | 80 => ⟨S_, .i32⟩
  | 81 => ⟨S16x8192, .i32⟩
  | 82 => ⟨S16x8192, .i32⟩
  | 83 => ⟨S16x8192, .i32⟩
  | 84 => ⟨S16x8192, .i32⟩
  | 85 => ⟨S16x8192, .i32⟩
  | 86 => ⟨S16x8192, .i32⟩
  | 87 => ⟨S_, .i32⟩
  | 88 => ⟨S16x8192, .i32⟩
  | 89 => ⟨S16x8192, .i32⟩
  | 90 => ⟨S_, .i32⟩
  | 91 => ⟨S16x8192, .i32⟩
  | 92 => ⟨S16x8192, .i1⟩
  | 93 => ⟨S16x8192, .i32⟩
  | 94 => ⟨S_, .i32⟩
  | 95 => ⟨S16x8192, .i32⟩
  | 96 => ⟨S16x8192, .i32⟩
  | 97 => ⟨S_, .i32⟩
  | 98 => ⟨S16x8192, .i32⟩
  | 99 => ⟨S16x8192, .i32⟩
  | 100 => ⟨S16x8192, .i32⟩
  | 101 => ⟨S16x8192, .i32⟩
  | 102 => ⟨S16x8192, .i32⟩
  | 103 => ⟨S16x8192, .i32⟩
  | 104 => ⟨S_, .i32⟩
  | 105 => ⟨S16x8192, .i32⟩
  | 106 => ⟨S16x8192, .i32⟩
  | 107 => ⟨S_, .i32⟩
  | 108 => ⟨S16x8192, .i32⟩
  | 109 => ⟨S16x8192, .i1⟩
  | 110 => ⟨S_, .i32⟩
  | 111 => ⟨S16x8192, .i32⟩
  | 112 => ⟨S16x8192, .i32⟩
  | 113 => ⟨S16x8192, .i32⟩
  | 114 => ⟨S_, .i32⟩
  | 115 => ⟨S16x8192, .i32⟩
  | 116 => ⟨S16x8192, .i32⟩
  | 117 => ⟨S_, .i32⟩
  | 118 => ⟨S16x8192, .i32⟩
  | 119 => ⟨S16x8192, .i1⟩
  | 120 => ⟨S16x8192, .i32⟩
  | 121 => ⟨S_, .i32⟩
  | 122 => ⟨S16x8192, .i32⟩
  | 123 => ⟨S16x8192, .i32⟩
  | 124 => ⟨S_, .i32⟩
  | 125 => ⟨S16x8192, .i32⟩
  | 126 => ⟨S16x8192, .i32⟩
  | 127 => ⟨S16x8192, .i32⟩
  | _ => ⟨S16x8192x3, .f32⟩

abbrev hbmTy0_5 (i : Nat) : BufTy := match i % 128 with
  | 0 => ⟨S16x8192, .i32⟩
  | 1 => ⟨S16x8192, .i32⟩
  | 2 => ⟨S16x8192, .i32⟩
  | 3 => ⟨S_, .i32⟩
  | 4 => ⟨S16x8192, .i32⟩
  | 5 => ⟨S16x8192, .i32⟩
  | 6 => ⟨S_, .i32⟩
  | 7 => ⟨S16x8192, .i32⟩
  | 8 => ⟨S16x8192, .i1⟩
  | 9 => ⟨S16x8192, .i32⟩
  | 10 => ⟨S_, .i32⟩
  | 11 => ⟨S16x8192, .i32⟩
  | 12 => ⟨S16x8192, .i32⟩
  | 13 => ⟨S_, .i32⟩
  | 14 => ⟨S16x8192, .i32⟩
  | 15 => ⟨S16x8192, .i32⟩
  | 16 => ⟨S16x8192, .i32⟩
  | 17 => ⟨S16x8192, .i32⟩
  | 18 => ⟨S16x8192, .i32⟩
  | 19 => ⟨S16x8192, .i32⟩
  | 20 => ⟨S_, .i32⟩
  | 21 => ⟨S16x8192, .i32⟩
  | 22 => ⟨S16x8192, .i32⟩
  | 23 => ⟨S_, .i32⟩
  | 24 => ⟨S16x8192, .i32⟩
  | 25 => ⟨S16x8192, .i1⟩
  | 26 => ⟨S_, .i32⟩
  | 27 => ⟨S16x8192, .i32⟩
  | 28 => ⟨S16x8192, .i32⟩
  | 29 => ⟨S16x8192, .i32⟩
  | 30 => ⟨S_, .i32⟩
  | 31 => ⟨S16x8192, .i32⟩
  | 32 => ⟨S16x8192, .i32⟩
  | 33 => ⟨S_, .i32⟩
  | 34 => ⟨S16x8192, .i32⟩
  | 35 => ⟨S16x8192, .i1⟩
  | 36 => ⟨S16x8192, .i32⟩
  | 37 => ⟨S_, .i32⟩
  | 38 => ⟨S16x8192, .i32⟩
  | 39 => ⟨S16x8192, .i32⟩
  | 40 => ⟨S_, .i32⟩
  | 41 => ⟨S16x8192, .i32⟩
  | 42 => ⟨S16x8192, .i32⟩
  | 43 => ⟨S16x8192, .i32⟩
  | 44 => ⟨S16x8192, .i32⟩
  | 45 => ⟨S16x8192, .i32⟩
  | 46 => ⟨S16x8192, .i32⟩
  | 47 => ⟨S_, .i32⟩
  | 48 => ⟨S16x8192, .i32⟩
  | 49 => ⟨S16x8192, .i32⟩
  | 50 => ⟨S_, .i32⟩
  | 51 => ⟨S16x8192, .i32⟩
  | 52 => ⟨S16x8192, .i1⟩
  | 53 => ⟨S16x8192, .i32⟩
  | 54 => ⟨S_, .i32⟩
  | 55 => ⟨S16x8192, .i32⟩
  | 56 => ⟨S16x8192, .i32⟩
  | 57 => ⟨S_, .i32⟩
  | 58 => ⟨S16x8192, .i32⟩
  | 59 => ⟨S16x8192, .i32⟩
  | 60 => ⟨S16x8192, .i32⟩
  | 61 => ⟨S16x8192, .i32⟩
  | 62 => ⟨S16x8192, .i32⟩
  | 63 => ⟨S16x8192, .i32⟩
  | 64 => ⟨S_, .i32⟩
  | 65 => ⟨S16x8192, .i32⟩
  | 66 => ⟨S16x8192, .i32⟩
  | 67 => ⟨S_, .i32⟩
  | 68 => ⟨S16x8192, .i32⟩
  | 69 => ⟨S16x8192, .i1⟩
  | 70 => ⟨S_, .i32⟩
  | 71 => ⟨S16x8192, .i32⟩
  | 72 => ⟨S16x8192, .i32⟩
  | 73 => ⟨S16x8192, .i32⟩
  | 74 => ⟨S_, .i32⟩
  | 75 => ⟨S16x8192, .i32⟩
  | 76 => ⟨S16x8192, .i32⟩
  | 77 => ⟨S_, .i32⟩
  | 78 => ⟨S16x8192, .i32⟩
  | 79 => ⟨S16x8192, .i1⟩
  | 80 => ⟨S16x8192, .i32⟩
  | 81 => ⟨S_, .i32⟩
  | 82 => ⟨S16x8192, .i32⟩
  | 83 => ⟨S16x8192, .i32⟩
  | 84 => ⟨S_, .i32⟩
  | 85 => ⟨S16x8192, .i32⟩
  | 86 => ⟨S16x8192, .i32⟩
  | 87 => ⟨S16x8192, .i32⟩
  | 88 => ⟨S16x8192, .i32⟩
  | 89 => ⟨S16x8192, .i32⟩
  | 90 => ⟨S16x8192, .i32⟩
  | 91 => ⟨S_, .i32⟩
  | 92 => ⟨S16x8192, .i32⟩
  | 93 => ⟨S16x8192, .i32⟩
  | 94 => ⟨S_, .i32⟩
  | 95 => ⟨S16x8192, .i32⟩
  | 96 => ⟨S16x8192, .i1⟩
  | 97 => ⟨S16x8192, .i32⟩
  | 98 => ⟨S_, .i32⟩
  | 99 => ⟨S16x8192, .i32⟩
  | 100 => ⟨S16x8192, .i32⟩
  | 101 => ⟨S_, .i32⟩
  | 102 => ⟨S16x8192, .i32⟩
  | 103 => ⟨S16x8192, .i32⟩
  | 104 => ⟨S16x8192, .i32⟩
  | 105 => ⟨S16x8192, .i32⟩
  | 106 => ⟨S16x8192, .i32⟩
  | 107 => ⟨S16x8192, .i32⟩
  | 108 => ⟨S_, .i32⟩
  | 109 => ⟨S16x8192, .i32⟩
  | 110 => ⟨S16x8192, .i32⟩
  | 111 => ⟨S_, .i32⟩
  | 112 => ⟨S16x8192, .i32⟩
  | 113 => ⟨S16x8192, .i1⟩
  | 114 => ⟨S_, .i32⟩
  | 115 => ⟨S16x8192, .i32⟩
  | 116 => ⟨S16x8192, .i32⟩
  | 117 => ⟨S16x8192, .i32⟩
  | 118 => ⟨S_, .i32⟩
  | 119 => ⟨S16x8192, .i32⟩
  | 120 => ⟨S16x8192, .i32⟩
  | 121 => ⟨S_, .i32⟩
  | 122 => ⟨S16x8192, .i32⟩
  | 123 => ⟨S16x8192, .i1⟩
  | 124 => ⟨S16x8192, .i32⟩
  | 125 => ⟨S_, .i32⟩
  | 126 => ⟨S16x8192, .i32⟩
  | 127 => ⟨S16x8192, .i32⟩
  | _ => ⟨S16x8192x3, .f32⟩

abbrev hbmTy0_6 (i : Nat) : BufTy := match i % 128 with
  | 0 => ⟨S_, .i32⟩
  | 1 => ⟨S16x8192, .i32⟩
  | 2 => ⟨S16x8192, .i32⟩
  | 3 => ⟨S16x8192, .i32⟩
  | 4 => ⟨S16x8192, .i32⟩
  | 5 => ⟨S16x8192, .i32⟩
  | 6 => ⟨S16x8192, .i32⟩
  | 7 => ⟨S_, .i32⟩
  | 8 => ⟨S16x8192, .i32⟩
  | 9 => ⟨S16x8192, .i32⟩
  | 10 => ⟨S_, .i32⟩
  | 11 => ⟨S16x8192, .i32⟩
  | 12 => ⟨S16x8192, .i1⟩
  | 13 => ⟨S16x8192, .i32⟩
  | 14 => ⟨S_, .i32⟩
  | 15 => ⟨S16x8192, .i32⟩
  | 16 => ⟨S16x8192, .i32⟩
  | 17 => ⟨S_, .i32⟩
  | 18 => ⟨S16x8192, .i32⟩
  | 19 => ⟨S16x8192, .i32⟩
  | 20 => ⟨S16x8192, .i32⟩
  | 21 => ⟨S16x8192, .i32⟩
  | 22 => ⟨S16x8192, .i32⟩
  | 23 => ⟨S16x8192, .i32⟩
  | 24 => ⟨S_, .i32⟩
  | 25 => ⟨S16x8192, .i32⟩
  | 26 => ⟨S16x8192, .i32⟩
  | 27 => ⟨S_, .i32⟩
  | 28 => ⟨S16x8192, .i32⟩
  | 29 => ⟨S16x8192, .i1⟩
  | 30 => ⟨S_, .i32⟩
  | 31 => ⟨S16x8192, .i32⟩
  | 32 => ⟨S16x8192, .i32⟩
  | 33 => ⟨S16x8192, .i32⟩
  | 34 => ⟨S_, .i32⟩
  | 35 => ⟨S16x8192, .i32⟩
  | 36 => ⟨S16x8192, .i32⟩
  | 37 => ⟨S_, .i32⟩
  | 38 => ⟨S16x8192, .i32⟩
  | 39 => ⟨S16x8192, .i1⟩
  | 40 => ⟨S16x8192, .i32⟩
  | 41 => ⟨S_, .i32⟩
  | 42 => ⟨S16x8192, .i32⟩
  | 43 => ⟨S16x8192, .i32⟩
  | 44 => ⟨S_, .i32⟩
  | 45 => ⟨S16x8192, .i32⟩
  | 46 => ⟨S16x8192, .i32⟩
  | 47 => ⟨S16x8192, .i32⟩
  | 48 => ⟨S16x8192, .i32⟩
  | 49 => ⟨S16x8192, .i32⟩
  | 50 => ⟨S16x8192, .i32⟩
  | 51 => ⟨S_, .i32⟩
  | 52 => ⟨S16x8192, .i32⟩
  | 53 => ⟨S16x8192, .i32⟩
  | 54 => ⟨S_, .i32⟩
  | 55 => ⟨S16x8192, .i32⟩
  | 56 => ⟨S16x8192, .i1⟩
  | 57 => ⟨S16x8192, .i32⟩
  | 58 => ⟨S_, .i32⟩
  | 59 => ⟨S16x8192, .i32⟩
  | 60 => ⟨S16x8192, .i32⟩
  | 61 => ⟨S_, .i32⟩
  | 62 => ⟨S16x8192, .i32⟩
  | 63 => ⟨S16x8192, .i32⟩
  | 64 => ⟨S16x8192, .i32⟩
  | 65 => ⟨S16x8192, .i32⟩
  | 66 => ⟨S16x8192, .i32⟩
  | 67 => ⟨S16x8192, .i32⟩
  | 68 => ⟨S_, .i32⟩
  | 69 => ⟨S16x8192, .i32⟩
  | 70 => ⟨S16x8192, .i32⟩
  | 71 => ⟨S_, .i32⟩
  | 72 => ⟨S16x8192, .i32⟩
  | 73 => ⟨S16x8192, .i1⟩
  | 74 => ⟨S_, .i32⟩
  | 75 => ⟨S16x8192, .i32⟩
  | 76 => ⟨S16x8192, .i32⟩
  | 77 => ⟨S16x8192, .i32⟩
  | 78 => ⟨S_, .i32⟩
  | 79 => ⟨S16x8192, .i32⟩
  | 80 => ⟨S16x8192, .i32⟩
  | 81 => ⟨S_, .i32⟩
  | 82 => ⟨S16x8192, .i32⟩
  | 83 => ⟨S16x8192, .i1⟩
  | 84 => ⟨S16x8192, .i32⟩
  | 85 => ⟨S_, .i32⟩
  | 86 => ⟨S16x8192, .i32⟩
  | 87 => ⟨S16x8192, .i32⟩
  | 88 => ⟨S_, .i32⟩
  | 89 => ⟨S16x8192, .i32⟩
  | 90 => ⟨S16x8192, .i32⟩
  | 91 => ⟨S16x8192, .i32⟩
  | 92 => ⟨S16x8192, .i32⟩
  | 93 => ⟨S16x8192, .i32⟩
  | 94 => ⟨S16x8192, .i32⟩
  | 95 => ⟨S_, .i32⟩
  | 96 => ⟨S16x8192, .i32⟩
  | 97 => ⟨S16x8192, .i32⟩
  | 98 => ⟨S_, .i32⟩
  | 99 => ⟨S16x8192, .i32⟩
  | 100 => ⟨S16x8192, .i1⟩
  | 101 => ⟨S16x8192, .i32⟩
  | 102 => ⟨S_, .i32⟩
  | 103 => ⟨S16x8192, .i32⟩
  | 104 => ⟨S16x8192, .i32⟩
  | 105 => ⟨S_, .i32⟩
  | 106 => ⟨S16x8192, .i32⟩
  | 107 => ⟨S16x8192, .i32⟩
  | 108 => ⟨S16x8192, .i32⟩
  | 109 => ⟨S16x8192, .i32⟩
  | 110 => ⟨S16x8192, .i32⟩
  | 111 => ⟨S16x8192, .i32⟩
  | 112 => ⟨S_, .i32⟩
  | 113 => ⟨S16x8192, .i32⟩
  | 114 => ⟨S16x8192, .i32⟩
  | 115 => ⟨S_, .i32⟩
  | 116 => ⟨S16x8192, .i32⟩
  | 117 => ⟨S16x8192, .i1⟩
  | 118 => ⟨S_, .i32⟩
  | 119 => ⟨S16x8192, .i32⟩
  | 120 => ⟨S16x8192, .i32⟩
  | 121 => ⟨S16x8192, .i32⟩
  | 122 => ⟨S_, .i32⟩
  | 123 => ⟨S16x8192, .i32⟩
  | 124 => ⟨S16x8192, .i32⟩
  | 125 => ⟨S_, .i32⟩
  | 126 => ⟨S16x8192, .i32⟩
  | 127 => ⟨S16x8192, .i1⟩
  | _ => ⟨S16x8192x3, .f32⟩

abbrev hbmTy0_7 (i : Nat) : BufTy := match i % 128 with
  | 0 => ⟨S16x8192, .i32⟩
  | 1 => ⟨S_, .i32⟩
  | 2 => ⟨S16x8192, .i32⟩
  | 3 => ⟨S16x8192, .i32⟩
  | 4 => ⟨S_, .i32⟩
  | 5 => ⟨S16x8192, .i32⟩
  | 6 => ⟨S16x8192, .i32⟩
  | 7 => ⟨S16x8192, .i32⟩
  | 8 => ⟨S16x8192, .i32⟩
  | 9 => ⟨S16x8192, .i32⟩
  | 10 => ⟨S16x8192, .i32⟩
  | 11 => ⟨S_, .i32⟩
  | 12 => ⟨S16x8192, .i32⟩
  | 13 => ⟨S16x8192, .i32⟩
  | 14 => ⟨S_, .i32⟩
  | 15 => ⟨S16x8192, .i32⟩
  | 16 => ⟨S16x8192, .i1⟩
  | 17 => ⟨S16x8192, .i32⟩
  | 18 => ⟨S_, .i32⟩
  | 19 => ⟨S16x8192, .i32⟩
  | 20 => ⟨S16x8192, .i32⟩
  | 21 => ⟨S_, .i32⟩
  | 22 => ⟨S16x8192, .i32⟩
  | 23 => ⟨S16x8192, .i32⟩
  | 24 => ⟨S16x8192, .i32⟩
  | 25 => ⟨S16x8192, .i32⟩
  | 26 => ⟨S16x8192, .i32⟩
  | 27 => ⟨S16x8192, .i32⟩
  | 28 => ⟨S16x8192, .i32⟩
  | 29 => ⟨S16x8192, .i32⟩
  | 30 => ⟨S_, .i32⟩
  | 31 => ⟨S16x8192, .i32⟩
  | 32 => ⟨S_, .i32⟩
  | 33 => ⟨S16x8192, .i32⟩
  | 34 => ⟨S16x8192, .i32⟩
  | 35 => ⟨S_, .i32⟩
  | 36 => ⟨S16x8192, .i32⟩
  | 37 => ⟨S16x8192, .i1⟩
  | 38 => ⟨S_, .i32⟩
  | 39 => ⟨S16x8192, .i32⟩
  | 40 => ⟨S16x8192, .i32⟩
  | 41 => ⟨S16x8192, .i32⟩
  | 42 => ⟨S_, .i32⟩
  | 43 => ⟨S16x8192, .i32⟩
  | 44 => ⟨S16x8192, .i32⟩
  | 45 => ⟨S_, .i32⟩
  | 46 => ⟨S16x8192, .i32⟩
  | 47 => ⟨S16x8192, .i1⟩
  | 48 => ⟨S_, .i32⟩
  | 49 => ⟨S16x8192, .i32⟩
  | 50 => ⟨S16x8192, .i32⟩
  | 51 => ⟨S16x8192, .i32⟩
  | 52 => ⟨S_, .i32⟩
  | 53 => ⟨S16x8192, .i32⟩
  | 54 => ⟨S16x8192, .i32⟩
  | 55 => ⟨S_, .i32⟩
  | 56 => ⟨S16x8192, .i32⟩
  | 57 => ⟨S16x8192, .i1⟩
  | 58 => ⟨S_, .i32⟩
  | 59 => ⟨S16x8192, .i32⟩
  | 60 => ⟨S16x8192, .i32⟩
  | 61 => ⟨S16x8192, .i32⟩
  | 62 => ⟨S_, .i32⟩
  | 63 => ⟨S16x8192, .i32⟩
  | 64 => ⟨S16x8192, .i32⟩
  | 65 => ⟨S_, .i32⟩
  | 66 => ⟨S16x8192, .i32⟩
  | 67 => ⟨S16x8192, .i1⟩
  | 68 => ⟨S_, .i32⟩
  | 69 => ⟨S16x8192, .i32⟩
  | 70 => ⟨S16x8192, .i32⟩
  | 71 => ⟨S16x8192, .i32⟩
  | 72 => ⟨S_, .i32⟩
  | 73 => ⟨S16x8192, .i32⟩
  | 74 => ⟨S16x8192, .i32⟩
  | 75 => ⟨S_, .i32⟩
  | 76 => ⟨S16x8192, .i32⟩
  | 77 => ⟨S16x8192, .i1⟩
  | 78 => ⟨S_, .i32⟩
  | 79 => ⟨S16x8192, .i32⟩
  | 80 => ⟨S16x8192, .i32⟩
  | 81 => ⟨S16x8192, .i32⟩
  | 82 => ⟨S_, .i32⟩
  | 83 => ⟨S16x8192, .i32⟩
  | 84 => ⟨S16x8192, .i32⟩
  | 85 => ⟨S_, .i32⟩
  | 86 => ⟨S16x8192, .i32⟩
  | 87 => ⟨S16x8192, .i1⟩
  | 88 => ⟨S_, .i32⟩
  | 89 => ⟨S16x8192, .i32⟩
  | 90 => ⟨S16x8192, .i32⟩
  | 91 => ⟨S16x8192, .i32⟩
  | 92 => ⟨S_, .i32⟩
  | 93 => ⟨S16x8192, .i32⟩
  | 94 => ⟨S16x8192, .i32⟩
  | 95 => ⟨S_, .i32⟩
  | 96 => ⟨S16x8192, .i32⟩
  | 97 => ⟨S16x8192, .i1⟩
  | 98 => ⟨S_, .i32⟩
  | 99 => ⟨S16x8192, .i32⟩
  | 100 => ⟨S16x8192, .i32⟩
  | 101 => ⟨S16x8192, .i32⟩
  | 102 => ⟨S_, .i32⟩
  | 103 => ⟨S16x8192, .i32⟩
  | 104 => ⟨S16x8192, .i32⟩
  | 105 => ⟨S_, .i32⟩
  | 106 => ⟨S16x8192, .i32⟩
  | 107 => ⟨S16x8192, .i1⟩
  | 108 => ⟨S_, .i32⟩
  | 109 => ⟨S16x8192, .i32⟩
  | 110 => ⟨S16x8192, .i32⟩
  | 111 => ⟨S16x8192, .i32⟩
  | 112 => ⟨S_, .i32⟩
  | 113 => ⟨S16x8192, .i32⟩
  | 114 => ⟨S16x8192, .i32⟩
  | 115 => ⟨S_, .i32⟩
  | 116 => ⟨S16x8192, .i32⟩
  | 117 => ⟨S16x8192, .i1⟩
  | 118 => ⟨S_, .i32⟩
  | 119 => ⟨S16x8192, .i32⟩
  | 120 => ⟨S16x8192, .i32⟩
  | 121 => ⟨S16x8192, .i32⟩
  | 122 => ⟨S_, .i32⟩
  | 123 => ⟨S16x8192, .i32⟩
  | 124 => ⟨S16x8192, .i32⟩
  | 125 => ⟨S_, .i32⟩
  | 126 => ⟨S16x8192, .i32⟩
  | 127 => ⟨S16x8192, .i1⟩
  | _ => ⟨S16x8192x3, .f32⟩

abbrev hbmTy0_8 (i : Nat) : BufTy := match i % 128 with
  | 0 => ⟨S_, .i32⟩
  | 1 => ⟨S16x8192, .i32⟩
  | 2 => ⟨S16x8192, .i32⟩
  | 3 => ⟨S16x8192, .i32⟩
  | 4 => ⟨S_, .i32⟩
  | 5 => ⟨S16x8192, .i32⟩
  | 6 => ⟨S16x8192, .i32⟩
  | 7 => ⟨S_, .i32⟩
  | 8 => ⟨S16x8192, .i32⟩
  | 9 => ⟨S16x8192, .i1⟩
  | 10 => ⟨S_, .i32⟩
  | 11 => ⟨S16x8192, .i32⟩
  | 12 => ⟨S16x8192, .i32⟩
  | 13 => ⟨S16x8192, .i32⟩
  | 14 => ⟨S_, .i32⟩
  | 15 => ⟨S16x8192, .i32⟩
  | 16 => ⟨S16x8192, .i32⟩
  | 17 => ⟨S_, .i32⟩
  | 18 => ⟨S16x8192, .i32⟩
  | 19 => ⟨S16x8192, .i1⟩
  | 20 => ⟨S_, .i32⟩
  | 21 => ⟨S16x8192, .i32⟩
  | 22 => ⟨S16x8192, .i32⟩
  | 23 => ⟨S16x8192, .i32⟩
  | 24 => ⟨S_, .i32⟩
  | 25 => ⟨S16x8192, .i32⟩
  | 26 => ⟨S16x8192, .i32⟩
  | 27 => ⟨S_, .i32⟩
  | 28 => ⟨S16x8192, .i32⟩
  | 29 => ⟨S16x8192, .i1⟩
  | 30 => ⟨S_, .i32⟩
  | 31 => ⟨S16x8192, .i32⟩
  | 32 => ⟨S16x8192, .i32⟩
  | 33 => ⟨S16x8192, .i32⟩
  | 34 => ⟨S_, .i32⟩
  | 35 => ⟨S16x8192, .i32⟩
  | 36 => ⟨S16x8192, .i32⟩
  | 37 => ⟨S_, .i32⟩
  | 38 => ⟨S16x8192, .i32⟩
  | 39 => ⟨S16x8192, .i1⟩
  | 40 => ⟨S_, .i32⟩
  | 41 => ⟨S16x8192, .i32⟩
  | 42 => ⟨S16x8192, .i32⟩
  | 43 => ⟨S16x8192, .i32⟩
  | 44 => ⟨S_, .i32⟩
  | 45 => ⟨S16x8192, .i32⟩
  | 46 => ⟨S16x8192, .i32⟩
  | 47 => ⟨S_, .i32⟩
  | 48 => ⟨S16x8192, .i32⟩
  | 49 => ⟨S16x8192, .i1⟩
  | 50 => ⟨S_, .i32⟩
  | 51 => ⟨S16x8192, .i32⟩
  | 52 => ⟨S16x8192, .i32⟩
  | 53 => ⟨S16x8192, .i32⟩
  | 54 => ⟨S_, .i32⟩
  | 55 => ⟨S16x8192, .i32⟩
  | 56 => ⟨S16x8192, .i32⟩
  | 57 => ⟨S_, .i32⟩
  | 58 => ⟨S16x8192, .i32⟩
  | 59 => ⟨S16x8192, .i1⟩
  | 60 => ⟨S_, .i32⟩
  | 61 => ⟨S16x8192, .i32⟩
  | 62 => ⟨S16x8192, .i32⟩
  | 63 => ⟨S16x8192, .i32⟩
  | 64 => ⟨S_, .i32⟩
  | 65 => ⟨S16x8192, .i32⟩
  | 66 => ⟨S16x8192, .i32⟩
  | 67 => ⟨S_, .i32⟩
  | 68 => ⟨S16x8192, .i32⟩
  | 69 => ⟨S16x8192, .i1⟩
  | 70 => ⟨S_, .i32⟩
  | 71 => ⟨S16x8192, .i32⟩
  | 72 => ⟨S16x8192, .i32⟩
  | 73 => ⟨S16x8192, .i32⟩
  | 74 => ⟨S_, .i32⟩
  | 75 => ⟨S16x8192, .i32⟩
  | 76 => ⟨S16x8192, .i32⟩
  | 77 => ⟨S_, .i32⟩
  | 78 => ⟨S16x8192, .i32⟩
  | 79 => ⟨S16x8192, .i1⟩
  | 80 => ⟨S_, .i32⟩
  | 81 => ⟨S16x8192, .i32⟩
  | 82 => ⟨S16x8192, .i32⟩
  | 83 => ⟨S16x8192, .i32⟩
  | 84 => ⟨S_, .i32⟩
  | 85 => ⟨S16x8192, .i32⟩
  | 86 => ⟨S16x8192, .i32⟩
  | 87 => ⟨S_, .i32⟩
  | 88 => ⟨S16x8192, .i32⟩
  | 89 => ⟨S16x8192, .i1⟩
  | 90 => ⟨S_, .i32⟩
  | 91 => ⟨S16x8192, .i32⟩
  | 92 => ⟨S16x8192, .i32⟩
  | 93 => ⟨S16x8192, .i32⟩
  | 94 => ⟨S_, .i32⟩
  | 95 => ⟨S16x8192, .i32⟩
  | 96 => ⟨S16x8192, .i32⟩
  | 97 => ⟨S_, .i32⟩
  | 98 => ⟨S16x8192, .i32⟩
  | 99 => ⟨S16x8192, .i1⟩
  | 100 => ⟨S_, .i32⟩
  | 101 => ⟨S16x8192, .i32⟩
  | 102 => ⟨S16x8192, .i32⟩
  | 103 => ⟨S16x8192, .i32⟩
  | 104 => ⟨S16x8192, .i32⟩
  | 105 => ⟨S16x8192, .i32⟩
  | 106 => ⟨S16x8192, .i32⟩
  | 107 => ⟨S_, .i32⟩
  | 108 => ⟨S16x8192, .i32⟩
  | 109 => ⟨S_, .i32⟩
  | 110 => ⟨S16x8192, .i32⟩
  | 111 => ⟨S_, .i32⟩
  | 112 => ⟨S16x8192, .i32⟩
  | 113 => ⟨S16x8192, .i32⟩
  | 114 => ⟨S_, .i32⟩
  | 115 => ⟨S16x8192, .i32⟩
  | 116 => ⟨S16x8192, .i32⟩
  | 117 => ⟨S_, .i32⟩
  | 118 => ⟨S16x8192, .i32⟩
  | 119 => ⟨S16x8192, .i32⟩
  | 120 => ⟨S16x8192, .i32⟩
  | 121 => ⟨S_, .i32⟩
  | 122 => ⟨S16x8192, .i32⟩
  | 123 => ⟨S16x8192, .i32⟩
  | 124 => ⟨S_, .i32⟩
  | 125 => ⟨S16x8192, .i32⟩
  | 126 => ⟨S16x8192, .i32⟩
  | 127 => ⟨S_, .i32⟩
  | _ => ⟨S16x8192x3, .f32⟩

abbrev hbmTy0_9 (i : Nat) : BufTy := match i % 128 with
  | 0 => ⟨S16x8192, .i32⟩
  | 1 => ⟨S16x8192, .i32⟩
  | 2 => ⟨S16x8192, .i32⟩
  | 3 => ⟨S_, .i32⟩
  | 4 => ⟨S16x8192, .i32⟩
  | 5 => ⟨S16x8192, .i32⟩
  | 6 => ⟨S_, .i32⟩
  | 7 => ⟨S16x8192, .i32⟩
  | 8 => ⟨S16x8192, .i32⟩
  | 9 => ⟨S_, .i32⟩
  | 10 => ⟨S16x8192, .i32⟩
  | 11 => ⟨S16x8192, .i32⟩
  | 12 => ⟨S16x8192, .i32⟩
  | 13 => ⟨S_, .i32⟩
  | 14 => ⟨S16x8192, .i32⟩
  | 15 => ⟨S16x8192, .i32⟩
  | 16 => ⟨S_, .i32⟩
  | 17 => ⟨S16x8192, .i32⟩
  | 18 => ⟨S16x8192, .i32⟩
  | 19 => ⟨S_, .i32⟩
  | 20 => ⟨S16x8192, .i32⟩
  | 21 => ⟨S16x8192, .i32⟩
  | 22 => ⟨S16x8192, .i32⟩
  | 23 => ⟨S_, .i32⟩
  | 24 => ⟨S16x8192, .i32⟩
  | 25 => ⟨S16x8192, .i32⟩
  | 26 => ⟨S_, .i32⟩
  | 27 => ⟨S16x8192, .i32⟩
  | 28 => ⟨S16x8192, .i32⟩
  | 29 => ⟨S_, .i32⟩
  | 30 => ⟨S16x8192, .i32⟩
  | 31 => ⟨S16x8192, .i32⟩
  | 32 => ⟨S16x8192, .i32⟩
  | 33 => ⟨S_, .i32⟩
  | 34 => ⟨S16x8192, .i32⟩
  | 35 => ⟨S16x8192, .i32⟩
  | 36 => ⟨S_, .i32⟩
  | 37 => ⟨S16x8192, .i32⟩
  | 38 => ⟨S16x8192, .i32⟩
  | 39 => ⟨S_, .i32⟩
  | 40 => ⟨S16x8192, .i32⟩
  | 41 => ⟨S16x8192, .i32⟩
  | 42 => ⟨S16x8192, .i32⟩
  | 43 => ⟨S_, .i32⟩
  | 44 => ⟨S16x8192, .i32⟩
  | 45 => ⟨S16x8192, .i32⟩
  | 46 => ⟨S_, .i32⟩
  | 47 => ⟨S16x8192, .i32⟩
  | 48 => ⟨S16x8192, .i32⟩
  | 49 => ⟨S_, .i32⟩
  | 50 => ⟨S16x8192, .i32⟩
  | 51 => ⟨S16x8192, .i32⟩
  | 52 => ⟨S16x8192, .i32⟩
  | 53 => ⟨S_, .i32⟩
  | 54 => ⟨S16x8192, .i32⟩
  | 55 => ⟨S16x8192, .i32⟩
  | 56 => ⟨S_, .i32⟩
  | 57 => ⟨S16x8192, .i32⟩
  | 58 => ⟨S16x8192, .i32⟩
  | 59 => ⟨S_, .i32⟩
  | 60 => ⟨S16x8192, .i32⟩
  | 61 => ⟨S16x8192, .i32⟩
  | 62 => ⟨S16x8192, .i32⟩
  | 63 => ⟨S_, .i32⟩
  | 64 => ⟨S16x8192, .i32⟩
  | 65 => ⟨S16x8192, .i32⟩
  | 66 => ⟨S_, .i32⟩
  | 67 => ⟨S16x8192, .i32⟩
  | 68 => ⟨S16x8192, .i32⟩
  | 69 => ⟨S_, .i32⟩
  | 70 => ⟨S16x8192, .i32⟩
  | 71 => ⟨S16x8192, .i32⟩
  | 72 => ⟨S16x8192, .i32⟩
  | 73 => ⟨S_, .i32⟩
  | 74 => ⟨S16x8192, .i32⟩
  | 75 => ⟨S16x8192, .i32⟩
  | 76 => ⟨S_, .i32⟩
  | 77 => ⟨S16x8192, .i32⟩
  | 78 => ⟨S16x8192, .i32⟩
  | 79 => ⟨S_, .i32⟩
  | 80 => ⟨S16x8192, .i32⟩
  | 81 => ⟨S16x8192, .i32⟩
  | 82 => ⟨S16x8192, .i32⟩
  | 83 => ⟨S_, .i32⟩
  | 84 => ⟨S16x8192, .i32⟩
  | 85 => ⟨S16x8192, .i32⟩
  | 86 => ⟨S_, .i32⟩
  | 87 => ⟨S16x8192, .i32⟩
  | 88 => ⟨S16x8192, .i32⟩
  | 89 => ⟨S_, .i32⟩
  | 90 => ⟨S16x8192, .i32⟩
  | 91 => ⟨S16x8192, .i32⟩
  | 92 => ⟨S16x8192, .i32⟩
  | 93 => ⟨S_, .i32⟩
  | 94 => ⟨S16x8192, .i32⟩
  | 95 => ⟨S16x8192, .i32⟩
  | 96 => ⟨S_, .i32⟩
  | 97 => ⟨S16x8192, .i32⟩
  | 98 => ⟨S16x8192, .i32⟩
  | 99 => ⟨S_, .i32⟩
  | 100 => ⟨S16x8192, .i32⟩
  | 101 => ⟨S16x8192, .i32⟩
  | 102 => ⟨S16x8192, .i32⟩
  | 103 => ⟨S_, .i32⟩
  | 104 => ⟨S16x8192, .i32⟩
  | 105 => ⟨S16x8192, .i32⟩
  | 106 => ⟨S_, .i32⟩
  | 107 => ⟨S16x8192, .i32⟩
  | 108 => ⟨S16x8192, .i32⟩
  | 109 => ⟨S_, .i32⟩
  | 110 => ⟨S16x8192, .i32⟩
  | 111 => ⟨S16x8192, .i32⟩
  | 112 => ⟨S16x8192, .i32⟩
  | 113 => ⟨S_, .i32⟩
  | 114 => ⟨S16x8192, .i32⟩
  | 115 => ⟨S16x8192, .i32⟩
  | 116 => ⟨S_, .i32⟩
  | 117 => ⟨S16x8192, .i32⟩
  | 118 => ⟨S16x8192, .i32⟩
  | 119 => ⟨S_, .i32⟩
  | 120 => ⟨S16x8192, .i32⟩
  | 121 => ⟨S16x8192, .i32⟩
  | 122 => ⟨S16x8192, .i32⟩
  | 123 => ⟨S_, .i32⟩
  | 124 => ⟨S16x8192, .i32⟩
  | 125 => ⟨S16x8192, .i32⟩
  | 126 => ⟨S_, .i32⟩
  | 127 => ⟨S16x8192, .i32⟩
  | _ => ⟨S16x8192x3, .f32⟩

abbrev hbmTy0_10 (i : Nat) : BufTy := match i % 128 with
  | 0 => ⟨S16x8192, .i32⟩
  | 1 => ⟨S_, .i32⟩
  | 2 => ⟨S16x8192, .i32⟩
  | 3 => ⟨S16x8192, .i32⟩
  | 4 => ⟨S16x8192, .i32⟩
  | 5 => ⟨S_, .i32⟩
  | 6 => ⟨S16x8192, .i32⟩
  | 7 => ⟨S16x8192, .i32⟩
  | 8 => ⟨S_, .i32⟩
  | 9 => ⟨S16x8192, .i32⟩
  | 10 => ⟨S16x8192, .i32⟩
  | 11 => ⟨S_, .i32⟩
  | 12 => ⟨S16x8192, .i32⟩
  | 13 => ⟨S16x8192, .i32⟩
  | 14 => ⟨S16x8192, .i32⟩
  | 15 => ⟨S_, .i32⟩
  | 16 => ⟨S16x8192, .i32⟩
  | 17 => ⟨S16x8192, .i32⟩
  | 18 => ⟨S_, .i32⟩
  | 19 => ⟨S16x8192, .i32⟩
  | 20 => ⟨S16x8192, .i32⟩
  | 21 => ⟨S_, .i32⟩
  | 22 => ⟨S16x8192, .i32⟩
  | 23 => ⟨S16x8192, .i32⟩
  | 24 => ⟨S16x8192, .i32⟩
  | 25 => ⟨S_, .i32⟩
  | 26 => ⟨S16x8192, .i32⟩
  | 27 => ⟨S16x8192, .i32⟩
  | 28 => ⟨S_, .i32⟩
  | 29 => ⟨S16x8192, .i32⟩
  | 30 => ⟨S16x8192, .i32⟩
  | 31 => ⟨S_, .i32⟩
  | 32 => ⟨S16x8192, .i32⟩
  | 33 => ⟨S16x8192, .i32⟩
  | 34 => ⟨S16x8192, .i32⟩
  | 35 => ⟨S_, .i32⟩
  | 36 => ⟨S16x8192, .i32⟩
  | 37 => ⟨S16x8192, .i32⟩
  | 38 => ⟨S_, .i32⟩
  | 39 => ⟨S16x8192, .i32⟩
  | 40 => ⟨S16x8192, .i32⟩
  | 41 => ⟨S_, .i32⟩
  | 42 => ⟨S16x8192, .i32⟩
  | 43 => ⟨S16x8192, .i32⟩
  | 44 => ⟨S16x8192, .i32⟩
  | 45 => ⟨S_, .i32⟩
  | 46 => ⟨S16x8192, .i32⟩
  | 47 => ⟨S16x8192, .i32⟩
  | 48 => ⟨S_, .i32⟩
  | 49 => ⟨S16x8192, .i32⟩
  | 50 => ⟨S16x8192, .i32⟩
  | 51 => ⟨S_, .i32⟩
  | 52 => ⟨S16x8192, .i32⟩
  | 53 => ⟨S16x8192, .i32⟩
  | 54 => ⟨S16x8192, .i32⟩
  | 55 => ⟨S_, .i32⟩
  | 56 => ⟨S16x8192, .i32⟩
  | 57 => ⟨S16x8192, .i32⟩
  | 58 => ⟨S_, .i32⟩
  | 59 => ⟨S16x8192, .i32⟩
  | 60 => ⟨S16x8192, .i32⟩
  | 61 => ⟨S_, .i32⟩
  | 62 => ⟨S16x8192, .i32⟩
  | 63 => ⟨S16x8192, .i32⟩
  | 64 => ⟨S16x8192, .i32⟩
  | 65 => ⟨S_, .i32⟩
  | 66 => ⟨S16x8192, .i32⟩
  | 67 => ⟨S16x8192, .i32⟩
  | 68 => ⟨S_, .i32⟩
  | 69 => ⟨S16x8192, .i32⟩
  | 70 => ⟨S16x8192, .i32⟩
  | 71 => ⟨S_, .i32⟩
  | 72 => ⟨S16x8192, .i32⟩
  | 73 => ⟨S16x8192, .i32⟩
  | 74 => ⟨S16x8192, .i32⟩
  | 75 => ⟨S_, .i32⟩
  | 76 => ⟨S16x8192, .i32⟩
  | 77 => ⟨S16x8192, .i32⟩
  | 78 => ⟨S_, .i32⟩
  | 79 => ⟨S16x8192, .i32⟩
  | 80 => ⟨S16x8192, .i32⟩
  | 81 => ⟨S_, .i32⟩
  | 82 => ⟨S16x8192, .i32⟩
  | 83 => ⟨S16x8192, .i32⟩
  | 84 => ⟨S16x8192, .i32⟩
  | 85 => ⟨S_, .i32⟩
  | 86 => ⟨S16x8192, .i32⟩
  | 87 => ⟨S16x8192, .i32⟩
  | 88 => ⟨S_, .i32⟩
  | 89 => ⟨S16x8192, .i32⟩
  | 90 => ⟨S16x8192, .i32⟩
  | 91 => ⟨S_, .i32⟩
  | 92 => ⟨S16x8192, .i32⟩
  | 93 => ⟨S16x8192, .i32⟩
  | 94 => ⟨S16x8192, .i32⟩
  | 95 => ⟨S_, .i32⟩
  | 96 => ⟨S16x8192, .i32⟩
  | 97 => ⟨S16x8192, .i32⟩
  | 98 => ⟨S_, .i32⟩
  | 99 => ⟨S16x8192, .i32⟩
  | 100 => ⟨S16x8192, .i32⟩
  | 101 => ⟨S_, .i32⟩
  | 102 => ⟨S16x8192, .i32⟩
  | 103 => ⟨S16x8192, .i32⟩
  | 104 => ⟨S16x8192, .i32⟩
  | 105 => ⟨S_, .i32⟩
  | 106 => ⟨S16x8192, .i32⟩
  | 107 => ⟨S16x8192, .i32⟩
  | 108 => ⟨S_, .i32⟩
  | 109 => ⟨S16x8192, .i32⟩
  | 110 => ⟨S16x8192, .i32⟩
  | 111 => ⟨S_, .i32⟩
  | 112 => ⟨S16x8192, .i32⟩
  | 113 => ⟨S16x8192, .i32⟩
  | 114 => ⟨S16x8192, .i32⟩
  | 115 => ⟨S_, .i32⟩
  | 116 => ⟨S16x8192, .i32⟩
  | 117 => ⟨S16x8192, .i32⟩
  | 118 => ⟨S_, .i32⟩
  | 119 => ⟨S16x8192, .i32⟩
  | 120 => ⟨S16x8192, .i32⟩
  | 121 => ⟨S_, .i32⟩
  | 122 => ⟨S16x8192, .i32⟩
  | 123 => ⟨S16x8192, .i32⟩
  | 124 => ⟨S16x8192, .i32⟩
  | 125 => ⟨S_, .i32⟩
  | 126 => ⟨S16x8192, .i32⟩
  | 127 => ⟨S16x8192, .i32⟩
  | _ => ⟨S16x8192x3, .f32⟩

abbrev hbmTy0_11 (i : Nat) : BufTy := match i % 128 with
  | 0 => ⟨S_, .i32⟩
  | 1 => ⟨S16x8192, .i32⟩
  | 2 => ⟨S16x8192, .i32⟩
  | 3 => ⟨S_, .i32⟩
  | 4 => ⟨S16x8192, .i32⟩
  | 5 => ⟨S16x8192, .i32⟩
  | 6 => ⟨S16x8192, .i32⟩
  | 7 => ⟨S_, .i32⟩
  | 8 => ⟨S16x8192, .i32⟩
  | 9 => ⟨S16x8192, .i32⟩
  | 10 => ⟨S_, .i32⟩
  | 11 => ⟨S16x8192, .i32⟩
  | 12 => ⟨S16x8192, .i32⟩
  | 13 => ⟨S_, .i32⟩
  | 14 => ⟨S16x8192, .i32⟩
  | 15 => ⟨S16x8192, .i32⟩
  | 16 => ⟨S16x8192, .i32⟩
  | 17 => ⟨S_, .i32⟩
  | 18 => ⟨S16x8192, .i32⟩
  | 19 => ⟨S16x8192, .i32⟩
  | 20 => ⟨S_, .i32⟩
  | 21 => ⟨S16x8192, .i32⟩
  | 22 => ⟨S16x8192, .i32⟩
  | 23 => ⟨S_, .i32⟩
  | 24 => ⟨S16x8192, .i32⟩
  | 25 => ⟨S16x8192, .i32⟩
  | 26 => ⟨S16x8192, .i32⟩
  | 27 => ⟨S_, .i32⟩
  | 28 => ⟨S16x8192, .i32⟩
  | 29 => ⟨S16x8192, .i32⟩
  | 30 => ⟨S_, .i32⟩
  | 31 => ⟨S16x8192, .i32⟩
  | 32 => ⟨S16x8192, .i32⟩
  | 33 => ⟨S_, .i32⟩
  | 34 => ⟨S16x8192, .i32⟩
  | 35 => ⟨S16x8192, .i32⟩
  | 36 => ⟨S16x8192, .i32⟩
  | 37 => ⟨S_, .i32⟩
  | 38 => ⟨S16x8192, .i32⟩
  | 39 => ⟨S16x8192, .i32⟩
  | 40 => ⟨S_, .i32⟩
  | 41 => ⟨S16x8192, .i32⟩
  | 42 => ⟨S16x8192, .i32⟩
  | 43 => ⟨S_, .i32⟩
  | 44 => ⟨S16x8192, .i32⟩
  | 45 => ⟨S16x8192, .i32⟩
  | 46 => ⟨S16x8192, .i32⟩
  | 47 => ⟨S_, .i32⟩
  | 48 => ⟨S16x8192, .i32⟩
  | 49 => ⟨S16x8192, .i32⟩
  | 50 => ⟨S_, .i32⟩
  | 51 => ⟨S16x8192, .i32⟩
  | 52 => ⟨S16x8192, .i32⟩
  | 53 => ⟨S_, .i32⟩
  | 54 => ⟨S16x8192, .i32⟩
  | 55 => ⟨S16x8192, .i32⟩
  | 56 => ⟨S16x8192, .i32⟩
  | 57 => ⟨S_, .i32⟩
  | 58 => ⟨S16x8192, .i32⟩
  | 59 => ⟨S16x8192, .i32⟩
  | 60 => ⟨S_, .i32⟩
  | 61 => ⟨S16x8192, .i32⟩
  | 62 => ⟨S16x8192, .i32⟩
  | 63 => ⟨S_, .i32⟩
  | 64 => ⟨S16x8192, .i32⟩
  | 65 => ⟨S16x8192, .i32⟩
  | 66 => ⟨S16x8192, .i32⟩
  | 67 => ⟨S_, .i32⟩
  | 68 => ⟨S16x8192, .i32⟩
  | 69 => ⟨S16x8192, .i32⟩
  | 70 => ⟨S_, .i32⟩
  | 71 => ⟨S16x8192, .i32⟩
  | 72 => ⟨S16x8192, .i32⟩
  | 73 => ⟨S_, .i32⟩
  | 74 => ⟨S16x8192, .i32⟩
  | 75 => ⟨S16x8192, .i32⟩
  | 76 => ⟨S16x8192, .i32⟩
  | 77 => ⟨S_, .i32⟩
  | 78 => ⟨S16x8192, .i32⟩
  | 79 => ⟨S16x8192, .i32⟩
  | 80 => ⟨S_, .i32⟩
  | 81 => ⟨S16x8192, .i32⟩
  | 82 => ⟨S16x8192, .i32⟩
  | 83 => ⟨S_, .i32⟩
  | 84 => ⟨S16x8192, .i32⟩
  | 85 => ⟨S16x8192, .i32⟩
  | 86 => ⟨S16x8192, .i32⟩
  | 87 => ⟨S_, .i32⟩
  | 88 => ⟨S16x8192, .i32⟩
  | 89 => ⟨S16x8192, .i32⟩
  | 90 => ⟨S_, .i32⟩
  | 91 => ⟨S16x8192, .i32⟩
  | 92 => ⟨S16x8192, .i32⟩
  | 93 => ⟨S_, .i32⟩
  | 94 => ⟨S16x8192, .i32⟩
  | 95 => ⟨S16x8192, .i32⟩
  | 96 => ⟨S16x8192, .i32⟩
  | 97 => ⟨S_, .i32⟩
  | 98 => ⟨S16x8192, .i32⟩
  | 99 => ⟨S16x8192, .i32⟩
  | 100 => ⟨S_, .i32⟩
  | 101 => ⟨S16x8192, .i32⟩
  | 102 => ⟨S16x8192, .i32⟩
  | 103 => ⟨S_, .i32⟩
  | 104 => ⟨S16x8192, .i32⟩
  | 105 => ⟨S16x8192, .i32⟩
  | 106 => ⟨S16x8192, .i32⟩
  | 107 => ⟨S_, .i32⟩
  | 108 => ⟨S16x8192, .i32⟩
  | 109 => ⟨S16x8192, .i32⟩
  | 110 => ⟨S_, .i32⟩
  | 111 => ⟨S16x8192, .i32⟩
  | 112 => ⟨S16x8192, .i32⟩
  | 113 => ⟨S_, .i32⟩
  | 114 => ⟨S16x8192, .i32⟩
  | 115 => ⟨S16x8192, .i32⟩
  | 116 => ⟨S16x8192, .i32⟩
  | 117 => ⟨S_, .i32⟩
  | 118 => ⟨S16x8192, .i32⟩
  | 119 => ⟨S16x8192, .i32⟩
  | 120 => ⟨S_, .i32⟩
  | 121 => ⟨S16x8192, .i32⟩
  | 122 => ⟨S16x8192, .i32⟩
  | 123 => ⟨S_, .i32⟩
  | 124 => ⟨S16x8192, .i32⟩
  | 125 => ⟨S16x8192, .i32⟩
  | 126 => ⟨S16x8192, .i32⟩
  | 127 => ⟨S_, .i32⟩
  | _ => ⟨S16x8192x3, .f32⟩

abbrev hbmTy0_12 (i : Nat) : BufTy := match i % 128 with
  | 0 => ⟨S16x8192, .i32⟩
  | 1 => ⟨S16x8192, .i32⟩
  | 2 => ⟨S_, .i32⟩
  | 3 => ⟨S16x8192, .i32⟩
  | 4 => ⟨S16x8192, .i32⟩
  | 5 => ⟨S_, .i32⟩
  | 6 => ⟨S16x8192, .i32⟩
  | 7 => ⟨S16x8192, .i32⟩
  | 8 => ⟨S16x8192, .i32⟩
  | 9 => ⟨S_, .i32⟩
  | 10 => ⟨S16x8192, .i32⟩
  | 11 => ⟨S16x8192, .i32⟩
  | 12 => ⟨S_, .i32⟩
  | 13 => ⟨S16x8192, .i32⟩
  | 14 => ⟨S16x8192, .i32⟩
  | 15 => ⟨S_, .i32⟩
  | 16 => ⟨S16x8192, .i32⟩
  | 17 => ⟨S16x8192, .i32⟩
  | 18 => ⟨S16x8192, .i32⟩
  | 19 => ⟨S_, .i32⟩
  | 20 => ⟨S16x8192, .i32⟩
  | 21 => ⟨S16x8192, .i32⟩
  | 22 => ⟨S_, .i32⟩
  | 23 => ⟨S16x8192, .i32⟩
  | 24 => ⟨S16x8192, .i32⟩
  | 25 => ⟨S_, .i32⟩
  | 26 => ⟨S16x8192, .i32⟩
  | 27 => ⟨S16x8192, .i32⟩
  | 28 => ⟨S16x8192, .i32⟩
  | 29 => ⟨S_, .i32⟩
  | 30 => ⟨S16x8192, .i32⟩
  | 31 => ⟨S16x8192, .i32⟩
  | 32 => ⟨S_, .i32⟩
  | 33 => ⟨S16x8192, .i32⟩
  | 34 => ⟨S16x8192, .i32⟩
  | 35 => ⟨S_, .i32⟩
  | 36 => ⟨S16x8192, .i32⟩
  | 37 => ⟨S16x8192, .i32⟩
  | 38 => ⟨S16x8192, .i32⟩
  | 39 => ⟨S_, .i32⟩
  | 40 => ⟨S16x8192, .i32⟩
  | 41 => ⟨S16x8192, .i32⟩
  | 42 => ⟨S_, .i32⟩
  | 43 => ⟨S16x8192, .i32⟩
  | 44 => ⟨S16x8192, .i32⟩
  | 45 => ⟨S_, .i32⟩
  | 46 => ⟨S16x8192, .i32⟩
  | 47 => ⟨S16x8192, .i32⟩
  | 48 => ⟨S16x8192, .i32⟩
  | 49 => ⟨S_, .i32⟩
  | 50 => ⟨S16x8192, .i32⟩
  | 51 => ⟨S16x8192, .i32⟩
  | 52 => ⟨S_, .i32⟩
  | 53 => ⟨S16x8192, .i32⟩
  | 54 => ⟨S16x8192, .i32⟩
  | 55 => ⟨S_, .i32⟩
  | 56 => ⟨S16x8192, .i32⟩
  | 57 => ⟨S16x8192, .i32⟩
  | 58 => ⟨S16x8192, .i32⟩
  | 59 => ⟨S_, .i32⟩
  | 60 => ⟨S16x8192, .i32⟩
  | 61 => ⟨S16x8192, .i32⟩
  | 62 => ⟨S_, .i32⟩
  | 63 => ⟨S16x8192, .i32⟩
  | 64 => ⟨S16x8192, .i32⟩
  | 65 => ⟨S_, .i32⟩
  | 66 => ⟨S16x8192, .i32⟩
  | 67 => ⟨S16x8192, .i32⟩
  | 68 => ⟨S16x8192, .i32⟩
  | 69 => ⟨S_, .i32⟩
  | 70 => ⟨S16x8192, .i32⟩
  | 71 => ⟨S16x8192, .i32⟩
  | 72 => ⟨S_, .i32⟩
  | 73 => ⟨S16x8192, .i32⟩
  | 74 => ⟨S16x8192, .i32⟩
  | 75 => ⟨S_, .i32⟩
  | 76 => ⟨S16x8192, .i32⟩
  | 77 => ⟨S16x8192, .i32⟩
  | 78 => ⟨S16x8192, .i32⟩
  | 79 => ⟨S_, .i32⟩
  | 80 => ⟨S16x8192, .i32⟩
  | 81 => ⟨S16x8192, .i32⟩
  | 82 => ⟨S_, .i32⟩
  | 83 => ⟨S16x8192, .i32⟩
  | 84 => ⟨S16x8192, .i32⟩
  | 85 => ⟨S_, .i32⟩
  | 86 => ⟨S16x8192, .i32⟩
  | 87 => ⟨S16x8192, .i32⟩
  | 88 => ⟨S16x8192, .i32⟩
  | 89 => ⟨S_, .i32⟩
  | 90 => ⟨S16x8192, .i32⟩
  | 91 => ⟨S16x8192, .i32⟩
  | 92 => ⟨S_, .i32⟩
  | 93 => ⟨S16x8192, .i32⟩
  | 94 => ⟨S16x8192, .i32⟩
  | 95 => ⟨S_, .i32⟩
  | 96 => ⟨S16x8192, .i32⟩
  | 97 => ⟨S16x8192, .i32⟩
  | 98 => ⟨S16x8192, .i32⟩
  | 99 => ⟨S_, .i32⟩
  | 100 => ⟨S16x8192, .i32⟩
  | 101 => ⟨S16x8192, .i32⟩
  | 102 => ⟨S_, .i32⟩
  | 103 => ⟨S16x8192, .i32⟩
  | 104 => ⟨S16x8192, .i32⟩
  | 105 => ⟨S_, .i32⟩
  | 106 => ⟨S16x8192, .i32⟩
  | 107 => ⟨S16x8192, .i32⟩
  | 108 => ⟨S16x8192, .i32⟩
  | 109 => ⟨S_, .i32⟩
  | 110 => ⟨S16x8192, .i32⟩
  | 111 => ⟨S16x8192, .i32⟩
  | 112 => ⟨S_, .i32⟩
  | 113 => ⟨S16x8192, .i32⟩
  | 114 => ⟨S16x8192, .i32⟩
  | 115 => ⟨S_, .i32⟩
  | 116 => ⟨S16x8192, .i32⟩
  | 117 => ⟨S16x8192, .i32⟩
  | 118 => ⟨S16x8192, .i32⟩
  | 119 => ⟨S_, .i32⟩
  | 120 => ⟨S16x8192, .i32⟩
  | 121 => ⟨S16x8192, .i32⟩
  | 122 => ⟨S_, .i32⟩
  | 123 => ⟨S16x8192, .i32⟩
  | 124 => ⟨S16x8192, .i32⟩
  | 125 => ⟨S_, .i32⟩
  | 126 => ⟨S16x8192, .i32⟩
  | 127 => ⟨S16x8192, .i32⟩
  | _ => ⟨S16x8192x3, .f32⟩

abbrev hbmTy0_13 (i : Nat) : BufTy := match i % 128 with
  | 0 => ⟨S16x8192, .i32⟩
  | 1 => ⟨S_, .i32⟩
  | 2 => ⟨S16x8192, .i32⟩
  | 3 => ⟨S16x8192, .i32⟩
  | 4 => ⟨S_, .i32⟩
  | 5 => ⟨S16x8192, .i32⟩
  | 6 => ⟨S16x8192, .i32⟩
  | 7 => ⟨S_, .i32⟩
  | 8 => ⟨S16x8192, .i32⟩
  | 9 => ⟨S16x8192, .i32⟩
  | 10 => ⟨S16x8192, .i32⟩
  | 11 => ⟨S_, .i32⟩
  | 12 => ⟨S16x8192, .i32⟩
  | 13 => ⟨S16x8192, .i32⟩
  | 14 => ⟨S_, .i32⟩
  | 15 => ⟨S16x8192, .i32⟩
  | 16 => ⟨S16x8192, .i32⟩
  | 17 => ⟨S_, .i32⟩
  | 18 => ⟨S16x8192, .i32⟩
  | 19 => ⟨S16x8192, .i32⟩
  | 20 => ⟨S16x8192, .i32⟩
  | 21 => ⟨S_, .i32⟩
  | 22 => ⟨S16x8192, .i32⟩
  | 23 => ⟨S16x8192, .i32⟩
  | 24 => ⟨S_, .i32⟩
  | 25 => ⟨S16x8192, .i32⟩
  | 26 => ⟨S16x8192, .i32⟩
  | 27 => ⟨S_, .i32⟩
  | 28 => ⟨S16x8192, .i32⟩
  | 29 => ⟨S16x8192, .i32⟩
  | 30 => ⟨S16x8192, .i32⟩
  | 31 => ⟨S_, .i32⟩
  | 32 => ⟨S16x8192, .i32⟩
  | 33 => ⟨S16x8192, .i32⟩
  | 34 => ⟨S_, .i32⟩
  | 35 => ⟨S16x8192, .i32⟩
  | 36 => ⟨S16x8192, .i32⟩
  | 37 => ⟨S_, .i32⟩
  | 38 => ⟨S16x8192, .i32⟩
  | 39 => ⟨S16x8192, .i32⟩
  | 40 => ⟨S16x8192, .i32⟩
  | 41 => ⟨S_, .i32⟩
  | 42 => ⟨S16x8192, .i32⟩
  | 43 => ⟨S16x8192, .i32⟩
  | 44 => ⟨S_, .i32⟩
  | 45 => ⟨S16x8192, .i32⟩
  | 46 => ⟨S16x8192, .i32⟩
  | 47 => ⟨S_, .i32⟩
  | 48 => ⟨S16x8192, .i32⟩
  | 49 => ⟨S16x8192, .i32⟩
  | 50 => ⟨S16x8192, .i32⟩
  | 51 => ⟨S_, .i32⟩
  | 52 => ⟨S16x8192, .i32⟩
  | 53 => ⟨S16x8192, .i32⟩
  | 54 => ⟨S_, .i32⟩
  | 55 => ⟨S16x8192, .i32⟩
  | 56 => ⟨S16x8192, .i32⟩
  | 57 => ⟨S_, .i32⟩
  | 58 => ⟨S16x8192, .i32⟩
  | 59 => ⟨S16x8192, .i32⟩
  | 60 => ⟨S16x8192, .i32⟩
  | 61 => ⟨S_, .i32⟩
  | 62 => ⟨S16x8192, .i32⟩
  | 63 => ⟨S16x8192, .i32⟩
  | 64 => ⟨S_, .i32⟩
  | 65 => ⟨S16x8192, .i32⟩
  | 66 => ⟨S16x8192, .i32⟩
  | 67 => ⟨S_, .i32⟩
  | 68 => ⟨S16x8192, .i32⟩
  | 69 => ⟨S16x8192, .i32⟩
  | 70 => ⟨S16x8192, .i32⟩
  | 71 => ⟨S_, .i32⟩
  | 72 => ⟨S16x8192, .i32⟩
  | 73 => ⟨S16x8192, .i32⟩
  | 74 => ⟨S_, .i32⟩
  | 75 => ⟨S16x8192, .i32⟩
  | 76 => ⟨S16x8192, .i32⟩
  | 77 => ⟨S_, .i32⟩
  | 78 => ⟨S16x8192, .i32⟩
  | 79 => ⟨S16x8192, .i32⟩
  | 80 => ⟨S16x8192, .i32⟩
  | 81 => ⟨S_, .i32⟩
  | 82 => ⟨S16x8192, .i32⟩
  | 83 => ⟨S16x8192, .i32⟩
  | 84 => ⟨S_, .i32⟩
  | 85 => ⟨S16x8192, .i32⟩
  | 86 => ⟨S16x8192, .i32⟩
  | 87 => ⟨S_, .i32⟩
  | 88 => ⟨S16x8192, .i32⟩
  | 89 => ⟨S16x8192, .i32⟩
  | 90 => ⟨S16x8192, .i32⟩
  | 91 => ⟨S_, .i32⟩
  | 92 => ⟨S16x8192, .i32⟩
  | 93 => ⟨S16x8192, .i32⟩
  | 94 => ⟨S_, .i32⟩
  | 95 => ⟨S16x8192, .i32⟩
  | 96 => ⟨S16x8192, .i32⟩
  | 97 => ⟨S_, .i32⟩
  | 98 => ⟨S16x8192, .i32⟩
  | 99 => ⟨S16x8192, .i32⟩
  | 100 => ⟨S16x8192, .i32⟩
  | 101 => ⟨S16x8192, .i32⟩
  | 102 => ⟨S_, .i32⟩
  | 103 => ⟨S16x8192, .i32⟩
  | 104 => ⟨S16x8192, .i32⟩
  | 105 => ⟨S_, .i32⟩
  | 106 => ⟨S16x8192, .i32⟩
  | 107 => ⟨S16x8192, .i32⟩
  | 108 => ⟨S16x8192, .i32⟩
  | 109 => ⟨S16x8192, .i32⟩
  | 110 => ⟨S16x8192, .i32⟩
  | 111 => ⟨S16x8192, .i32⟩
  | 112 => ⟨S16x8192, .i32⟩
  | _ => ⟨S16x8192x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S16x8192x3, .f32⟩

abbrev bufTy : (tb : Table) → Fin (tcTables nBuf tb) → BufTy
  | .hbm, ⟨i, _⟩ => hbmTy i
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_c_8 : Ref sig .tc := ⟨.hbm, 47, rfl⟩
abbrev main_v36 : Ref sig .tc := ⟨.hbm, 48, rfl⟩
abbrev main_v37 : Ref sig .tc := ⟨.hbm, 49, rfl⟩
abbrev main_c_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_10 : Ref sig .tc := ⟨.hbm, 54, rfl⟩
abbrev main_v41 : Ref sig .tc := ⟨.hbm, 55, rfl⟩
abbrev main_v42 : Ref sig .tc := ⟨.hbm, 56, rfl⟩
abbrev main_c_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_12 : Ref sig .tc := ⟨.hbm, 61, rfl⟩
abbrev main_v46 : Ref sig .tc := ⟨.hbm, 62, rfl⟩
abbrev main_v47 : Ref sig .tc := ⟨.hbm, 63, rfl⟩
abbrev main_c_13 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_14 : Ref sig .tc := ⟨.hbm, 71, rfl⟩
abbrev main_v54 : Ref sig .tc := ⟨.hbm, 72, rfl⟩
abbrev main_v55 : Ref sig .tc := ⟨.hbm, 73, rfl⟩
abbrev main_c_15 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_16 : Ref sig .tc := ⟨.hbm, 78, rfl⟩
abbrev main_v59 : Ref sig .tc := ⟨.hbm, 79, rfl⟩
abbrev main_v60 : Ref sig .tc := ⟨.hbm, 80, rfl⟩
abbrev main_c_17 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_18 : Ref sig .tc := ⟨.hbm, 88, rfl⟩
abbrev main_v67 : Ref sig .tc := ⟨.hbm, 89, rfl⟩
abbrev main_v68 : Ref sig .tc := ⟨.hbm, 90, rfl⟩
abbrev main_c_19 : Ref sig .tc := ⟨.hbm, 91, rfl⟩
abbrev main_v69 : Ref sig .tc := ⟨.hbm, 92, rfl⟩
abbrev main_v70 : Ref sig .tc := ⟨.hbm, 93, rfl⟩
abbrev main_c_20 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_21 : Ref sig .tc := ⟨.hbm, 98, rfl⟩
abbrev main_v74 : Ref sig .tc := ⟨.hbm, 99, rfl⟩
abbrev main_v75 : Ref sig .tc := ⟨.hbm, 100, rfl⟩
abbrev main_c_22 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_23 : Ref sig .tc := ⟨.hbm, 105, rfl⟩
abbrev main_v79 : Ref sig .tc := ⟨.hbm, 106, rfl⟩
abbrev main_v80 : Ref sig .tc := ⟨.hbm, 107, rfl⟩
abbrev main_c_24 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_25 : Ref sig .tc := ⟨.hbm, 115, rfl⟩
abbrev main_v87 : Ref sig .tc := ⟨.hbm, 116, rfl⟩
abbrev main_v88 : Ref sig .tc := ⟨.hbm, 117, rfl⟩
abbrev main_c_26 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_27 : Ref sig .tc := ⟨.hbm, 122, rfl⟩
abbrev main_v92 : Ref sig .tc := ⟨.hbm, 123, rfl⟩
abbrev main_v93 : Ref sig .tc := ⟨.hbm, 124, rfl⟩
abbrev main_c_28 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_29 : Ref sig .tc := ⟨.hbm, 132, rfl⟩
abbrev main_v100 : Ref sig .tc := ⟨.hbm, 133, rfl⟩
abbrev main_v101 : Ref sig .tc := ⟨.hbm, 134, rfl⟩
abbrev main_c_30 : Ref sig .tc := ⟨.hbm, 135, rfl⟩
abbrev main_v102 : Ref sig .tc := ⟨.hbm, 136, rfl⟩
abbrev main_v103 : Ref sig .tc := ⟨.hbm, 137, rfl⟩
abbrev main_c_31 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_32 : Ref sig .tc := ⟨.hbm, 142, rfl⟩
abbrev main_v107 : Ref sig .tc := ⟨.hbm, 143, rfl⟩
abbrev main_v108 : Ref sig .tc := ⟨.hbm, 144, rfl⟩
abbrev main_c_33 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_34 : Ref sig .tc := ⟨.hbm, 149, rfl⟩
abbrev main_v112 : Ref sig .tc := ⟨.hbm, 150, rfl⟩
abbrev main_v113 : Ref sig .tc := ⟨.hbm, 151, rfl⟩
abbrev main_c_35 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_36 : Ref sig .tc := ⟨.hbm, 159, rfl⟩
abbrev main_v120 : Ref sig .tc := ⟨.hbm, 160, rfl⟩
abbrev main_v121 : Ref sig .tc := ⟨.hbm, 161, rfl⟩
abbrev main_c_37 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_38 : Ref sig .tc := ⟨.hbm, 166, rfl⟩
abbrev main_v125 : Ref sig .tc := ⟨.hbm, 167, rfl⟩
abbrev main_v126 : Ref sig .tc := ⟨.hbm, 168, rfl⟩
abbrev main_c_39 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_40 : Ref sig .tc := ⟨.hbm, 176, rfl⟩
abbrev main_v133 : Ref sig .tc := ⟨.hbm, 177, rfl⟩
abbrev main_v134 : Ref sig .tc := ⟨.hbm, 178, rfl⟩
abbrev main_c_41 : Ref sig .tc := ⟨.hbm, 179, rfl⟩
abbrev main_v135 : Ref sig .tc := ⟨.hbm, 180, rfl⟩
abbrev main_v136 : Ref sig .tc := ⟨.hbm, 181, rfl⟩
abbrev main_c_42 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_43 : Ref sig .tc := ⟨.hbm, 186, rfl⟩
abbrev main_v140 : Ref sig .tc := ⟨.hbm, 187, rfl⟩
abbrev main_v141 : Ref sig .tc := ⟨.hbm, 188, rfl⟩
abbrev main_c_44 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_c_45 : Ref sig .tc := ⟨.hbm, 193, rfl⟩
abbrev main_v145 : Ref sig .tc := ⟨.hbm, 194, rfl⟩
abbrev main_v146 : Ref sig .tc := ⟨.hbm, 195, rfl⟩
abbrev main_c_46 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_c_47 : Ref sig .tc := ⟨.hbm, 203, rfl⟩
abbrev main_v153 : Ref sig .tc := ⟨.hbm, 204, rfl⟩
abbrev main_v154 : Ref sig .tc := ⟨.hbm, 205, rfl⟩
abbrev main_c_48 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_49 : Ref sig .tc := ⟨.hbm, 210, rfl⟩
abbrev main_v158 : Ref sig .tc := ⟨.hbm, 211, rfl⟩
abbrev main_v159 : Ref sig .tc := ⟨.hbm, 212, rfl⟩
abbrev main_c_50 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c_51 : Ref sig .tc := ⟨.hbm, 220, rfl⟩
abbrev main_v166 : Ref sig .tc := ⟨.hbm, 221, rfl⟩
abbrev main_v167 : Ref sig .tc := ⟨.hbm, 222, rfl⟩
abbrev main_c_52 : Ref sig .tc := ⟨.hbm, 223, rfl⟩
abbrev main_v168 : Ref sig .tc := ⟨.hbm, 224, rfl⟩
abbrev main_v169 : Ref sig .tc := ⟨.hbm, 225, rfl⟩
abbrev main_c_53 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_c_54 : Ref sig .tc := ⟨.hbm, 230, rfl⟩
abbrev main_v173 : Ref sig .tc := ⟨.hbm, 231, rfl⟩
abbrev main_v174 : Ref sig .tc := ⟨.hbm, 232, rfl⟩
abbrev main_c_55 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_c_56 : Ref sig .tc := ⟨.hbm, 237, rfl⟩
abbrev main_v178 : Ref sig .tc := ⟨.hbm, 238, rfl⟩
abbrev main_v179 : Ref sig .tc := ⟨.hbm, 239, rfl⟩
abbrev main_c_57 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_c_58 : Ref sig .tc := ⟨.hbm, 247, rfl⟩
abbrev main_v186 : Ref sig .tc := ⟨.hbm, 248, rfl⟩
abbrev main_v187 : Ref sig .tc := ⟨.hbm, 249, rfl⟩
abbrev main_c_59 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_c_60 : Ref sig .tc := ⟨.hbm, 254, rfl⟩
abbrev main_v191 : Ref sig .tc := ⟨.hbm, 255, rfl⟩
abbrev main_v192 : Ref sig .tc := ⟨.hbm, 256, rfl⟩
abbrev main_c_61 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_c_62 : Ref sig .tc := ⟨.hbm, 264, rfl⟩
abbrev main_v199 : Ref sig .tc := ⟨.hbm, 265, rfl⟩
abbrev main_v200 : Ref sig .tc := ⟨.hbm, 266, rfl⟩
abbrev main_c_63 : Ref sig .tc := ⟨.hbm, 267, rfl⟩
abbrev main_v201 : Ref sig .tc := ⟨.hbm, 268, rfl⟩
abbrev main_v202 : Ref sig .tc := ⟨.hbm, 269, rfl⟩
abbrev main_c_64 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_c_65 : Ref sig .tc := ⟨.hbm, 274, rfl⟩
abbrev main_v206 : Ref sig .tc := ⟨.hbm, 275, rfl⟩
abbrev main_v207 : Ref sig .tc := ⟨.hbm, 276, rfl⟩
abbrev main_c_66 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_c_67 : Ref sig .tc := ⟨.hbm, 281, rfl⟩
abbrev main_v211 : Ref sig .tc := ⟨.hbm, 282, rfl⟩
abbrev main_v212 : Ref sig .tc := ⟨.hbm, 283, rfl⟩
abbrev main_c_68 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_c_69 : Ref sig .tc := ⟨.hbm, 291, rfl⟩
abbrev main_v219 : Ref sig .tc := ⟨.hbm, 292, rfl⟩
abbrev main_v220 : Ref sig .tc := ⟨.hbm, 293, rfl⟩
abbrev main_c_70 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_c_71 : Ref sig .tc := ⟨.hbm, 298, rfl⟩
abbrev main_v224 : Ref sig .tc := ⟨.hbm, 299, rfl⟩
abbrev main_v225 : Ref sig .tc := ⟨.hbm, 300, rfl⟩
abbrev main_c_72 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_c_73 : Ref sig .tc := ⟨.hbm, 308, rfl⟩
abbrev main_v232 : Ref sig .tc := ⟨.hbm, 309, rfl⟩
abbrev main_v233 : Ref sig .tc := ⟨.hbm, 310, rfl⟩
abbrev main_c_74 : Ref sig .tc := ⟨.hbm, 311, rfl⟩
abbrev main_v234 : Ref sig .tc := ⟨.hbm, 312, rfl⟩
abbrev main_v235 : Ref sig .tc := ⟨.hbm, 313, rfl⟩
abbrev main_c_75 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_c_76 : Ref sig .tc := ⟨.hbm, 318, rfl⟩
abbrev main_v239 : Ref sig .tc := ⟨.hbm, 319, rfl⟩
abbrev main_v240 : Ref sig .tc := ⟨.hbm, 320, rfl⟩
abbrev main_c_77 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_c_78 : Ref sig .tc := ⟨.hbm, 325, rfl⟩
abbrev main_v244 : Ref sig .tc := ⟨.hbm, 326, rfl⟩
abbrev main_v245 : Ref sig .tc := ⟨.hbm, 327, rfl⟩
abbrev main_c_79 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_c_80 : Ref sig .tc := ⟨.hbm, 335, rfl⟩
abbrev main_v252 : Ref sig .tc := ⟨.hbm, 336, rfl⟩
abbrev main_v253 : Ref sig .tc := ⟨.hbm, 337, rfl⟩
abbrev main_c_81 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_c_82 : Ref sig .tc := ⟨.hbm, 342, rfl⟩
abbrev main_v257 : Ref sig .tc := ⟨.hbm, 343, rfl⟩
abbrev main_v258 : Ref sig .tc := ⟨.hbm, 344, rfl⟩
abbrev main_c_83 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_c_84 : Ref sig .tc := ⟨.hbm, 352, rfl⟩
abbrev main_v265 : Ref sig .tc := ⟨.hbm, 353, rfl⟩
abbrev main_v266 : Ref sig .tc := ⟨.hbm, 354, rfl⟩
abbrev main_c_85 : Ref sig .tc := ⟨.hbm, 355, rfl⟩
abbrev main_v267 : Ref sig .tc := ⟨.hbm, 356, rfl⟩
abbrev main_v268 : Ref sig .tc := ⟨.hbm, 357, rfl⟩
abbrev main_c_86 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_c_87 : Ref sig .tc := ⟨.hbm, 362, rfl⟩
abbrev main_v272 : Ref sig .tc := ⟨.hbm, 363, rfl⟩
abbrev main_v273 : Ref sig .tc := ⟨.hbm, 364, rfl⟩
abbrev main_c_88 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_c_89 : Ref sig .tc := ⟨.hbm, 369, rfl⟩
abbrev main_v277 : Ref sig .tc := ⟨.hbm, 370, rfl⟩
abbrev main_v278 : Ref sig .tc := ⟨.hbm, 371, rfl⟩
abbrev main_c_90 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_c_91 : Ref sig .tc := ⟨.hbm, 379, rfl⟩
abbrev main_v285 : Ref sig .tc := ⟨.hbm, 380, rfl⟩
abbrev main_v286 : Ref sig .tc := ⟨.hbm, 381, rfl⟩
abbrev main_c_92 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_c_93 : Ref sig .tc := ⟨.hbm, 386, rfl⟩
abbrev main_v290 : Ref sig .tc := ⟨.hbm, 387, rfl⟩
abbrev main_v291 : Ref sig .tc := ⟨.hbm, 388, rfl⟩
abbrev main_c_94 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_v297 : Ref sig .tc := ⟨.hbm, 395, rfl⟩
abbrev main_c_95 : Ref sig .tc := ⟨.hbm, 396, rfl⟩
abbrev main_v298 : Ref sig .tc := ⟨.hbm, 397, rfl⟩
abbrev main_v299 : Ref sig .tc := ⟨.hbm, 398, rfl⟩
abbrev main_c_96 : Ref sig .tc := ⟨.hbm, 399, rfl⟩
abbrev main_v300 : Ref sig .tc := ⟨.hbm, 400, rfl⟩
abbrev main_v301 : Ref sig .tc := ⟨.hbm, 401, rfl⟩
abbrev main_c_97 : Ref sig .tc := ⟨.hbm, 402, rfl⟩
abbrev main_v302 : Ref sig .tc := ⟨.hbm, 403, rfl⟩
abbrev main_v303 : Ref sig .tc := ⟨.hbm, 404, rfl⟩
abbrev main_v304 : Ref sig .tc := ⟨.hbm, 405, rfl⟩
abbrev main_c_98 : Ref sig .tc := ⟨.hbm, 406, rfl⟩
abbrev main_v305 : Ref sig .tc := ⟨.hbm, 407, rfl⟩
abbrev main_v306 : Ref sig .tc := ⟨.hbm, 408, rfl⟩
abbrev main_c_99 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_c_100 : Ref sig .tc := ⟨.hbm, 413, rfl⟩
abbrev main_v310 : Ref sig .tc := ⟨.hbm, 414, rfl⟩
abbrev main_v311 : Ref sig .tc := ⟨.hbm, 415, rfl⟩
abbrev main_c_101 : Ref sig .tc := ⟨.hbm, 416, rfl⟩
abbrev main_v312 : Ref sig .tc := ⟨.hbm, 417, rfl⟩
abbrev main_v313 : Ref sig .tc := ⟨.hbm, 418, rfl⟩
abbrev main_v314 : Ref sig .tc := ⟨.hbm, 419, rfl⟩
abbrev main_v315 : Ref sig .tc := ⟨.hbm, 420, rfl⟩
abbrev main_v316 : Ref sig .tc := ⟨.hbm, 421, rfl⟩
abbrev main_v317 : Ref sig .tc := ⟨.hbm, 422, rfl⟩
abbrev main_c_102 : Ref sig .tc := ⟨.hbm, 423, rfl⟩
abbrev main_v318 : Ref sig .tc := ⟨.hbm, 424, rfl⟩
abbrev main_v319 : Ref sig .tc := ⟨.hbm, 425, rfl⟩
abbrev main_c_103 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_c_104 : Ref sig .tc := ⟨.hbm, 430, rfl⟩
abbrev main_v323 : Ref sig .tc := ⟨.hbm, 431, rfl⟩
abbrev main_v324 : Ref sig .tc := ⟨.hbm, 432, rfl⟩
abbrev main_c_105 : Ref sig .tc := ⟨.hbm, 433, rfl⟩
abbrev main_v325 : Ref sig .tc := ⟨.hbm, 434, rfl⟩
abbrev main_v326 : Ref sig .tc := ⟨.hbm, 435, rfl⟩
abbrev main_v327 : Ref sig .tc := ⟨.hbm, 436, rfl⟩
abbrev main_v328 : Ref sig .tc := ⟨.hbm, 437, rfl⟩
abbrev main_v329 : Ref sig .tc := ⟨.hbm, 438, rfl⟩
abbrev main_v330 : Ref sig .tc := ⟨.hbm, 439, rfl⟩
abbrev main_c_106 : Ref sig .tc := ⟨.hbm, 440, rfl⟩
abbrev main_v331 : Ref sig .tc := ⟨.hbm, 441, rfl⟩
abbrev main_v332 : Ref sig .tc := ⟨.hbm, 442, rfl⟩
abbrev main_c_107 : Ref sig .tc := ⟨.hbm, 443, rfl⟩
abbrev main_v333 : Ref sig .tc := ⟨.hbm, 444, rfl⟩
abbrev main_v334 : Ref sig .tc := ⟨.hbm, 445, rfl⟩
abbrev main_c_108 : Ref sig .tc := ⟨.hbm, 446, rfl⟩
abbrev main_v335 : Ref sig .tc := ⟨.hbm, 447, rfl⟩
abbrev main_v336 : Ref sig .tc := ⟨.hbm, 448, rfl⟩
abbrev main_v337 : Ref sig .tc := ⟨.hbm, 449, rfl⟩
abbrev main_c_109 : Ref sig .tc := ⟨.hbm, 450, rfl⟩
abbrev main_v338 : Ref sig .tc := ⟨.hbm, 451, rfl⟩
abbrev main_v339 : Ref sig .tc := ⟨.hbm, 452, rfl⟩
abbrev main_c_110 : Ref sig .tc := ⟨.hbm, 453, rfl⟩
abbrev main_v340 : Ref sig .tc := ⟨.hbm, 454, rfl⟩
abbrev main_v341 : Ref sig .tc := ⟨.hbm, 455, rfl⟩
abbrev main_v342 : Ref sig .tc := ⟨.hbm, 456, rfl⟩
abbrev main_c_111 : Ref sig .tc := ⟨.hbm, 457, rfl⟩
abbrev main_v343 : Ref sig .tc := ⟨.hbm, 458, rfl⟩
abbrev main_v344 : Ref sig .tc := ⟨.hbm, 459, rfl⟩
abbrev main_c_112 : Ref sig .tc := ⟨.hbm, 460, rfl⟩
abbrev main_v345 : Ref sig .tc := ⟨.hbm, 461, rfl⟩
abbrev main_v346 : Ref sig .tc := ⟨.hbm, 462, rfl⟩
abbrev main_v347 : Ref sig .tc := ⟨.hbm, 463, rfl⟩
abbrev main_v348 : Ref sig .tc := ⟨.hbm, 464, rfl⟩
abbrev main_v349 : Ref sig .tc := ⟨.hbm, 465, rfl⟩
abbrev main_v350 : Ref sig .tc := ⟨.hbm, 466, rfl⟩
abbrev main_c_113 : Ref sig .tc := ⟨.hbm, 467, rfl⟩
abbrev main_v351 : Ref sig .tc := ⟨.hbm, 468, rfl⟩
abbrev main_v352 : Ref sig .tc := ⟨.hbm, 469, rfl⟩
abbrev main_c_114 : Ref sig .tc := ⟨.hbm, 470, rfl⟩
abbrev main_v353 : Ref sig .tc := ⟨.hbm, 471, rfl⟩
abbrev main_v354 : Ref sig .tc := ⟨.hbm, 472, rfl⟩
abbrev main_v355 : Ref sig .tc := ⟨.hbm, 473, rfl⟩
abbrev main_c_115 : Ref sig .tc := ⟨.hbm, 474, rfl⟩
abbrev main_v356 : Ref sig .tc := ⟨.hbm, 475, rfl⟩
abbrev main_v357 : Ref sig .tc := ⟨.hbm, 476, rfl⟩
abbrev main_c_116 : Ref sig .tc := ⟨.hbm, 477, rfl⟩
abbrev main_v358 : Ref sig .tc := ⟨.hbm, 478, rfl⟩
abbrev main_v359 : Ref sig .tc := ⟨.hbm, 479, rfl⟩
abbrev main_v360 : Ref sig .tc := ⟨.hbm, 480, rfl⟩
abbrev main_v361 : Ref sig .tc := ⟨.hbm, 481, rfl⟩
abbrev main_v362 : Ref sig .tc := ⟨.hbm, 482, rfl⟩
abbrev main_v363 : Ref sig .tc := ⟨.hbm, 483, rfl⟩
abbrev main_c_117 : Ref sig .tc := ⟨.hbm, 484, rfl⟩
abbrev main_v364 : Ref sig .tc := ⟨.hbm, 485, rfl⟩
abbrev main_v365 : Ref sig .tc := ⟨.hbm, 486, rfl⟩
abbrev main_c_118 : Ref sig .tc := ⟨.hbm, 487, rfl⟩
abbrev main_v366 : Ref sig .tc := ⟨.hbm, 488, rfl⟩
abbrev main_v367 : Ref sig .tc := ⟨.hbm, 489, rfl⟩
abbrev main_c_119 : Ref sig .tc := ⟨.hbm, 490, rfl⟩
abbrev main_v368 : Ref sig .tc := ⟨.hbm, 491, rfl⟩
abbrev main_v369 : Ref sig .tc := ⟨.hbm, 492, rfl⟩
abbrev main_v370 : Ref sig .tc := ⟨.hbm, 493, rfl⟩
abbrev main_c_120 : Ref sig .tc := ⟨.hbm, 494, rfl⟩
abbrev main_v371 : Ref sig .tc := ⟨.hbm, 495, rfl⟩
abbrev main_v372 : Ref sig .tc := ⟨.hbm, 496, rfl⟩
abbrev main_c_121 : Ref sig .tc := ⟨.hbm, 497, rfl⟩
abbrev main_v373 : Ref sig .tc := ⟨.hbm, 498, rfl⟩
abbrev main_v374 : Ref sig .tc := ⟨.hbm, 499, rfl⟩
abbrev main_v375 : Ref sig .tc := ⟨.hbm, 500, rfl⟩
abbrev main_c_122 : Ref sig .tc := ⟨.hbm, 501, rfl⟩
abbrev main_v376 : Ref sig .tc := ⟨.hbm, 502, rfl⟩
abbrev main_v377 : Ref sig .tc := ⟨.hbm, 503, rfl⟩
abbrev main_c_123 : Ref sig .tc := ⟨.hbm, 504, rfl⟩
abbrev main_v378 : Ref sig .tc := ⟨.hbm, 505, rfl⟩
abbrev main_v379 : Ref sig .tc := ⟨.hbm, 506, rfl⟩
abbrev main_v380 : Ref sig .tc := ⟨.hbm, 507, rfl⟩
abbrev main_v381 : Ref sig .tc := ⟨.hbm, 508, rfl⟩
abbrev main_v382 : Ref sig .tc := ⟨.hbm, 509, rfl⟩
abbrev main_v383 : Ref sig .tc := ⟨.hbm, 510, rfl⟩
abbrev main_c_124 : Ref sig .tc := ⟨.hbm, 511, rfl⟩
abbrev main_v384 : Ref sig .tc := ⟨.hbm, 512, rfl⟩
abbrev main_v385 : Ref sig .tc := ⟨.hbm, 513, rfl⟩
abbrev main_c_125 : Ref sig .tc := ⟨.hbm, 514, rfl⟩
abbrev main_v386 : Ref sig .tc := ⟨.hbm, 515, rfl⟩
abbrev main_v387 : Ref sig .tc := ⟨.hbm, 516, rfl⟩
abbrev main_v388 : Ref sig .tc := ⟨.hbm, 517, rfl⟩
abbrev main_c_126 : Ref sig .tc := ⟨.hbm, 518, rfl⟩
abbrev main_v389 : Ref sig .tc := ⟨.hbm, 519, rfl⟩
abbrev main_v390 : Ref sig .tc := ⟨.hbm, 520, rfl⟩
abbrev main_c_127 : Ref sig .tc := ⟨.hbm, 521, rfl⟩
abbrev main_v391 : Ref sig .tc := ⟨.hbm, 522, rfl⟩
abbrev main_v392 : Ref sig .tc := ⟨.hbm, 523, rfl⟩
abbrev main_v393 : Ref sig .tc := ⟨.hbm, 524, rfl⟩
abbrev main_v394 : Ref sig .tc := ⟨.hbm, 525, rfl⟩
abbrev main_v395 : Ref sig .tc := ⟨.hbm, 526, rfl⟩
abbrev main_v396 : Ref sig .tc := ⟨.hbm, 527, rfl⟩
abbrev main_c_128 : Ref sig .tc := ⟨.hbm, 528, rfl⟩
abbrev main_v397 : Ref sig .tc := ⟨.hbm, 529, rfl⟩
abbrev main_v398 : Ref sig .tc := ⟨.hbm, 530, rfl⟩
abbrev main_c_129 : Ref sig .tc := ⟨.hbm, 531, rfl⟩
abbrev main_v399 : Ref sig .tc := ⟨.hbm, 532, rfl⟩
abbrev main_v400 : Ref sig .tc := ⟨.hbm, 533, rfl⟩
abbrev main_c_130 : Ref sig .tc := ⟨.hbm, 534, rfl⟩
abbrev main_v401 : Ref sig .tc := ⟨.hbm, 535, rfl⟩
abbrev main_v402 : Ref sig .tc := ⟨.hbm, 536, rfl⟩
abbrev main_v403 : Ref sig .tc := ⟨.hbm, 537, rfl⟩
abbrev main_c_131 : Ref sig .tc := ⟨.hbm, 538, rfl⟩
abbrev main_v404 : Ref sig .tc := ⟨.hbm, 539, rfl⟩
abbrev main_v405 : Ref sig .tc := ⟨.hbm, 540, rfl⟩
abbrev main_c_132 : Ref sig .tc := ⟨.hbm, 541, rfl⟩
abbrev main_v406 : Ref sig .tc := ⟨.hbm, 542, rfl⟩
abbrev main_v407 : Ref sig .tc := ⟨.hbm, 543, rfl⟩
abbrev main_v408 : Ref sig .tc := ⟨.hbm, 544, rfl⟩
abbrev main_c_133 : Ref sig .tc := ⟨.hbm, 545, rfl⟩
abbrev main_v409 : Ref sig .tc := ⟨.hbm, 546, rfl⟩
abbrev main_v410 : Ref sig .tc := ⟨.hbm, 547, rfl⟩
abbrev main_c_134 : Ref sig .tc := ⟨.hbm, 548, rfl⟩
abbrev main_v411 : Ref sig .tc := ⟨.hbm, 549, rfl⟩
abbrev main_v412 : Ref sig .tc := ⟨.hbm, 550, rfl⟩
abbrev main_v413 : Ref sig .tc := ⟨.hbm, 551, rfl⟩
abbrev main_v414 : Ref sig .tc := ⟨.hbm, 552, rfl⟩
abbrev main_v415 : Ref sig .tc := ⟨.hbm, 553, rfl⟩
abbrev main_v416 : Ref sig .tc := ⟨.hbm, 554, rfl⟩
abbrev main_c_135 : Ref sig .tc := ⟨.hbm, 555, rfl⟩
abbrev main_v417 : Ref sig .tc := ⟨.hbm, 556, rfl⟩
abbrev main_v418 : Ref sig .tc := ⟨.hbm, 557, rfl⟩
abbrev main_c_136 : Ref sig .tc := ⟨.hbm, 558, rfl⟩
abbrev main_v419 : Ref sig .tc := ⟨.hbm, 559, rfl⟩
abbrev main_v420 : Ref sig .tc := ⟨.hbm, 560, rfl⟩
abbrev main_v421 : Ref sig .tc := ⟨.hbm, 561, rfl⟩
abbrev main_c_137 : Ref sig .tc := ⟨.hbm, 562, rfl⟩
abbrev main_v422 : Ref sig .tc := ⟨.hbm, 563, rfl⟩
abbrev main_v423 : Ref sig .tc := ⟨.hbm, 564, rfl⟩
abbrev main_c_138 : Ref sig .tc := ⟨.hbm, 565, rfl⟩
abbrev main_v424 : Ref sig .tc := ⟨.hbm, 566, rfl⟩
abbrev main_v425 : Ref sig .tc := ⟨.hbm, 567, rfl⟩
abbrev main_v426 : Ref sig .tc := ⟨.hbm, 568, rfl⟩
abbrev main_v427 : Ref sig .tc := ⟨.hbm, 569, rfl⟩
abbrev main_v428 : Ref sig .tc := ⟨.hbm, 570, rfl⟩
abbrev main_v429 : Ref sig .tc := ⟨.hbm, 571, rfl⟩
abbrev main_c_139 : Ref sig .tc := ⟨.hbm, 572, rfl⟩
abbrev main_v430 : Ref sig .tc := ⟨.hbm, 573, rfl⟩
abbrev main_v431 : Ref sig .tc := ⟨.hbm, 574, rfl⟩
abbrev main_c_140 : Ref sig .tc := ⟨.hbm, 575, rfl⟩
abbrev main_v432 : Ref sig .tc := ⟨.hbm, 576, rfl⟩
abbrev main_v433 : Ref sig .tc := ⟨.hbm, 577, rfl⟩
abbrev main_c_141 : Ref sig .tc := ⟨.hbm, 578, rfl⟩
abbrev main_v434 : Ref sig .tc := ⟨.hbm, 579, rfl⟩
abbrev main_v435 : Ref sig .tc := ⟨.hbm, 580, rfl⟩
abbrev main_v436 : Ref sig .tc := ⟨.hbm, 581, rfl⟩
abbrev main_c_142 : Ref sig .tc := ⟨.hbm, 582, rfl⟩
abbrev main_v437 : Ref sig .tc := ⟨.hbm, 583, rfl⟩
abbrev main_v438 : Ref sig .tc := ⟨.hbm, 584, rfl⟩
abbrev main_c_143 : Ref sig .tc := ⟨.hbm, 585, rfl⟩
abbrev main_v439 : Ref sig .tc := ⟨.hbm, 586, rfl⟩
abbrev main_v440 : Ref sig .tc := ⟨.hbm, 587, rfl⟩
abbrev main_v441 : Ref sig .tc := ⟨.hbm, 588, rfl⟩
abbrev main_c_144 : Ref sig .tc := ⟨.hbm, 589, rfl⟩
abbrev main_v442 : Ref sig .tc := ⟨.hbm, 590, rfl⟩
abbrev main_v443 : Ref sig .tc := ⟨.hbm, 591, rfl⟩
abbrev main_c_145 : Ref sig .tc := ⟨.hbm, 592, rfl⟩
abbrev main_v444 : Ref sig .tc := ⟨.hbm, 593, rfl⟩
abbrev main_v445 : Ref sig .tc := ⟨.hbm, 594, rfl⟩
abbrev main_v446 : Ref sig .tc := ⟨.hbm, 595, rfl⟩
abbrev main_v447 : Ref sig .tc := ⟨.hbm, 596, rfl⟩
abbrev main_v448 : Ref sig .tc := ⟨.hbm, 597, rfl⟩
abbrev main_v449 : Ref sig .tc := ⟨.hbm, 598, rfl⟩
abbrev main_c_146 : Ref sig .tc := ⟨.hbm, 599, rfl⟩
abbrev main_v450 : Ref sig .tc := ⟨.hbm, 600, rfl⟩
abbrev main_v451 : Ref sig .tc := ⟨.hbm, 601, rfl⟩
abbrev main_c_147 : Ref sig .tc := ⟨.hbm, 602, rfl⟩
abbrev main_v452 : Ref sig .tc := ⟨.hbm, 603, rfl⟩
abbrev main_v453 : Ref sig .tc := ⟨.hbm, 604, rfl⟩
abbrev main_v454 : Ref sig .tc := ⟨.hbm, 605, rfl⟩
abbrev main_c_148 : Ref sig .tc := ⟨.hbm, 606, rfl⟩
abbrev main_v455 : Ref sig .tc := ⟨.hbm, 607, rfl⟩
abbrev main_v456 : Ref sig .tc := ⟨.hbm, 608, rfl⟩
abbrev main_c_149 : Ref sig .tc := ⟨.hbm, 609, rfl⟩
abbrev main_v457 : Ref sig .tc := ⟨.hbm, 610, rfl⟩
abbrev main_v458 : Ref sig .tc := ⟨.hbm, 611, rfl⟩
abbrev main_v459 : Ref sig .tc := ⟨.hbm, 612, rfl⟩
abbrev main_v460 : Ref sig .tc := ⟨.hbm, 613, rfl⟩
abbrev main_v461 : Ref sig .tc := ⟨.hbm, 614, rfl⟩
abbrev main_v462 : Ref sig .tc := ⟨.hbm, 615, rfl⟩
abbrev main_c_150 : Ref sig .tc := ⟨.hbm, 616, rfl⟩
abbrev main_v463 : Ref sig .tc := ⟨.hbm, 617, rfl⟩
abbrev main_v464 : Ref sig .tc := ⟨.hbm, 618, rfl⟩
abbrev main_c_151 : Ref sig .tc := ⟨.hbm, 619, rfl⟩
abbrev main_v465 : Ref sig .tc := ⟨.hbm, 620, rfl⟩
abbrev main_v466 : Ref sig .tc := ⟨.hbm, 621, rfl⟩
abbrev main_c_152 : Ref sig .tc := ⟨.hbm, 622, rfl⟩
abbrev main_v467 : Ref sig .tc := ⟨.hbm, 623, rfl⟩
abbrev main_v468 : Ref sig .tc := ⟨.hbm, 624, rfl⟩
abbrev main_v469 : Ref sig .tc := ⟨.hbm, 625, rfl⟩
abbrev main_c_153 : Ref sig .tc := ⟨.hbm, 626, rfl⟩
abbrev main_v470 : Ref sig .tc := ⟨.hbm, 627, rfl⟩
abbrev main_v471 : Ref sig .tc := ⟨.hbm, 628, rfl⟩
abbrev main_c_154 : Ref sig .tc := ⟨.hbm, 629, rfl⟩
abbrev main_v472 : Ref sig .tc := ⟨.hbm, 630, rfl⟩
abbrev main_v473 : Ref sig .tc := ⟨.hbm, 631, rfl⟩
abbrev main_v474 : Ref sig .tc := ⟨.hbm, 632, rfl⟩
abbrev main_c_155 : Ref sig .tc := ⟨.hbm, 633, rfl⟩
abbrev main_v475 : Ref sig .tc := ⟨.hbm, 634, rfl⟩
abbrev main_v476 : Ref sig .tc := ⟨.hbm, 635, rfl⟩
abbrev main_c_156 : Ref sig .tc := ⟨.hbm, 636, rfl⟩
abbrev main_v477 : Ref sig .tc := ⟨.hbm, 637, rfl⟩
abbrev main_v478 : Ref sig .tc := ⟨.hbm, 638, rfl⟩
abbrev main_v479 : Ref sig .tc := ⟨.hbm, 639, rfl⟩
abbrev main_v480 : Ref sig .tc := ⟨.hbm, 640, rfl⟩
abbrev main_v481 : Ref sig .tc := ⟨.hbm, 641, rfl⟩
abbrev main_v482 : Ref sig .tc := ⟨.hbm, 642, rfl⟩
abbrev main_c_157 : Ref sig .tc := ⟨.hbm, 643, rfl⟩
abbrev main_v483 : Ref sig .tc := ⟨.hbm, 644, rfl⟩
abbrev main_v484 : Ref sig .tc := ⟨.hbm, 645, rfl⟩
abbrev main_c_158 : Ref sig .tc := ⟨.hbm, 646, rfl⟩
abbrev main_v485 : Ref sig .tc := ⟨.hbm, 647, rfl⟩
abbrev main_v486 : Ref sig .tc := ⟨.hbm, 648, rfl⟩
abbrev main_v487 : Ref sig .tc := ⟨.hbm, 649, rfl⟩
abbrev main_c_159 : Ref sig .tc := ⟨.hbm, 650, rfl⟩
abbrev main_v488 : Ref sig .tc := ⟨.hbm, 651, rfl⟩
abbrev main_v489 : Ref sig .tc := ⟨.hbm, 652, rfl⟩
abbrev main_c_160 : Ref sig .tc := ⟨.hbm, 653, rfl⟩
abbrev main_v490 : Ref sig .tc := ⟨.hbm, 654, rfl⟩
abbrev main_v491 : Ref sig .tc := ⟨.hbm, 655, rfl⟩
abbrev main_v492 : Ref sig .tc := ⟨.hbm, 656, rfl⟩
abbrev main_v493 : Ref sig .tc := ⟨.hbm, 657, rfl⟩
abbrev main_v494 : Ref sig .tc := ⟨.hbm, 658, rfl⟩
abbrev main_v495 : Ref sig .tc := ⟨.hbm, 659, rfl⟩
abbrev main_c_161 : Ref sig .tc := ⟨.hbm, 660, rfl⟩
abbrev main_v496 : Ref sig .tc := ⟨.hbm, 661, rfl⟩
abbrev main_v497 : Ref sig .tc := ⟨.hbm, 662, rfl⟩
abbrev main_c_162 : Ref sig .tc := ⟨.hbm, 663, rfl⟩
abbrev main_v498 : Ref sig .tc := ⟨.hbm, 664, rfl⟩
abbrev main_v499 : Ref sig .tc := ⟨.hbm, 665, rfl⟩
abbrev main_c_163 : Ref sig .tc := ⟨.hbm, 666, rfl⟩
abbrev main_v500 : Ref sig .tc := ⟨.hbm, 667, rfl⟩
abbrev main_v501 : Ref sig .tc := ⟨.hbm, 668, rfl⟩
abbrev main_v502 : Ref sig .tc := ⟨.hbm, 669, rfl⟩
abbrev main_c_164 : Ref sig .tc := ⟨.hbm, 670, rfl⟩
abbrev main_v503 : Ref sig .tc := ⟨.hbm, 671, rfl⟩
abbrev main_v504 : Ref sig .tc := ⟨.hbm, 672, rfl⟩
abbrev main_c_165 : Ref sig .tc := ⟨.hbm, 673, rfl⟩
abbrev main_v505 : Ref sig .tc := ⟨.hbm, 674, rfl⟩
abbrev main_v506 : Ref sig .tc := ⟨.hbm, 675, rfl⟩
abbrev main_v507 : Ref sig .tc := ⟨.hbm, 676, rfl⟩
abbrev main_c_166 : Ref sig .tc := ⟨.hbm, 677, rfl⟩
abbrev main_v508 : Ref sig .tc := ⟨.hbm, 678, rfl⟩
abbrev main_v509 : Ref sig .tc := ⟨.hbm, 679, rfl⟩
abbrev main_c_167 : Ref sig .tc := ⟨.hbm, 680, rfl⟩
abbrev main_v510 : Ref sig .tc := ⟨.hbm, 681, rfl⟩
abbrev main_v511 : Ref sig .tc := ⟨.hbm, 682, rfl⟩
abbrev main_v512 : Ref sig .tc := ⟨.hbm, 683, rfl⟩
abbrev main_v513 : Ref sig .tc := ⟨.hbm, 684, rfl⟩
abbrev main_v514 : Ref sig .tc := ⟨.hbm, 685, rfl⟩
abbrev main_v515 : Ref sig .tc := ⟨.hbm, 686, rfl⟩
abbrev main_c_168 : Ref sig .tc := ⟨.hbm, 687, rfl⟩
abbrev main_v516 : Ref sig .tc := ⟨.hbm, 688, rfl⟩
abbrev main_v517 : Ref sig .tc := ⟨.hbm, 689, rfl⟩
abbrev main_c_169 : Ref sig .tc := ⟨.hbm, 690, rfl⟩
abbrev main_v518 : Ref sig .tc := ⟨.hbm, 691, rfl⟩
abbrev main_v519 : Ref sig .tc := ⟨.hbm, 692, rfl⟩
abbrev main_v520 : Ref sig .tc := ⟨.hbm, 693, rfl⟩
abbrev main_c_170 : Ref sig .tc := ⟨.hbm, 694, rfl⟩
abbrev main_v521 : Ref sig .tc := ⟨.hbm, 695, rfl⟩
abbrev main_v522 : Ref sig .tc := ⟨.hbm, 696, rfl⟩
abbrev main_c_171 : Ref sig .tc := ⟨.hbm, 697, rfl⟩
abbrev main_v523 : Ref sig .tc := ⟨.hbm, 698, rfl⟩
abbrev main_v524 : Ref sig .tc := ⟨.hbm, 699, rfl⟩
abbrev main_v525 : Ref sig .tc := ⟨.hbm, 700, rfl⟩
abbrev main_v526 : Ref sig .tc := ⟨.hbm, 701, rfl⟩
abbrev main_v527 : Ref sig .tc := ⟨.hbm, 702, rfl⟩
abbrev main_v528 : Ref sig .tc := ⟨.hbm, 703, rfl⟩
abbrev main_c_172 : Ref sig .tc := ⟨.hbm, 704, rfl⟩
abbrev main_v529 : Ref sig .tc := ⟨.hbm, 705, rfl⟩
abbrev main_v530 : Ref sig .tc := ⟨.hbm, 706, rfl⟩
abbrev main_c_173 : Ref sig .tc := ⟨.hbm, 707, rfl⟩
abbrev main_v531 : Ref sig .tc := ⟨.hbm, 708, rfl⟩
abbrev main_v532 : Ref sig .tc := ⟨.hbm, 709, rfl⟩
abbrev main_c_174 : Ref sig .tc := ⟨.hbm, 710, rfl⟩
abbrev main_v533 : Ref sig .tc := ⟨.hbm, 711, rfl⟩
abbrev main_v534 : Ref sig .tc := ⟨.hbm, 712, rfl⟩
abbrev main_v535 : Ref sig .tc := ⟨.hbm, 713, rfl⟩
abbrev main_c_175 : Ref sig .tc := ⟨.hbm, 714, rfl⟩
abbrev main_v536 : Ref sig .tc := ⟨.hbm, 715, rfl⟩
abbrev main_v537 : Ref sig .tc := ⟨.hbm, 716, rfl⟩
abbrev main_c_176 : Ref sig .tc := ⟨.hbm, 717, rfl⟩
abbrev main_v538 : Ref sig .tc := ⟨.hbm, 718, rfl⟩
abbrev main_v539 : Ref sig .tc := ⟨.hbm, 719, rfl⟩
abbrev main_v540 : Ref sig .tc := ⟨.hbm, 720, rfl⟩
abbrev main_c_177 : Ref sig .tc := ⟨.hbm, 721, rfl⟩
abbrev main_v541 : Ref sig .tc := ⟨.hbm, 722, rfl⟩
abbrev main_v542 : Ref sig .tc := ⟨.hbm, 723, rfl⟩
abbrev main_c_178 : Ref sig .tc := ⟨.hbm, 724, rfl⟩
abbrev main_v543 : Ref sig .tc := ⟨.hbm, 725, rfl⟩
abbrev main_v544 : Ref sig .tc := ⟨.hbm, 726, rfl⟩
abbrev main_v545 : Ref sig .tc := ⟨.hbm, 727, rfl⟩
abbrev main_v546 : Ref sig .tc := ⟨.hbm, 728, rfl⟩
abbrev main_v547 : Ref sig .tc := ⟨.hbm, 729, rfl⟩
abbrev main_v548 : Ref sig .tc := ⟨.hbm, 730, rfl⟩
abbrev main_c_179 : Ref sig .tc := ⟨.hbm, 731, rfl⟩
abbrev main_v549 : Ref sig .tc := ⟨.hbm, 732, rfl⟩
abbrev main_v550 : Ref sig .tc := ⟨.hbm, 733, rfl⟩
abbrev main_c_180 : Ref sig .tc := ⟨.hbm, 734, rfl⟩
abbrev main_v551 : Ref sig .tc := ⟨.hbm, 735, rfl⟩
abbrev main_v552 : Ref sig .tc := ⟨.hbm, 736, rfl⟩
abbrev main_v553 : Ref sig .tc := ⟨.hbm, 737, rfl⟩
abbrev main_c_181 : Ref sig .tc := ⟨.hbm, 738, rfl⟩
abbrev main_v554 : Ref sig .tc := ⟨.hbm, 739, rfl⟩
abbrev main_v555 : Ref sig .tc := ⟨.hbm, 740, rfl⟩
abbrev main_c_182 : Ref sig .tc := ⟨.hbm, 741, rfl⟩
abbrev main_v556 : Ref sig .tc := ⟨.hbm, 742, rfl⟩
abbrev main_v557 : Ref sig .tc := ⟨.hbm, 743, rfl⟩
abbrev main_v558 : Ref sig .tc := ⟨.hbm, 744, rfl⟩
abbrev main_v559 : Ref sig .tc := ⟨.hbm, 745, rfl⟩
abbrev main_v560 : Ref sig .tc := ⟨.hbm, 746, rfl⟩
abbrev main_v561 : Ref sig .tc := ⟨.hbm, 747, rfl⟩
abbrev main_c_183 : Ref sig .tc := ⟨.hbm, 748, rfl⟩
abbrev main_v562 : Ref sig .tc := ⟨.hbm, 749, rfl⟩
abbrev main_v563 : Ref sig .tc := ⟨.hbm, 750, rfl⟩
abbrev main_c_184 : Ref sig .tc := ⟨.hbm, 751, rfl⟩
abbrev main_v564 : Ref sig .tc := ⟨.hbm, 752, rfl⟩
abbrev main_v565 : Ref sig .tc := ⟨.hbm, 753, rfl⟩
abbrev main_c_185 : Ref sig .tc := ⟨.hbm, 754, rfl⟩
abbrev main_v566 : Ref sig .tc := ⟨.hbm, 755, rfl⟩
abbrev main_v567 : Ref sig .tc := ⟨.hbm, 756, rfl⟩
abbrev main_v568 : Ref sig .tc := ⟨.hbm, 757, rfl⟩
abbrev main_c_186 : Ref sig .tc := ⟨.hbm, 758, rfl⟩
abbrev main_v569 : Ref sig .tc := ⟨.hbm, 759, rfl⟩
abbrev main_v570 : Ref sig .tc := ⟨.hbm, 760, rfl⟩
abbrev main_c_187 : Ref sig .tc := ⟨.hbm, 761, rfl⟩
abbrev main_v571 : Ref sig .tc := ⟨.hbm, 762, rfl⟩
abbrev main_v572 : Ref sig .tc := ⟨.hbm, 763, rfl⟩
abbrev main_v573 : Ref sig .tc := ⟨.hbm, 764, rfl⟩
abbrev main_c_188 : Ref sig .tc := ⟨.hbm, 765, rfl⟩
abbrev main_v574 : Ref sig .tc := ⟨.hbm, 766, rfl⟩
abbrev main_v575 : Ref sig .tc := ⟨.hbm, 767, rfl⟩
abbrev main_c_189 : Ref sig .tc := ⟨.hbm, 768, rfl⟩
abbrev main_v576 : Ref sig .tc := ⟨.hbm, 769, rfl⟩
abbrev main_v577 : Ref sig .tc := ⟨.hbm, 770, rfl⟩
abbrev main_v578 : Ref sig .tc := ⟨.hbm, 771, rfl⟩
abbrev main_v579 : Ref sig .tc := ⟨.hbm, 772, rfl⟩
abbrev main_v580 : Ref sig .tc := ⟨.hbm, 773, rfl⟩
abbrev main_v581 : Ref sig .tc := ⟨.hbm, 774, rfl⟩
abbrev main_c_190 : Ref sig .tc := ⟨.hbm, 775, rfl⟩
abbrev main_v582 : Ref sig .tc := ⟨.hbm, 776, rfl⟩
abbrev main_v583 : Ref sig .tc := ⟨.hbm, 777, rfl⟩
abbrev main_c_191 : Ref sig .tc := ⟨.hbm, 778, rfl⟩
abbrev main_v584 : Ref sig .tc := ⟨.hbm, 779, rfl⟩
abbrev main_v585 : Ref sig .tc := ⟨.hbm, 780, rfl⟩
abbrev main_v586 : Ref sig .tc := ⟨.hbm, 781, rfl⟩
abbrev main_c_192 : Ref sig .tc := ⟨.hbm, 782, rfl⟩
abbrev main_v587 : Ref sig .tc := ⟨.hbm, 783, rfl⟩
abbrev main_v588 : Ref sig .tc := ⟨.hbm, 784, rfl⟩
abbrev main_c_193 : Ref sig .tc := ⟨.hbm, 785, rfl⟩
abbrev main_v589 : Ref sig .tc := ⟨.hbm, 786, rfl⟩
abbrev main_v590 : Ref sig .tc := ⟨.hbm, 787, rfl⟩
abbrev main_v591 : Ref sig .tc := ⟨.hbm, 788, rfl⟩
abbrev main_v592 : Ref sig .tc := ⟨.hbm, 789, rfl⟩
abbrev main_v593 : Ref sig .tc := ⟨.hbm, 790, rfl⟩
abbrev main_v594 : Ref sig .tc := ⟨.hbm, 791, rfl⟩
abbrev main_c_194 : Ref sig .tc := ⟨.hbm, 792, rfl⟩
abbrev main_v595 : Ref sig .tc := ⟨.hbm, 793, rfl⟩
abbrev main_v596 : Ref sig .tc := ⟨.hbm, 794, rfl⟩
abbrev main_c_195 : Ref sig .tc := ⟨.hbm, 795, rfl⟩
abbrev main_v597 : Ref sig .tc := ⟨.hbm, 796, rfl⟩
abbrev main_v598 : Ref sig .tc := ⟨.hbm, 797, rfl⟩
abbrev main_c_196 : Ref sig .tc := ⟨.hbm, 798, rfl⟩
abbrev main_v599 : Ref sig .tc := ⟨.hbm, 799, rfl⟩
abbrev main_v600 : Ref sig .tc := ⟨.hbm, 800, rfl⟩
abbrev main_v601 : Ref sig .tc := ⟨.hbm, 801, rfl⟩
abbrev main_c_197 : Ref sig .tc := ⟨.hbm, 802, rfl⟩
abbrev main_v602 : Ref sig .tc := ⟨.hbm, 803, rfl⟩
abbrev main_v603 : Ref sig .tc := ⟨.hbm, 804, rfl⟩
abbrev main_c_198 : Ref sig .tc := ⟨.hbm, 805, rfl⟩
abbrev main_v604 : Ref sig .tc := ⟨.hbm, 806, rfl⟩
abbrev main_v605 : Ref sig .tc := ⟨.hbm, 807, rfl⟩
abbrev main_v606 : Ref sig .tc := ⟨.hbm, 808, rfl⟩
abbrev main_c_199 : Ref sig .tc := ⟨.hbm, 809, rfl⟩
abbrev main_v607 : Ref sig .tc := ⟨.hbm, 810, rfl⟩
abbrev main_v608 : Ref sig .tc := ⟨.hbm, 811, rfl⟩
abbrev main_c_200 : Ref sig .tc := ⟨.hbm, 812, rfl⟩
abbrev main_v609 : Ref sig .tc := ⟨.hbm, 813, rfl⟩
abbrev main_v610 : Ref sig .tc := ⟨.hbm, 814, rfl⟩
abbrev main_v611 : Ref sig .tc := ⟨.hbm, 815, rfl⟩
abbrev main_v612 : Ref sig .tc := ⟨.hbm, 816, rfl⟩
abbrev main_v613 : Ref sig .tc := ⟨.hbm, 817, rfl⟩
abbrev main_v614 : Ref sig .tc := ⟨.hbm, 818, rfl⟩
abbrev main_c_201 : Ref sig .tc := ⟨.hbm, 819, rfl⟩
abbrev main_v615 : Ref sig .tc := ⟨.hbm, 820, rfl⟩
abbrev main_v616 : Ref sig .tc := ⟨.hbm, 821, rfl⟩
abbrev main_c_202 : Ref sig .tc := ⟨.hbm, 822, rfl⟩
abbrev main_v617 : Ref sig .tc := ⟨.hbm, 823, rfl⟩
abbrev main_v618 : Ref sig .tc := ⟨.hbm, 824, rfl⟩
abbrev main_v619 : Ref sig .tc := ⟨.hbm, 825, rfl⟩
abbrev main_c_203 : Ref sig .tc := ⟨.hbm, 826, rfl⟩
abbrev main_v620 : Ref sig .tc := ⟨.hbm, 827, rfl⟩
abbrev main_v621 : Ref sig .tc := ⟨.hbm, 828, rfl⟩
abbrev main_c_204 : Ref sig .tc := ⟨.hbm, 829, rfl⟩
abbrev main_v622 : Ref sig .tc := ⟨.hbm, 830, rfl⟩
abbrev main_v623 : Ref sig .tc := ⟨.hbm, 831, rfl⟩
abbrev main_v624 : Ref sig .tc := ⟨.hbm, 832, rfl⟩
abbrev main_v625 : Ref sig .tc := ⟨.hbm, 833, rfl⟩
abbrev main_v626 : Ref sig .tc := ⟨.hbm, 834, rfl⟩
abbrev main_v627 : Ref sig .tc := ⟨.hbm, 835, rfl⟩
abbrev main_c_205 : Ref sig .tc := ⟨.hbm, 836, rfl⟩
abbrev main_v628 : Ref sig .tc := ⟨.hbm, 837, rfl⟩
abbrev main_v629 : Ref sig .tc := ⟨.hbm, 838, rfl⟩
abbrev main_c_206 : Ref sig .tc := ⟨.hbm, 839, rfl⟩
abbrev main_v630 : Ref sig .tc := ⟨.hbm, 840, rfl⟩
abbrev main_v631 : Ref sig .tc := ⟨.hbm, 841, rfl⟩
abbrev main_c_207 : Ref sig .tc := ⟨.hbm, 842, rfl⟩
abbrev main_v632 : Ref sig .tc := ⟨.hbm, 843, rfl⟩
abbrev main_v633 : Ref sig .tc := ⟨.hbm, 844, rfl⟩
abbrev main_v634 : Ref sig .tc := ⟨.hbm, 845, rfl⟩
abbrev main_c_208 : Ref sig .tc := ⟨.hbm, 846, rfl⟩
abbrev main_v635 : Ref sig .tc := ⟨.hbm, 847, rfl⟩
abbrev main_v636 : Ref sig .tc := ⟨.hbm, 848, rfl⟩
abbrev main_c_209 : Ref sig .tc := ⟨.hbm, 849, rfl⟩
abbrev main_v637 : Ref sig .tc := ⟨.hbm, 850, rfl⟩
abbrev main_v638 : Ref sig .tc := ⟨.hbm, 851, rfl⟩
abbrev main_v639 : Ref sig .tc := ⟨.hbm, 852, rfl⟩
abbrev main_c_210 : Ref sig .tc := ⟨.hbm, 853, rfl⟩
abbrev main_v640 : Ref sig .tc := ⟨.hbm, 854, rfl⟩
abbrev main_v641 : Ref sig .tc := ⟨.hbm, 855, rfl⟩
abbrev main_c_211 : Ref sig .tc := ⟨.hbm, 856, rfl⟩
abbrev main_v642 : Ref sig .tc := ⟨.hbm, 857, rfl⟩
abbrev main_v643 : Ref sig .tc := ⟨.hbm, 858, rfl⟩
abbrev main_v644 : Ref sig .tc := ⟨.hbm, 859, rfl⟩
abbrev main_v645 : Ref sig .tc := ⟨.hbm, 860, rfl⟩
abbrev main_v646 : Ref sig .tc := ⟨.hbm, 861, rfl⟩
abbrev main_v647 : Ref sig .tc := ⟨.hbm, 862, rfl⟩
abbrev main_c_212 : Ref sig .tc := ⟨.hbm, 863, rfl⟩
abbrev main_v648 : Ref sig .tc := ⟨.hbm, 864, rfl⟩
abbrev main_v649 : Ref sig .tc := ⟨.hbm, 865, rfl⟩
abbrev main_c_213 : Ref sig .tc := ⟨.hbm, 866, rfl⟩
abbrev main_v650 : Ref sig .tc := ⟨.hbm, 867, rfl⟩
abbrev main_v651 : Ref sig .tc := ⟨.hbm, 868, rfl⟩
abbrev main_v652 : Ref sig .tc := ⟨.hbm, 869, rfl⟩
abbrev main_c_214 : Ref sig .tc := ⟨.hbm, 870, rfl⟩
abbrev main_v653 : Ref sig .tc := ⟨.hbm, 871, rfl⟩
abbrev main_v654 : Ref sig .tc := ⟨.hbm, 872, rfl⟩
abbrev main_c_215 : Ref sig .tc := ⟨.hbm, 873, rfl⟩
abbrev main_v655 : Ref sig .tc := ⟨.hbm, 874, rfl⟩
abbrev main_v656 : Ref sig .tc := ⟨.hbm, 875, rfl⟩
abbrev main_v657 : Ref sig .tc := ⟨.hbm, 876, rfl⟩
abbrev main_v658 : Ref sig .tc := ⟨.hbm, 877, rfl⟩
abbrev main_v659 : Ref sig .tc := ⟨.hbm, 878, rfl⟩
abbrev main_v660 : Ref sig .tc := ⟨.hbm, 879, rfl⟩
abbrev main_c_216 : Ref sig .tc := ⟨.hbm, 880, rfl⟩
abbrev main_v661 : Ref sig .tc := ⟨.hbm, 881, rfl⟩
abbrev main_v662 : Ref sig .tc := ⟨.hbm, 882, rfl⟩
abbrev main_c_217 : Ref sig .tc := ⟨.hbm, 883, rfl⟩
abbrev main_v663 : Ref sig .tc := ⟨.hbm, 884, rfl⟩
abbrev main_v664 : Ref sig .tc := ⟨.hbm, 885, rfl⟩
abbrev main_c_218 : Ref sig .tc := ⟨.hbm, 886, rfl⟩
abbrev main_v665 : Ref sig .tc := ⟨.hbm, 887, rfl⟩
abbrev main_v666 : Ref sig .tc := ⟨.hbm, 888, rfl⟩
abbrev main_v667 : Ref sig .tc := ⟨.hbm, 889, rfl⟩
abbrev main_c_219 : Ref sig .tc := ⟨.hbm, 890, rfl⟩
abbrev main_v668 : Ref sig .tc := ⟨.hbm, 891, rfl⟩
abbrev main_v669 : Ref sig .tc := ⟨.hbm, 892, rfl⟩
abbrev main_c_220 : Ref sig .tc := ⟨.hbm, 893, rfl⟩
abbrev main_v670 : Ref sig .tc := ⟨.hbm, 894, rfl⟩
abbrev main_v671 : Ref sig .tc := ⟨.hbm, 895, rfl⟩
abbrev main_v672 : Ref sig .tc := ⟨.hbm, 896, rfl⟩
abbrev main_c_221 : Ref sig .tc := ⟨.hbm, 897, rfl⟩
abbrev main_v673 : Ref sig .tc := ⟨.hbm, 898, rfl⟩
abbrev main_v674 : Ref sig .tc := ⟨.hbm, 899, rfl⟩
abbrev main_c_222 : Ref sig .tc := ⟨.hbm, 900, rfl⟩
abbrev main_v675 : Ref sig .tc := ⟨.hbm, 901, rfl⟩
abbrev main_v676 : Ref sig .tc := ⟨.hbm, 902, rfl⟩
abbrev main_v677 : Ref sig .tc := ⟨.hbm, 903, rfl⟩
abbrev main_v678 : Ref sig .tc := ⟨.hbm, 904, rfl⟩
abbrev main_v679 : Ref sig .tc := ⟨.hbm, 905, rfl⟩
abbrev main_v680 : Ref sig .tc := ⟨.hbm, 906, rfl⟩
abbrev main_c_223 : Ref sig .tc := ⟨.hbm, 907, rfl⟩
abbrev main_v681 : Ref sig .tc := ⟨.hbm, 908, rfl⟩
abbrev main_v682 : Ref sig .tc := ⟨.hbm, 909, rfl⟩
abbrev main_c_224 : Ref sig .tc := ⟨.hbm, 910, rfl⟩
abbrev main_v683 : Ref sig .tc := ⟨.hbm, 911, rfl⟩
abbrev main_v684 : Ref sig .tc := ⟨.hbm, 912, rfl⟩
abbrev main_v685 : Ref sig .tc := ⟨.hbm, 913, rfl⟩
abbrev main_c_225 : Ref sig .tc := ⟨.hbm, 914, rfl⟩
abbrev main_v686 : Ref sig .tc := ⟨.hbm, 915, rfl⟩
abbrev main_v687 : Ref sig .tc := ⟨.hbm, 916, rfl⟩
abbrev main_c_226 : Ref sig .tc := ⟨.hbm, 917, rfl⟩
abbrev main_v688 : Ref sig .tc := ⟨.hbm, 918, rfl⟩
abbrev main_v689 : Ref sig .tc := ⟨.hbm, 919, rfl⟩
abbrev main_v690 : Ref sig .tc := ⟨.hbm, 920, rfl⟩
abbrev main_v691 : Ref sig .tc := ⟨.hbm, 921, rfl⟩
abbrev main_v692 : Ref sig .tc := ⟨.hbm, 922, rfl⟩
abbrev main_v693 : Ref sig .tc := ⟨.hbm, 923, rfl⟩
abbrev main_v694 : Ref sig .tc := ⟨.hbm, 924, rfl⟩
abbrev main_v695 : Ref sig .tc := ⟨.hbm, 925, rfl⟩
abbrev main_c_227 : Ref sig .tc := ⟨.hbm, 926, rfl⟩
abbrev main_v696 : Ref sig .tc := ⟨.hbm, 927, rfl⟩
abbrev main_c_228 : Ref sig .tc := ⟨.hbm, 928, rfl⟩
abbrev main_v697 : Ref sig .tc := ⟨.hbm, 929, rfl⟩
abbrev main_v698 : Ref sig .tc := ⟨.hbm, 930, rfl⟩
abbrev main_c_229 : Ref sig .tc := ⟨.hbm, 931, rfl⟩
abbrev main_v699 : Ref sig .tc := ⟨.hbm, 932, rfl⟩
abbrev main_v700 : Ref sig .tc := ⟨.hbm, 933, rfl⟩
abbrev main_c_230 : Ref sig .tc := ⟨.hbm, 934, rfl⟩
abbrev main_v701 : Ref sig .tc := ⟨.hbm, 935, rfl⟩
abbrev main_v702 : Ref sig .tc := ⟨.hbm, 936, rfl⟩
abbrev main_v703 : Ref sig .tc := ⟨.hbm, 937, rfl⟩
abbrev main_c_231 : Ref sig .tc := ⟨.hbm, 938, rfl⟩
abbrev main_v704 : Ref sig .tc := ⟨.hbm, 939, rfl⟩
abbrev main_v705 : Ref sig .tc := ⟨.hbm, 940, rfl⟩
abbrev main_c_232 : Ref sig .tc := ⟨.hbm, 941, rfl⟩
abbrev main_v706 : Ref sig .tc := ⟨.hbm, 942, rfl⟩
abbrev main_v707 : Ref sig .tc := ⟨.hbm, 943, rfl⟩
abbrev main_c_233 : Ref sig .tc := ⟨.hbm, 944, rfl⟩
abbrev main_v708 : Ref sig .tc := ⟨.hbm, 945, rfl⟩
abbrev main_v709 : Ref sig .tc := ⟨.hbm, 946, rfl⟩
abbrev main_v710 : Ref sig .tc := ⟨.hbm, 947, rfl⟩
abbrev main_c_234 : Ref sig .tc := ⟨.hbm, 948, rfl⟩
abbrev main_v711 : Ref sig .tc := ⟨.hbm, 949, rfl⟩
abbrev main_v712 : Ref sig .tc := ⟨.hbm, 950, rfl⟩
abbrev main_c_235 : Ref sig .tc := ⟨.hbm, 951, rfl⟩
abbrev main_v713 : Ref sig .tc := ⟨.hbm, 952, rfl⟩
abbrev main_v714 : Ref sig .tc := ⟨.hbm, 953, rfl⟩
abbrev main_c_236 : Ref sig .tc := ⟨.hbm, 954, rfl⟩
abbrev main_v715 : Ref sig .tc := ⟨.hbm, 955, rfl⟩
abbrev main_v716 : Ref sig .tc := ⟨.hbm, 956, rfl⟩
abbrev main_v717 : Ref sig .tc := ⟨.hbm, 957, rfl⟩
abbrev main_c_237 : Ref sig .tc := ⟨.hbm, 958, rfl⟩
abbrev main_v718 : Ref sig .tc := ⟨.hbm, 959, rfl⟩
abbrev main_v719 : Ref sig .tc := ⟨.hbm, 960, rfl⟩
abbrev main_c_238 : Ref sig .tc := ⟨.hbm, 961, rfl⟩
abbrev main_v720 : Ref sig .tc := ⟨.hbm, 962, rfl⟩
abbrev main_v721 : Ref sig .tc := ⟨.hbm, 963, rfl⟩
abbrev main_c_239 : Ref sig .tc := ⟨.hbm, 964, rfl⟩
abbrev main_v722 : Ref sig .tc := ⟨.hbm, 965, rfl⟩
abbrev main_v723 : Ref sig .tc := ⟨.hbm, 966, rfl⟩
abbrev main_v724 : Ref sig .tc := ⟨.hbm, 967, rfl⟩
abbrev main_c_240 : Ref sig .tc := ⟨.hbm, 968, rfl⟩
abbrev main_v725 : Ref sig .tc := ⟨.hbm, 969, rfl⟩
abbrev main_v726 : Ref sig .tc := ⟨.hbm, 970, rfl⟩
abbrev main_c_241 : Ref sig .tc := ⟨.hbm, 971, rfl⟩
abbrev main_v727 : Ref sig .tc := ⟨.hbm, 972, rfl⟩
abbrev main_v728 : Ref sig .tc := ⟨.hbm, 973, rfl⟩
abbrev main_c_242 : Ref sig .tc := ⟨.hbm, 974, rfl⟩
abbrev main_v729 : Ref sig .tc := ⟨.hbm, 975, rfl⟩
abbrev main_v730 : Ref sig .tc := ⟨.hbm, 976, rfl⟩
abbrev main_v731 : Ref sig .tc := ⟨.hbm, 977, rfl⟩
abbrev main_c_243 : Ref sig .tc := ⟨.hbm, 978, rfl⟩
abbrev main_v732 : Ref sig .tc := ⟨.hbm, 979, rfl⟩
abbrev main_v733 : Ref sig .tc := ⟨.hbm, 980, rfl⟩
abbrev main_c_244 : Ref sig .tc := ⟨.hbm, 981, rfl⟩
abbrev main_v734 : Ref sig .tc := ⟨.hbm, 982, rfl⟩
abbrev main_v735 : Ref sig .tc := ⟨.hbm, 983, rfl⟩
abbrev main_c_245 : Ref sig .tc := ⟨.hbm, 984, rfl⟩
abbrev main_v736 : Ref sig .tc := ⟨.hbm, 985, rfl⟩
abbrev main_v737 : Ref sig .tc := ⟨.hbm, 986, rfl⟩
abbrev main_v738 : Ref sig .tc := ⟨.hbm, 987, rfl⟩
abbrev main_c_246 : Ref sig .tc := ⟨.hbm, 988, rfl⟩
abbrev main_v739 : Ref sig .tc := ⟨.hbm, 989, rfl⟩
abbrev main_v740 : Ref sig .tc := ⟨.hbm, 990, rfl⟩
abbrev main_c_247 : Ref sig .tc := ⟨.hbm, 991, rfl⟩
abbrev main_v741 : Ref sig .tc := ⟨.hbm, 992, rfl⟩
abbrev main_v742 : Ref sig .tc := ⟨.hbm, 993, rfl⟩
abbrev main_c_248 : Ref sig .tc := ⟨.hbm, 994, rfl⟩
abbrev main_v743 : Ref sig .tc := ⟨.hbm, 995, rfl⟩
abbrev main_v744 : Ref sig .tc := ⟨.hbm, 996, rfl⟩
abbrev main_v745 : Ref sig .tc := ⟨.hbm, 997, rfl⟩
abbrev main_c_249 : Ref sig .tc := ⟨.hbm, 998, rfl⟩
abbrev main_v746 : Ref sig .tc := ⟨.hbm, 999, rfl⟩
abbrev main_v747 : Ref sig .tc := ⟨.hbm, 1000, rfl⟩
abbrev main_c_250 : Ref sig .tc := ⟨.hbm, 1001, rfl⟩
abbrev main_v748 : Ref sig .tc := ⟨.hbm, 1002, rfl⟩
abbrev main_v749 : Ref sig .tc := ⟨.hbm, 1003, rfl⟩
abbrev main_c_251 : Ref sig .tc := ⟨.hbm, 1004, rfl⟩
abbrev main_v750 : Ref sig .tc := ⟨.hbm, 1005, rfl⟩
abbrev main_v751 : Ref sig .tc := ⟨.hbm, 1006, rfl⟩
abbrev main_v752 : Ref sig .tc := ⟨.hbm, 1007, rfl⟩
abbrev main_c_252 : Ref sig .tc := ⟨.hbm, 1008, rfl⟩
abbrev main_v753 : Ref sig .tc := ⟨.hbm, 1009, rfl⟩
abbrev main_v754 : Ref sig .tc := ⟨.hbm, 1010, rfl⟩
abbrev main_c_253 : Ref sig .tc := ⟨.hbm, 1011, rfl⟩
abbrev main_v755 : Ref sig .tc := ⟨.hbm, 1012, rfl⟩
abbrev main_v756 : Ref sig .tc := ⟨.hbm, 1013, rfl⟩
abbrev main_c_254 : Ref sig .tc := ⟨.hbm, 1014, rfl⟩
abbrev main_v757 : Ref sig .tc := ⟨.hbm, 1015, rfl⟩
abbrev main_v758 : Ref sig .tc := ⟨.hbm, 1016, rfl⟩
abbrev main_v759 : Ref sig .tc := ⟨.hbm, 1017, rfl⟩
abbrev main_c_255 : Ref sig .tc := ⟨.hbm, 1018, rfl⟩
abbrev main_v760 : Ref sig .tc := ⟨.hbm, 1019, rfl⟩
abbrev main_v761 : Ref sig .tc := ⟨.hbm, 1020, rfl⟩
abbrev main_c_256 : Ref sig .tc := ⟨.hbm, 1021, rfl⟩
abbrev main_v762 : Ref sig .tc := ⟨.hbm, 1022, rfl⟩
abbrev main_v763 : Ref sig .tc := ⟨.hbm, 1023, rfl⟩
abbrev main_c_257 : Ref sig .tc := ⟨.hbm, 1024, rfl⟩
abbrev main_v764 : Ref sig .tc := ⟨.hbm, 1025, rfl⟩
abbrev main_v765 : Ref sig .tc := ⟨.hbm, 1026, rfl⟩
abbrev main_v766 : Ref sig .tc := ⟨.hbm, 1027, rfl⟩
abbrev main_c_258 : Ref sig .tc := ⟨.hbm, 1028, rfl⟩
abbrev main_v767 : Ref sig .tc := ⟨.hbm, 1029, rfl⟩
abbrev main_v768 : Ref sig .tc := ⟨.hbm, 1030, rfl⟩
abbrev main_c_259 : Ref sig .tc := ⟨.hbm, 1031, rfl⟩
abbrev main_v769 : Ref sig .tc := ⟨.hbm, 1032, rfl⟩
abbrev main_v770 : Ref sig .tc := ⟨.hbm, 1033, rfl⟩
abbrev main_c_260 : Ref sig .tc := ⟨.hbm, 1034, rfl⟩
abbrev main_v771 : Ref sig .tc := ⟨.hbm, 1035, rfl⟩
abbrev main_v772 : Ref sig .tc := ⟨.hbm, 1036, rfl⟩
abbrev main_v773 : Ref sig .tc := ⟨.hbm, 1037, rfl⟩
abbrev main_c_261 : Ref sig .tc := ⟨.hbm, 1038, rfl⟩
abbrev main_v774 : Ref sig .tc := ⟨.hbm, 1039, rfl⟩
abbrev main_v775 : Ref sig .tc := ⟨.hbm, 1040, rfl⟩
abbrev main_c_262 : Ref sig .tc := ⟨.hbm, 1041, rfl⟩
abbrev main_v776 : Ref sig .tc := ⟨.hbm, 1042, rfl⟩
abbrev main_v777 : Ref sig .tc := ⟨.hbm, 1043, rfl⟩
abbrev main_c_263 : Ref sig .tc := ⟨.hbm, 1044, rfl⟩
abbrev main_v778 : Ref sig .tc := ⟨.hbm, 1045, rfl⟩
abbrev main_v779 : Ref sig .tc := ⟨.hbm, 1046, rfl⟩
abbrev main_v780 : Ref sig .tc := ⟨.hbm, 1047, rfl⟩
abbrev main_c_264 : Ref sig .tc := ⟨.hbm, 1048, rfl⟩
abbrev main_v781 : Ref sig .tc := ⟨.hbm, 1049, rfl⟩
abbrev main_v782 : Ref sig .tc := ⟨.hbm, 1050, rfl⟩
abbrev main_c_265 : Ref sig .tc := ⟨.hbm, 1051, rfl⟩
abbrev main_v783 : Ref sig .tc := ⟨.hbm, 1052, rfl⟩
abbrev main_v784 : Ref sig .tc := ⟨.hbm, 1053, rfl⟩
abbrev main_c_266 : Ref sig .tc := ⟨.hbm, 1054, rfl⟩
abbrev main_v785 : Ref sig .tc := ⟨.hbm, 1055, rfl⟩
abbrev main_v786 : Ref sig .tc := ⟨.hbm, 1056, rfl⟩
abbrev main_v787 : Ref sig .tc := ⟨.hbm, 1057, rfl⟩
abbrev main_c_267 : Ref sig .tc := ⟨.hbm, 1058, rfl⟩
abbrev main_v788 : Ref sig .tc := ⟨.hbm, 1059, rfl⟩
abbrev main_v789 : Ref sig .tc := ⟨.hbm, 1060, rfl⟩
abbrev main_c_268 : Ref sig .tc := ⟨.hbm, 1061, rfl⟩
abbrev main_v790 : Ref sig .tc := ⟨.hbm, 1062, rfl⟩
abbrev main_v791 : Ref sig .tc := ⟨.hbm, 1063, rfl⟩
abbrev main_c_269 : Ref sig .tc := ⟨.hbm, 1064, rfl⟩
abbrev main_v792 : Ref sig .tc := ⟨.hbm, 1065, rfl⟩
abbrev main_v793 : Ref sig .tc := ⟨.hbm, 1066, rfl⟩
abbrev main_v794 : Ref sig .tc := ⟨.hbm, 1067, rfl⟩
abbrev main_c_270 : Ref sig .tc := ⟨.hbm, 1068, rfl⟩
abbrev main_v795 : Ref sig .tc := ⟨.hbm, 1069, rfl⟩
abbrev main_v796 : Ref sig .tc := ⟨.hbm, 1070, rfl⟩
abbrev main_c_271 : Ref sig .tc := ⟨.hbm, 1071, rfl⟩
abbrev main_v797 : Ref sig .tc := ⟨.hbm, 1072, rfl⟩
abbrev main_v798 : Ref sig .tc := ⟨.hbm, 1073, rfl⟩
abbrev main_c_272 : Ref sig .tc := ⟨.hbm, 1074, rfl⟩
abbrev main_v799 : Ref sig .tc := ⟨.hbm, 1075, rfl⟩
abbrev main_v800 : Ref sig .tc := ⟨.hbm, 1076, rfl⟩
abbrev main_v801 : Ref sig .tc := ⟨.hbm, 1077, rfl⟩
abbrev main_c_273 : Ref sig .tc := ⟨.hbm, 1078, rfl⟩
abbrev main_v802 : Ref sig .tc := ⟨.hbm, 1079, rfl⟩
abbrev main_v803 : Ref sig .tc := ⟨.hbm, 1080, rfl⟩
abbrev main_c_274 : Ref sig .tc := ⟨.hbm, 1081, rfl⟩
abbrev main_v804 : Ref sig .tc := ⟨.hbm, 1082, rfl⟩
abbrev main_v805 : Ref sig .tc := ⟨.hbm, 1083, rfl⟩
abbrev main_c_275 : Ref sig .tc := ⟨.hbm, 1084, rfl⟩
abbrev main_v806 : Ref sig .tc := ⟨.hbm, 1085, rfl⟩
abbrev main_v807 : Ref sig .tc := ⟨.hbm, 1086, rfl⟩
abbrev main_v808 : Ref sig .tc := ⟨.hbm, 1087, rfl⟩
abbrev main_c_276 : Ref sig .tc := ⟨.hbm, 1088, rfl⟩
abbrev main_v809 : Ref sig .tc := ⟨.hbm, 1089, rfl⟩
abbrev main_v810 : Ref sig .tc := ⟨.hbm, 1090, rfl⟩
abbrev main_c_277 : Ref sig .tc := ⟨.hbm, 1091, rfl⟩
abbrev main_v811 : Ref sig .tc := ⟨.hbm, 1092, rfl⟩
abbrev main_v812 : Ref sig .tc := ⟨.hbm, 1093, rfl⟩
abbrev main_c_278 : Ref sig .tc := ⟨.hbm, 1094, rfl⟩
abbrev main_v813 : Ref sig .tc := ⟨.hbm, 1095, rfl⟩
abbrev main_v814 : Ref sig .tc := ⟨.hbm, 1096, rfl⟩
abbrev main_v815 : Ref sig .tc := ⟨.hbm, 1097, rfl⟩
abbrev main_c_279 : Ref sig .tc := ⟨.hbm, 1098, rfl⟩
abbrev main_v816 : Ref sig .tc := ⟨.hbm, 1099, rfl⟩
abbrev main_v817 : Ref sig .tc := ⟨.hbm, 1100, rfl⟩
abbrev main_c_280 : Ref sig .tc := ⟨.hbm, 1101, rfl⟩
abbrev main_v818 : Ref sig .tc := ⟨.hbm, 1102, rfl⟩
abbrev main_v819 : Ref sig .tc := ⟨.hbm, 1103, rfl⟩
abbrev main_c_281 : Ref sig .tc := ⟨.hbm, 1104, rfl⟩
abbrev main_v820 : Ref sig .tc := ⟨.hbm, 1105, rfl⟩
abbrev main_v821 : Ref sig .tc := ⟨.hbm, 1106, rfl⟩
abbrev main_v822 : Ref sig .tc := ⟨.hbm, 1107, rfl⟩
abbrev main_c_282 : Ref sig .tc := ⟨.hbm, 1108, rfl⟩
abbrev main_v823 : Ref sig .tc := ⟨.hbm, 1109, rfl⟩
abbrev main_v824 : Ref sig .tc := ⟨.hbm, 1110, rfl⟩
abbrev main_c_283 : Ref sig .tc := ⟨.hbm, 1111, rfl⟩
abbrev main_v825 : Ref sig .tc := ⟨.hbm, 1112, rfl⟩
abbrev main_v826 : Ref sig .tc := ⟨.hbm, 1113, rfl⟩
abbrev main_c_284 : Ref sig .tc := ⟨.hbm, 1114, rfl⟩
abbrev main_v827 : Ref sig .tc := ⟨.hbm, 1115, rfl⟩
abbrev main_v828 : Ref sig .tc := ⟨.hbm, 1116, rfl⟩
abbrev main_v829 : Ref sig .tc := ⟨.hbm, 1117, rfl⟩
abbrev main_c_285 : Ref sig .tc := ⟨.hbm, 1118, rfl⟩
abbrev main_v830 : Ref sig .tc := ⟨.hbm, 1119, rfl⟩
abbrev main_v831 : Ref sig .tc := ⟨.hbm, 1120, rfl⟩
abbrev main_c_286 : Ref sig .tc := ⟨.hbm, 1121, rfl⟩
abbrev main_v832 : Ref sig .tc := ⟨.hbm, 1122, rfl⟩
abbrev main_v833 : Ref sig .tc := ⟨.hbm, 1123, rfl⟩
abbrev main_c_287 : Ref sig .tc := ⟨.hbm, 1124, rfl⟩
abbrev main_v834 : Ref sig .tc := ⟨.hbm, 1125, rfl⟩
abbrev main_v835 : Ref sig .tc := ⟨.hbm, 1126, rfl⟩
abbrev main_v836 : Ref sig .tc := ⟨.hbm, 1127, rfl⟩
abbrev main_v837 : Ref sig .tc := ⟨.hbm, 1128, rfl⟩
abbrev main_v838 : Ref sig .tc := ⟨.hbm, 1129, rfl⟩
abbrev main_v839 : Ref sig .tc := ⟨.hbm, 1130, rfl⟩
abbrev main_c_288 : Ref sig .tc := ⟨.hbm, 1131, rfl⟩
abbrev main_v840 : Ref sig .tc := ⟨.hbm, 1132, rfl⟩
abbrev main_c_289 : Ref sig .tc := ⟨.hbm, 1133, rfl⟩
abbrev main_v841 : Ref sig .tc := ⟨.hbm, 1134, rfl⟩
abbrev main_c_290 : Ref sig .tc := ⟨.hbm, 1135, rfl⟩
abbrev main_v842 : Ref sig .tc := ⟨.hbm, 1136, rfl⟩
abbrev main_v843 : Ref sig .tc := ⟨.hbm, 1137, rfl⟩
abbrev main_c_291 : Ref sig .tc := ⟨.hbm, 1138, rfl⟩
abbrev main_v844 : Ref sig .tc := ⟨.hbm, 1139, rfl⟩
abbrev main_v845 : Ref sig .tc := ⟨.hbm, 1140, rfl⟩
abbrev main_c_292 : Ref sig .tc := ⟨.hbm, 1141, rfl⟩
abbrev main_v846 : Ref sig .tc := ⟨.hbm, 1142, rfl⟩
abbrev main_v847 : Ref sig .tc := ⟨.hbm, 1143, rfl⟩
abbrev main_v848 : Ref sig .tc := ⟨.hbm, 1144, rfl⟩
abbrev main_c_293 : Ref sig .tc := ⟨.hbm, 1145, rfl⟩
abbrev main_v849 : Ref sig .tc := ⟨.hbm, 1146, rfl⟩
abbrev main_v850 : Ref sig .tc := ⟨.hbm, 1147, rfl⟩
abbrev main_c_294 : Ref sig .tc := ⟨.hbm, 1148, rfl⟩
abbrev main_v851 : Ref sig .tc := ⟨.hbm, 1149, rfl⟩
abbrev main_v852 : Ref sig .tc := ⟨.hbm, 1150, rfl⟩
abbrev main_c_295 : Ref sig .tc := ⟨.hbm, 1151, rfl⟩
abbrev main_v853 : Ref sig .tc := ⟨.hbm, 1152, rfl⟩
abbrev main_v854 : Ref sig .tc := ⟨.hbm, 1153, rfl⟩
abbrev main_v855 : Ref sig .tc := ⟨.hbm, 1154, rfl⟩
abbrev main_c_296 : Ref sig .tc := ⟨.hbm, 1155, rfl⟩
abbrev main_v856 : Ref sig .tc := ⟨.hbm, 1156, rfl⟩
abbrev main_v857 : Ref sig .tc := ⟨.hbm, 1157, rfl⟩
abbrev main_c_297 : Ref sig .tc := ⟨.hbm, 1158, rfl⟩
abbrev main_v858 : Ref sig .tc := ⟨.hbm, 1159, rfl⟩
abbrev main_v859 : Ref sig .tc := ⟨.hbm, 1160, rfl⟩
abbrev main_c_298 : Ref sig .tc := ⟨.hbm, 1161, rfl⟩
abbrev main_v860 : Ref sig .tc := ⟨.hbm, 1162, rfl⟩
abbrev main_v861 : Ref sig .tc := ⟨.hbm, 1163, rfl⟩
abbrev main_v862 : Ref sig .tc := ⟨.hbm, 1164, rfl⟩
abbrev main_c_299 : Ref sig .tc := ⟨.hbm, 1165, rfl⟩
abbrev main_v863 : Ref sig .tc := ⟨.hbm, 1166, rfl⟩
abbrev main_v864 : Ref sig .tc := ⟨.hbm, 1167, rfl⟩
abbrev main_c_300 : Ref sig .tc := ⟨.hbm, 1168, rfl⟩
abbrev main_v865 : Ref sig .tc := ⟨.hbm, 1169, rfl⟩
abbrev main_v866 : Ref sig .tc := ⟨.hbm, 1170, rfl⟩
abbrev main_c_301 : Ref sig .tc := ⟨.hbm, 1171, rfl⟩
abbrev main_v867 : Ref sig .tc := ⟨.hbm, 1172, rfl⟩
abbrev main_v868 : Ref sig .tc := ⟨.hbm, 1173, rfl⟩
abbrev main_v869 : Ref sig .tc := ⟨.hbm, 1174, rfl⟩
abbrev main_c_302 : Ref sig .tc := ⟨.hbm, 1175, rfl⟩
abbrev main_v870 : Ref sig .tc := ⟨.hbm, 1176, rfl⟩
abbrev main_v871 : Ref sig .tc := ⟨.hbm, 1177, rfl⟩
abbrev main_c_303 : Ref sig .tc := ⟨.hbm, 1178, rfl⟩
abbrev main_v872 : Ref sig .tc := ⟨.hbm, 1179, rfl⟩
abbrev main_v873 : Ref sig .tc := ⟨.hbm, 1180, rfl⟩
abbrev main_c_304 : Ref sig .tc := ⟨.hbm, 1181, rfl⟩
abbrev main_v874 : Ref sig .tc := ⟨.hbm, 1182, rfl⟩
abbrev main_v875 : Ref sig .tc := ⟨.hbm, 1183, rfl⟩
abbrev main_v876 : Ref sig .tc := ⟨.hbm, 1184, rfl⟩
abbrev main_c_305 : Ref sig .tc := ⟨.hbm, 1185, rfl⟩
abbrev main_v877 : Ref sig .tc := ⟨.hbm, 1186, rfl⟩
abbrev main_v878 : Ref sig .tc := ⟨.hbm, 1187, rfl⟩
abbrev main_c_306 : Ref sig .tc := ⟨.hbm, 1188, rfl⟩
abbrev main_v879 : Ref sig .tc := ⟨.hbm, 1189, rfl⟩
abbrev main_v880 : Ref sig .tc := ⟨.hbm, 1190, rfl⟩
abbrev main_c_307 : Ref sig .tc := ⟨.hbm, 1191, rfl⟩
abbrev main_v881 : Ref sig .tc := ⟨.hbm, 1192, rfl⟩
abbrev main_v882 : Ref sig .tc := ⟨.hbm, 1193, rfl⟩
abbrev main_v883 : Ref sig .tc := ⟨.hbm, 1194, rfl⟩
abbrev main_c_308 : Ref sig .tc := ⟨.hbm, 1195, rfl⟩
abbrev main_v884 : Ref sig .tc := ⟨.hbm, 1196, rfl⟩
abbrev main_v885 : Ref sig .tc := ⟨.hbm, 1197, rfl⟩
abbrev main_c_309 : Ref sig .tc := ⟨.hbm, 1198, rfl⟩
abbrev main_v886 : Ref sig .tc := ⟨.hbm, 1199, rfl⟩
abbrev main_v887 : Ref sig .tc := ⟨.hbm, 1200, rfl⟩
abbrev main_c_310 : Ref sig .tc := ⟨.hbm, 1201, rfl⟩
abbrev main_v888 : Ref sig .tc := ⟨.hbm, 1202, rfl⟩
abbrev main_v889 : Ref sig .tc := ⟨.hbm, 1203, rfl⟩
abbrev main_v890 : Ref sig .tc := ⟨.hbm, 1204, rfl⟩
abbrev main_c_311 : Ref sig .tc := ⟨.hbm, 1205, rfl⟩
abbrev main_v891 : Ref sig .tc := ⟨.hbm, 1206, rfl⟩
abbrev main_v892 : Ref sig .tc := ⟨.hbm, 1207, rfl⟩
abbrev main_c_312 : Ref sig .tc := ⟨.hbm, 1208, rfl⟩
abbrev main_v893 : Ref sig .tc := ⟨.hbm, 1209, rfl⟩
abbrev main_v894 : Ref sig .tc := ⟨.hbm, 1210, rfl⟩
abbrev main_c_313 : Ref sig .tc := ⟨.hbm, 1211, rfl⟩
abbrev main_v895 : Ref sig .tc := ⟨.hbm, 1212, rfl⟩
abbrev main_v896 : Ref sig .tc := ⟨.hbm, 1213, rfl⟩
abbrev main_v897 : Ref sig .tc := ⟨.hbm, 1214, rfl⟩
abbrev main_c_314 : Ref sig .tc := ⟨.hbm, 1215, rfl⟩
abbrev main_v898 : Ref sig .tc := ⟨.hbm, 1216, rfl⟩
abbrev main_v899 : Ref sig .tc := ⟨.hbm, 1217, rfl⟩
abbrev main_c_315 : Ref sig .tc := ⟨.hbm, 1218, rfl⟩
abbrev main_v900 : Ref sig .tc := ⟨.hbm, 1219, rfl⟩
abbrev main_v901 : Ref sig .tc := ⟨.hbm, 1220, rfl⟩
abbrev main_c_316 : Ref sig .tc := ⟨.hbm, 1221, rfl⟩
abbrev main_v902 : Ref sig .tc := ⟨.hbm, 1222, rfl⟩
abbrev main_v903 : Ref sig .tc := ⟨.hbm, 1223, rfl⟩
abbrev main_v904 : Ref sig .tc := ⟨.hbm, 1224, rfl⟩
abbrev main_c_317 : Ref sig .tc := ⟨.hbm, 1225, rfl⟩
abbrev main_v905 : Ref sig .tc := ⟨.hbm, 1226, rfl⟩
abbrev main_v906 : Ref sig .tc := ⟨.hbm, 1227, rfl⟩
abbrev main_c_318 : Ref sig .tc := ⟨.hbm, 1228, rfl⟩
abbrev main_v907 : Ref sig .tc := ⟨.hbm, 1229, rfl⟩
abbrev main_v908 : Ref sig .tc := ⟨.hbm, 1230, rfl⟩
abbrev main_c_319 : Ref sig .tc := ⟨.hbm, 1231, rfl⟩
abbrev main_v909 : Ref sig .tc := ⟨.hbm, 1232, rfl⟩
abbrev main_v910 : Ref sig .tc := ⟨.hbm, 1233, rfl⟩
abbrev main_v911 : Ref sig .tc := ⟨.hbm, 1234, rfl⟩
abbrev main_c_320 : Ref sig .tc := ⟨.hbm, 1235, rfl⟩
abbrev main_v912 : Ref sig .tc := ⟨.hbm, 1236, rfl⟩
abbrev main_v913 : Ref sig .tc := ⟨.hbm, 1237, rfl⟩
abbrev main_c_321 : Ref sig .tc := ⟨.hbm, 1238, rfl⟩
abbrev main_v914 : Ref sig .tc := ⟨.hbm, 1239, rfl⟩
abbrev main_v915 : Ref sig .tc := ⟨.hbm, 1240, rfl⟩
abbrev main_c_322 : Ref sig .tc := ⟨.hbm, 1241, rfl⟩
abbrev main_v916 : Ref sig .tc := ⟨.hbm, 1242, rfl⟩
abbrev main_v917 : Ref sig .tc := ⟨.hbm, 1243, rfl⟩
abbrev main_v918 : Ref sig .tc := ⟨.hbm, 1244, rfl⟩
abbrev main_c_323 : Ref sig .tc := ⟨.hbm, 1245, rfl⟩
abbrev main_v919 : Ref sig .tc := ⟨.hbm, 1246, rfl⟩
abbrev main_v920 : Ref sig .tc := ⟨.hbm, 1247, rfl⟩
abbrev main_c_324 : Ref sig .tc := ⟨.hbm, 1248, rfl⟩
abbrev main_v921 : Ref sig .tc := ⟨.hbm, 1249, rfl⟩
abbrev main_v922 : Ref sig .tc := ⟨.hbm, 1250, rfl⟩
abbrev main_c_325 : Ref sig .tc := ⟨.hbm, 1251, rfl⟩
abbrev main_v923 : Ref sig .tc := ⟨.hbm, 1252, rfl⟩
abbrev main_v924 : Ref sig .tc := ⟨.hbm, 1253, rfl⟩
abbrev main_v925 : Ref sig .tc := ⟨.hbm, 1254, rfl⟩
abbrev main_c_326 : Ref sig .tc := ⟨.hbm, 1255, rfl⟩
abbrev main_v926 : Ref sig .tc := ⟨.hbm, 1256, rfl⟩
abbrev main_v927 : Ref sig .tc := ⟨.hbm, 1257, rfl⟩
abbrev main_c_327 : Ref sig .tc := ⟨.hbm, 1258, rfl⟩
abbrev main_v928 : Ref sig .tc := ⟨.hbm, 1259, rfl⟩
abbrev main_v929 : Ref sig .tc := ⟨.hbm, 1260, rfl⟩
abbrev main_c_328 : Ref sig .tc := ⟨.hbm, 1261, rfl⟩
abbrev main_v930 : Ref sig .tc := ⟨.hbm, 1262, rfl⟩
abbrev main_v931 : Ref sig .tc := ⟨.hbm, 1263, rfl⟩
abbrev main_v932 : Ref sig .tc := ⟨.hbm, 1264, rfl⟩
abbrev main_c_329 : Ref sig .tc := ⟨.hbm, 1265, rfl⟩
abbrev main_v933 : Ref sig .tc := ⟨.hbm, 1266, rfl⟩
abbrev main_v934 : Ref sig .tc := ⟨.hbm, 1267, rfl⟩
abbrev main_c_330 : Ref sig .tc := ⟨.hbm, 1268, rfl⟩
abbrev main_v935 : Ref sig .tc := ⟨.hbm, 1269, rfl⟩
abbrev main_v936 : Ref sig .tc := ⟨.hbm, 1270, rfl⟩
abbrev main_c_331 : Ref sig .tc := ⟨.hbm, 1271, rfl⟩
abbrev main_v937 : Ref sig .tc := ⟨.hbm, 1272, rfl⟩
abbrev main_v938 : Ref sig .tc := ⟨.hbm, 1273, rfl⟩
abbrev main_v939 : Ref sig .tc := ⟨.hbm, 1274, rfl⟩
abbrev main_c_332 : Ref sig .tc := ⟨.hbm, 1275, rfl⟩
abbrev main_v940 : Ref sig .tc := ⟨.hbm, 1276, rfl⟩
abbrev main_v941 : Ref sig .tc := ⟨.hbm, 1277, rfl⟩
abbrev main_c_333 : Ref sig .tc := ⟨.hbm, 1278, rfl⟩
abbrev main_v942 : Ref sig .tc := ⟨.hbm, 1279, rfl⟩
abbrev main_v943 : Ref sig .tc := ⟨.hbm, 1280, rfl⟩
abbrev main_c_334 : Ref sig .tc := ⟨.hbm, 1281, rfl⟩
abbrev main_v944 : Ref sig .tc := ⟨.hbm, 1282, rfl⟩
abbrev main_v945 : Ref sig .tc := ⟨.hbm, 1283, rfl⟩
abbrev main_v946 : Ref sig .tc := ⟨.hbm, 1284, rfl⟩
abbrev main_c_335 : Ref sig .tc := ⟨.hbm, 1285, rfl⟩
abbrev main_v947 : Ref sig .tc := ⟨.hbm, 1286, rfl⟩
abbrev main_v948 : Ref sig .tc := ⟨.hbm, 1287, rfl⟩
abbrev main_c_336 : Ref sig .tc := ⟨.hbm, 1288, rfl⟩
abbrev main_v949 : Ref sig .tc := ⟨.hbm, 1289, rfl⟩
abbrev main_v950 : Ref sig .tc := ⟨.hbm, 1290, rfl⟩
abbrev main_c_337 : Ref sig .tc := ⟨.hbm, 1291, rfl⟩
abbrev main_v951 : Ref sig .tc := ⟨.hbm, 1292, rfl⟩
abbrev main_v952 : Ref sig .tc := ⟨.hbm, 1293, rfl⟩
abbrev main_v953 : Ref sig .tc := ⟨.hbm, 1294, rfl⟩
abbrev main_c_338 : Ref sig .tc := ⟨.hbm, 1295, rfl⟩
abbrev main_v954 : Ref sig .tc := ⟨.hbm, 1296, rfl⟩
abbrev main_v955 : Ref sig .tc := ⟨.hbm, 1297, rfl⟩
abbrev main_c_339 : Ref sig .tc := ⟨.hbm, 1298, rfl⟩
abbrev main_v956 : Ref sig .tc := ⟨.hbm, 1299, rfl⟩
abbrev main_v957 : Ref sig .tc := ⟨.hbm, 1300, rfl⟩
abbrev main_c_340 : Ref sig .tc := ⟨.hbm, 1301, rfl⟩
abbrev main_v958 : Ref sig .tc := ⟨.hbm, 1302, rfl⟩
abbrev main_v959 : Ref sig .tc := ⟨.hbm, 1303, rfl⟩
abbrev main_v960 : Ref sig .tc := ⟨.hbm, 1304, rfl⟩
abbrev main_c_341 : Ref sig .tc := ⟨.hbm, 1305, rfl⟩
abbrev main_v961 : Ref sig .tc := ⟨.hbm, 1306, rfl⟩
abbrev main_v962 : Ref sig .tc := ⟨.hbm, 1307, rfl⟩
abbrev main_c_342 : Ref sig .tc := ⟨.hbm, 1308, rfl⟩
abbrev main_v963 : Ref sig .tc := ⟨.hbm, 1309, rfl⟩
abbrev main_v964 : Ref sig .tc := ⟨.hbm, 1310, rfl⟩
abbrev main_c_343 : Ref sig .tc := ⟨.hbm, 1311, rfl⟩
abbrev main_v965 : Ref sig .tc := ⟨.hbm, 1312, rfl⟩
abbrev main_v966 : Ref sig .tc := ⟨.hbm, 1313, rfl⟩
abbrev main_v967 : Ref sig .tc := ⟨.hbm, 1314, rfl⟩
abbrev main_c_344 : Ref sig .tc := ⟨.hbm, 1315, rfl⟩
abbrev main_v968 : Ref sig .tc := ⟨.hbm, 1316, rfl⟩
abbrev main_v969 : Ref sig .tc := ⟨.hbm, 1317, rfl⟩
abbrev main_c_345 : Ref sig .tc := ⟨.hbm, 1318, rfl⟩
abbrev main_v970 : Ref sig .tc := ⟨.hbm, 1319, rfl⟩
abbrev main_v971 : Ref sig .tc := ⟨.hbm, 1320, rfl⟩
abbrev main_c_346 : Ref sig .tc := ⟨.hbm, 1321, rfl⟩
abbrev main_v972 : Ref sig .tc := ⟨.hbm, 1322, rfl⟩
abbrev main_v973 : Ref sig .tc := ⟨.hbm, 1323, rfl⟩
abbrev main_v974 : Ref sig .tc := ⟨.hbm, 1324, rfl⟩
abbrev main_c_347 : Ref sig .tc := ⟨.hbm, 1325, rfl⟩
abbrev main_v975 : Ref sig .tc := ⟨.hbm, 1326, rfl⟩
abbrev main_v976 : Ref sig .tc := ⟨.hbm, 1327, rfl⟩
abbrev main_c_348 : Ref sig .tc := ⟨.hbm, 1328, rfl⟩
abbrev main_v977 : Ref sig .tc := ⟨.hbm, 1329, rfl⟩
abbrev main_v978 : Ref sig .tc := ⟨.hbm, 1330, rfl⟩
abbrev main_c_349 : Ref sig .tc := ⟨.hbm, 1331, rfl⟩
abbrev main_v979 : Ref sig .tc := ⟨.hbm, 1332, rfl⟩
abbrev main_v980 : Ref sig .tc := ⟨.hbm, 1333, rfl⟩
abbrev main_v981 : Ref sig .tc := ⟨.hbm, 1334, rfl⟩
abbrev main_c_350 : Ref sig .tc := ⟨.hbm, 1335, rfl⟩
abbrev main_v982 : Ref sig .tc := ⟨.hbm, 1336, rfl⟩
abbrev main_v983 : Ref sig .tc := ⟨.hbm, 1337, rfl⟩
abbrev main_c_351 : Ref sig .tc := ⟨.hbm, 1338, rfl⟩
abbrev main_v984 : Ref sig .tc := ⟨.hbm, 1339, rfl⟩
abbrev main_v985 : Ref sig .tc := ⟨.hbm, 1340, rfl⟩
abbrev main_c_352 : Ref sig .tc := ⟨.hbm, 1341, rfl⟩
abbrev main_v986 : Ref sig .tc := ⟨.hbm, 1342, rfl⟩
abbrev main_v987 : Ref sig .tc := ⟨.hbm, 1343, rfl⟩
abbrev main_v988 : Ref sig .tc := ⟨.hbm, 1344, rfl⟩
abbrev main_c_353 : Ref sig .tc := ⟨.hbm, 1345, rfl⟩
abbrev main_v989 : Ref sig .tc := ⟨.hbm, 1346, rfl⟩
abbrev main_v990 : Ref sig .tc := ⟨.hbm, 1347, rfl⟩
abbrev main_c_354 : Ref sig .tc := ⟨.hbm, 1348, rfl⟩
abbrev main_v991 : Ref sig .tc := ⟨.hbm, 1349, rfl⟩
abbrev main_v992 : Ref sig .tc := ⟨.hbm, 1350, rfl⟩
abbrev main_c_355 : Ref sig .tc := ⟨.hbm, 1351, rfl⟩
abbrev main_v993 : Ref sig .tc := ⟨.hbm, 1352, rfl⟩
abbrev main_v994 : Ref sig .tc := ⟨.hbm, 1353, rfl⟩
abbrev main_v995 : Ref sig .tc := ⟨.hbm, 1354, rfl⟩
abbrev main_c_356 : Ref sig .tc := ⟨.hbm, 1355, rfl⟩
abbrev main_v996 : Ref sig .tc := ⟨.hbm, 1356, rfl⟩
abbrev main_v997 : Ref sig .tc := ⟨.hbm, 1357, rfl⟩
abbrev main_c_357 : Ref sig .tc := ⟨.hbm, 1358, rfl⟩
abbrev main_v998 : Ref sig .tc := ⟨.hbm, 1359, rfl⟩
abbrev main_v999 : Ref sig .tc := ⟨.hbm, 1360, rfl⟩
abbrev main_c_358 : Ref sig .tc := ⟨.hbm, 1361, rfl⟩
abbrev main_v1000 : Ref sig .tc := ⟨.hbm, 1362, rfl⟩
abbrev main_v1001 : Ref sig .tc := ⟨.hbm, 1363, rfl⟩
abbrev main_v1002 : Ref sig .tc := ⟨.hbm, 1364, rfl⟩
abbrev main_c_359 : Ref sig .tc := ⟨.hbm, 1365, rfl⟩
abbrev main_v1003 : Ref sig .tc := ⟨.hbm, 1366, rfl⟩
abbrev main_v1004 : Ref sig .tc := ⟨.hbm, 1367, rfl⟩
abbrev main_c_360 : Ref sig .tc := ⟨.hbm, 1368, rfl⟩
abbrev main_v1005 : Ref sig .tc := ⟨.hbm, 1369, rfl⟩
abbrev main_v1006 : Ref sig .tc := ⟨.hbm, 1370, rfl⟩
abbrev main_c_361 : Ref sig .tc := ⟨.hbm, 1371, rfl⟩
abbrev main_v1007 : Ref sig .tc := ⟨.hbm, 1372, rfl⟩
abbrev main_v1008 : Ref sig .tc := ⟨.hbm, 1373, rfl⟩
abbrev main_v1009 : Ref sig .tc := ⟨.hbm, 1374, rfl⟩
abbrev main_c_362 : Ref sig .tc := ⟨.hbm, 1375, rfl⟩
abbrev main_v1010 : Ref sig .tc := ⟨.hbm, 1376, rfl⟩
abbrev main_v1011 : Ref sig .tc := ⟨.hbm, 1377, rfl⟩
abbrev main_c_363 : Ref sig .tc := ⟨.hbm, 1378, rfl⟩
abbrev main_v1012 : Ref sig .tc := ⟨.hbm, 1379, rfl⟩
abbrev main_v1013 : Ref sig .tc := ⟨.hbm, 1380, rfl⟩
abbrev main_c_364 : Ref sig .tc := ⟨.hbm, 1381, rfl⟩
abbrev main_v1014 : Ref sig .tc := ⟨.hbm, 1382, rfl⟩
abbrev main_v1015 : Ref sig .tc := ⟨.hbm, 1383, rfl⟩
abbrev main_v1016 : Ref sig .tc := ⟨.hbm, 1384, rfl⟩
abbrev main_c_365 : Ref sig .tc := ⟨.hbm, 1385, rfl⟩
abbrev main_v1017 : Ref sig .tc := ⟨.hbm, 1386, rfl⟩
abbrev main_v1018 : Ref sig .tc := ⟨.hbm, 1387, rfl⟩
abbrev main_c_366 : Ref sig .tc := ⟨.hbm, 1388, rfl⟩
abbrev main_v1019 : Ref sig .tc := ⟨.hbm, 1389, rfl⟩
abbrev main_v1020 : Ref sig .tc := ⟨.hbm, 1390, rfl⟩
abbrev main_c_367 : Ref sig .tc := ⟨.hbm, 1391, rfl⟩
abbrev main_v1021 : Ref sig .tc := ⟨.hbm, 1392, rfl⟩
abbrev main_v1022 : Ref sig .tc := ⟨.hbm, 1393, rfl⟩
abbrev main_v1023 : Ref sig .tc := ⟨.hbm, 1394, rfl⟩
abbrev main_c_368 : Ref sig .tc := ⟨.hbm, 1395, rfl⟩
abbrev main_v1024 : Ref sig .tc := ⟨.hbm, 1396, rfl⟩
abbrev main_v1025 : Ref sig .tc := ⟨.hbm, 1397, rfl⟩
abbrev main_c_369 : Ref sig .tc := ⟨.hbm, 1398, rfl⟩
abbrev main_v1026 : Ref sig .tc := ⟨.hbm, 1399, rfl⟩
abbrev main_v1027 : Ref sig .tc := ⟨.hbm, 1400, rfl⟩
abbrev main_c_370 : Ref sig .tc := ⟨.hbm, 1401, rfl⟩
abbrev main_v1028 : Ref sig .tc := ⟨.hbm, 1402, rfl⟩
abbrev main_v1029 : Ref sig .tc := ⟨.hbm, 1403, rfl⟩
abbrev main_v1030 : Ref sig .tc := ⟨.hbm, 1404, rfl⟩
abbrev main_c_371 : Ref sig .tc := ⟨.hbm, 1405, rfl⟩
abbrev main_v1031 : Ref sig .tc := ⟨.hbm, 1406, rfl⟩
abbrev main_v1032 : Ref sig .tc := ⟨.hbm, 1407, rfl⟩
abbrev main_c_372 : Ref sig .tc := ⟨.hbm, 1408, rfl⟩
abbrev main_v1033 : Ref sig .tc := ⟨.hbm, 1409, rfl⟩
abbrev main_v1034 : Ref sig .tc := ⟨.hbm, 1410, rfl⟩
abbrev main_c_373 : Ref sig .tc := ⟨.hbm, 1411, rfl⟩
abbrev main_v1035 : Ref sig .tc := ⟨.hbm, 1412, rfl⟩
abbrev main_v1036 : Ref sig .tc := ⟨.hbm, 1413, rfl⟩
abbrev main_v1037 : Ref sig .tc := ⟨.hbm, 1414, rfl⟩
abbrev main_c_374 : Ref sig .tc := ⟨.hbm, 1415, rfl⟩
abbrev main_v1038 : Ref sig .tc := ⟨.hbm, 1416, rfl⟩
abbrev main_v1039 : Ref sig .tc := ⟨.hbm, 1417, rfl⟩
abbrev main_c_375 : Ref sig .tc := ⟨.hbm, 1418, rfl⟩
abbrev main_v1040 : Ref sig .tc := ⟨.hbm, 1419, rfl⟩
abbrev main_v1041 : Ref sig .tc := ⟨.hbm, 1420, rfl⟩
abbrev main_c_376 : Ref sig .tc := ⟨.hbm, 1421, rfl⟩
abbrev main_v1042 : Ref sig .tc := ⟨.hbm, 1422, rfl⟩
abbrev main_v1043 : Ref sig .tc := ⟨.hbm, 1423, rfl⟩
abbrev main_v1044 : Ref sig .tc := ⟨.hbm, 1424, rfl⟩
abbrev main_c_377 : Ref sig .tc := ⟨.hbm, 1425, rfl⟩
abbrev main_v1045 : Ref sig .tc := ⟨.hbm, 1426, rfl⟩
abbrev main_v1046 : Ref sig .tc := ⟨.hbm, 1427, rfl⟩
abbrev main_c_378 : Ref sig .tc := ⟨.hbm, 1428, rfl⟩
abbrev main_v1047 : Ref sig .tc := ⟨.hbm, 1429, rfl⟩
abbrev main_v1048 : Ref sig .tc := ⟨.hbm, 1430, rfl⟩
abbrev main_c_379 : Ref sig .tc := ⟨.hbm, 1431, rfl⟩
abbrev main_v1049 : Ref sig .tc := ⟨.hbm, 1432, rfl⟩
abbrev main_v1050 : Ref sig .tc := ⟨.hbm, 1433, rfl⟩
abbrev main_v1051 : Ref sig .tc := ⟨.hbm, 1434, rfl⟩
abbrev main_c_380 : Ref sig .tc := ⟨.hbm, 1435, rfl⟩
abbrev main_v1052 : Ref sig .tc := ⟨.hbm, 1436, rfl⟩
abbrev main_v1053 : Ref sig .tc := ⟨.hbm, 1437, rfl⟩
abbrev main_c_381 : Ref sig .tc := ⟨.hbm, 1438, rfl⟩
abbrev main_v1054 : Ref sig .tc := ⟨.hbm, 1439, rfl⟩
abbrev main_v1055 : Ref sig .tc := ⟨.hbm, 1440, rfl⟩
abbrev main_c_382 : Ref sig .tc := ⟨.hbm, 1441, rfl⟩
abbrev main_v1056 : Ref sig .tc := ⟨.hbm, 1442, rfl⟩
abbrev main_v1057 : Ref sig .tc := ⟨.hbm, 1443, rfl⟩
abbrev main_v1058 : Ref sig .tc := ⟨.hbm, 1444, rfl⟩
abbrev main_c_383 : Ref sig .tc := ⟨.hbm, 1445, rfl⟩
abbrev main_v1059 : Ref sig .tc := ⟨.hbm, 1446, rfl⟩
abbrev main_v1060 : Ref sig .tc := ⟨.hbm, 1447, rfl⟩
abbrev main_c_384 : Ref sig .tc := ⟨.hbm, 1448, rfl⟩
abbrev main_v1061 : Ref sig .tc := ⟨.hbm, 1449, rfl⟩
abbrev main_v1062 : Ref sig .tc := ⟨.hbm, 1450, rfl⟩
abbrev main_c_385 : Ref sig .tc := ⟨.hbm, 1451, rfl⟩
abbrev main_v1063 : Ref sig .tc := ⟨.hbm, 1452, rfl⟩
abbrev main_v1064 : Ref sig .tc := ⟨.hbm, 1453, rfl⟩
abbrev main_v1065 : Ref sig .tc := ⟨.hbm, 1454, rfl⟩
abbrev main_c_386 : Ref sig .tc := ⟨.hbm, 1455, rfl⟩
abbrev main_v1066 : Ref sig .tc := ⟨.hbm, 1456, rfl⟩
abbrev main_v1067 : Ref sig .tc := ⟨.hbm, 1457, rfl⟩
abbrev main_c_387 : Ref sig .tc := ⟨.hbm, 1458, rfl⟩
abbrev main_v1068 : Ref sig .tc := ⟨.hbm, 1459, rfl⟩
abbrev main_v1069 : Ref sig .tc := ⟨.hbm, 1460, rfl⟩
abbrev main_c_388 : Ref sig .tc := ⟨.hbm, 1461, rfl⟩
abbrev main_v1070 : Ref sig .tc := ⟨.hbm, 1462, rfl⟩
abbrev main_v1071 : Ref sig .tc := ⟨.hbm, 1463, rfl⟩
abbrev main_v1072 : Ref sig .tc := ⟨.hbm, 1464, rfl⟩
abbrev main_c_389 : Ref sig .tc := ⟨.hbm, 1465, rfl⟩
abbrev main_v1073 : Ref sig .tc := ⟨.hbm, 1466, rfl⟩
abbrev main_v1074 : Ref sig .tc := ⟨.hbm, 1467, rfl⟩
abbrev main_c_390 : Ref sig .tc := ⟨.hbm, 1468, rfl⟩
abbrev main_v1075 : Ref sig .tc := ⟨.hbm, 1469, rfl⟩
abbrev main_v1076 : Ref sig .tc := ⟨.hbm, 1470, rfl⟩
abbrev main_c_391 : Ref sig .tc := ⟨.hbm, 1471, rfl⟩
abbrev main_v1077 : Ref sig .tc := ⟨.hbm, 1472, rfl⟩
abbrev main_v1078 : Ref sig .tc := ⟨.hbm, 1473, rfl⟩
abbrev main_v1079 : Ref sig .tc := ⟨.hbm, 1474, rfl⟩
abbrev main_c_392 : Ref sig .tc := ⟨.hbm, 1475, rfl⟩
abbrev main_v1080 : Ref sig .tc := ⟨.hbm, 1476, rfl⟩
abbrev main_v1081 : Ref sig .tc := ⟨.hbm, 1477, rfl⟩
abbrev main_c_393 : Ref sig .tc := ⟨.hbm, 1478, rfl⟩
abbrev main_v1082 : Ref sig .tc := ⟨.hbm, 1479, rfl⟩
abbrev main_v1083 : Ref sig .tc := ⟨.hbm, 1480, rfl⟩
abbrev main_c_394 : Ref sig .tc := ⟨.hbm, 1481, rfl⟩
abbrev main_v1084 : Ref sig .tc := ⟨.hbm, 1482, rfl⟩
abbrev main_v1085 : Ref sig .tc := ⟨.hbm, 1483, rfl⟩
abbrev main_v1086 : Ref sig .tc := ⟨.hbm, 1484, rfl⟩
abbrev main_c_395 : Ref sig .tc := ⟨.hbm, 1485, rfl⟩
abbrev main_v1087 : Ref sig .tc := ⟨.hbm, 1486, rfl⟩
abbrev main_v1088 : Ref sig .tc := ⟨.hbm, 1487, rfl⟩
abbrev main_c_396 : Ref sig .tc := ⟨.hbm, 1488, rfl⟩
abbrev main_v1089 : Ref sig .tc := ⟨.hbm, 1489, rfl⟩
abbrev main_v1090 : Ref sig .tc := ⟨.hbm, 1490, rfl⟩
abbrev main_c_397 : Ref sig .tc := ⟨.hbm, 1491, rfl⟩
abbrev main_v1091 : Ref sig .tc := ⟨.hbm, 1492, rfl⟩
abbrev main_v1092 : Ref sig .tc := ⟨.hbm, 1493, rfl⟩
abbrev main_v1093 : Ref sig .tc := ⟨.hbm, 1494, rfl⟩
abbrev main_c_398 : Ref sig .tc := ⟨.hbm, 1495, rfl⟩
abbrev main_v1094 : Ref sig .tc := ⟨.hbm, 1496, rfl⟩
abbrev main_v1095 : Ref sig .tc := ⟨.hbm, 1497, rfl⟩
abbrev main_c_399 : Ref sig .tc := ⟨.hbm, 1498, rfl⟩
abbrev main_v1096 : Ref sig .tc := ⟨.hbm, 1499, rfl⟩
abbrev main_v1097 : Ref sig .tc := ⟨.hbm, 1500, rfl⟩
abbrev main_c_400 : Ref sig .tc := ⟨.hbm, 1501, rfl⟩
abbrev main_v1098 : Ref sig .tc := ⟨.hbm, 1502, rfl⟩
abbrev main_v1099 : Ref sig .tc := ⟨.hbm, 1503, rfl⟩
abbrev main_v1100 : Ref sig .tc := ⟨.hbm, 1504, rfl⟩
abbrev main_c_401 : Ref sig .tc := ⟨.hbm, 1505, rfl⟩
abbrev main_v1101 : Ref sig .tc := ⟨.hbm, 1506, rfl⟩
abbrev main_v1102 : Ref sig .tc := ⟨.hbm, 1507, rfl⟩
abbrev main_c_402 : Ref sig .tc := ⟨.hbm, 1508, rfl⟩
abbrev main_v1103 : Ref sig .tc := ⟨.hbm, 1509, rfl⟩
abbrev main_v1104 : Ref sig .tc := ⟨.hbm, 1510, rfl⟩
abbrev main_c_403 : Ref sig .tc := ⟨.hbm, 1511, rfl⟩
abbrev main_v1105 : Ref sig .tc := ⟨.hbm, 1512, rfl⟩
abbrev main_v1106 : Ref sig .tc := ⟨.hbm, 1513, rfl⟩
abbrev main_v1107 : Ref sig .tc := ⟨.hbm, 1514, rfl⟩
abbrev main_c_404 : Ref sig .tc := ⟨.hbm, 1515, rfl⟩
abbrev main_v1108 : Ref sig .tc := ⟨.hbm, 1516, rfl⟩
abbrev main_v1109 : Ref sig .tc := ⟨.hbm, 1517, rfl⟩
abbrev main_c_405 : Ref sig .tc := ⟨.hbm, 1518, rfl⟩
abbrev main_v1110 : Ref sig .tc := ⟨.hbm, 1519, rfl⟩
abbrev main_v1111 : Ref sig .tc := ⟨.hbm, 1520, rfl⟩
abbrev main_c_406 : Ref sig .tc := ⟨.hbm, 1521, rfl⟩
abbrev main_v1112 : Ref sig .tc := ⟨.hbm, 1522, rfl⟩
abbrev main_v1113 : Ref sig .tc := ⟨.hbm, 1523, rfl⟩
abbrev main_v1114 : Ref sig .tc := ⟨.hbm, 1524, rfl⟩
abbrev main_c_407 : Ref sig .tc := ⟨.hbm, 1525, rfl⟩
abbrev main_v1115 : Ref sig .tc := ⟨.hbm, 1526, rfl⟩
abbrev main_v1116 : Ref sig .tc := ⟨.hbm, 1527, rfl⟩
abbrev main_c_408 : Ref sig .tc := ⟨.hbm, 1528, rfl⟩
abbrev main_v1117 : Ref sig .tc := ⟨.hbm, 1529, rfl⟩
abbrev main_v1118 : Ref sig .tc := ⟨.hbm, 1530, rfl⟩
abbrev main_c_409 : Ref sig .tc := ⟨.hbm, 1531, rfl⟩
abbrev main_v1119 : Ref sig .tc := ⟨.hbm, 1532, rfl⟩
abbrev main_v1120 : Ref sig .tc := ⟨.hbm, 1533, rfl⟩
abbrev main_v1121 : Ref sig .tc := ⟨.hbm, 1534, rfl⟩
abbrev main_c_410 : Ref sig .tc := ⟨.hbm, 1535, rfl⟩
abbrev main_v1122 : Ref sig .tc := ⟨.hbm, 1536, rfl⟩
abbrev main_v1123 : Ref sig .tc := ⟨.hbm, 1537, rfl⟩
abbrev main_c_411 : Ref sig .tc := ⟨.hbm, 1538, rfl⟩
abbrev main_v1124 : Ref sig .tc := ⟨.hbm, 1539, rfl⟩
abbrev main_v1125 : Ref sig .tc := ⟨.hbm, 1540, rfl⟩
abbrev main_c_412 : Ref sig .tc := ⟨.hbm, 1541, rfl⟩
abbrev main_v1126 : Ref sig .tc := ⟨.hbm, 1542, rfl⟩
abbrev main_v1127 : Ref sig .tc := ⟨.hbm, 1543, rfl⟩
abbrev main_v1128 : Ref sig .tc := ⟨.hbm, 1544, rfl⟩
abbrev main_c_413 : Ref sig .tc := ⟨.hbm, 1545, rfl⟩
abbrev main_v1129 : Ref sig .tc := ⟨.hbm, 1546, rfl⟩
abbrev main_v1130 : Ref sig .tc := ⟨.hbm, 1547, rfl⟩
abbrev main_c_414 : Ref sig .tc := ⟨.hbm, 1548, rfl⟩
abbrev main_v1131 : Ref sig .tc := ⟨.hbm, 1549, rfl⟩
abbrev main_v1132 : Ref sig .tc := ⟨.hbm, 1550, rfl⟩
abbrev main_c_415 : Ref sig .tc := ⟨.hbm, 1551, rfl⟩
abbrev main_v1133 : Ref sig .tc := ⟨.hbm, 1552, rfl⟩
abbrev main_v1134 : Ref sig .tc := ⟨.hbm, 1553, rfl⟩
abbrev main_v1135 : Ref sig .tc := ⟨.hbm, 1554, rfl⟩
abbrev main_c_416 : Ref sig .tc := ⟨.hbm, 1555, rfl⟩
abbrev main_v1136 : Ref sig .tc := ⟨.hbm, 1556, rfl⟩
abbrev main_v1137 : Ref sig .tc := ⟨.hbm, 1557, rfl⟩
abbrev main_c_417 : Ref sig .tc := ⟨.hbm, 1558, rfl⟩
abbrev main_v1138 : Ref sig .tc := ⟨.hbm, 1559, rfl⟩
abbrev main_v1139 : Ref sig .tc := ⟨.hbm, 1560, rfl⟩
abbrev main_c_418 : Ref sig .tc := ⟨.hbm, 1561, rfl⟩
abbrev main_v1140 : Ref sig .tc := ⟨.hbm, 1562, rfl⟩
abbrev main_v1141 : Ref sig .tc := ⟨.hbm, 1563, rfl⟩
abbrev main_v1142 : Ref sig .tc := ⟨.hbm, 1564, rfl⟩
abbrev main_c_419 : Ref sig .tc := ⟨.hbm, 1565, rfl⟩
abbrev main_v1143 : Ref sig .tc := ⟨.hbm, 1566, rfl⟩
abbrev main_v1144 : Ref sig .tc := ⟨.hbm, 1567, rfl⟩
abbrev main_c_420 : Ref sig .tc := ⟨.hbm, 1568, rfl⟩
abbrev main_v1145 : Ref sig .tc := ⟨.hbm, 1569, rfl⟩
abbrev main_v1146 : Ref sig .tc := ⟨.hbm, 1570, rfl⟩
abbrev main_c_421 : Ref sig .tc := ⟨.hbm, 1571, rfl⟩
abbrev main_v1147 : Ref sig .tc := ⟨.hbm, 1572, rfl⟩
abbrev main_v1148 : Ref sig .tc := ⟨.hbm, 1573, rfl⟩
abbrev main_v1149 : Ref sig .tc := ⟨.hbm, 1574, rfl⟩
abbrev main_c_422 : Ref sig .tc := ⟨.hbm, 1575, rfl⟩
abbrev main_v1150 : Ref sig .tc := ⟨.hbm, 1576, rfl⟩
abbrev main_v1151 : Ref sig .tc := ⟨.hbm, 1577, rfl⟩
abbrev main_c_423 : Ref sig .tc := ⟨.hbm, 1578, rfl⟩
abbrev main_v1152 : Ref sig .tc := ⟨.hbm, 1579, rfl⟩
abbrev main_v1153 : Ref sig .tc := ⟨.hbm, 1580, rfl⟩
abbrev main_c_424 : Ref sig .tc := ⟨.hbm, 1581, rfl⟩
abbrev main_v1154 : Ref sig .tc := ⟨.hbm, 1582, rfl⟩
abbrev main_v1155 : Ref sig .tc := ⟨.hbm, 1583, rfl⟩
abbrev main_v1156 : Ref sig .tc := ⟨.hbm, 1584, rfl⟩
abbrev main_c_425 : Ref sig .tc := ⟨.hbm, 1585, rfl⟩
abbrev main_v1157 : Ref sig .tc := ⟨.hbm, 1586, rfl⟩
abbrev main_v1158 : Ref sig .tc := ⟨.hbm, 1587, rfl⟩
abbrev main_c_426 : Ref sig .tc := ⟨.hbm, 1588, rfl⟩
abbrev main_v1159 : Ref sig .tc := ⟨.hbm, 1589, rfl⟩
abbrev main_v1160 : Ref sig .tc := ⟨.hbm, 1590, rfl⟩
abbrev main_c_427 : Ref sig .tc := ⟨.hbm, 1591, rfl⟩
abbrev main_v1161 : Ref sig .tc := ⟨.hbm, 1592, rfl⟩
abbrev main_v1162 : Ref sig .tc := ⟨.hbm, 1593, rfl⟩
abbrev main_v1163 : Ref sig .tc := ⟨.hbm, 1594, rfl⟩
abbrev main_c_428 : Ref sig .tc := ⟨.hbm, 1595, rfl⟩
abbrev main_v1164 : Ref sig .tc := ⟨.hbm, 1596, rfl⟩
abbrev main_v1165 : Ref sig .tc := ⟨.hbm, 1597, rfl⟩
abbrev main_c_429 : Ref sig .tc := ⟨.hbm, 1598, rfl⟩
abbrev main_v1166 : Ref sig .tc := ⟨.hbm, 1599, rfl⟩
abbrev main_v1167 : Ref sig .tc := ⟨.hbm, 1600, rfl⟩
abbrev main_c_430 : Ref sig .tc := ⟨.hbm, 1601, rfl⟩
abbrev main_v1168 : Ref sig .tc := ⟨.hbm, 1602, rfl⟩
abbrev main_v1169 : Ref sig .tc := ⟨.hbm, 1603, rfl⟩
abbrev main_v1170 : Ref sig .tc := ⟨.hbm, 1604, rfl⟩
abbrev main_c_431 : Ref sig .tc := ⟨.hbm, 1605, rfl⟩
abbrev main_v1171 : Ref sig .tc := ⟨.hbm, 1606, rfl⟩
abbrev main_v1172 : Ref sig .tc := ⟨.hbm, 1607, rfl⟩
abbrev main_c_432 : Ref sig .tc := ⟨.hbm, 1608, rfl⟩
abbrev main_v1173 : Ref sig .tc := ⟨.hbm, 1609, rfl⟩
abbrev main_v1174 : Ref sig .tc := ⟨.hbm, 1610, rfl⟩
abbrev main_c_433 : Ref sig .tc := ⟨.hbm, 1611, rfl⟩
abbrev main_v1175 : Ref sig .tc := ⟨.hbm, 1612, rfl⟩
abbrev main_v1176 : Ref sig .tc := ⟨.hbm, 1613, rfl⟩
abbrev main_v1177 : Ref sig .tc := ⟨.hbm, 1614, rfl⟩
abbrev main_c_434 : Ref sig .tc := ⟨.hbm, 1615, rfl⟩
abbrev main_v1178 : Ref sig .tc := ⟨.hbm, 1616, rfl⟩
abbrev main_v1179 : Ref sig .tc := ⟨.hbm, 1617, rfl⟩
abbrev main_c_435 : Ref sig .tc := ⟨.hbm, 1618, rfl⟩
abbrev main_v1180 : Ref sig .tc := ⟨.hbm, 1619, rfl⟩
abbrev main_v1181 : Ref sig .tc := ⟨.hbm, 1620, rfl⟩
abbrev main_c_436 : Ref sig .tc := ⟨.hbm, 1621, rfl⟩
abbrev main_v1182 : Ref sig .tc := ⟨.hbm, 1622, rfl⟩
abbrev main_v1183 : Ref sig .tc := ⟨.hbm, 1623, rfl⟩
abbrev main_v1184 : Ref sig .tc := ⟨.hbm, 1624, rfl⟩
abbrev main_c_437 : Ref sig .tc := ⟨.hbm, 1625, rfl⟩
abbrev main_v1185 : Ref sig .tc := ⟨.hbm, 1626, rfl⟩
abbrev main_v1186 : Ref sig .tc := ⟨.hbm, 1627, rfl⟩
abbrev main_c_438 : Ref sig .tc := ⟨.hbm, 1628, rfl⟩
abbrev main_v1187 : Ref sig .tc := ⟨.hbm, 1629, rfl⟩
abbrev main_v1188 : Ref sig .tc := ⟨.hbm, 1630, rfl⟩
abbrev main_c_439 : Ref sig .tc := ⟨.hbm, 1631, rfl⟩
abbrev main_v1189 : Ref sig .tc := ⟨.hbm, 1632, rfl⟩
abbrev main_v1190 : Ref sig .tc := ⟨.hbm, 1633, rfl⟩
abbrev main_v1191 : Ref sig .tc := ⟨.hbm, 1634, rfl⟩
abbrev main_c_440 : Ref sig .tc := ⟨.hbm, 1635, rfl⟩
abbrev main_v1192 : Ref sig .tc := ⟨.hbm, 1636, rfl⟩
abbrev main_v1193 : Ref sig .tc := ⟨.hbm, 1637, rfl⟩
abbrev main_c_441 : Ref sig .tc := ⟨.hbm, 1638, rfl⟩
abbrev main_v1194 : Ref sig .tc := ⟨.hbm, 1639, rfl⟩
abbrev main_v1195 : Ref sig .tc := ⟨.hbm, 1640, rfl⟩
abbrev main_c_442 : Ref sig .tc := ⟨.hbm, 1641, rfl⟩
abbrev main_v1196 : Ref sig .tc := ⟨.hbm, 1642, rfl⟩
abbrev main_v1197 : Ref sig .tc := ⟨.hbm, 1643, rfl⟩
abbrev main_v1198 : Ref sig .tc := ⟨.hbm, 1644, rfl⟩
abbrev main_c_443 : Ref sig .tc := ⟨.hbm, 1645, rfl⟩
abbrev main_v1199 : Ref sig .tc := ⟨.hbm, 1646, rfl⟩
abbrev main_v1200 : Ref sig .tc := ⟨.hbm, 1647, rfl⟩
abbrev main_c_444 : Ref sig .tc := ⟨.hbm, 1648, rfl⟩
abbrev main_v1201 : Ref sig .tc := ⟨.hbm, 1649, rfl⟩
abbrev main_v1202 : Ref sig .tc := ⟨.hbm, 1650, rfl⟩
abbrev main_c_445 : Ref sig .tc := ⟨.hbm, 1651, rfl⟩
abbrev main_v1203 : Ref sig .tc := ⟨.hbm, 1652, rfl⟩
abbrev main_v1204 : Ref sig .tc := ⟨.hbm, 1653, rfl⟩
abbrev main_v1205 : Ref sig .tc := ⟨.hbm, 1654, rfl⟩
abbrev main_c_446 : Ref sig .tc := ⟨.hbm, 1655, rfl⟩
abbrev main_v1206 : Ref sig .tc := ⟨.hbm, 1656, rfl⟩
abbrev main_v1207 : Ref sig .tc := ⟨.hbm, 1657, rfl⟩
abbrev main_c_447 : Ref sig .tc := ⟨.hbm, 1658, rfl⟩
abbrev main_v1208 : Ref sig .tc := ⟨.hbm, 1659, rfl⟩
abbrev main_v1209 : Ref sig .tc := ⟨.hbm, 1660, rfl⟩
abbrev main_c_448 : Ref sig .tc := ⟨.hbm, 1661, rfl⟩
abbrev main_v1210 : Ref sig .tc := ⟨.hbm, 1662, rfl⟩
abbrev main_v1211 : Ref sig .tc := ⟨.hbm, 1663, rfl⟩
abbrev main_v1212 : Ref sig .tc := ⟨.hbm, 1664, rfl⟩
abbrev main_c_449 : Ref sig .tc := ⟨.hbm, 1665, rfl⟩
abbrev main_v1213 : Ref sig .tc := ⟨.hbm, 1666, rfl⟩
abbrev main_v1214 : Ref sig .tc := ⟨.hbm, 1667, rfl⟩
abbrev main_c_450 : Ref sig .tc := ⟨.hbm, 1668, rfl⟩
abbrev main_v1215 : Ref sig .tc := ⟨.hbm, 1669, rfl⟩
abbrev main_v1216 : Ref sig .tc := ⟨.hbm, 1670, rfl⟩
abbrev main_c_451 : Ref sig .tc := ⟨.hbm, 1671, rfl⟩
abbrev main_v1217 : Ref sig .tc := ⟨.hbm, 1672, rfl⟩
abbrev main_v1218 : Ref sig .tc := ⟨.hbm, 1673, rfl⟩
abbrev main_v1219 : Ref sig .tc := ⟨.hbm, 1674, rfl⟩
abbrev main_c_452 : Ref sig .tc := ⟨.hbm, 1675, rfl⟩
abbrev main_v1220 : Ref sig .tc := ⟨.hbm, 1676, rfl⟩
abbrev main_v1221 : Ref sig .tc := ⟨.hbm, 1677, rfl⟩
abbrev main_c_453 : Ref sig .tc := ⟨.hbm, 1678, rfl⟩
abbrev main_v1222 : Ref sig .tc := ⟨.hbm, 1679, rfl⟩
abbrev main_v1223 : Ref sig .tc := ⟨.hbm, 1680, rfl⟩
abbrev main_c_454 : Ref sig .tc := ⟨.hbm, 1681, rfl⟩
abbrev main_v1224 : Ref sig .tc := ⟨.hbm, 1682, rfl⟩
abbrev main_v1225 : Ref sig .tc := ⟨.hbm, 1683, rfl⟩
abbrev main_v1226 : Ref sig .tc := ⟨.hbm, 1684, rfl⟩
abbrev main_c_455 : Ref sig .tc := ⟨.hbm, 1685, rfl⟩
abbrev main_v1227 : Ref sig .tc := ⟨.hbm, 1686, rfl⟩
abbrev main_v1228 : Ref sig .tc := ⟨.hbm, 1687, rfl⟩
abbrev main_c_456 : Ref sig .tc := ⟨.hbm, 1688, rfl⟩
abbrev main_v1229 : Ref sig .tc := ⟨.hbm, 1689, rfl⟩
abbrev main_v1230 : Ref sig .tc := ⟨.hbm, 1690, rfl⟩
abbrev main_c_457 : Ref sig .tc := ⟨.hbm, 1691, rfl⟩
abbrev main_v1231 : Ref sig .tc := ⟨.hbm, 1692, rfl⟩
abbrev main_v1232 : Ref sig .tc := ⟨.hbm, 1693, rfl⟩
abbrev main_v1233 : Ref sig .tc := ⟨.hbm, 1694, rfl⟩
abbrev main_c_458 : Ref sig .tc := ⟨.hbm, 1695, rfl⟩
abbrev main_v1234 : Ref sig .tc := ⟨.hbm, 1696, rfl⟩
abbrev main_v1235 : Ref sig .tc := ⟨.hbm, 1697, rfl⟩
abbrev main_c_459 : Ref sig .tc := ⟨.hbm, 1698, rfl⟩
abbrev main_v1236 : Ref sig .tc := ⟨.hbm, 1699, rfl⟩
abbrev main_v1237 : Ref sig .tc := ⟨.hbm, 1700, rfl⟩
abbrev main_c_460 : Ref sig .tc := ⟨.hbm, 1701, rfl⟩
abbrev main_v1238 : Ref sig .tc := ⟨.hbm, 1702, rfl⟩
abbrev main_v1239 : Ref sig .tc := ⟨.hbm, 1703, rfl⟩
abbrev main_v1240 : Ref sig .tc := ⟨.hbm, 1704, rfl⟩
abbrev main_c_461 : Ref sig .tc := ⟨.hbm, 1705, rfl⟩
abbrev main_v1241 : Ref sig .tc := ⟨.hbm, 1706, rfl⟩
abbrev main_v1242 : Ref sig .tc := ⟨.hbm, 1707, rfl⟩
abbrev main_c_462 : Ref sig .tc := ⟨.hbm, 1708, rfl⟩
abbrev main_v1243 : Ref sig .tc := ⟨.hbm, 1709, rfl⟩
abbrev main_v1244 : Ref sig .tc := ⟨.hbm, 1710, rfl⟩
abbrev main_c_463 : Ref sig .tc := ⟨.hbm, 1711, rfl⟩
abbrev main_v1245 : Ref sig .tc := ⟨.hbm, 1712, rfl⟩
abbrev main_v1246 : Ref sig .tc := ⟨.hbm, 1713, rfl⟩
abbrev main_v1247 : Ref sig .tc := ⟨.hbm, 1714, rfl⟩
abbrev main_c_464 : Ref sig .tc := ⟨.hbm, 1715, rfl⟩
abbrev main_v1248 : Ref sig .tc := ⟨.hbm, 1716, rfl⟩
abbrev main_v1249 : Ref sig .tc := ⟨.hbm, 1717, rfl⟩
abbrev main_c_465 : Ref sig .tc := ⟨.hbm, 1718, rfl⟩
abbrev main_v1250 : Ref sig .tc := ⟨.hbm, 1719, rfl⟩
abbrev main_v1251 : Ref sig .tc := ⟨.hbm, 1720, rfl⟩
abbrev main_c_466 : Ref sig .tc := ⟨.hbm, 1721, rfl⟩
abbrev main_v1252 : Ref sig .tc := ⟨.hbm, 1722, rfl⟩
abbrev main_v1253 : Ref sig .tc := ⟨.hbm, 1723, rfl⟩
abbrev main_v1254 : Ref sig .tc := ⟨.hbm, 1724, rfl⟩
abbrev main_c_467 : Ref sig .tc := ⟨.hbm, 1725, rfl⟩
abbrev main_v1255 : Ref sig .tc := ⟨.hbm, 1726, rfl⟩
abbrev main_v1256 : Ref sig .tc := ⟨.hbm, 1727, rfl⟩
abbrev main_c_468 : Ref sig .tc := ⟨.hbm, 1728, rfl⟩
abbrev main_v1257 : Ref sig .tc := ⟨.hbm, 1729, rfl⟩
abbrev main_v1258 : Ref sig .tc := ⟨.hbm, 1730, rfl⟩
abbrev main_c_469 : Ref sig .tc := ⟨.hbm, 1731, rfl⟩
abbrev main_v1259 : Ref sig .tc := ⟨.hbm, 1732, rfl⟩
abbrev main_v1260 : Ref sig .tc := ⟨.hbm, 1733, rfl⟩
abbrev main_v1261 : Ref sig .tc := ⟨.hbm, 1734, rfl⟩
abbrev main_c_470 : Ref sig .tc := ⟨.hbm, 1735, rfl⟩
abbrev main_v1262 : Ref sig .tc := ⟨.hbm, 1736, rfl⟩
abbrev main_v1263 : Ref sig .tc := ⟨.hbm, 1737, rfl⟩
abbrev main_c_471 : Ref sig .tc := ⟨.hbm, 1738, rfl⟩
abbrev main_v1264 : Ref sig .tc := ⟨.hbm, 1739, rfl⟩
abbrev main_v1265 : Ref sig .tc := ⟨.hbm, 1740, rfl⟩
abbrev main_c_472 : Ref sig .tc := ⟨.hbm, 1741, rfl⟩
abbrev main_v1266 : Ref sig .tc := ⟨.hbm, 1742, rfl⟩
abbrev main_v1267 : Ref sig .tc := ⟨.hbm, 1743, rfl⟩
abbrev main_v1268 : Ref sig .tc := ⟨.hbm, 1744, rfl⟩
abbrev main_c_473 : Ref sig .tc := ⟨.hbm, 1745, rfl⟩
abbrev main_v1269 : Ref sig .tc := ⟨.hbm, 1746, rfl⟩
abbrev main_v1270 : Ref sig .tc := ⟨.hbm, 1747, rfl⟩
abbrev main_c_474 : Ref sig .tc := ⟨.hbm, 1748, rfl⟩
abbrev main_v1271 : Ref sig .tc := ⟨.hbm, 1749, rfl⟩
abbrev main_v1272 : Ref sig .tc := ⟨.hbm, 1750, rfl⟩
abbrev main_c_475 : Ref sig .tc := ⟨.hbm, 1751, rfl⟩
abbrev main_v1273 : Ref sig .tc := ⟨.hbm, 1752, rfl⟩
abbrev main_v1274 : Ref sig .tc := ⟨.hbm, 1753, rfl⟩
abbrev main_v1275 : Ref sig .tc := ⟨.hbm, 1754, rfl⟩
abbrev main_c_476 : Ref sig .tc := ⟨.hbm, 1755, rfl⟩
abbrev main_v1276 : Ref sig .tc := ⟨.hbm, 1756, rfl⟩
abbrev main_v1277 : Ref sig .tc := ⟨.hbm, 1757, rfl⟩
abbrev main_c_477 : Ref sig .tc := ⟨.hbm, 1758, rfl⟩
abbrev main_v1278 : Ref sig .tc := ⟨.hbm, 1759, rfl⟩
abbrev main_v1279 : Ref sig .tc := ⟨.hbm, 1760, rfl⟩
abbrev main_c_478 : Ref sig .tc := ⟨.hbm, 1761, rfl⟩
abbrev main_v1280 : Ref sig .tc := ⟨.hbm, 1762, rfl⟩
abbrev main_v1281 : Ref sig .tc := ⟨.hbm, 1763, rfl⟩
abbrev main_v1282 : Ref sig .tc := ⟨.hbm, 1764, rfl⟩
abbrev main_v1283 : Ref sig .tc := ⟨.hbm, 1765, rfl⟩
abbrev main_c_479 : Ref sig .tc := ⟨.hbm, 1766, rfl⟩
abbrev main_v1284 : Ref sig .tc := ⟨.hbm, 1767, rfl⟩
abbrev main_v1285 : Ref sig .tc := ⟨.hbm, 1768, rfl⟩
abbrev main_c_480 : Ref sig .tc := ⟨.hbm, 1769, rfl⟩
abbrev main_v1286 : Ref sig .tc := ⟨.hbm, 1770, rfl⟩
abbrev main_v1287 : Ref sig .tc := ⟨.hbm, 1771, rfl⟩
abbrev main_v1288_0 : Ref sig .tc := ⟨.hbm, 1772, rfl⟩
abbrev main_v1288_1 : Ref sig .tc := ⟨.hbm, 1773, rfl⟩
abbrev main_v1288_2 : Ref sig .tc := ⟨.hbm, 1774, rfl⟩
abbrev main_v1289_0 : Ref sig .tc := ⟨.hbm, 1775, rfl⟩
abbrev main_v1289_1 : Ref sig .tc := ⟨.hbm, 1776, rfl⟩

abbrev nD : Nat := 1
abbrev τ : Topo := Topo.v7x

variable {F : FTy → Type} [FloatOps F]
-- ==== SortCall.lean ====
abbrev S16x8192 : Shape := ⟨2, ![16, 8192]⟩
abbrev S8192 : Shape := ⟨1, ![8192]⟩
abbrev S2048 : Shape := ⟨1, ![2048]⟩
abbrev S_ : Shape := ⟨0, ![]⟩
abbrev S1x8192 : Shape := ⟨2, ![1, 8192]⟩
abbrev S16 : Shape := ⟨1, ![16]⟩

abbrev nBuf : Table → Nat
  | .hbm => 4
  | .local .scVector .vmem => 11
  | _ => 0

abbrev bufTy : (tb : Table) → Fin (nBuf tb) → BufTy
  | .hbm, ⟨0, _⟩ => ⟨S16x8192, .i32⟩
  | .hbm, ⟨1, _⟩ => ⟨S16x8192, .i32⟩
  | .hbm, ⟨2, _⟩ => ⟨S16x8192, .i32⟩
  | .hbm, ⟨3, _⟩ => ⟨S16x8192, .i32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8192, .i32⟩
  | .local .scVector .vmem, ⟨4, _⟩ => ⟨S8192, .i32⟩
  | .local .scVector .vmem, ⟨5, _⟩ => ⟨S8192, .i32⟩
  | .local .scVector .vmem, ⟨6, _⟩ => ⟨S8192, .i32⟩
  | .local .scVector .vmem, ⟨7, _⟩ => ⟨S2048, .i32⟩
  | .local .scVector .vmem, ⟨8, _⟩ => ⟨S2048, .i32⟩
  | .local .scVector .vmem, ⟨9, _⟩ => ⟨S2048, .i32⟩
  | .local .scVector .vmem, ⟨10, _⟩ => ⟨S2048, .i32⟩
  | _, _ => ⟨S16x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_119_r0 : BitVec 32 := 0#32
  ![v1.toNat, 0]
@[reducible] def k0_t1_loop : Scf.Loop 32 :=
  let c0_i32_2 : BitVec 32 := 0#32
  let c128_i32 : BitVec 32 := 128#32
  let v7 : BitVec 32 := Scalar.addi c0_i32_2 c128_i32
  let c1_i32 : BitVec 32 := 1#32
  ⟨c0_i32_2, v7, c1_i32⟩
def k0_off2 (k0_t1 : Fin k0_t1_loop.trips) : Fin 1 → Nat :=
  let c0_i32_2 : BitVec 32 := 0#32
  let c1_i32 : BitVec 32 := 1#32
  let arg17 : BitVec 32 := Scf.iv c0_i32_2 c1_i32 k0_t1
  let c16_i32_119 : BitVec 32 := 16#32
  let v55 : BitVec 32 := Scalar.muli arg17 c16_i32_119
  let v56 : Index := Scalar.indexCast v55
  ![v56.toNat]
@[reducible] def k0_t2_loop : Scf.Loop 32 :=
  let c0_i32_5 : BitVec 32 := 0#32
  let c128_i32_6 : BitVec 32 := 128#32
  let v9 : BitVec 32 := Scalar.addi c0_i32_5 c128_i32_6
  let c1_i32_7 : BitVec 32 := 1#32
  ⟨c0_i32_5, v9, c1_i32_7⟩
def k0_off3 (k0_t2 : Fin k0_t2_loop.trips) : Fin 1 → Nat :=
  let c0_i32_5 : BitVec 32 := 0#32
  let c1_i32_7 : BitVec 32 := 1#32
  let arg17 : BitVec 32 := Scf.iv c0_i32_5 c1_i32_7 k0_t2
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk1 (i : grid0.Coords) (v62 : IVec S16 32) : Prop :=
  (∀ (k0_h1 : k0_cond1 i = 1#1), ∀ a x, ((![v62] : Fin 1 → IVec S16 32) a x).toNat < S2048.size a) ∧
  (∀ (k0_h1 : k0_cond1 i = 1#1), ∀ a x, ((![v62] : Fin 1 → IVec S16 32) a x).toNat < S2048.size a)
theorem k0_idx1_inb : ∀ (i : grid0.Coords) (v62 : IVec S16 32) (k0_hw1 : k0_chk1 i v62), ∀ (k0_h1 : k0_cond1 i = 1#1), ∀ a x, ((![v62] : Fin 1 → IVec S16 32) a x).toNat < S2048.size a := fun i v62 k0_hw1 k0_h1 => k0_hw1.1 k0_h1
theorem k0_idx2_inb : ∀ (i : grid0.Coords) (v62 : IVec S16 32) (k0_hw1 : k0_chk1 i v62), ∀ (k0_h1 : k0_cond1 i = 1#1), ∀ a x, ((![v62] : Fin 1 → IVec S16 32) a x).toNat < S2048.size a := fun i v62 k0_hw1 k0_h1 => k0_hw1.2 k0_h1
def k0_off4 (k0_t2 : Fin k0_t2_loop.trips) (c0_i32_120 : BitVec 32) : Fin 1 → Nat :=
  let c0_i32_5 : BitVec 32 := 0#32
  let c1_i32_7 : BitVec 32 := 1#32
  let arg17 : BitVec 32 := Scf.iv c0_i32_5 c1_i32_7 k0_t2
  let c16_i32_119 : BitVec 32 := 16#32
  let v55 : BitVec 32 := Scalar.muli arg17 c16_i32_119
  let v56 : BitVec 32 := Scalar.addi v55 c0_i32_120
  let v69 : Index := Scalar.indexCast v56
  ![v69.toNat]

def k0_chk2 (i : grid0.Coords) (v78 : IVec S16 32) : Prop :=
  (∀ (k0_h1 : k0_cond1 i = 1#1), ∀ a x, ((![v78] : Fin 1 → IVec S16 32) a x).toNat < S2048.size a) ∧
  (∀ (k0_h1 : k0_cond1 i = 1#1), ∀ a x, ((![v78] : Fin 1 → IVec S16 32) a x).toNat < S2048.size a)
theorem k0_idx3_inb : ∀ (i : grid0.Coords) (v78 : IVec S16 32) (k0_hw2 : k0_chk2 i v78), ∀ (k0_h1 : k0_cond1 i = 1#1), ∀ a x, ((![v78] : Fin 1 → IVec S16 32) a x).toNat < S2048.size a := fun i v78 k0_hw2 k0_h1 => k0_hw2.1 k0_h1
theorem k0_idx4_inb : ∀ (i : grid0.Coords) (v78 : IVec S16 32) (k0_hw2 : k0_chk2 i v78), ∀ (k0_h1 : k0_cond1 i = 1#1), ∀ a x, ((![v78] : Fin 1 → IVec S16 32) a x).toNat < S2048.size a := fun i v78 k0_hw2 k0_h1 => k0_hw2.2 k0_h1
def k0_off5 (k0_t2 : Fin k0_t2_loop.trips) (c2048_i32 : BitVec 32) : Fin 1 → Nat :=
  let c0_i32_5 : BitVec 32 := 0#32
  let c1_i32_7 : BitVec 32 := 1#32
  let arg17 : BitVec 32 := Scf.iv c0_i32_5 c1_i32_7 k0_t2
  let c16_i32_123 : BitVec 32 := 16#32
  let v71 : BitVec 32 := Scalar.muli arg17 c16_i32_123
  let v72 : BitVec 32 := Scalar.addi v71 c2048_i32
  let v85 : Index := Scalar.indexCast v72
  ![v85.toNat]

def k0_chk3 (i : grid0.Coords) (v94 : IVec S16 32) : Prop :=
  (∀ (k0_h1 : k0_cond1 i = 1#1), ∀ a x, ((![v94] : Fin 1 → IVec S16 32) a x).toNat < S2048.size a) ∧
  (∀ (k0_h1 : k0_cond1 i = 1#1), ∀ a x, ((![v94] : Fin 1 → IVec S16 32) a x).toNat < S2048.size a)
theorem k0_idx5_inb : ∀ (i : grid0.Coords) (v94 : IVec S16 32) (k0_hw3 : k0_chk3 i v94), ∀ (k0_h1 : k0_cond1 i = 1#1), ∀ a x, ((![v94] : Fin 1 → IVec S16 32) a x).toNat < S2048.size a := fun i v94 k0_hw3 k0_h1 => k0_hw3.1 k0_h1
theorem k0_idx6_inb : ∀ (i : grid0.Coords) (v94 : IVec S16 32) (k0_hw3 : k0_chk3 i v94), ∀ (k0_h1 : k0_cond1 i = 1#1), ∀ a x, ((![v94] : Fin 1 → IVec S16 32) a x).toNat < S2048.size a := fun i v94 k0_hw3 k0_h1 => k0_hw3.2 k0_h1
def k0_off6 (k0_t2 : Fin k0_t2_loop.trips) (c4096_i32 : BitVec 32) : Fin 1 → Nat :=
  let c0_i32_5 : BitVec 32 := 0#32
  let c1_i32_7 : BitVec 32 := 1#32
  let arg17 : BitVec 32 := Scf.iv c0_i32_5 c1_i32_7 k0_t2
  let c16_i32_130 : BitVec 32 := 16#32
  let v87 : BitVec 32 := Scalar.muli arg17 c16_i32_130
  let v88 : BitVec 32 := Scalar.addi v87 c4096_i32
  let v101 : Index := Scalar.indexCast v88
  ![v101.toNat]

def k0_chk4 (i : grid0.Coords) (v110 : IVec S16 32) : Prop :=
  (∀ (k0_h1 : k0_cond1 i = 1#1), ∀ a x, ((![v110] : Fin 1 → IVec S16 32) a x).toNat < S2048.size a) ∧
  (∀ (k0_h1 : k0_cond1 i = 1#1), ∀ a x, ((![v110] : Fin 1 → IVec S16 32) a x).toNat < S2048.size a)
theorem k0_idx7_inb : ∀ (i : grid0.Coords) (v110 : IVec S16 32) (k0_hw4 : k0_chk4 i v110), ∀ (k0_h1 : k0_cond1 i = 1#1), ∀ a x, ((![v110] : Fin 1 → IVec S16 32) a x).toNat < S2048.size a := fun i v110 k0_hw4 k0_h1 => k0_hw4.1 k0_h1
theorem k0_idx8_inb : ∀ (i : grid0.Coords) (v110 : IVec S16 32) (k0_hw4 : k0_chk4 i v110), ∀ (k0_h1 : k0_cond1 i = 1#1), ∀ a x, ((![v110] : Fin 1 → IVec S16 32) a x).toNat < S2048.size a := fun i v110 k0_hw4 k0_h1 => k0_hw4.2 k0_h1
def k0_off7 (k0_t2 : Fin k0_t2_loop.trips) : Fin 1 → Nat :=
  let c0_i32_5 : BitVec 32 := 0#32
  let c1_i32_7 : BitVec 32 := 1#32
  let arg17 : BitVec 32 := Scf.iv c0_i32_5 c1_i32_7 k0_t2
  let c16_i32_137 : BitVec 32 := 16#32
  let v103 : BitVec 32 := Scalar.muli arg17 c16_i32_137
  let c6144_i32 : BitVec 32 := 6144#32
  let v104 : BitVec 32 := Scalar.addi v103 c6144_i32
  let v117 : Index := Scalar.indexCast v104
  ![v117.toNat]
@[reducible] def k0_t3_loop : Scf.Loop 32 :=
  let c0_i32_10 : BitVec 32 := 0#32
  let c128_i32_11 : BitVec 32 := 128#32
  let v11 : BitVec 32 := Scalar.addi c0_i32_10 c128_i32_11
  let c1_i32_12 : BitVec 32 := 1#32
  ⟨c0_i32_10, v11, c1_i32_12⟩
def k0_off8 (k0_t3 : Fin k0_t3_loop.trips) : Fin 1 → Nat :=
  let c0_i32_10 : BitVec 32 := 0#32
  let c1_i32_12 : BitVec 32 := 1#32
  let arg17 : BitVec 32 := Scf.iv c0_i32_10 c1_i32_12 k0_t3
  let c16_i32_119 : BitVec 32 := 16#32
  let v55 : BitVec 32 := Scalar.muli arg17 c16_i32_119
  let v56 : Index := Scalar.indexCast v55
  ![v56.toNat]
@[reducible] def k0_t4_loop : Scf.Loop 32 :=
  let c0_i32_15 : BitVec 32 := 0#32
  let c128_i32_16 : BitVec 32 := 128#32
  let v13 : BitVec 32 := Scalar.addi c0_i32_15 c128_i32_16
  let c1_i32_17 : BitVec 32 := 1#32
  ⟨c0_i32_15, v13, c1_i32_17⟩
def k0_off9 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk5 (i : grid0.Coords) (v62 : IVec S16 32) : Prop :=
  (∀ (k0_h1 : k0_cond1 i = 1#1), ∀ a x, ((![v62] : Fin 1 → IVec S16 32) a x).toNat < S2048.size a)
theorem k0_idx9_inb : ∀ (i : grid0.Coords) (v62 : IVec S16 32) (k0_hw5 : k0_chk5 i v62), ∀ (k0_h1 : k0_cond1 i = 1#1), ∀ a x, ((![v62] : Fin 1 → IVec S16 32) a x).toNat < S2048.size a := fun i v62 k0_hw5 k0_h1 => k0_hw5 k0_h1
def k0_off10 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k0_chk6 (i : grid0.Coords) (v66 : IVec S16 32) : Prop :=
  (∀ (k0_h1 : k0_cond1 i = 1#1), ∀ a x, ((![v66] : Fin 1 → IVec S16 32) a x).toNat < S8192.size a) ∧
  (∀ (k0_h1 : k0_cond1 i = 1#1), ∀ a x, ((![v66] : Fin 1 → IVec S16 32) a x).toNat < S8192.size a) ∧
  (∀ (k0_h1 : k0_cond1 i = 1#1), ∀ a x, ((![v66] : Fin 1 → IVec S16 32) a x).toNat < S8192.size a)
theorem k0_idx10_inb : ∀ (i : grid0.Coords) (v66 : IVec S16 32) (k0_hw6 : k0_chk6 i v66), ∀ (k0_h1 : k0_cond1 i = 1#1), ∀ a x, ((![v66] : Fin 1 → IVec S16 32) a x).toNat < S8192.size a := fun i v66 k0_hw6 k0_h1 => k0_hw6.1 k0_h1
theorem k0_idx11_inb : ∀ (i : grid0.Coords) (v66 : IVec S16 32) (k0_hw6 : k0_chk6 i v66), ∀ (k0_h1 : k0_cond1 i = 1#1), ∀ a x, ((![v66] : Fin 1 → IVec S16 32) a x).toNat < S8192.size a := fun i v66 k0_hw6 k0_h1 => k0_hw6.2.1 k0_h1
theorem k0_idx12_inb : ∀ (i : grid0.Coords) (v66 : IVec S16 32) (k0_hw6 : k0_chk6 i v66), ∀ (k0_h1 : k0_cond1 i = 1#1), ∀ a x, ((![v66] : Fin 1 → IVec S16 32) a x).toNat < S8192.size a := fun i v66 k0_hw6 k0_h1 => k0_hw6.2.2 k0_h1
def k0_off11 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_122 : BitVec 32 := 16#32
  let v71 : BitVec 32 := Scalar.muli arg17 c16_i32_122
  let c2048_i32 : BitVec 32 := 2048#32
  let v72 : BitVec 32 := Scalar.addi v71 c2048_i32
  let v73 : Index := Scalar.indexCast v72
  ![v73.toNat]

def k0_chk7 (i : grid0.Coords) (v78 : IVec S16 32) : Prop :=
  (∀ (k0_h1 : k0_cond1 i = 1#1), ∀ a x, ((![v78] : Fin 1 → IVec S16 32) a x).toNat < S2048.size a)
theorem k0_idx13_inb : ∀ (i : grid0.Coords) (v78 : IVec S16 32) (k0_hw7 : k0_chk7 i v78), ∀ (k0_h1 : k0_cond1 i = 1#1), ∀ a x, ((![v78] : Fin 1 → IVec S16 32) a x).toNat < S2048.size a := fun i v78 k0_hw7 k0_h1 => k0_hw7 k0_h1
def k0_off12 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_122 : BitVec 32 := 16#32
  let v71 : BitVec 32 := Scalar.muli arg17 c16_i32_122
  let c2048_i32 : BitVec 32 := 2048#32
  let v72 : BitVec 32 := Scalar.addi v71 c2048_i32
  let v80 : Index := Scalar.indexCast v72
  ![v80.toNat]

def k0_chk8 (i : grid0.Coords) (v82 : IVec S16 32) : Prop :=
  (∀ (k0_h1 : k0_cond1 i = 1#1), ∀ a x, ((![v82] : Fin 1 → IVec S16 32) a x).toNat < S8192.size a) ∧
  (∀ (k0_h1 : k0_cond1 i = 1#1), ∀ a x, ((![v82] : Fin 1 → IVec S16 32) a x).toNat < S8192.size a) ∧
  (∀ (k0_h1 : k0_cond1 i = 1#1), ∀ a x, ((![v82] : Fin 1 → IVec S16 32) a x).toNat < S8192.size a)
theorem k0_idx14_inb : ∀ (i : grid0.Coords) (v82 : IVec S16 32) (k0_hw8 : k0_chk8 i v82), ∀ (k0_h1 : k0_cond1 i = 1#1), ∀ a x, ((![v82] : Fin 1 → IVec S16 32) a x).toNat < S8192.size a := fun i v82 k0_hw8 k0_h1 => k0_hw8.1 k0_h1
theorem k0_idx15_inb : ∀ (i : grid0.Coords) (v82 : IVec S16 32) (k0_hw8 : k0_chk8 i v82), ∀ (k0_h1 : k0_cond1 i = 1#1), ∀ a x, ((![v82] : Fin 1 → IVec S16 32) a x).toNat < S8192.size a := fun i v82 k0_hw8 k0_h1 => k0_hw8.2.1 k0_h1
theorem k0_idx16_inb : ∀ (i : grid0.Coords) (v82 : IVec S16 32) (k0_hw8 : k0_chk8 i v82), ∀ (k0_h1 : k0_cond1 i = 1#1), ∀ a x, ((![v82] : Fin 1 → IVec S16 32) a x).toNat < S8192.size a := fun i v82 k0_hw8 k0_h1 => k0_hw8.2.2 k0_h1
def k0_off13 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_125 : BitVec 32 := 16#32
  let v87 : BitVec 32 := Scalar.muli arg17 c16_i32_125
  let c4096_i32 : BitVec 32 := 4096#32
  let v88 : BitVec 32 := Scalar.addi v87 c4096_i32
  let v89 : Index := Scalar.indexCast v88
  ![v89.toNat]

def k0_chk9 (i : grid0.Coords) (v94 : IVec S16 32) : Prop :=
  (∀ (k0_h1 : k0_cond1 i = 1#1), ∀ a x, ((![v94] : Fin 1 → IVec S16 32) a x).toNat < S2048.size a)
theorem k0_idx17_inb : ∀ (i : grid0.Coords) (v94 : IVec S16 32) (k0_hw9 : k0_chk9 i v94), ∀ (k0_h1 : k0_cond1 i = 1#1), ∀ a x, ((![v94] : Fin 1 → IVec S16 32) a x).toNat < S2048.size a := fun i v94 k0_hw9 k0_h1 => k0_hw9 k0_h1
def k0_off14 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_125 : BitVec 32 := 16#32
  let v87 : BitVec 32 := Scalar.muli arg17 c16_i32_125
  let c4096_i32 : BitVec 32 := 4096#32
  let v88 : BitVec 32 := Scalar.addi v87 c4096_i32
  let v96 : Index := Scalar.indexCast v88
  ![v96.toNat]

def k0_chk10 (i : grid0.Coords) (v98 : IVec S16 32) : Prop :=
  (∀ (k0_h1 : k0_cond1 i = 1#1), ∀ a x, ((![v98] : Fin 1 → IVec S16 32) a x).toNat < S8192.size a) ∧
  (∀ (k0_h1 : k0_cond1 i = 1#1), ∀ a x, ((![v98] : Fin 1 → IVec S16 32) a x).toNat < S8192.size a) ∧
  (∀ (k0_h1 : k0_cond1 i = 1#1), ∀ a x, ((![v98] : Fin 1 → IVec S16 32) a x).toNat < S8192.size a)
theorem k0_idx18_inb : ∀ (i : grid0.Coords) (v98 : IVec S16 32) (k0_hw10 : k0_chk10 i v98), ∀ (k0_h1 : k0_cond1 i = 1#1), ∀ a x, ((![v98] : Fin 1 → IVec S16 32) a x).toNat < S8192.size a := fun i v98 k0_hw10 k0_h1 => k0_hw10.1 k0_h1
theorem k0_idx19_inb : ∀ (i : grid0.Coords) (v98 : IVec S16 32) (k0_hw10 : k0_chk10 i v98), ∀ (k0_h1 : k0_cond1 i = 1#1), ∀ a x, ((![v98] : Fin 1 → IVec S16 32) a x).toNat < S8192.size a := fun i v98 k0_hw10 k0_h1 => k0_hw10.2.1 k0_h1
theorem k0_idx20_inb : ∀ (i : grid0.Coords) (v98 : IVec S16 32) (k0_hw10 : k0_chk10 i v98), ∀ (k0_h1 : k0_cond1 i = 1#1), ∀ a x, ((![v98] : Fin 1 → IVec S16 32) a x).toNat < S8192.size a := fun i v98 k0_hw10 k0_h1 => k0_hw10.2.2 k0_h1
def k0_off15 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_128 : BitVec 32 := 16#32
  let v103 : BitVec 32 := Scalar.muli arg17 c16_i32_128
  let c6144_i32 : BitVec 32 := 6144#32
  let v104 : BitVec 32 := Scalar.addi v103 c6144_i32
  let v105 : Index := Scalar.indexCast v104
  ![v105.toNat]

def k0_chk11 (i : grid0.Coords) (v110 : IVec S16 32) : Prop :=
  (∀ (k0_h1 : k0_cond1 i = 1#1), ∀ a x, ((![v110] : Fin 1 → IVec S16 32) a x).toNat < S2048.size a)
theorem k0_idx21_inb : ∀ (i : grid0.Coords) (v110 : IVec S16 32) (k0_hw11 : k0_chk11 i v110), ∀ (k0_h1 : k0_cond1 i = 1#1), ∀ a x, ((![v110] : Fin 1 → IVec S16 32) a x).toNat < S2048.size a := fun i v110 k0_hw11 k0_h1 => k0_hw11 k0_h1
def k0_off16 (k0_t4 : Fin k0_t4_loop.trips) : Fin 1 → Nat :=
  let c0_i32_15 : BitVec 32 := 0#32
  let c1_i32_17 : BitVec 32 := 1#32
  let arg17 : BitVec 32 := Scf.iv c0_i32_15 c1_i32_17 k0_t4
  let c16_i32_128 : BitVec 32 := 16#32
  let v103 : BitVec 32 := Scalar.muli arg17 c16_i32_128
  let c6144_i32 : BitVec 32 := 6144#32
  let v104 : BitVec 32 := Scalar.addi v103 c6144_i32
  let v112 : Index := Scalar.indexCast v104
  ![v112.toNat]

def k0_chk12 (i : grid0.Coords) (v114 : IVec S16 32) : Prop :=
  (∀ (k0_h1 : k0_cond1 i = 1#1), ∀ a x, ((![v114] : Fin 1 → IVec S16 32) a x).toNat < S8192.size a) ∧
  (∀ (k0_h1 : k0_cond1 i = 1#1), ∀ a x, ((![v114] : Fin 1 → IVec S16 32) a x).toNat < S8192.size a) ∧
  (∀ (k0_h1 : k0_cond1 i = 1#1), ∀ a x, ((![v114] : Fin 1 → IVec S16 32) a x).toNat < S8192.size a)
theorem k0_idx22_inb : ∀ (i : grid0.Coords) (v114 : IVec S16 32) (k0_hw12 : k0_chk12 i v114), ∀ (k0_h1 : k0_cond1 i = 1#1), ∀ a x, ((![v114] : Fin 1 → IVec S16 32) a x).toNat < S8192.size a := fun i v114 k0_hw12 k0_h1 => k0_hw12.1 k0_h1
theorem k0_idx23_inb : ∀ (i : grid0.Coords) (v114 : IVec S16 32) (k0_hw12 : k0_chk12 i v114), ∀ (k0_h1 : k0_cond1 i = 1#1), ∀ a x, ((![v114] : Fin 1 → IVec S16 32) a x).toNat < S8192.size a := fun i v114 k0_hw12 k0_h1 => k0_hw12.2.1 k0_h1
theorem k0_idx24_inb : ∀ (i : grid0.Coords) (v114 : IVec S16 32) (k0_hw12 : k0_chk12 i v114), ∀ (k0_h1 : k0_cond1 i = 1#1), ∀ a x, ((![v114] : Fin 1 → IVec S16 32) a x).toNat < S8192.size a := fun i v114 k0_hw12 k0_h1 => k0_hw12.2.2 k0_h1
@[reducible] def k0_t5_loop : Scf.Loop 32 :=
  let c0_i32_20 : BitVec 32 := 0#32
  let c128_i32_21 : BitVec 32 := 128#32
  let v15 : BitVec 32 := Scalar.addi c0_i32_20 c128_i32_21
  let c1_i32_22 : BitVec 32 := 1#32
  ⟨c0_i32_20, v15, c1_i32_22⟩
def k0_off17 (k0_t5 : Fin k0_t5_loop.trips) : Fin 1 → Nat :=
  let c0_i32_20 : BitVec 32 := 0#32
  let c1_i32_22 : BitVec 32 := 1#32
  let arg17 : BitVec 32 := Scf.iv c0_i32_20 c1_i32_22 k0_t5
  let c16_i32_119 : BitVec 32 := 16#32
  let v55 : BitVec 32 := Scalar.muli arg17 c16_i32_119
  let v56 : Index := Scalar.indexCast v55
  ![v56.toNat]
@[reducible] def k0_t6_loop : Scf.Loop 32 :=
  let c0_i32_25 : BitVec 32 := 0#32
  let c128_i32_26 : BitVec 32 := 128#32
  let v17 : BitVec 32 := Scalar.addi c0_i32_25 c128_i32_26
  let c1_i32_27 : BitVec 32 := 1#32
  ⟨c0_i32_25, v17, c1_i32_27⟩
def k0_off18 (k0_t6 : Fin k0_t6_loop.trips) : Fin 1 → Nat :=
  let c0_i32_25 : BitVec 32 := 0#32
  let c1_i32_27 : BitVec 32 := 1#32
  let arg17 : BitVec 32 := Scf.iv c0_i32_25 c1_i32_27 k0_t6
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk13 (i : grid0.Coords) (v62 : IVec S16 32) : Prop :=
  (∀ (k0_h1 : k0_cond1 i = 1#1), ∀ a x, ((![v62] : Fin 1 → IVec S16 32) a x).toNat < S2048.size a) ∧
  (∀ (k0_h1 : k0_cond1 i = 1#1), ∀ a x, ((![v62] : Fin 1 → IVec S16 32) a x).toNat < S2048.size a)
theorem k0_idx25_inb : ∀ (i : grid0.Coords) (v62 : IVec S16 32) (k0_hw13 : k0_chk13 i v62), ∀ (k0_h1 : k0_cond1 i = 1#1), ∀ a x, ((![v62] : Fin 1 → IVec S16 32) a x).toNat < S2048.size a := fun i v62 k0_hw13 k0_h1 => k0_hw13.1 k0_h1
theorem k0_idx26_inb : ∀ (i : grid0.Coords) (v62 : IVec S16 32) (k0_hw13 : k0_chk13 i v62), ∀ (k0_h1 : k0_cond1 i = 1#1), ∀ a x, ((![v62] : Fin 1 → IVec S16 32) a x).toNat < S2048.size a := fun i v62 k0_hw13 k0_h1 => k0_hw13.2 k0_h1
def k0_off19 (k0_t6 : Fin k0_t6_loop.trips) (c0_i32_120 : BitVec 32) : Fin 1 → Nat :=
  let c0_i32_25 : BitVec 32 := 0#32
  let c1_i32_27 : BitVec 32 := 1#32
  let arg17 : BitVec 32 := Scf.iv c0_i32_25 c1_i32_27 k0_t6
  let c16_i32_119 : BitVec 32 := 16#32
  let v55 : BitVec 32 := Scalar.muli arg17 c16_i32_119
  let v56 : BitVec 32 := Scalar.addi v55 c0_i32_120
  let v69 : Index := Scalar.indexCast v56
  ![v69.toNat]

def k0_chk14 (i : grid0.Coords) (v78 : IVec S16 32) : Prop :=
  (∀ (k0_h1 : k0_cond1 i = 1#1), ∀ a x, ((![v78] : Fin 1 → IVec S16 32) a x).toNat < S2048.size a) ∧
  (∀ (k0_h1 : k0_cond1 i = 1#1), ∀ a x, ((![v78] : Fin 1 → IVec S16 32) a x).toNat < S2048.size a)
theorem k0_idx27_inb : ∀ (i : grid0.Coords) (v78 : IVec S16 32) (k0_hw14 : k0_chk14 i v78), ∀ (k0_h1 : k0_cond1 i = 1#1), ∀ a x, ((![v78] : Fin 1 → IVec S16 32) a x).toNat < S2048.size a := fun i v78 k0_hw14 k0_h1 => k0_hw14.1 k0_h1
theorem k0_idx28_inb : ∀ (i : grid0.Coords) (v78 : IVec S16 32) (k0_hw14 : k0_chk14 i v78), ∀ (k0_h1 : k0_cond1 i = 1#1), ∀ a x, ((![v78] : Fin 1 → IVec S16 32) a x).toNat < S2048.size a := fun i v78 k0_hw14 k0_h1 => k0_hw14.2 k0_h1
def k0_off20 (k0_t6 : Fin k0_t6_loop.trips) (c2048_i32 : BitVec 32) : Fin 1 → Nat :=
  let c0_i32_25 : BitVec 32 := 0#32
  let c1_i32_27 : BitVec 32 := 1#32
  let arg17 : BitVec 32 := Scf.iv c0_i32_25 c1_i32_27 k0_t6
  let c16_i32_122 : BitVec 32 := 16#32
  let v71 : BitVec 32 := Scalar.muli arg17 c16_i32_122
  let v72 : BitVec 32 := Scalar.addi v71 c2048_i32
  let v85 : Index := Scalar.indexCast v72
  ![v85.toNat]

def k0_chk15 (i : grid0.Coords) (v94 : IVec S16 32) : Prop :=
  (∀ (k0_h1 : k0_cond1 i = 1#1), ∀ a x, ((![v94] : Fin 1 → IVec S16 32) a x).toNat < S2048.size a) ∧
  (∀ (k0_h1 : k0_cond1 i = 1#1), ∀ a x, ((![v94] : Fin 1 → IVec S16 32) a x).toNat < S2048.size a)
theorem k0_idx29_inb : ∀ (i : grid0.Coords) (v94 : IVec S16 32) (k0_hw15 : k0_chk15 i v94), ∀ (k0_h1 : k0_cond1 i = 1#1), ∀ a x, ((![v94] : Fin 1 → IVec S16 32) a x).toNat < S2048.size a := fun i v94 k0_hw15 k0_h1 => k0_hw15.1 k0_h1
theorem k0_idx30_inb : ∀ (i : grid0.Coords) (v94 : IVec S16 32) (k0_hw15 : k0_chk15 i v94), ∀ (k0_h1 : k0_cond1 i = 1#1), ∀ a x, ((![v94] : Fin 1 → IVec S16 32) a x).toNat < S2048.size a := fun i v94 k0_hw15 k0_h1 => k0_hw15.2 k0_h1
def k0_off21 (k0_t6 : Fin k0_t6_loop.trips) (c4096_i32 : BitVec 32) : Fin 1 → Nat :=
  let c0_i32_25 : BitVec 32 := 0#32
  let c1_i32_27 : BitVec 32 := 1#32
  let arg17 : BitVec 32 := Scf.iv c0_i32_25 c1_i32_27 k0_t6
  let c16_i32_129 : BitVec 32 := 16#32
  let v87 : BitVec 32 := Scalar.muli arg17 c16_i32_129
  let v88 : BitVec 32 := Scalar.addi v87 c4096_i32
  let v101 : Index := Scalar.indexCast v88
  ![v101.toNat]

def k0_chk16 (i : grid0.Coords) (v110 : IVec S16 32) : Prop :=
  (∀ (k0_h1 : k0_cond1 i = 1#1), ∀ a x, ((![v110] : Fin 1 → IVec S16 32) a x).toNat < S2048.size a) ∧
  (∀ (k0_h1 : k0_cond1 i = 1#1), ∀ a x, ((![v110] : Fin 1 → IVec S16 32) a x).toNat < S2048.size a)
theorem k0_idx31_inb : ∀ (i : grid0.Coords) (v110 : IVec S16 32) (k0_hw16 : k0_chk16 i v110), ∀ (k0_h1 : k0_cond1 i = 1#1), ∀ a x, ((![v110] : Fin 1 → IVec S16 32) a x).toNat < S2048.size a := fun i v110 k0_hw16 k0_h1 => k0_hw16.1 k0_h1
theorem k0_idx32_inb : ∀ (i : grid0.Coords) (v110 : IVec S16 32) (k0_hw16 : k0_chk16 i v110), ∀ (k0_h1 : k0_cond1 i = 1#1), ∀ a x, ((![v110] : Fin 1 → IVec S16 32) a x).toNat < S2048.size a := fun i v110 k0_hw16 k0_h1 => k0_hw16.2 k0_h1
def k0_off22 (k0_t6 : Fin k0_t6_loop.trips) : Fin 1 → Nat :=
  let c0_i32_25 : BitVec 32 := 0#32
  let c1_i32_27 : BitVec 32 := 1#32
  let arg17 : BitVec 32 := Scf.iv c0_i32_25 c1_i32_27 k0_t6
  let c16_i32_136 : BitVec 32 := 16#32
  let v103 : BitVec 32 := Scalar.muli arg17 c16_i32_136
  let c6144_i32 : BitVec 32 := 6144#32
  let v104 : BitVec 32 := Scalar.addi v103 c6144_i32
  let v117 : Index := Scalar.indexCast v104
  ![v117.toNat]
@[reducible] def k0_t7_loop : Scf.Loop 32 :=
  let c0_i32_30 : BitVec 32 := 0#32
  let c128_i32_31 : BitVec 32 := 128#32
  let v19 : BitVec 32 := Scalar.addi c0_i32_30 c128_i32_31
  let c1_i32_32 : BitVec 32 := 1#32
  ⟨c0_i32_30, v19, c1_i32_32⟩
def k0_off23 (k0_t7 : Fin k0_t7_loop.trips) : Fin 1 → Nat :=
  let c0_i32_30 : BitVec 32 := 0#32
  let c1_i32_32 : BitVec 32 := 1#32
  let arg17 : BitVec 32 := Scf.iv c0_i32_30 c1_i32_32 k0_t7
  let c16_i32_119 : BitVec 32 := 16#32
  let v55 : BitVec 32 := Scalar.muli arg17 c16_i32_119
  let v56 : Index := Scalar.indexCast v55
  ![v56.toNat]
@[reducible] def k0_t8_loop : Scf.Loop 32 :=
  let c0_i32_35 : BitVec 32 := 0#32
  let c128_i32_36 : BitVec 32 := 128#32
  let v21 : BitVec 32 := Scalar.addi c0_i32_35 c128_i32_36
  let c1_i32_37 : BitVec 32 := 1#32
  ⟨c0_i32_35, v21, c1_i32_37⟩
def k0_off24 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk17 (i : grid0.Coords) (v62 : IVec S16 32) : Prop :=
  (∀ (k0_h1 : k0_cond1 i = 1#1), ∀ a x, ((![v62] : Fin 1 → IVec S16 32) a x).toNat < S2048.size a)
theorem k0_idx33_inb : ∀ (i : grid0.Coords) (v62 : IVec S16 32) (k0_hw17 : k0_chk17 i v62), ∀ (k0_h1 : k0_cond1 i = 1#1), ∀ a x, ((![v62] : Fin 1 → IVec S16 32) a x).toNat < S2048.size a := fun i v62 k0_hw17 k0_h1 => k0_hw17 k0_h1
def k0_off25 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k0_chk18 (i : grid0.Coords) (v66 : IVec S16 32) : Prop :=
  (∀ (k0_h1 : k0_cond1 i = 1#1), ∀ a x, ((![v66] : Fin 1 → IVec S16 32) a x).toNat < S8192.size a) ∧
  (∀ (k0_h1 : k0_cond1 i = 1#1), ∀ a x, ((![v66] : Fin 1 → IVec S16 32) a x).toNat < S8192.size a) ∧
  (∀ (k0_h1 : k0_cond1 i = 1#1), ∀ a x, ((![v66] : Fin 1 → IVec S16 32) a x).toNat < S8192.size a)
theorem k0_idx34_inb : ∀ (i : grid0.Coords) (v66 : IVec S16 32) (k0_hw18 : k0_chk18 i v66), ∀ (k0_h1 : k0_cond1 i = 1#1), ∀ a x, ((![v66] : Fin 1 → IVec S16 32) a x).toNat < S8192.size a := fun i v66 k0_hw18 k0_h1 => k0_hw18.1 k0_h1
theorem k0_idx35_inb : ∀ (i : grid0.Coords) (v66 : IVec S16 32) (k0_hw18 : k0_chk18 i v66), ∀ (k0_h1 : k0_cond1 i = 1#1), ∀ a x, ((![v66] : Fin 1 → IVec S16 32) a x).toNat < S8192.size a := fun i v66 k0_hw18 k0_h1 => k0_hw18.2.1 k0_h1
theorem k0_idx36_inb : ∀ (i : grid0.Coords) (v66 : IVec S16 32) (k0_hw18 : k0_chk18 i v66), ∀ (k0_h1 : k0_cond1 i = 1#1), ∀ a x, ((![v66] : Fin 1 → IVec S16 32) a x).toNat < S8192.size a := fun i v66 k0_hw18 k0_h1 => k0_hw18.2.2 k0_h1
def k0_off26 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_121 : BitVec 32 := 16#32
  let v71 : BitVec 32 := Scalar.muli arg17 c16_i32_121
  let c2048_i32 : BitVec 32 := 2048#32
  let v72 : BitVec 32 := Scalar.addi v71 c2048_i32
  let v73 : Index := Scalar.indexCast v72
  ![v73.toNat]

def k0_chk19 (i : grid0.Coords) (v78 : IVec S16 32) : Prop :=
  (∀ (k0_h1 : k0_cond1 i = 1#1), ∀ a x, ((![v78] : Fin 1 → IVec S16 32) a x).toNat < S2048.size a)
theorem k0_idx37_inb : ∀ (i : grid0.Coords) (v78 : IVec S16 32) (k0_hw19 : k0_chk19 i v78), ∀ (k0_h1 : k0_cond1 i = 1#1), ∀ a x, ((![v78] : Fin 1 → IVec S16 32) a x).toNat < S2048.size a := fun i v78 k0_hw19 k0_h1 => k0_hw19 k0_h1
def k0_off27 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_121 : BitVec 32 := 16#32
  let v71 : BitVec 32 := Scalar.muli arg17 c16_i32_121
  let c2048_i32 : BitVec 32 := 2048#32
  let v72 : BitVec 32 := Scalar.addi v71 c2048_i32
  let v80 : Index := Scalar.indexCast v72
  ![v80.toNat]

def k0_chk20 (i : grid0.Coords) (v82 : IVec S16 32) : Prop :=
  (∀ (k0_h1 : k0_cond1 i = 1#1), ∀ a x, ((![v82] : Fin 1 → IVec S16 32) a x).toNat < S8192.size a) ∧
  (∀ (k0_h1 : k0_cond1 i = 1#1), ∀ a x, ((![v82] : Fin 1 → IVec S16 32) a x).toNat < S8192.size a) ∧
  (∀ (k0_h1 : k0_cond1 i = 1#1), ∀ a x, ((![v82] : Fin 1 → IVec S16 32) a x).toNat < S8192.size a)
theorem k0_idx38_inb : ∀ (i : grid0.Coords) (v82 : IVec S16 32) (k0_hw20 : k0_chk20 i v82), ∀ (k0_h1 : k0_cond1 i = 1#1), ∀ a x, ((![v82] : Fin 1 → IVec S16 32) a x).toNat < S8192.size a := fun i v82 k0_hw20 k0_h1 => k0_hw20.1 k0_h1
theorem k0_idx39_inb : ∀ (i : grid0.Coords) (v82 : IVec S16 32) (k0_hw20 : k0_chk20 i v82), ∀ (k0_h1 : k0_cond1 i = 1#1), ∀ a x, ((![v82] : Fin 1 → IVec S16 32) a x).toNat < S8192.size a := fun i v82 k0_hw20 k0_h1 => k0_hw20.2.1 k0_h1
theorem k0_idx40_inb : ∀ (i : grid0.Coords) (v82 : IVec S16 32) (k0_hw20 : k0_chk20 i v82), ∀ (k0_h1 : k0_cond1 i = 1#1), ∀ a x, ((![v82] : Fin 1 → IVec S16 32) a x).toNat < S8192.size a := fun i v82 k0_hw20 k0_h1 => k0_hw20.2.2 k0_h1
def k0_off28 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_124 : BitVec 32 := 16#32
  let v87 : BitVec 32 := Scalar.muli arg17 c16_i32_124
  let c4096_i32 : BitVec 32 := 4096#32
  let v88 : BitVec 32 := Scalar.addi v87 c4096_i32
  let v89 : Index := Scalar.indexCast v88
  ![v89.toNat]

def k0_chk21 (i : grid0.Coords) (v94 : IVec S16 32) : Prop :=
  (∀ (k0_h1 : k0_cond1 i = 1#1), ∀ a x, ((![v94] : Fin 1 → IVec S16 32) a x).toNat < S2048.size a)
theorem k0_idx41_inb : ∀ (i : grid0.Coords) (v94 : IVec S16 32) (k0_hw21 : k0_chk21 i v94), ∀ (k0_h1 : k0_cond1 i = 1#1), ∀ a x, ((![v94] : Fin 1 → IVec S16 32) a x).toNat < S2048.size a := fun i v94 k0_hw21 k0_h1 => k0_hw21 k0_h1
def k0_off29 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_124 : BitVec 32 := 16#32
  let v87 : BitVec 32 := Scalar.muli arg17 c16_i32_124
  let c4096_i32 : BitVec 32 := 4096#32
  let v88 : BitVec 32 := Scalar.addi v87 c4096_i32
  let v96 : Index := Scalar.indexCast v88
  ![v96.toNat]

def k0_chk22 (i : grid0.Coords) (v98 : IVec S16 32) : Prop :=
  (∀ (k0_h1 : k0_cond1 i = 1#1), ∀ a x, ((![v98] : Fin 1 → IVec S16 32) a x).toNat < S8192.size a) ∧
  (∀ (k0_h1 : k0_cond1 i = 1#1), ∀ a x, ((![v98] : Fin 1 → IVec S16 32) a x).toNat < S8192.size a) ∧
  (∀ (k0_h1 : k0_cond1 i = 1#1), ∀ a x, ((![v98] : Fin 1 → IVec S16 32) a x).toNat < S8192.size a)
theorem k0_idx42_inb : ∀ (i : grid0.Coords) (v98 : IVec S16 32) (k0_hw22 : k0_chk22 i v98), ∀ (k0_h1 : k0_cond1 i = 1#1), ∀ a x, ((![v98] : Fin 1 → IVec S16 32) a x).toNat < S8192.size a := fun i v98 k0_hw22 k0_h1 => k0_hw22.1 k0_h1
theorem k0_idx43_inb : ∀ (i : grid0.Coords) (v98 : IVec S16 32) (k0_hw22 : k0_chk22 i v98), ∀ (k0_h1 : k0_cond1 i = 1#1), ∀ a x, ((![v98] : Fin 1 → IVec S16 32) a x).toNat < S8192.size a := fun i v98 k0_hw22 k0_h1 => k0_hw22.2.1 k0_h1
theorem k0_idx44_inb : ∀ (i : grid0.Coords) (v98 : IVec S16 32) (k0_hw22 : k0_chk22 i v98), ∀ (k0_h1 : k0_cond1 i = 1#1), ∀ a x, ((![v98] : Fin 1 → IVec S16 32) a x).toNat < S8192.size a := fun i v98 k0_hw22 k0_h1 => k0_hw22.2.2 k0_h1
def k0_off30 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_127 : BitVec 32 := 16#32
  let v103 : BitVec 32 := Scalar.muli arg17 c16_i32_127
  let c6144_i32 : BitVec 32 := 6144#32
  let v104 : BitVec 32 := Scalar.addi v103 c6144_i32
  let v105 : Index := Scalar.indexCast v104
  ![v105.toNat]

def k0_chk23 (i : grid0.Coords) (v110 : IVec S16 32) : Prop :=
  (∀ (k0_h1 : k0_cond1 i = 1#1), ∀ a x, ((![v110] : Fin 1 → IVec S16 32) a x).toNat < S2048.size a)
theorem k0_idx45_inb : ∀ (i : grid0.Coords) (v110 : IVec S16 32) (k0_hw23 : k0_chk23 i v110), ∀ (k0_h1 : k0_cond1 i = 1#1), ∀ a x, ((![v110] : Fin 1 → IVec S16 32) a x).toNat < S2048.size a := fun i v110 k0_hw23 k0_h1 => k0_hw23 k0_h1
def k0_off31 (k0_t8 : Fin k0_t8_loop.trips) : Fin 1 → Nat :=
  let c0_i32_35 : BitVec 32 := 0#32
  let c1_i32_37 : BitVec 32 := 1#32
  let arg17 : BitVec 32 := Scf.iv c0_i32_35 c1_i32_37 k0_t8
  let c16_i32_127 : BitVec 32 := 16#32
  let v103 : BitVec 32 := Scalar.muli arg17 c16_i32_127
  let c6144_i32 : BitVec 32 := 6144#32
  let v104 : BitVec 32 := Scalar.addi v103 c6144_i32
  let v112 : Index := Scalar.indexCast v104
  ![v112.toNat]

def k0_chk24 (i : grid0.Coords) (v114 : IVec S16 32) : Prop :=
  (∀ (k0_h1 : k0_cond1 i = 1#1), ∀ a x, ((![v114] : Fin 1 → IVec S16 32) a x).toNat < S8192.size a) ∧
  (∀ (k0_h1 : k0_cond1 i = 1#1), ∀ a x, ((![v114] : Fin 1 → IVec S16 32) a x).toNat < S8192.size a) ∧
  (∀ (k0_h1 : k0_cond1 i = 1#1), ∀ a x, ((![v114] : Fin 1 → IVec S16 32) a x).toNat < S8192.size a)
theorem k0_idx46_inb : ∀ (i : grid0.Coords) (v114 : IVec S16 32) (k0_hw24 : k0_chk24 i v114), ∀ (k0_h1 : k0_cond1 i = 1#1), ∀ a x, ((![v114] : Fin 1 → IVec S16 32) a x).toNat < S8192.size a := fun i v114 k0_hw24 k0_h1 => k0_hw24.1 k0_h1
theorem k0_idx47_inb : ∀ (i : grid0.Coords) (v114 : IVec S16 32) (k0_hw24 : k0_chk24 i v114), ∀ (k0_h1 : k0_cond1 i = 1#1), ∀ a x, ((![v114] : Fin 1 → IVec S16 32) a x).toNat < S8192.size a := fun i v114 k0_hw24 k0_h1 => k0_hw24.2.1 k0_h1
theorem k0_idx48_inb : ∀ (i : grid0.Coords) (v114 : IVec S16 32) (k0_hw24 : k0_chk24 i v114), ∀ (k0_h1 : k0_cond1 i = 1#1), ∀ a x, ((![v114] : Fin 1 → IVec S16 32) a x).toNat < S8192.size a := fun i v114 k0_hw24 k0_h1 => k0_hw24.2.2 k0_h1
@[reducible] def k0_t9_loop : Scf.Loop 32 :=
  let c0_i32_40 : BitVec 32 := 0#32
  let c128_i32_41 : BitVec 32 := 128#32
  let v23 : BitVec 32 := Scalar.addi c0_i32_40 c128_i32_41
  let c1_i32_42 : BitVec 32 := 1#32
  ⟨c0_i32_40, v23, c1_i32_42⟩
def k0_off32 (k0_t9 : Fin k0_t9_loop.trips) : Fin 1 → Nat :=
  let c0_i32_40 : BitVec 32 := 0#32
  let c1_i32_42 : BitVec 32 := 1#32
  let arg17 : BitVec 32 := Scf.iv c0_i32_40 c1_i32_42 k0_t9
  let c16_i32_119 : BitVec 32 := 16#32
  let v55 : BitVec 32 := Scalar.muli arg17 c16_i32_119
  let v56 : Index := Scalar.indexCast v55
  ![v56.toNat]
@[reducible] def k0_t10_loop : Scf.Loop 32 :=
  let c0_i32_45 : BitVec 32 := 0#32
  let c128_i32_46 : BitVec 32 := 128#32
  let v25 : BitVec 32 := Scalar.addi c0_i32_45 c128_i32_46
  let c1_i32_47 : BitVec 32 := 1#32
  ⟨c0_i32_45, v25, c1_i32_47⟩
def k0_off33 (k0_t10 : Fin k0_t10_loop.trips) : Fin 1 → Nat :=
  let c0_i32_45 : BitVec 32 := 0#32
  let c1_i32_47 : BitVec 32 := 1#32
  let arg17 : BitVec 32 := Scf.iv c0_i32_45 c1_i32_47 k0_t10
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk25 (i : grid0.Coords) (v69 : IVec S16 32) : Prop :=
  (∀ (k0_h1 : k0_cond1 i = 1#1), ∀ a x, ((![v69] : Fin 1 → IVec S16 32) a x).toNat < S2048.size a) ∧
  (∀ (k0_h1 : k0_cond1 i = 1#1), ∀ a x, ((![v69] : Fin 1 → IVec S16 32) a x).toNat < S2048.size a)
theorem k0_idx49_inb : ∀ (i : grid0.Coords) (v69 : IVec S16 32) (k0_hw25 : k0_chk25 i v69), ∀ (k0_h1 : k0_cond1 i = 1#1), ∀ a x, ((![v69] : Fin 1 → IVec S16 32) a x).toNat < S2048.size a := fun i v69 k0_hw25 k0_h1 => k0_hw25.1 k0_h1
theorem k0_idx50_inb : ∀ (i : grid0.Coords) (v69 : IVec S16 32) (k0_hw25 : k0_chk25 i v69), ∀ (k0_h1 : k0_cond1 i = 1#1), ∀ a x, ((![v69] : Fin 1 → IVec S16 32) a x).toNat < S2048.size a := fun i v69 k0_hw25 k0_h1 => k0_hw25.2 k0_h1
def k0_off34 (k0_t10 : Fin k0_t10_loop.trips) (c0_i32_120 : BitVec 32) : Fin 1 → Nat :=
  let c0_i32_45 : BitVec 32 := 0#32
  let c1_i32_47 : BitVec 32 := 1#32
  let arg17 : BitVec 32 := Scf.iv c0_i32_45 c1_i32_47 k0_t10
  let c16_i32_119 : BitVec 32 := 16#32
  let v55 : BitVec 32 := Scalar.muli arg17 c16_i32_119
  let v56 : BitVec 32 := Scalar.addi v55 c0_i32_120
  let v76 : Index := Scalar.indexCast v56
  ![v76.toNat]

def k0_chk26 (i : grid0.Coords) (v92 : IVec S16 32) : Prop :=
  (∀ (k0_h1 : k0_cond1 i = 1#1), ∀ a x, ((![v92] : Fin 1 → IVec S16 32) a x).toNat < S2048.size a) ∧
  (∀ (k0_h1 : k0_cond1 i = 1#1), ∀ a x, ((![v92] : Fin 1 → IVec S16 32) a x).toNat < S2048.size a)
theorem k0_idx51_inb : ∀ (i : grid0.Coords) (v92 : IVec S16 32) (k0_hw26 : k0_chk26 i v92), ∀ (k0_h1 : k0_cond1 i = 1#1), ∀ a x, ((![v92] : Fin 1 → IVec S16 32) a x).toNat < S2048.size a := fun i v92 k0_hw26 k0_h1 => k0_hw26.1 k0_h1
theorem k0_idx52_inb : ∀ (i : grid0.Coords) (v92 : IVec S16 32) (k0_hw26 : k0_chk26 i v92), ∀ (k0_h1 : k0_cond1 i = 1#1), ∀ a x, ((![v92] : Fin 1 → IVec S16 32) a x).toNat < S2048.size a := fun i v92 k0_hw26 k0_h1 => k0_hw26.2 k0_h1
def k0_off35 (k0_t10 : Fin k0_t10_loop.trips) (c2048_i32 : BitVec 32) : Fin 1 → Nat :=
  let c0_i32_45 : BitVec 32 := 0#32
  let c1_i32_47 : BitVec 32 := 1#32
  let arg17 : BitVec 32 := Scf.iv c0_i32_45 c1_i32_47 k0_t10
  let c16_i32_123 : BitVec 32 := 16#32
  let v78 : BitVec 32 := Scalar.muli arg17 c16_i32_123
  let v79 : BitVec 32 := Scalar.addi v78 c2048_i32
  let v99 : Index := Scalar.indexCast v79
  ![v99.toNat]

def k0_chk27 (i : grid0.Coords) (v115 : IVec S16 32) : Prop :=
  (∀ (k0_h1 : k0_cond1 i = 1#1), ∀ a x, ((![v115] : Fin 1 → IVec S16 32) a x).toNat < S2048.size a) ∧
  (∀ (k0_h1 : k0_cond1 i = 1#1), ∀ a x, ((![v115] : Fin 1 → IVec S16 32) a x).toNat < S2048.size a)
theorem k0_idx53_inb : ∀ (i : grid0.Coords) (v115 : IVec S16 32) (k0_hw27 : k0_chk27 i v115), ∀ (k0_h1 : k0_cond1 i = 1#1), ∀ a x, ((![v115] : Fin 1 → IVec S16 32) a x).toNat < S2048.size a := fun i v115 k0_hw27 k0_h1 => k0_hw27.1 k0_h1
theorem k0_idx54_inb : ∀ (i : grid0.Coords) (v115 : IVec S16 32) (k0_hw27 : k0_chk27 i v115), ∀ (k0_h1 : k0_cond1 i = 1#1), ∀ a x, ((![v115] : Fin 1 → IVec S16 32) a x).toNat < S2048.size a := fun i v115 k0_hw27 k0_h1 => k0_hw27.2 k0_h1
def k0_off36 (k0_t10 : Fin k0_t10_loop.trips) (c4096_i32 : BitVec 32) : Fin 1 → Nat :=
  let c0_i32_45 : BitVec 32 := 0#32
  let c1_i32_47 : BitVec 32 := 1#32
  let arg17 : BitVec 32 := Scf.iv c0_i32_45 c1_i32_47 k0_t10
  let c16_i32_132 : BitVec 32 := 16#32
  let v101 : BitVec 32 := Scalar.muli arg17 c16_i32_132
  let v102 : BitVec 32 := Scalar.addi v101 c4096_i32
  let v122 : Index := Scalar.indexCast v102
  ![v122.toNat]

def k0_chk28 (i : grid0.Coords) (v138 : IVec S16 32) : Prop :=
  (∀ (k0_h1 : k0_cond1 i = 1#1), ∀ a x, ((![v138] : Fin 1 → IVec S16 32) a x).toNat < S2048.size a) ∧
  (∀ (k0_h1 : k0_cond1 i = 1#1), ∀ a x, ((![v138] : Fin 1 → IVec S16 32) a x).toNat < S2048.size a)
theorem k0_idx55_inb : ∀ (i : grid0.Coords) (v138 : IVec S16 32) (k0_hw28 : k0_chk28 i v138), ∀ (k0_h1 : k0_cond1 i = 1#1), ∀ a x, ((![v138] : Fin 1 → IVec S16 32) a x).toNat < S2048.size a := fun i v138 k0_hw28 k0_h1 => k0_hw28.1 k0_h1
theorem k0_idx56_inb : ∀ (i : grid0.Coords) (v138 : IVec S16 32) (k0_hw28 : k0_chk28 i v138), ∀ (k0_h1 : k0_cond1 i = 1#1), ∀ a x, ((![v138] : Fin 1 → IVec S16 32) a x).toNat < S2048.size a := fun i v138 k0_hw28 k0_h1 => k0_hw28.2 k0_h1
def k0_off37 (k0_t10 : Fin k0_t10_loop.trips) : Fin 1 → Nat :=
  let c0_i32_45 : BitVec 32 := 0#32
  let c1_i32_47 : BitVec 32 := 1#32
  let arg17 : BitVec 32 := Scf.iv c0_i32_45 c1_i32_47 k0_t10
  let c16_i32_141 : BitVec 32 := 16#32
  let v124 : BitVec 32 := Scalar.muli arg17 c16_i32_141
  let c6144_i32 : BitVec 32 := 6144#32
  let v125 : BitVec 32 := Scalar.addi v124 c6144_i32
  let v145 : Index := Scalar.indexCast v125
  ![v145.toNat]
@[reducible] def k0_t11_loop : Scf.Loop 32 :=
  let c0_i32_50 : BitVec 32 := 0#32
  let c128_i32_51 : BitVec 32 := 128#32
  let v27 : BitVec 32 := Scalar.addi c0_i32_50 c128_i32_51
  let c1_i32_52 : BitVec 32 := 1#32
  ⟨c0_i32_50, v27, c1_i32_52⟩
def k0_off38 (k0_t11 : Fin k0_t11_loop.trips) : Fin 1 → Nat :=
  let c0_i32_50 : BitVec 32 := 0#32
  let c1_i32_52 : BitVec 32 := 1#32
  let arg17 : BitVec 32 := Scf.iv c0_i32_50 c1_i32_52 k0_t11
  let c16_i32_119 : BitVec 32 := 16#32
  let v55 : BitVec 32 := Scalar.muli arg17 c16_i32_119
  let v56 : Index := Scalar.indexCast v55
  ![v56.toNat]
@[reducible] def k0_t12_loop : Scf.Loop 32 :=
  let c0_i32_55 : BitVec 32 := 0#32
  let c128_i32_56 : BitVec 32 := 128#32
  let v29 : BitVec 32 := Scalar.addi c0_i32_55 c128_i32_56
  let c1_i32_57 : BitVec 32 := 1#32
  ⟨c0_i32_55, v29, c1_i32_57⟩
def k0_off39 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk29 (i : grid0.Coords) (v69 : IVec S16 32) : Prop :=
  (∀ (k0_h1 : k0_cond1 i = 1#1), ∀ a x, ((![v69] : Fin 1 → IVec S16 32) a x).toNat < S2048.size a)
theorem k0_idx57_inb : ∀ (i : grid0.Coords) (v69 : IVec S16 32) (k0_hw29 : k0_chk29 i v69), ∀ (k0_h1 : k0_cond1 i = 1#1), ∀ a x, ((![v69] : Fin 1 → IVec S16 32) a x).toNat < S2048.size a := fun i v69 k0_hw29 k0_h1 => k0_hw29 k0_h1
def k0_off40 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_119 : BitVec 32 := 16#32
  let v55 : BitVec 32 := Scalar.muli arg17 c16_i32_119
  let c0_i32_120 : BitVec 32 := 0#32
  let v56 : BitVec 32 := Scalar.addi v55 c0_i32_120
  let v71 : Index := Scalar.indexCast v56
  ![v71.toNat]

def k0_chk30 (i : grid0.Coords) (v73 : IVec S16 32) : Prop :=
  (∀ (k0_h1 : k0_cond1 i = 1#1), ∀ a x, ((![v73] : Fin 1 → IVec S16 32) a x).toNat < S8192.size a) ∧
  (∀ (k0_h1 : k0_cond1 i = 1#1), ∀ a x, ((![v73] : Fin 1 → IVec S16 32) a x).toNat < S8192.size a)
theorem k0_idx58_inb : ∀ (i : grid0.Coords) (v73 : IVec S16 32) (k0_hw30 : k0_chk30 i v73), ∀ (k0_h1 : k0_cond1 i = 1#1), ∀ a x, ((![v73] : Fin 1 → IVec S16 32) a x).toNat < S8192.size a := fun i v73 k0_hw30 k0_h1 => k0_hw30.1 k0_h1
theorem k0_idx59_inb : ∀ (i : grid0.Coords) (v73 : IVec S16 32) (k0_hw30 : k0_chk30 i v73), ∀ (k0_h1 : k0_cond1 i = 1#1), ∀ a x, ((![v73] : Fin 1 → IVec S16 32) a x).toNat < S8192.size a := fun i v73 k0_hw30 k0_h1 => k0_hw30.2 k0_h1
def k0_off41 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_122 : BitVec 32 := 16#32
  let v76 : BitVec 32 := Scalar.muli arg17 c16_i32_122
  let c2048_i32 : BitVec 32 := 2048#32
  let v77 : BitVec 32 := Scalar.addi v76 c2048_i32
  let v78 : Index := Scalar.indexCast v77
  ![v78.toNat]

def k0_chk31 (i : grid0.Coords) (v90 : IVec S16 32) : Prop :=
  (∀ (k0_h1 : k0_cond1 i = 1#1), ∀ a x, ((![v90] : Fin 1 → IVec S16 32) a x).toNat < S2048.size a)
theorem k0_idx60_inb : ∀ (i : grid0.Coords) (v90 : IVec S16 32) (k0_hw31 : k0_chk31 i v90), ∀ (k0_h1 : k0_cond1 i = 1#1), ∀ a x, ((![v90] : Fin 1 → IVec S16 32) a x).toNat < S2048.size a := fun i v90 k0_hw31 k0_h1 => k0_hw31 k0_h1
def k0_off42 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_122 : BitVec 32 := 16#32
  let v76 : BitVec 32 := Scalar.muli arg17 c16_i32_122
  let c2048_i32 : BitVec 32 := 2048#32
  let v77 : BitVec 32 := Scalar.addi v76 c2048_i32
  let v92 : Index := Scalar.indexCast v77
  ![v92.toNat]

def k0_chk32 (i : grid0.Coords) (v94 : IVec S16 32) : Prop :=
  (∀ (k0_h1 : k0_cond1 i = 1#1), ∀ a x, ((![v94] : Fin 1 → IVec S16 32) a x).toNat < S8192.size a) ∧
  (∀ (k0_h1 : k0_cond1 i = 1#1), ∀ a x, ((![v94] : Fin 1 → IVec S16 32) a x).toNat < S8192.size a)
theorem k0_idx61_inb : ∀ (i : grid0.Coords) (v94 : IVec S16 32) (k0_hw32 : k0_chk32 i v94), ∀ (k0_h1 : k0_cond1 i = 1#1), ∀ a x, ((![v94] : Fin 1 → IVec S16 32) a x).toNat < S8192.size a := fun i v94 k0_hw32 k0_h1 => k0_hw32.1 k0_h1
theorem k0_idx62_inb : ∀ (i : grid0.Coords) (v94 : IVec S16 32) (k0_hw32 : k0_chk32 i v94), ∀ (k0_h1 : k0_cond1 i = 1#1), ∀ a x, ((![v94] : Fin 1 → IVec S16 32) a x).toNat < S8192.size a := fun i v94 k0_hw32 k0_h1 => k0_hw32.2 k0_h1
def k0_off43 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_127 : BitVec 32 := 16#32
  let v97 : BitVec 32 := Scalar.muli arg17 c16_i32_127
  let c4096_i32 : BitVec 32 := 4096#32
  let v98 : BitVec 32 := Scalar.addi v97 c4096_i32
  let v99 : Index := Scalar.indexCast v98
  ![v99.toNat]

def k0_chk33 (i : grid0.Coords) (v111 : IVec S16 32) : Prop :=
  (∀ (k0_h1 : k0_cond1 i = 1#1), ∀ a x, ((![v111] : Fin 1 → IVec S16 32) a x).toNat < S2048.size a)
theorem k0_idx63_inb : ∀ (i : grid0.Coords) (v111 : IVec S16 32) (k0_hw33 : k0_chk33 i v111), ∀ (k0_h1 : k0_cond1 i = 1#1), ∀ a x, ((![v111] : Fin 1 → IVec S16 32) a x).toNat < S2048.size a := fun i v111 k0_hw33 k0_h1 => k0_hw33 k0_h1
def k0_off44 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_127 : BitVec 32 := 16#32
  let v97 : BitVec 32 := Scalar.muli arg17 c16_i32_127
  let c4096_i32 : BitVec 32 := 4096#32
  let v98 : BitVec 32 := Scalar.addi v97 c4096_i32
  let v113 : Index := Scalar.indexCast v98
  ![v113.toNat]

def k0_chk34 (i : grid0.Coords) (v115 : IVec S16 32) : Prop :=
  (∀ (k0_h1 : k0_cond1 i = 1#1), ∀ a x, ((![v115] : Fin 1 → IVec S16 32) a x).toNat < S8192.size a) ∧
  (∀ (k0_h1 : k0_cond1 i = 1#1), ∀ a x, ((![v115] : Fin 1 → IVec S16 32) a x).toNat < S8192.size a)
theorem k0_idx64_inb : ∀ (i : grid0.Coords) (v115 : IVec S16 32) (k0_hw34 : k0_chk34 i v115), ∀ (k0_h1 : k0_cond1 i = 1#1), ∀ a x, ((![v115] : Fin 1 → IVec S16 32) a x).toNat < S8192.size a := fun i v115 k0_hw34 k0_h1 => k0_hw34.1 k0_h1
theorem k0_idx65_inb : ∀ (i : grid0.Coords) (v115 : IVec S16 32) (k0_hw34 : k0_chk34 i v115), ∀ (k0_h1 : k0_cond1 i = 1#1), ∀ a x, ((![v115] : Fin 1 → IVec S16 32) a x).toNat < S8192.size a := fun i v115 k0_hw34 k0_h1 => k0_hw34.2 k0_h1
def k0_off45 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_132 : BitVec 32 := 16#32
  let v118 : BitVec 32 := Scalar.muli arg17 c16_i32_132
  let c6144_i32 : BitVec 32 := 6144#32
  let v119 : BitVec 32 := Scalar.addi v118 c6144_i32
  let v120 : Index := Scalar.indexCast v119
  ![v120.toNat]

def k0_chk35 (i : grid0.Coords) (v132 : IVec S16 32) : Prop :=
  (∀ (k0_h1 : k0_cond1 i = 1#1), ∀ a x, ((![v132] : Fin 1 → IVec S16 32) a x).toNat < S2048.size a)
theorem k0_idx66_inb : ∀ (i : grid0.Coords) (v132 : IVec S16 32) (k0_hw35 : k0_chk35 i v132), ∀ (k0_h1 : k0_cond1 i = 1#1), ∀ a x, ((![v132] : Fin 1 → IVec S16 32) a x).toNat < S2048.size a := fun i v132 k0_hw35 k0_h1 => k0_hw35 k0_h1
def k0_off46 (k0_t12 : Fin k0_t12_loop.trips) : Fin 1 → Nat :=
  let c0_i32_55 : BitVec 32 := 0#32
  let c1_i32_57 : BitVec 32 := 1#32
  let arg17 : BitVec 32 := Scf.iv c0_i32_55 c1_i32_57 k0_t12
  let c16_i32_132 : BitVec 32 := 16#32
  let v118 : BitVec 32 := Scalar.muli arg17 c16_i32_132
  let c6144_i32 : BitVec 32 := 6144#32
  let v119 : BitVec 32 := Scalar.addi v118 c6144_i32
  let v134 : Index := Scalar.indexCast v119
  ![v134.toNat]

def k0_chk36 (i : grid0.Coords) (v136 : IVec S16 32) : Prop :=
  (∀ (k0_h1 : k0_cond1 i = 1#1), ∀ a x, ((![v136] : Fin 1 → IVec S16 32) a x).toNat < S8192.size a) ∧
  (∀ (k0_h1 : k0_cond1 i = 1#1), ∀ a x, ((![v136] : Fin 1 → IVec S16 32) a x).toNat < S8192.size a)
theorem k0_idx67_inb : ∀ (i : grid0.Coords) (v136 : IVec S16 32) (k0_hw36 : k0_chk36 i v136), ∀ (k0_h1 : k0_cond1 i = 1#1), ∀ a x, ((![v136] : Fin 1 → IVec S16 32) a x).toNat < S8192.size a := fun i v136 k0_hw36 k0_h1 => k0_hw36.1 k0_h1
theorem k0_idx68_inb : ∀ (i : grid0.Coords) (v136 : IVec S16 32) (k0_hw36 : k0_chk36 i v136), ∀ (k0_h1 : k0_cond1 i = 1#1), ∀ a x, ((![v136] : Fin 1 → IVec S16 32) a x).toNat < S8192.size a := fun i v136 k0_hw36 k0_h1 => k0_hw36.2 k0_h1
@[reducible] def k0_t13_loop : Scf.Loop 32 :=
  let c0_i32_60 : BitVec 32 := 0#32
  let c128_i32_61 : BitVec 32 := 128#32
  let v31 : BitVec 32 := Scalar.addi c0_i32_60 c128_i32_61
  let c1_i32_62 : BitVec 32 := 1#32
  ⟨c0_i32_60, v31, c1_i32_62⟩
def k0_off47 (k0_t13 : Fin k0_t13_loop.trips) : Fin 1 → Nat :=
  let c0_i32_60 : BitVec 32 := 0#32
  let c1_i32_62 : BitVec 32 := 1#32
  let arg17 : BitVec 32 := Scf.iv c0_i32_60 c1_i32_62 k0_t13
  let c16_i32_119 : BitVec 32 := 16#32
  let v55 : BitVec 32 := Scalar.muli arg17 c16_i32_119
  let v56 : Index := Scalar.indexCast v55
  ![v56.toNat]
@[reducible] def k0_t14_loop : Scf.Loop 32 :=
  let c0_i32_65 : BitVec 32 := 0#32
  let c128_i32_66 : BitVec 32 := 128#32
  let v33 : BitVec 32 := Scalar.addi c0_i32_65 c128_i32_66
  let c1_i32_67 : BitVec 32 := 1#32
  ⟨c0_i32_65, v33, c1_i32_67⟩
def k0_off48 (k0_t14 : Fin k0_t14_loop.trips) : Fin 1 → Nat :=
  let c0_i32_65 : BitVec 32 := 0#32
  let c1_i32_67 : BitVec 32 := 1#32
  let arg17 : BitVec 32 := Scf.iv c0_i32_65 c1_i32_67 k0_t14
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk37 (i : grid0.Coords) (v62 : IVec S16 32) : Prop :=
  (∀ (k0_h1 : k0_cond1 i = 1#1), ∀ a x, ((![v62] : Fin 1 → IVec S16 32) a x).toNat < S2048.size a) ∧
  (∀ (k0_h1 : k0_cond1 i = 1#1), ∀ a x, ((![v62] : Fin 1 → IVec S16 32) a x).toNat < S2048.size a)
theorem k0_idx69_inb : ∀ (i : grid0.Coords) (v62 : IVec S16 32) (k0_hw37 : k0_chk37 i v62), ∀ (k0_h1 : k0_cond1 i = 1#1), ∀ a x, ((![v62] : Fin 1 → IVec S16 32) a x).toNat < S2048.size a := fun i v62 k0_hw37 k0_h1 => k0_hw37.1 k0_h1
theorem k0_idx70_inb : ∀ (i : grid0.Coords) (v62 : IVec S16 32) (k0_hw37 : k0_chk37 i v62), ∀ (k0_h1 : k0_cond1 i = 1#1), ∀ a x, ((![v62] : Fin 1 → IVec S16 32) a x).toNat < S2048.size a := fun i v62 k0_hw37 k0_h1 => k0_hw37.2 k0_h1
def k0_off49 (k0_t14 : Fin k0_t14_loop.trips) (c0_i32_120 : BitVec 32) : Fin 1 → Nat :=
  let c0_i32_65 : BitVec 32 := 0#32
  let c1_i32_67 : BitVec 32 := 1#32
  let arg17 : BitVec 32 := Scf.iv c0_i32_65 c1_i32_67 k0_t14
  let c16_i32_119 : BitVec 32 := 16#32
  let v55 : BitVec 32 := Scalar.muli arg17 c16_i32_119
  let v56 : BitVec 32 := Scalar.addi v55 c0_i32_120
  let v69 : Index := Scalar.indexCast v56
  ![v69.toNat]

def k0_chk38 (i : grid0.Coords) (v78 : IVec S16 32) : Prop :=
  (∀ (k0_h1 : k0_cond1 i = 1#1), ∀ a x, ((![v78] : Fin 1 → IVec S16 32) a x).toNat < S2048.size a) ∧
  (∀ (k0_h1 : k0_cond1 i = 1#1), ∀ a x, ((![v78] : Fin 1 → IVec S16 32) a x).toNat < S2048.size a)
theorem k0_idx71_inb : ∀ (i : grid0.Coords) (v78 : IVec S16 32) (k0_hw38 : k0_chk38 i v78), ∀ (k0_h1 : k0_cond1 i = 1#1), ∀ a x, ((![v78] : Fin 1 → IVec S16 32) a x).toNat < S2048.size a := fun i v78 k0_hw38 k0_h1 => k0_hw38.1 k0_h1
theorem k0_idx72_inb : ∀ (i : grid0.Coords) (v78 : IVec S16 32) (k0_hw38 : k0_chk38 i v78), ∀ (k0_h1 : k0_cond1 i = 1#1), ∀ a x, ((![v78] : Fin 1 → IVec S16 32) a x).toNat < S2048.size a := fun i v78 k0_hw38 k0_h1 => k0_hw38.2 k0_h1
def k0_off50 (k0_t14 : Fin k0_t14_loop.trips) (c2048_i32 : BitVec 32) : Fin 1 → Nat :=
  let c0_i32_65 : BitVec 32 := 0#32
  let c1_i32_67 : BitVec 32 := 1#32
  let arg17 : BitVec 32 := Scf.iv c0_i32_65 c1_i32_67 k0_t14
  let c16_i32_123 : BitVec 32 := 16#32
  let v71 : BitVec 32 := Scalar.muli arg17 c16_i32_123
  let v72 : BitVec 32 := Scalar.addi v71 c2048_i32
  let v85 : Index := Scalar.indexCast v72
  ![v85.toNat]

def k0_chk39 (i : grid0.Coords) (v94 : IVec S16 32) : Prop :=
  (∀ (k0_h1 : k0_cond1 i = 1#1), ∀ a x, ((![v94] : Fin 1 → IVec S16 32) a x).toNat < S2048.size a) ∧
  (∀ (k0_h1 : k0_cond1 i = 1#1), ∀ a x, ((![v94] : Fin 1 → IVec S16 32) a x).toNat < S2048.size a)
theorem k0_idx73_inb : ∀ (i : grid0.Coords) (v94 : IVec S16 32) (k0_hw39 : k0_chk39 i v94), ∀ (k0_h1 : k0_cond1 i = 1#1), ∀ a x, ((![v94] : Fin 1 → IVec S16 32) a x).toNat < S2048.size a := fun i v94 k0_hw39 k0_h1 => k0_hw39.1 k0_h1
theorem k0_idx74_inb : ∀ (i : grid0.Coords) (v94 : IVec S16 32) (k0_hw39 : k0_chk39 i v94), ∀ (k0_h1 : k0_cond1 i = 1#1), ∀ a x, ((![v94] : Fin 1 → IVec S16 32) a x).toNat < S2048.size a := fun i v94 k0_hw39 k0_h1 => k0_hw39.2 k0_h1
def k0_off51 (k0_t14 : Fin k0_t14_loop.trips) (c4096_i32 : BitVec 32) : Fin 1 → Nat :=
  let c0_i32_65 : BitVec 32 := 0#32
  let c1_i32_67 : BitVec 32 := 1#32
  let arg17 : BitVec 32 := Scf.iv c0_i32_65 c1_i32_67 k0_t14
  let c16_i32_130 : BitVec 32 := 16#32
  let v87 : BitVec 32 := Scalar.muli arg17 c16_i32_130
  let v88 : BitVec 32 := Scalar.addi v87 c4096_i32
  let v101 : Index := Scalar.indexCast v88
  ![v101.toNat]

def k0_chk40 (i : grid0.Coords) (v110 : IVec S16 32) : Prop :=
  (∀ (k0_h1 : k0_cond1 i = 1#1), ∀ a x, ((![v110] : Fin 1 → IVec S16 32) a x).toNat < S2048.size a) ∧
  (∀ (k0_h1 : k0_cond1 i = 1#1), ∀ a x, ((![v110] : Fin 1 → IVec S16 32) a x).toNat < S2048.size a)
theorem k0_idx75_inb : ∀ (i : grid0.Coords) (v110 : IVec S16 32) (k0_hw40 : k0_chk40 i v110), ∀ (k0_h1 : k0_cond1 i = 1#1), ∀ a x, ((![v110] : Fin 1 → IVec S16 32) a x).toNat < S2048.size a := fun i v110 k0_hw40 k0_h1 => k0_hw40.1 k0_h1
theorem k0_idx76_inb : ∀ (i : grid0.Coords) (v110 : IVec S16 32) (k0_hw40 : k0_chk40 i v110), ∀ (k0_h1 : k0_cond1 i = 1#1), ∀ a x, ((![v110] : Fin 1 → IVec S16 32) a x).toNat < S2048.size a := fun i v110 k0_hw40 k0_h1 => k0_hw40.2 k0_h1
def k0_off52 (k0_t14 : Fin k0_t14_loop.trips) : Fin 1 → Nat :=
  let c0_i32_65 : BitVec 32 := 0#32
  let c1_i32_67 : BitVec 32 := 1#32
  let arg17 : BitVec 32 := Scf.iv c0_i32_65 c1_i32_67 k0_t14
  let c16_i32_137 : BitVec 32 := 16#32
  let v103 : BitVec 32 := Scalar.muli arg17 c16_i32_137
  let c6144_i32 : BitVec 32 := 6144#32
  let v104 : BitVec 32 := Scalar.addi v103 c6144_i32
  let v117 : Index := Scalar.indexCast v104
  ![v117.toNat]
@[reducible] def k0_t15_loop : Scf.Loop 32 :=
  let c0_i32_70 : BitVec 32 := 0#32
  let c128_i32_71 : BitVec 32 := 128#32
  let v35 : BitVec 32 := Scalar.addi c0_i32_70 c128_i32_71
  let c1_i32_72 : BitVec 32 := 1#32
  ⟨c0_i32_70, v35, c1_i32_72⟩
def k0_off53 (k0_t15 : Fin k0_t15_loop.trips) : Fin 1 → Nat :=
  let c0_i32_70 : BitVec 32 := 0#32
  let c1_i32_72 : BitVec 32 := 1#32
  let arg17 : BitVec 32 := Scf.iv c0_i32_70 c1_i32_72 k0_t15
  let c16_i32_119 : BitVec 32 := 16#32
  let v55 : BitVec 32 := Scalar.muli arg17 c16_i32_119
  let v56 : Index := Scalar.indexCast v55
  ![v56.toNat]
@[reducible] def k0_t16_loop : Scf.Loop 32 :=
  let c0_i32_75 : BitVec 32 := 0#32
  let c128_i32_76 : BitVec 32 := 128#32
  let v37 : BitVec 32 := Scalar.addi c0_i32_75 c128_i32_76
  let c1_i32_77 : BitVec 32 := 1#32
  ⟨c0_i32_75, v37, c1_i32_77⟩
def k0_off54 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk41 (i : grid0.Coords) (v62 : IVec S16 32) : Prop :=
  (∀ (k0_h1 : k0_cond1 i = 1#1), ∀ a x, ((![v62] : Fin 1 → IVec S16 32) a x).toNat < S2048.size a)
theorem k0_idx77_inb : ∀ (i : grid0.Coords) (v62 : IVec S16 32) (k0_hw41 : k0_chk41 i v62), ∀ (k0_h1 : k0_cond1 i = 1#1), ∀ a x, ((![v62] : Fin 1 → IVec S16 32) a x).toNat < S2048.size a := fun i v62 k0_hw41 k0_h1 => k0_hw41 k0_h1
def k0_off55 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k0_chk42 (i : grid0.Coords) (v66 : IVec S16 32) : Prop :=
  (∀ (k0_h1 : k0_cond1 i = 1#1), ∀ a x, ((![v66] : Fin 1 → IVec S16 32) a x).toNat < S8192.size a) ∧
  (∀ (k0_h1 : k0_cond1 i = 1#1), ∀ a x, ((![v66] : Fin 1 → IVec S16 32) a x).toNat < S8192.size a)
theorem k0_idx78_inb : ∀ (i : grid0.Coords) (v66 : IVec S16 32) (k0_hw42 : k0_chk42 i v66), ∀ (k0_h1 : k0_cond1 i = 1#1), ∀ a x, ((![v66] : Fin 1 → IVec S16 32) a x).toNat < S8192.size a := fun i v66 k0_hw42 k0_h1 => k0_hw42.1 k0_h1
theorem k0_idx79_inb : ∀ (i : grid0.Coords) (v66 : IVec S16 32) (k0_hw42 : k0_chk42 i v66), ∀ (k0_h1 : k0_cond1 i = 1#1), ∀ a x, ((![v66] : Fin 1 → IVec S16 32) a x).toNat < S8192.size a := fun i v66 k0_hw42 k0_h1 => k0_hw42.2 k0_h1
def k0_off56 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_122 : BitVec 32 := 16#32
  let v69 : BitVec 32 := Scalar.muli arg17 c16_i32_122
  let c2048_i32 : BitVec 32 := 2048#32
  let v70 : BitVec 32 := Scalar.addi v69 c2048_i32
  let v71 : Index := Scalar.indexCast v70
  ![v71.toNat]

def k0_chk43 (i : grid0.Coords) (v76 : IVec S16 32) : Prop :=
  (∀ (k0_h1 : k0_cond1 i = 1#1), ∀ a x, ((![v76] : Fin 1 → IVec S16 32) a x).toNat < S2048.size a)
theorem k0_idx80_inb : ∀ (i : grid0.Coords) (v76 : IVec S16 32) (k0_hw43 : k0_chk43 i v76), ∀ (k0_h1 : k0_cond1 i = 1#1), ∀ a x, ((![v76] : Fin 1 → IVec S16 32) a x).toNat < S2048.size a := fun i v76 k0_hw43 k0_h1 => k0_hw43 k0_h1
def k0_off57 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_122 : BitVec 32 := 16#32
  let v69 : BitVec 32 := Scalar.muli arg17 c16_i32_122
  let c2048_i32 : BitVec 32 := 2048#32
  let v70 : BitVec 32 := Scalar.addi v69 c2048_i32
  let v78 : Index := Scalar.indexCast v70
  ![v78.toNat]

def k0_chk44 (i : grid0.Coords) (v80 : IVec S16 32) : Prop :=
  (∀ (k0_h1 : k0_cond1 i = 1#1), ∀ a x, ((![v80] : Fin 1 → IVec S16 32) a x).toNat < S8192.size a) ∧
  (∀ (k0_h1 : k0_cond1 i = 1#1), ∀ a x, ((![v80] : Fin 1 → IVec S16 32) a x).toNat < S8192.size a)
theorem k0_idx81_inb : ∀ (i : grid0.Coords) (v80 : IVec S16 32) (k0_hw44 : k0_chk44 i v80), ∀ (k0_h1 : k0_cond1 i = 1#1), ∀ a x, ((![v80] : Fin 1 → IVec S16 32) a x).toNat < S8192.size a := fun i v80 k0_hw44 k0_h1 => k0_hw44.1 k0_h1
theorem k0_idx82_inb : ∀ (i : grid0.Coords) (v80 : IVec S16 32) (k0_hw44 : k0_chk44 i v80), ∀ (k0_h1 : k0_cond1 i = 1#1), ∀ a x, ((![v80] : Fin 1 → IVec S16 32) a x).toNat < S8192.size a := fun i v80 k0_hw44 k0_h1 => k0_hw44.2 k0_h1
def k0_off58 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_125 : BitVec 32 := 16#32
  let v83 : BitVec 32 := Scalar.muli arg17 c16_i32_125
  let c4096_i32 : BitVec 32 := 4096#32
  let v84 : BitVec 32 := Scalar.addi v83 c4096_i32
  let v85 : Index := Scalar.indexCast v84
  ![v85.toNat]

def k0_chk45 (i : grid0.Coords) (v90 : IVec S16 32) : Prop :=
  (∀ (k0_h1 : k0_cond1 i = 1#1), ∀ a x, ((![v90] : Fin 1 → IVec S16 32) a x).toNat < S2048.size a)
theorem k0_idx83_inb : ∀ (i : grid0.Coords) (v90 : IVec S16 32) (k0_hw45 : k0_chk45 i v90), ∀ (k0_h1 : k0_cond1 i = 1#1), ∀ a x, ((![v90] : Fin 1 → IVec S16 32) a x).toNat < S2048.size a := fun i v90 k0_hw45 k0_h1 => k0_hw45 k0_h1
def k0_off59 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_125 : BitVec 32 := 16#32
  let v83 : BitVec 32 := Scalar.muli arg17 c16_i32_125
  let c4096_i32 : BitVec 32 := 4096#32
  let v84 : BitVec 32 := Scalar.addi v83 c4096_i32
  let v92 : Index := Scalar.indexCast v84
  ![v92.toNat]

def k0_chk46 (i : grid0.Coords) (v94 : IVec S16 32) : Prop :=
  (∀ (k0_h1 : k0_cond1 i = 1#1), ∀ a x, ((![v94] : Fin 1 → IVec S16 32) a x).toNat < S8192.size a) ∧
  (∀ (k0_h1 : k0_cond1 i = 1#1), ∀ a x, ((![v94] : Fin 1 → IVec S16 32) a x).toNat < S8192.size a)
theorem k0_idx84_inb : ∀ (i : grid0.Coords) (v94 : IVec S16 32) (k0_hw46 : k0_chk46 i v94), ∀ (k0_h1 : k0_cond1 i = 1#1), ∀ a x, ((![v94] : Fin 1 → IVec S16 32) a x).toNat < S8192.size a := fun i v94 k0_hw46 k0_h1 => k0_hw46.1 k0_h1
theorem k0_idx85_inb : ∀ (i : grid0.Coords) (v94 : IVec S16 32) (k0_hw46 : k0_chk46 i v94), ∀ (k0_h1 : k0_cond1 i = 1#1), ∀ a x, ((![v94] : Fin 1 → IVec S16 32) a x).toNat < S8192.size a := fun i v94 k0_hw46 k0_h1 => k0_hw46.2 k0_h1
def k0_off60 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_128 : BitVec 32 := 16#32
  let v97 : BitVec 32 := Scalar.muli arg17 c16_i32_128
  let c6144_i32 : BitVec 32 := 6144#32
  let v98 : BitVec 32 := Scalar.addi v97 c6144_i32
  let v99 : Index := Scalar.indexCast v98
  ![v99.toNat]

def k0_chk47 (i : grid0.Coords) (v104 : IVec S16 32) : Prop :=
  (∀ (k0_h1 : k0_cond1 i = 1#1), ∀ a x, ((![v104] : Fin 1 → IVec S16 32) a x).toNat < S2048.size a)
theorem k0_idx86_inb : ∀ (i : grid0.Coords) (v104 : IVec S16 32) (k0_hw47 : k0_chk47 i v104), ∀ (k0_h1 : k0_cond1 i = 1#1), ∀ a x, ((![v104] : Fin 1 → IVec S16 32) a x).toNat < S2048.size a := fun i v104 k0_hw47 k0_h1 => k0_hw47 k0_h1
def k0_off61 (k0_t16 : Fin k0_t16_loop.trips) : Fin 1 → Nat :=
  let c0_i32_75 : BitVec 32 := 0#32
  let c1_i32_77 : BitVec 32 := 1#32
  let arg17 : BitVec 32 := Scf.iv c0_i32_75 c1_i32_77 k0_t16
  let c16_i32_128 : BitVec 32 := 16#32
  let v97 : BitVec 32 := Scalar.muli arg17 c16_i32_128
  let c6144_i32 : BitVec 32 := 6144#32
  let v98 : BitVec 32 := Scalar.addi v97 c6144_i32
  let v106 : Index := Scalar.indexCast v98
  ![v106.toNat]

def k0_chk48 (i : grid0.Coords) (v108 : IVec S16 32) : Prop :=
  (∀ (k0_h1 : k0_cond1 i = 1#1), ∀ a x, ((![v108] : Fin 1 → IVec S16 32) a x).toNat < S8192.size a) ∧
  (∀ (k0_h1 : k0_cond1 i = 1#1), ∀ a x, ((![v108] : Fin 1 → IVec S16 32) a x).toNat < S8192.size a)
theorem k0_idx87_inb : ∀ (i : grid0.Coords) (v108 : IVec S16 32) (k0_hw48 : k0_chk48 i v108), ∀ (k0_h1 : k0_cond1 i = 1#1), ∀ a x, ((![v108] : Fin 1 → IVec S16 32) a x).toNat < S8192.size a := fun i v108 k0_hw48 k0_h1 => k0_hw48.1 k0_h1
theorem k0_idx88_inb : ∀ (i : grid0.Coords) (v108 : IVec S16 32) (k0_hw48 : k0_chk48 i v108), ∀ (k0_h1 : k0_cond1 i = 1#1), ∀ a x, ((![v108] : Fin 1 → IVec S16 32) a x).toNat < S8192.size a := fun i v108 k0_hw48 k0_h1 => k0_hw48.2 k0_h1
@[reducible] def k0_t17_loop : Scf.Loop 32 :=
  let c0_i32_80 : BitVec 32 := 0#32
  let c128_i32_81 : BitVec 32 := 128#32
  let v39 : BitVec 32 := Scalar.addi c0_i32_80 c128_i32_81
  let c1_i32_82 : BitVec 32 := 1#32
  ⟨c0_i32_80, v39, c1_i32_82⟩
def k0_off62 (k0_t17 : Fin k0_t17_loop.trips) : Fin 1 → Nat :=
  let c0_i32_80 : BitVec 32 := 0#32
  let c1_i32_82 : BitVec 32 := 1#32
  let arg17 : BitVec 32 := Scf.iv c0_i32_80 c1_i32_82 k0_t17
  let c16_i32_119 : BitVec 32 := 16#32
  let v55 : BitVec 32 := Scalar.muli arg17 c16_i32_119
  let v56 : Index := Scalar.indexCast v55
  ![v56.toNat]
@[reducible] def k0_t18_loop : Scf.Loop 32 :=
  let c0_i32_85 : BitVec 32 := 0#32
  let c128_i32_86 : BitVec 32 := 128#32
  let v41 : BitVec 32 := Scalar.addi c0_i32_85 c128_i32_86
  let c1_i32_87 : BitVec 32 := 1#32
  ⟨c0_i32_85, v41, c1_i32_87⟩
def k0_off63 (k0_t18 : Fin k0_t18_loop.trips) : Fin 1 → Nat :=
  let c0_i32_85 : BitVec 32 := 0#32
  let c1_i32_87 : BitVec 32 := 1#32
  let arg17 : BitVec 32 := Scf.iv c0_i32_85 c1_i32_87 k0_t18
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk49 (i : grid0.Coords) (v62 : IVec S16 32) : Prop :=
  (∀ (k0_h1 : k0_cond1 i = 1#1), ∀ a x, ((![v62] : Fin 1 → IVec S16 32) a x).toNat < S2048.size a) ∧
  (∀ (k0_h1 : k0_cond1 i = 1#1), ∀ a x, ((![v62] : Fin 1 → IVec S16 32) a x).toNat < S2048.size a)
theorem k0_idx89_inb : ∀ (i : grid0.Coords) (v62 : IVec S16 32) (k0_hw49 : k0_chk49 i v62), ∀ (k0_h1 : k0_cond1 i = 1#1), ∀ a x, ((![v62] : Fin 1 → IVec S16 32) a x).toNat < S2048.size a := fun i v62 k0_hw49 k0_h1 => k0_hw49.1 k0_h1
theorem k0_idx90_inb : ∀ (i : grid0.Coords) (v62 : IVec S16 32) (k0_hw49 : k0_chk49 i v62), ∀ (k0_h1 : k0_cond1 i = 1#1), ∀ a x, ((![v62] : Fin 1 → IVec S16 32) a x).toNat < S2048.size a := fun i v62 k0_hw49 k0_h1 => k0_hw49.2 k0_h1
def k0_off64 (k0_t18 : Fin k0_t18_loop.trips) (c0_i32_120 : BitVec 32) : Fin 1 → Nat :=
  let c0_i32_85 : BitVec 32 := 0#32
  let c1_i32_87 : BitVec 32 := 1#32
  let arg17 : BitVec 32 := Scf.iv c0_i32_85 c1_i32_87 k0_t18
  let c16_i32_119 : BitVec 32 := 16#32
  let v55 : BitVec 32 := Scalar.muli arg17 c16_i32_119
  let v56 : BitVec 32 := Scalar.addi v55 c0_i32_120
  let v69 : Index := Scalar.indexCast v56
  ![v69.toNat]

def k0_chk50 (i : grid0.Coords) (v78 : IVec S16 32) : Prop :=
  (∀ (k0_h1 : k0_cond1 i = 1#1), ∀ a x, ((![v78] : Fin 1 → IVec S16 32) a x).toNat < S2048.size a) ∧
  (∀ (k0_h1 : k0_cond1 i = 1#1), ∀ a x, ((![v78] : Fin 1 → IVec S16 32) a x).toNat < S2048.size a)
theorem k0_idx91_inb : ∀ (i : grid0.Coords) (v78 : IVec S16 32) (k0_hw50 : k0_chk50 i v78), ∀ (k0_h1 : k0_cond1 i = 1#1), ∀ a x, ((![v78] : Fin 1 → IVec S16 32) a x).toNat < S2048.size a := fun i v78 k0_hw50 k0_h1 => k0_hw50.1 k0_h1
theorem k0_idx92_inb : ∀ (i : grid0.Coords) (v78 : IVec S16 32) (k0_hw50 : k0_chk50 i v78), ∀ (k0_h1 : k0_cond1 i = 1#1), ∀ a x, ((![v78] : Fin 1 → IVec S16 32) a x).toNat < S2048.size a := fun i v78 k0_hw50 k0_h1 => k0_hw50.2 k0_h1
def k0_off65 (k0_t18 : Fin k0_t18_loop.trips) (c2048_i32 : BitVec 32) : Fin 1 → Nat :=
  let c0_i32_85 : BitVec 32 := 0#32
  let c1_i32_87 : BitVec 32 := 1#32
  let arg17 : BitVec 32 := Scf.iv c0_i32_85 c1_i32_87 k0_t18
  let c16_i32_122 : BitVec 32 := 16#32
  let v71 : BitVec 32 := Scalar.muli arg17 c16_i32_122
  let v72 : BitVec 32 := Scalar.addi v71 c2048_i32
  let v85 : Index := Scalar.indexCast v72
  ![v85.toNat]

def k0_chk51 (i : grid0.Coords) (v94 : IVec S16 32) : Prop :=
  (∀ (k0_h1 : k0_cond1 i = 1#1), ∀ a x, ((![v94] : Fin 1 → IVec S16 32) a x).toNat < S2048.size a) ∧
  (∀ (k0_h1 : k0_cond1 i = 1#1), ∀ a x, ((![v94] : Fin 1 → IVec S16 32) a x).toNat < S2048.size a)
theorem k0_idx93_inb : ∀ (i : grid0.Coords) (v94 : IVec S16 32) (k0_hw51 : k0_chk51 i v94), ∀ (k0_h1 : k0_cond1 i = 1#1), ∀ a x, ((![v94] : Fin 1 → IVec S16 32) a x).toNat < S2048.size a := fun i v94 k0_hw51 k0_h1 => k0_hw51.1 k0_h1
theorem k0_idx94_inb : ∀ (i : grid0.Coords) (v94 : IVec S16 32) (k0_hw51 : k0_chk51 i v94), ∀ (k0_h1 : k0_cond1 i = 1#1), ∀ a x, ((![v94] : Fin 1 → IVec S16 32) a x).toNat < S2048.size a := fun i v94 k0_hw51 k0_h1 => k0_hw51.2 k0_h1
def k0_off66 (k0_t18 : Fin k0_t18_loop.trips) (c4096_i32 : BitVec 32) : Fin 1 → Nat :=
  let c0_i32_85 : BitVec 32 := 0#32
  let c1_i32_87 : BitVec 32 := 1#32
  let arg17 : BitVec 32 := Scf.iv c0_i32_85 c1_i32_87 k0_t18
  let c16_i32_129 : BitVec 32 := 16#32
  let v87 : BitVec 32 := Scalar.muli arg17 c16_i32_129
  let v88 : BitVec 32 := Scalar.addi v87 c4096_i32
  let v101 : Index := Scalar.indexCast v88
  ![v101.toNat]

def k0_chk52 (i : grid0.Coords) (v110 : IVec S16 32) : Prop :=
  (∀ (k0_h1 : k0_cond1 i = 1#1), ∀ a x, ((![v110] : Fin 1 → IVec S16 32) a x).toNat < S2048.size a) ∧
  (∀ (k0_h1 : k0_cond1 i = 1#1), ∀ a x, ((![v110] : Fin 1 → IVec S16 32) a x).toNat < S2048.size a)
theorem k0_idx95_inb : ∀ (i : grid0.Coords) (v110 : IVec S16 32) (k0_hw52 : k0_chk52 i v110), ∀ (k0_h1 : k0_cond1 i = 1#1), ∀ a x, ((![v110] : Fin 1 → IVec S16 32) a x).toNat < S2048.size a := fun i v110 k0_hw52 k0_h1 => k0_hw52.1 k0_h1
theorem k0_idx96_inb : ∀ (i : grid0.Coords) (v110 : IVec S16 32) (k0_hw52 : k0_chk52 i v110), ∀ (k0_h1 : k0_cond1 i = 1#1), ∀ a x, ((![v110] : Fin 1 → IVec S16 32) a x).toNat < S2048.size a := fun i v110 k0_hw52 k0_h1 => k0_hw52.2 k0_h1
def k0_off67 (k0_t18 : Fin k0_t18_loop.trips) : Fin 1 → Nat :=
  let c0_i32_85 : BitVec 32 := 0#32
  let c1_i32_87 : BitVec 32 := 1#32
  let arg17 : BitVec 32 := Scf.iv c0_i32_85 c1_i32_87 k0_t18
  let c16_i32_136 : BitVec 32 := 16#32
  let v103 : BitVec 32 := Scalar.muli arg17 c16_i32_136
  let c6144_i32 : BitVec 32 := 6144#32
  let v104 : BitVec 32 := Scalar.addi v103 c6144_i32
  let v117 : Index := Scalar.indexCast v104
  ![v117.toNat]
@[reducible] def k0_t19_loop : Scf.Loop 32 :=
  let c0_i32_90 : BitVec 32 := 0#32
  let c128_i32_91 : BitVec 32 := 128#32
  let v43 : BitVec 32 := Scalar.addi c0_i32_90 c128_i32_91
  let c1_i32_92 : BitVec 32 := 1#32
  ⟨c0_i32_90, v43, c1_i32_92⟩
def k0_off68 (k0_t19 : Fin k0_t19_loop.trips) : Fin 1 → Nat :=
  let c0_i32_90 : BitVec 32 := 0#32
  let c1_i32_92 : BitVec 32 := 1#32
  let arg17 : BitVec 32 := Scf.iv c0_i32_90 c1_i32_92 k0_t19
  let c16_i32_119 : BitVec 32 := 16#32
  let v55 : BitVec 32 := Scalar.muli arg17 c16_i32_119
  let v56 : Index := Scalar.indexCast v55
  ![v56.toNat]
@[reducible] def k0_t20_loop : Scf.Loop 32 :=
  let c0_i32_95 : BitVec 32 := 0#32
  let c128_i32_96 : BitVec 32 := 128#32
  let v45 : BitVec 32 := Scalar.addi c0_i32_95 c128_i32_96
  let c1_i32_97 : BitVec 32 := 1#32
  ⟨c0_i32_95, v45, c1_i32_97⟩
def k0_off69 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk53 (i : grid0.Coords) (v62 : IVec S16 32) : Prop :=
  (∀ (k0_h1 : k0_cond1 i = 1#1), ∀ a x, ((![v62] : Fin 1 → IVec S16 32) a x).toNat < S2048.size a)
theorem k0_idx97_inb : ∀ (i : grid0.Coords) (v62 : IVec S16 32) (k0_hw53 : k0_chk53 i v62), ∀ (k0_h1 : k0_cond1 i = 1#1), ∀ a x, ((![v62] : Fin 1 → IVec S16 32) a x).toNat < S2048.size a := fun i v62 k0_hw53 k0_h1 => k0_hw53 k0_h1
def k0_off70 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k0_chk54 (i : grid0.Coords) (v66 : IVec S16 32) : Prop :=
  (∀ (k0_h1 : k0_cond1 i = 1#1), ∀ a x, ((![v66] : Fin 1 → IVec S16 32) a x).toNat < S8192.size a) ∧
  (∀ (k0_h1 : k0_cond1 i = 1#1), ∀ a x, ((![v66] : Fin 1 → IVec S16 32) a x).toNat < S8192.size a)
theorem k0_idx98_inb : ∀ (i : grid0.Coords) (v66 : IVec S16 32) (k0_hw54 : k0_chk54 i v66), ∀ (k0_h1 : k0_cond1 i = 1#1), ∀ a x, ((![v66] : Fin 1 → IVec S16 32) a x).toNat < S8192.size a := fun i v66 k0_hw54 k0_h1 => k0_hw54.1 k0_h1
theorem k0_idx99_inb : ∀ (i : grid0.Coords) (v66 : IVec S16 32) (k0_hw54 : k0_chk54 i v66), ∀ (k0_h1 : k0_cond1 i = 1#1), ∀ a x, ((![v66] : Fin 1 → IVec S16 32) a x).toNat < S8192.size a := fun i v66 k0_hw54 k0_h1 => k0_hw54.2 k0_h1
def k0_off71 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_121 : BitVec 32 := 16#32
  let v69 : BitVec 32 := Scalar.muli arg17 c16_i32_121
  let c2048_i32 : BitVec 32 := 2048#32
  let v70 : BitVec 32 := Scalar.addi v69 c2048_i32
  let v71 : Index := Scalar.indexCast v70
  ![v71.toNat]

def k0_chk55 (i : grid0.Coords) (v76 : IVec S16 32) : Prop :=
  (∀ (k0_h1 : k0_cond1 i = 1#1), ∀ a x, ((![v76] : Fin 1 → IVec S16 32) a x).toNat < S2048.size a)
theorem k0_idx100_inb : ∀ (i : grid0.Coords) (v76 : IVec S16 32) (k0_hw55 : k0_chk55 i v76), ∀ (k0_h1 : k0_cond1 i = 1#1), ∀ a x, ((![v76] : Fin 1 → IVec S16 32) a x).toNat < S2048.size a := fun i v76 k0_hw55 k0_h1 => k0_hw55 k0_h1
def k0_off72 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_121 : BitVec 32 := 16#32
  let v69 : BitVec 32 := Scalar.muli arg17 c16_i32_121
  let c2048_i32 : BitVec 32 := 2048#32
  let v70 : BitVec 32 := Scalar.addi v69 c2048_i32
  let v78 : Index := Scalar.indexCast v70
  ![v78.toNat]

def k0_chk56 (i : grid0.Coords) (v80 : IVec S16 32) : Prop :=
  (∀ (k0_h1 : k0_cond1 i = 1#1), ∀ a x, ((![v80] : Fin 1 → IVec S16 32) a x).toNat < S8192.size a) ∧
  (∀ (k0_h1 : k0_cond1 i = 1#1), ∀ a x, ((![v80] : Fin 1 → IVec S16 32) a x).toNat < S8192.size a)
theorem k0_idx101_inb : ∀ (i : grid0.Coords) (v80 : IVec S16 32) (k0_hw56 : k0_chk56 i v80), ∀ (k0_h1 : k0_cond1 i = 1#1), ∀ a x, ((![v80] : Fin 1 → IVec S16 32) a x).toNat < S8192.size a := fun i v80 k0_hw56 k0_h1 => k0_hw56.1 k0_h1
theorem k0_idx102_inb : ∀ (i : grid0.Coords) (v80 : IVec S16 32) (k0_hw56 : k0_chk56 i v80), ∀ (k0_h1 : k0_cond1 i = 1#1), ∀ a x, ((![v80] : Fin 1 → IVec S16 32) a x).toNat < S8192.size a := fun i v80 k0_hw56 k0_h1 => k0_hw56.2 k0_h1
def k0_off73 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_124 : BitVec 32 := 16#32
  let v83 : BitVec 32 := Scalar.muli arg17 c16_i32_124
  let c4096_i32 : BitVec 32 := 4096#32
  let v84 : BitVec 32 := Scalar.addi v83 c4096_i32
  let v85 : Index := Scalar.indexCast v84
  ![v85.toNat]

def k0_chk57 (i : grid0.Coords) (v90 : IVec S16 32) : Prop :=
  (∀ (k0_h1 : k0_cond1 i = 1#1), ∀ a x, ((![v90] : Fin 1 → IVec S16 32) a x).toNat < S2048.size a)
theorem k0_idx103_inb : ∀ (i : grid0.Coords) (v90 : IVec S16 32) (k0_hw57 : k0_chk57 i v90), ∀ (k0_h1 : k0_cond1 i = 1#1), ∀ a x, ((![v90] : Fin 1 → IVec S16 32) a x).toNat < S2048.size a := fun i v90 k0_hw57 k0_h1 => k0_hw57 k0_h1
def k0_off74 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_124 : BitVec 32 := 16#32
  let v83 : BitVec 32 := Scalar.muli arg17 c16_i32_124
  let c4096_i32 : BitVec 32 := 4096#32
  let v84 : BitVec 32 := Scalar.addi v83 c4096_i32
  let v92 : Index := Scalar.indexCast v84
  ![v92.toNat]

def k0_chk58 (i : grid0.Coords) (v94 : IVec S16 32) : Prop :=
  (∀ (k0_h1 : k0_cond1 i = 1#1), ∀ a x, ((![v94] : Fin 1 → IVec S16 32) a x).toNat < S8192.size a) ∧
  (∀ (k0_h1 : k0_cond1 i = 1#1), ∀ a x, ((![v94] : Fin 1 → IVec S16 32) a x).toNat < S8192.size a)
theorem k0_idx104_inb : ∀ (i : grid0.Coords) (v94 : IVec S16 32) (k0_hw58 : k0_chk58 i v94), ∀ (k0_h1 : k0_cond1 i = 1#1), ∀ a x, ((![v94] : Fin 1 → IVec S16 32) a x).toNat < S8192.size a := fun i v94 k0_hw58 k0_h1 => k0_hw58.1 k0_h1
theorem k0_idx105_inb : ∀ (i : grid0.Coords) (v94 : IVec S16 32) (k0_hw58 : k0_chk58 i v94), ∀ (k0_h1 : k0_cond1 i = 1#1), ∀ a x, ((![v94] : Fin 1 → IVec S16 32) a x).toNat < S8192.size a := fun i v94 k0_hw58 k0_h1 => k0_hw58.2 k0_h1
def k0_off75 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_127 : BitVec 32 := 16#32
  let v97 : BitVec 32 := Scalar.muli arg17 c16_i32_127
  let c6144_i32 : BitVec 32 := 6144#32
  let v98 : BitVec 32 := Scalar.addi v97 c6144_i32
  let v99 : Index := Scalar.indexCast v98
  ![v99.toNat]

def k0_chk59 (i : grid0.Coords) (v104 : IVec S16 32) : Prop :=
  (∀ (k0_h1 : k0_cond1 i = 1#1), ∀ a x, ((![v104] : Fin 1 → IVec S16 32) a x).toNat < S2048.size a)
theorem k0_idx106_inb : ∀ (i : grid0.Coords) (v104 : IVec S16 32) (k0_hw59 : k0_chk59 i v104), ∀ (k0_h1 : k0_cond1 i = 1#1), ∀ a x, ((![v104] : Fin 1 → IVec S16 32) a x).toNat < S2048.size a := fun i v104 k0_hw59 k0_h1 => k0_hw59 k0_h1
def k0_off76 (k0_t20 : Fin k0_t20_loop.trips) : Fin 1 → Nat :=
  let c0_i32_95 : BitVec 32 := 0#32
  let c1_i32_97 : BitVec 32 := 1#32
  let arg17 : BitVec 32 := Scf.iv c0_i32_95 c1_i32_97 k0_t20
  let c16_i32_127 : BitVec 32 := 16#32
  let v97 : BitVec 32 := Scalar.muli arg17 c16_i32_127
  let c6144_i32 : BitVec 32 := 6144#32
  let v98 : BitVec 32 := Scalar.addi v97 c6144_i32
  let v106 : Index := Scalar.indexCast v98
  ![v106.toNat]

def k0_chk60 (i : grid0.Coords) (v108 : IVec S16 32) : Prop :=
  (∀ (k0_h1 : k0_cond1 i = 1#1), ∀ a x, ((![v108] : Fin 1 → IVec S16 32) a x).toNat < S8192.size a) ∧
  (∀ (k0_h1 : k0_cond1 i = 1#1), ∀ a x, ((![v108] : Fin 1 → IVec S16 32) a x).toNat < S8192.size a)
theorem k0_idx107_inb : ∀ (i : grid0.Coords) (v108 : IVec S16 32) (k0_hw60 : k0_chk60 i v108), ∀ (k0_h1 : k0_cond1 i = 1#1), ∀ a x, ((![v108] : Fin 1 → IVec S16 32) a x).toNat < S8192.size a := fun i v108 k0_hw60 k0_h1 => k0_hw60.1 k0_h1
theorem k0_idx108_inb : ∀ (i : grid0.Coords) (v108 : IVec S16 32) (k0_hw60 : k0_chk60 i v108), ∀ (k0_h1 : k0_cond1 i = 1#1), ∀ a x, ((![v108] : Fin 1 → IVec S16 32) a x).toNat < S8192.size a := fun i v108 k0_hw60 k0_h1 => k0_hw60.2 k0_h1
@[reducible] def k0_t21_loop : Scf.Loop 32 :=
  let c0_i32_100 : BitVec 32 := 0#32
  let c128_i32_101 : BitVec 32 := 128#32
  let v47 : BitVec 32 := Scalar.addi c0_i32_100 c128_i32_101
  let c1_i32_102 : BitVec 32 := 1#32
  ⟨c0_i32_100, v47, c1_i32_102⟩
def k0_off77 (k0_t21 : Fin k0_t21_loop.trips) : Fin 1 → Nat :=
  let c0_i32_100 : BitVec 32 := 0#32
  let c1_i32_102 : BitVec 32 := 1#32
  let arg17 : BitVec 32 := Scf.iv c0_i32_100 c1_i32_102 k0_t21
  let c16_i32_119 : BitVec 32 := 16#32
  let v55 : BitVec 32 := Scalar.muli arg17 c16_i32_119
  let v56 : Index := Scalar.indexCast v55
  ![v56.toNat]
@[reducible] def k0_t22_loop : Scf.Loop 32 :=
  let c0_i32_105 : BitVec 32 := 0#32
  let c128_i32_106 : BitVec 32 := 128#32
  let v49 : BitVec 32 := Scalar.addi c0_i32_105 c128_i32_106
  let c1_i32_107 : BitVec 32 := 1#32
  ⟨c0_i32_105, v49, c1_i32_107⟩
def k0_off78 (k0_t22 : Fin k0_t22_loop.trips) : Fin 1 → Nat :=
  let c0_i32_105 : BitVec 32 := 0#32
  let c1_i32_107 : BitVec 32 := 1#32
  let arg17 : BitVec 32 := Scf.iv c0_i32_105 c1_i32_107 k0_t22
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk61 (i : grid0.Coords) (v62 : IVec S16 32) : Prop :=
  (∀ (k0_h1 : k0_cond1 i = 1#1), ∀ a x, ((![v62] : Fin 1 → IVec S16 32) a x).toNat < S2048.size a) ∧
  (∀ (k0_h1 : k0_cond1 i = 1#1), ∀ a x, ((![v62] : Fin 1 → IVec S16 32) a x).toNat < S2048.size a)
theorem k0_idx109_inb : ∀ (i : grid0.Coords) (v62 : IVec S16 32) (k0_hw61 : k0_chk61 i v62), ∀ (k0_h1 : k0_cond1 i = 1#1), ∀ a x, ((![v62] : Fin 1 → IVec S16 32) a x).toNat < S2048.size a := fun i v62 k0_hw61 k0_h1 => k0_hw61.1 k0_h1
theorem k0_idx110_inb : ∀ (i : grid0.Coords) (v62 : IVec S16 32) (k0_hw61 : k0_chk61 i v62), ∀ (k0_h1 : k0_cond1 i = 1#1), ∀ a x, ((![v62] : Fin 1 → IVec S16 32) a x).toNat < S2048.size a := fun i v62 k0_hw61 k0_h1 => k0_hw61.2 k0_h1
def k0_off79 (k0_t22 : Fin k0_t22_loop.trips) (c0_i32_120 : BitVec 32) : Fin 1 → Nat :=
  let c0_i32_105 : BitVec 32 := 0#32
  let c1_i32_107 : BitVec 32 := 1#32
  let arg17 : BitVec 32 := Scf.iv c0_i32_105 c1_i32_107 k0_t22
  let c16_i32_119 : BitVec 32 := 16#32
  let v55 : BitVec 32 := Scalar.muli arg17 c16_i32_119
  let v56 : BitVec 32 := Scalar.addi v55 c0_i32_120
  let v69 : Index := Scalar.indexCast v56
  ![v69.toNat]

def k0_chk62 (i : grid0.Coords) (v78 : IVec S16 32) : Prop :=
  (∀ (k0_h1 : k0_cond1 i = 1#1), ∀ a x, ((![v78] : Fin 1 → IVec S16 32) a x).toNat < S2048.size a) ∧
  (∀ (k0_h1 : k0_cond1 i = 1#1), ∀ a x, ((![v78] : Fin 1 → IVec S16 32) a x).toNat < S2048.size a)
theorem k0_idx111_inb : ∀ (i : grid0.Coords) (v78 : IVec S16 32) (k0_hw62 : k0_chk62 i v78), ∀ (k0_h1 : k0_cond1 i = 1#1), ∀ a x, ((![v78] : Fin 1 → IVec S16 32) a x).toNat < S2048.size a := fun i v78 k0_hw62 k0_h1 => k0_hw62.1 k0_h1
theorem k0_idx112_inb : ∀ (i : grid0.Coords) (v78 : IVec S16 32) (k0_hw62 : k0_chk62 i v78), ∀ (k0_h1 : k0_cond1 i = 1#1), ∀ a x, ((![v78] : Fin 1 → IVec S16 32) a x).toNat < S2048.size a := fun i v78 k0_hw62 k0_h1 => k0_hw62.2 k0_h1
def k0_off80 (k0_t22 : Fin k0_t22_loop.trips) (c2048_i32 : BitVec 32) : Fin 1 → Nat :=
  let c0_i32_105 : BitVec 32 := 0#32
  let c1_i32_107 : BitVec 32 := 1#32
  let arg17 : BitVec 32 := Scf.iv c0_i32_105 c1_i32_107 k0_t22
  let c16_i32_122 : BitVec 32 := 16#32
  let v71 : BitVec 32 := Scalar.muli arg17 c16_i32_122
  let v72 : BitVec 32 := Scalar.addi v71 c2048_i32
  let v85 : Index := Scalar.indexCast v72
  ![v85.toNat]

def k0_chk63 (i : grid0.Coords) (v94 : IVec S16 32) : Prop :=
  (∀ (k0_h1 : k0_cond1 i = 1#1), ∀ a x, ((![v94] : Fin 1 → IVec S16 32) a x).toNat < S2048.size a) ∧
  (∀ (k0_h1 : k0_cond1 i = 1#1), ∀ a x, ((![v94] : Fin 1 → IVec S16 32) a x).toNat < S2048.size a)
theorem k0_idx113_inb : ∀ (i : grid0.Coords) (v94 : IVec S16 32) (k0_hw63 : k0_chk63 i v94), ∀ (k0_h1 : k0_cond1 i = 1#1), ∀ a x, ((![v94] : Fin 1 → IVec S16 32) a x).toNat < S2048.size a := fun i v94 k0_hw63 k0_h1 => k0_hw63.1 k0_h1
theorem k0_idx114_inb : ∀ (i : grid0.Coords) (v94 : IVec S16 32) (k0_hw63 : k0_chk63 i v94), ∀ (k0_h1 : k0_cond1 i = 1#1), ∀ a x, ((![v94] : Fin 1 → IVec S16 32) a x).toNat < S2048.size a := fun i v94 k0_hw63 k0_h1 => k0_hw63.2 k0_h1
def k0_off81 (k0_t22 : Fin k0_t22_loop.trips) (c4096_i32 : BitVec 32) : Fin 1 → Nat :=
  let c0_i32_105 : BitVec 32 := 0#32
  let c1_i32_107 : BitVec 32 := 1#32
  let arg17 : BitVec 32 := Scf.iv c0_i32_105 c1_i32_107 k0_t22
  let c16_i32_129 : BitVec 32 := 16#32
  let v87 : BitVec 32 := Scalar.muli arg17 c16_i32_129
  let v88 : BitVec 32 := Scalar.addi v87 c4096_i32
  let v101 : Index := Scalar.indexCast v88
  ![v101.toNat]

def k0_chk64 (i : grid0.Coords) (v110 : IVec S16 32) : Prop :=
  (∀ (k0_h1 : k0_cond1 i = 1#1), ∀ a x, ((![v110] : Fin 1 → IVec S16 32) a x).toNat < S2048.size a) ∧
  (∀ (k0_h1 : k0_cond1 i = 1#1), ∀ a x, ((![v110] : Fin 1 → IVec S16 32) a x).toNat < S2048.size a)
theorem k0_idx115_inb : ∀ (i : grid0.Coords) (v110 : IVec S16 32) (k0_hw64 : k0_chk64 i v110), ∀ (k0_h1 : k0_cond1 i = 1#1), ∀ a x, ((![v110] : Fin 1 → IVec S16 32) a x).toNat < S2048.size a := fun i v110 k0_hw64 k0_h1 => k0_hw64.1 k0_h1
theorem k0_idx116_inb : ∀ (i : grid0.Coords) (v110 : IVec S16 32) (k0_hw64 : k0_chk64 i v110), ∀ (k0_h1 : k0_cond1 i = 1#1), ∀ a x, ((![v110] : Fin 1 → IVec S16 32) a x).toNat < S2048.size a := fun i v110 k0_hw64 k0_h1 => k0_hw64.2 k0_h1
def k0_off82 (k0_t22 : Fin k0_t22_loop.trips) : Fin 1 → Nat :=
  let c0_i32_105 : BitVec 32 := 0#32
  let c1_i32_107 : BitVec 32 := 1#32
  let arg17 : BitVec 32 := Scf.iv c0_i32_105 c1_i32_107 k0_t22
  let c16_i32_136 : BitVec 32 := 16#32
  let v103 : BitVec 32 := Scalar.muli arg17 c16_i32_136
  let c6144_i32 : BitVec 32 := 6144#32
  let v104 : BitVec 32 := Scalar.addi v103 c6144_i32
  let v117 : Index := Scalar.indexCast v104
  ![v117.toNat]
@[reducible] def k0_t23_loop : Scf.Loop 32 :=
  let c0_i32_110 : BitVec 32 := 0#32
  let c128_i32_111 : BitVec 32 := 128#32
  let v51 : BitVec 32 := Scalar.addi c0_i32_110 c128_i32_111
  let c1_i32_112 : BitVec 32 := 1#32
  ⟨c0_i32_110, v51, c1_i32_112⟩
def k0_off83 (k0_t23 : Fin k0_t23_loop.trips) : Fin 1 → Nat :=
  let c0_i32_110 : BitVec 32 := 0#32
  let c1_i32_112 : BitVec 32 := 1#32
  let arg17 : BitVec 32 := Scf.iv c0_i32_110 c1_i32_112 k0_t23
  let c16_i32_119 : BitVec 32 := 16#32
  let v55 : BitVec 32 := Scalar.muli arg17 c16_i32_119
  let v56 : Index := Scalar.indexCast v55
  ![v56.toNat]
@[reducible] def k0_t24_loop : Scf.Loop 32 :=
  let c0_i32_115 : BitVec 32 := 0#32
  let c128_i32_116 : BitVec 32 := 128#32
  let v53 : BitVec 32 := Scalar.addi c0_i32_115 c128_i32_116
  let c1_i32_117 : BitVec 32 := 1#32
  ⟨c0_i32_115, v53, c1_i32_117⟩
def k0_off84 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_119 : BitVec 32 := 16#32
  let v55 : BitVec 32 := Scalar.muli arg17 c16_i32_119
  let c0_i32_120 : BitVec 32 := 0#32
  let v56 : BitVec 32 := Scalar.addi v55 c0_i32_120
  let v57 : Index := Scalar.indexCast v56
  ![v57.toNat]

def k0_chk65 (i : grid0.Coords) (v62 : IVec S16 32) : Prop :=
  (∀ (k0_h1 : k0_cond1 i = 1#1), ∀ a x, ((![v62] : Fin 1 → IVec S16 32) a x).toNat < S2048.size a)
theorem k0_idx117_inb : ∀ (i : grid0.Coords) (v62 : IVec S16 32) (k0_hw65 : k0_chk65 i v62), ∀ (k0_h1 : k0_cond1 i = 1#1), ∀ a x, ((![v62] : Fin 1 → IVec S16 32) a x).toNat < S2048.size a := fun i v62 k0_hw65 k0_h1 => k0_hw65 k0_h1
def k0_off85 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_119 : BitVec 32 := 16#32
  let v55 : BitVec 32 := Scalar.muli arg17 c16_i32_119
  let c0_i32_120 : BitVec 32 := 0#32
  let v56 : BitVec 32 := Scalar.addi v55 c0_i32_120
  let v64 : Index := Scalar.indexCast v56
  ![v64.toNat]

def k0_chk66 (i : grid0.Coords) (v66 : IVec S16 32) : Prop :=
  (∀ (k0_h1 : k0_cond1 i = 1#1), ∀ a x, ((![v66] : Fin 1 → IVec S16 32) a x).toNat < S8192.size a)
theorem k0_idx118_inb : ∀ (i : grid0.Coords) (v66 : IVec S16 32) (k0_hw66 : k0_chk66 i v66), ∀ (k0_h1 : k0_cond1 i = 1#1), ∀ a x, ((![v66] : Fin 1 → IVec S16 32) a x).toNat < S8192.size a := fun i v66 k0_hw66 k0_h1 => k0_hw66 k0_h1

def k0_chk67 (i : grid0.Coords) (v68 : IVec S16 32) : Prop :=
  (∀ (k0_h1 : k0_cond1 i = 1#1), ∀ a x, ((![v68] : Fin 1 → IVec S16 32) a x).toNat < S8192.size a)
theorem k0_idx119_inb : ∀ (i : grid0.Coords) (v68 : IVec S16 32) (k0_hw67 : k0_chk67 i v68), ∀ (k0_h1 : k0_cond1 i = 1#1), ∀ a x, ((![v68] : Fin 1 → IVec S16 32) a x).toNat < S8192.size a := fun i v68 k0_hw67 k0_h1 => k0_hw67 k0_h1
def k0_off86 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_121 : BitVec 32 := 16#32
  let v69 : BitVec 32 := Scalar.muli arg17 c16_i32_121
  let c2048_i32 : BitVec 32 := 2048#32
  let v70 : BitVec 32 := Scalar.addi v69 c2048_i32
  let v71 : Index := Scalar.indexCast v70
  ![v71.toNat]

def k0_chk68 (i : grid0.Coords) (v76 : IVec S16 32) : Prop :=
  (∀ (k0_h1 : k0_cond1 i = 1#1), ∀ a x, ((![v76] : Fin 1 → IVec S16 32) a x).toNat < S2048.size a)
theorem k0_idx120_inb : ∀ (i : grid0.Coords) (v76 : IVec S16 32) (k0_hw68 : k0_chk68 i v76), ∀ (k0_h1 : k0_cond1 i = 1#1), ∀ a x, ((![v76] : Fin 1 → IVec S16 32) a x).toNat < S2048.size a := fun i v76 k0_hw68 k0_h1 => k0_hw68 k0_h1
def k0_off87 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_121 : BitVec 32 := 16#32
  let v69 : BitVec 32 := Scalar.muli arg17 c16_i32_121
  let c2048_i32 : BitVec 32 := 2048#32
  let v70 : BitVec 32 := Scalar.addi v69 c2048_i32
  let v78 : Index := Scalar.indexCast v70
  ![v78.toNat]

def k0_chk69 (i : grid0.Coords) (v80 : IVec S16 32) : Prop :=
  (∀ (k0_h1 : k0_cond1 i = 1#1), ∀ a x, ((![v80] : Fin 1 → IVec S16 32) a x).toNat < S8192.size a)
theorem k0_idx121_inb : ∀ (i : grid0.Coords) (v80 : IVec S16 32) (k0_hw69 : k0_chk69 i v80), ∀ (k0_h1 : k0_cond1 i = 1#1), ∀ a x, ((![v80] : Fin 1 → IVec S16 32) a x).toNat < S8192.size a := fun i v80 k0_hw69 k0_h1 => k0_hw69 k0_h1

def k0_chk70 (i : grid0.Coords) (v82 : IVec S16 32) : Prop :=
  (∀ (k0_h1 : k0_cond1 i = 1#1), ∀ a x, ((![v82] : Fin 1 → IVec S16 32) a x).toNat < S8192.size a)
theorem k0_idx122_inb : ∀ (i : grid0.Coords) (v82 : IVec S16 32) (k0_hw70 : k0_chk70 i v82), ∀ (k0_h1 : k0_cond1 i = 1#1), ∀ a x, ((![v82] : Fin 1 → IVec S16 32) a x).toNat < S8192.size a := fun i v82 k0_hw70 k0_h1 => k0_hw70 k0_h1
def k0_off88 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_124 : BitVec 32 := 16#32
  let v83 : BitVec 32 := Scalar.muli arg17 c16_i32_124
  let c4096_i32 : BitVec 32 := 4096#32
  let v84 : BitVec 32 := Scalar.addi v83 c4096_i32
  let v85 : Index := Scalar.indexCast v84
  ![v85.toNat]

def k0_chk71 (i : grid0.Coords) (v90 : IVec S16 32) : Prop :=
  (∀ (k0_h1 : k0_cond1 i = 1#1), ∀ a x, ((![v90] : Fin 1 → IVec S16 32) a x).toNat < S2048.size a)
theorem k0_idx123_inb : ∀ (i : grid0.Coords) (v90 : IVec S16 32) (k0_hw71 : k0_chk71 i v90), ∀ (k0_h1 : k0_cond1 i = 1#1), ∀ a x, ((![v90] : Fin 1 → IVec S16 32) a x).toNat < S2048.size a := fun i v90 k0_hw71 k0_h1 => k0_hw71 k0_h1
def k0_off89 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_124 : BitVec 32 := 16#32
  let v83 : BitVec 32 := Scalar.muli arg17 c16_i32_124
  let c4096_i32 : BitVec 32 := 4096#32
  let v84 : BitVec 32 := Scalar.addi v83 c4096_i32
  let v92 : Index := Scalar.indexCast v84
  ![v92.toNat]

def k0_chk72 (i : grid0.Coords) (v94 : IVec S16 32) : Prop :=
  (∀ (k0_h1 : k0_cond1 i = 1#1), ∀ a x, ((![v94] : Fin 1 → IVec S16 32) a x).toNat < S8192.size a)
theorem k0_idx124_inb : ∀ (i : grid0.Coords) (v94 : IVec S16 32) (k0_hw72 : k0_chk72 i v94), ∀ (k0_h1 : k0_cond1 i = 1#1), ∀ a x, ((![v94] : Fin 1 → IVec S16 32) a x).toNat < S8192.size a := fun i v94 k0_hw72 k0_h1 => k0_hw72 k0_h1

def k0_chk73 (i : grid0.Coords) (v96 : IVec S16 32) : Prop :=
  (∀ (k0_h1 : k0_cond1 i = 1#1), ∀ a x, ((![v96] : Fin 1 → IVec S16 32) a x).toNat < S8192.size a)
theorem k0_idx125_inb : ∀ (i : grid0.Coords) (v96 : IVec S16 32) (k0_hw73 : k0_chk73 i v96), ∀ (k0_h1 : k0_cond1 i = 1#1), ∀ a x, ((![v96] : Fin 1 → IVec S16 32) a x).toNat < S8192.size a := fun i v96 k0_hw73 k0_h1 => k0_hw73 k0_h1
def k0_off90 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_127 : BitVec 32 := 16#32
  let v97 : BitVec 32 := Scalar.muli arg17 c16_i32_127
  let c6144_i32 : BitVec 32 := 6144#32
  let v98 : BitVec 32 := Scalar.addi v97 c6144_i32
  let v99 : Index := Scalar.indexCast v98
  ![v99.toNat]

def k0_chk74 (i : grid0.Coords) (v104 : IVec S16 32) : Prop :=
  (∀ (k0_h1 : k0_cond1 i = 1#1), ∀ a x, ((![v104] : Fin 1 → IVec S16 32) a x).toNat < S2048.size a)
theorem k0_idx126_inb : ∀ (i : grid0.Coords) (v104 : IVec S16 32) (k0_hw74 : k0_chk74 i v104), ∀ (k0_h1 : k0_cond1 i = 1#1), ∀ a x, ((![v104] : Fin 1 → IVec S16 32) a x).toNat < S2048.size a := fun i v104 k0_hw74 k0_h1 => k0_hw74 k0_h1
def k0_off91 (k0_t24 : Fin k0_t24_loop.trips) : Fin 1 → Nat :=
  let c0_i32_115 : BitVec 32 := 0#32
  let c1_i32_117 : BitVec 32 := 1#32
  let arg17 : BitVec 32 := Scf.iv c0_i32_115 c1_i32_117 k0_t24
  let c16_i32_127 : BitVec 32 := 16#32
  let v97 : BitVec 32 := Scalar.muli arg17 c16_i32_127
  let c6144_i32 : BitVec 32 := 6144#32
  let v98 : BitVec 32 := Scalar.addi v97 c6144_i32
  let v106 : Index := Scalar.indexCast v98
  ![v106.toNat]

def k0_chk75 (i : grid0.Coords) (v108 : IVec S16 32) : Prop :=
  (∀ (k0_h1 : k0_cond1 i = 1#1), ∀ a x, ((![v108] : Fin 1 → IVec S16 32) a x).toNat < S8192.size a)
theorem k0_idx127_inb : ∀ (i : grid0.Coords) (v108 : IVec S16 32) (k0_hw75 : k0_chk75 i v108), ∀ (k0_h1 : k0_cond1 i = 1#1), ∀ a x, ((![v108] : Fin 1 → IVec S16 32) a x).toNat < S8192.size a := fun i v108 k0_hw75 k0_h1 => k0_hw75 k0_h1

def k0_chk76 (i : grid0.Coords) (v110 : IVec S16 32) : Prop :=
  (∀ (k0_h1 : k0_cond1 i = 1#1), ∀ a x, ((![v110] : Fin 1 → IVec S16 32) a x).toNat < S8192.size a)
theorem k0_idx128_inb : ∀ (i : grid0.Coords) (v110 : IVec S16 32) (k0_hw76 : k0_chk76 i v110), ∀ (k0_h1 : k0_cond1 i = 1#1), ∀ a x, ((![v110] : Fin 1 → IVec S16 32) a x).toNat < S8192.size a := fun i v110 k0_hw76 k0_h1 => k0_hw76 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== SortReference.lean ====
abbrev S16x8192 : Shape := ⟨2, ![16, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16x8192, .i32⟩
  | .hbm, ⟨1, _⟩ => ⟨S16x8192, .i32⟩
  | .hbm, ⟨2, _⟩ => ⟨S16x8192, .i32⟩
  | .hbm, ⟨3, _⟩ => ⟨S_, .i32⟩
  | .hbm, ⟨4, _⟩ => ⟨S16x8192, .i32⟩
  | .hbm, ⟨5, _⟩ => ⟨S16x8192, .i32⟩
  | .hbm, ⟨6, _⟩ => ⟨S_, .i32⟩
  | .hbm, ⟨7, _⟩ => ⟨S16x8192, .i32⟩
  | .hbm, ⟨8, _⟩ => ⟨S16x8192, .i32⟩
  | .hbm, ⟨9, _⟩ => ⟨S16x8192, .i32⟩
  | .hbm, ⟨10, _⟩ => ⟨S16x8192, .i32⟩
  | .hbm, ⟨11, _⟩ => ⟨S16x8192, .i32⟩
  | .hbm, ⟨12, _⟩ => ⟨S16x8192, .i32⟩
  | .hbm, ⟨13, _⟩ => ⟨S16x8192, .i32⟩
  | _, _ => ⟨S16x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6_0 : Ref sig .tc := ⟨.hbm, 12, rfl⟩
abbrev main_v6_1 : Ref sig .tc := ⟨.hbm, 13, rfl⟩

abbrev nD : Nat := 1
abbrev τ : Topo := Topo.v7x

variable {F : FTy → Type} [FloatOps F]
-- ==== Proof.Keys.lean ====
module

public import proofs.«01_k».proof.Proof.Gen.KernelIdeal

/-! The TensorCore kernel's text in structured form: the double-word arithmetic, the two folds, and the bits. -/

@[expose] public section

noncomputable section

namespace Cert.KernelIdeal.Keys

open Cert.KernelIdeal Idealize.ShloMosaic Idealize.SL.Sem
open Facts₀ Facts

variable {F : FTy → Type} [FloatOps F] {s : Shape}

/-- The rounding error of a sum. -/
def sumErr (a b : FVec F s .f32) : FVec F s .f32 :=
  addf (subf a (subf (addf a b) (subf (addf a b) a))) (subf b (subf (addf a b) a))

/-- A sum renormalised: the high word is `addf a b`, this is the low one. -/
def fastErr (a b : FVec F s .f32) : FVec F s .f32 := subf b (subf (addf a b) a)

def addLow (ah al bh bl : FVec F s .f32) : FVec F s .f32 := addf (sumErr ah bh) (addf al bl)

def addHi (ah al bh bl : FVec F s .f32) : FVec F s .f32 := addf (addf ah bh) (addLow ah al bh bl)

def addLo (ah al bh bl : FVec F s .f32) : FVec F s .f32 := fastErr (addf ah bh) (addLow ah al bh bl)

def splitHi (a : FVec F s .f32) : FVec F s .f32 :=
  subf (mulf a (broadcast s (Scalar.ofBits .f32 0x45800800#32)))
    (subf (mulf a (broadcast s (Scalar.ofBits .f32 0x45800800#32))) a)

def splitLo (a : FVec F s .f32) : FVec F s .f32 := subf a (splitHi a)

/-- The rounding error of a product, from the two factors' halves. -/
def prodErr (p ah al bh bl : FVec F s .f32) : FVec F s .f32 :=
  addf (addf (addf (subf (mulf ah bh) p) (mulf ah bl)) (mulf al bh)) (mulf al bl)

def sqErr (a : FVec F s .f32) : FVec F s .f32 :=
  prodErr (mulf a a) (splitHi a) (splitLo a) (splitHi a) (splitLo a)

def sqLow (ah al : FVec F s .f32) : FVec F s .f32 := addf (sqErr ah) (addf (mulf ah al) (mulf al ah))

def sqHi (ah al : FVec F s .f32) : FVec F s .f32 := addf (mulf ah ah) (sqLow ah al)

def sqLo (ah al : FVec F s .f32) : FVec F s .f32 := fastErr (mulf ah ah) (sqLow ah al)

def neg (a : FVec F s .f32) : FVec F s .f32 := subf (broadcast s (Scalar.ofBits .f32 0x00000000#32)) a

/-- One step of a fold: the two halves of an array, added. -/
def sumStep {s : Shape} (t : Shape) (o p : Fin s.rank → Nat) (ho : s.Slices o t) (hp : s.Slices p t)
    (x : FVec F s .f32 × FVec F s .f32) : FVec F t .f32 × FVec F t .f32 :=
  (addHi (extractStridedSlice t o x.1 ho) (extractStridedSlice t o x.2 ho)
    (extractStridedSlice t p x.1 hp) (extractStridedSlice t p x.2 hp),
   addLo (extractStridedSlice t o x.1 ho) (extractStridedSlice t o x.2 ho)
    (extractStridedSlice t p x.1 hp) (extractStridedSlice t p x.2 hp))

/-- Which of two double words is the greater. -/
def above (ah al bh bl : FVec F s .f32) : IVec s 1 :=
  ori (cmpf .ogt ah bh) (andi (cmpf .oeq ah bh) (cmpf .ogt al bl))

/-- One step of a fold: the greater of the two halves. -/
def maxStep {s : Shape} (t : Shape) (o p : Fin s.rank → Nat) (ho : s.Slices o t) (hp : s.Slices p t)
    (x : FVec F s .f32 × FVec F s .f32) : FVec F t .f32 × FVec F t .f32 :=
  (select (above (extractStridedSlice t o x.1 ho) (extractStridedSlice t o x.2 ho)
      (extractStridedSlice t p x.1 hp) (extractStridedSlice t p x.2 hp))
    (extractStridedSlice t o x.1 ho) (extractStridedSlice t p x.1 hp),
   select (above (extractStridedSlice t o x.1 ho) (extractStridedSlice t o x.2 ho)
      (extractStridedSlice t p x.1 hp) (extractStridedSlice t p x.2 hp))
    (extractStridedSlice t o x.2 ho) (extractStridedSlice t p x.2 hp))

def foldSum (x : FVec F S64x128 .f32 × FVec F S64x128 .f32) : FVec F S1x1 .f32 × FVec F S1x1 .f32 :=
  sumStep S1x1 ![0, 0] ![0, 1] slices_S1x2_o0_0_S1x1 slices_S1x2_o0_1_S1x1 <|
  sumStep S1x2 ![0, 0] ![0, 2] slices_S1x4_o0_0_S1x2 slices_S1x4_o0_2_S1x2 <|
  sumStep S1x4 ![0, 0] ![0, 4] slices_S1x8_o0_0_S1x4 slices_S1x8_o0_4_S1x4 <|
  sumStep S1x8 ![0, 0] ![0, 8] slices_S1x16_o0_0_S1x8 slices_S1x16_o0_8_S1x8 <|
  sumStep S1x16 ![0, 0] ![0, 16] slices_S1x32_o0_0_S1x16 slices_S1x32_o0_16_S1x16 <|
  sumStep S1x32 ![0, 0] ![0, 32] slices_S1x64_o0_0_S1x32 slices_S1x64_o0_32_S1x32 <|
  sumStep S1x64 ![0, 0] ![0, 64] slices_S1x128_o0_0_S1x64 slices_S1x128_o0_64_S1x64 <|
  sumStep S1x128 ![0, 0] ![1, 0] slices_S2x128_o0_0_S1x128 slices_S2x128_o1_0_S1x128 <|
  sumStep S2x128 ![0, 0] ![2, 0] slices_S4x128_o0_0_S2x128 slices_S4x128_o2_0_S2x128 <|
  sumStep S4x128 ![0, 0] ![4, 0] slices_S8x128_o0_0_S4x128 slices_S8x128_o4_0_S4x128 <|
  sumStep S8x128 ![0, 0] ![8, 0] slices_S16x128_o0_0_S8x128 slices_S16x128_o8_0_S8x128 <|
  sumStep S16x128 ![0, 0] ![16, 0] slices_S32x128_o0_0_S16x128 slices_S32x128_o16_0_S16x128 <|
  sumStep S32x128 ![0, 0] ![32, 0] slices_S64x128_o0_0_S32x128 slices_S64x128_o32_0_S32x128 x

def foldMax (x : FVec F S64x128 .f32 × FVec F S64x128 .f32) : FVec F S1x1 .f32 × FVec F S1x1 .f32 :=
  maxStep S1x1 ![0, 0] ![0, 1] slices_S1x2_o0_0_S1x1 slices_S1x2_o0_1_S1x1 <|
  maxStep S1x2 ![0, 0] ![0, 2] slices_S1x4_o0_0_S1x2 slices_S1x4_o0_2_S1x2 <|
  maxStep S1x4 ![0, 0] ![0, 4] slices_S1x8_o0_0_S1x4 slices_S1x8_o0_4_S1x4 <|
  maxStep S1x8 ![0, 0] ![0, 8] slices_S1x16_o0_0_S1x8 slices_S1x16_o0_8_S1x8 <|
  maxStep S1x16 ![0, 0] ![0, 16] slices_S1x32_o0_0_S1x16 slices_S1x32_o0_16_S1x16 <|
  maxStep S1x32 ![0, 0] ![0, 32] slices_S1x64_o0_0_S1x32 slices_S1x64_o0_32_S1x32 <|
  maxStep S1x64 ![0, 0] ![0, 64] slices_S1x128_o0_0_S1x64 slices_S1x128_o0_64_S1x64 <|
  maxStep S1x128 ![0, 0] ![1, 0] slices_S2x128_o0_0_S1x128 slices_S2x128_o1_0_S1x128 <|
  maxStep S2x128 ![0, 0] ![2, 0] slices_S4x128_o0_0_S2x128 slices_S4x128_o2_0_S2x128 <|
  maxStep S4x128 ![0, 0] ![4, 0] slices_S8x128_o0_0_S4x128 slices_S8x128_o4_0_S4x128 <|
  maxStep S8x128 ![0, 0] ![8, 0] slices_S16x128_o0_0_S8x128 slices_S16x128_o8_0_S8x128 <|
  maxStep S16x128 ![0, 0] ![16, 0] slices_S32x128_o0_0_S16x128 slices_S32x128_o16_0_S16x128 <|
  maxStep S32x128 ![0, 0] ![32, 0] slices_S64x128_o0_0_S32x128 slices_S64x128_o32_0_S32x128 x

/-- The mean of the coordinates, two words. -/
def mean (x : FVec F S64x128 .f32) : FVec F S1x1 .f32 × FVec F S1x1 .f32 :=
  (mulf (foldSum (x, broadcast S64x128 (Scalar.ofBits .f32 0x00000000#32))).1
     (broadcast S1x1 (Scalar.ofBits .f32 0x39000000#32)),
   mulf (foldSum (x, broadcast S64x128 (Scalar.ofBits .f32 0x00000000#32))).2
     (broadcast S1x1 (Scalar.ofBits .f32 0x39000000#32)))

/-- One word spread over the array. -/
def spread (a : FVec F S1x1 .f32) : FVec F S64x128 .f32 := broadcastTo S64x128 a broadcasts_S1x1_S64x128

/-- The points less their mean. -/
def centred (x : FVec F S64x128 .f32) (m : FVec F S1x1 .f32 × FVec F S1x1 .f32) :
    FVec F S64x128 .f32 × FVec F S64x128 .f32 :=
  (addf (addf x (spread (neg m.1))) (subf (sumErr x (spread (neg m.1))) (spread m.2)),
   fastErr (addf x (spread (neg m.1))) (subf (sumErr x (spread (neg m.1))) (spread m.2)))

def sq (d : FVec F s .f32 × FVec F s .f32) : FVec F s .f32 × FVec F s .f32 := (sqHi d.1 d.2, sqLo d.1 d.2)

def add (a b : FVec F s .f32 × FVec F s .f32) : FVec F s .f32 × FVec F s .f32 :=
  (addHi a.1 a.2 b.1 b.2, addLo a.1 a.2 b.1 b.2)

/-- The correction to the root of the high word. -/
def rootLow (a : FVec F s .f32 × FVec F s .f32) : FVec F s .f32 :=
  divf (addHi a.1 a.2 (neg (mulf (sqrt a.1) (sqrt a.1))) (neg (sqErr (sqrt a.1))))
    (mulf (broadcast s (Scalar.ofBits .f32 0x40000000#32)) (sqrt a.1))

def root (a : FVec F s .f32 × FVec F s .f32) : FVec F s .f32 × FVec F s .f32 :=
  (addf (sqrt a.1) (rootLow a), fastErr (sqrt a.1) (rootLow a))

/-- The radius. -/
def radius (a : FVec F s .f32 × FVec F s .f32) : FVec F s .f32 × FVec F s .f32 :=
  add (root a) (broadcast s (Scalar.ofBits .f32 0x358637BD#32), broadcast s (Scalar.ofBits .f32 0x2735ED8D#32))

/-- The quotient's remainder, over the radius: the correction to the quotient `q` of the high words. -/
def quotLow (n : FVec F S64x128 .f32 × FVec F S64x128 .f32) (r : FVec F S1x1 .f32 × FVec F S1x1 .f32)
    (q : FVec F S64x128 .f32) : FVec F S64x128 .f32 :=
  divf (addHi n.1 n.2 (neg (mulf q (spread r.1)))
      (neg (addf (prodErr (mulf q (spread r.1)) (splitHi q) (splitLo q) (spread (splitHi r.1)) (spread (splitLo r.1)))
        (mulf q (spread r.2)))))
    (spread r.1)

def quot (n : FVec F S64x128 .f32 × FVec F S64x128 .f32) (r : FVec F S1x1 .f32 × FVec F S1x1 .f32) :
    FVec F S64x128 .f32 × FVec F S64x128 .f32 :=
  (addf (divf n.1 (spread r.1)) (quotLow n r (divf n.1 (spread r.1))),
   fastErr (divf n.1 (spread r.1)) (quotLow n r (divf n.1 (spread r.1))))

def scaled (a : FVec F S64x128 .f32) : FVec F S64x128 .f32 :=
  mulf a (broadcast S64x128 (Scalar.ofBits .f32 0x49000000#32))

/-- The whole part of a scaled double word, and the grid's offset. -/
def gridOf (q : FVec F S64x128 .f32 × FVec F S64x128 .f32) : IVec S64x128 32 :=
  addi (addi (fptosi 32 (floor (scaled q.1)))
      (fptosi 32 (floor (addf (subf (scaled q.1) (floor (scaled q.1))) (scaled q.2)))))
    (broadcast S64x128 32767#32)

def gridPt (d : FVec F S64x128 .f32 × FVec F S64x128 .f32) (r : FVec F S1x1 .f32 × FVec F S1x1 .f32) : IVec S64x128 32 :=
  gridOf (quot (add d (spread r.1, spread r.2)) r)

/-- Whether the bit is set. -/
def on (c : IVec s 32) (Q : BitVec 32) : IVec s 1 :=
  cmpi .ne (andi c (broadcast s Q)) (broadcast s 0#32)

def first (Q P : BitVec 32) (a : IVec s 32) : IVec s 32 :=
  select (on a Q) (xori a (broadcast s P)) a

/-- The first coordinate after the step with another one. -/
def stepA (Q P : BitVec 32) (a b : IVec s 32) : IVec s 32 :=
  select (on b Q) (xori a (broadcast s P)) (xori a (andi (xori a b) (broadcast s P)))

def stepB (Q P : BitVec 32) (a b : IVec s 32) : IVec s 32 :=
  select (on b Q) b (xori b (andi (xori a b) (broadcast s P)))

abbrev Pts (s : Shape) := IVec s 32 × IVec s 32 × IVec s 32

/-- One level of the curve. -/
def level (x : Pts s) (Q P : BitVec 32) : Pts s :=
  (stepA Q P (stepA Q P (first Q P x.1) x.2.1) x.2.2,
   stepB Q P (first Q P x.1) x.2.1,
   stepB Q P (stepA Q P (first Q P x.1) x.2.1) x.2.2)

def turn (c t : IVec s 32) (Q P : BitVec 32) : IVec s 32 :=
  select (on c Q) (xori t (broadcast s P)) t

/-- One bit of a coordinate, at its place in the key. -/
def bitAt (w : IVec s 32) (c : IVec s 32) (q p : BitVec 32) : IVec s 32 :=
  ori w (shli (andi (shrsi c (broadcast s q)) (broadcast s 1#32)) (broadcast s p))

def levels (x : Pts s) : Pts s :=
  level (level (level (level (level (level (level (level (level (level (level (level (level (level (level (level
    (level (level (level (level x
    1048576#32 1048575#32) 524288#32 524287#32) 262144#32 262143#32) 131072#32 131071#32) 65536#32 65535#32)
    32768#32 32767#32) 16384#32 16383#32) 8192#32 8191#32) 4096#32 4095#32) 2048#32 2047#32) 1024#32 1023#32)
    512#32 511#32) 256#32 255#32) 128#32 127#32) 64#32 63#32) 32#32 31#32) 16#32 15#32) 8#32 7#32) 4#32 3#32) 2#32 1#32

/-- The last correction's word. -/
def lastTurn (c : IVec s 32) : IVec s 32 :=
  turn c (turn c (turn c (turn c (turn c (turn c (turn c (turn c (turn c (turn c (turn c (turn c (turn c (turn c (turn c
    (turn c (turn c (turn c (turn c (turn c (broadcast s 0#32)
    1048576#32 1048575#32) 524288#32 524287#32) 262144#32 262143#32) 131072#32 131071#32) 65536#32 65535#32)
    32768#32 32767#32) 16384#32 16383#32) 8192#32 8191#32) 4096#32 4095#32) 2048#32 2047#32) 1024#32 1023#32)
    512#32 511#32) 256#32 255#32) 128#32 127#32) 64#32 63#32) 32#32 31#32) 16#32 15#32) 8#32 7#32) 4#32 3#32) 2#32 1#32

def grays (x : Pts s) : Pts s := (x.1, xori x.2.1 x.1, xori x.2.2 (xori x.2.1 x.1))

def turned (x : Pts s) : Pts s := (xori x.1 (lastTurn x.2.2), xori x.2.1 (lastTurn x.2.2), xori x.2.2 (lastTurn x.2.2))

def hiWord (x : Pts s) : IVec s 32 :=
  bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (broadcast s 0#32)
    x.1 10#32 0#32) x.1 11#32 3#32) x.2.1 11#32 2#32) x.2.2 11#32 1#32) x.1 12#32 6#32) x.2.1 12#32 5#32)
    x.2.2 12#32 4#32) x.1 13#32 9#32) x.2.1 13#32 8#32) x.2.2 13#32 7#32) x.1 14#32 12#32) x.2.1 14#32 11#32)
    x.2.2 14#32 10#32) x.1 15#32 15#32) x.2.1 15#32 14#32) x.2.2 15#32 13#32) x.1 16#32 18#32) x.2.1 16#32 17#32)
    x.2.2 16#32 16#32) x.1 17#32 21#32) x.2.1 17#32 20#32) x.2.2 17#32 19#32) x.1 18#32 24#32) x.2.1 18#32 23#32)
    x.2.2 18#32 22#32) x.1 19#32 27#32) x.2.1 19#32 26#32) x.2.2 19#32 25#32) x.1 20#32 30#32) x.2.1 20#32 29#32)
    x.2.2 20#32 28#32

def loWord (x : Pts s) : IVec s 32 :=
  bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (bitAt (broadcast s 0#32)
    x.1 0#32 2#32) x.2.1 0#32 1#32) x.2.2 0#32 0#32) x.1 1#32 5#32) x.2.1 1#32 4#32) x.2.2 1#32 3#32)
    x.1 2#32 8#32) x.2.1 2#32 7#32) x.2.2 2#32 6#32) x.1 3#32 11#32) x.2.1 3#32 10#32) x.2.2 3#32 9#32)
    x.1 4#32 14#32) x.2.1 4#32 13#32) x.2.2 4#32 12#32) x.1 5#32 17#32) x.2.1 5#32 16#32) x.2.2 5#32 15#32)
    x.1 6#32 20#32) x.2.1 6#32 19#32) x.2.2 6#32 18#32) x.1 7#32 23#32) x.2.1 7#32 22#32) x.2.2 7#32 21#32)
    x.1 8#32 26#32) x.2.1 8#32 25#32) x.2.2 8#32 24#32) x.1 9#32 29#32) x.2.1 9#32 28#32) x.2.2 9#32 27#32)
    x.2.1 10#32 31#32) x.2.2 10#32 30#32

def gridPts (x y w : FVec F S64x128 .f32) : Pts S64x128 :=
  let d0 := centred x (mean x)
  let d1 := centred y (mean y)
  let d2 := centred w (mean w)
  let r := radius (foldMax (add (add (sq d0) (sq d1)) (sq d2)))
  (gridPt d0 r, gridPt d1 r, gridPt d2 r)

/-- The key's two words. -/
def keyHi (x y w : FVec F S64x128 .f32) : IVec S64x128 32 := hiWord (turned (grays (levels (gridPts x y w))))

def keyLo (x y w : FVec F S64x128 .f32) : IVec S64x128 32 := loWord (turned (grays (levels (gridPts x y w))))

end Cert.KernelIdeal.Keys
-- ==== Proof.RefKeys.lean ====
/-
  The reference's words of the curve from its grid points. Its steps are the kernel's, over the whole array at once; it
  gathers the bits by shifting, where the kernel sets each at its place (`gather_eq`).
-/
module

public import proofs.«01_k».proof.Proof.Keys
public import proofs.«01_k».proof.Proof.Gen.ReferenceIdeal.Run

@[expose] public section

set_option maxRecDepth 8192

noncomputable section

namespace Cert.Proof.RefKeys

open Cert.ReferenceIdeal Cert.ReferenceIdeal.Gen Cert.ReferenceIdeal.Value
open Idealize.ShloMosaic
open Cert.KernelIdeal.Keys

variable {F : FTy → Type} [FloatOps F]

/-! ## Bits gathered by shifting, and set at their places -/

/-- One bit of a coordinate. -/
def bit (c : Fin 3 → BitVec 32) (k : Fin 3) (q : Nat) : BitVec 32 := (c k).sshiftRight q &&& 1#32

def shifted (c : Fin 3 → BitVec 32) (l : List (Fin 3 × Nat)) (w : BitVec 32) : BitVec 32 :=
  l.foldl (fun w t => (w <<< 1) ||| bit c t.1 t.2) w

def placed (c : Fin 3 → BitVec 32) (l : List (Fin 3 × Nat × Nat)) (w : BitVec 32) : BitVec 32 :=
  l.foldl (fun w t => w ||| bit c t.1 t.2.1 <<< t.2.2) w

/-- The bits' places. -/
def placesOf : List (Fin 3 × Nat) → List (Fin 3 × Nat × Nat)
  | [] => []
  | t :: l => (t.1, t.2, l.length) :: placesOf l

theorem shifted_placed (c : Fin 3 → BitVec 32) : ∀ (l : List (Fin 3 × Nat)) (w : BitVec 32),
    shifted c l w = placed c (placesOf l) (w <<< l.length)
  | [], w => by simp [shifted, placed, placesOf]
  | t :: l, w => by
    refine (shifted_placed c l ((w <<< 1) ||| bit c t.1 t.2)).trans ?_
    rw [BitVec.shiftLeft_or_distrib, ← BitVec.shiftLeft_add, Nat.add_comm 1]
    rfl

instance : RightCommutative (fun (w : BitVec 32) (t : BitVec 32) => w ||| t) := ⟨fun a b c => by rw [BitVec.or_assoc, BitVec.or_comm b, ← BitVec.or_assoc]⟩

theorem placed_perm (c : Fin 3 → BitVec 32) {l l' : List (Fin 3 × Nat × Nat)} (h : l.Perm l') (w : BitVec 32) : placed c l w = placed c l' w := by
  have e : ∀ l, placed c l w = (l.map fun t => bit c t.1 t.2.1 <<< t.2.2).foldl (fun w t => w ||| t) w := fun l => by
    unfold placed; rw [List.foldl_map]
  rw [e, e]
  exact (h.map _).foldl_eq w

theorem gather_eq (c : Fin 3 → BitVec 32) (l : List (Fin 3 × Nat)) (l' : List (Fin 3 × Nat × Nat)) (h : (placesOf l).Perm l') :
    shifted c l 0#32 = placed c l' 0#32 := by
  rw [shifted_placed, BitVec.zero_shiftLeft, placed_perm c h]

/-- The two words' bits in the order the reference shifts them in, and in the order the kernel sets them. -/
def hiBits : List (Fin 3 × Nat) :=
  [(0, 20), (1, 20), (2, 20), (0, 19), (1, 19), (2, 19), (0, 18), (1, 18), (2, 18), (0, 17), (1, 17), (2, 17), (0, 16), (1, 16), (2, 16), (0, 15), (1, 15),
    (2, 15), (0, 14), (1, 14), (2, 14), (0, 13), (1, 13), (2, 13), (0, 12), (1, 12), (2, 12), (0, 11), (1, 11), (2, 11), (0, 10)]
def loBits : List (Fin 3 × Nat) :=
  [(1, 10), (2, 10), (0, 9), (1, 9), (2, 9), (0, 8), (1, 8), (2, 8), (0, 7), (1, 7), (2, 7), (0, 6), (1, 6), (2, 6), (0, 5), (1, 5), (2, 5), (0, 4), (1, 4),
    (2, 4), (0, 3), (1, 3), (2, 3), (0, 2), (1, 2), (2, 2), (0, 1), (1, 1), (2, 1), (0, 0), (1, 0), (2, 0)]
def hiPlaces : List (Fin 3 × Nat × Nat) :=
  [(0, 10, 0), (0, 11, 3), (1, 11, 2), (2, 11, 1), (0, 12, 6), (1, 12, 5), (2, 12, 4), (0, 13, 9), (1, 13, 8), (2, 13, 7), (0, 14, 12), (1, 14, 11),
    (2, 14, 10), (0, 15, 15), (1, 15, 14), (2, 15, 13), (0, 16, 18), (1, 16, 17), (2, 16, 16), (0, 17, 21), (1, 17, 20), (2, 17, 19), (0, 18, 24), (1, 18, 23),
    (2, 18, 22), (0, 19, 27), (1, 19, 26), (2, 19, 25), (0, 20, 30), (1, 20, 29), (2, 20, 28)]
def loPlaces : List (Fin 3 × Nat × Nat) :=
  [(0, 0, 2), (1, 0, 1), (2, 0, 0), (0, 1, 5), (1, 1, 4), (2, 1, 3), (0, 2, 8), (1, 2, 7), (2, 2, 6), (0, 3, 11), (1, 3, 10), (2, 3, 9), (0, 4, 14),
    (1, 4, 13), (2, 4, 12), (0, 5, 17), (1, 5, 16), (2, 5, 15), (0, 6, 20), (1, 6, 19), (2, 6, 18), (0, 7, 23), (1, 7, 22), (2, 7, 21), (0, 8, 26), (1, 8, 25),
    (2, 8, 24), (0, 9, 29), (1, 9, 28), (2, 9, 27), (1, 10, 31), (2, 10, 30)]

theorem hi_perm : (placesOf hiBits).Perm hiPlaces := by decide +kernel
theorem lo_perm : (placesOf loBits).Perm loPlaces := by decide +kernel

section Words

variable {s : Shape}

/-- The three coordinates of one element. -/
def three (x : Pts s) (i : s.Idx) : Fin 3 → BitVec 32 := ![x.1 i, x.2.1 i, x.2.2 i]

theorem bitAt_apply (w c : IVec s 32) (q p : BitVec 32) (hq : q.toNat < 32) (hp : p.toNat < 32) (i : s.Idx) :
    bitAt w c q p i = w i ||| ((c i).sshiftRight q.toNat &&& 1#32) <<< p.toNat := by
  show w i ||| IntOp.shli .vector (IntOp.shrsi .vector (c i) q &&& 1#32) p = _
  unfold IntOp.shli IntOp.shrsi
  rw [if_pos hp, if_pos hq]
  rfl

/-- The reference's step. -/
def push (w c : IVec s 32) (q : BitVec 32) : IVec s 32 :=
  ori (Host.shli w (broadcast s 1#32)) (andi (Host.shrsi c (broadcast s q)) (broadcast s 1#32))

theorem push_apply (w c : IVec s 32) (q : BitVec 32) (hq : q.toNat < 32) (i : s.Idx) :
    push w c q i = (w i <<< 1) ||| ((c i).sshiftRight q.toNat &&& 1#32) := by
  show IntOp.shli .host (w i) 1#32 ||| (IntOp.shrsi .host (c i) q &&& 1#32) = _
  unfold IntOp.shli IntOp.shrsi
  rw [if_pos (by decide), if_pos hq]
  rfl

theorem hiWord_apply (x : Pts s) (i : s.Idx) : hiWord x i = placed (three x i) hiPlaces 0#32 := by
  unfold hiWord
  simp (disch := decide) only [bitAt_apply]
  rfl

theorem loWord_apply (x : Pts s) (i : s.Idx) : loWord x i = placed (three x i) loPlaces 0#32 := by
  unfold loWord
  simp (disch := decide) only [bitAt_apply]
  rfl

theorem level_at {t : Shape} {x : Pts s} {y : Pts t} {i : s.Idx} {j : t.Idx} {Q P : BitVec 32} (h : three x i = three y j) :
    three (level x Q P) i = three (level y Q P) j := by
  have h0 : x.1 i = y.1 j := congrFun h 0
  have h1 : x.2.1 i = y.2.1 j := congrFun h 1
  have h2 : x.2.2 i = y.2.2 j := congrFun h 2
  unfold three level stepA stepB first on
  simp only [select, cmpi, andi, xori, broadcast, h0, h1, h2]

theorem grays_at {t : Shape} {x : Pts s} {y : Pts t} {i : s.Idx} {j : t.Idx} (h : three x i = three y j) :
    three (grays x) i = three (grays y) j := by
  have h0 : x.1 i = y.1 j := congrFun h 0
  have h1 : x.2.1 i = y.2.1 j := congrFun h 1
  have h2 : x.2.2 i = y.2.2 j := congrFun h 2
  unfold three grays
  simp only [xori, h0, h1, h2]

theorem turn_at {t : Shape} {c u : IVec s 32} {c' u' : IVec t 32} {i : s.Idx} {j : t.Idx} {Q P : BitVec 32} (hc : c i = c' j) (hu : u i = u' j) :
    turn c u Q P i = turn c' u' Q P j := by
  unfold turn on
  simp only [select, cmpi, andi, xori, broadcast, hc, hu]

theorem turned_at {t : Shape} {x : Pts s} {y : Pts t} {i : s.Idx} {j : t.Idx} (h : three x i = three y j) :
    three (turned x) i = three (turned y) j := by
  have h0 : x.1 i = y.1 j := congrFun h 0
  have h1 : x.2.1 i = y.2.1 j := congrFun h 1
  have h2 : x.2.2 i = y.2.2 j := congrFun h 2
  have e : lastTurn x.2.2 i = lastTurn y.2.2 j := by
    unfold lastTurn
    iterate 20 refine turn_at h2 ?_
    rfl
  unfold three turned
  simp only [xori, h0, h1, h2, e]

/-- Both words of one element depend on its grid point alone. -/
theorem curve_apply {t : Shape} (x : Pts s) (y : Pts t) (i : s.Idx) (j : t.Idx) (h : three x i = three y j) :
    three (turned (grays (levels x))) i = three (turned (grays (levels y))) j := by
  unfold Cert.KernelIdeal.Keys.levels
  refine turned_at (grays_at ?_)
  iterate 20 refine level_at ?_
  exact h

end Words

/-! ## The reference's chain -/

variable (V0 : Valuation τ sig (Elt F))

theorem spread_word (dims) (h : Shape.BroadcastsInDim S_ S16x8192 dims) (q : BitVec 32) :
    broadcastInDim S16x8192 dims h (constantI S_ 32 q) = broadcast S16x8192 q := rfl

/-- The reference's grid points. -/
def pts : Pts S16x8192 := (res_main_v29 V0, res_main_v31 V0, res_main_v33 V0)

theorem levels_eq : grays (Cert.KernelIdeal.Keys.levels (pts V0)) = (res_main_v691 V0, res_main_v694 V0, res_main_v695 V0) := by
  unfold pts Cert.KernelIdeal.Keys.levels
  rw [show level (res_main_v29 V0, res_main_v31 V0, res_main_v33 V0) 1048576#32 1048575#32 = (res_main_v64 V0, res_main_v53 V0, res_main_v66 V0) from rfl,
    show level (res_main_v64 V0, res_main_v53 V0, res_main_v66 V0) 524288#32 524287#32 = (res_main_v97 V0, res_main_v86 V0, res_main_v99 V0) from rfl,
    show level (res_main_v97 V0, res_main_v86 V0, res_main_v99 V0) 262144#32 262143#32 = (res_main_v130 V0, res_main_v119 V0, res_main_v132 V0) from rfl,
    show level (res_main_v130 V0, res_main_v119 V0, res_main_v132 V0) 131072#32 131071#32 = (res_main_v163 V0, res_main_v152 V0, res_main_v165 V0) from rfl,
    show level (res_main_v163 V0, res_main_v152 V0, res_main_v165 V0) 65536#32 65535#32 = (res_main_v196 V0, res_main_v185 V0, res_main_v198 V0) from rfl,
    show level (res_main_v196 V0, res_main_v185 V0, res_main_v198 V0) 32768#32 32767#32 = (res_main_v229 V0, res_main_v218 V0, res_main_v231 V0) from rfl,
    show level (res_main_v229 V0, res_main_v218 V0, res_main_v231 V0) 16384#32 16383#32 = (res_main_v262 V0, res_main_v251 V0, res_main_v264 V0) from rfl,
    show level (res_main_v262 V0, res_main_v251 V0, res_main_v264 V0) 8192#32 8191#32 = (res_main_v295 V0, res_main_v284 V0, res_main_v297 V0) from rfl,
    show level (res_main_v295 V0, res_main_v284 V0, res_main_v297 V0) 4096#32 4095#32 = (res_main_v328 V0, res_main_v317 V0, res_main_v330 V0) from rfl,
    show level (res_main_v328 V0, res_main_v317 V0, res_main_v330 V0) 2048#32 2047#32 = (res_main_v361 V0, res_main_v350 V0, res_main_v363 V0) from rfl,
    show level (res_main_v361 V0, res_main_v350 V0, res_main_v363 V0) 1024#32 1023#32 = (res_main_v394 V0, res_main_v383 V0, res_main_v396 V0) from rfl,
    show level (res_main_v394 V0, res_main_v383 V0, res_main_v396 V0) 512#32 511#32 = (res_main_v427 V0, res_main_v416 V0, res_main_v429 V0) from rfl,
    show level (res_main_v427 V0, res_main_v416 V0, res_main_v429 V0) 256#32 255#32 = (res_main_v460 V0, res_main_v449 V0, res_main_v462 V0) from rfl,
    show level (res_main_v460 V0, res_main_v449 V0, res_main_v462 V0) 128#32 127#32 = (res_main_v493 V0, res_main_v482 V0, res_main_v495 V0) from rfl,
    show level (res_main_v493 V0, res_main_v482 V0, res_main_v495 V0) 64#32 63#32 = (res_main_v526 V0, res_main_v515 V0, res_main_v528 V0) from rfl,
    show level (res_main_v526 V0, res_main_v515 V0, res_main_v528 V0) 32#32 31#32 = (res_main_v559 V0, res_main_v548 V0, res_main_v561 V0) from rfl,
    show level (res_main_v559 V0, res_main_v548 V0, res_main_v561 V0) 16#32 15#32 = (res_main_v592 V0, res_main_v581 V0, res_main_v594 V0) from rfl,
    show level (res_main_v592 V0, res_main_v581 V0, res_main_v594 V0) 8#32 7#32 = (res_main_v625 V0, res_main_v614 V0, res_main_v627 V0) from rfl,
    show level (res_main_v625 V0, res_main_v614 V0, res_main_v627 V0) 4#32 3#32 = (res_main_v658 V0, res_main_v647 V0, res_main_v660 V0) from rfl]
  rfl

theorem lastTurn_eq : lastTurn (s := S16x8192) (res_main_v695 V0) = res_main_v836 V0 := by
  unfold lastTurn
  rw [show turn (res_main_v695 V0) (broadcast S16x8192 0#32) 1048576#32 1048575#32 = res_main_v703 V0 from rfl,
    show turn (res_main_v695 V0) (res_main_v703 V0) 524288#32 524287#32 = res_main_v710 V0 from rfl,
    show turn (res_main_v695 V0) (res_main_v710 V0) 262144#32 262143#32 = res_main_v717 V0 from rfl,
    show turn (res_main_v695 V0) (res_main_v717 V0) 131072#32 131071#32 = res_main_v724 V0 from rfl,
    show turn (res_main_v695 V0) (res_main_v724 V0) 65536#32 65535#32 = res_main_v731 V0 from rfl,
    show turn (res_main_v695 V0) (res_main_v731 V0) 32768#32 32767#32 = res_main_v738 V0 from rfl,
    show turn (res_main_v695 V0) (res_main_v738 V0) 16384#32 16383#32 = res_main_v745 V0 from rfl,
    show turn (res_main_v695 V0) (res_main_v745 V0) 8192#32 8191#32 = res_main_v752 V0 from rfl,
    show turn (res_main_v695 V0) (res_main_v752 V0) 4096#32 4095#32 = res_main_v759 V0 from rfl,
    show turn (res_main_v695 V0) (res_main_v759 V0) 2048#32 2047#32 = res_main_v766 V0 from rfl,
    show turn (res_main_v695 V0) (res_main_v766 V0) 1024#32 1023#32 = res_main_v773 V0 from rfl,
    show turn (res_main_v695 V0) (res_main_v773 V0) 512#32 511#32 = res_main_v780 V0 from rfl,
    show turn (res_main_v695 V0) (res_main_v780 V0) 256#32 255#32 = res_main_v787 V0 from rfl,
    show turn (res_main_v695 V0) (res_main_v787 V0) 128#32 127#32 = res_main_v794 V0 from rfl,
    show turn (res_main_v695 V0) (res_main_v794 V0) 64#32 63#32 = res_main_v801 V0 from rfl,
    show turn (res_main_v695 V0) (res_main_v801 V0) 32#32 31#32 = res_main_v808 V0 from rfl,
    show turn (res_main_v695 V0) (res_main_v808 V0) 16#32 15#32 = res_main_v815 V0 from rfl,
    show turn (res_main_v695 V0) (res_main_v815 V0) 8#32 7#32 = res_main_v822 V0 from rfl,
    show turn (res_main_v695 V0) (res_main_v822 V0) 4#32 3#32 = res_main_v829 V0 from rfl,
    show turn (res_main_v695 V0) (res_main_v829 V0) 2#32 1#32 = res_main_v836 V0 from rfl]

theorem turned_eq : (res_main_v837 V0, res_main_v838 V0, res_main_v839 V0) = turned (grays (Cert.KernelIdeal.Keys.levels (pts V0))) := by
  rw [levels_eq]
  unfold turned
  rw [lastTurn_eq]
  rfl

theorem hi_eq (i : S16x8192.Idx) : res_main_v1285 V0 i = hiWord (turned (grays (levels (pts V0)))) i ^^^ 2147483648#32 := by
  rw [← turned_eq, hiWord_apply, ← gather_eq _ _ _ hi_perm]
  have e : res_main_v1285 V0 = xori (push (push (push (push (push (push (push (push (push (push (push (push (push (push (push (push (push (push (push (push (push (push (push (push (push (push (push (push (push (push (push (broadcast S16x8192 0#32) (res_main_v837 V0) 20#32) (res_main_v838 V0) 20#32) (res_main_v839 V0) 20#32) (res_main_v837 V0) 19#32) (res_main_v838 V0) 19#32) (res_main_v839 V0) 19#32) (res_main_v837 V0) 18#32) (res_main_v838 V0) 18#32) (res_main_v839 V0) 18#32) (res_main_v837 V0) 17#32) (res_main_v838 V0) 17#32) (res_main_v839 V0) 17#32) (res_main_v837 V0) 16#32) (res_main_v838 V0) 16#32) (res_main_v839 V0) 16#32) (res_main_v837 V0) 15#32) (res_main_v838 V0) 15#32) (res_main_v839 V0) 15#32) (res_main_v837 V0) 14#32) (res_main_v838 V0) 14#32) (res_main_v839 V0) 14#32) (res_main_v837 V0) 13#32) (res_main_v838 V0) 13#32) (res_main_v839 V0) 13#32) (res_main_v837 V0) 12#32) (res_main_v838 V0) 12#32) (res_main_v839 V0) 12#32) (res_main_v837 V0) 11#32) (res_main_v838 V0) 11#32) (res_main_v839 V0) 11#32) (res_main_v837 V0) 10#32) (broadcast S16x8192 2147483648#32) := by
    simp only [res_main_v1285, res_main_v1051, res_main_v946, spread_word, push]
  rw [e]
  show _ ^^^ _ = _
  simp (disch := decide) only [push_apply]
  rfl

theorem lo_eq (i : S16x8192.Idx) : res_main_v1287 V0 i = loWord (turned (grays (levels (pts V0)))) i ^^^ 2147483648#32 := by
  rw [← turned_eq, loWord_apply, ← gather_eq _ _ _ lo_perm]
  have e : res_main_v1287 V0 = xori (push (push (push (push (push (push (push (push (push (push (push (push (push (push (push (push (push (push (push (push (push (push (push (push (push (push (push (push (push (push (push (push (broadcast S16x8192 0#32) (res_main_v838 V0) 10#32) (res_main_v839 V0) 10#32) (res_main_v837 V0) 9#32) (res_main_v838 V0) 9#32) (res_main_v839 V0) 9#32) (res_main_v837 V0) 8#32) (res_main_v838 V0) 8#32) (res_main_v839 V0) 8#32) (res_main_v837 V0) 7#32) (res_main_v838 V0) 7#32) (res_main_v839 V0) 7#32) (res_main_v837 V0) 6#32) (res_main_v838 V0) 6#32) (res_main_v839 V0) 6#32) (res_main_v837 V0) 5#32) (res_main_v838 V0) 5#32) (res_main_v839 V0) 5#32) (res_main_v837 V0) 4#32) (res_main_v838 V0) 4#32) (res_main_v839 V0) 4#32) (res_main_v837 V0) 3#32) (res_main_v838 V0) 3#32) (res_main_v839 V0) 3#32) (res_main_v837 V0) 2#32) (res_main_v838 V0) 2#32) (res_main_v839 V0) 2#32) (res_main_v837 V0) 1#32) (res_main_v838 V0) 1#32) (res_main_v839 V0) 1#32) (res_main_v837 V0) 0#32) (res_main_v838 V0) 0#32) (res_main_v839 V0) 0#32) (broadcast S16x8192 2147483648#32) := by
    simp only [res_main_v1287, res_main_v1268, res_main_v1163, spread_word, push]
  rw [e]
  show _ ^^^ _ = _
  simp (disch := decide) only [push_apply]
  rfl

theorem num_eq : (res_main_v1283 V0 : S16x8192.Idx → BitVec 32) = fun x => BitVec.ofNat 32 (x 1).val := rfl

end Cert.Proof.RefKeys

end
-- ==== Proof.RefGrid.lean ====
/-
  The reference's grid points over the extended reals, one cloud at a time: what its operations compute at an index.
-/
module

public import proofs.«01_k».proof.Proof.RefKeys
public import Idealize.ShloMosaic.Lib.Tactic.CleanTypes
public import Idealize.ShloMosaic.Lib.Pointwise
public import Idealize.ShloMosaic.Lib.IdealHost

@[expose] public section

set_option maxRecDepth 8192

noncomputable section

namespace Cert.Proof.RefGrid

open Cert.ReferenceIdeal Cert.ReferenceIdeal.Gen Cert.ReferenceIdeal.Value
open Idealize.ShloMosaic
open Cert.Proof.RefKeys

/-! ## One cloud -/

variable (z : Fin 8192 → Fin 3 → EReal)

def rMean (k : Fin 3) : EReal := Ideal.div (0 + ∑ i, z i k) (Ideal.ofBits .f32 0x46000000#32)

def rDist (i : Fin 8192) : EReal := 0 + ∑ k, (z i k - rMean z k) * (z i k - rMean z k)

def rRad : EReal :=
  Ideal.sqrt (Finset.univ.fold max (Ideal.ofBits .f32 0xFF800000#32) (rDist z)) + Ideal.ofBits .f32 0x358637BD#32 + Ideal.ofBits .f32 0x2735ED8D#32

def rGrid (i : Fin 8192) (k : Fin 3) : BitVec 32 :=
  Ideal.fptosi 32 (Ideal.ofBits .f32 0x49800000#32 *
    Ideal.div ((z i k - rMean z k) + rRad z) (Ideal.ofBits .f32 0x40000000#32 * rRad z)) + 32767#32

/-! ## The reference's arrays -/

variable (V0 : Valuation τ sig (Elt Ideal))

def cloudOf (b : Fin 16) (i : Fin 8192) (k : Fin 3) : EReal :=
  (V0 (Proc.devRef .tc main_arg0) : S16x8192x3.Idx → EReal) (ix3 b i k)

theorem v3_at (b : Fin 16) (k : Fin 3) : (res_main_v3 V0 : S16x1x3.Idx → EReal) (ix3 b 0 k) = rMean (cloudOf V0 b) k := by
  unfold res_main_v3 rMean cloudOf
  clean_types
  pointwise

theorem v5_at (b : Fin 16) (i : Fin 8192) (k : Fin 3) :
    (res_main_v5 V0 : S16x8192x3.Idx → EReal) (ix3 b i k) = cloudOf V0 b i k - rMean (cloudOf V0 b) k := by
  rw [← v3_at]
  unfold res_main_v5 cloudOf
  clean_types
  pointwise

theorem v14_at (b : Fin 16) : (res_main_v14 V0 : S16x1x1.Idx → EReal) (ix3 b 0 0) = rRad (cloudOf V0 b) := by
  unfold rRad rDist
  simp only [← v5_at]
  unfold res_main_v14
  clean_types
  pointwise

theorem v27_at (b : Fin 16) (i : Fin 8192) (k : Fin 3) :
    (res_main_v27 V0 : S16x8192x3.Idx → BitVec 32) (ix3 b i k) = rGrid (cloudOf V0 b) i k := by
  unfold rGrid
  rw [← v14_at, ← v3_at]
  unfold res_main_v27 cloudOf
  clean_types
  pointwise
  rfl

theorem pts_at (b : Fin 16) (i : Fin 8192) : three (pts V0) (ix2 b i) = rGrid (cloudOf V0 b) i := by
  funext k
  match k with
  | 0 =>
    rw [← v27_at]
    show (res_main_v29 V0 : S16x8192.Idx → BitVec 32) (ix2 b i) = _
    unfold res_main_v29
    clean_types
    pointwise
  | 1 =>
    rw [← v27_at]
    show (res_main_v31 V0 : S16x8192.Idx → BitVec 32) (ix2 b i) = _
    unfold res_main_v31
    clean_types
    pointwise
  | 2 =>
    rw [← v27_at]
    show (res_main_v33 V0 : S16x8192.Idx → BitVec 32) (ix2 b i) = _
    unfold res_main_v33
    clean_types
    pointwise

end Cert.Proof.RefGrid

end
-- ==== Proof.Reals.lean ====
module

public import proofs.«01_k».proof.Proof.Keys
public import Idealize.ShloMosaic.Lib.IdealHost
public import Idealize.ShloMosaic.PureOps.Ideal

/-! Over the reals the low words vanish: the double-word arithmetic is the arithmetic of its high words. -/

@[expose] public section

noncomputable section

namespace Cert.KernelIdeal.Keys

open Cert.KernelIdeal Idealize.ShloMosaic Idealize.SL.Sem

variable {s : Shape}

/-- An array of reals. -/
def R (r : s.Idx → ℝ) : FVec Ideal s .f32 := fun j => ((r j : ℝ) : EReal)

theorem addf_R (a b : s.Idx → ℝ) : addf (R a) (R b) = R (a + b) := by
  funext j; exact (EReal.coe_add _ _).symm

theorem subf_R (a b : s.Idx → ℝ) : subf (R a) (R b) = R (a - b) := by
  funext j; exact (EReal.coe_sub _ _).symm

theorem mulf_R (a b : s.Idx → ℝ) : mulf (R a) (R b) = R (a * b) := by
  funext j; exact (EReal.coe_mul _ _).symm

theorem divf_R (a b : s.Idx → ℝ) (hb : ∀ j, b j ≠ 0) : divf (R a) (R b) = R (a / b) := by
  funext j
  show Ideal.div (a j : EReal) (b j : EReal) = _
  rw [Ideal.div_coe (hb j), ← EReal.coe_mul]
  show _ = (((a j / b j : ℝ)) : EReal)
  congr 1; ring

theorem sqrt_R (a : s.Idx → ℝ) (ha : ∀ j, 0 ≤ a j) : sqrt (R a) = R (fun j => Real.sqrt (a j)) := by
  funext j
  show Ideal.sqrt (a j : EReal) = _
  rw [Ideal.sqrt_coe, if_neg (not_lt.2 (ha j))]; rfl

theorem floor_R (a : s.Idx → ℝ) : floor (R a) = R (fun j => ((⌊a j⌋ : ℤ) : ℝ)) := rfl

theorem zero_R : (broadcast s (Scalar.ofBits .f32 0x00000000#32) : FVec Ideal s .f32) = R 0 := by
  funext j
  show Ideal.ofBits .f32 0x00000000#32 = ((0 : ℝ) : EReal)
  simp [Ideal.ofBits, Ideal.ieee]

theorem split_R : (broadcast s (Scalar.ofBits .f32 0x45800800#32) : FVec Ideal s .f32) = R (fun _ => 4097) := by
  funext j
  show Ideal.ofBits .f32 0x45800800#32 = ((4097 : ℝ) : EReal)
  simp [Ideal.ofBits, Ideal.ieee, -EReal.coe_mul]; norm_num

theorem two_R : (broadcast s (Scalar.ofBits .f32 0x40000000#32) : FVec Ideal s .f32) = R (fun _ => 2) := by
  funext j
  show Ideal.ofBits .f32 0x40000000#32 = ((2 : ℝ) : EReal)
  simp [Ideal.ofBits, Ideal.ieee, -EReal.coe_mul]; norm_num

theorem inv_R : (broadcast s (Scalar.ofBits .f32 0x39000000#32) : FVec Ideal s .f32) = R (fun _ => 1 / 8192) := by
  funext j
  show Ideal.ofBits .f32 0x39000000#32 = ((1 / 8192 : ℝ) : EReal)
  simp [Ideal.ofBits, Ideal.ieee, -EReal.coe_mul]; norm_num

theorem scale_R : (broadcast s (Scalar.ofBits .f32 0x49000000#32) : FVec Ideal s .f32) = R (fun _ => 524288) := by
  funext j
  show Ideal.ofBits .f32 0x49000000#32 = ((524288 : ℝ) : EReal)
  simp [Ideal.ofBits, Ideal.ieee, -EReal.coe_mul]; norm_num

/-- The two words of the radius's offset. -/
def eps1 : ℝ := 8796093 * (2 : ℝ) ^ (-43 : ℤ)

def eps2 : ℝ := 11922829 * (2 : ℝ) ^ (-72 : ℤ)

theorem eps1_word : Ideal.ofBits .f32 0x358637BD#32 = (eps1 : EReal) := by
  simp [Ideal.ofBits, Ideal.ieee, eps1, -EReal.coe_mul]

theorem eps2_word : Ideal.ofBits .f32 0x2735ED8D#32 = (eps2 : EReal) := by
  simp [Ideal.ofBits, Ideal.ieee, eps2, -EReal.coe_mul]

theorem eps1_pos : 0 < eps1 := by unfold eps1; positivity

theorem eps2_pos : 0 < eps2 := by unfold eps2; positivity

theorem eps1_R : (broadcast s (Scalar.ofBits .f32 0x358637BD#32) : FVec Ideal s .f32) = R (fun _ => eps1) :=
  funext fun _ => eps1_word

theorem eps2_R : (broadcast s (Scalar.ofBits .f32 0x2735ED8D#32) : FVec Ideal s .f32) = R (fun _ => eps2) :=
  funext fun _ => eps2_word

theorem R_zero {a : s.Idx → ℝ} (h : a = 0) : R a = R 0 := by rw [h]

theorem sumErr_R (a b : s.Idx → ℝ) : sumErr (R a) (R b) = R 0 := by
  simp only [sumErr, addf_R, subf_R]; exact R_zero (by ring)

theorem fastErr_R (a : s.Idx → ℝ) : fastErr (R a) (R 0) = R 0 := by
  simp only [fastErr, addf_R, subf_R]; exact R_zero (by ring)

theorem addLow_R (a b : s.Idx → ℝ) : addLow (R a) (R 0) (R b) (R 0) = R 0 := by
  simp only [addLow, sumErr_R, addf_R]; exact R_zero (by ring)

theorem addHi_R (a b : s.Idx → ℝ) : addHi (R a) (R 0) (R b) (R 0) = R (a + b) := by
  simp only [addHi, addLow_R, addf_R, add_zero]

theorem addLo_R (a b : s.Idx → ℝ) : addLo (R a) (R 0) (R b) (R 0) = R 0 := by
  simp only [addLo, addLow_R, addf_R, fastErr_R]

theorem splitHi_R (a : s.Idx → ℝ) : splitHi (R a) = R a := by
  simp only [splitHi, split_R, mulf_R, subf_R]; exact congrArg R (by ring)

theorem splitLo_R (a : s.Idx → ℝ) : splitLo (R a) = R 0 := by
  simp only [splitLo, splitHi_R, subf_R]; exact R_zero (by ring)

theorem prodErr_R (a b : s.Idx → ℝ) : prodErr (R (a * b)) (R a) (R 0) (R b) (R 0) = R 0 := by
  simp only [prodErr, mulf_R, subf_R, addf_R]; exact R_zero (by ring)

theorem sqErr_R (a : s.Idx → ℝ) : sqErr (R a) = R 0 := by
  simp only [sqErr, splitHi_R, splitLo_R, mulf_R, prodErr_R]

theorem sqLow_R (a : s.Idx → ℝ) : sqLow (R a) (R 0) = R 0 := by
  simp only [sqLow, sqErr_R, mulf_R, addf_R]; exact R_zero (by ring)

theorem neg_R (a : s.Idx → ℝ) : neg (R a) = R (-a) := by
  simp only [neg, zero_R, subf_R]; exact congrArg R (by ring)

theorem sq_R (a : s.Idx → ℝ) : sq (R a, R 0) = (R (a * a), R 0) := by
  simp only [sq, sqHi, sqLo, sqLow_R, mulf_R, addf_R, fastErr_R, add_zero]

theorem add_R (a b : s.Idx → ℝ) : add (R a, R 0) (R b, R 0) = (R (a + b), R 0) := by
  simp only [add, addHi_R, addLo_R]

/-- The constant array. -/
theorem spread_R (m : ℝ) : spread (R fun _ => m) = R fun _ => m := rfl

theorem centred_R (x : S64x128.Idx → ℝ) (m : ℝ) :
    centred (R x) (R fun _ => m, R 0) = (R (fun j => x j - m), R 0) := by
  have h0 : spread (R (0 : S1x1.Idx → ℝ)) = R 0 := rfl
  have hm : spread (R (-fun _ => m)) = R (-fun _ => m) := rfl
  simp only [centred, neg_R, hm, h0, sumErr_R, addf_R, subf_R, fastErr_R, sub_zero, add_zero]
  rfl

/-- A block's element, as an element of the array it is cut from. -/
def shift {s : Shape} (t : Shape) (o : Fin s.rank → Nat) (h : s.Slices o t) (j : t.Idx) : s.Idx :=
  fun a => ⟨o a + (j (a.cast h.1.symm)).val, Nat.lt_of_lt_of_le (Nat.add_lt_add_left (j _).isLt _) (h.2 a)⟩

/-- The two blocks make up the array. -/
structure Halves {s : Shape} (t : Shape) (o p : Fin s.rank → Nat) (ho : s.Slices o t) (hp : s.Slices p t) : Prop where
  cover : ∀ i : s.Idx, (∃ j, shift t o ho j = i) ∨ ∃ j, shift t p hp j = i
  card : Fintype.card t.Idx + Fintype.card t.Idx = Fintype.card s.Idx

theorem Halves.sum {s t : Shape} {o p : Fin s.rank → Nat} {ho : s.Slices o t} {hp : s.Slices p t}
    (h : Halves t o p ho hp) (x : s.Idx → ℝ) : ∑ j, (x (shift t o ho j) + x (shift t p hp j)) = ∑ i, x i := by
  have hs : Function.Surjective (Sum.elim (shift t o ho) (shift t p hp)) := fun i => by
    rcases h.cover i with ⟨j, hj⟩ | ⟨j, hj⟩
    · exact ⟨.inl j, hj⟩
    · exact ⟨.inr j, hj⟩
  have hb := (Fintype.bijective_iff_surjective_and_card _).2 ⟨hs, by rw [Fintype.card_sum]; exact h.card⟩
  rw [← hb.sum_comp x, Fintype.sum_sum_type, Finset.sum_add_distrib]
  rfl

theorem halves_rows {A B m : Nat} (hA : A = m + m)
    (ho : (⟨2, ![A, B]⟩ : Shape).Slices ![0, 0] ⟨2, ![m, B]⟩) (hp : (⟨2, ![A, B]⟩ : Shape).Slices ![m, 0] ⟨2, ![m, B]⟩) :
    Halves (s := ⟨2, ![A, B]⟩) ⟨2, ![m, B]⟩ ![0, 0] ![m, 0] ho hp where
  cover i := by
    have h0 : (i 0).val < A := (i 0).isLt
    have h1 : (i 1).val < B := (i 1).isLt
    by_cases h : (i 0).val < m
    · refine .inl ⟨fun a => ⟨(i (a.cast rfl)).val, ?_⟩, ?_⟩
      · fin_cases a
        · exact h
        · exact h1
      · funext a; apply Fin.ext; fin_cases a <;> simp [shift] <;> rfl
    · refine .inr ⟨fun a => ⟨(i (a.cast rfl)).val - (![m, 0] : Fin 2 → Nat) a, ?_⟩, ?_⟩
      · fin_cases a
        · show (i 0).val - m < m; omega
        · show (i 1).val - 0 < B; omega
      · funext a; apply Fin.ext; fin_cases a
        · show m + ((i 0).val - m) = (i 0).val; omega
        · show 0 + ((i 1).val - 0) = (i 1).val; omega
  card := by
    simp [Shape.Idx, Fintype.card_pi, Fin.prod_univ_two, hA]; ring

theorem halves_cols {A B m : Nat} (hB : B = m + m)
    (ho : (⟨2, ![A, B]⟩ : Shape).Slices ![0, 0] ⟨2, ![A, m]⟩) (hp : (⟨2, ![A, B]⟩ : Shape).Slices ![0, m] ⟨2, ![A, m]⟩) :
    Halves (s := ⟨2, ![A, B]⟩) ⟨2, ![A, m]⟩ ![0, 0] ![0, m] ho hp where
  cover i := by
    have h0 : (i 0).val < A := (i 0).isLt
    have h1 : (i 1).val < B := (i 1).isLt
    by_cases h : (i 1).val < m
    · refine .inl ⟨fun a => ⟨(i (a.cast rfl)).val, ?_⟩, ?_⟩
      · fin_cases a
        · exact h0
        · exact h
      · funext a; apply Fin.ext; fin_cases a <;> simp [shift] <;> rfl
    · refine .inr ⟨fun a => ⟨(i (a.cast rfl)).val - (![0, m] : Fin 2 → Nat) a, ?_⟩, ?_⟩
      · fin_cases a
        · show (i 0).val - 0 < A; omega
        · show (i 1).val - m < m; omega
      · funext a; apply Fin.ext; fin_cases a
        · show 0 + ((i 0).val - 0) = (i 0).val; omega
        · show m + ((i 1).val - m) = (i 1).val; omega
  card := by
    simp [Shape.Idx, Fintype.card_pi, Fin.prod_univ_two, hB]; ring

/-- A fold's double word over the reals, with its sum. -/
def SumsTo {s : Shape} (x : FVec Ideal s .f32 × FVec Ideal s .f32) (v : ℝ) : Prop :=
  ∃ r : s.Idx → ℝ, x = (R r, R 0) ∧ ∑ j, r j = v

theorem SumsTo.step {s t : Shape} {o p : Fin s.rank → Nat} {ho : s.Slices o t} {hp : s.Slices p t}
    (h : Halves t o p ho hp) {x : FVec Ideal s .f32 × FVec Ideal s .f32} {v : ℝ} (hx : SumsTo x v) :
    SumsTo (sumStep t o p ho hp x) v := by
  obtain ⟨r, rfl, hr⟩ := hx
  refine ⟨fun j => r (shift t o ho j) + r (shift t p hp j), ?_, (h.sum r).trans hr⟩
  have e1 : extractStridedSlice t o (R r) ho = R fun j => r (shift t o ho j) := rfl
  have e2 : extractStridedSlice t p (R r) hp = R fun j => r (shift t p hp j) := rfl
  have e3 : extractStridedSlice t o (R (0 : s.Idx → ℝ)) ho = R 0 := rfl
  have e4 : extractStridedSlice t p (R (0 : s.Idx → ℝ)) hp = R 0 := rfl
  simp only [sumStep, e1, e2, e3, e4, addHi_R, addLo_R]
  rfl

theorem SumsTo.one {x : FVec Ideal S1x1 .f32 × FVec Ideal S1x1 .f32} {v : ℝ} (hx : SumsTo x v) :
    x = (R fun _ => v, R 0) := by
  obtain ⟨r, rfl, hr⟩ := hx
  have : r = fun _ => v := by
    funext j
    have hu : ∀ i : S1x1.Idx, i = j := fun i => by
      funext a; apply Fin.ext
      have := (i a).isLt; have := (j a).isLt
      fin_cases a <;> simp at * <;> omega
    rw [← hr, Fintype.sum_eq_single j (fun i hi => absurd (hu i) hi)]
  rw [this]

theorem foldSum_R (x : S64x128.Idx → ℝ) : foldSum (R x, R 0) = (R (fun _ => ∑ j, x j), R 0) := by
  refine SumsTo.one ?_
  exact .step (halves_cols rfl _ _) <| .step (halves_cols rfl _ _) <| .step (halves_cols rfl _ _) <|
    .step (halves_cols rfl _ _) <| .step (halves_cols rfl _ _) <| .step (halves_cols rfl _ _) <|
    .step (halves_cols rfl _ _) <| .step (halves_rows rfl _ _) <| .step (halves_rows rfl _ _) <|
    .step (halves_rows rfl _ _) <| .step (halves_rows rfl _ _) <| .step (halves_rows rfl _ _) <|
    .step (halves_rows rfl _ _) ⟨x, rfl, rfl⟩

theorem mean_R (x : S64x128.Idx → ℝ) : mean (R x) = (R (fun _ => (∑ j, x j) / 8192), R 0) := by
  simp only [mean, zero_R, foldSum_R, inv_R, mulf_R, zero_mul]
  refine Prod.ext (congrArg R ?_) rfl
  funext j; simp; ring

/-- A fold's double word over the reals, with its greatest element. -/
def TopsAt {s : Shape} (x : FVec Ideal s .f32 × FVec Ideal s .f32) (v : ℝ) : Prop :=
  ∃ r : s.Idx → ℝ, x = (R r, R 0) ∧ (∀ j, r j ≤ v) ∧ ∃ j, r j = v

theorem pick_R (a b : s.Idx → ℝ) :
    select (above (R a) (R 0) (R b) (R 0)) (R a) (R b) = R (fun j => max (a j) (b j)) := by
  funext j
  have h : above (R a) (R 0) (R b) (R 0) j = BitVec.ofBool (decide (b j < a j)) := by
    show BitVec.ofBool (decide (((b j : ℝ) : EReal) < ((a j : ℝ) : EReal))) |||
      (BitVec.ofBool (decide (((a j : ℝ) : EReal) = ((b j : ℝ) : EReal))) &&&
        BitVec.ofBool (decide ((((0 : ℝ)) : EReal) < ((0 : ℝ) : EReal)))) = _
    simp
  show (if above (R a) (R 0) (R b) (R 0) j = 1#1 then ((a j : ℝ) : EReal) else ((b j : ℝ) : EReal)) =
    ((max (a j) (b j) : ℝ) : EReal)
  rw [h]
  rcases lt_or_ge (b j) (a j) with hl | hl
  · rw [decide_eq_true hl, max_eq_left hl.le]; rfl
  · rw [decide_eq_false (not_lt.2 hl), max_eq_right hl]; rfl

theorem pick_R0 (c : IVec s 1) : select c (R (0 : s.Idx → ℝ)) (R 0) = R 0 := by
  funext j
  show (if _ then _ else _) = _
  split <;> rfl

theorem TopsAt.step {s t : Shape} {o p : Fin s.rank → Nat} {ho : s.Slices o t} {hp : s.Slices p t}
    (h : Halves t o p ho hp) {x : FVec Ideal s .f32 × FVec Ideal s .f32} {v : ℝ} (hx : TopsAt x v) :
    TopsAt (maxStep t o p ho hp x) v := by
  obtain ⟨r, rfl, hr, i, hi⟩ := hx
  refine ⟨fun j => max (r (shift t o ho j)) (r (shift t p hp j)), ?_, fun j => max_le (hr _) (hr _), ?_⟩
  · have e1 : extractStridedSlice t o (R r) ho = R fun j => r (shift t o ho j) := rfl
    have e2 : extractStridedSlice t p (R r) hp = R fun j => r (shift t p hp j) := rfl
    have e3 : extractStridedSlice t o (R (0 : s.Idx → ℝ)) ho = R 0 := rfl
    have e4 : extractStridedSlice t p (R (0 : s.Idx → ℝ)) hp = R 0 := rfl
    simp only [maxStep, e1, e2, e3, e4, pick_R]
    rw [pick_R0]
  · rcases h.cover i with ⟨j, hj⟩ | ⟨j, hj⟩
    · exact ⟨j, le_antisymm (max_le (hr _) (hr _)) (by rw [← hi, ← hj]; exact le_max_left _ _)⟩
    · exact ⟨j, le_antisymm (max_le (hr _) (hr _)) (by rw [← hi, ← hj]; exact le_max_right _ _)⟩

theorem TopsAt.one {x : FVec Ideal S1x1 .f32 × FVec Ideal S1x1 .f32} {v : ℝ} (hx : TopsAt x v) :
    x = (R fun _ => v, R 0) := by
  obtain ⟨r, rfl, hr, i, hi⟩ := hx
  have : r = fun _ => v := by
    funext j
    have hu : i = j := by
      funext a; apply Fin.ext
      have := (i a).isLt; have := (j a).isLt
      fin_cases a <;> simp at * <;> omega
    rw [← hu, hi]
  rw [this]

theorem foldMax_R (x : S64x128.Idx → ℝ) (v : ℝ) (hv : ∀ j, x j ≤ v) (he : ∃ j, x j = v) :
    foldMax (R x, R 0) = (R (fun _ => v), R 0) := by
  refine TopsAt.one ?_
  exact .step (halves_cols rfl _ _) <| .step (halves_cols rfl _ _) <| .step (halves_cols rfl _ _) <|
    .step (halves_cols rfl _ _) <| .step (halves_cols rfl _ _) <| .step (halves_cols rfl _ _) <|
    .step (halves_cols rfl _ _) <| .step (halves_rows rfl _ _) <| .step (halves_rows rfl _ _) <|
    .step (halves_rows rfl _ _) <| .step (halves_rows rfl _ _) <| .step (halves_rows rfl _ _) <|
    .step (halves_rows rfl _ _) ⟨x, rfl, hv, he⟩

theorem root_R (v : ℝ) (hv : 0 < v) : root (R fun _ : s.Idx => v, R 0) = (R (fun _ => Real.sqrt v), R 0) := by
  have hs : 0 < Real.sqrt v := Real.sqrt_pos.2 hv
  have h0 : (R (-(0 : s.Idx → ℝ))) = R 0 := R_zero (by simp)
  have hl : rootLow (R fun _ : s.Idx => v, R 0) = R 0 := by
    simp only [rootLow, sqrt_R _ (fun _ => hv.le), mulf_R, sqErr_R, neg_R, h0, addHi_R, two_R]
    rw [divf_R _ _ (fun j => by simpa using hs.ne')]
    refine R_zero ?_
    funext j
    simp [Real.mul_self_sqrt hv.le]
  simp only [root, hl, sqrt_R _ (fun _ => hv.le), addf_R, fastErr_R, add_zero]

theorem radius_R (v : ℝ) (hv : 0 < v) :
    radius (R fun _ : s.Idx => v, R 0) = (R (fun _ => Real.sqrt v + (eps1 + eps2)), R 0) := by
  have h1 : addHi (R fun _ : s.Idx => Real.sqrt v) (R 0) (R fun _ => eps1) (R fun _ => eps2) =
      R (fun _ => Real.sqrt v + (eps1 + eps2)) := by
    simp only [addHi, addLow, sumErr_R, addf_R]
    exact congrArg R (by funext j; simp; ring)
  have h2 : addLo (R fun _ : s.Idx => Real.sqrt v) (R 0) (R fun _ => eps1) (R fun _ => eps2) = R 0 := by
    simp only [addLo, addLow, sumErr_R, addf_R, fastErr, subf_R]
    exact R_zero (by ring)
  simp only [radius, root_R v hv, add, eps1_R, eps2_R, h1, h2]

theorem quot_R (n : S64x128.Idx → ℝ) (r : ℝ) (hr : r ≠ 0) :
    quot (R n, R 0) (R fun _ => r, R 0) = (R (fun j => n j / r), R 0) := by
  have hs : spread (R (0 : S1x1.Idx → ℝ)) = R 0 := rfl
  have h0 : (R (-(0 : S64x128.Idx → ℝ))) = R 0 := R_zero (by simp)
  have hq : divf (R n) (R fun _ => r) = R (fun j => n j / r) := divf_R _ _ (fun _ => hr)
  have hl : quotLow (R n, R 0) (R fun _ => r, R 0) (R fun j => n j / r) = R 0 := by
    simp only [quotLow, spread_R, splitHi_R, splitLo_R, hs, mulf_R, prodErr_R, addf_R, neg_R]
    rw [R_zero (show -(0 + (fun j => n j / r) * (0 : S64x128.Idx → ℝ)) = 0 by simp), addHi_R, divf_R _ _ (fun _ => hr)]
    refine R_zero ?_
    funext j
    simp [hr]
  simp only [quot, spread_R, hq, hl, addf_R, fastErr_R, add_zero]

/-- The whole part as a word. -/
def wordOf (v : ℝ) : BitVec 32 := Ideal.fptosi 32 ((⌊v⌋ : ℝ) : EReal) + 32767#32

theorem gridOf_R (q : S64x128.Idx → ℝ) : gridOf (R q, R 0) = fun j => wordOf (524288 * q j) := by
  simp only [gridOf, scaled, scale_R, mulf_R, floor_R, subf_R, addf_R, zero_mul, add_zero]
  funext j
  show Ideal.fptosi 32 ((⌊q j * 524288⌋ : ℝ) : EReal) +
      Ideal.fptosi 32 (((⌊q j * 524288 - (⌊q j * 524288⌋ : ℝ)⌋ : ℤ) : ℝ) : EReal) + 32767#32 = _
  have h0 : ⌊q j * 524288 - (⌊q j * 524288⌋ : ℝ)⌋ = 0 := by
    rw [Int.floor_eq_zero_iff]; exact ⟨Int.fract_nonneg _, Int.fract_lt_one _⟩
  have h1 : Ideal.fptosi 32 (((0 : ℤ) : ℝ) : EReal) = 0#32 := by
    rw [Ideal.fptosi, Ideal.toIntClamped_coe]; norm_num
  rw [h0, h1, mul_comm, BitVec.add_zero]; rfl

theorem gridPt_R (d : S64x128.Idx → ℝ) (r : ℝ) (hr : r ≠ 0) :
    gridPt (R d, R 0) (R fun _ => r, R 0) = fun j => wordOf (524288 * ((d j + r) / r)) := by
  have hs : spread (R (0 : S1x1.Idx → ℝ)) = R 0 := rfl
  simp only [gridPt, spread_R, hs, add_R]
  rw [quot_R _ _ hr, gridOf_R]
  rfl

end Cert.KernelIdeal.Keys
-- ==== Proof.Wild.lean ====
module

public import proofs.«01_k».proof.Proof.Reals

/-!
The key arithmetic over the extended reals on a row that is not finite, and on one whose points
agree: the keys are constant.
-/

@[expose] public section

noncomputable section

namespace Cert.KernelIdeal.Keys

open Cert.KernelIdeal Idealize.ShloMosaic Idealize.SL.Sem

variable {s : Shape}

/-- The constant array. -/
def K (v : EReal) : FVec Ideal s .f32 := fun _ => v

/-- An infinite number. -/
def Wild (v : EReal) : Prop := v = ⊥ ∨ v = ⊤

theorem sumErr_wild (a b : EReal) (h : Wild a ∨ Wild b) :
    (a - ((a + b) - ((a + b) - a))) + (b - ((a + b) - a)) = ⊥ := by
  rcases h with (rfl | rfl) | (rfl | rfl)
  · simp
  · induction b <;> simp
  · simp
  · induction a <;> simp

theorem addHi_wild (a al b bl : FVec Ideal s .f32) (j : s.Idx) (h : Wild (a j) ∨ Wild (b j)) :
    addHi a al b bl j = (⊥ : EReal) := by
  show (a j + b j : EReal) + (((a j - ((a j + b j) - ((a j + b j) - a j))) + (b j - ((a j + b j) - a j))) + (al j + bl j)) = ⊥
  rw [sumErr_wild _ _ h]; simp

theorem addLo_wild (a al b bl : FVec Ideal s .f32) (j : s.Idx) (h : Wild (a j) ∨ Wild (b j)) :
    addLo a al b bl j = (⊥ : EReal) := by
  show ((((a j - ((a j + b j) - ((a j + b j) - a j))) + (b j - ((a j + b j) - a j))) + (al j + bl j) : EReal)
    - (((a j + b j) + (((a j - ((a j + b j) - ((a j + b j) - a j))) + (b j - ((a j + b j) - a j))) + (al j + bl j))) - (a j + b j))) = ⊥
  rw [sumErr_wild _ _ h]; simp

theorem wild_step {s t : Shape} {o p : Fin s.rank → Nat} {ho : s.Slices o t} {hp : s.Slices p t}
    (h : Halves t o p ho hp) {x : FVec Ideal s .f32 × FVec Ideal s .f32} (hx : ∃ j, Wild (x.1 j)) :
    ∃ j, (sumStep t o p ho hp x).1 j = (⊥ : EReal) ∧ (sumStep t o p ho hp x).2 j = (⊥ : EReal) := by
  obtain ⟨i, hi⟩ := hx
  rcases h.cover i with ⟨j, rfl⟩ | ⟨j, rfl⟩
  · exact ⟨j, addHi_wild _ _ _ _ _ (.inl hi), addLo_wild _ _ _ _ _ (.inl hi)⟩
  · exact ⟨j, addHi_wild _ _ _ _ _ (.inr hi), addLo_wild _ _ _ _ _ (.inr hi)⟩

theorem wild_next {s : Shape} {x : FVec Ideal s .f32 × FVec Ideal s .f32}
    (h : ∃ j, x.1 j = (⊥ : EReal) ∧ x.2 j = (⊥ : EReal)) : ∃ j, Wild (x.1 j) :=
  let ⟨j, hj, _⟩ := h; ⟨j, .inl hj⟩

theorem unit_idx (i j : S1x1.Idx) : i = j := by
  funext a; apply Fin.ext
  have := (i a).isLt; have := (j a).isLt
  fin_cases a <;> simp at * <;> omega

theorem foldSum_wild (x : FVec Ideal S64x128 .f32 × FVec Ideal S64x128 .f32) (hx : ∃ j, Wild (x.1 j)) :
    foldSum x = (K ⊥, K ⊥) := by
  have h : ∃ j, (foldSum x).1 j = (⊥ : EReal) ∧ (foldSum x).2 j = (⊥ : EReal) :=
    wild_step (halves_cols rfl _ _) <| wild_next <| wild_step (halves_cols rfl _ _) <| wild_next <|
    wild_step (halves_cols rfl _ _) <| wild_next <| wild_step (halves_cols rfl _ _) <| wild_next <|
    wild_step (halves_cols rfl _ _) <| wild_next <| wild_step (halves_cols rfl _ _) <| wild_next <|
    wild_step (halves_cols rfl _ _) <| wild_next <| wild_step (halves_rows rfl _ _) <| wild_next <|
    wild_step (halves_rows rfl _ _) <| wild_next <| wild_step (halves_rows rfl _ _) <| wild_next <|
    wild_step (halves_rows rfl _ _) <| wild_next <| wild_step (halves_rows rfl _ _) <| wild_next <|
    wild_step (halves_rows rfl _ _) hx
  obtain ⟨j, h1, h2⟩ := h
  exact Prod.ext (funext fun i => by rw [unit_idx i j]; exact h1) (funext fun i => by rw [unit_idx i j]; exact h2)

theorem mean_wild (x : FVec Ideal S64x128 .f32) (hx : ∃ j, Wild (x j)) : mean x = (K ⊥, K ⊥) := by
  have hm : mulf (K ⊥) (broadcast S1x1 (Scalar.ofBits (F := Ideal) .f32 0x39000000#32)) = K (s := S1x1) ⊥ := by
    rw [inv_R]
    funext j
    exact EReal.bot_mul_coe_of_pos (by norm_num)
  simp only [mean, foldSum_wild (x, _) hx, hm]

theorem spread_K (v : EReal) : spread (K v) = K v := rfl

theorem centred_wild (x : FVec Ideal S64x128 .f32) : centred x (K ⊥, K ⊥) = (K ⊥, K ⊥) := by
  have hn : neg (K ⊥ : FVec Ideal S1x1 .f32) = K ⊤ := by
    rw [neg, zero_R]; funext j
    show ((0 : ℝ) : EReal) - ⊥ = ⊤
    simp
  have he : subf (sumErr x (K ⊤)) (K ⊥) = K ⊥ := by
    funext j
    show ((x j - ((x j + ⊤) - ((x j + ⊤) - x j))) + (⊤ - ((x j + ⊤) - x j)) : EReal) - ⊥ = ⊥
    rw [sumErr_wild _ _ (.inr (.inr rfl))]; simp
  simp only [centred, hn, spread_K, he]
  refine Prod.ext (funext fun j => ?_) (funext fun j => ?_)
  · show (x j + ⊤ : EReal) + ⊥ = ⊥
    simp
  · show (⊥ : EReal) - ((x j + ⊤ + ⊥) - (x j + ⊤)) = ⊥
    simp

theorem sq_wild : sq (K ⊥, K ⊥) = (K (s := s) ⊥, K ⊥) := by
  have hh : splitHi (K ⊥) = K (s := s) ⊥ := by
    rw [splitHi, split_R]; funext j
    show (⊥ * ((4097 : ℝ) : EReal)) - _ = ⊥
    rw [EReal.bot_mul_coe_of_pos (by norm_num)]; simp
  have hl : splitLo (K ⊥) = K (s := s) ⊥ := by
    rw [splitLo, hh]; funext j
    show (⊥ : EReal) - ⊥ = ⊥
    simp
  have he : sqErr (K ⊥) = K (s := s) ⊥ := by
    rw [sqErr, hh, hl]; funext j
    show (((⊥ * ⊥ - ⊥ * ⊥) + ⊥ * ⊥) + ⊥ * ⊥ : EReal) + ⊥ * ⊥ = ⊥
    simp
  have hw : sqLow (K ⊥) (K ⊥) = K (s := s) ⊥ := by
    rw [sqLow, he]; funext j
    show (⊥ : EReal) + _ = ⊥
    simp
  simp only [sq, sqHi, sqLo, hw]
  refine Prod.ext (funext fun j => ?_) (funext fun j => ?_)
  · show (⊥ * ⊥ : EReal) + ⊥ = ⊥
    simp
  · show (⊥ : EReal) - ((⊥ * ⊥ + ⊥) - (⊥ * ⊥)) = ⊥
    simp

theorem add_wild_left (x : FVec Ideal s .f32 × FVec Ideal s .f32) : add (K ⊥, K ⊥) x = (K ⊥, K ⊥) :=
  Prod.ext (funext fun _ => addHi_wild _ _ _ _ _ (.inl (.inl rfl)))
    (funext fun _ => addLo_wild _ _ _ _ _ (.inl (.inl rfl)))

theorem add_wild_right (x : FVec Ideal s .f32 × FVec Ideal s .f32) : add x (K ⊥, K ⊥) = (K ⊥, K ⊥) :=
  Prod.ext (funext fun _ => addHi_wild _ _ _ _ _ (.inr (.inl rfl)))
    (funext fun _ => addLo_wild _ _ _ _ _ (.inr (.inl rfl)))

theorem maxStep_K {s t : Shape} {o p : Fin s.rank → Nat} {ho : s.Slices o t} {hp : s.Slices p t} (v w : EReal) :
    maxStep t o p ho hp (K (s := s) v, K w) = (K v, K w) := by
  refine Prod.ext (funext fun j => ?_) (funext fun j => ?_)
  · show (if _ then v else v) = v
    simp
  · show (if _ then w else w) = w
    simp

theorem foldMax_K (v w : EReal) : foldMax (K v, K w) = (K v, K w) := by
  simp only [foldMax, maxStep_K]

theorem root_wild : root (K ⊥, K ⊥) = (K (s := s) ⊥, K ⊤) := by
  have hq : sqrt (K ⊥ : FVec Ideal s .f32) = K ⊥ := rfl
  have hl : rootLow (K ⊥, K ⊥) = K (s := s) 0 := by
    rw [rootLow, two_R]; funext j
    show Ideal.div (addHi (K ⊥) (K ⊥) _ _ j) (((2 : ℝ) : EReal) * ⊥) = 0
    rw [addHi_wild _ _ _ _ _ (.inl (.inl rfl)), EReal.coe_mul_bot_of_pos (by norm_num)]
    simp [Ideal.div]
  simp only [root, hl, hq]
  refine Prod.ext (funext fun j => ?_) (funext fun j => ?_)
  · show (⊥ : EReal) + 0 = ⊥
    simp
  · show (0 : EReal) - ((⊥ + 0) - ⊥) = ⊤
    simp

theorem radius_wild : radius (K ⊥, K ⊥) = (K (s := s) ⊥, K ⊥) := by
  refine Prod.ext (funext fun j => ?_) (funext fun j => ?_)
  · exact addHi_wild _ _ _ _ _ (.inl (.inl (by rw [root_wild]; rfl)))
  · exact addLo_wild _ _ _ _ _ (.inl (.inl (by rw [root_wild]; rfl)))

theorem spread_const (a : FVec Ideal S1x1 .f32) (j0 : S1x1.Idx) : spread a = K (a j0) := by
  funext j
  exact congrArg a (unit_idx _ _)

/-- Equal points have equal grid points. -/
theorem gridPt_const (v w : EReal) (r : FVec Ideal S1x1 .f32 × FVec Ideal S1x1 .f32) :
    ∃ c, gridPt (K v, K w) r = fun _ => c := by
  have j0 : S1x1.Idx := fun a => ⟨0, by fin_cases a <;> decide⟩
  refine ⟨gridOf (quot (add (K v, K w) (spread r.1, spread r.2)) r) (fun a => ⟨0, by fin_cases a <;> decide⟩), ?_⟩
  have h1 := spread_const r.1 j0
  have h2 := spread_const r.2 j0
  have h3 := spread_const (splitHi r.1) j0
  have h4 := spread_const (splitLo r.1) j0
  simp only [gridPt, quot, quotLow, h1, h2, h3, h4]
  rfl

theorem gridPt_wild (d : FVec Ideal S64x128 .f32 × FVec Ideal S64x128 .f32) :
    ∃ c, gridPt d (K ⊥, K ⊥) = fun _ => c := by
  obtain ⟨c, hc⟩ := gridPt_const 0 0 (K ⊥, K ⊥)
  refine ⟨c, ?_⟩
  rw [← hc, gridPt, gridPt, spread_K, add_wild_right, add_wild_right]

/-- A row that is not finite has one key. -/
theorem gridPts_wild (x y w : FVec Ideal S64x128 .f32) (h : (∃ j, Wild (x j)) ∨ (∃ j, Wild (y j)) ∨ ∃ j, Wild (w j)) :
    ∃ a b c, gridPts x y w = (fun _ => a, fun _ => b, fun _ => c) := by
  have hr : radius (foldMax (add (add (sq (centred x (mean x))) (sq (centred y (mean y)))) (sq (centred w (mean w))))) =
      (K ⊥, K ⊥) := by
    have hs : add (add (sq (centred x (mean x))) (sq (centred y (mean y)))) (sq (centred w (mean w))) = (K ⊥, K ⊥) := by
      rcases h with h | h | h
      · rw [mean_wild x h, centred_wild, sq_wild, add_wild_left, add_wild_left]
      · rw [mean_wild y h, centred_wild, sq_wild, add_wild_right, add_wild_left]
      · rw [mean_wild w h, centred_wild, sq_wild, add_wild_right]
    rw [hs, foldMax_K, radius_wild]
  obtain ⟨a, ha⟩ := gridPt_wild (centred x (mean x))
  obtain ⟨b, hb⟩ := gridPt_wild (centred y (mean y))
  obtain ⟨c, hc⟩ := gridPt_wild (centred w (mean w))
  refine ⟨a, b, c, ?_⟩
  simp only [gridPts, hr, ha, hb, hc]

/-- So has one whose points agree. -/
theorem gridPts_same (a b c : ℝ) :
    ∃ a' b' c', gridPts (R fun _ => a) (R fun _ => b) (R fun _ => c) = (fun _ => a', fun _ => b', fun _ => c') := by
  have hc : ∀ a : ℝ, centred (R fun _ => a) (mean (R fun _ => a)) = (K 0, K 0) := fun a => by
    rw [mean_R, centred_R]
    have : (fun j : S64x128.Idx => a - (∑ _j : S64x128.Idx, a) / 8192) = 0 := by
      funext j
      have : Fintype.card S64x128.Idx = 8192 := by
        simp [Shape.Idx, Fintype.card_pi, Fin.prod_univ_two]
      simp [Finset.sum_const, this]
    rw [this]; rfl
  obtain ⟨k, hk⟩ := gridPt_const 0 0 (radius (foldMax (add (add (sq (K 0, K 0)) (sq (K 0, K 0))) (sq (K 0, K 0)))))
  refine ⟨k, k, k, ?_⟩
  simp only [gridPts, hc, hk]

/-- A finite row whose points do not all agree. -/
theorem gridPts_R (x y w : S64x128.Idx → ℝ) (v : ℝ)
    (hv : ∀ j, (x j - (∑ i, x i) / 8192) ^ 2 + (y j - (∑ i, y i) / 8192) ^ 2 + (w j - (∑ i, w i) / 8192) ^ 2 ≤ v)
    (he : ∃ j, (x j - (∑ i, x i) / 8192) ^ 2 + (y j - (∑ i, y i) / 8192) ^ 2 + (w j - (∑ i, w i) / 8192) ^ 2 = v)
    (h0 : 0 < v) :
    gridPts (R x) (R y) (R w) =
      (fun j => wordOf (524288 * ((x j - (∑ i, x i) / 8192 + (Real.sqrt v + (eps1 + eps2))) / (Real.sqrt v + (eps1 + eps2)))),
       fun j => wordOf (524288 * ((y j - (∑ i, y i) / 8192 + (Real.sqrt v + (eps1 + eps2))) / (Real.sqrt v + (eps1 + eps2)))),
       fun j => wordOf (524288 * ((w j - (∑ i, w i) / 8192 + (Real.sqrt v + (eps1 + eps2))) / (Real.sqrt v + (eps1 + eps2))))) := by
  have hp : Real.sqrt v + (eps1 + eps2) ≠ 0 := by
    have := Real.sqrt_nonneg v; have := eps1_pos; have := eps2_pos; positivity
  simp only [gridPts, mean_R, centred_R, sq_R, add_R]
  rw [foldMax_R _ v (fun j => by have := hv j; simp only [Pi.add_apply, Pi.mul_apply]; nlinarith) (by
    obtain ⟨j, hj⟩ := he
    exact ⟨j, by simp only [Pi.add_apply, Pi.mul_apply]; nlinarith⟩), radius_R v h0]
  simp only [gridPt_R _ _ hp]

end Cert.KernelIdeal.Keys
-- ==== Proof.Agree.lean ====
/-
  One cloud's grid points, the kernel's and the reference's, over the extended reals. Where the cloud is finite and its
  points do not all coincide they are the same. Else both are constant along the cloud, and the order is that of the
  numbers.
-/
module

public import proofs.«01_k».proof.Proof.RefGrid
public import proofs.«01_k».proof.Proof.Wild

@[expose] public section

noncomputable section

namespace Cert.Proof.Agree

open Cert.ReferenceIdeal
open Idealize.ShloMosaic
open Cert.KernelIdeal.Keys
open Cert.Proof.RefKeys Cert.Proof.RefGrid

/-- The kernel's array of a cloud's points, 64 by 128. -/
def cell : Cert.KernelIdeal.S64x128.Idx ≃ Fin 8192 := (Cert.KernelIdeal.S64x128.rowMajor).trans (finCongr (by decide))

def plane (z : Fin 8192 → Fin 3 → EReal) (k : Fin 3) : FVec Ideal Cert.KernelIdeal.S64x128 .f32 := fun j => z (cell j) k

/-! ## Words of the constants -/

theorem count_word : Ideal.ofBits .f32 0x46000000#32 = ((8192 : ℝ) : EReal) := by
  simp [Ideal.ofBits, Ideal.ieee, -EReal.coe_mul]; norm_num

theorem grid_word : Ideal.ofBits .f32 0x49800000#32 = ((1048576 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem least_word : Ideal.ofBits .f32 0xFF800000#32 = ⊥ := by
  simp [Ideal.ofBits, Ideal.ieee]

/-! ## The reference, of a cloud that is not finite -/

theorem wild_add_left {x y : EReal} (h : Wild x) : Wild (x + y) := by
  rcases h with rfl | rfl
  · left; simp
  · induction y
    · left; simp
    · right; exact EReal.top_add_coe _
    · right; rfl

theorem wild_add_right {x y : EReal} (h : Wild y) : Wild (x + y) := add_comm y x ▸ wild_add_left h

theorem wild_sum {ι : Type} (s : Finset ι) (f : ι → EReal) {i : ι} (hi : i ∈ s) (h : Wild (f i)) : Wild (∑ i ∈ s, f i) := by
  classical
  rw [← Finset.add_sum_erase s f hi]
  exact wild_add_left h

theorem wild_neg {x : EReal} (h : Wild x) : Wild (-x) := by
  rcases h with rfl | rfl
  · right; rfl
  · left; rfl

theorem wild_sub {x y : EReal} (h : Wild y) : Wild (x - y) := by
  rw [sub_eq_add_neg]; exact wild_add_right (wild_neg h)

theorem wild_mul_self {x : EReal} (h : Wild x) : x * x = ⊤ := by
  rcases h with rfl | rfl <;> simp

theorem sq_nonneg (x : EReal) : 0 ≤ x * x := by
  induction x
  · simp
  · rename_i r; exact_mod_cast mul_self_nonneg r
  · simp

theorem rMean_wild {z : Fin 8192 → Fin 3 → EReal} {k : Fin 3} {i : Fin 8192} (h : Wild (z i k)) : Wild (rMean z k) := by
  have hs : Wild (0 + ∑ i, z i k) := wild_add_right (wild_sum _ (fun i => z i k) (Finset.mem_univ i) h)
  unfold rMean
  rw [count_word, Ideal.div_coe (by norm_num)]
  rcases hs with hs | hs <;> rw [hs]
  · left; exact EReal.bot_mul_coe_of_pos (by norm_num)
  · right; exact EReal.top_mul_coe_of_pos (by norm_num)

theorem rDist_wild {z : Fin 8192 → Fin 3 → EReal} {k : Fin 3} {i : Fin 8192} (h : Wild (z i k)) (i' : Fin 8192) : rDist z i' = ⊤ := by
  have hw := wild_sum Finset.univ (fun k => (z i' k - rMean z k) * (z i' k - rMean z k)) (Finset.mem_univ k)
    (Or.inr (wild_mul_self (wild_sub (rMean_wild h))))
  have h0 : (0 : EReal) ≤ ∑ k, (z i' k - rMean z k) * (z i' k - rMean z k) := Finset.sum_nonneg fun k _ => sq_nonneg _
  unfold rDist
  rcases hw with hw | hw
  · rw [hw] at h0; simp at h0
  · rw [hw]; simp

theorem rRad_wild {z : Fin 8192 → Fin 3 → EReal} {k : Fin 3} {i : Fin 8192} (h : Wild (z i k)) : rRad z = ⊤ := by
  have hf : Finset.univ.fold max (Ideal.ofBits .f32 0xFF800000#32) (rDist z) = ⊤ :=
    top_le_iff.1 ((Finset.le_fold_max _).2 (.inr ⟨i, Finset.mem_univ i, (rDist_wild h i).ge⟩))
  unfold rRad
  rw [hf, eps1_word, eps2_word]
  rfl

theorem rGrid_wild {z : Fin 8192 → Fin 3 → EReal} {k : Fin 3} {i : Fin 8192} (h : Wild (z i k)) : ∃ c, ∀ i', rGrid z i' = c := by
  refine ⟨fun _ => Ideal.fptosi 32 (((1048576 : ℝ) : EReal) * 0) + 32767#32, fun i' => funext fun k' => ?_⟩
  unfold rGrid
  rw [rRad_wild h, grid_word, two_word, EReal.coe_mul_top_of_pos (by norm_num)]
  simp [Ideal.div]

/-! ## The reference, of a finite cloud -/

variable (a : Fin 8192 → Fin 3 → ℝ)

def up : Fin 8192 → Fin 3 → EReal := fun i k => ((a i k : ℝ) : EReal)

def mu (k : Fin 3) : ℝ := (∑ i, a i k) / 8192

def dist (i : Fin 8192) : ℝ := ∑ k, (a i k - mu a k) * (a i k - mu a k)

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem rMean_up (k : Fin 3) : rMean (up a) k = ((mu a k : ℝ) : EReal) := by
  unfold rMean up mu
  rw [coe_sum, count_word, zero_add, Ideal.div_coe (by norm_num), ← EReal.coe_mul]
  exact congrArg _ (by ring)

theorem rDist_up (i : Fin 8192) : rDist (up a) i = ((dist a i : ℝ) : EReal) := by
  unfold rDist
  simp only [rMean_up]
  unfold up dist
  rw [zero_add, ← coe_sum]
  exact Finset.sum_congr rfl fun k _ => by rw [← EReal.coe_sub, ← EReal.coe_mul]

theorem rRad_up {v : ℝ} (h0 : 0 ≤ v) (hv : ∀ i, dist a i ≤ v) (he : ∃ i, dist a i = v) :
    rRad (up a) = ((Real.sqrt v + (eps1 + eps2) : ℝ) : EReal) := by
  have hf : Finset.univ.fold max (Ideal.ofBits .f32 0xFF800000#32) (rDist (up a)) = ((v : ℝ) : EReal) := by
    apply le_antisymm
    · refine (Finset.fold_max_le _).2 ⟨by rw [least_word]; exact bot_le, fun i _ => ?_⟩
      rw [rDist_up]; exact_mod_cast hv i
    · obtain ⟨i, hi⟩ := he
      exact (Finset.le_fold_max _).2 (.inr ⟨i, Finset.mem_univ i, by rw [rDist_up, hi]⟩)
  unfold rRad
  rw [hf, eps1_word, eps2_word, Ideal.sqrt_coe, if_neg (not_lt.2 h0), ← EReal.coe_add, ← EReal.coe_add, add_assoc]

/-- A conversion truncates: at no negative number it is of the whole part. -/
theorem fptosi_floor {x : ℝ} (hx : 0 ≤ x) : Ideal.fptosi 32 (x : EReal) = Ideal.fptosi 32 ((⌊x⌋ : ℝ) : EReal) := by
  have h2 : (0 : ℝ) ≤ ⌊x⌋ := by exact_mod_cast Int.floor_nonneg.2 hx
  show BitVec.ofInt 32 (max _ (min _ (if 0 ≤ x then ⌊x⌋ else ⌈x⌉))) =
    BitVec.ofInt 32 (max _ (min _ (if (0 : ℝ) ≤ ⌊x⌋ then ⌊((⌊x⌋ : ℤ) : ℝ)⌋ else ⌈((⌊x⌋ : ℤ) : ℝ)⌉)))
  rw [if_pos hx, if_pos h2, Int.floor_intCast]

theorem dev_le {v : ℝ} (hv : ∀ i, dist a i ≤ v) (i : Fin 8192) (k : Fin 3) : -Real.sqrt v ≤ a i k - mu a k := by
  refine (abs_le.1 (Real.abs_le_sqrt (le_trans ?_ (hv i)))).1
  rw [pow_two]
  exact Finset.single_le_sum (f := fun k => (a i k - mu a k) * (a i k - mu a k)) (fun k _ => mul_self_nonneg _) (Finset.mem_univ k)

theorem rGrid_up {v : ℝ} (h0 : 0 ≤ v) (hv : ∀ i, dist a i ≤ v) (he : ∃ i, dist a i = v) (i : Fin 8192) (k : Fin 3) :
    rGrid (up a) i k = wordOf (524288 * ((a i k - mu a k + (Real.sqrt v + (eps1 + eps2))) / (Real.sqrt v + (eps1 + eps2)))) := by
  have hs := Real.sqrt_nonneg v
  have hr : 0 < Real.sqrt v + (eps1 + eps2) := by have := eps1_pos; have := eps2_pos; positivity
  have hd := dev_le a hv i k
  have h1 := eps1_pos; have h2 := eps2_pos
  unfold rGrid wordOf
  rw [rRad_up a h0 hv he, rMean_up, grid_word, two_word]
  unfold up
  rw [← EReal.coe_sub, ← EReal.coe_add, ← EReal.coe_mul, Ideal.div_coe (by positivity), ← EReal.coe_mul, ← EReal.coe_mul]
  rw [show (1048576 : ℝ) * ((a i k - mu a k + (Real.sqrt v + (eps1 + eps2))) * (1 / (2 * (Real.sqrt v + (eps1 + eps2))))) =
    524288 * ((a i k - mu a k + (Real.sqrt v + (eps1 + eps2))) / (Real.sqrt v + (eps1 + eps2))) by field_simp; ring]
  rw [fptosi_floor (mul_nonneg (by norm_num) (div_nonneg (by linarith) hr.le))]

theorem rGrid_same {z : Fin 8192 → Fin 3 → EReal} {i i' : Fin 8192} (h : z i = z i') : rGrid z i = rGrid z i' := by
  funext k; unfold rGrid; rw [h]

/-! ## Both -/

theorem plane_sum (k : Fin 3) : ∑ j, a (cell j) k = ∑ i, a i k := cell.sum_comp fun i => a i k

/-- What the two have in common: their grid points are equal, or neither tells two points apart. -/
theorem agree (z : Fin 8192 → Fin 3 → EReal) :
    (∀ j, three (gridPts (plane z 0) (plane z 1) (plane z 2)) j = rGrid z (cell j)) ∨
    ((∃ c, ∀ j, three (gridPts (plane z 0) (plane z 1) (plane z 2)) j = c) ∧ ∃ c, ∀ i, rGrid z i = c) := by
  by_cases hw : ∃ i k, Wild (z i k)
  · obtain ⟨i, k, h⟩ := hw
    right
    refine ⟨?_, rGrid_wild h⟩
    have h' : Wild (plane z k (cell.symm i)) := by unfold plane; rw [Equiv.apply_symm_apply]; exact h
    obtain ⟨p, q, r, e⟩ := gridPts_wild (plane z 0) (plane z 1) (plane z 2) (by
      match k, h' with
      | 0, h' => exact .inl ⟨_, h'⟩
      | 1, h' => exact .inr (.inl ⟨_, h'⟩)
      | 2, h' => exact .inr (.inr ⟨_, h'⟩))
    exact ⟨![p, q, r], fun j => by rw [e]; rfl⟩
  · obtain ⟨a, rfl⟩ : ∃ a, z = up a := ⟨fun i k => (z i k).toReal, by
      funext i k
      refine (EReal.coe_toReal ?_ ?_).symm
      · intro h; exact hw ⟨i, k, .inr h⟩
      · intro h; exact hw ⟨i, k, .inl h⟩⟩
    obtain ⟨i₀, hi₀⟩ := Finite.exists_max (dist a)
    have h0 : 0 ≤ dist a i₀ := Finset.sum_nonneg fun k _ => mul_self_nonneg _
    have hm : ∀ k, (∑ j, a (cell j) k) / 8192 = mu a k := fun k => by rw [plane_sum]; rfl
    have hd : ∀ i, dist a i = (a i 0 - mu a 0) ^ 2 + (a i 1 - mu a 1) ^ 2 + (a i 2 - mu a 2) ^ 2 := fun i => by
      unfold dist; rw [Fin.sum_univ_three]; ring
    rcases h0.lt_or_eq with hp | hz
    · left
      intro j
      have e := gridPts_R (fun j => a (cell j) 0) (fun j => a (cell j) 1) (fun j => a (cell j) 2) (dist a i₀)
        (fun j => by rw [hm, hm, hm, ← hd]; exact hi₀ _)
        ⟨cell.symm i₀, by rw [hm, hm, hm, Equiv.apply_symm_apply, ← hd]⟩ hp
      rw [hm, hm, hm] at e
      have e' : gridPts (plane (up a) 0) (plane (up a) 1) (plane (up a) 2) = _ := e
      rw [e']
      funext k
      rw [rGrid_up a h0 hi₀ ⟨i₀, rfl⟩]
      match k with
      | 0 => rfl
      | 1 => rfl
      | 2 => rfl
    · right
      have hc : ∀ i k, a i k = mu a k := fun i k => by
        have h1 : dist a i ≤ 0 := hz ▸ hi₀ i
        have h2 : (a i k - mu a k) * (a i k - mu a k) ≤ dist a i :=
          Finset.single_le_sum (f := fun k => (a i k - mu a k) * (a i k - mu a k)) (fun k _ => mul_self_nonneg _) (Finset.mem_univ k)
        have h3 : a i k - mu a k = 0 := mul_self_eq_zero.1 (le_antisymm (h2.trans h1) (mul_self_nonneg _))
        linarith
      have hp : ∀ k, plane (up a) k = R fun _ => mu a k := fun k => funext fun j => by
        show ((a (cell j) k : ℝ) : EReal) = ((mu a k : ℝ) : EReal)
        rw [hc]
      constructor
      · obtain ⟨p, q, r, e⟩ := gridPts_same (mu a 0) (mu a 1) (mu a 2)
        exact ⟨![p, q, r], fun j => by rw [hp, hp, hp, e]; rfl⟩
      · exact ⟨rGrid (up a) i₀, fun i => rGrid_same (funext fun k => by unfold up; rw [hc i, hc i₀])⟩

end Cert.Proof.Agree

end
-- ==== Proof.Body.lean ====
/-
  The sort kernel's body, said once: the printed body runs six passes, each of four counted loops (clear the
  counts, count, sum the counts up, place), and each counting or placing trip treats four blocks of the row in
  the same way. Here a block's steps are programs of their own, in the buffers, the digit and the checks they
  name; Text.lean shows the printed parts to be these programs put together. Nothing else of the proof reads the
  printed text.
-/
module

public import proofs.«01_k».proof.Defs
public import proofs.«01_k».proof.Proof.Gen.KernelIdeal
public import Idealize.ShloMosaic.Lib.SparseCore.Ops

@[expose] public section

set_option warn.classDefReducibility false

noncomputable section

namespace Cert.Proof.Body

open Cert.KernelIdeal hiding sig Λ₀ defs₀
open Cert.KernelIdeal.Gen
open Idealize.ShloMosaic
open Idealize.SL Idealize.SL.RA Idealize.SL.Sem

/-- A program that holds the sort: its memory, its bodies, and the ghost state its launch needs beside the counters of
    the copies. The whole kernel is one, the sort's call by itself another. -/
class Prg where
  sig : RefSig
  Λ₀ : Labels
  defs₀ : ∀ {F : FTy → Type} [FloatOps F], Defs nD τ sig (Elt F) Λ₀
  U : Type
  [ura : URA U]

attribute [instance] Prg.ura
export Prg (sig Λ₀ defs₀)

abbrev V16 := IVec S16 32

/-- Sixteen words from `o` on lie inside a row, or inside a table of counts. -/
abbrev In8 (o : Fin 1 → Nat) : Prop := ∀ a, o a + S16.size a ≤ S8192.size a
abbrev In2 (o : Fin 1 → Nat) : Prop := ∀ a, o a + S16.size a ≤ S2048.size a

/-- Every lane names an element of a table of counts, or of a row. -/
abbrev Inb2 (v : V16) : Prop := ∀ a x, ((![v] : Fin 1 → V16) a x).toNat < S2048.size a
abbrev Inb8 (v : V16) : Prop := ∀ a x, ((![v] : Fin 1 → V16) a x).toNat < S8192.size a

/-- A check the body makes of a vector of indices: a proposition, decided, that says they are in range. -/
structure Chk (P : V16 → Prop) where
  C : V16 → Prop
  dec : ∀ v, Decidable (C v)
  fwd : ∀ v, C v → P v
  bwd : ∀ v, P v → C v

/-! ## Where a trip reads -/

/-- The word at which block `w` of trip `k` begins, and the element. -/
def wof (k : Nat) (w : BitVec 32) : BitVec 32 := Scalar.addi (Scalar.muli (Scf.iv 0#32 1#32 k) 16#32) w
def oof (k : Nat) (w : BitVec 32) : Fin 1 → Nat := ![(Scalar.indexCast (wof k w)).toNat]
def ozo (k : Nat) : Fin 1 → Nat := ![(Scalar.indexCast (Scalar.muli (Scf.iv 0#32 1#32 k) 16#32)).toNat]

/-- The four blocks of a row. -/
def blk : Fin 4 → BitVec 32 := ![0#32, 2048#32, 4096#32, 6144#32]

theorem wof_toNat (k : Nat) (hk : k < 128) (u : Fin 4) : (wof k (blk u)).toNat = 2048 * u.val + 16 * k := by
  unfold wof blk Scf.iv Scalar.addi Scalar.muli
  have : u = 0 ∨ u = 1 ∨ u = 2 ∨ u = 3 := by fin_cases u <;> simp
  rcases this with rfl | rfl | rfl | rfl <;> simp [IntOp.addi, IntOp.muli, BitVec.toNat_add, BitVec.toNat_mul] <;> omega

theorem in8 (k : Nat) (hk : k < 128) (u : Fin 4) : In8 (oof k (blk u)) := by
  intro a; obtain rfl : a = 0 := Subsingleton.elim _ _
  show (wof k (blk u)).toNat + 16 ≤ 8192
  rw [wof_toNat k hk u]; have := u.isLt; omega

theorem ozo_zero (k : Nat) (hk : k < 128) : ozo k 0 = 16 * k := by
  show (Scalar.muli (Scf.iv 0#32 1#32 k) 16#32).toNat = _
  unfold Scf.iv Scalar.muli
  simp [IntOp.muli, BitVec.toNat_mul]; omega

theorem in2 (k : Nat) (hk : k < 128) : In2 (ozo k) := by
  intro a; obtain rfl : a = 0 := Subsingleton.elim _ _
  show ozo k 0 + 16 ≤ 2048
  rw [ozo_zero k hk]; omega

/-- The operands of every loop: 128 trips. -/
@[reducible] def lp : Scf.Loop 32 := ⟨0#32, Scalar.addi 0#32 128#32, 1#32⟩
theorem lp_ok : lp.OK := by decide
theorem lp_trips : lp.trips = 128 := by decide
theorem lt128 (k : Fin lp.trips) : k.val < 128 := lp_trips ▸ k.isLt

/-! ## The steps -/

variable [Prg] {F : FTy → Type} [FloatOps F]
variable {c : Fin τ.nSC} {s : Fin τ.nSub}

/-- The effects of one vector subcore. -/
abbrev Eff (F : FTy → Type) (c : Fin τ.nSC) (s : Fin τ.nSub) : Type → Type := TpuEff nD τ sig (Elt F) Λ₀ (.scVector c s)
/-- A word buffer of the tile: a row of the table, or a table of counts. -/
abbrev M8 := Memref sig .scVector .vmem S8192 .i32
abbrev M2 := Memref sig .scVector .vmem S2048 .i32

def rd8 (M : M8) (o : Fin 1 → Nat) (h : In8 o) : Prog (Eff F c s) (Vec F S16 .i32) :=
  Prog.lift (.load M (Rect.unit (s := S8192) o S16.size h).toLoadRect (View.loadsAt_vmem h_S16))
def st8 (M : M8) (o : Fin 1 → Nat) (h : In8 o) (v : Vec F S16 .i32) : Prog (Eff F c s) PUnit :=
  Prog.lift (.store M (Rect.unit (s := S8192) o S16.size h) v Finset.univ (View.stores_vmem_bits_univ h_S16 rfl) (.inl rfl))
def rd2 (M : M2) (o : Fin 1 → Nat) (h : In2 o) : Prog (Eff F c s) (Vec F S16 .i32) :=
  Prog.lift (.load M (Rect.unit (s := S2048) o S16.size h).toLoadRect (View.loadsAt_vmem h_S16))
def st2 (M : M2) (o : Fin 1 → Nat) (h : In2 o) (v : Vec F S16 .i32) : Prog (Eff F c s) PUnit :=
  Prog.lift (.store M (Rect.unit (s := S2048) o S16.size h) v Finset.univ (View.stores_vmem_bits_univ h_S16 rfl) (.inl rfl))
def asm {P : V16 → Prop} (K : Chk P) (v : V16) : Prog (Eff F c s) (PLift (K.C v)) :=
  Prog.lift (.assume (K.C v) (K.dec v))
/-- The counts the lanes name. -/
def gat (M : M2) (v : V16) (h : Inb2 v) : Prog (Eff F c s) (Vec F S16 .i32) :=
  SparseCore.vectorLoadIdx M ![v] h (View.loads_vmem h_S2048)
/-- The counts at the lanes' last occurrences, rewritten. -/
def put2 (M : M2) (v : V16) (x : V16) (mask : IVec S16 1) (h : Inb2 v) : Prog (Eff F c s) PUnit :=
  SparseCore.vectorStoreIdx M ![v] (x : Vec F S16 .i32) mask false h (View.stores_vmem_bits_univ h_S2048 rfl)
/-- Every lane's word placed at the element it names. -/
def put8 (M : M8) (v : V16) (x : V16) (h : Inb8 v) : Prog (Eff F c s) PUnit :=
  SparseCore.vectorStoreIdx M ![v] (x : Vec F S16 .i32) (fun _ => 1#1) false h (View.stores_vmem_bits_univ h_S8192 rfl)

/-! ## The digit of a pass, and what a block reads of its keys -/

/-- The key words a pass's digit is taken from, read at `o`, and the digit. -/
structure Key (F : FTy → Type) [FloatOps F] where
  X : Type
  read : ∀ {c : Fin τ.nSC} {s : Fin τ.nSub} (o : Fin 1 → Nat), In8 o → Prog (Eff F c s) X
  dig : X → V16

/-- A digit of one word: `w` shifted right by `b`, the low eleven bits. -/
def key1 (M : M8) (b : BitVec 32) : Key F where
  X := Vec F S16 .i32
  read o h := rd8 M o h
  dig x := andi (shrsi x (broadcast S16 b)) (broadcast S16 2047#32)

/-- The digit across both words: the top ten bits of the low one, the bottom bit of the high one. -/
def key2 (lo hi : M8) : Key F where
  X := Vec F S16 .i32 × Vec F S16 .i32
  read o h := do
    let x ← rd8 lo o h
    let y ← rd8 hi o h
    pure (x, y)
  dig x := ori (andi (shrsi x.1 (broadcast S16 22#32)) (broadcast S16 1023#32))
    (shli (andi x.2 (broadcast S16 1#32)) (broadcast S16 10#32))

/-- Counting one block: each element's occurrence number in its block so far, and the block's counts. -/
def hblk (K : Key F) (C : Chk Inb2) (hist : M2) (occ : M8) (o : Fin 1 → Nat) (ho : In8 o) : Prog (Eff F c s) PUnit := do
  let x ← K.read o ho
  let h := (← asm C (K.dig x)).down
  let n : Vec F S16 .i32 ← gat hist (K.dig x) (C.fwd _ h)
  put2 hist (K.dig x) (addi n (scanCount (broadcast S16 1#1) (K.dig x)).2)
    (scanCount (broadcast S16 1#1) (K.dig x)).1 (C.fwd _ h)
  let _ ← rd8 occ o ho
  st8 occ o ho (subi (addi n (scanCount (broadcast S16 1#1) (K.dig x)).2) (broadcast S16 1#32))

/-- A counting trip. -/
def hbody (K : Key F) (C : Fin 4 → Chk Inb2) (hist : Fin 4 → M2) (occ : M8) (k : Fin 128) :
    Prog (Eff F c s) (BitVec 32) := do
  hblk K (C 0) (hist 0) occ (oof k (blk 0)) (in8 k k.isLt 0)
  hblk K (C 1) (hist 1) occ (oof k (blk 1)) (in8 k k.isLt 1)
  hblk K (C 2) (hist 2) occ (oof k (blk 2)) (in8 k k.isLt 2)
  hblk K (C 3) (hist 3) occ (oof k (blk 3)) (in8 k k.isLt 3)
  pure 0#32

/-- A clearing trip. -/
def zbody (hist : Fin 4 → M2) (k : Fin 128) : Prog (Eff F c s) (BitVec 32) := do
  let _ ← rd2 (hist 0) (ozo k) (in2 k k.isLt)
  st2 (hist 0) (ozo k) (in2 k k.isLt) (broadcast S16 0#32 : V16)
  let _ ← rd2 (hist 1) (ozo k) (in2 k k.isLt)
  st2 (hist 1) (ozo k) (in2 k k.isLt) (broadcast S16 0#32 : V16)
  let _ ← rd2 (hist 2) (ozo k) (in2 k k.isLt)
  st2 (hist 2) (ozo k) (in2 k k.isLt) (broadcast S16 0#32 : V16)
  let _ ← rd2 (hist 3) (ozo k) (in2 k k.isLt)
  st2 (hist 3) (ozo k) (in2 k k.isLt) (broadcast S16 0#32 : V16)
  pure 0#32

/-- A summing trip, from the running total `t`. -/
def sbody (hist : Fin 4 → M2) (k : Fin 128) (t : BitVec 32) : Prog (Eff F c s) (BitVec 32) := do
  let a : Vec F S16 .i32 ← rd2 (hist 0) (ozo k) (in2 k k.isLt)
  let b : Vec F S16 .i32 ← rd2 (hist 1) (ozo k) (in2 k k.isLt)
  let d : Vec F S16 .i32 ← rd2 (hist 2) (ozo k) (in2 k k.isLt)
  let e : Vec F S16 .i32 ← rd2 (hist 3) (ozo k) (in2 k k.isLt)
  let w : V16 := addi (addi (addi a b) d) e
  let x : V16 := addi (subi (scan .sum w) w) (broadcast S16 t)
  let _ ← rd2 (hist 0) (ozo k) (in2 k k.isLt)
  st2 (hist 0) (ozo k) (in2 k k.isLt) x
  let _ ← rd2 (hist 1) (ozo k) (in2 k k.isLt)
  st2 (hist 1) (ozo k) (in2 k k.isLt) (addi x a : V16)
  let _ ← rd2 (hist 2) (ozo k) (in2 k k.isLt)
  st2 (hist 2) (ozo k) (in2 k k.isLt) (addi x (addi a b) : V16)
  let _ ← rd2 (hist 3) (ozo k) (in2 k k.isLt)
  st2 (hist 3) (ozo k) (in2 k k.isLt) (addi x (addi (addi a b) d) : V16)
  pure (Scalar.addi t (extractAt ![15] (scan .sum w) inpos_S16_p15))

/-- Placing one block: each element's place, then the pass's own stores `T` at those places. -/
def pblk (K : Key F) (C : Chk Inb2) (D : Chk Inb8) (hist : M2) (occ : M8)
    (T : K.X → (r : V16) → Inb8 r → Prog (Eff F c s) PUnit)
    (o : Fin 1 → Nat) (ho : In8 o) : Prog (Eff F c s) PUnit := do
  let x ← K.read o ho
  let h := (← asm C (K.dig x)).down
  let n : Vec F S16 .i32 ← gat hist (K.dig x) (C.fwd _ h)
  let m : Vec F S16 .i32 ← rd8 occ o ho
  let h' := (← asm D (addi n m : V16)).down
  T x (addi n m) (D.fwd _ h')

/-- A placing trip, block `u`'s stores at `T u`. -/
def pbody (K : Key F) (C : Fin 4 → Chk Inb2) (D : Fin 4 → Chk Inb8) (hist : Fin 4 → M2) (occ : M8)
    (T : (u : Fin 4) → (w : BitVec 32) → (o : Fin 1 → Nat) → In8 o → K.X → (r : V16) → Inb8 r → Prog (Eff F c s) PUnit)
    (k : Fin 128) : Prog (Eff F c s) (BitVec 32) := do
  pblk K (C 0) (D 0) (hist 0) occ (T 0 (wof k (blk 0)) _ (in8 k k.isLt 0)) (oof k (blk 0)) (in8 k k.isLt 0)
  pblk K (C 1) (D 1) (hist 1) occ (T 1 (wof k (blk 1)) _ (in8 k k.isLt 1)) (oof k (blk 1)) (in8 k k.isLt 1)
  pblk K (C 2) (D 2) (hist 2) occ (T 2 (wof k (blk 2)) _ (in8 k k.isLt 2)) (oof k (blk 2)) (in8 k k.isLt 2)
  pblk K (C 3) (D 3) (hist 3) occ (T 3 (wof k (blk 3)) _ (in8 k k.isLt 3)) (oof k (blk 3)) (in8 k k.isLt 3)
  pure 0#32

/-- The first pass's stores: both words, and the element's own number. -/
def tail0 (ahi bhi blo bval : M8) (_ : Fin 4) (w : BitVec 32) (o : Fin 1 → Nat) (ho : In8 o) (x : Vec F S16 .i32) (r : V16) (hr : Inb8 r) :
    Prog (Eff F c s) PUnit := do
  let y : Vec F S16 .i32 ← rd8 ahi o ho
  put8 bhi r y hr
  put8 blo r x hr
  put8 bval r (addi (iota .scVector S16 32 [0] iota_S16_d0_w32_scVector) (broadcast S16 w)) hr

/-- The second pass's: both words, and the carried number. -/
def tail1 (shi sval dhi dlo dval : M8) (_ : Fin 4) (_ : BitVec 32) (o : Fin 1 → Nat) (ho : In8 o) (x : Vec F S16 .i32) (r : V16) (hr : Inb8 r) :
    Prog (Eff F c s) PUnit := do
  let z : Vec F S16 .i32 ← rd8 sval o ho
  let y : Vec F S16 .i32 ← rd8 shi o ho
  put8 dhi r y hr
  put8 dlo r x hr
  put8 dval r z hr

/-- The middle passes': the high word (already read, `hi x`), and the carried number. -/
def tail2 {X : Type} (hi : X → Vec F S16 .i32) (sval dhi dval : M8) (_ : Fin 4) (_ : BitVec 32) (o : Fin 1 → Nat) (ho : In8 o) (x : X) (r : V16)
    (hr : Inb8 r) : Prog (Eff F c s) PUnit := do
  let z : Vec F S16 .i32 ← rd8 sval o ho
  put8 dhi r (hi x) hr
  put8 dval r z hr

/-- The last pass's: the carried number at the element's place, and the place at the carried number. -/
def tail5 {X : Type} (E : Fin 4 → Chk Inb8) (sval dval re : M8) (u : Fin 4) (_ : BitVec 32) (o : Fin 1 → Nat) (ho : In8 o) (_ : X) (r : V16) (hr : Inb8 r) :
    Prog (Eff F c s) PUnit := do
  let z : Vec F S16 .i32 ← rd8 sval o ho
  let h := (← asm (E u) (z : V16)).down
  put8 dval r z hr
  put8 re z r ((E u).fwd _ h)

/-! ## The loops -/

/-- The four buffers of counts. -/
abbrev four (a b c d : M2) : Fin 4 → M2 := ![a, b, c, d]

def zloop (hist : Fin 4 → M2) : Prog (Eff F c s) (BitVec 32) :=
  Scf.Loop.for lp lp_ok 0#32 fun k _ => zbody hist ⟨k.val, lt128 k⟩
def hloop (K : Key F) (C : Fin 4 → Chk Inb2) (hist : Fin 4 → M2) (occ : M8) : Prog (Eff F c s) (BitVec 32) :=
  Scf.Loop.for lp lp_ok 0#32 fun k _ => hbody K C hist occ ⟨k.val, lt128 k⟩
def sloop (hist : Fin 4 → M2) : Prog (Eff F c s) (BitVec 32) :=
  Scf.Loop.for lp lp_ok 0#32 fun k t => sbody hist ⟨k.val, lt128 k⟩ t
def ploop (K : Key F) (C : Fin 4 → Chk Inb2) (D : Fin 4 → Chk Inb8) (hist : Fin 4 → M2) (occ : M8)
    (T : (u : Fin 4) → (w : BitVec 32) → (o : Fin 1 → Nat) → In8 o → K.X → (r : V16) → Inb8 r → Prog (Eff F c s) PUnit) :
    Prog (Eff F c s) (BitVec 32) :=
  Scf.Loop.for lp lp_ok 0#32 fun k _ => pbody K C D hist occ T ⟨k.val, lt128 k⟩

/-! ## The copies -/

abbrev Big := Memref sig .scVector .hbm S16x8192 .i32

/-- The row at `o` of an array, as the body names it. -/
abbrev row (a : Big) (o : Fin 2 → Nat) (ho : ∀ x, o x + S1x8192.size x ≤ S16x8192.size x) : Memref sig .scVector .hbm S8192 .i32 :=
  (a.slice (Rect.unit (s := S16x8192) o S1x8192.size ho) (fun _ => rfl)).squeeze S8192 squeezes_S1x8192_S8192

def cpIn (a : Big) (o : Fin 2 → Nat) (ho : ∀ x, o x + S1x8192.size x ≤ S16x8192.size x) (b : M8) (hb : b.IsWhole) (sm : DmaSem sig) :
    Prog (Eff F c s) PUnit := do
  Prog.lift (.enqueueDma (row a o ho) (.here b) (.dma sm) ((View.wordExact_bits rfl).reshape _ _) hb.wordExact ⟨Or.inl rfl, trivial⟩)
  Prog.lift (.waitDma2 sm (row a o ho) b ((View.wordExact_bits rfl).reshape _ _) hb.wordExact)

def cpOut (a : Big) (o : Fin 2 → Nat) (ho : ∀ x, o x + S1x8192.size x ≤ S16x8192.size x) (b : M8) (hb : b.IsWhole) (sm : DmaSem sig) :
    Prog (Eff F c s) PUnit := do
  Prog.lift (.enqueueDma b (.here (row a o ho)) (.dma sm) hb.wordExact ((View.wordExact_bits rfl).reshape _ _) ⟨Or.inl rfl, trivial⟩)
  Prog.lift (.waitDma2 sm b (row a o ho) hb.wordExact ((View.wordExact_bits rfl).reshape _ _))

end Cert.Proof.Body

end
-- ==== Proof.Radix.lean ====
/-
  Counting sort, as arithmetic: how many elements of a stretch of a row have a digit, where an element goes, and why a
  pass on the next digit of an order already sorted on the lower digits sorts on both.
-/
module

public import Idealize.ShloMosaic.Lib.SparseCore.Ops
public import Mathlib.Data.Finset.Card
public import Mathlib.Data.Finset.Image
public import Mathlib.Order.Interval.Finset.Nat
public import Mathlib.Algebra.BigOperators.Group.Finset.Basic
public import Mathlib.Algebra.BigOperators.Intervals

@[expose] public section

namespace Cert.Proof.Radix

/-- The length of a row. -/
@[irreducible] def N : Nat := 8192

theorem N_eq : N = 8192 := by unfold N; rfl

/-- How many elements of `[a, b)` have the digit `d`. -/
def cn (D : Nat → Nat) (a b d : Nat) : Nat := ((Finset.Ico a b).filter fun y => D y = d).card

/-- How many elements of the row have a digit below `d`. -/
def below (D : Nat → Nat) (d : Nat) : Nat := ((Finset.range N).filter fun y => D y < d).card

/-- The place of element `x` of a row in the stable order by the key `K`. -/
def rk (K : Nat → Nat) (x : Nat) : Nat := ((Finset.range N).filter fun y => K y < K x ∨ (K y = K x ∧ y < x)).card

theorem cn_self (D : Nat → Nat) (a d : Nat) : cn D a a d = 0 := by simp [cn]

theorem cn_add (D : Nat → Nat) {a b c : Nat} (d : Nat) (h : a ≤ b) (h' : b ≤ c) : cn D a c d = cn D a b d + cn D b c d := by
  unfold cn
  rw [← Finset.card_union_of_disjoint, ← Finset.filter_union, Finset.Ico_union_Ico_eq_Ico h h']
  exact Finset.disjoint_filter_filter (Finset.Ico_disjoint_Ico_consecutive a b c)

theorem cn_succ_same (D : Nat → Nat) (a x : Nat) (h : a ≤ x) : cn D a (x + 1) (D x) = cn D a x (D x) + 1 := by
  rw [cn_add D (D x) h (Nat.le_succ x)]; congr 1; unfold cn
  rw [show Finset.Ico x (x + 1) = {x} from Nat.Ico_succ_singleton x, Finset.filter_singleton, if_pos rfl]; rfl

theorem cn_eq_zero (D : Nat → Nat) {a b d : Nat} (h : ∀ y, a ≤ y → y < b → D y ≠ d) : cn D a b d = 0 := by
  unfold cn; rw [Finset.card_eq_zero, Finset.filter_eq_empty_iff]
  intro y hy; have := Finset.mem_Ico.mp hy; exact h y this.1 this.2

theorem cn_congr {D D' : Nat → Nat} {a b d : Nat} (h : ∀ y, a ≤ y → y < b → D y = D' y) : cn D a b d = cn D' a b d := by
  unfold cn; congr 1; apply Finset.filter_congr
  intro y hy; have := Finset.mem_Ico.mp hy; rw [h y this.1 this.2]

theorem below_zero (D : Nat → Nat) : below D 0 = 0 := by simp [below]

theorem below_succ (D : Nat → Nat) (d : Nat) : below D (d + 1) = below D d + cn D 0 N d := by
  unfold below cn
  rw [Finset.range_eq_Ico, ← Finset.card_union_of_disjoint, ← Finset.filter_or]
  · congr 1; apply Finset.filter_congr; intro y _; omega
  · rw [Finset.disjoint_filter]; intro y _ h h'; omega

theorem below_add (D : Nat → Nat) (d i : Nat) : below D (d + i) = below D d + ∑ l ∈ Finset.range i, cn D 0 N (d + l) := by
  induction i with
  | zero => simp
  | succ i ih => rw [Finset.sum_range_succ, ← Nat.add_assoc, ← Nat.add_assoc, below_succ, ih]

/-- An element's place: the elements with a lower digit, and those before it with its own. -/
theorem rk_eq (D : Nat → Nat) {x : Nat} (h : x < N) : rk D x = below D (D x) + cn D 0 x (D x) := by
  unfold rk below cn
  have : (Finset.Ico 0 x).filter (fun y => D y = D x) = (Finset.range N).filter fun y => D y = D x ∧ y < x := by
    ext y; simp only [Finset.mem_filter, Finset.mem_Ico, Finset.mem_range]; omega
  rw [this, ← Finset.card_union_of_disjoint, ← Finset.filter_or]
  rw [Finset.disjoint_filter]; intro y _ h h'; omega

theorem rk_lt (K : Nat → Nat) {x : Nat} (h : x < N) : rk K x < N := by
  unfold rk
  have : ((Finset.range N).filter fun y => K y < K x ∨ (K y = K x ∧ y < x)) ⊂ Finset.range N := by
    rw [Finset.ssubset_iff_of_subset (Finset.filter_subset _ _)]
    exact ⟨x, Finset.mem_range.mpr h, by simp⟩
  exact lt_of_lt_of_eq (Finset.card_lt_card this) (Finset.card_range N)

theorem rk_lt_of (K : Nat → Nat) {x y : Nat} (hy : y < N) (h : K y < K x ∨ (K y = K x ∧ y < x)) : rk K y < rk K x := by
  unfold rk
  apply Finset.card_lt_card
  rw [Finset.ssubset_iff_of_subset]
  · exact ⟨y, by simp only [Finset.mem_filter, Finset.mem_range]; omega, by simp⟩
  · intro z; simp only [Finset.mem_filter, Finset.mem_range]; omega

theorem rk_lt_iff (K : Nat → Nat) {x y : Nat} (hx : x < N) (hy : y < N) :
    rk K y < rk K x ↔ (K y < K x ∨ (K y = K x ∧ y < x)) := by
  refine ⟨fun h => ?_, rk_lt_of K hy⟩
  by_contra hn
  rcases Nat.lt_trichotomy x y with hxy | rfl | hxy
  · have := rk_lt_of K (x := y) (y := x) hx (by omega); omega
  · omega
  · have := rk_lt_of K (x := y) (y := x) hx (by omega); omega

theorem rk_inj (K : Nat → Nat) {x y : Nat} (hx : x < N) (hy : y < N) (h : rk K x = rk K y) : x = y := by
  by_contra hn
  have h1 := rk_lt_iff K hx hy
  have h2 := rk_lt_iff K hy hx
  omega

theorem rk_surj (K : Nat → Nat) {j : Nat} (hj : j < N) : ∃ x, x < N ∧ rk K x = j := by
  have hsub : (Finset.range N).image (rk K) ⊆ Finset.range N := by
    intro z hz; obtain ⟨x, hx, rfl⟩ := Finset.mem_image.mp hz
    exact Finset.mem_range.mpr (rk_lt K (Finset.mem_range.mp hx))
  have hcard : ((Finset.range N).image (rk K)).card = (Finset.range N).card :=
    Finset.card_image_of_injOn fun a ha b hb h =>
      rk_inj K (Finset.mem_range.mp (Finset.mem_coe.mp ha)) (Finset.mem_range.mp (Finset.mem_coe.mp hb)) h
  have heq := Finset.eq_of_subset_of_card_le hsub hcard.ge
  have : j ∈ (Finset.range N).image (rk K) := by rw [heq]; exact Finset.mem_range.mpr hj
  obtain ⟨x, hx, rfl⟩ := Finset.mem_image.mp this
  exact ⟨x, Finset.mem_range.mp hx, rfl⟩

theorem rk_zero {x : Nat} (h : x < N) : rk (fun _ => 0) x = x := by
  unfold rk
  rw [show (Finset.range N).filter (fun y => (0 : Nat) < 0 ∨ ((0 : Nat) = 0 ∧ y < x)) = Finset.range x by
    ext y; simp only [Finset.mem_filter, Finset.mem_range]
    exact ⟨fun h => h.2.resolve_left (lt_irrefl _) |>.2, fun h' => ⟨h'.trans h, Or.inr ⟨trivial, h'⟩⟩⟩]
  exact Finset.card_range x

/-- Keys that compare alike order alike. -/
theorem rk_congr {K K' : Nat → Nat} {x : Nat} (hx : x < N) (h : ∀ y, y < N → ((K y < K x ↔ K' y < K' x) ∧ (K y = K x ↔ K' y = K' x))) :
    rk K x = rk K' x := by
  unfold rk; congr 1; apply Finset.filter_congr
  intro y hy
  have := h y (Finset.mem_range.mp hy)
  rw [this.1, this.2]

/-- One pass more: elements standing in the order by `K`, sorted stably by the digits `D`, stand in the order by both. -/
theorem rk_step {K D D' : Nat → Nat} {B : Nat} (hK : ∀ x, x < N → K x < B) (hD : ∀ x, x < N → D' (rk K x) = D x) {x : Nat} (hx : x < N) :
    rk D' (rk K x) = rk (fun y => D y * B + K y) x := by
  have hcmp : ∀ y, y < N → ((D' (rk K y) < D' (rk K x) ∨ (D' (rk K y) = D' (rk K x) ∧ rk K y < rk K x))
      ↔ (D y * B + K y < D x * B + K x ∨ (D y * B + K y = D x * B + K x ∧ y < x))) := by
    intro y hy
    rw [hD y hy, hD x hx, rk_lt_iff K hx hy]
    have h1 := hK x hx; have h2 := hK y hy
    rcases Nat.lt_trichotomy (D y) (D x) with h | h | h
    · have : (D y + 1) * B ≤ D x * B := Nat.mul_le_mul_right B h
      rw [Nat.add_mul] at this; constructor <;> intro _ <;> left <;> omega
    · rw [h]; omega
    · have : (D x + 1) * B ≤ D y * B := Nat.mul_le_mul_right B h
      rw [Nat.add_mul] at this
      constructor <;> rintro (h' | h') <;> omega
  unfold rk
  symm
  refine Finset.card_nbij (rk K) ?_ ?_ ?_
  · intro y hy
    obtain ⟨hy, h⟩ := Finset.mem_filter.mp hy
    have hy := Finset.mem_range.mp hy
    exact Finset.mem_filter.mpr ⟨Finset.mem_range.mpr (rk_lt K hy), (hcmp y hy).mpr h⟩
  · intro a ha b hb h
    exact rk_inj K (Finset.mem_range.mp (Finset.mem_filter.mp (Finset.mem_coe.mp ha)).1)
      (Finset.mem_range.mp (Finset.mem_filter.mp (Finset.mem_coe.mp hb)).1) h
  · intro j hj
    obtain ⟨hj, h⟩ := Finset.mem_filter.mp (Finset.mem_coe.mp hj)
    obtain ⟨y, hy, rfl⟩ := rk_surj K (Finset.mem_range.mp hj)
    exact ⟨y, Finset.mem_coe.mpr (Finset.mem_filter.mpr ⟨Finset.mem_range.mpr hy, (hcmp y hy).mp h⟩), rfl⟩

end Cert.Proof.Radix
-- ==== Proof.Lanes.lean ====
/-
  What the sort's vector operations compute, lane by lane, in the counts of Radix: the running occurrence counts and
  last occurrences of a vector of digits, the gather and scatter of a table, the running sums.
-/
module

public import proofs.«01_k».proof.Proof.Body
public import proofs.«01_k».proof.Proof.Radix

@[expose] public section

namespace Cert.Proof.Lanes

open Cert.KernelIdeal Cert.KernelIdeal.Gen
open Idealize.ShloMosaic
open Cert.Proof.Radix Cert.Proof.Body

variable {F : FTy → Type} [FloatOps F]

/-- Sixteen words of `g` from `o` on. -/
def vec (g : Nat → BitVec 32) (o : Nat) : V16 := fun j => g (o + (j 0).val)
/-- A number as a word. -/
abbrev wd (n : Nat) : BitVec 32 := BitVec.ofNat 32 n

theorem wd_add (a b : Nat) : wd a + wd b = wd (a + b) := (BitVec.ofNat_add a b).symm
theorem wd_sub {a b : Nat} (h : b ≤ a) : wd a - wd b = wd (a - b) := by
  have : wd a = wd (a - b) + wd b := by rw [wd_add]; congr 1; omega
  rw [this]; exact BitVec.add_sub_cancel _ _
theorem wd_toNat {n : Nat} (h : n < 2 ^ 32) : (wd n).toNat = n := by
  rw [wd, BitVec.toNat_ofNat, Nat.mod_eq_of_lt h]
theorem wd_inj {a b : Nat} (ha : a < 2 ^ 32) (hb : b < 2 ^ 32) (h : wd a = wd b) : a = b := by
  have := congrArg BitVec.toNat h; rwa [wd_toNat ha, wd_toNat hb] at this

theorem lane_lt (j : S16.Idx) : (j 0).val < 16 := (j 0).isLt

/-- The index at lane `l`. -/
def ln (l : Nat) (h : l < 16) : S16.Idx := Shape.ofLane (d := ![16]) ⟨l, h⟩
theorem ln_val (l : Nat) (h : l < 16) : ((ln l h) 0).val = l := rfl
theorem ln_eq (j : S16.Idx) : ln (j 0).val (lane_lt j) = j := by
  funext a; obtain rfl : a = 0 := Subsingleton.elim _ _; rfl

/-! ## Occurrence counts -/

variable {D : Nat → Nat}

theorem count_eq (hD : ∀ y, D y < 2048) (o : Nat) (j : S16.Idx) :
    (scanCount (broadcast S16 1#1) (vec (fun y => wd (D y)) o)).2 j = wd (cn D o (o + (j 0).val + 1) (D (o + (j 0).val))) := by
  unfold scanCount broadcast
  simp only
  rw [if_pos (show (1#1 : BitVec 1) = 1 from rfl)]
  refine congrArg (BitVec.ofNat 32) ?_
  unfold cn
  refine Finset.card_nbij (fun i => o + (i 0).val) ?_ ?_ ?_
  · intro i hi
    obtain ⟨-, hp, -, hv⟩ := Finset.mem_filter.mp hi
    rw [Shape.rowMajor_val_one, Shape.rowMajor_val_one] at hp
    refine Finset.mem_filter.mpr ⟨Finset.mem_Ico.mpr ⟨Nat.le_add_right _ _, Nat.lt_succ_of_le (Nat.add_le_add_left hp o)⟩, ?_⟩
    have h1 := hD (o + (i 0).val); have h2 := hD (o + (j 0).val)
    exact wd_inj (a := D (o + (i 0).val)) (by omega) (by omega) hv
  · intro a _ b _ h
    rw [← ln_eq a, ← ln_eq b]; congr 1; simpa using h
  · intro y hy
    obtain ⟨hr, hd⟩ := Finset.mem_filter.mp (Finset.mem_coe.mp hy)
    have hr := Finset.mem_Ico.mp hr
    have := lane_lt j
    refine ⟨ln (y - o) (by omega), Finset.mem_coe.mpr (Finset.mem_filter.mpr ⟨Finset.mem_univ _, ?_, rfl, ?_⟩), ?_⟩
    · rw [Shape.rowMajor_val_one, Shape.rowMajor_val_one, ln_val]; omega
    · show wd (D (o + (y - o))) = wd (D (o + (j 0).val))
      rw [show o + (y - o) = y by omega, hd]
    · show o + (y - o) = y; omega

theorem last_iff (hD : ∀ y, D y < 2048) (o : Nat) (j : S16.Idx) :
    (scanCount (broadcast S16 1#1) (vec (fun y => wd (D y)) o)).1 j = 1 ↔ ∀ l, (j 0).val < l → l < 16 → D (o + l) ≠ D (o + (j 0).val) := by
  unfold scanCount broadcast
  simp only
  constructor
  · intro h l hl hl' he
    by_cases hc : (1#1 = 1#1 ∧ ∀ i, (S16.rowMajor j).val < (S16.rowMajor i).val → ¬(1#1 = 1#1 ∧ vec (fun y => wd (D y)) o i = vec (fun y => wd (D y)) o j))
    · refine hc.2 (ln l hl') ?_ ⟨rfl, ?_⟩
      · rw [Shape.rowMajor_val_one, Shape.rowMajor_val_one, ln_val]; exact hl
      · show wd (D (o + l)) = wd _; rw [he]
    · exact absurd ((if_neg hc).symm.trans h) (by decide)
  · intro h
    refine if_pos ⟨rfl, fun i hi hv => ?_⟩
    rw [Shape.rowMajor_val_one, Shape.rowMajor_val_one] at hi
    have h1 := hD (o + (i 0).val); have h2 := hD (o + (j 0).val)
    exact h (i 0).val hi (lane_lt i) (wd_inj (by omega) (by omega) hv.2)

/-! ## The scatter -/

/-- One lane's store. -/
def lane {s : Shape} (idxs : Fin s.rank → V16) (v : V16) (mask : IVec S16 1) (h : ∀ a x, (idxs a x).toNat < s.size a)
    (g : s.Idx → BitVec 32) (k : Fin 16) : s.Idx → BitVec 32 :=
  if mask (ln k.val k.isLt) = 1 then fun j => if (∀ a, (j a).val = (idxAt idxs h (ln k.val k.isLt) a).val) then v (ln k.val k.isLt) else g j
  else g

theorem storeIdx_fold {s : Shape} (f : Vec F s .i32) (idxs : Fin s.rank → V16) (v : V16) (mask : IVec S16 1)
    (h : ∀ a x, (idxs a x).toNat < s.size a) :
    storeIdx (F := F) (e := .i32) f idxs v mask false h = (List.finRange 16).foldl (lane idxs v mask h) f := by
  unfold storeIdx
  refine congrArg (fun st => List.foldl st f (List.finRange 16)) (funext fun g => funext fun k => ?_)
  unfold lane
  simp only [Bool.false_eq_true, if_false]
  rfl

theorem fold_cases {s : Shape} (idxs : Fin s.rank → V16) (v : V16) (mask : IVec S16 1)
    (h : ∀ a x, (idxs a x).toNat < s.size a) (i : s.Idx) (f : s.Idx → BitVec 32) (L : List (Fin 16)) :
    (∃ k ∈ L, mask (ln k.val k.isLt) = 1 ∧ idxAt idxs h (ln k.val k.isLt) = i ∧ L.foldl (lane idxs v mask h) f i = v (ln k.val k.isLt))
      ∨ ((∀ k ∈ L, mask (ln k.val k.isLt) = 1 → idxAt idxs h (ln k.val k.isLt) ≠ i) ∧ L.foldl (lane idxs v mask h) f i = f i) := by
  induction L using List.reverseRecOn with
  | nil => right; exact ⟨fun k hk => absurd hk (List.not_mem_nil), rfl⟩
  | append_singleton L k ih =>
    rw [List.foldl_append, List.foldl_cons, List.foldl_nil]
    generalize L.foldl (lane idxs v mask h) f = g at ih
    have keep : lane idxs v mask h g k i = g i → (mask (ln k.val k.isLt) = 1 → idxAt idxs h (ln k.val k.isLt) ≠ i) →
        ((∃ k' ∈ L ++ [k], mask (ln k'.val k'.isLt) = 1 ∧ idxAt idxs h (ln k'.val k'.isLt) = i ∧ lane idxs v mask h g k i = v (ln k'.val k'.isLt))
          ∨ ((∀ k' ∈ L ++ [k], mask (ln k'.val k'.isLt) = 1 → idxAt idxs h (ln k'.val k'.isLt) ≠ i) ∧ lane idxs v mask h g k i = f i)) := by
      intro he hk
      rw [he]
      rcases ih with ⟨k', hk', a, b, c⟩ | ⟨a, b⟩
      · exact .inl ⟨k', List.mem_append_left _ hk', a, b, c⟩
      · refine .inr ⟨fun k' hk' => ?_, b⟩
        rcases List.mem_append.mp hk' with hk' | hk'
        · exact a k' hk'
        · rw [List.mem_singleton.mp hk']; exact hk
    by_cases hm : mask (ln k.val k.isLt) = 1
    · by_cases he : ∀ a, (i a).val = (idxAt idxs h (ln k.val k.isLt) a).val
      · refine .inl ⟨k, List.mem_append_right _ (List.mem_singleton.mpr rfl), hm, funext fun a => Fin.ext (he a).symm, ?_⟩
        unfold lane; rw [if_pos hm]; exact if_pos he
      · refine keep ?_ fun _ e => he fun a => by rw [e]
        unfold lane; rw [if_pos hm]; exact if_neg he
    · exact keep (by unfold lane; rw [if_neg hm]) fun h' => absurd h' hm

/-- What a scatter leaves at an element: the word of a set lane that names it, or, no set lane naming it, what was there. -/
theorem storeIdx_cases {s : Shape} (f : Vec F s .i32) (idxs : Fin s.rank → V16) (v : V16) (mask : IVec S16 1)
    (h : ∀ a x, (idxs a x).toNat < s.size a) (i : s.Idx) :
    (∃ j : S16.Idx, mask j = 1 ∧ idxAt idxs h j = i ∧ storeIdx (F := F) (e := .i32) f idxs v mask false h i = v j)
      ∨ ((∀ j : S16.Idx, mask j = 1 → idxAt idxs h j ≠ i) ∧ storeIdx (F := F) (e := .i32) f idxs v mask false h i = f i) := by
  rw [storeIdx_fold]
  rcases fold_cases idxs v mask h i f (List.finRange 16) with ⟨k, -, hm, hi, hv⟩ | ⟨hn, hv⟩
  · exact .inl ⟨_, hm, hi, hv⟩
  · refine .inr ⟨fun j hj => ?_, hv⟩
    have := hn ⟨(j 0).val, lane_lt j⟩ (List.mem_finRange _)
    rw [ln_eq j] at this
    exact this hj

/-- The table index lane `j` of `![v]` names is lane `j`'s word. -/
theorem idxAt_val {n : Nat} (v : V16) (h : ∀ a x, ((![v] : Fin 1 → V16) a x).toNat < (⟨1, ![n]⟩ : Shape).size a) (j : S16.Idx) :
    (idxAt (s := ⟨1, ![n]⟩) ![v] h j 0).val = (v j).toNat := rfl

theorem idx1_ext {n : Nat} {i i' : (⟨1, ![n]⟩ : Shape).Idx} (h : (i 0).val = (i' 0).val) : i = i' := by
  funext a; obtain rfl : a = 0 := Subsingleton.elim _ _; exact Fin.ext h

/-! ## Counting -/

section Count

variable (hD : ∀ y, D y < 2048) (A o : Nat) (hA : A ≤ o)
  (f : Vec F S2048 .i32) (hf : ∀ i, f i = wd (cn D A o (i 0).val))
include hD hA hf

theorem gathered (h : Inb2 (vec (fun y => wd (D y)) o)) (j : S16.Idx) :
    addi (loadIdx (F := F) (e := .i32) f ![vec (fun y => wd (D y)) o] h) (scanCount (broadcast S16 1#1) (vec (fun y => wd (D y)) o)).2 j
      = wd (cn D A (o + (j 0).val + 1) (D (o + (j 0).val))) := by
  show f _ + _ = _
  rw [hf, count_eq hD, wd_add, idxAt_val, show (vec (fun y => wd (D y)) o j).toNat = D (o + (j 0).val) from
    wd_toNat (lt_trans (hD _) (by decide)), ← cn_add D _ hA (by omega)]

/-- The table of counts after a block. -/
theorem counted (h : Inb2 (vec (fun y => wd (D y)) o)) (i : S2048.Idx) :
    storeIdx (F := F) (e := .i32) f ![vec (fun y => wd (D y)) o]
      (addi (loadIdx (F := F) (e := .i32) f ![vec (fun y => wd (D y)) o] h) (scanCount (broadcast S16 1#1) (vec (fun y => wd (D y)) o)).2)
      (scanCount (broadcast S16 1#1) (vec (fun y => wd (D y)) o)).1 false h i = wd (cn D A (o + 16) (i 0).val) := by
  have hv : ∀ j : S16.Idx, (vec (fun y => wd (D y)) o j).toNat = D (o + (j 0).val) := fun j => wd_toNat (lt_trans (hD _) (by decide))
  rcases storeIdx_cases (F := F) f ![vec (fun y => wd (D y)) o]
      (addi (loadIdx (F := F) (e := .i32) f ![vec (fun y => wd (D y)) o] h) (scanCount (broadcast S16 1#1) (vec (fun y => wd (D y)) o)).2)
      (scanCount (broadcast S16 1#1) (vec (fun y => wd (D y)) o)).1 h i with ⟨j, hm, hi, he⟩ | ⟨hn, he⟩
  · rw [he, gathered hD A o hA f hf h j]
    have hj := lane_lt j
    have hi' : D (o + (j 0).val) = (i 0).val := by rw [← hv j, ← hi]; rfl
    rw [← hi', cn_add D (a := A) (b := o + (j 0).val + 1) (c := o + 16) _ (by omega) (by omega)]
    refine congrArg wd (Nat.left_eq_add.mpr (cn_eq_zero D fun y h1 h2 => ?_))
    have := (last_iff hD o j).mp hm (y - o) (by omega) (by omega)
    rwa [show o + (y - o) = y by omega] at this
  · rw [he, hf, cn_add D (a := A) (b := o) (c := o + 16) _ hA (by omega)]
    refine congrArg wd (Nat.left_eq_add.mpr (cn_eq_zero D fun y h1 h2 hy => ?_))
    -- the last lane with `y`'s digit is set and names `i`
    have hex : ∃ l, l < 16 ∧ D (o + l) = (i 0).val := ⟨y - o, by omega, by rw [show o + (y - o) = y by omega, hy]⟩
    obtain ⟨l, ⟨hl, hd⟩, hmax⟩ : ∃ l, (l < 16 ∧ D (o + l) = (i 0).val) ∧ ∀ l', l < l' → l' < 16 → D (o + l') ≠ (i 0).val := by
      classical
      have hne : ((Finset.range 16).filter fun l => D (o + l) = (i 0).val).Nonempty := by
        obtain ⟨l, h1, h2⟩ := hex; exact ⟨l, by simp [h1, h2]⟩
      refine ⟨Finset.max' ((Finset.range 16).filter fun l => D (o + l) = (i 0).val) hne, ?_, fun l' h1 h2 h3 => ?_⟩
      · simpa using Finset.max'_mem _ hne
      · have := Finset.le_max' ((Finset.range 16).filter fun l => D (o + l) = (i 0).val) l' (by simp [h2, h3]); omega
    refine hn (ln l hl) ((last_iff hD o _).mpr fun l' h1 h2 => ?_) (idx1_ext ?_)
    · rw [ln_val] at h1 ⊢; rw [hd]; exact hmax l' h1 h2
    · rw [idxAt_val, hv, ln_val, hd]

/-- The occurrence numbers of a block. -/
theorem occs (h : Inb2 (vec (fun y => wd (D y)) o)) (j : S16.Idx) :
    subi (addi (loadIdx (F := F) (e := .i32) f ![vec (fun y => wd (D y)) o] h) (scanCount (broadcast S16 1#1) (vec (fun y => wd (D y)) o)).2)
      (broadcast S16 1#32) j = wd (cn D A (o + (j 0).val) (D (o + (j 0).val))) := by
  show addi (loadIdx (F := F) (e := .i32) f ![vec (fun y => wd (D y)) o] h) (scanCount (broadcast S16 1#1) (vec (fun y => wd (D y)) o)).2 j - wd 1 = _
  rw [gathered hD A o hA f hf h j, cn_succ_same D A _ (by omega), wd_sub (by omega), Nat.add_sub_cancel]

end Count

/-! ## Placing -/

/-- The places of a block: the summed counts at the digits, and the occurrence numbers. -/
theorem placed (hD : ∀ y, D y < 2048) {A o : Nat} (hA : A ≤ o) (ho : o + 16 ≤ N)
    (f : Vec F S2048 .i32) (hf : ∀ i, f i = wd (below D (i 0).val + cn D 0 A (i 0).val))
    (m : V16) (hm : ∀ j, m j = wd (cn D A (o + (j 0).val) (D (o + (j 0).val))))
    (h : Inb2 (vec (fun y => wd (D y)) o)) :
    addi (loadIdx (F := F) (e := .i32) f ![vec (fun y => wd (D y)) o] h) m = vec (fun y => wd (rk D y)) o := by
  funext j
  have hj := lane_lt j
  show f _ + m j = wd _
  rw [hf, hm, wd_add, idxAt_val, show (vec (fun y => wd (D y)) o j).toNat = D (o + (j 0).val) from
    wd_toNat (lt_trans (hD _) (by decide)), rk_eq D (by omega), Nat.add_assoc, ← cn_add D _ (Nat.zero_le A) (by omega)]

/-- A table written at distinct places: the placed elements so far, and a block more. -/
theorem scattered {ρ : Nat → Nat} (hρ : ∀ x, x < N → ρ x < N) (hinj : ∀ x y, x < N → y < N → ρ x = ρ y → x = y)
    (s : Nat → BitVec 32) {o : Nat} (ho : o + 16 ≤ N) (f : Vec F S8192 .i32) {P : Nat → Prop}
    (hf : ∀ x, x < N → P x → ∀ i : S8192.Idx, (i 0).val = ρ x → f i = s x)
    (h : Inb8 (vec (fun y => wd (ρ y)) o)) (x : Nat) (hx : x < N) (hP : P x ∨ (o ≤ x ∧ x < o + 16)) (i : S8192.Idx) (hi : (i 0).val = ρ x) :
    storeIdx (F := F) (e := .i32) f ![vec (fun y => wd (ρ y)) o] (vec s o) (fun _ => 1#1) false h i = s x := by
  have hv : ∀ j : S16.Idx, (vec (fun y => wd (ρ y)) o j).toNat = ρ (o + (j 0).val) := fun j => by
    have hj := lane_lt j; have := hρ (o + (j 0).val) (by omega); rw [N_eq] at this; exact wd_toNat (by omega)
  rcases storeIdx_cases (F := F) f ![vec (fun y => wd (ρ y)) o] (vec s o) (fun _ => 1#1) h i with ⟨j, -, hj, he⟩ | ⟨hn, he⟩
  · have hl := lane_lt j
    have : o + (j 0).val = x := hinj _ _ (by omega) hx (by rw [← hv j, ← hi, ← hj]; rfl)
    rw [he]; show s _ = s x; rw [this]
  · rcases hP with hP | ⟨h1, h2⟩
    · rw [he]; exact hf x hx hP i hi
    · refine absurd (idx1_ext ?_) (hn (ln (x - o) (by omega)) rfl)
      rw [idxAt_val, hv, ln_val, show o + (x - o) = x by omega, hi]

/-! ## Running sums -/

theorem scan_sum (w : Nat → Nat) (v : V16) (hv : ∀ j, v j = wd (w (j 0).val)) (j : S16.Idx) :
    scan .sum v j = wd (∑ l ∈ Finset.range ((j 0).val + 1), w l) := by
  have hl : ∀ k : Fin 16, ((List.finRange 16).filter fun i => decide (0 < i.val ∧ i.val ≤ k.val)).map Fin.val = (List.range k.val).map (· + 1) := by
    decide
  have hfold : ∀ (L : List (Fin 16)) (r : BitVec 32),
      L.foldl (fun r k => ScanKind.step .sum r (v (ln k.val k.isLt))) r = (L.map Fin.val).foldl (fun r k => r + wd (w k)) r := by
    intro L; induction L with
    | nil => intro r; rfl
    | cons k L ih =>
      intro r; simp only [List.foldl_cons, List.map_cons]; rw [ih, hv, ln_val]; rfl
  have hsum : ∀ n : Nat, ((List.range n).map (· + 1)).foldl (fun r k => r + wd (w k)) (wd (w 0)) = wd (∑ l ∈ Finset.range (n + 1), w l) := by
    intro n; induction n with
    | zero => simp
    | succ n ih =>
      rw [List.range_succ, List.map_append, List.foldl_append, ih, Finset.sum_range_succ (n := n + 1), ← wd_add]
      rfl
  have h := hfold ((List.finRange 16).filter fun i => decide (0 < i.val ∧ i.val ≤ (⟨(j 0).val, lane_lt j⟩ : Fin 16).val)) (v (ln 0 (by decide)))
  rw [hl, hv] at h
  have h' := h.trans (hsum _)
  rw [← hv (ln 0 (by decide))] at h'
  exact h'

/-- The words a summing trip stores: the row's elements below each digit. -/
theorem summed (k : Nat) (v : V16) (hv : ∀ j, v j = wd (cn D 0 N (k + (j 0).val))) (j : S16.Idx) :
    addi (subi (scan .sum v) v) (broadcast S16 (wd (below D k))) j = wd (below D (k + (j 0).val)) := by
  show scan .sum v j - v j + wd (below D k) = _
  rw [scan_sum (fun l => cn D 0 N (k + l)) v hv, hv, Finset.sum_range_succ, wd_sub (by omega), Nat.add_sub_cancel, wd_add, below_add, Nat.add_comm]

/-- and the running total it carries on. -/
theorem carried (k : Nat) (v : V16) (hv : ∀ j, v j = wd (cn D 0 N (k + (j 0).val))) :
    Scalar.addi (wd (below D k)) (extractAt ![15] (scan .sum v) inpos_S16_p15) = wd (below D (k + 16)) := by
  show wd (below D k) + scan .sum v _ = _
  rw [scan_sum (fun l => cn D 0 N (k + l)) v hv, wd_add, below_add]
  rfl

end Cert.Proof.Lanes
-- ==== Proof.Rules.lean ====
/-
  The rules of the sort body's steps, over buffers held by what they hold at each number: a row buffer `own8 M g` holds
  `g x` at element `x`, a table of counts `own2 M g` likewise.
-/
module

public import proofs.«01_k».proof.Proof.Lanes
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Rules

open Cert.KernelIdeal hiding sig Λ₀ defs₀
open Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix Cert.Proof.Body Cert.Proof.Lanes

variable {F : FTy → Type} [FloatOps F]

/-- The index of element `x` of a row; the contents of a row by number; of a table of counts likewise. -/
def at8 (x : Nat) (h : x < 8192) : S8192.Idx := Shape.ofLane (d := ![8192]) ⟨x, h⟩
def num8 (r : S8192.Idx → BitVec 32) (x : Nat) : BitVec 32 := if h : x < 8192 then r (at8 x h) else 0#32
theorem num8_val (r : S8192.Idx → BitVec 32) (i : S8192.Idx) : num8 r (i 0).val = r i := by
  unfold num8
  rw [dif_pos (show (i 0).val < 8192 from (i 0).isLt)]; exact congrArg r (idx1_ext rfl)
def at2 (x : Nat) (h : x < 2048) : S2048.Idx := Shape.ofLane (d := ![2048]) ⟨x, h⟩
def num2 (r : S2048.Idx → BitVec 32) (x : Nat) : BitVec 32 := if h : x < 2048 then r (at2 x h) else 0#32
theorem num2_val (r : S2048.Idx → BitVec 32) (i : S2048.Idx) : num2 r (i 0).val = r i := by
  unfold num2
  rw [dif_pos (show (i 0).val < 2048 from (i 0).isLt)]; exact congrArg r (idx1_ext rfl)

variable [Prg]

/-- The launch's ghost state beside the copies' counters. -/
abbrev UU : Type := Prg.U × Counters

local notation "𝕄" => MT nD τ sig (HIx 1) (Elt F) ℕ UU ℕ

abbrev 𝒱₀ : Variants := Variants.none

section Rules

variable (d : Dev nD) (c : Fin τ.nSC) (s : Fin τ.nSub)

/-- A row buffer of the tile, holding `g`. -/
def own8 (M : M8) (g : Nat → BitVec 32) : sProp 𝕄 := owns (V d c s) M fullShare (fun j : S8192.Idx => (g (j 0).val : Elt F .i32))
/-- A table of counts of the tile, holding `g`. -/
def own2 (M : M2) (g : Nat → BitVec 32) : sProp 𝕄 := owns (V d c s) M fullShare (fun j : S2048.Idx => (g (j 0).val : Elt F .i32))

/-- The tile runs `p` to `Q`. -/
abbrev run {α : Type} (p : Prog (Eff F c s) α) (Q : α → sProp 𝕄) : sProp 𝕄 :=
  wp frame (wpE (defs₀ (F := F)) 𝒱₀ (V d c s) none) Set.univ p Q

variable {α : Type}

theorem own8_congr {M : M8} {g g' : Nat → BitVec 32} (h : ∀ x, x < 8192 → g x = g' x) :
    own8 (F := F) d c s M g = own8 d c s M g' := by
  unfold own8; congr 1; funext j; exact h _ (j 0).isLt
theorem own2_congr {M : M2} {g g' : Nat → BitVec 32} (h : ∀ x, x < 2048 → g x = g' x) :
    own2 (F := F) d c s M g = own2 d c s M g' := by
  unfold own2; congr 1; funext j; exact h _ (j 0).isLt

/-- Where a lane of sixteen consecutive elements lies. -/
theorem emb_val {n : Nat} {o : Fin 1 → Nat} (ho : ∀ i, o i + S16.size i ≤ (⟨1, ![n]⟩ : Shape).size i) (x : S16.Idx) :
    ((Rect.unit (s := ⟨1, ![n]⟩) o S16.size ho).emb x 0).val = o 0 + (x 0).val := by
  rw [Rect.emb_apply]
  exact congrArg (o 0 + ·) (Nat.one_mul _)

theorem run_rd8 (M : M8) (g : Nat → BitVec 32) (o : Fin 1 → Nat) (ho : In8 o) (k : Vec F S16 .i32 → Prog (Eff F c s) α) (Q : α → sProp 𝕄) :
    own8 d c s M g ⊢ iprop((own8 d c s M g -∗ run d c s (k (vec g (o 0))) Q) -∗ run d c s (rd8 M o ho >>= k) Q) := by
  unfold own8 owns
  iintro ⟨%f, %hf, H⟩ Hk
  iapply (wp_load_rect (defs := defs₀ (F := F)) 𝒱₀ (V d c s) none Set.univ (Q := Q) (m := M) (r := Rect.unit (s := S8192) o S16.size ho)
    (hl := View.loadsAt_vmem h_S16) (k := k) (q := fullShare) (f := f) (S := M.view.set) (View.set_slice_subset _ _)) $$ H
  iintro H
  have e : (M.access (Rect.unit (s := S8192) o S16.size ho)).read (Elt F) f = (vec g (o 0) : Vec F S16 .i32) := by
    funext x
    show M.view.read (Elt F) f ((Rect.unit (s := S8192) o S16.size ho).emb x) = g (o 0 + (x 0).val)
    rw [hf]
    exact congrArg g (emb_val ho x)
  rw [e]
  iapply Hk
  iexists f
  isplitr; · ipureintro; exact hf
  iexact H

theorem run_rd2 (M : M2) (g : Nat → BitVec 32) (o : Fin 1 → Nat) (ho : In2 o) (k : Vec F S16 .i32 → Prog (Eff F c s) α) (Q : α → sProp 𝕄) :
    own2 d c s M g ⊢ iprop((own2 d c s M g -∗ run d c s (k (vec g (o 0))) Q) -∗ run d c s (rd2 M o ho >>= k) Q) := by
  unfold own2 owns
  iintro ⟨%f, %hf, H⟩ Hk
  iapply (wp_load_rect (defs := defs₀ (F := F)) 𝒱₀ (V d c s) none Set.univ (Q := Q) (m := M) (r := Rect.unit (s := S2048) o S16.size ho)
    (hl := View.loadsAt_vmem h_S16) (k := k) (q := fullShare) (f := f) (S := M.view.set) (View.set_slice_subset _ _)) $$ H
  iintro H
  have e : (M.access (Rect.unit (s := S2048) o S16.size ho)).read (Elt F) f = (vec g (o 0) : Vec F S16 .i32) := by
    funext x
    show M.view.read (Elt F) f ((Rect.unit (s := S2048) o S16.size ho).emb x) = g (o 0 + (x 0).val)
    rw [hf]
    exact congrArg g (emb_val ho x)
  rw [e]
  iapply Hk
  iexists f
  isplitr; · ipureintro; exact hf
  iexact H

/-- Sixteen words stored: the new contents are the words there, and the old ones elsewhere. -/
theorem run_st8 (M : M8) (g g' : Nat → BitVec 32) (o : Fin 1 → Nat) (ho : In8 o) (v : Vec F S16 .i32)
    (h1 : ∀ j : S16.Idx, v j = g' (o 0 + (j 0).val)) (h2 : ∀ x, x < 8192 → x < o 0 ∨ o 0 + 16 ≤ x → g' x = g x)
    (k : PUnit → Prog (Eff F c s) α) (Q : α → sProp 𝕄) :
    own8 d c s M g ⊢ iprop((own8 d c s M g' -∗ run d c s (k ⟨⟩) Q) -∗ run d c s (st8 M o ho v >>= k) Q) := by
  unfold own8 owns
  iintro ⟨%f, %hf, H⟩ Hk
  iapply (wp_store (defs := defs₀ (F := F)) 𝒱₀ (V d c s) none Set.univ (Q := Q) (m := M) (r := Rect.unit (s := S8192) o S16.size ho) (w := v)
    (Mk := Finset.univ) (hx := View.stores_vmem_bits_univ h_S16 rfl) (hm := .inl rfl) (k := k) (f := f) (S := M.view.set)
    ((View.setOn_subset_set _ _).trans (View.set_slice_subset _ _))) $$ H
  iintro H
  iapply Hk
  iexists ((M.access (Rect.unit (s := S8192) o S16.size ho)).write (Elt F) f v Finset.univ)
  isplitr
  · ipureintro
    funext y
    by_cases hy : o 0 ≤ (y 0).val ∧ (y 0).val < o 0 + 16
    · have e : y = (Rect.unit (s := S8192) o S16.size ho).emb (ln ((y 0).val - o 0) (by omega)) := idx1_ext (by
        rw [emb_val ho, ln_val]; omega)
      rw [e, View.read_slice_write_emb _ _ _ (Finset.mem_univ _), ← e, h1, ln_val, show o 0 + ((y 0).val - o 0) = (y 0).val by omega]
    · rw [View.read_slice_write_of_not_mem, hf, h2 _ (y 0).isLt (by omega)]
      intro hm
      obtain ⟨x, -, rfl⟩ := Finset.mem_map.mp hm
      rw [emb_val ho] at hy
      exact hy ⟨Nat.le_add_right _ _, Nat.add_lt_add_left (lane_lt x) _⟩
  iexact H

theorem run_st2 (M : M2) (g g' : Nat → BitVec 32) (o : Fin 1 → Nat) (ho : In2 o) (v : Vec F S16 .i32)
    (h1 : ∀ j : S16.Idx, v j = g' (o 0 + (j 0).val)) (h2 : ∀ x, x < 2048 → x < o 0 ∨ o 0 + 16 ≤ x → g' x = g x)
    (k : PUnit → Prog (Eff F c s) α) (Q : α → sProp 𝕄) :
    own2 d c s M g ⊢ iprop((own2 d c s M g' -∗ run d c s (k ⟨⟩) Q) -∗ run d c s (st2 M o ho v >>= k) Q) := by
  unfold own2 owns
  iintro ⟨%f, %hf, H⟩ Hk
  iapply (wp_store (defs := defs₀ (F := F)) 𝒱₀ (V d c s) none Set.univ (Q := Q) (m := M) (r := Rect.unit (s := S2048) o S16.size ho) (w := v)
    (Mk := Finset.univ) (hx := View.stores_vmem_bits_univ h_S16 rfl) (hm := .inl rfl) (k := k) (f := f) (S := M.view.set)
    ((View.setOn_subset_set _ _).trans (View.set_slice_subset _ _))) $$ H
  iintro H
  iapply Hk
  iexists ((M.access (Rect.unit (s := S2048) o S16.size ho)).write (Elt F) f v Finset.univ)
  isplitr
  · ipureintro
    funext y
    by_cases hy : o 0 ≤ (y 0).val ∧ (y 0).val < o 0 + 16
    · have e : y = (Rect.unit (s := S2048) o S16.size ho).emb (ln ((y 0).val - o 0) (by omega)) := idx1_ext (by
        rw [emb_val ho, ln_val]; omega)
      rw [e, View.read_slice_write_emb _ _ _ (Finset.mem_univ _), ← e, h1, ln_val, show o 0 + ((y 0).val - o 0) = (y 0).val by omega]
    · rw [View.read_slice_write_of_not_mem, hf, h2 _ (y 0).isLt (by omega)]
      intro hm
      obtain ⟨x, -, rfl⟩ := Finset.mem_map.mp hm
      rw [emb_val ho] at hy
      exact hy ⟨Nat.le_add_right _ _, Nat.add_lt_add_left (lane_lt x) _⟩
  iexact H

/-- The whole-rectangle view of a buffer reads as the buffer's, -/
theorem read_whole {S : Shape} (M : Memref sig .scVector .vmem S .i32) (f : M.view.ty.Contents (Elt F)) :
    (M.access (.whole S)).read (Elt F) f = M.view.read (Elt F) f := by
  funext x
  show M.view.read (Elt F) f ((Rect.whole S).emb x) = _
  rw [Rect.emb_whole_apply]

/-- is over the same elements, -/
theorem set_whole {S : Shape} (M : Memref sig .scVector .vmem S .i32) : (M.access (.whole S)).set = M.view.set := by
  rw [View.set_slice, Rect.set_whole]; rfl

/-- and, written, reads as what was written. -/
theorem read_write_whole {S : Shape} (M : Memref sig .scVector .vmem S .i32) (f : M.view.ty.Contents (Elt F)) (w : S.Idx → Elt F .i32) :
    M.view.read (Elt F) ((M.access (.whole S)).write (Elt F) f w Finset.univ) = w := by
  rw [← read_whole M ((M.access (.whole S)).write (Elt F) f w Finset.univ), View.read_write_univ]

theorem run_gat (M : M2) (g : Nat → BitVec 32) (v : V16) (h : Inb2 v) (k : Vec F S16 .i32 → Prog (Eff F c s) α) (Q : α → sProp 𝕄) :
    own2 d c s M g ⊢ iprop((own2 d c s M g -∗ run d c s (k (loadIdx (F := F) (e := .i32) (fun j : S2048.Idx => g (j 0).val) ![v] h)) Q)
      -∗ run d c s (gat M v h >>= k) Q) := by
  unfold own2 owns
  iintro ⟨%f, %hf, H⟩ Hk
  iapply (SparseCore.wp_vectorLoadIdx (defs := defs₀ (F := F)) 𝒱₀ (V d c s) none Set.univ (Q := Q) (base := M) (idxs := ![v]) (h := h)
    (hl := View.loads_vmem h_S2048) (k := k) (q := fullShare) (f := f) (S := M.view.set) (set_whole M).subset) $$ H
  iintro H
  rw [read_whole, hf]
  iapply Hk
  iexists f
  isplitr; · ipureintro; exact hf
  iexact H

theorem run_put2 (M : M2) (g g' : Nat → BitVec 32) (v x : V16) (mask : IVec S16 1) (h : Inb2 v)
    (h' : ∀ i : S2048.Idx, storeIdx (F := F) (e := .i32) (fun j : S2048.Idx => g (j 0).val) ![v] x mask false h i = g' (i 0).val)
    (k : PUnit → Prog (Eff F c s) α) (Q : α → sProp 𝕄) :
    own2 d c s M g ⊢ iprop((own2 d c s M g' -∗ run d c s (k ⟨⟩) Q) -∗ run d c s (put2 M v x mask h >>= k) Q) := by
  unfold own2 owns
  iintro ⟨%f, %hf, H⟩ Hk
  rw [← set_whole M]
  iapply (SparseCore.wp_vectorStoreIdx (defs := defs₀ (F := F)) 𝒱₀ (V d c s) none Set.univ (Q := Q) (base := M) (idxs := ![v])
    (v := (x : Vec F S16 .i32)) (mask := mask) (add := false) (h := h) (hs := View.stores_vmem_bits_univ h_S2048 rfl) (k := k) (f := f)) $$ H
  iintro H
  iapply Hk
  iexists ((M.access (.whole S2048)).write (Elt F) f
    (storeIdx (F := F) (e := .i32) ((M.access (.whole S2048)).read (Elt F) f) ![v] x mask false h) Finset.univ)
  isplitr
  · ipureintro
    rw [read_write_whole, read_whole, hf]
    exact funext h'
  iexact H

theorem run_put8 (M : M8) (g g' : Nat → BitVec 32) (v x : V16) (h : Inb8 v)
    (h' : ∀ i : S8192.Idx, storeIdx (F := F) (e := .i32) (fun j : S8192.Idx => g (j 0).val) ![v] x (fun _ => 1#1) false h i = g' (i 0).val)
    (k : PUnit → Prog (Eff F c s) α) (Q : α → sProp 𝕄) :
    own8 d c s M g ⊢ iprop((own8 d c s M g' -∗ run d c s (k ⟨⟩) Q) -∗ run d c s (put8 M v x h >>= k) Q) := by
  unfold own8 owns
  iintro ⟨%f, %hf, H⟩ Hk
  rw [← set_whole M]
  iapply (SparseCore.wp_vectorStoreIdx (defs := defs₀ (F := F)) 𝒱₀ (V d c s) none Set.univ (Q := Q) (base := M) (idxs := ![v])
    (v := (x : Vec F S16 .i32)) (mask := fun _ => 1#1) (add := false) (h := h) (hs := View.stores_vmem_bits_univ h_S8192 rfl) (k := k) (f := f)) $$ H
  iintro H
  iapply Hk
  iexists ((M.access (.whole S8192)).write (Elt F) f
    (storeIdx (F := F) (e := .i32) ((M.access (.whole S8192)).read (Elt F) f) ![v] x (fun _ => 1#1) false h) Finset.univ)
  isplitr
  · ipureintro
    rw [read_write_whole, read_whole, hf]
    exact funext h'
  iexact H

theorem run_asm {P : V16 → Prop} (C : Chk P) (v : V16) (hv : P v) (k : PLift (C.C v) → Prog (Eff F c s) α) (Q : α → sProp 𝕄) :
    (∀ h, run d c s (k h) Q) ⊢ run d c s (asm C v >>= k) Q := by
  iintro H
  iapply (wp_assume (defs := defs₀ (F := F)) 𝒱₀ (V d c s) none Set.univ (k := k) (C.bwd v hv))
  iapply H

end Rules

end Cert.Proof.Rules

end
-- ==== Proof.Parts.lean ====
/-
  The body of a tile that holds a row, put together from the programs of Body.lean: two copies in, six passes and two
  copies out. Every check the text makes is listed by pass and block.
-/
module

public import proofs.«01_k».proof.Proof.Body

@[expose] public section

noncomputable section

namespace Cert.Proof.Body

open Cert.KernelIdeal hiding sig Λ₀ defs₀
open Cert.KernelIdeal.Gen
open Idealize.ShloMosaic
open Idealize.SL Idealize.SL.Sem

def ck {P : V16 → Prop} (C : V16 → Prop) (dec : ∀ v, Decidable (C v)) (h : ∀ v, C v ↔ P v) : Chk P :=
  ⟨C, dec, fun v => (h v).1, fun v => (h v).2⟩

section Checks

variable (i : grid1.Coords) (h : k1_cond1 i = 1#1)
include h

def cH0 : Fin 4 → Chk Inb2 :=
  ![ck (k1_chk1 i) (k1_chk1.dec i) (fun _ => ⟨fun e => e.1 h, fun e => ⟨fun _ => e, fun _ => e⟩⟩),
    ck (k1_chk2 i) (k1_chk2.dec i) (fun _ => ⟨fun e => e.1 h, fun e => ⟨fun _ => e, fun _ => e⟩⟩),
    ck (k1_chk3 i) (k1_chk3.dec i) (fun _ => ⟨fun e => e.1 h, fun e => ⟨fun _ => e, fun _ => e⟩⟩),
    ck (k1_chk4 i) (k1_chk4.dec i) (fun _ => ⟨fun e => e.1 h, fun e => ⟨fun _ => e, fun _ => e⟩⟩)]
def cD0 : Fin 4 → Chk Inb2 :=
  ![ck (k1_chk5 i) (k1_chk5.dec i) (fun _ => ⟨fun e => e h, fun e _ => e⟩),
    ck (k1_chk7 i) (k1_chk7.dec i) (fun _ => ⟨fun e => e h, fun e _ => e⟩),
    ck (k1_chk9 i) (k1_chk9.dec i) (fun _ => ⟨fun e => e h, fun e _ => e⟩),
    ck (k1_chk11 i) (k1_chk11.dec i) (fun _ => ⟨fun e => e h, fun e _ => e⟩)]
def cR0 : Fin 4 → Chk Inb8 :=
  ![ck (k1_chk6 i) (k1_chk6.dec i) (fun _ => ⟨fun e => e.1 h, fun e => ⟨fun _ => e, fun _ => e, fun _ => e⟩⟩),
    ck (k1_chk8 i) (k1_chk8.dec i) (fun _ => ⟨fun e => e.1 h, fun e => ⟨fun _ => e, fun _ => e, fun _ => e⟩⟩),
    ck (k1_chk10 i) (k1_chk10.dec i) (fun _ => ⟨fun e => e.1 h, fun e => ⟨fun _ => e, fun _ => e, fun _ => e⟩⟩),
    ck (k1_chk12 i) (k1_chk12.dec i) (fun _ => ⟨fun e => e.1 h, fun e => ⟨fun _ => e, fun _ => e, fun _ => e⟩⟩)]
def cH1 : Fin 4 → Chk Inb2 :=
  ![ck (k1_chk13 i) (k1_chk13.dec i) (fun _ => ⟨fun e => e.1 h, fun e => ⟨fun _ => e, fun _ => e⟩⟩),
    ck (k1_chk14 i) (k1_chk14.dec i) (fun _ => ⟨fun e => e.1 h, fun e => ⟨fun _ => e, fun _ => e⟩⟩),
    ck (k1_chk15 i) (k1_chk15.dec i) (fun _ => ⟨fun e => e.1 h, fun e => ⟨fun _ => e, fun _ => e⟩⟩),
    ck (k1_chk16 i) (k1_chk16.dec i) (fun _ => ⟨fun e => e.1 h, fun e => ⟨fun _ => e, fun _ => e⟩⟩)]
def cD1 : Fin 4 → Chk Inb2 :=
  ![ck (k1_chk17 i) (k1_chk17.dec i) (fun _ => ⟨fun e => e h, fun e _ => e⟩),
    ck (k1_chk19 i) (k1_chk19.dec i) (fun _ => ⟨fun e => e h, fun e _ => e⟩),
    ck (k1_chk21 i) (k1_chk21.dec i) (fun _ => ⟨fun e => e h, fun e _ => e⟩),
    ck (k1_chk23 i) (k1_chk23.dec i) (fun _ => ⟨fun e => e h, fun e _ => e⟩)]
def cR1 : Fin 4 → Chk Inb8 :=
  ![ck (k1_chk18 i) (k1_chk18.dec i) (fun _ => ⟨fun e => e.1 h, fun e => ⟨fun _ => e, fun _ => e, fun _ => e⟩⟩),
    ck (k1_chk20 i) (k1_chk20.dec i) (fun _ => ⟨fun e => e.1 h, fun e => ⟨fun _ => e, fun _ => e, fun _ => e⟩⟩),
    ck (k1_chk22 i) (k1_chk22.dec i) (fun _ => ⟨fun e => e.1 h, fun e => ⟨fun _ => e, fun _ => e, fun _ => e⟩⟩),
    ck (k1_chk24 i) (k1_chk24.dec i) (fun _ => ⟨fun e => e.1 h, fun e => ⟨fun _ => e, fun _ => e, fun _ => e⟩⟩)]
def cH2 : Fin 4 → Chk Inb2 :=
  ![ck (k1_chk25 i) (k1_chk25.dec i) (fun _ => ⟨fun e => e.1 h, fun e => ⟨fun _ => e, fun _ => e⟩⟩),
    ck (k1_chk26 i) (k1_chk26.dec i) (fun _ => ⟨fun e => e.1 h, fun e => ⟨fun _ => e, fun _ => e⟩⟩),
    ck (k1_chk27 i) (k1_chk27.dec i) (fun _ => ⟨fun e => e.1 h, fun e => ⟨fun _ => e, fun _ => e⟩⟩),
    ck (k1_chk28 i) (k1_chk28.dec i) (fun _ => ⟨fun e => e.1 h, fun e => ⟨fun _ => e, fun _ => e⟩⟩)]
def cD2 : Fin 4 → Chk Inb2 :=
  ![ck (k1_chk29 i) (k1_chk29.dec i) (fun _ => ⟨fun e => e h, fun e _ => e⟩),
    ck (k1_chk31 i) (k1_chk31.dec i) (fun _ => ⟨fun e => e h, fun e _ => e⟩),
    ck (k1_chk33 i) (k1_chk33.dec i) (fun _ => ⟨fun e => e h, fun e _ => e⟩),
    ck (k1_chk35 i) (k1_chk35.dec i) (fun _ => ⟨fun e => e h, fun e _ => e⟩)]
def cR2 : Fin 4 → Chk Inb8 :=
  ![ck (k1_chk30 i) (k1_chk30.dec i) (fun _ => ⟨fun e => e.1 h, fun e => ⟨fun _ => e, fun _ => e⟩⟩),
    ck (k1_chk32 i) (k1_chk32.dec i) (fun _ => ⟨fun e => e.1 h, fun e => ⟨fun _ => e, fun _ => e⟩⟩),
    ck (k1_chk34 i) (k1_chk34.dec i) (fun _ => ⟨fun e => e.1 h, fun e => ⟨fun _ => e, fun _ => e⟩⟩),
    ck (k1_chk36 i) (k1_chk36.dec i) (fun _ => ⟨fun e => e.1 h, fun e => ⟨fun _ => e, fun _ => e⟩⟩)]
def cH3 : Fin 4 → Chk Inb2 :=
  ![ck (k1_chk37 i) (k1_chk37.dec i) (fun _ => ⟨fun e => e.1 h, fun e => ⟨fun _ => e, fun _ => e⟩⟩),
    ck (k1_chk38 i) (k1_chk38.dec i) (fun _ => ⟨fun e => e.1 h, fun e => ⟨fun _ => e, fun _ => e⟩⟩),
    ck (k1_chk39 i) (k1_chk39.dec i) (fun _ => ⟨fun e => e.1 h, fun e => ⟨fun _ => e, fun _ => e⟩⟩),
    ck (k1_chk40 i) (k1_chk40.dec i) (fun _ => ⟨fun e => e.1 h, fun e => ⟨fun _ => e, fun _ => e⟩⟩)]
def cD3 : Fin 4 → Chk Inb2 :=
  ![ck (k1_chk41 i) (k1_chk41.dec i) (fun _ => ⟨fun e => e h, fun e _ => e⟩),
    ck (k1_chk43 i) (k1_chk43.dec i) (fun _ => ⟨fun e => e h, fun e _ => e⟩),
    ck (k1_chk45 i) (k1_chk45.dec i) (fun _ => ⟨fun e => e h, fun e _ => e⟩),
    ck (k1_chk47 i) (k1_chk47.dec i) (fun _ => ⟨fun e => e h, fun e _ => e⟩)]
def cR3 : Fin 4 → Chk Inb8 :=
  ![ck (k1_chk42 i) (k1_chk42.dec i) (fun _ => ⟨fun e => e.1 h, fun e => ⟨fun _ => e, fun _ => e⟩⟩),
    ck (k1_chk44 i) (k1_chk44.dec i) (fun _ => ⟨fun e => e.1 h, fun e => ⟨fun _ => e, fun _ => e⟩⟩),
    ck (k1_chk46 i) (k1_chk46.dec i) (fun _ => ⟨fun e => e.1 h, fun e => ⟨fun _ => e, fun _ => e⟩⟩),
    ck (k1_chk48 i) (k1_chk48.dec i) (fun _ => ⟨fun e => e.1 h, fun e => ⟨fun _ => e, fun _ => e⟩⟩)]
def cH4 : Fin 4 → Chk Inb2 :=
  ![ck (k1_chk49 i) (k1_chk49.dec i) (fun _ => ⟨fun e => e.1 h, fun e => ⟨fun _ => e, fun _ => e⟩⟩),
    ck (k1_chk50 i) (k1_chk50.dec i) (fun _ => ⟨fun e => e.1 h, fun e => ⟨fun _ => e, fun _ => e⟩⟩),
    ck (k1_chk51 i) (k1_chk51.dec i) (fun _ => ⟨fun e => e.1 h, fun e => ⟨fun _ => e, fun _ => e⟩⟩),
    ck (k1_chk52 i) (k1_chk52.dec i) (fun _ => ⟨fun e => e.1 h, fun e => ⟨fun _ => e, fun _ => e⟩⟩)]
def cD4 : Fin 4 → Chk Inb2 :=
  ![ck (k1_chk53 i) (k1_chk53.dec i) (fun _ => ⟨fun e => e h, fun e _ => e⟩),
    ck (k1_chk55 i) (k1_chk55.dec i) (fun _ => ⟨fun e => e h, fun e _ => e⟩),
    ck (k1_chk57 i) (k1_chk57.dec i) (fun _ => ⟨fun e => e h, fun e _ => e⟩),
    ck (k1_chk59 i) (k1_chk59.dec i) (fun _ => ⟨fun e => e h, fun e _ => e⟩)]
def cR4 : Fin 4 → Chk Inb8 :=
  ![ck (k1_chk54 i) (k1_chk54.dec i) (fun _ => ⟨fun e => e.1 h, fun e => ⟨fun _ => e, fun _ => e⟩⟩),
    ck (k1_chk56 i) (k1_chk56.dec i) (fun _ => ⟨fun e => e.1 h, fun e => ⟨fun _ => e, fun _ => e⟩⟩),
    ck (k1_chk58 i) (k1_chk58.dec i) (fun _ => ⟨fun e => e.1 h, fun e => ⟨fun _ => e, fun _ => e⟩⟩),
    ck (k1_chk60 i) (k1_chk60.dec i) (fun _ => ⟨fun e => e.1 h, fun e => ⟨fun _ => e, fun _ => e⟩⟩)]
def cH5 : Fin 4 → Chk Inb2 :=
  ![ck (k1_chk61 i) (k1_chk61.dec i) (fun _ => ⟨fun e => e.1 h, fun e => ⟨fun _ => e, fun _ => e⟩⟩),
    ck (k1_chk62 i) (k1_chk62.dec i) (fun _ => ⟨fun e => e.1 h, fun e => ⟨fun _ => e, fun _ => e⟩⟩),
    ck (k1_chk63 i) (k1_chk63.dec i) (fun _ => ⟨fun e => e.1 h, fun e => ⟨fun _ => e, fun _ => e⟩⟩),
    ck (k1_chk64 i) (k1_chk64.dec i) (fun _ => ⟨fun e => e.1 h, fun e => ⟨fun _ => e, fun _ => e⟩⟩)]
def cD5 : Fin 4 → Chk Inb2 :=
  ![ck (k1_chk65 i) (k1_chk65.dec i) (fun _ => ⟨fun e => e h, fun e _ => e⟩),
    ck (k1_chk68 i) (k1_chk68.dec i) (fun _ => ⟨fun e => e h, fun e _ => e⟩),
    ck (k1_chk71 i) (k1_chk71.dec i) (fun _ => ⟨fun e => e h, fun e _ => e⟩),
    ck (k1_chk74 i) (k1_chk74.dec i) (fun _ => ⟨fun e => e h, fun e _ => e⟩)]
def cR5 : Fin 4 → Chk Inb8 :=
  ![ck (k1_chk66 i) (k1_chk66.dec i) (fun _ => ⟨fun e => e h, fun e _ => e⟩),
    ck (k1_chk69 i) (k1_chk69.dec i) (fun _ => ⟨fun e => e h, fun e _ => e⟩),
    ck (k1_chk72 i) (k1_chk72.dec i) (fun _ => ⟨fun e => e h, fun e _ => e⟩),
    ck (k1_chk75 i) (k1_chk75.dec i) (fun _ => ⟨fun e => e h, fun e _ => e⟩)]
def cV5 : Fin 4 → Chk Inb8 :=
  ![ck (k1_chk67 i) (k1_chk67.dec i) (fun _ => ⟨fun e => e h, fun e _ => e⟩),
    ck (k1_chk70 i) (k1_chk70.dec i) (fun _ => ⟨fun e => e h, fun e _ => e⟩),
    ck (k1_chk73 i) (k1_chk73.dec i) (fun _ => ⟨fun e => e h, fun e _ => e⟩),
    ck (k1_chk76 i) (k1_chk76.dec i) (fun _ => ⟨fun e => e h, fun e _ => e⟩)]

end Checks

variable [Prg] {F : FTy → Type} [FloatOps F]

/-- One pass of the sort: clear the counts, count, sum up, place. -/
def pass {c : Fin τ.nSC} {s : Fin τ.nSub} (K : Key F) (C C' : Fin 4 → Chk Inb2) (D : Fin 4 → Chk Inb8) (hist : Fin 4 → M2) (occ : M8)
    (T : (u : Fin 4) → (w : BitVec 32) → (o : Fin 1 → Nat) → In8 o → K.X → (r : V16) → Inb8 r → Prog (Eff F c s) PUnit) :
    Prog (Eff F c s) PUnit := do
  let _ ← zloop hist
  let _ ← hloop K C hist occ
  let _ ← sloop hist
  let _ ← ploop K C' D hist occ T
  pure ⟨⟩

variable (i : grid1.Coords) (a2 a3 a4 a5 : Big) (a6 : M8) (h6 : a6.IsWhole) (a7 : M8) (h7 : a7.IsWhole) (a8 : M8) (h8 : a8.IsWhole)
  (a9 a10 a11 a12 : M8) (a13 a14 a15 a16 : M2) (r0 r1 r2 r3 : DmaSems sig S_)

/-- What a tile does at `i`: nothing, if it holds no row. -/
def task : Prog (Eff F ((i 0).castLE hcore1) ((i 1).castLE hsub1)) PUnit :=
  if h : k1_cond1 i = 1#1 then (do
    cpIn a2 (k1_off1 i) (k1_off1_inb i h) a6 h6 r0.sem
    cpIn a3 (k1_off1 i) (k1_off1_inb i h) a7 h7 r1.sem
    pass (key1 a7 0#32) (cH0 i h) (cD0 i h) (cR0 i h) (four a13 a14 a15 a16) a12 (tail0 a6 a9 a10 a11)
    pass (key1 a10 11#32) (cH1 i h) (cD1 i h) (cR1 i h) (four a13 a14 a15 a16) a12 (tail1 a9 a11 a6 a7 a8)
    pass (key2 a7 a6) (cH2 i h) (cD2 i h) (cR2 i h) (four a13 a14 a15 a16) a12 (tail2 Prod.snd a8 a9 a11)
    pass (key1 a9 1#32) (cH3 i h) (cD3 i h) (cR3 i h) (four a13 a14 a15 a16) a12 (tail2 id a11 a6 a8)
    pass (key1 a6 12#32) (cH4 i h) (cD4 i h) (cR4 i h) (four a13 a14 a15 a16) a12 (tail2 id a8 a9 a11)
    pass (key1 a9 23#32) (cH5 i h) (cD5 i h) (cR5 i h) (four a13 a14 a15 a16) a12 (tail5 (cV5 i h) a11 a8 a6)
    cpOut a4 (k1_off1 i) (k1_off1_inb i h) a8 h8 r2.sem
    cpOut a5 (k1_off1 i) (k1_off1_inb i h) a6 h6 r3.sem)
  else pure ⟨⟩

end Cert.Proof.Body

end
-- ==== Proof.Text.lean ====
/-
  The whole kernel's printed body of a tile is `task`: the first part copies the two key rows in and makes pass 0, the
  second makes passes 1 and 2, the third passes 3 and 4 and clears the counts of pass 5. The rest of pass 5 and the two
  copies out stand in the body itself.
-/
module

public import proofs.«01_k».proof.Proof.Parts
public import proofs.«01_k».proof.Proof.Rules

@[expose] public section

noncomputable section

namespace Cert.Proof.Text

open Cert.KernelIdeal Cert.KernelIdeal.Gen
open Idealize.ShloMosaic
open Idealize.ShloMosaic.Rounds
open Idealize.SL Idealize.SL.RA Idealize.SL.Sem
open Cert.Proof.Body hiding sig Λ₀ defs₀

/-- The rounds of the handshakes and of the staging buffers, beside the counters of the copies. -/
abbrev UH : Type := URounds (GSem nD τ sig) ℕ
abbrev UB : Type := UH × UR sig nD τ

/-- The whole kernel. -/
@[reducible] instance prg : Prg where
  sig := sig
  Λ₀ := Λ₀
  defs₀ := defs₀
  U := UB

variable {F : FTy → Type} [FloatOps F]

variable (i : grid1.Coords) (a2 : Big) (h2 : a2.IsWhole)
    (a3 : Big) (h3 : a3.IsWhole)
    (a4 : Big) (h4 : a4.IsWhole)
    (a5 : Big) (h5 : a5.IsWhole)
    (a6 : M8) (h6 : a6.IsWhole)
    (a7 : M8) (h7 : a7.IsWhole)
    (a8 : M8) (h8 : a8.IsWhole)
    (a9 : M8) (h9 : a9.IsWhole)
    (a10 : M8) (h10 : a10.IsWhole)
    (a11 : M8) (h11 : a11.IsWhole)
    (a12 : M8) (h12 : a12.IsWhole)
    (a13 : M2) (h13 : a13.IsWhole)
    (a14 : M2) (h14 : a14.IsWhole)
    (a15 : M2) (h15 : a15.IsWhole)
    (a16 : M2) (h16 : a16.IsWhole)
    (r0 r1 r2 r3 : DmaSems sig S_)

omit [FloatOps F] in
theorem bind_congr₂ {c : Fin τ.nSC} {s : Fin τ.nSub} {α β : Type} {p p' : Prog (Eff F c s) α} {f f' : α → Prog (Eff F c s) β}
    (h : p = p') (hf : ∀ x, f x = f' x) : (p >>= f) = (p' >>= f') := by
  obtain rfl := h; obtain rfl := funext hf; rfl

set_option maxHeartbeats 4000000

theorem part15_eq (h : k1_cond1 i = 1#1) :
    k1_part15 (F := F) i a2 h2 a3 h3 a4 h4 a5 h5 a6 h6 a7 h7 a8 h8 a9 h9 a10 h10 a11 h11 a12 h12 a13 h13 a14 h14 a15 h15 a16 h16 r0 r1 r2 r3 h = (do
      cpIn a2 (k1_off1 i) (k1_off1_inb i h) a6 h6 r0.sem
      cpIn a3 (k1_off1 i) (k1_off1_inb i h) a7 h7 r1.sem
      let _ ← zloop (four a13 a14 a15 a16)
      let _ ← hloop (key1 a7 0#32) (cH0 i h) (four a13 a14 a15 a16) a12
      let _ ← sloop (four a13 a14 a15 a16)
      let _ ← ploop (key1 a7 0#32) (cD0 i h) (cR0 i h) (four a13 a14 a15 a16) a12 (tail0 a6 a9 a10 a11)
      pure ⟨broadcast S16 0#32, 0#32⟩) := by
  unfold k1_part15
  unfold cpIn
  iterate 4 refine congrArg (Prog.op _) (funext fun _ => ?_)
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k1_part1, k1_part2, key1, key2, tail0, tail1, tail2, tail5, rd8, st8, rd2, st2, Prog.bind_lift, Prog.bind_op, Prog.bind_ret, Prog.pure_eq_ret]
       repeat refine congrArg (Prog.op _) (funext fun _ => ?_)
       rfl)
    | rfl

theorem part16_eq (h : k1_cond1 i = 1#1) :
    k1_part16 (F := F) i a2 h2 a3 h3 a4 h4 a5 h5 a6 h6 a7 h7 a8 h8 a9 h9 a10 h10 a11 h11 a12 h12 a13 h13 a14 h14 a15 h15 a16 h16 r0 r1 r2 r3 h (broadcast S16 0#32) 0#32 = (do
      let _ ← zloop (four a13 a14 a15 a16)
      let _ ← hloop (key1 a10 11#32) (cH1 i h) (four a13 a14 a15 a16) a12
      let _ ← sloop (four a13 a14 a15 a16)
      let _ ← ploop (key1 a10 11#32) (cD1 i h) (cR1 i h) (four a13 a14 a15 a16) a12 (tail1 a9 a11 a6 a7 a8)
      let _ ← zloop (four a13 a14 a15 a16)
      let _ ← hloop (key2 a7 a6) (cH2 i h) (four a13 a14 a15 a16) a12
      let _ ← sloop (four a13 a14 a15 a16)
      let _ ← ploop (key2 a7 a6) (cD2 i h) (cR2 i h) (four a13 a14 a15 a16) a12 (tail2 Prod.snd a8 a9 a11)
      pure ⟨0#32, 0#32, 1#32⟩) := by
  unfold k1_part16
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k1_part3, k1_part4, k1_part5, k1_part6, k1_part7, k1_part8, key1, key2, tail0, tail1, tail2, tail5, rd8, st8, rd2, st2, Prog.bind_lift, Prog.bind_op, Prog.bind_ret, Prog.pure_eq_ret]
       repeat refine congrArg (Prog.op _) (funext fun _ => ?_)
       rfl)
    | rfl

theorem part17_eq (h : k1_cond1 i = 1#1) :
    k1_part17 (F := F) i a2 h2 a3 h3 a4 h4 a5 h5 a6 h6 a7 h7 a8 h8 a9 h9 a10 h10 a11 h11 a12 h12 a13 h13 a14 h14 a15 h15 a16 h16 r0 r1 r2 r3 h (broadcast S16 0#32) 0#32 0#32 1#32 = (do
      let _ ← zloop (four a13 a14 a15 a16)
      let _ ← hloop (key1 a9 1#32) (cH3 i h) (four a13 a14 a15 a16) a12
      let _ ← sloop (four a13 a14 a15 a16)
      let _ ← ploop (key1 a9 1#32) (cD3 i h) (cR3 i h) (four a13 a14 a15 a16) a12 (tail2 id a11 a6 a8)
      let _ ← zloop (four a13 a14 a15 a16)
      let _ ← hloop (key1 a6 12#32) (cH4 i h) (four a13 a14 a15 a16) a12
      let _ ← sloop (four a13 a14 a15 a16)
      let _ ← ploop (key1 a6 12#32) (cD4 i h) (cR4 i h) (four a13 a14 a15 a16) a12 (tail2 id a8 a9 a11)
      let _ ← zloop (four a13 a14 a15 a16)
      pure ⟨0#32, 0#32⟩) := by
  unfold k1_part17
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k1_part9, k1_part10, k1_part11, k1_part12, key1, key2, tail0, tail1, tail2, tail5, rd8, st8, rd2, st2, Prog.bind_lift, Prog.bind_op, Prog.bind_ret, Prog.pure_eq_ret]
       repeat refine congrArg (Prog.op _) (funext fun _ => ?_)
       rfl)
    | rfl

/-- The printed body is two copies in, six passes and two copies out, on the tiles that hold a row. -/
theorem task_eq : cc1__sort_body (F := F) i a2 h2 a3 h3 a4 h4 a5 h5 a6 h6 a7 h7 a8 h8 a9 h9 a10 h10 a11 h11 a12 h12 a13 h13 a14 h14 a15 h15 a16 h16 r0 r1 r2 r3 =
    task i a2 a3 a4 a5 a6 h6 a7 h7 a8 h8 a9 a10 a11 a12 a13 a14 a15 a16 r0 r1 r2 r3 := by
  unfold cc1__sort_body
  unfold task
  refine dite_congr rfl (fun h => ?_) (fun _ => rfl)
  simp only [part15_eq, part16_eq, part17_eq, pass, cpOut, Prog.bind_assoc, Prog.pure_eq_ret, Prog.bind_ret]
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k1_part13, k1_part14, key1, key2, tail0, tail1, tail2, tail5, rd8, st8, rd2, st2, Prog.bind_lift, Prog.bind_op, Prog.bind_ret, Prog.pure_eq_ret]
       repeat refine congrArg (Prog.op _) (funext fun _ => ?_)
       rfl)
    | rfl

end Cert.Proof.Text

end
-- ==== Proof.Body0.lean ====
/-
  The TensorCore kernel's text, as printed in parts, is the structured form of `Keys`, part by part.
-/
module

public import proofs.«01_k».proof.Proof.Keys

@[expose] public section

noncomputable section

namespace Cert.KernelIdeal.Keys

open Cert.KernelIdeal Idealize.ShloMosaic Idealize.SL.Sem
open Facts₀ Facts

variable {F : FTy → Type} [FloatOps F]

/-- A plane of the input block. -/
def plane (v : Vec F S1x1x64x128 .f32) : FVec F S64x128 .f32 := shapeCast S64x128 v shapeCasts_S1x1x64x128_S64x128

def asPlane (v : IVec S64x128 32) : Vec F S1x64x128 .i32 := shapeCast S1x64x128 v shapeCasts_S64x128_S1x64x128

/-- What a row stores, from its three planes. -/
abbrev Out (F : FTy → Type) : Type := Vec F S1x1x64x128 .f32 → Vec F S1x1x64x128 .f32 → Vec F S1x1x64x128 .f32 → Vec F S1x64x128 .i32

/-- The body as the loads and stores of its four rows, over what each row stores. -/
def skelG (h0 l0 h1 l1 h2 l2 h3 l3 : Out F) (arg1 : Memref sig .tc .vmem S3x4x64x128 .f32) (arg2 : Memref sig .tc .vmem S4x64x128 .i32)
    (arg3 : Memref sig .tc .vmem S4x64x128 .i32) : Prog (TpuEff nD τ sig (Elt F) Λ₀ .tc) PUnit := do
  let a0 ← Prog.lift (.load arg1 (Rect.unit (s := S3x4x64x128) ![0, 0, 0, 0] S1x1x64x128.size inb_S3x4x64x128_S1x1x64x128_0_0_0_0).toLoadRect (View.loadsAt_vmem h_S1x1x64x128))
  let b0 ← Prog.lift (.load arg1 (Rect.unit (s := S3x4x64x128) ![1, 0, 0, 0] S1x1x64x128.size inb_S3x4x64x128_S1x1x64x128_1_0_0_0).toLoadRect (View.loadsAt_vmem h_S1x1x64x128))
  let c0 ← Prog.lift (.load arg1 (Rect.unit (s := S3x4x64x128) ![2, 0, 0, 0] S1x1x64x128.size inb_S3x4x64x128_S1x1x64x128_2_0_0_0).toLoadRect (View.loadsAt_vmem h_S1x1x64x128))
  let _ ← Prog.lift (.load arg2 (Rect.unit (s := S4x64x128) ![0, 0, 0] S1x64x128.size inb_S4x64x128_S1x64x128_0_0_0).toLoadRect (View.loadsAt_vmem h_S1x64x128))
  Prog.lift (.store arg2 (Rect.unit (s := S4x64x128) ![0, 0, 0] S1x64x128.size inb_S4x64x128_S1x64x128_0_0_0) (h0 a0 b0 c0) Finset.univ (View.stores_vmem_bits_univ h_S1x64x128 rfl) (.inl rfl))
  let _ ← Prog.lift (.load arg3 (Rect.unit (s := S4x64x128) ![0, 0, 0] S1x64x128.size inb_S4x64x128_S1x64x128_0_0_0).toLoadRect (View.loadsAt_vmem h_S1x64x128))
  Prog.lift (.store arg3 (Rect.unit (s := S4x64x128) ![0, 0, 0] S1x64x128.size inb_S4x64x128_S1x64x128_0_0_0) (l0 a0 b0 c0) Finset.univ (View.stores_vmem_bits_univ h_S1x64x128 rfl) (.inl rfl))
  let a1 ← Prog.lift (.load arg1 (Rect.unit (s := S3x4x64x128) ![0, 1, 0, 0] S1x1x64x128.size inb_S3x4x64x128_S1x1x64x128_0_1_0_0).toLoadRect (View.loadsAt_vmem h_S1x1x64x128))
  let b1 ← Prog.lift (.load arg1 (Rect.unit (s := S3x4x64x128) ![1, 1, 0, 0] S1x1x64x128.size inb_S3x4x64x128_S1x1x64x128_1_1_0_0).toLoadRect (View.loadsAt_vmem h_S1x1x64x128))
  let c1 ← Prog.lift (.load arg1 (Rect.unit (s := S3x4x64x128) ![2, 1, 0, 0] S1x1x64x128.size inb_S3x4x64x128_S1x1x64x128_2_1_0_0).toLoadRect (View.loadsAt_vmem h_S1x1x64x128))
  let _ ← Prog.lift (.load arg2 (Rect.unit (s := S4x64x128) ![1, 0, 0] S1x64x128.size inb_S4x64x128_S1x64x128_1_0_0).toLoadRect (View.loadsAt_vmem h_S1x64x128))
  Prog.lift (.store arg2 (Rect.unit (s := S4x64x128) ![1, 0, 0] S1x64x128.size inb_S4x64x128_S1x64x128_1_0_0) (h1 a1 b1 c1) Finset.univ (View.stores_vmem_bits_univ h_S1x64x128 rfl) (.inl rfl))
  let _ ← Prog.lift (.load arg3 (Rect.unit (s := S4x64x128) ![1, 0, 0] S1x64x128.size inb_S4x64x128_S1x64x128_1_0_0).toLoadRect (View.loadsAt_vmem h_S1x64x128))
  Prog.lift (.store arg3 (Rect.unit (s := S4x64x128) ![1, 0, 0] S1x64x128.size inb_S4x64x128_S1x64x128_1_0_0) (l1 a1 b1 c1) Finset.univ (View.stores_vmem_bits_univ h_S1x64x128 rfl) (.inl rfl))
  let a2 ← Prog.lift (.load arg1 (Rect.unit (s := S3x4x64x128) ![0, 2, 0, 0] S1x1x64x128.size inb_S3x4x64x128_S1x1x64x128_0_2_0_0).toLoadRect (View.loadsAt_vmem h_S1x1x64x128))
  let b2 ← Prog.lift (.load arg1 (Rect.unit (s := S3x4x64x128) ![1, 2, 0, 0] S1x1x64x128.size inb_S3x4x64x128_S1x1x64x128_1_2_0_0).toLoadRect (View.loadsAt_vmem h_S1x1x64x128))
  let c2 ← Prog.lift (.load arg1 (Rect.unit (s := S3x4x64x128) ![2, 2, 0, 0] S1x1x64x128.size inb_S3x4x64x128_S1x1x64x128_2_2_0_0).toLoadRect (View.loadsAt_vmem h_S1x1x64x128))
  let _ ← Prog.lift (.load arg2 (Rect.unit (s := S4x64x128) ![2, 0, 0] S1x64x128.size inb_S4x64x128_S1x64x128_2_0_0).toLoadRect (View.loadsAt_vmem h_S1x64x128))
  Prog.lift (.store arg2 (Rect.unit (s := S4x64x128) ![2, 0, 0] S1x64x128.size inb_S4x64x128_S1x64x128_2_0_0) (h2 a2 b2 c2) Finset.univ (View.stores_vmem_bits_univ h_S1x64x128 rfl) (.inl rfl))
  let _ ← Prog.lift (.load arg3 (Rect.unit (s := S4x64x128) ![2, 0, 0] S1x64x128.size inb_S4x64x128_S1x64x128_2_0_0).toLoadRect (View.loadsAt_vmem h_S1x64x128))
  Prog.lift (.store arg3 (Rect.unit (s := S4x64x128) ![2, 0, 0] S1x64x128.size inb_S4x64x128_S1x64x128_2_0_0) (l2 a2 b2 c2) Finset.univ (View.stores_vmem_bits_univ h_S1x64x128 rfl) (.inl rfl))
  let a3 ← Prog.lift (.load arg1 (Rect.unit (s := S3x4x64x128) ![0, 3, 0, 0] S1x1x64x128.size inb_S3x4x64x128_S1x1x64x128_0_3_0_0).toLoadRect (View.loadsAt_vmem h_S1x1x64x128))
  let b3 ← Prog.lift (.load arg1 (Rect.unit (s := S3x4x64x128) ![1, 3, 0, 0] S1x1x64x128.size inb_S3x4x64x128_S1x1x64x128_1_3_0_0).toLoadRect (View.loadsAt_vmem h_S1x1x64x128))
  let c3 ← Prog.lift (.load arg1 (Rect.unit (s := S3x4x64x128) ![2, 3, 0, 0] S1x1x64x128.size inb_S3x4x64x128_S1x1x64x128_2_3_0_0).toLoadRect (View.loadsAt_vmem h_S1x1x64x128))
  let _ ← Prog.lift (.load arg2 (Rect.unit (s := S4x64x128) ![3, 0, 0] S1x64x128.size inb_S4x64x128_S1x64x128_3_0_0).toLoadRect (View.loadsAt_vmem h_S1x64x128))
  Prog.lift (.store arg2 (Rect.unit (s := S4x64x128) ![3, 0, 0] S1x64x128.size inb_S4x64x128_S1x64x128_3_0_0) (h3 a3 b3 c3) Finset.univ (View.stores_vmem_bits_univ h_S1x64x128 rfl) (.inl rfl))
  let _ ← Prog.lift (.load arg3 (Rect.unit (s := S4x64x128) ![3, 0, 0] S1x64x128.size inb_S4x64x128_S1x64x128_3_0_0).toLoadRect (View.loadsAt_vmem h_S1x64x128))
  Prog.lift (.store arg3 (Rect.unit (s := S4x64x128) ![3, 0, 0] S1x64x128.size inb_S4x64x128_S1x64x128_3_0_0) (l3 a3 b3 c3) Finset.univ (View.stores_vmem_bits_univ h_S1x64x128 rfl) (.inl rfl))
  pure ⟨⟩

set_option maxRecDepth 1000000 in
set_option maxHeartbeats 0 in
theorem body_ex (i : grid0.Coords) (arg1 : Memref sig .tc .vmem S3x4x64x128 .f32) (harg1 : arg1.IsWhole) (arg2 : Memref sig .tc .vmem S4x64x128 .i32) (harg2 : arg2.IsWhole) (arg3 : Memref sig .tc .vmem S4x64x128 .i32) (harg3 : arg3.IsWhole) :
    ∃ h0 l0 h1 l1 h2 l2 h3 l3 : Out F,
      cc0__key_body (F := F) i arg1 harg1 arg2 harg2 arg3 harg3 = skelG h0 l0 h1 l1 h2 l2 h3 l3 arg1 arg2 arg3 ∧
      (∀ a b c, h0 a b c = asPlane (keyHi (plane a) (plane b) (plane c))) ∧
      (∀ a b c, l0 a b c = asPlane (keyLo (plane a) (plane b) (plane c))) ∧
      (∀ a b c, h1 a b c = asPlane (keyHi (plane a) (plane b) (plane c))) ∧
      (∀ a b c, l1 a b c = asPlane (keyLo (plane a) (plane b) (plane c))) ∧
      (∀ a b c, h2 a b c = asPlane (keyHi (plane a) (plane b) (plane c))) ∧
      (∀ a b c, l2 a b c = asPlane (keyLo (plane a) (plane b) (plane c))) ∧
      (∀ a b c, h3 a b c = asPlane (keyHi (plane a) (plane b) (plane c))) ∧
      (∀ a b c, l3 a b c = asPlane (keyLo (plane a) (plane b) (plane c))) := by
  refine ⟨?_, ?_, ?_, ?_, ?_, ?_, ?_, ?_, ?_, ?_, ?_, ?_, ?_, ?_, ?_, ?_, ?_⟩
  rotate_left 8
  · exact rfl
  all_goals
    intro a b c
    beta_reduce
    dsimp only [keyHi, keyLo, hiWord, loWord, turned, grays, levels, gridPts, lastTurn, bitAt, turn, level,
      stepB, stepA, first, on, gridPt, gridOf, scaled, quot, quotLow, radius, root, rootLow, add, sq, centred,
      spread, mean, foldMax, foldSum, above, maxStep, sumStep, neg, sqLo, sqHi, sqLow, sqErr, prodErr,
      splitLo, splitHi, addLo, addHi, addLow, fastErr, sumErr, plane, asPlane]

/-- The key's words as a row stores them. -/
def outHi : Out F := fun a b c => asPlane (keyHi (plane a) (plane b) (plane c))
def outLo : Out F := fun a b c => asPlane (keyLo (plane a) (plane b) (plane c))

/-- The printed body is the loads and stores of its four rows, and stores the keys. -/
theorem body_eq (i : grid0.Coords) (arg1 : Memref sig .tc .vmem S3x4x64x128 .f32) (harg1 : arg1.IsWhole) (arg2 : Memref sig .tc .vmem S4x64x128 .i32) (harg2 : arg2.IsWhole) (arg3 : Memref sig .tc .vmem S4x64x128 .i32) (harg3 : arg3.IsWhole) :
    cc0__key_body (F := F) i arg1 harg1 arg2 harg2 arg3 harg3 = skelG outHi outLo outHi outLo outHi outLo outHi outLo arg1 arg2 arg3 := by
  obtain ⟨h0, l0, h1, l1, h2, l2, h3, l3, h, e0, f0, e1, f1, e2, f2, e3, f3⟩ := body_ex (F := F) i arg1 harg1 arg2 harg2 arg3 harg3
  have hi : ∀ h : Out F, (∀ a b c, h a b c = asPlane (keyHi (plane a) (plane b) (plane c))) → h = outHi :=
    fun h e => funext fun a => funext fun b => funext fun c => e a b c
  have lo : ∀ l : Out F, (∀ a b c, l a b c = asPlane (keyLo (plane a) (plane b) (plane c))) → l = outLo :=
    fun l e => funext fun a => funext fun b => funext fun c => e a b c
  rw [h, hi h0 e0, lo l0 f0, hi h1 e1, lo l1 f1, hi h2 e2, lo l2 f2, hi h3 e3, lo l3 f3]

end Cert.KernelIdeal.Keys
-- ==== Proof.Block.lean ====
/-
  The TensorCore kernel's body at one grid point: from a block of the points it stores, row by row, the two words of the keys.
-/
module

public import proofs.«01_k».proof.Proof.Rules
public import proofs.«01_k».proof.Proof.Text
public import proofs.«01_k».proof.Proof.Body0

@[expose] public section

noncomputable section

namespace Cert.Proof.Block

open Cert.KernelIdeal Cert.KernelIdeal.Gen Cert.KernelIdeal.Keys
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Rules Cert.Proof.Text
open Facts₀ Facts

variable {F : FTy → Type} [FloatOps F]

local notation "𝕄" => MT nD τ sig (HIx 1) (Elt F) ℕ UU ℕ

theorem inbIn : ∀ (k : Fin 3) (r : Fin 4) (i : Fin 4), (![k.val, r.val, 0, 0] : Fin 4 → Nat) i + S1x1x64x128.size i ≤ S3x4x64x128.size i := by decide
theorem inbOut : ∀ (r : Fin 4) (i : Fin 3), (![r.val, 0, 0] : Fin 3 → Nat) i + S1x64x128.size i ≤ S4x64x128.size i := by decide

/-- Coordinate `k` of the block's row `r`; row `r` of a block of words. -/
abbrev inR (k : Fin 3) (r : Fin 4) : Rect S3x4x64x128 := Rect.unit (s := S3x4x64x128) ![k.val, r.val, 0, 0] S1x1x64x128.size (inbIn k r)
abbrev outR (r : Fin 4) : Rect S4x64x128 := Rect.unit (s := S4x64x128) ![r.val, 0, 0] S1x64x128.size (inbOut r)

/-- What a load of coordinate `k` of row `r` reads. -/
def got (x : S3x4x64x128.Idx → Elt F .f32) (k : Fin 3) (r : Fin 4) : Vec F S1x1x64x128 .f32 := fun j => x ((inR k r).emb j)

/-- The place in its row of an element of a block. -/
def inRow (y : S4x64x128.Idx) : S1x64x128.Idx := fun
  | 0 => ⟨0, by decide⟩
  | 1 => y 1
  | 2 => y 2
  | ⟨_ + 3, h⟩ => absurd h (Nat.not_lt.2 (Nat.le_add_left _ _))

/-- The block of words of `o`, one of the two. -/
def blockOf (o : Out F) (x : S3x4x64x128.Idx → Elt F .f32) : S4x64x128.Idx → Elt F .i32 :=
  fun y => o (got x 0 (y 0)) (got x 1 (y 0)) (got x 2 (y 0)) (inRow y)

theorem emb_row (r : Fin 4) (j : S1x64x128.Idx) : (outR r).emb j 0 = r := by
  refine Fin.ext ?_
  show r.val + 1 * (j 0).val = r.val
  have : (j 0).val < 1 := (j 0).isLt
  omega
theorem inRow_emb (r : Fin 4) (j : S1x64x128.Idx) : inRow ((outR r).emb j) = j := by
  funext a
  match a with
  | 0 => refine Fin.ext ?_; show 0 = (j 0).val; have : (j 0).val < 1 := (j 0).isLt; omega
  | 1 => refine Fin.ext ?_; show 0 + 1 * (j 1).val = (j 1).val; omega
  | 2 => refine Fin.ext ?_; show 0 + 1 * (j 2).val = (j 2).val; omega
theorem blockOf_emb (o : Out F) (x : S3x4x64x128.Idx → Elt F .f32) (r : Fin 4) (j : S1x64x128.Idx) :
    blockOf o x ((outR r).emb j) = o (got x 0 r) (got x 1 r) (got x 2 r) j := by
  unfold blockOf; rw [emb_row, inRow_emb]
theorem emb_inRow (y : S4x64x128.Idx) : (outR (y 0)).emb (inRow y) = y := by
  funext a
  match a with
  | 0 => refine Fin.ext ?_; show (y 0).val + 1 * 0 = (y 0).val; omega
  | 1 => refine Fin.ext ?_; show 0 + 1 * (y 1).val = (y 1).val; omega
  | 2 => refine Fin.ext ?_; show 0 + 1 * (y 2).val = (y 2).val; omega

section Rules

variable (c : Dev nD) {α : Type}

abbrev runs (p : Prog (TpuEff nD τ sig (Elt F) Λ₀ .tc) α) (Q : α → sProp 𝕄) : sProp 𝕄 :=
  wp frame (wpE (defs₀ (F := F)) 𝒱₀ (c : Thread nD τ) none) Set.univ p Q

theorem run_get {s : Shape} {e : EltTy} (M : Memref sig .tc .vmem s e) (g : s.Idx → Elt F e) (r : Rect s)
    (hl : M.view.LoadsAt r.toLoadRect) (k : Vec F r.shape e → Prog (TpuEff nD τ sig (Elt F) Λ₀ .tc) α) (Q : α → sProp 𝕄) :
    owns (c : Thread nD τ) M fullShare g
      ⊢ iprop((owns (c : Thread nD τ) M fullShare g -∗ runs c (k fun j => g (r.emb j)) Q)
        -∗ runs c (Prog.lift (.load M r.toLoadRect hl) >>= k) Q) := by
  unfold owns
  iintro ⟨%f, %hf, H⟩ Hk
  iapply (wp_load_rect (defs := defs₀ (F := F)) 𝒱₀ (c : Thread nD τ) none Set.univ (Q := Q) (m := M) (r := r)
    (hl := hl) (k := k) (q := fullShare) (f := f) (S := M.view.set) (View.set_slice_subset _ _)) $$ H
  iintro H
  have e : (M.access r).read (Elt F) f = (fun j => g (r.emb j)) := by
    funext x
    show M.view.read (Elt F) f (r.emb x) = _
    rw [hf]
  rw [e]
  iapply Hk
  iexists f
  isplitr; · ipureintro; exact hf
  iexact H

theorem run_put {s : Shape} {e : EltTy} (M : Memref sig .tc .vmem s e) (g g' : s.Idx → Elt F e) (r : Rect s) (v : Vec F r.shape e)
    (hx : (M.access r).Stores Finset.univ) (hm : (Finset.univ : Finset r.shape.Idx) = Finset.univ ∨ ∀ a, r.stride a = 1)
    (h1 : ∀ j, g' (r.emb j) = v j) (h2 : ∀ y, (∀ j, r.emb j ≠ y) → g' y = g y)
    (k : PUnit → Prog (TpuEff nD τ sig (Elt F) Λ₀ .tc) α) (Q : α → sProp 𝕄) :
    owns (c : Thread nD τ) M fullShare g
      ⊢ iprop((owns (c : Thread nD τ) M fullShare g' -∗ runs c (k ⟨⟩) Q)
        -∗ runs c (Prog.lift (.store M r v Finset.univ hx hm) >>= k) Q) := by
  unfold owns
  iintro ⟨%f, %hf, H⟩ Hk
  iapply (wp_store (defs := defs₀ (F := F)) 𝒱₀ (c : Thread nD τ) none Set.univ (Q := Q) (m := M) (r := r) (w := v)
    (Mk := Finset.univ) (hx := hx) (hm := hm) (k := k) (f := f) (S := M.view.set)
    ((View.setOn_subset_set _ _).trans (View.set_slice_subset _ _))) $$ H
  iintro H
  iapply Hk
  iexists (M.access r).write (Elt F) f v Finset.univ
  isplitr
  · ipureintro
    funext y
    by_cases hy : ∃ j, r.emb j = y
    · obtain ⟨j, rfl⟩ := hy
      rw [h1]
      exact View.read_slice_write_emb _ _ _ (Finset.mem_univ _)
    · rw [View.read_slice_write_of_not_mem, hf, h2 y (fun j hj => hy ⟨j, hj⟩)]
      intro hmem
      obtain ⟨j, -, hj⟩ := Finset.mem_map.1 hmem
      exact hy ⟨j, hj⟩
  iexact H

end Rules

/-- A block of words of which the first `n` rows are stored. -/
def upto (n : ℕ) (o g : S4x64x128.Idx → Elt F .i32) : S4x64x128.Idx → Elt F .i32 := fun y => if (y 0).val < n then o y else g y
theorem upto_zero (o g : S4x64x128.Idx → Elt F .i32) : upto 0 o g = g := by
  funext y; exact if_neg (Nat.not_lt_zero _)
theorem upto_four (o g : S4x64x128.Idx → Elt F .i32) : upto 4 o g = o := by
  funext y; exact if_pos (y 0).isLt
theorem upto_on (o : Out F) (x : S3x4x64x128.Idx → Elt F .f32) (g : S4x64x128.Idx → Elt F .i32) (r : Fin 4) (j : S1x64x128.Idx) :
    upto (r.val + 1) (blockOf o x) g ((outR r).emb j) = o (got x 0 r) (got x 1 r) (got x 2 r) j := by
  unfold upto
  rw [emb_row, if_pos (Nat.lt_succ_self _), blockOf_emb]
theorem upto_off (o g : S4x64x128.Idx → Elt F .i32) (r : Fin 4) (y : S4x64x128.Idx) (h : ∀ j, (outR r).emb j ≠ y) :
    upto (r.val + 1) o g y = upto r.val o g y := by
  have hr : (y 0).val ≠ r.val := fun e => h (inRow y) (by
    have e' : y 0 = r := Fin.ext e
    have := emb_inRow y
    rw [e'] at this; exact this)
  unfold upto
  by_cases hl : (y 0).val < r.val
  · rw [if_pos (Nat.lt_succ_of_lt hl), if_pos hl]
  · rw [if_neg (by omega), if_neg hl]

section Row

variable (c : Dev nD) (o p : Out F) (M1 : Memref sig .tc .vmem S3x4x64x128 .f32) (M2 M3 : Memref sig .tc .vmem S4x64x128 .i32)
  (x : S3x4x64x128.Idx → Elt F .f32) (g2 g3 : S4x64x128.Idx → Elt F .i32)

/-- The three buffers when the first `n` rows are stored. -/
def held (n : ℕ) : sProp 𝕄 :=
  iprop(owns (c : Thread nD τ) M1 fullShare x ∗ owns (c : Thread nD τ) M2 fullShare (upto n (blockOf o x) g2)
    ∗ owns (c : Thread nD τ) M3 fullShare (upto n (blockOf p x) g3))

theorem run_row (r : Fin 4) (n n' : ℕ) (hn : r.val = n) (hn' : r.val + 1 = n') (fa fb fc : Fin 4 → Nat) (fo : Fin 3 → Nat)
    (ha : fa = ![(0 : Fin 3).val, r.val, 0, 0]) (hb : fb = ![(1 : Fin 3).val, r.val, 0, 0]) (hc : fc = ![(2 : Fin 3).val, r.val, 0, 0])
    (ho : fo = ![r.val, 0, 0])
    (ia : ∀ i, fa i + S1x1x64x128.size i ≤ S3x4x64x128.size i) (ib : ∀ i, fb i + S1x1x64x128.size i ≤ S3x4x64x128.size i)
    (ic : ∀ i, fc i + S1x1x64x128.size i ≤ S3x4x64x128.size i) (io : ∀ i, fo i + S1x64x128.size i ≤ S4x64x128.size i)
    (la : M1.view.LoadsAt (Rect.unit (s := S3x4x64x128) fa S1x1x64x128.size ia).toLoadRect)
    (lb : M1.view.LoadsAt (Rect.unit (s := S3x4x64x128) fb S1x1x64x128.size ib).toLoadRect)
    (lc : M1.view.LoadsAt (Rect.unit (s := S3x4x64x128) fc S1x1x64x128.size ic).toLoadRect)
    (l2 : M2.view.LoadsAt (Rect.unit (s := S4x64x128) fo S1x64x128.size io).toLoadRect)
    (l3 : M3.view.LoadsAt (Rect.unit (s := S4x64x128) fo S1x64x128.size io).toLoadRect)
    (x2 : (M2.access (Rect.unit (s := S4x64x128) fo S1x64x128.size io)).Stores Finset.univ)
    (x3 : (M3.access (Rect.unit (s := S4x64x128) fo S1x64x128.size io)).Stores Finset.univ) (m2) (m3)
    (k : Prog (TpuEff nD τ sig (Elt F) Λ₀ .tc) PUnit) (Q : PUnit → sProp 𝕄) :
    held c o p M1 M2 M3 x g2 g3 n
      ⊢ iprop((held c o p M1 M2 M3 x g2 g3 n' -∗ runs c k Q)
        -∗ runs c (do
          let a ← Prog.lift (.load M1 (Rect.unit (s := S3x4x64x128) fa S1x1x64x128.size ia).toLoadRect la)
          let b ← Prog.lift (.load M1 (Rect.unit (s := S3x4x64x128) fb S1x1x64x128.size ib).toLoadRect lb)
          let d ← Prog.lift (.load M1 (Rect.unit (s := S3x4x64x128) fc S1x1x64x128.size ic).toLoadRect lc)
          let _ ← Prog.lift (.load M2 (Rect.unit (s := S4x64x128) fo S1x64x128.size io).toLoadRect l2)
          Prog.lift (.store M2 (Rect.unit (s := S4x64x128) fo S1x64x128.size io) (o a b d) Finset.univ x2 m2)
          let _ ← Prog.lift (.load M3 (Rect.unit (s := S4x64x128) fo S1x64x128.size io).toLoadRect l3)
          Prog.lift (.store M3 (Rect.unit (s := S4x64x128) fo S1x64x128.size io) (p a b d) Finset.univ x3 m3)
          k) Q) := by
  subst hn hn' ha hb hc ho
  unfold held
  iintro ⟨H1, H2, H3⟩ Hk
  iapply (run_get c M1 x _ _ _ Q) $$ H1; iintro H1
  iapply (run_get c M1 x _ _ _ Q) $$ H1; iintro H1
  iapply (run_get c M1 x _ _ _ Q) $$ H1; iintro H1
  iapply (run_get c M2 _ _ _ _ Q) $$ H2; iintro H2
  iapply (run_put c M2 _ _ (outR r) _ _ _ (upto_on o x g2 r) (upto_off _ _ r) _ Q) $$ H2; iintro H2
  iapply (run_get c M3 _ _ _ _ Q) $$ H3; iintro H3
  iapply (run_put c M3 _ _ (outR r) _ _ _ (upto_on p x g3 r) (upto_off _ _ r) _ Q) $$ H3; iintro H3
  iapply Hk
  isplitl [H1]; · iexact H1
  isplitl [H2]; · iexact H2
  iexact H3

theorem run_block (Q : PUnit → sProp 𝕄) :
    iprop(owns (c : Thread nD τ) M1 fullShare x ∗ owns (c : Thread nD τ) M2 fullShare g2 ∗ owns (c : Thread nD τ) M3 fullShare g3)
      ⊢ iprop(((owns (c : Thread nD τ) M1 fullShare x ∗ owns (c : Thread nD τ) M2 fullShare (blockOf o x)
          ∗ owns (c : Thread nD τ) M3 fullShare (blockOf p x)) -∗ Q ⟨⟩)
        -∗ runs c (skelG o p o p o p o p M1 M2 M3) Q) := by
  have e0 : iprop(owns (c : Thread nD τ) M1 fullShare x ∗ owns (c : Thread nD τ) M2 fullShare g2 ∗ owns (c : Thread nD τ) M3 fullShare g3)
      = held c o p M1 M2 M3 x g2 g3 0 := by
    unfold held; rw [upto_zero, upto_zero]
  have e4 : iprop(owns (c : Thread nD τ) M1 fullShare x ∗ owns (c : Thread nD τ) M2 fullShare (blockOf o x)
          ∗ owns (c : Thread nD τ) M3 fullShare (blockOf p x)) = held c o p M1 M2 M3 x g2 g3 4 := by
    unfold held; rw [upto_four, upto_four]
  rw [e0, e4]
  iintro H Hk
  unfold skelG
  iapply (run_row c o p M1 M2 M3 x g2 g3 0 0 1 rfl rfl _ _ _ _ rfl rfl rfl rfl _ _ _ _ _ _ _ _ _ _ _ _ _ _ Q) $$ H; iintro H
  iapply (run_row c o p M1 M2 M3 x g2 g3 1 1 2 rfl rfl _ _ _ _ rfl rfl rfl rfl _ _ _ _ _ _ _ _ _ _ _ _ _ _ Q) $$ H; iintro H
  iapply (run_row c o p M1 M2 M3 x g2 g3 2 2 3 rfl rfl _ _ _ _ rfl rfl rfl rfl _ _ _ _ _ _ _ _ _ _ _ _ _ _ Q) $$ H; iintro H
  iapply (run_row c o p M1 M2 M3 x g2 g3 3 3 4 rfl rfl _ _ _ _ rfl rfl rfl rfl _ _ _ _ _ _ _ _ _ _ _ _ _ _ Q) $$ H; iintro H
  unfold runs
  rw [show (pure ⟨⟩ : Prog (TpuEff nD τ sig (Elt F) Λ₀ .tc) PUnit) = .ret ⟨⟩ from rfl, wp_ret]
  imodintro
  iapply Hk $$ H

end Row

end Cert.Proof.Block

end
-- ==== Proof.Loops.lean ====
/-
  One pass of the sort, run: from the rows of keys and whatever the tables of counts hold, the pass leaves every
  destination row filled at the places of the pass's digit. The four loops by their invariants; a pass's own stores by
  what they do to one block (`hT`), so that the six passes are instances.
-/
module

public import proofs.«01_k».proof.Proof.Rules
public import proofs.«01_k».proof.Proof.Parts

@[expose] public section

noncomputable section

namespace Cert.Proof.Loops

open Cert.KernelIdeal hiding sig Λ₀ defs₀
open Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix Cert.Proof.Body Cert.Proof.Lanes Cert.Proof.Rules

variable [Prg] {F : FTy → Type} [FloatOps F]

local notation "𝕄" => MT nD τ sig (HIx 1) (Elt F) ℕ UU ℕ

variable (d : Dev nD) (c : Fin τ.nSC) (s : Fin τ.nSub)

section Seq

variable {α β : Type}

theorem run_then {p : Prog (Eff F c s) α} {A : sProp 𝕄} {B : α → sProp 𝕄} (h : A ⊢ run d c s p B)
    (k : α → Prog (Eff F c s) β) (Q : β → sProp 𝕄) :
    A ⊢ iprop((∀ a, B a -∗ run d c s (k a) Q) -∗ run d c s (p >>= k) Q) := by
  unfold run at h ⊢
  rw [wp_bind]
  iintro HA HK
  iapply (wp_wand_r frame (wpE (defs₀ (F := F)) 𝒱₀ (V d c s) none) Set.univ)
  isplitl [HA]
  · iapply h; iexact HA
  · iexact HK

theorem run_pure (a : α) (Q : α → sProp 𝕄) : Q a ⊢ run d c s (pure a) Q := by
  show Q a ⊢ wp _ _ _ (Prog.ret a) Q
  rw [wp_ret]
  iintro H
  imodintro
  iexact H

theorem bind_pure' (p : Prog (Eff F c s) α) : (p >>= pure) = p := by
  simp [Prog.pure_eq_ret]

theorem run_for {σ : Type} (init : σ) (body : Fin lp.trips → σ → Prog (Eff F c s) σ) (I : Nat → σ → sProp 𝕄)
    (h : ∀ (k : Fin lp.trips) (a : σ), I k.val a ⊢ run d c s (body k a) (I (k.val + 1))) :
    I 0 init ⊢ run d c s (Scf.Loop.for lp lp_ok init body) (I 128) := by
  have e := Scf.wp_for frame (wpE (defs₀ (F := F)) 𝒱₀ (V d c s) none) Set.univ lp.lb lp.ub lp.st lp_ok init body I h (Q := I 128)
  iintro H
  iapply e
  isplitl [H]; · iexact H
  iintro %a H
  have : Scf.trips lp.lb lp.ub lp.st = 128 := lp_trips
  rw [this]
  iexact H

end Seq

/-! ## Which elements are done -/

/-- `S`, and the block at `o`. -/
def more (S : Nat → Prop) (o : Nat) (x : Nat) : Prop := S x ∨ (o ≤ x ∧ x < o + 16)
/-- The elements done before trip `j`. -/
def upto (j x : Nat) : Prop := x < N ∧ x % 2048 < 16 * j
/-- The first element of block `u` at trip `k`. -/
def at' (u : Fin 4) (k : Nat) : Nat := 2048 * u.val + 16 * k

theorem at_0 (k : Nat) : at' 0 k = 16 * k := by unfold at'; rw [show (0 : Fin 4).val = 0 from rfl]; omega
theorem at_1 (k : Nat) : at' 1 k = 2048 + 16 * k := rfl
theorem at_2 (k : Nat) : at' 2 k = 4096 + 16 * k := rfl
theorem at_3 (k : Nat) : at' 3 k = 6144 + 16 * k := rfl

theorem upto_succ (k : Nat) (hk : k < 128) :
    more (more (more (more (upto k) (at' 0 k)) (at' 1 k)) (at' 2 k)) (at' 3 k) = upto (k + 1) := by
  funext x
  have hN := N_eq
  unfold more upto
  rw [at_0, at_1, at_2, at_3]
  refine propext ⟨fun h => ?_, fun h => ?_⟩ <;> omega

theorem upto_zero : upto 0 = fun _ => False := by
  funext x; unfold upto; exact propext ⟨fun h => by omega, False.elim⟩

theorem oof_at (k : Nat) (hk : k < 128) (u : Fin 4) : oof k (blk u) 0 = at' u k := wof_toNat k hk u

theorem at_le (u : Fin 4) (k : Nat) (hk : k < 128) : at' u k + 16 ≤ N := by
  have := N_eq; have := u.isLt; unfold at'; omega

/-! ## Buffers by what is done -/

/-- A row buffer, whatever it holds; a table of counts, whatever it holds. -/
def any8 (M : M8) : sProp 𝕄 := iprop(∃ g, own8 d c s M g)
def any2 (M : M2) : sProp 𝕄 := iprop(∃ g, own2 d c s M g)

/-- A row buffer that holds `src x` at `ρ x` for every `x` done. -/
def filled (M : M8) (ρ : Nat → Nat) (src : Nat → BitVec 32) (S : Nat → Prop) : sProp 𝕄 :=
  iprop(∃ g, ⌜∀ x, x < N → S x → g (ρ x) = src x⌝ ∗ own8 d c s M g)

theorem filled_none (M : M8) (ρ : Nat → Nat) (src : Nat → BitVec 32) : any8 (F := F) d c s M ⊢ filled d c s M ρ src fun _ => False := by
  unfold any8 filled
  iintro ⟨%g, H⟩
  iexists g
  isplitr; · ipureintro; exact fun _ _ h => h.elim
  iexact H

theorem filled_any (M : M8) (ρ : Nat → Nat) (src : Nat → BitVec 32) (S : Nat → Prop) : filled (F := F) d c s M ρ src S ⊢ any8 d c s M := by
  unfold any8 filled
  iintro ⟨%g, %hg, H⟩
  iexists g
  iexact H

theorem own8_any (M : M8) (g : Nat → BitVec 32) : own8 (F := F) d c s M g ⊢ any8 d c s M := by
  unfold any8; iintro H; iexists g; iexact H

theorem own2_any (M : M2) (g : Nat → BitVec 32) : own2 (F := F) d c s M g ⊢ any2 d c s M := by
  unfold any2; iintro H; iexists g; iexact H

/-- A block's words placed. -/
theorem fill8 (M : M8) {ρ : Nat → Nat} (hρ : ∀ x, x < N → ρ x < N) (hinj : ∀ x y, x < N → y < N → ρ x = ρ y → x = y)
    (src : Nat → BitVec 32) (S : Nat → Prop) {o : Nat} (ho : o + 16 ≤ N) (h : Inb8 (vec (fun y => wd (ρ y)) o))
    {α : Type} (k : PUnit → Prog (Eff F c s) α) (Q : α → sProp 𝕄) :
    filled d c s M ρ src S ⊢ iprop((filled d c s M ρ src (more S o) -∗ run d c s (k ⟨⟩) Q)
      -∗ run d c s (put8 M (vec (fun y => wd (ρ y)) o) (vec src o) h >>= k) Q) := by
  have hN := N_eq
  unfold filled
  iintro ⟨%g, %hg, H⟩ Hk
  let r : S8192.Idx → BitVec 32 := storeIdx (F := F) (e := .i32) (fun j : S8192.Idx => g (j 0).val) ![vec (fun y => wd (ρ y)) o] (vec src o)
    (fun _ => 1#1) false h
  iapply (run_put8 d c s M g (num8 r) _ _ h (fun i => (num8_val r i).symm) k Q) $$ H
  iintro H
  iapply Hk
  iexists (num8 r)
  isplitr
  · ipureintro
    intro x hx hS
    have hlt : ρ x < 8192 := hN ▸ hρ x hx
    unfold num8
    rw [dif_pos hlt]
    exact scattered (F := F) hρ hinj src ho _ (P := S) (fun y hy hP i hi => by rw [hi]; exact hg y hy hP) h x hx hS _ rfl
  iexact H

/-! ## The keys a pass reads -/

/-- From `P`, the key read at `o` is `val o`. -/
def Reads (K : Key F) (val : Nat → K.X) (P : sProp 𝕄) : Prop :=
  ∀ (o : Fin 1 → Nat) (ho : In8 o) {α : Type} (k : K.X → Prog (Eff F c s) α) (Q : α → sProp 𝕄),
    P ⊢ iprop((P -∗ run d c s (k (val (o 0))) Q) -∗ run d c s (K.read o ho >>= k) Q)

theorem reads1 (M : M8) (b : BitVec 32) (g : Nat → BitVec 32) :
    Reads (F := F) d c s (key1 M b) (fun o => (vec g o : Vec F S16 .i32)) (own8 d c s M g) :=
  fun o ho _ k Q => run_rd8 d c s M g o ho k Q

theorem reads2 (lo hi : M8) (g g' : Nat → BitVec 32) :
    Reads (F := F) d c s (key2 lo hi) (fun o => ((vec g o : Vec F S16 .i32), (vec g' o : Vec F S16 .i32)))
      iprop(own8 d c s lo g ∗ own8 d c s hi g') := by
  intro o ho _ k Q
  show _ ⊢ iprop(_ -∗ run d c s ((rd8 lo o ho >>= fun x => rd8 hi o ho >>= fun y => pure (x, y)) >>= k) Q)
  iintro ⟨Hl, Hh⟩ Hk
  rw [show ((rd8 lo o ho >>= fun x => rd8 hi o ho >>= fun y => pure (x, y)) >>= k)
    = (rd8 (F := F) (c := c) (s := s) lo o ho >>= fun x => rd8 hi o ho >>= fun y => k (x, y)) from
    (Prog.bind_assoc _ _ _).trans (congrArg (rd8 lo o ho >>= ·) (funext fun _ => Prog.bind_assoc _ _ _))]
  iapply (run_rd8 d c s lo g o ho _ Q) $$ Hl
  iintro Hl
  iapply (run_rd8 d c s hi g' o ho _ Q) $$ Hh
  iintro Hh
  iapply Hk
  isplitl [Hl] <;> iassumption

/-! ## The loops -/

section Pass

variable (K : Key F) (val : Nat → K.X) (P : sProp (MT nD τ sig (HIx 1) (Elt F) ℕ UU ℕ)) (hP : Reads d c s K val P)
  {D : Nat → Nat} (hD : ∀ y, D y < 2048) (hdig : ∀ o, K.dig (val o) = vec (fun y => wd (D y)) o)
  (hist : Fin 4 → M2) (occ : M8)

include hD in
theorem inb2 (o : Nat) : Inb2 (vec (fun y => wd (D y)) o) := by
  intro a x; obtain rfl : a = 0 := Subsingleton.elim _ _
  show (wd (D _)).toNat < 2048
  rw [wd_toNat (lt_trans (hD _) (by decide))]; exact hD _

/-- Four tables of counts. -/
def hists (f : Fin 4 → Nat → BitVec 32) : sProp 𝕄 :=
  iprop(own2 d c s (hist 0) (f 0) ∗ own2 d c s (hist 1) (f 1) ∗ own2 d c s (hist 2) (f 2) ∗ own2 d c s (hist 3) (f 3))

/-- What the occurrence row is to hold: an element's number among its block's of the same digit. -/
def occOf (D : Nat → Nat) (x : Nat) : BitVec 32 := wd (cn D (2048 * (x / 2048)) x (D x))

/-- Counting one block, once its digits are known. -/
def hrest (C : Chk Inb2) (hist : M2) (occ : M8) (o : Fin 1 → Nat) (ho : In8 o) (v : V16) : Prog (Eff F c s) PUnit := do
  let h := (← asm C v).down
  let n : Vec F S16 .i32 ← gat hist v (C.fwd _ h)
  put2 hist v (addi n (scanCount (broadcast S16 1#1) v).2) (scanCount (broadcast S16 1#1) v).1 (C.fwd _ h)
  let _ ← rd8 occ o ho
  st8 occ o ho (subi (addi n (scanCount (broadcast S16 1#1) v).2) (broadcast S16 1#32))

include hP hD hdig in
theorem run_hblk (C : Chk Inb2) (H : M2) (u : Fin 4) (k : Nat) (hk : k < 128) (S : Nat → Prop) :
    iprop(P ∗ own2 d c s H (fun e => wd (cn D (at' u 0) (at' u k) e)) ∗ filled d c s occ id (occOf D) S)
      ⊢ run d c s (hblk K C H occ (oof k (blk u)) (in8 k hk u))
        (fun _ => iprop(P ∗ own2 d c s H (fun e => wd (cn D (at' u 0) (at' u (k + 1)) e)) ∗ filled d c s occ id (occOf D) (more S (at' u k)))) := by
  have ho := oof_at k hk u
  have hul := u.isLt
  have e1 : at' u (k + 1) = at' u k + 16 := by unfold at'; omega
  have hA : at' u 0 ≤ at' u k := by unfold at'; omega
  unfold filled
  show _ ⊢ run d c s (K.read (oof k (blk u)) (in8 k hk u) >>= fun x => hrest c s C H occ (oof k (blk u)) (in8 k hk u) (K.dig x)) _
  iintro ⟨HP, HH, ⟨%g, %hg, Ho⟩⟩
  iapply (hP _ _ _ _) $$ HP
  iintro HP
  rw [hdig, ho]
  unfold hrest
  iapply (run_asm d c s C _ (inb2 hD _))
  iintro %h
  iapply (run_gat d c s H _ _ _ _ _) $$ HH
  iintro HH
  iapply (run_put2 d c s H _ (fun e => wd (cn D (at' u 0) (at' u (k + 1)) e)) _ _ _ _
    (by rw [e1]; exact counted (F := F) hD _ _ hA _ (fun _ => rfl) _) _ _) $$ HH
  iintro HH
  iapply (run_rd8 d c s occ _ _ _ _ _) $$ Ho
  iintro Ho
  rw [← bind_pure' c s (st8 _ _ _ _)]
  iapply (run_st8 d c s occ g (fun x => if at' u k ≤ x ∧ x < at' u k + 16 then occOf D x else g x) _ _ _
    (fun j => by
      have hj := lane_lt j
      rw [ho, occs (F := F) hD _ _ hA _ (fun _ => rfl) _ j, if_pos (by omega)]
      unfold occOf
      rw [show 2048 * ((at' u k + (j 0).val) / 2048) = at' u 0 from by unfold at'; omega])
    (fun x _ hx => if_neg (by rw [ho] at hx; omega)) _ _) $$ Ho
  iintro Ho
  iapply (run_pure d c s _ _)
  isplitl [HP]; · iexact HP
  isplitl [HH]; · iexact HH
  iexists (fun x => if at' u k ≤ x ∧ x < at' u k + 16 then occOf D x else g x)
  isplitr
  · ipureintro
    intro x hx hS
    by_cases hb : at' u k ≤ x ∧ x < at' u k + 16
    · exact if_pos hb
    · exact (if_neg hb).trans (hg x hx (hS.resolve_right hb))
  iexact Ho

include hP hD hdig in
/-- The counting loop. -/
theorem run_hloop (C : Fin 4 → Chk Inb2) :
    iprop(P ∗ hists d c s hist (fun _ _ => 0#32) ∗ any8 d c s occ)
      ⊢ run d c s (hloop K C hist occ)
        (fun _ => iprop(P ∗ hists d c s hist (fun u e => wd (cn D (at' u 0) (at' u 128) e)) ∗ filled d c s occ id (occOf D) (upto 128))) := by
  have h := run_for d c s (0#32) (fun k _ => hbody K C hist occ ⟨k.val, lt128 k⟩)
    (fun j _ => iprop(P ∗ hists d c s hist (fun u e => wd (cn D (at' u 0) (at' u j) e)) ∗ filled d c s occ id (occOf D) (upto j)))
    (fun k _ => by
      have hk := lt128 k
      unfold hbody hists
      iintro ⟨HP, ⟨H0, H1, H2, H3⟩, Ho⟩
      iapply (run_then d c s (run_hblk d c s K val P hP hD hdig occ (C 0) (hist 0) 0 k.val hk (upto k.val)) _ _) $$ [HP H0 Ho]
      · isplitl [HP]; · iexact HP
        isplitl [H0]; · iexact H0
        iexact Ho
      iintro %_ ⟨HP, H0, Ho⟩
      iapply (run_then d c s (run_hblk d c s K val P hP hD hdig occ (C 1) (hist 1) 1 k.val hk _) _ _) $$ [HP H1 Ho]
      · isplitl [HP]; · iexact HP
        isplitl [H1]; · iexact H1
        iexact Ho
      iintro %_ ⟨HP, H1, Ho⟩
      iapply (run_then d c s (run_hblk d c s K val P hP hD hdig occ (C 2) (hist 2) 2 k.val hk _) _ _) $$ [HP H2 Ho]
      · isplitl [HP]; · iexact HP
        isplitl [H2]; · iexact H2
        iexact Ho
      iintro %_ ⟨HP, H2, Ho⟩
      iapply (run_then d c s (run_hblk d c s K val P hP hD hdig occ (C 3) (hist 3) 3 k.val hk _) _ _) $$ [HP H3 Ho]
      · isplitl [HP]; · iexact HP
        isplitl [H3]; · iexact H3
        iexact Ho
      iintro %_ ⟨HP, H3, Ho⟩
      iapply (run_pure d c s _ _)
      isplitl [HP]; · iexact HP
      isplitl [H0 H1 H2 H3]
      · isplitl [H0]; · iexact H0
        isplitl [H1]; · iexact H1
        isplitl [H2]; · iexact H2
        iexact H3
      rw [← upto_succ k.val hk]
      iexact Ho)
  refine BIBase.Entails.trans ?_ h
  have e : (fun (u : Fin 4) e => wd (cn D (at' u 0) (at' u 0) e)) = fun _ _ => 0#32 := by
    funext u e; rw [cn_self]
  rw [e, upto_zero]
  iintro ⟨HP, HH, Ho⟩
  isplitl [HP]; · iexact HP
  isplitl [HH]; · iexact HH
  iapply (filled_none d c s occ id (occOf D)); iexact Ho

/-! Clearing. -/

/-- A table of counts zero below trip `j`'s lanes. -/
def zeroed (H : M2) (j : Nat) : sProp (MT nD τ sig (HIx 1) (Elt F) ℕ UU ℕ) :=
  iprop(∃ g, ⌜∀ e, e < 16 * j → g e = 0#32⌝ ∗ own2 (F := F) d c s H g)

theorem run_zstep (H : M2) (k : Nat) (hk : k < 128) {α : Type} (r : Prog (Eff F c s) α) (Q : α → sProp 𝕄) :
    zeroed (F := F) d c s H k ⊢ iprop((zeroed d c s H (k + 1) -∗ run d c s r Q)
      -∗ run d c s (rd2 H (ozo k) (in2 k hk) >>= fun _ => st2 H (ozo k) (in2 k hk) (broadcast S16 0#32 : V16) >>= fun _ => r) Q) := by
  have hz := ozo_zero k hk
  unfold zeroed
  iintro ⟨%g, %hg, H⟩ Hk
  iapply (run_rd2 d c s H _ _ _ _ _) $$ H
  iintro H
  iapply (run_st2 d c s H g (fun e => if 16 * k ≤ e ∧ e < 16 * k + 16 then 0#32 else g e) _ _ _
    (fun j => by
      have hj := lane_lt j
      rw [hz, if_pos (by omega)]; rfl)
    (fun x _ hx => if_neg (by rw [hz] at hx; omega)) _ _) $$ H
  iintro H
  iapply Hk
  iexists (fun e => if 16 * k ≤ e ∧ e < 16 * k + 16 then 0#32 else g e)
  isplitr
  · ipureintro
    intro e he
    by_cases hb : 16 * k ≤ e ∧ e < 16 * k + 16
    · exact if_pos hb
    · exact (if_neg hb).trans (hg e (by omega))
  iexact H

/-- Four tables of counts, whatever they hold. -/
def hists' : sProp (MT nD τ sig (HIx 1) (Elt F) ℕ UU ℕ) :=
  iprop(any2 (F := F) d c s (hist 0) ∗ any2 d c s (hist 1) ∗ any2 d c s (hist 2) ∗ any2 d c s (hist 3))

theorem zeroed_zero (H : M2) : any2 (F := F) d c s H ⊢ zeroed d c s H 0 := by
  unfold any2 zeroed
  iintro ⟨%g, H⟩
  iexists g
  isplitr; · ipureintro; intro e he; omega
  iexact H

theorem zeroed_all (H : M2) : zeroed (F := F) d c s H 128 ⊢ own2 d c s H (fun _ => 0#32) := by
  unfold zeroed
  iintro ⟨%g, %hg, H⟩
  iapply (BIBase.Entails.of_eq (own2_congr d c s (M := H) (g := g) (g' := fun _ => 0#32) (fun x hx => hg x (by omega)))); iexact H

/-- The clearing loop. -/
theorem run_zloop : hists' (F := F) d c s hist ⊢ run d c s (zloop hist) (fun _ => hists d c s hist (fun _ _ => 0#32)) := by
  have h := run_for d c s (0#32) (fun k _ => zbody (F := F) hist ⟨k.val, lt128 k⟩)
    (fun j _ => iprop(zeroed d c s (hist 0) j ∗ zeroed d c s (hist 1) j ∗ zeroed d c s (hist 2) j ∗ zeroed d c s (hist 3) j))
    (fun k _ => by
      have hk := lt128 k
      unfold zbody
      iintro ⟨H0, H1, H2, H3⟩
      iapply (run_zstep d c s (hist 0) k.val hk _ _) $$ H0
      iintro H0
      iapply (run_zstep d c s (hist 1) k.val hk _ _) $$ H1
      iintro H1
      iapply (run_zstep d c s (hist 2) k.val hk _ _) $$ H2
      iintro H2
      iapply (run_zstep d c s (hist 3) k.val hk _ _) $$ H3
      iintro H3
      iapply (run_pure d c s _ _)
      isplitl [H0]; · iexact H0
      isplitl [H1]; · iexact H1
      isplitl [H2]; · iexact H2
      iexact H3)
  have h' := h.trans (wp_mono frame (wpE (defs₀ (F := F)) 𝒱₀ (V d c s) none) Set.univ (Q' := fun _ => hists d c s hist (fun _ _ => 0#32)) fun a => by
    unfold hists
    iintro ⟨H0, H1, H2, H3⟩
    isplitl [H0]; · iapply (zeroed_all d c s _); iexact H0
    isplitl [H1]; · iapply (zeroed_all d c s _); iexact H1
    isplitl [H2]; · iapply (zeroed_all d c s _); iexact H2
    iapply (zeroed_all d c s _); iexact H3)
  refine BIBase.Entails.trans ?_ h'
  unfold hists'
  iintro ⟨H0, H1, H2, H3⟩
  isplitl [H0]; · iapply (zeroed_zero d c s _); iexact H0
  isplitl [H1]; · iapply (zeroed_zero d c s _); iexact H1
  isplitl [H2]; · iapply (zeroed_zero d c s _); iexact H2
  iapply (zeroed_zero d c s _); iexact H3

/-! Summing. -/

/-- What block `u`'s table holds before trip `j` of the summing loop. -/
def sumOf (D : Nat → Nat) (j : Nat) (u : Fin 4) (e : Nat) : BitVec 32 :=
  if e < 16 * j then wd (below D e + cn D 0 (at' u 0) e) else wd (cn D (at' u 0) (at' u 128) e)

theorem cn_split (D : Nat → Nat) (e : Nat) :
    cn D (at' 0 0) (at' 0 128) e + cn D (at' 1 0) (at' 1 128) e + cn D (at' 2 0) (at' 2 128) e + cn D (at' 3 0) (at' 3 128) e = cn D 0 N e := by
  have hN := N_eq
  simp only [at_0, at_1, at_2, at_3]
  rw [hN, cn_add D e (a := 0) (b := 6144) (c := 8192) (by omega) (by omega), cn_add D e (a := 0) (b := 4096) (c := 6144) (by omega) (by omega),
    cn_add D e (a := 0) (b := 2048) (c := 4096) (by omega) (by omega)]

theorem sumOf_at (D : Nat → Nat) (k : Nat) (u : Fin 4) (j : S16.Idx) :
    vec (sumOf D k u) (16 * k) j = wd (cn D (at' u 0) (at' u 128) (16 * k + (j 0).val)) := by
  unfold vec sumOf
  rw [if_neg (by omega)]

theorem sumOf_succ (D : Nat → Nat) (k : Nat) (u : Fin 4) (l : Nat) (hl : l < 16) :
    sumOf D (k + 1) u (16 * k + l) = wd (below D (16 * k + l) + cn D 0 (at' u 0) (16 * k + l)) := by
  unfold sumOf
  rw [if_pos (by omega)]

theorem sumOf_else (D : Nat → Nat) (k : Nat) (u : Fin 4) (x : Nat) (h : x < 16 * k ∨ 16 * k + 16 ≤ x) : sumOf D (k + 1) u x = sumOf D k u x := by
  unfold sumOf
  by_cases hx : x < 16 * k
  · rw [if_pos hx, if_pos (by omega)]
  · rw [if_neg hx, if_neg (by omega)]

/-- A summing trip's lanes. -/
theorem sum_lanes (D : Nat → Nat) (k : Nat) (a b d e : V16)
    (ha : ∀ j, a j = wd (cn D (at' 0 0) (at' 0 128) (16 * k + (j 0).val))) (hb : ∀ j, b j = wd (cn D (at' 1 0) (at' 1 128) (16 * k + (j 0).val)))
    (hd : ∀ j, d j = wd (cn D (at' 2 0) (at' 2 128) (16 * k + (j 0).val))) (he : ∀ j, e j = wd (cn D (at' 3 0) (at' 3 128) (16 * k + (j 0).val)))
    (w x : V16) (hw : w = addi (addi (addi a b) d) e) (hx : x = addi (subi (scan .sum w) w) (broadcast S16 (wd (below D (16 * k))))) :
    (∀ j, x j = sumOf D (k + 1) 0 (16 * k + (j 0).val)) ∧ (∀ j, addi x a j = sumOf D (k + 1) 1 (16 * k + (j 0).val))
      ∧ (∀ j, addi x (addi a b) j = sumOf D (k + 1) 2 (16 * k + (j 0).val))
      ∧ (∀ j, addi x (addi (addi a b) d) j = sumOf D (k + 1) 3 (16 * k + (j 0).val))
      ∧ Scalar.addi (wd (below D (16 * k))) (extractAt ![15] (scan .sum w) inpos_S16_p15) = wd (below D (16 * (k + 1))) := by
  have hw' : ∀ j, w j = wd (cn D 0 N (16 * k + (j 0).val)) := fun j => by
    rw [hw]
    show a j + b j + d j + e j = _
    rw [ha, hb, hd, he, wd_add, wd_add, wd_add, cn_split]
  have hx' : ∀ j, x j = wd (below D (16 * k + (j 0).val)) := fun j => by rw [hx]; exact summed (16 * k) w hw' j
  have hc : ∀ e, cn D 0 (at' 1 0) e = cn D (at' 0 0) (at' 0 128) e := fun _ => rfl
  have hc2 : ∀ e, cn D 0 (at' 2 0) e = cn D (at' 0 0) (at' 0 128) e + cn D (at' 1 0) (at' 1 128) e := fun e => by
    rw [at_2, at_0, at_0, at_1, at_1]; exact cn_add D e (by omega) (by omega)
  have hc3 : ∀ e, cn D 0 (at' 3 0) e = cn D (at' 0 0) (at' 0 128) e + cn D (at' 1 0) (at' 1 128) e + cn D (at' 2 0) (at' 2 128) e := fun e => by
    rw [← hc2, at_3, at_2, at_2]; exact cn_add D e (by omega) (by omega)
  refine ⟨fun j => ?_, fun j => ?_, fun j => ?_, fun j => ?_, carried (16 * k) w hw'⟩
  · rw [sumOf_succ D _ _ _ (lane_lt j), hx', show cn D 0 (at' 0 0) (16 * k + (j 0).val) = 0 from cn_self D 0 _, Nat.add_zero]
  · show x j + a j = _
    rw [sumOf_succ D _ _ _ (lane_lt j), hx', ha, hc, wd_add]
  · show x j + (a j + b j) = _
    rw [sumOf_succ D _ _ _ (lane_lt j), hx', ha, hb, hc2, wd_add, wd_add]
  · show x j + (a j + b j + d j) = _
    rw [sumOf_succ D _ _ _ (lane_lt j), hx', ha, hb, hd, hc3, wd_add, wd_add, wd_add]

/-- A summing trip, once its lanes are known. -/
def srest (hist : Fin 4 → M2) (k : Nat) (hk : k < 128) (t : BitVec 32) (x₀ x₁ x₂ x₃ w : V16) : Prog (Eff F c s) (BitVec 32) := do
  let _ ← rd2 (hist 0) (ozo k) (in2 k hk)
  st2 (hist 0) (ozo k) (in2 k hk) x₀
  let _ ← rd2 (hist 1) (ozo k) (in2 k hk)
  st2 (hist 1) (ozo k) (in2 k hk) x₁
  let _ ← rd2 (hist 2) (ozo k) (in2 k hk)
  st2 (hist 2) (ozo k) (in2 k hk) x₂
  let _ ← rd2 (hist 3) (ozo k) (in2 k hk)
  st2 (hist 3) (ozo k) (in2 k hk) x₃
  pure (Scalar.addi t (extractAt ![15] (scan .sum w) inpos_S16_p15))

/-- Its read and store, in one table. -/
theorem run_sstep (D : Nat → Nat) (H : M2) (u : Fin 4) (k : Nat) (hk : k < 128) (v : V16) (hv : ∀ j, v j = sumOf D (k + 1) u (16 * k + (j 0).val))
    {α : Type} (r : Prog (Eff F c s) α) (Q : α → sProp 𝕄) :
    own2 (F := F) d c s H (sumOf D k u) ⊢ iprop((own2 d c s H (sumOf D (k + 1) u) -∗ run d c s r Q)
      -∗ run d c s (rd2 H (ozo k) (in2 k hk) >>= fun _ => st2 H (ozo k) (in2 k hk) v >>= fun _ => r) Q) := by
  have hz := ozo_zero k hk
  iintro H Hk
  iapply (run_rd2 d c s H _ _ _ _ _) $$ H
  iintro H
  iapply (run_st2 d c s H (sumOf D k u) (sumOf D (k + 1) u) _ _ v (fun j => by rw [hz]; exact hv j)
    (fun x _ hx => sumOf_else D _ _ x (by rwa [hz] at hx)) _ _) $$ H
  iintro H
  iapply Hk
  iexact H

theorem run_srest (D : Nat → Nat) (k : Nat) (hk : k < 128) (t : BitVec 32) (x₀ x₁ x₂ x₃ w : V16)
    (h₀ : ∀ j, x₀ j = sumOf D (k + 1) 0 (16 * k + (j 0).val)) (h₁ : ∀ j, x₁ j = sumOf D (k + 1) 1 (16 * k + (j 0).val))
    (h₂ : ∀ j, x₂ j = sumOf D (k + 1) 2 (16 * k + (j 0).val)) (h₃ : ∀ j, x₃ j = sumOf D (k + 1) 3 (16 * k + (j 0).val))
    (ht : Scalar.addi t (extractAt ![15] (scan .sum w) inpos_S16_p15) = wd (below D (16 * (k + 1)))) :
    hists (F := F) d c s hist (sumOf D k) ⊢ run d c s (srest c s hist k hk t x₀ x₁ x₂ x₃ w)
      (fun t => iprop(⌜t = wd (below D (16 * (k + 1)))⌝ ∗ hists d c s hist (sumOf D (k + 1)))) := by
  unfold srest hists
  iintro ⟨H0, H1, H2, H3⟩
  iapply (run_sstep d c s D (hist 0) 0 k hk x₀ h₀ _ _) $$ H0
  iintro H0
  iapply (run_sstep d c s D (hist 1) 1 k hk x₁ h₁ _ _) $$ H1
  iintro H1
  iapply (run_sstep d c s D (hist 2) 2 k hk x₂ h₂ _ _) $$ H2
  iintro H2
  iapply (run_sstep d c s D (hist 3) 3 k hk x₃ h₃ _ _) $$ H3
  iintro H3
  iapply (run_pure d c s _ _)
  isplitr; · ipureintro; exact ht
  isplitl [H0]; · iexact H0
  isplitl [H1]; · iexact H1
  isplitl [H2]; · iexact H2
  iexact H3

/-- A summing trip, its reads first. -/
theorem sbody_eq (hist : Fin 4 → M2) (k : Fin 128) (t : BitVec 32) : sbody (F := F) (c := c) (s := s) hist k t
    = (rd2 (hist 0) (ozo k) (in2 k k.isLt) >>= fun a => rd2 (hist 1) (ozo k) (in2 k k.isLt) >>= fun b =>
      rd2 (hist 2) (ozo k) (in2 k k.isLt) >>= fun d => rd2 (hist 3) (ozo k) (in2 k k.isLt) >>= fun e =>
      srest c s hist k k.isLt t (addi (subi (scan .sum (addi (addi (addi a b) d) e)) (addi (addi (addi a b) d) e)) (broadcast S16 t))
        (addi (addi (subi (scan .sum (addi (addi (addi a b) d) e)) (addi (addi (addi a b) d) e)) (broadcast S16 t)) a)
        (addi (addi (subi (scan .sum (addi (addi (addi a b) d) e)) (addi (addi (addi a b) d) e)) (broadcast S16 t)) (addi a b))
        (addi (addi (subi (scan .sum (addi (addi (addi a b) d) e)) (addi (addi (addi a b) d) e)) (broadcast S16 t)) (addi (addi a b) d))
        (addi (addi (addi a b) d) e)) := rfl

/-- The summing loop. -/
theorem run_sloop : hists (F := F) d c s hist (fun u e => wd (cn D (at' u 0) (at' u 128) e))
    ⊢ run d c s (sloop hist) (fun _ => hists d c s hist (fun u e => wd (below D e + cn D 0 (at' u 0) e))) := by
  have h := run_for d c s (0#32) (fun k t => sbody (F := F) hist ⟨k.val, lt128 k⟩ t)
    (fun j t => iprop(⌜t = wd (below D (16 * j))⌝ ∗ hists d c s hist (sumOf D j)))
    (fun k t => by
      have hk := lt128 k
      have hz := ozo_zero k.val hk
      rw [sbody_eq]
      unfold hists
      iintro ⟨%ht, H0, H1, H2, H3⟩
      subst ht
      iapply (run_rd2 d c s (hist 0) _ _ _ _ _) $$ H0
      iintro H0
      iapply (run_rd2 d c s (hist 1) _ _ _ _ _) $$ H1
      iintro H1
      iapply (run_rd2 d c s (hist 2) _ _ _ _ _) $$ H2
      iintro H2
      iapply (run_rd2 d c s (hist 3) _ _ _ _ _) $$ H3
      iintro H3
      have hA : ∀ u j, (vec (sumOf D k.val u) (ozo k.val 0)) j = wd (cn D (at' u 0) (at' u 128) (16 * k.val + (j 0).val)) := fun u j => by
        rw [hz]; exact sumOf_at D k.val u j
      obtain ⟨h0, h1, h2, h3, h4⟩ := sum_lanes D k.val _ _ _ _ (hA 0) (hA 1) (hA 2) (hA 3) _ _ rfl rfl
      iapply (run_srest d c s hist D k.val hk _ _ _ _ _ _ h0 h1 h2 h3 h4)
      unfold hists
      isplitl [H0]; · iexact H0
      isplitl [H1]; · iexact H1
      isplitl [H2]; · iexact H2
      iexact H3)
  have h' := h.trans (wp_mono frame (wpE (defs₀ (F := F)) 𝒱₀ (V d c s) none) Set.univ
    (Q' := fun _ => hists d c s hist (fun u e => wd (below D e + cn D 0 (at' u 0) e))) fun a => by
    have e : ∀ (u : Fin 4) (H : M2), own2 (F := F) d c s H (sumOf D 128 u) = own2 d c s H (fun e => wd (below D e + cn D 0 (at' u 0) e)) :=
      fun u H => own2_congr d c s fun x hx => if_pos (by omega)
    unfold hists
    rw [e, e, e, e]
    iintro ⟨-, H⟩
    iexact H)
  refine BIBase.Entails.trans ?_ h'
  iintro H
  isplitr; · ipureintro; rw [Nat.mul_zero, below_zero]
  iexact H

/-! Placing. -/

variable (R : (Nat → Prop) → sProp (MT nD τ sig (HIx 1) (Elt F) ℕ UU ℕ))
  (T : (u : Fin 4) → (w : BitVec 32) → (o : Fin 1 → Nat) → In8 o → K.X → (r : V16) → Inb8 r → Prog (Eff F c s) PUnit)
  (hT : ∀ (u : Fin 4) (k : Nat) (hk : k < 128) (S : Nat → Prop) (hr : Inb8 (vec (fun y => wd (rk D y)) (at' u k))),
    R S ⊢ run d c s (T u (wof k (blk u)) (oof k (blk u)) (in8 k hk u) (val (at' u k)) (vec (fun y => wd (rk D y)) (at' u k)) hr)
      (fun _ => R (more S (at' u k))))

/-- Placing one block, once its places are known, and once its digits are. -/
def ptail (E : Chk Inb8) (T : (r : V16) → Inb8 r → Prog (Eff F c s) PUnit) (r : V16) : Prog (Eff F c s) PUnit := do
  let h' := (← asm E r).down
  T r (E.fwd _ h')
def prest (C : Chk Inb2) (E : Chk Inb8) (hist : M2) (occ : M8) (T : (r : V16) → Inb8 r → Prog (Eff F c s) PUnit)
    (o : Fin 1 → Nat) (ho : In8 o) (v : V16) : Prog (Eff F c s) PUnit := do
  let h := (← asm C v).down
  let n : Vec F S16 .i32 ← gat hist v (C.fwd _ h)
  let m : Vec F S16 .i32 ← rd8 occ o ho
  ptail c s E T (addi n m)

theorem inb8 {ρ : Nat → Nat} (hρ : ∀ x, x < N → ρ x < N) {o : Nat} (ho : o + 16 ≤ N) : Inb8 (vec (fun y => wd (ρ y)) o) := by
  have hN := N_eq
  intro a x; obtain rfl : a = 0 := Subsingleton.elim _ _
  have h := hρ (o + (x 0).val) (by have := lane_lt x; omega)
  show (wd (ρ _)).toNat < 8192
  rw [wd_toNat (by omega)]; omega

include hP hD hdig hT in
theorem run_pblk (C : Chk Inb2) (E : Chk Inb8) (H : M2) (u : Fin 4) (k : Nat) (hk : k < 128) (S : Nat → Prop)
    (g : Nat → BitVec 32) (hg : ∀ x, x < N → g x = occOf D x) :
    iprop(P ∗ own2 d c s H (fun e => wd (below D e + cn D 0 (at' u 0) e)) ∗ own8 d c s occ g ∗ R S)
      ⊢ run d c s (pblk K C E H occ (T u (wof k (blk u)) _ (in8 k hk u)) (oof k (blk u)) (in8 k hk u))
        (fun _ => iprop(P ∗ own2 d c s H (fun e => wd (below D e + cn D 0 (at' u 0) e)) ∗ own8 d c s occ g ∗ R (more S (at' u k)))) := by
  have ho := oof_at k hk u
  have hul := u.isLt
  have hN := N_eq
  have hle := at_le u k hk
  have hA : at' u 0 ≤ at' u k := by unfold at'; omega
  show _ ⊢ run d c s (K.read (oof k (blk u)) (in8 k hk u) >>= fun x => prest c s C E H occ (T u (wof k (blk u)) _ (in8 k hk u) x)
    (oof k (blk u)) (in8 k hk u) (K.dig x)) _
  iintro ⟨HP, HH, Ho, HR⟩
  iapply (hP _ _ _ _) $$ HP
  iintro HP
  rw [hdig, ho]
  unfold prest
  iapply (run_asm d c s C _ (inb2 hD _))
  iintro %h
  iapply (run_gat d c s H _ _ _ _ _) $$ HH
  iintro HH
  iapply (run_rd8 d c s occ _ _ _ _ _) $$ Ho
  iintro Ho
  rw [ho, placed (F := F) hD hA hle _ (fun _ => rfl) (vec g (at' u k)) (fun j => by
    have hj := lane_lt j
    show g _ = _
    rw [hg _ (by omega)]
    unfold occOf
    rw [show 2048 * ((at' u k + (j 0).val) / 2048) = at' u 0 from by unfold at'; omega]) _]
  unfold ptail
  iapply (run_asm d c s E _ (inb8 (fun x hx => rk_lt D hx) hle))
  iintro %h'
  iapply (wp_wand_r frame (wpE (defs₀ (F := F)) 𝒱₀ (V d c s) none) Set.univ)
  isplitl [HR]
  · iapply (hT u k hk S _); iexact HR
  iintro %_ HR
  isplitl [HP]; · iexact HP
  isplitl [HH]; · iexact HH
  isplitl [Ho]; · iexact Ho
  iexact HR

include hP hD hdig hT in
/-- The placing loop. -/
theorem run_ploop (C : Fin 4 → Chk Inb2) (E : Fin 4 → Chk Inb8) (g : Nat → BitVec 32) (hg : ∀ x, x < N → g x = occOf D x) :
    iprop(P ∗ hists d c s hist (fun u e => wd (below D e + cn D 0 (at' u 0) e)) ∗ own8 d c s occ g ∗ R fun _ => False)
      ⊢ run d c s (ploop K C E hist occ T)
        (fun _ => iprop(P ∗ hists d c s hist (fun u e => wd (below D e + cn D 0 (at' u 0) e)) ∗ own8 d c s occ g ∗ R (upto 128))) := by
  have h := run_for d c s (0#32) (fun k _ => pbody K C E hist occ T ⟨k.val, lt128 k⟩)
    (fun j _ => iprop(P ∗ hists d c s hist (fun u e => wd (below D e + cn D 0 (at' u 0) e)) ∗ own8 d c s occ g ∗ R (upto j)))
    (fun k _ => by
      have hk := lt128 k
      unfold pbody hists
      iintro ⟨HP, ⟨H0, H1, H2, H3⟩, Ho, HR⟩
      iapply (run_then d c s (run_pblk d c s K val P hP hD hdig occ R T hT (C 0) (E 0) (hist 0) 0 k.val hk (upto k.val) g hg) _ _) $$ [HP H0 Ho HR]
      · isplitl [HP]; · iexact HP
        isplitl [H0]; · iexact H0
        isplitl [Ho]; · iexact Ho
        iexact HR
      iintro %_ ⟨HP, H0, Ho, HR⟩
      iapply (run_then d c s (run_pblk d c s K val P hP hD hdig occ R T hT (C 1) (E 1) (hist 1) 1 k.val hk _ g hg) _ _) $$ [HP H1 Ho HR]
      · isplitl [HP]; · iexact HP
        isplitl [H1]; · iexact H1
        isplitl [Ho]; · iexact Ho
        iexact HR
      iintro %_ ⟨HP, H1, Ho, HR⟩
      iapply (run_then d c s (run_pblk d c s K val P hP hD hdig occ R T hT (C 2) (E 2) (hist 2) 2 k.val hk _ g hg) _ _) $$ [HP H2 Ho HR]
      · isplitl [HP]; · iexact HP
        isplitl [H2]; · iexact H2
        isplitl [Ho]; · iexact Ho
        iexact HR
      iintro %_ ⟨HP, H2, Ho, HR⟩
      iapply (run_then d c s (run_pblk d c s K val P hP hD hdig occ R T hT (C 3) (E 3) (hist 3) 3 k.val hk _ g hg) _ _) $$ [HP H3 Ho HR]
      · isplitl [HP]; · iexact HP
        isplitl [H3]; · iexact H3
        isplitl [Ho]; · iexact Ho
        iexact HR
      iintro %_ ⟨HP, H3, Ho, HR⟩
      iapply (run_pure d c s _ _)
      isplitl [HP]; · iexact HP
      isplitl [H0 H1 H2 H3]
      · isplitl [H0]; · iexact H0
        isplitl [H1]; · iexact H1
        isplitl [H2]; · iexact H2
        iexact H3
      isplitl [Ho]; · iexact Ho
      rw [← upto_succ k.val hk]
      iexact HR)
  rw [upto_zero] at h
  exact h

include hP hD hdig hT in
/-- A pass: what it reads its keys from is kept, and its stores are made for every element. -/
theorem run_pass (C C' : Fin 4 → Chk Inb2) (E : Fin 4 → Chk Inb8) :
    iprop(P ∗ hists' d c s hist ∗ any8 d c s occ ∗ R fun _ => False)
      ⊢ run d c s (pass K C C' E hist occ T)
        (fun _ => iprop(P ∗ hists' d c s hist ∗ any8 d c s occ ∗ R fun x => x < N)) := by
  have hN := N_eq
  have e128 : upto 128 = fun x => x < N := by
    funext x; unfold upto; exact propext ⟨fun h => h.1, fun h => ⟨h, by omega⟩⟩
  unfold pass
  iintro ⟨HP, HH, Ho, HR⟩
  iapply (run_then d c s (run_zloop d c s hist) _ _) $$ HH
  iintro %_ HH
  iapply (run_then d c s (run_hloop d c s K val P hP hD hdig hist occ C) _ _) $$ [HP HH Ho]
  · isplitl [HP]; · iexact HP
    isplitl [HH]; · iexact HH
    iexact Ho
  iintro %_ ⟨HP, HH, Ho⟩
  iapply (run_then d c s (run_sloop d c s hist) _ _) $$ HH
  iintro %_ HH
  unfold filled
  icases Ho with ⟨%g, %hg, Ho⟩
  iapply (run_then d c s (run_ploop d c s K val P hP hD hdig hist occ R T hT C' E g (fun x hx => hg x hx (e128 ▸ hx))) _ _) $$ [HP HH Ho HR]
  · isplitl [HP]; · iexact HP
    isplitl [HH]; · iexact HH
    isplitl [Ho]; · iexact Ho
    iexact HR
  iintro %_ ⟨HP, HH, Ho, HR⟩
  iapply (run_pure d c s _ _)
  isplitl [HP]; · iexact HP
  isplitl [HH]
  · unfold hists hists'
    icases HH with ⟨H0, H1, H2, H3⟩
    isplitl [H0]; · iapply (own2_any d c s _ _); iexact H0
    isplitl [H1]; · iapply (own2_any d c s _ _); iexact H1
    isplitl [H2]; · iapply (own2_any d c s _ _); iexact H2
    iapply (own2_any d c s _ _); iexact H3
  isplitl [Ho]; · iapply (own8_any d c s _ _); iexact Ho
  rw [← e128]
  iexact HR

end Pass

end Cert.Proof.Loops

end
-- ==== Proof.Digits.lean ====
/-
  The digits of the six passes as numbers, and the order they make together: the unsigned order of the two words.
-/
module

public import proofs.«01_k».proof.Proof.Lanes

@[expose] public section

noncomputable section

namespace Cert.Proof.Digits

open Cert.KernelIdeal hiding sig Λ₀ defs₀
open Cert.KernelIdeal.Gen
open Idealize.ShloMosaic
open Cert.Proof.Radix Cert.Proof.Body Cert.Proof.Lanes

/-- A word's digit above bit `b`; the digit across both words. -/
def dg (b x : BitVec 32) : Nat := (IntOp.andi (IntOp.shrsi .vector x b) 2047#32).toNat
def dgx (x y : BitVec 32) : Nat :=
  (IntOp.ori (IntOp.andi (IntOp.shrsi .vector x 22#32) 1023#32) (IntOp.shli .vector (IntOp.andi y 1#32) 10#32)).toNat

/-- An arithmetic shift, as a number. -/
theorem sshr (x : BitVec 32) (b : Nat) :
    (x.sshiftRight b).toNat = if 2 ^ 31 ≤ x.toNat then 2 ^ 32 - 1 - (2 ^ 32 - 1 - x.toNat) / 2 ^ b else x.toNat / 2 ^ b := by
  have hm := BitVec.msb_eq_decide x
  by_cases h : 2 ^ 31 ≤ x.toNat
  · rw [if_pos h, BitVec.sshiftRight_eq_of_msb_true (by rw [hm]; simpa using h), BitVec.toNat_not, BitVec.toNat_ushiftRight, BitVec.toNat_not,
      Nat.shiftRight_eq_div_pow]
  · rw [if_neg h, BitVec.sshiftRight_eq_of_msb_false (by rw [hm]; simpa using h), BitVec.toNat_ushiftRight, Nat.shiftRight_eq_div_pow]

theorem shr (x b : BitVec 32) (hb : b.toNat < 32) : IntOp.shrsi .vector x b = x.sshiftRight b.toNat := by
  unfold IntOp.shrsi; rw [if_pos hb]; rfl

theorem low (x : BitVec 32) (n : Nat) (hn : n ≤ 11) (m : BitVec 32) (hm : m.toNat = 2 ^ n - 1) : (x &&& m).toNat = x.toNat % 2 ^ n := by
  rw [BitVec.toNat_and, hm, Nat.and_two_pow_sub_one_eq_mod]

theorem dg_eq (b x : BitVec 32) (hb : b.toNat < 32) :
    dg b x = (if 2 ^ 31 ≤ x.toNat then 2 ^ 32 - 1 - (2 ^ 32 - 1 - x.toNat) / 2 ^ b.toNat else x.toNat / 2 ^ b.toNat) % 2 ^ 11 := by
  unfold dg IntOp.andi
  rw [low _ 11 (by omega) _ rfl, shr x b hb, sshr]

theorem dg_lt (b x : BitVec 32) : dg b x < 2048 := by
  unfold dg IntOp.andi
  rw [low _ 11 (by omega) _ rfl]; exact Nat.mod_lt _ (by decide)

theorem dg_0 (x : BitVec 32) : dg 0#32 x = x.toNat % 2048 := by
  rw [dg_eq _ _ (by decide), show (0#32).toNat = 0 from rfl]; have := x.isLt; split <;> omega
theorem dg_11 (x : BitVec 32) : dg 11#32 x = x.toNat / 2048 % 2048 := by
  rw [dg_eq _ _ (by decide), show (11#32).toNat = 11 from rfl]; have := x.isLt; split <;> omega
theorem dg_1 (x : BitVec 32) : dg 1#32 x = x.toNat / 2 % 2048 := by
  rw [dg_eq _ _ (by decide), show (1#32).toNat = 1 from rfl]; have := x.isLt; split <;> omega
theorem dg_12 (x : BitVec 32) : dg 12#32 x = x.toNat / 4096 % 2048 := by
  rw [dg_eq _ _ (by decide), show (12#32).toNat = 12 from rfl]; have := x.isLt; split <;> omega
theorem dg_23 (x : BitVec 32) : dg 23#32 x = x.toNat / 2 ^ 23 + if 2 ^ 31 ≤ x.toNat then 1536 else 0 := by
  rw [dg_eq _ _ (by decide), show (23#32).toNat = 23 from rfl]; have := x.isLt; split <;> omega

theorem dgx_eq (x y : BitVec 32) : dgx x y = x.toNat / 2 ^ 22 + 1024 * (y.toNat % 2) := by
  unfold dgx IntOp.andi IntOp.ori IntOp.shli
  rw [if_pos (by decide), BitVec.toNat_or, low _ 10 (by omega) _ rfl, shr x _ (by decide), sshr, BitVec.shiftLeft_eq', BitVec.toNat_shiftLeft, low _ 1 (by omega) _ rfl,
    show (10#32).toNat = 10 from rfl, show (22#32).toNat = 22 from rfl, Nat.shiftLeft_eq, Nat.mod_eq_of_lt (show y.toNat % 2 ^ 1 * 2 ^ 10 < 2 ^ 32 by omega), ← Nat.shiftLeft_eq, Nat.or_comm,
    ← Nat.shiftLeft_add_eq_or_of_lt (by omega), Nat.shiftLeft_eq]
  have := x.isLt
  split <;> omega

theorem dgx_lt (x y : BitVec 32) : dgx x y < 2048 := by
  rw [dgx_eq]; have := x.isLt; omega

theorem wd_self (x : BitVec 32) : wd x.toNat = x := by rw [wd, BitVec.ofNat_toNat, BitVec.setWidth_eq]

variable [Prg] {F : FTy → Type} [FloatOps F]

/-- The digits the body takes are these. -/
theorem dig1 (M : M8) (b : BitVec 32) (g : Nat → BitVec 32) (o : Nat) :
    (key1 (F := F) M b).dig (vec g o) = vec (fun y => wd (dg b (g y))) o := by
  funext j; exact (wd_self _).symm
theorem dig2 (lo hi : M8) (g g' : Nat → BitVec 32) (o : Nat) :
    (key2 (F := F) lo hi).dig (vec g o, vec g' o) = vec (fun y => wd (dgx (g y) (g' y))) o := by
  funext j; exact (wd_self _).symm

/-! ## The keys after each pass -/

section Keys

variable (hi lo : Nat → BitVec 32)

def K1 (x : Nat) : Nat := dg 0#32 (lo x)
def K2 (x : Nat) : Nat := dg 11#32 (lo x) * 2 ^ 11 + K1 lo x
def K3 (x : Nat) : Nat := dgx (lo x) (hi x) * 2 ^ 22 + K2 lo x
def K4 (x : Nat) : Nat := dg 1#32 (hi x) * 2 ^ 33 + K3 hi lo x
def K5 (x : Nat) : Nat := dg 12#32 (hi x) * 2 ^ 44 + K4 hi lo x
def K6 (x : Nat) : Nat := dg 23#32 (hi x) * 2 ^ 55 + K5 hi lo x

/-- The two words as one number. -/
def U (x : Nat) : Nat := (hi x).toNat * 2 ^ 32 + (lo x).toNat

theorem K1_lt (x : Nat) : K1 lo x < 2 ^ 11 := dg_lt _ _
theorem K2_lt (x : Nat) : K2 lo x < 2 ^ 22 := by have := K1_lt lo x; have := dg_lt 11#32 (lo x); unfold K2; omega
theorem K3_lt (x : Nat) : K3 hi lo x < 2 ^ 33 := by have := K2_lt lo x; have := dgx_lt (lo x) (hi x); unfold K3; omega
theorem K4_lt (x : Nat) : K4 hi lo x < 2 ^ 44 := by have := K3_lt hi lo x; have := dg_lt 1#32 (hi x); unfold K4; omega
theorem K5_lt (x : Nat) : K5 hi lo x < 2 ^ 55 := by have := K4_lt hi lo x; have := dg_lt 12#32 (hi x); unfold K5; omega

theorem K6_eq (x : Nat) : K6 hi lo x = U hi lo x + if 2 ^ 31 ≤ (hi x).toNat then 1536 * 2 ^ 55 else 0 := by
  unfold K6 K5 K4 K3 K2 K1 U
  rw [dg_0, dg_11, dgx_eq, dg_1, dg_12, dg_23]
  have := (hi x).isLt; have := (lo x).isLt
  split <;> omega

/-- The last keys order as the two words read as one unsigned number. -/
theorem rk_K6 {x : Nat} (hx : x < N) : rk (K6 hi lo) x = rk (U hi lo) x := by
  refine rk_congr hx fun y _ => ?_
  rw [K6_eq, K6_eq]
  unfold U
  have := (hi x).isLt; have := (lo x).isLt; have := (hi y).isLt; have := (lo y).isLt
  split <;> split <;> omega

end Keys

end Cert.Proof.Digits

end
-- ==== Proof.Sort.lean ====
/-
  The six passes, run: from the two words of a row, the tile is left with the row's elements in the order of the words
  (read as one unsigned number, equal ones in their own order), and each element's place in that order.
-/
module

public import proofs.«01_k».proof.Proof.Loops
public import proofs.«01_k».proof.Proof.Digits

@[expose] public section

noncomputable section

namespace Cert.Proof.Sort

open Cert.KernelIdeal hiding sig Λ₀ defs₀
open Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix Cert.Proof.Body Cert.Proof.Lanes Cert.Proof.Rules Cert.Proof.Loops Cert.Proof.Digits

variable [Prg] {F : FTy → Type} [FloatOps F]

local notation "𝕄" => MT nD τ sig (HIx 1) (Elt F) ℕ UU ℕ

variable (d : Dev nD) (c : Fin τ.nSC) (s : Fin τ.nSub)

/-! ## The passes' stores -/

section Tails

variable {ρ : Nat → Nat} (hρ : ∀ x, x < N → ρ x < N) (hinj : ∀ x y, x < N → y < N → ρ x = ρ y → x = y)
  (gh gl gv : Nat → BitVec 32) (u : Fin 4) (k : Nat) (hk : k < 128) (S : Nat → Prop) (hr : Inb8 (vec (fun y => wd (ρ y)) (at' u k)))

include hρ hinj hk in
/-- `fill8`, the last step of a program. -/
theorem fill_last (M : M8) (src : Nat → BitVec 32) :
    filled (F := F) d c s M ρ src S ⊢ run d c s (put8 M (vec (fun y => wd (ρ y)) (at' u k)) (vec src (at' u k)) hr)
      (fun _ => filled d c s M ρ src (more S (at' u k))) := by
  iintro H
  rw [← bind_pure' c s (put8 M _ _ hr)]
  iapply (fill8 d c s M hρ hinj src S (at_le u k hk) hr _ _) $$ H
  iintro H
  iapply (run_pure d c s _ _)
  iexact H

include hk in
/-- The numbers of a block's elements, as the first pass makes them. -/
theorem numbers : (addi (iota .scVector S16 32 [0] iota_S16_d0_w32_scVector) (broadcast S16 (wof k (blk u))) : V16) = vec wd (at' u k) := by
  funext j
  show BitVec.ofNat 32 (0 * 16 + (j 0).val) + wof k (blk u) = wd (at' u k + (j 0).val)
  rw [← wd_self (wof k (blk u)), wof_toNat k hk u, Nat.zero_mul, Nat.zero_add, BitVec.add_comm]
  exact wd_add _ _

include hρ hinj in
theorem run_tail0 (ahi bhi blo bval : M8) :
    iprop(own8 d c s ahi gh ∗ filled d c s bhi ρ gh S ∗ filled d c s blo ρ gl S ∗ filled d c s bval ρ wd S)
      ⊢ run (F := F) d c s (tail0 ahi bhi blo bval u (wof k (blk u)) (oof k (blk u)) (in8 k hk u) (vec gl (at' u k)) (vec (fun y => wd (ρ y)) (at' u k)) hr)
        (fun _ => iprop(own8 d c s ahi gh ∗ filled d c s bhi ρ gh (more S (at' u k)) ∗ filled d c s blo ρ gl (more S (at' u k))
          ∗ filled d c s bval ρ wd (more S (at' u k)))) := by
  have ho := oof_at k hk u
  unfold tail0
  rw [numbers u k hk]
  iintro ⟨Ha, H1, H2, H3⟩
  iapply (run_rd8 d c s ahi gh _ _ _ _) $$ Ha
  iintro Ha
  rw [ho]
  iapply (fill8 d c s bhi hρ hinj gh S (at_le u k hk) hr _ _) $$ H1
  iintro H1
  iapply (fill8 d c s blo hρ hinj gl S (at_le u k hk) hr _ _) $$ H2
  iintro H2
  iapply (wp_wand_r frame (wpE (defs₀ (F := F)) 𝒱₀ (V d c s) none) Set.univ)
  isplitl [H3]
  · iapply (fill_last d c s hρ hinj u k hk S hr bval wd); iexact H3
  iintro %_ H3
  isplitl [Ha]; · iexact Ha
  isplitl [H1]; · iexact H1
  isplitl [H2]; · iexact H2
  iexact H3

include hρ hinj in
theorem run_tail1 (shi sval dhi dlo dval : M8) :
    iprop(own8 d c s sval gv ∗ own8 d c s shi gh ∗ filled d c s dhi ρ gh S ∗ filled d c s dlo ρ gl S ∗ filled d c s dval ρ gv S)
      ⊢ run (F := F) d c s (tail1 shi sval dhi dlo dval u (wof k (blk u)) (oof k (blk u)) (in8 k hk u) (vec gl (at' u k)) (vec (fun y => wd (ρ y)) (at' u k)) hr)
        (fun _ => iprop(own8 d c s sval gv ∗ own8 d c s shi gh ∗ filled d c s dhi ρ gh (more S (at' u k)) ∗ filled d c s dlo ρ gl (more S (at' u k))
          ∗ filled d c s dval ρ gv (more S (at' u k)))) := by
  have ho := oof_at k hk u
  unfold tail1
  iintro ⟨Hv, Ha, H1, H2, H3⟩
  iapply (run_rd8 d c s sval gv _ _ _ _) $$ Hv
  iintro Hv
  iapply (run_rd8 d c s shi gh _ _ _ _) $$ Ha
  iintro Ha
  rw [ho]
  iapply (fill8 d c s dhi hρ hinj gh S (at_le u k hk) hr _ _) $$ H1
  iintro H1
  iapply (fill8 d c s dlo hρ hinj gl S (at_le u k hk) hr _ _) $$ H2
  iintro H2
  iapply (wp_wand_r frame (wpE (defs₀ (F := F)) 𝒱₀ (V d c s) none) Set.univ)
  isplitl [H3]
  · iapply (fill_last d c s hρ hinj u k hk S hr dval gv); iexact H3
  iintro %_ H3
  isplitl [Hv]; · iexact Hv
  isplitl [Ha]; · iexact Ha
  isplitl [H1]; · iexact H1
  isplitl [H2]; · iexact H2
  iexact H3

include hρ hinj in
theorem run_tail2 {X : Type} (hi : X → Vec F S16 .i32) (x : X) (hx : hi x = vec gh (at' u k)) (sval dhi dval : M8) :
    iprop(own8 d c s sval gv ∗ filled d c s dhi ρ gh S ∗ filled d c s dval ρ gv S)
      ⊢ run (F := F) d c s (tail2 hi sval dhi dval u (wof k (blk u)) (oof k (blk u)) (in8 k hk u) x (vec (fun y => wd (ρ y)) (at' u k)) hr)
        (fun _ => iprop(own8 d c s sval gv ∗ filled d c s dhi ρ gh (more S (at' u k)) ∗ filled d c s dval ρ gv (more S (at' u k)))) := by
  have ho := oof_at k hk u
  unfold tail2
  rw [hx]
  iintro ⟨Hv, H1, H3⟩
  iapply (run_rd8 d c s sval gv _ _ _ _) $$ Hv
  iintro Hv
  rw [ho]
  iapply (fill8 d c s dhi hρ hinj gh S (at_le u k hk) hr _ _) $$ H1
  iintro H1
  iapply (wp_wand_r frame (wpE (defs₀ (F := F)) 𝒱₀ (V d c s) none) Set.univ)
  isplitl [H3]
  · iapply (fill_last d c s hρ hinj u k hk S hr dval gv); iexact H3
  iintro %_ H3
  isplitl [Hv]; · iexact Hv
  isplitl [H1]; · iexact H1
  iexact H3

include hρ hinj in
theorem run_tail5 {X : Type} (E : Fin 4 → Chk Inb8) (x : X) (sval dval re : M8) {ν : Nat → Nat} (hν : ∀ x, x < N → ν x < N)
    (hνi : ∀ x y, x < N → y < N → ν x = ν y → x = y) :
    iprop(own8 d c s sval (fun y => wd (ν y)) ∗ filled d c s dval ρ (fun y => wd (ν y)) S ∗ filled d c s re ν (fun y => wd (ρ y)) S)
      ⊢ run (F := F) d c s (tail5 E sval dval re u (wof k (blk u)) (oof k (blk u)) (in8 k hk u) x (vec (fun y => wd (ρ y)) (at' u k)) hr)
        (fun _ => iprop(own8 d c s sval (fun y => wd (ν y)) ∗ filled d c s dval ρ (fun y => wd (ν y)) (more S (at' u k))
          ∗ filled d c s re ν (fun y => wd (ρ y)) (more S (at' u k)))) := by
  have ho := oof_at k hk u
  have hn := inb8 hν (at_le u k hk)
  unfold tail5
  iintro ⟨Hv, H1, H3⟩
  iapply (run_rd8 d c s sval _ _ _ _ _) $$ Hv
  iintro Hv
  rw [ho]
  iapply (run_asm d c s (E u) _ hn)
  iintro %h
  iapply (fill8 d c s dval hρ hinj (fun y => wd (ν y)) S (at_le u k hk) hr _ _) $$ H1
  iintro H1
  iapply (wp_wand_r frame (wpE (defs₀ (F := F)) 𝒱₀ (V d c s) none) Set.univ)
  isplitl [H3]
  · iapply (fill_last d c s hν hνi u k hk S hn re (fun y => wd (ρ y))); iexact H3
  iintro %_ H3
  isplitl [Hv]; · iexact Hv
  isplitl [H1]; · iexact H1
  iexact H3

end Tails

/-! ## The rows between passes -/

/-- A row buffer that holds `src x` where the keys `K` place `x`. -/
abbrev holds (M : M8) (K : Nat → Nat) (src : Nat → BitVec 32) : sProp (MT nD τ sig (HIx 1) (Elt F) ℕ UU ℕ) :=
  filled (F := F) d c s M (rk K) src fun x => x < N

/-- A row filled by a pass, from a row that held `src` by `K`: it holds `src` by the keys one digit longer. -/
theorem holds_step (M : M8) {K D D' K' : Nat → Nat} {B : Nat} (hK : ∀ x, x < N → K x < B) (hD : ∀ x, x < N → D' (rk K x) = D x)
    (hK' : ∀ x, K' x = D x * B + K x) {g src : Nat → BitVec 32} (hg : ∀ x, x < N → g (rk K x) = src x) :
    filled (F := F) d c s M (rk D') g (fun x => x < N)
      ⊢ iprop(∃ g, ⌜∀ x, x < N → (fun x => x < N) x → g (rk K' x) = src x⌝ ∗ own8 (F := F) d c s M g) := by
  obtain rfl : K' = fun x => D x * B + K x := funext hK'
  unfold filled
  iintro ⟨%g', %hg', H⟩
  iexists g'
  isplitr
  · ipureintro
    intro x hx _
    rw [← rk_step hK hD hx, hg' _ (rk_lt K hx) (rk_lt K hx), hg x hx]
  iexact H

section Passes

variable (hi lo : Nat → BitVec 32) (C C' : Fin 4 → Chk Inb2) (E : Fin 4 → Chk Inb8) (hist : Fin 4 → M2) (occ : M8)

theorem rk_N (D : Nat → Nat) : ∀ x, x < N → rk D x < N := fun _ hx => rk_lt D hx
theorem rk_I (D : Nat → Nat) : ∀ x y, x < N → y < N → rk D x = rk D y → x = y := fun _ _ hx hy h => rk_inj D hx hy h

theorem run_p0 (a6 a7 a9 a10 a11 : M8) :
    iprop(own8 d c s a6 hi ∗ own8 d c s a7 lo ∗ any8 d c s a9 ∗ any8 d c s a10 ∗ any8 d c s a11 ∗ hists' d c s hist ∗ any8 d c s occ)
      ⊢ run (F := F) d c s (pass (key1 a7 0#32) C C' E hist occ (tail0 a6 a9 a10 a11))
        (fun _ => iprop(any8 d c s a6 ∗ any8 d c s a7 ∗ holds d c s a9 (K1 lo) hi ∗ holds d c s a10 (K1 lo) lo ∗ holds d c s a11 (K1 lo) wd
          ∗ hists' d c s hist ∗ any8 d c s occ)) := by
  iintro ⟨H6, H7, H9, H10, H11, HH, Ho⟩
  iapply (wp_wand_r frame (wpE (defs₀ (F := F)) 𝒱₀ (V d c s) none) Set.univ)
  isplitr []
  · iapply (run_pass d c s (key1 a7 0#32) _ _ (reads1 d c s a7 0#32 lo) (fun y => dg_lt 0#32 (lo y)) (dig1 a7 0#32 lo) hist occ
      (fun S => iprop(own8 d c s a6 hi ∗ filled d c s a9 (rk (K1 lo)) hi S ∗ filled d c s a10 (rk (K1 lo)) lo S ∗ filled d c s a11 (rk (K1 lo)) wd S))
      (tail0 a6 a9 a10 a11) (fun u k hk S hr => run_tail0 d c s (rk_N (K1 lo)) (rk_I (K1 lo)) hi lo u k hk S hr a6 a9 a10 a11) C C' E)
    isplitl [H7]; · iexact H7
    isplitl [HH]; · iexact HH
    isplitl [Ho]; · iexact Ho
    isplitl [H6]; · iexact H6
    isplitl [H9]; · iapply (filled_none d c s a9 _ _); iexact H9
    isplitl [H10]; · iapply (filled_none d c s a10 _ _); iexact H10
    iapply (filled_none d c s a11 _ _); iexact H11
  iintro %_ ⟨H7, HH, Ho, H6, H9, H10, H11⟩
  isplitl [H6]; · iapply (own8_any d c s a6 hi); iexact H6
  isplitl [H7]; · iapply (own8_any d c s a7 lo); iexact H7
  isplitl [H9]; · iexact H9
  isplitl [H10]; · iexact H10
  isplitl [H11]; · iexact H11
  isplitl [HH]; · iexact HH
  iexact Ho

theorem run_p1 (a6 a7 a8 a9 a10 a11 : M8) :
    iprop(holds d c s a9 (K1 lo) hi ∗ holds d c s a10 (K1 lo) lo ∗ holds d c s a11 (K1 lo) wd ∗ any8 d c s a6 ∗ any8 d c s a7 ∗ any8 d c s a8
        ∗ hists' d c s hist ∗ any8 d c s occ)
      ⊢ run (F := F) d c s (pass (key1 a10 11#32) C C' E hist occ (tail1 a9 a11 a6 a7 a8))
        (fun _ => iprop(any8 d c s a9 ∗ any8 d c s a10 ∗ any8 d c s a11 ∗ holds d c s a6 (K2 lo) hi ∗ holds d c s a7 (K2 lo) lo ∗ holds d c s a8 (K2 lo) wd
          ∗ hists' d c s hist ∗ any8 d c s occ)) := by
  unfold holds filled
  iintro ⟨⟨%gh, %hgh, H9⟩, ⟨%gl, %hgl, H10⟩, ⟨%gv, %hgv, H11⟩, H6, H7, H8, HH, Ho⟩
  have hD : ∀ x, x < N → (fun y => dg 11#32 (gl y)) (rk (K1 lo) x) = (fun y => dg 11#32 (lo y)) x := fun x hx => congrArg (dg 11#32) (hgl x hx hx)
  iapply (wp_wand_r frame (wpE (defs₀ (F := F)) 𝒱₀ (V d c s) none) Set.univ)
  isplitr []
  · iapply (run_pass d c s (key1 a10 11#32) _ _ (reads1 d c s a10 11#32 gl) (fun y => dg_lt 11#32 (gl y)) (dig1 a10 11#32 gl) hist occ
      (fun S => iprop(own8 d c s a11 gv ∗ own8 d c s a9 gh ∗ filled d c s a6 (rk fun y => dg 11#32 (gl y)) gh S
        ∗ filled d c s a7 (rk fun y => dg 11#32 (gl y)) gl S ∗ filled d c s a8 (rk fun y => dg 11#32 (gl y)) gv S))
      (tail1 a9 a11 a6 a7 a8) (fun u k hk S hr => run_tail1 d c s (rk_N _) (rk_I _) gh gl gv u k hk S hr a9 a11 a6 a7 a8) C C' E)
    isplitl [H10]; · iexact H10
    isplitl [HH]; · iexact HH
    isplitl [Ho]; · iexact Ho
    isplitl [H11]; · iexact H11
    isplitl [H9]; · iexact H9
    isplitl [H6]; · iapply (filled_none d c s a6 _ _); iexact H6
    isplitl [H7]; · iapply (filled_none d c s a7 _ _); iexact H7
    iapply (filled_none d c s a8 _ _); iexact H8
  iintro %_ ⟨H10, HH, Ho, H11, H9, H6, H7, H8⟩
  isplitl [H9]; · iapply (own8_any d c s a9 gh); iexact H9
  isplitl [H10]; · iapply (own8_any d c s a10 gl); iexact H10
  isplitl [H11]; · iapply (own8_any d c s a11 gv); iexact H11
  isplitl [H6]; · iapply (holds_step (D := fun y => dg 11#32 (lo y)) (D' := fun y => dg 11#32 (gl y)) d c s a6 (fun x _ => K1_lt lo x) hD (fun _ => rfl) (fun x hx => hgh x hx hx)); iexact H6
  isplitl [H7]; · iapply (holds_step (D := fun y => dg 11#32 (lo y)) (D' := fun y => dg 11#32 (gl y)) d c s a7 (fun x _ => K1_lt lo x) hD (fun _ => rfl) (fun x hx => hgl x hx hx)); iexact H7
  isplitl [H8]; · iapply (holds_step (D := fun y => dg 11#32 (lo y)) (D' := fun y => dg 11#32 (gl y)) d c s a8 (fun x _ => K1_lt lo x) hD (fun _ => rfl) (fun x hx => hgv x hx hx)); iexact H8
  isplitl [HH]; · iexact HH
  iexact Ho

theorem run_p2 (a6 a7 a8 a9 a11 : M8) :
    iprop(holds d c s a6 (K2 lo) hi ∗ holds d c s a7 (K2 lo) lo ∗ holds d c s a8 (K2 lo) wd ∗ any8 d c s a9 ∗ any8 d c s a11
        ∗ hists' d c s hist ∗ any8 d c s occ)
      ⊢ run (F := F) d c s (pass (key2 a7 a6) C C' E hist occ (tail2 Prod.snd a8 a9 a11))
        (fun _ => iprop(any8 d c s a6 ∗ any8 d c s a7 ∗ any8 d c s a8 ∗ holds d c s a9 (K3 hi lo) hi ∗ holds d c s a11 (K3 hi lo) wd
          ∗ hists' d c s hist ∗ any8 d c s occ)) := by
  unfold holds filled
  iintro ⟨⟨%gh, %hgh, H6⟩, ⟨%gl, %hgl, H7⟩, ⟨%gv, %hgv, H8⟩, H9, H11, HH, Ho⟩
  have hD : ∀ x, x < N → (fun y => dgx (gl y) (gh y)) (rk (K2 lo) x) = (fun y => dgx (lo y) (hi y)) x :=
    fun x hx => congrArg₂ dgx (hgl x hx hx) (hgh x hx hx)
  iapply (wp_wand_r frame (wpE (defs₀ (F := F)) 𝒱₀ (V d c s) none) Set.univ)
  isplitr []
  · iapply (run_pass d c s (key2 a7 a6) _ _ (reads2 d c s a7 a6 gl gh) (fun y => dgx_lt (gl y) (gh y)) (dig2 a7 a6 gl gh) hist occ
      (fun S => iprop(own8 d c s a8 gv ∗ filled d c s a9 (rk fun y => dgx (gl y) (gh y)) gh S
        ∗ filled d c s a11 (rk fun y => dgx (gl y) (gh y)) gv S))
      (tail2 Prod.snd a8 a9 a11) (fun u k hk S hr => run_tail2 d c s (rk_N _) (rk_I _) gh gv u k hk S hr Prod.snd _ rfl a8 a9 a11) C C' E)
    isplitl [H6 H7]; · isplitl [H7] <;> iassumption
    isplitl [HH]; · iexact HH
    isplitl [Ho]; · iexact Ho
    isplitl [H8]; · iexact H8
    isplitl [H9]; · iapply (filled_none d c s a9 _ _); iexact H9
    iapply (filled_none d c s a11 _ _); iexact H11
  iintro %_ ⟨⟨H7, H6⟩, HH, Ho, H8, H9, H11⟩
  isplitl [H6]; · iapply (own8_any d c s a6 gh); iexact H6
  isplitl [H7]; · iapply (own8_any d c s a7 gl); iexact H7
  isplitl [H8]; · iapply (own8_any d c s a8 gv); iexact H8
  isplitl [H9]; · iapply (holds_step (D := fun y => dgx (lo y) (hi y)) (D' := fun y => dgx (gl y) (gh y)) d c s a9 (fun x _ => K2_lt lo x) hD (fun _ => rfl) (fun x hx => hgh x hx hx)); iexact H9
  isplitl [H11]; · iapply (holds_step (D := fun y => dgx (lo y) (hi y)) (D' := fun y => dgx (gl y) (gh y)) d c s a11 (fun x _ => K2_lt lo x) hD (fun _ => rfl) (fun x hx => hgv x hx hx)); iexact H11
  isplitl [HH]; · iexact HH
  iexact Ho

/-- A middle pass: the high word at `shi`, the carried number at `sval`. -/
theorem run_pm (b : BitVec 32) {K : Nat → Nat} {B : Nat} (hK : ∀ x, x < N → K x < B) (shi sval dhi dval : M8) :
    iprop(holds d c s shi K hi ∗ holds d c s sval K wd ∗ any8 d c s dhi ∗ any8 d c s dval ∗ hists' d c s hist ∗ any8 d c s occ)
      ⊢ run (F := F) d c s (pass (key1 shi b) C C' E hist occ (tail2 id sval dhi dval))
        (fun _ => iprop(any8 d c s shi ∗ any8 d c s sval ∗ holds d c s dhi (fun x => dg b (hi x) * B + K x) hi
          ∗ holds d c s dval (fun x => dg b (hi x) * B + K x) wd ∗ hists' d c s hist ∗ any8 d c s occ)) := by
  unfold holds filled
  iintro ⟨⟨%gh, %hgh, H6⟩, ⟨%gv, %hgv, H8⟩, H9, H11, HH, Ho⟩
  have hD : ∀ x, x < N → (fun y => dg b (gh y)) (rk K x) = (fun y => dg b (hi y)) x := fun x hx => congrArg (dg b) (hgh x hx hx)
  iapply (wp_wand_r frame (wpE (defs₀ (F := F)) 𝒱₀ (V d c s) none) Set.univ)
  isplitr []
  · iapply (run_pass d c s (key1 shi b) _ _ (reads1 d c s shi b gh) (fun y => dg_lt b (gh y)) (dig1 shi b gh) hist occ
      (fun S => iprop(own8 d c s sval gv ∗ filled d c s dhi (rk fun y => dg b (gh y)) gh S ∗ filled d c s dval (rk fun y => dg b (gh y)) gv S))
      (tail2 id sval dhi dval) (fun u k hk S hr => run_tail2 d c s (rk_N _) (rk_I _) gh gv u k hk S hr id _ rfl sval dhi dval) C C' E)
    isplitl [H6]; · iexact H6
    isplitl [HH]; · iexact HH
    isplitl [Ho]; · iexact Ho
    isplitl [H8]; · iexact H8
    isplitl [H9]; · iapply (filled_none d c s dhi _ _); iexact H9
    iapply (filled_none d c s dval _ _); iexact H11
  iintro %_ ⟨H6, HH, Ho, H8, H9, H11⟩
  isplitl [H6]; · iapply (own8_any d c s shi gh); iexact H6
  isplitl [H8]; · iapply (own8_any d c s sval gv); iexact H8
  isplitl [H9]; · iapply (holds_step (D := fun y => dg b (hi y)) (D' := fun y => dg b (gh y)) d c s dhi hK hD (fun _ => rfl) (fun x hx => hgh x hx hx)); iexact H9
  isplitl [H11]; · iapply (holds_step (D := fun y => dg b (hi y)) (D' := fun y => dg b (gh y)) d c s dval hK hD (fun _ => rfl) (fun x hx => hgv x hx hx)); iexact H11
  isplitl [HH]; · iexact HH
  iexact Ho

/-- The last pass. -/
theorem run_p5 (E' : Fin 4 → Chk Inb8) (shi sval dval re : M8) :
    iprop(holds d c s shi (K5 hi lo) hi ∗ holds d c s sval (K5 hi lo) wd ∗ any8 d c s dval ∗ any8 d c s re ∗ hists' d c s hist ∗ any8 d c s occ)
      ⊢ run (F := F) d c s (pass (key1 shi 23#32) C C' E hist occ (tail5 E' sval dval re))
        (fun _ => iprop(any8 d c s shi ∗ any8 d c s sval ∗ filled d c s dval (rk (U hi lo)) wd (fun x => x < N)
          ∗ filled d c s re id (fun x => wd (rk (U hi lo) x)) (fun x => x < N) ∗ hists' d c s hist ∗ any8 d c s occ)) := by
  have hN := N_eq
  unfold holds
  iintro ⟨H6, H8, H9, H11, HH, Ho⟩
  unfold filled
  icases H6 with ⟨%gh, %hgh, H6⟩
  icases H8 with ⟨%gv, %hgv, H8⟩
  have hD : ∀ x, x < N → (fun y => dg 23#32 (gh y)) (rk (K5 hi lo) x) = (fun y => dg 23#32 (hi y)) x := fun x hx => congrArg (dg 23#32) (hgh x hx hx)
  have hval : ∀ x, x < N → (gv (rk (K5 hi lo) x)).toNat = x := fun x hx => by rw [hgv x hx hx, wd_toNat (by omega)]
  have hν : ∀ x, x < N → (gv x).toNat < N := fun x hx => by
    obtain ⟨y, hy, rfl⟩ := rk_surj (K5 hi lo) hx; rw [hval y hy]; exact hy
  have hνi : ∀ x y, x < N → y < N → (gv x).toNat = (gv y).toNat → x = y := fun x y hx hy h => by
    obtain ⟨x', hx', rfl⟩ := rk_surj (K5 hi lo) hx
    obtain ⟨y', hy', rfl⟩ := rk_surj (K5 hi lo) hy
    rw [hval x' hx', hval y' hy'] at h
    rw [h]
  have hw : (fun y => wd (gv y).toNat) = gv := funext fun y => wd_self (gv y)
  iapply (wp_wand_r frame (wpE (defs₀ (F := F)) 𝒱₀ (V d c s) none) Set.univ)
  isplitr []
  · iapply (run_pass d c s (key1 shi 23#32) _ _ (reads1 d c s shi 23#32 gh) (fun y => dg_lt 23#32 (gh y)) (dig1 shi 23#32 gh) hist occ
      (fun S => iprop(own8 d c s sval (fun y => wd (gv y).toNat) ∗ filled d c s dval (rk fun y => dg 23#32 (gh y)) (fun y => wd (gv y).toNat) S
        ∗ filled d c s re (fun y => (gv y).toNat) (fun y => wd (rk (fun y => dg 23#32 (gh y)) y)) S))
      (tail5 E' sval dval re) (fun u k hk S hr => run_tail5 d c s (rk_N _) (rk_I _) u k hk S hr E' _ sval dval re hν hνi) C C' E)
    isplitl [H6]; · iexact H6
    isplitl [HH]; · iexact HH
    isplitl [Ho]; · iexact Ho
    isplitl [H8]; · rw [hw]; iexact H8
    isplitl [H9]; · iapply (filled_none d c s dval _ _); iexact H9
    iapply (filled_none d c s re _ _); iexact H11
  iintro %_ ⟨H6, HH, Ho, H8, H9, H11⟩
  isplitl [H6]; · iapply (own8_any d c s shi gh); iexact H6
  isplitl [H8]; · iapply (own8_any d c s sval _); iexact H8
  isplitl [H9]
  · unfold filled
    icases H9 with ⟨%g, %hg, H9⟩
    iexists g
    isplitr
    · ipureintro
      intro x hx _
      have h := hg _ (rk_lt (K5 hi lo) hx) (rk_lt (K5 hi lo) hx)
      rw [rk_step (fun x _ => K5_lt hi lo x) hD hx] at h
      rw [← rk_K6 hi lo hx, show rk (K6 hi lo) x = rk (fun y => dg 23#32 (hi y) * 2 ^ 55 + K5 hi lo y) x from rfl, h]
      show wd (gv _).toNat = wd x
      rw [hval x hx]
    iexact H9
  isplitl [H11]
  · unfold filled
    icases H11 with ⟨%g, %hg, H11⟩
    iexists g
    isplitr
    · ipureintro
      intro x hx _
      have h := hg _ (rk_lt (K5 hi lo) hx) (rk_lt (K5 hi lo) hx)
      change g (gv (rk (K5 hi lo) x)).toNat = wd (rk (fun y => dg 23#32 (gh y)) (rk (K5 hi lo) x)) at h
      rw [rk_step (fun x _ => K5_lt hi lo x) hD hx, hval x hx] at h
      show g x = wd (rk (U hi lo) x)
      rw [← rk_K6 hi lo hx, show rk (K6 hi lo) x = rk (fun y => dg 23#32 (hi y) * 2 ^ 55 + K5 hi lo y) x from rfl, ← h]
    iexact H11
  isplitl [HH]; · iexact HH
  iexact Ho

end Passes

end Cert.Proof.Sort

end
-- ==== Proof.Tile.lean ====
/-
  One tile's task: the two words of its row fetched, the six passes, the row's order and its inverse written out. A copy
  and its wait are one step each way (`run_cpIn`, `run_cpOut`).
-/
module

public import proofs.«01_k».proof.Proof.Sort

@[expose] public section

noncomputable section

namespace Cert.Proof.Tile

open Cert.KernelIdeal hiding sig Λ₀ defs₀
open Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix Cert.Proof.Body Cert.Proof.Lanes Cert.Proof.Rules Cert.Proof.Loops Cert.Proof.Digits Cert.Proof.Sort

/-! ## The row's order and its inverse -/

/-- The number of the element at place `j` of the row's order; element `x`'s place. -/
def ordOf (hi lo : Nat → BitVec 32) (j : Nat) : BitVec 32 :=
  open Classical in if h : ∃ x, x < N ∧ rk (U hi lo) x = j then wd h.choose else 0#32
def placeOf (hi lo : Nat → BitVec 32) (x : Nat) : BitVec 32 := wd (rk (U hi lo) x)

theorem ordOf_rk (hi lo : Nat → BitVec 32) {x : Nat} (hx : x < N) : ordOf hi lo (rk (U hi lo) x) = wd x := by
  have h : ∃ y, y < N ∧ rk (U hi lo) y = rk (U hi lo) x := ⟨x, hx, rfl⟩
  unfold ordOf
  rw [dif_pos h, rk_inj (U hi lo) h.choose_spec.1 hx h.choose_spec.2]

/-- Element `x` of row `r` of a whole array, by number. -/
def at16 (r x : Nat) (hr : r < 16) (hx : x < 8192) : S16x8192.Idx := fun | 0 => ⟨r, hr⟩ | 1 => ⟨x, hx⟩
def rowsAt (X : S16x8192.Idx → BitVec 32) (r x : Nat) : BitVec 32 := if h : r < 16 ∧ x < 8192 then X (at16 r x h.1 h.2) else 0#32

variable [Prg] {F : FTy → Type} [FloatOps F]

local notation "𝕄" => MT nD τ sig (HIx 1) (Elt F) ℕ UU ℕ

variable (d : Dev nD) (c : Fin τ.nSC) (s : Fin τ.nSub)

/-! ## Copies -/

/-- What the squeezed row at `o` reads. -/
theorem read_row (a : Big) (o : Fin 2 → Nat) (ho : ∀ x, o x + S1x8192.size x ≤ S16x8192.size x) (h1 : o 1 = 0) (f : a.view.ty.Contents (Elt F)) :
    (row a o ho).view.read (Elt F) f = fun j => rowsAt (a.view.read (Elt F) f) (o 0) (j 0).val := by
  funext j
  show a.view.read (Elt F) f ((Rect.unit (s := S16x8192) o S1x8192.size ho).emb (Shape.reshapeEquiv squeezes_S1x8192_S8192.numel_eq j)) = _
  have e := Shape.reshapeEquiv_cons_one (n := 1) (d := ![8192]) squeezes_S1x8192_S8192.numel_eq j
  unfold rowsAt
  have h0 : o 0 < 16 := by have := ho 0; simp at this; omega
  rw [dif_pos ⟨h0, (j 0).isLt⟩]
  refine congrArg (a.view.read (Elt F) f) ?_
  rw [show Shape.reshapeEquiv squeezes_S1x8192_S8192.numel_eq j = (Fin.cons ⟨0, Nat.one_pos⟩ j : S1x8192.Idx) from e]
  funext x
  apply Fin.ext
  match x with
  | 0 => rw [Rect.emb_apply]; show o 0 + 1 * 0 = o 0; omega
  | 1 => rw [Rect.emb_apply]; show o 1 + 1 * (j 0).val = (j 0).val; omega

theorem run_cpIn (a : Big) (o : Fin 2 → Nat) (ho : ∀ x, o x + S1x8192.size x ≤ S16x8192.size x) (b : M8) (hb : b.IsWhole) (sm : DmaSem sig)
    (X : S8192.Idx → BitVec 32) (O : CellTallies nD τ sig (HIx 1)) (W : Waits sig (HIx 1)) :
    iprop(Transfers.MayWaits (V d c s) none O ∗ owns (V d c s) (row a o ho) fullShare (X : S8192.Idx → Elt F .i32) ∗ any8 d c s b
        ∗ semVal (V d c s, SemLoc.dma sm) 0 ∗ owes (V d c s) O W)
      ⊢ run (F := F) d c s (cpIn a o ho b hb sm) (fun _ => iprop(owns (V d c s) (row a o ho) fullShare (X : S8192.Idx → Elt F .i32)
        ∗ own8 d c s b (num8 X) ∗ semVal (V d c s, SemLoc.dma sm) 0 ∗ owes (V d c s) O (insert (SemLoc.dma sm, none) W))) := by
  unfold cpIn any8 own8 owns
  simp only [Prog.lift, Prog.bind_op, Prog.bind_ret]
  iintro ⟨#Hmw, ⟨%fs, %hfs, Hs⟩, ⟨%g, %fd, %hfd, Hd⟩, Hv, HO⟩
  iapply (Transfers.wp_dmaLocal (EC := countersEmb) (defs := defs₀ (F := F)) 𝒱₀ (V d c s) none none _ rfl
    (View.amount_pos _ _ (show 0 < S8192.numel by decide)) (Finset.Subset.refl _)) $$ [Hs Hd Hv]
  · isplitl [Hs]; · iexact Hs
    isplitl [Hd] <;> iassumption
  iintro HF
  ihave Hm := (Transfers.MayWaits.elim (SemLoc.dma sm)) $$ Hmw
  iapply (Transfers.wp_waitLocalO (EC := countersEmb) (defs := defs₀ (F := F)) 𝒱₀ (V d c s) none none rfl) $$ [HF HO Hm]
  · isplitl [HF]; · iexact HF
    isplitl [HO] <;> iassumption
  iintro ⟨⟨Hd, Hs⟩, Hv, HO⟩
  rw [wp_ret]; imodintro
  isplitl [Hs]
  · iexists fs; isplitr; · ipureintro; exact hfs
    iexact Hs
  isplitl [Hd]
  · iexists _; isplitr
    rotate_left
    · iexact Hd
    ipureintro
    rw [View.read_write_univ, hfs]
    funext j
    exact (num8_val X j).symm
  isplitl [Hv] <;> iassumption

theorem run_cpOut (a : Big) (o : Fin 2 → Nat) (ho : ∀ x, o x + S1x8192.size x ≤ S16x8192.size x) (b : M8) (hb : b.IsWhole) (sm : DmaSem sig)
    (g : Nat → BitVec 32) (O : CellTallies nD τ sig (HIx 1)) (W : Waits sig (HIx 1)) :
    iprop(Transfers.MayWaits (V d c s) none O ∗ (∃ X : S8192.Idx → Elt F .i32, owns (V d c s) (row a o ho) fullShare X) ∗ own8 d c s b g
        ∗ semVal (V d c s, SemLoc.dma sm) 0 ∗ owes (V d c s) O W)
      ⊢ run (F := F) d c s (cpOut a o ho b hb sm) (fun _ => iprop(owns (V d c s) (row a o ho) fullShare (fun j : S8192.Idx => (g (j 0).val : Elt F .i32))
        ∗ own8 d c s b g ∗ semVal (V d c s, SemLoc.dma sm) 0 ∗ owes (V d c s) O (insert (SemLoc.dma sm, none) W))) := by
  unfold cpOut own8 owns
  simp only [Prog.lift, Prog.bind_op, Prog.bind_ret]
  iintro ⟨#Hmw, ⟨%X, %fd, %hfd, Hd⟩, ⟨%fs, %hfs, Hs⟩, Hv, HO⟩
  iapply (Transfers.wp_dmaLocal (EC := countersEmb) (defs := defs₀ (F := F)) 𝒱₀ (V d c s) none none _ rfl
    (View.amount_pos _ _ (show 0 < S8192.numel by decide)) (Finset.Subset.refl _)) $$ [Hs Hd Hv]
  · isplitl [Hs]; · iexact Hs
    isplitl [Hd] <;> iassumption
  iintro HF
  ihave Hm := (Transfers.MayWaits.elim (SemLoc.dma sm)) $$ Hmw
  iapply (Transfers.wp_waitLocalO (EC := countersEmb) (defs := defs₀ (F := F)) 𝒱₀ (V d c s) none none rfl) $$ [HF HO Hm]
  · isplitl [HF]; · iexact HF
    isplitl [HO] <;> iassumption
  iintro ⟨⟨Hd, Hs⟩, Hv, HO⟩
  rw [wp_ret]; imodintro
  isplitl [Hd]
  · iexists _; isplitr
    rotate_left
    · iexact Hd
    ipureintro
    rw [View.read_write_univ, hfs]
  isplitl [Hs]
  · iexists fs; isplitr; · ipureintro; exact hfs
    iexact Hs
  isplitl [Hv] <;> iassumption

theorem filled_ord (M : M8) (hi lo : Nat → BitVec 32) :
    filled (F := F) d c s M (rk (U hi lo)) wd (fun x => x < N) ⊢ own8 d c s M (ordOf hi lo) := by
  have hN := N_eq
  unfold filled
  iintro ⟨%g, %hg, H⟩
  have e : ∀ j, j < 8192 → g j = ordOf hi lo j := fun j hj => by
    obtain ⟨x, hx, rfl⟩ := rk_surj (U hi lo) (show j < N by omega)
    rw [hg x hx hx, ordOf_rk hi lo hx]
  iapply (Entails.of_eq (own8_congr d c s e))
  iexact H

theorem filled_place (M : M8) (hi lo : Nat → BitVec 32) :
    filled (F := F) d c s M id (fun x => wd (rk (U hi lo) x)) (fun x => x < N) ⊢ own8 d c s M (placeOf hi lo) := by
  have hN := N_eq
  unfold filled
  iintro ⟨%g, %hg, H⟩
  have e : ∀ j, j < 8192 → g j = placeOf hi lo j := fun j hj => hg j (by omega) (by omega)
  iapply (Entails.of_eq (own8_congr d c s e))
  iexact H

/-! ## The task -/

section Task

variable (i : grid1.Coords)

/-- The tile that runs at `i`. -/
abbrev cV : Fin τ.nSC := (i 0).castLE hcore1
abbrev jV : Fin τ.nSub := (i 1).castLE hsub1

variable (a2 a3 a4 a5 : Big) (a6 : M8) (h6 : a6.IsWhole) (a7 : M8) (h7 : a7.IsWhole) (a8 : M8) (h8 : a8.IsWhole)
  (a9 a10 a11 a12 : M8) (a13 a14 a15 a16 : M2)
  (r0 r1 r2 r3 : DmaSems sig S_)

/-- The tile's scratch, whatever it holds, and its copies' counters at zero. -/
def scratch : sProp 𝕄 :=
  iprop(any8 (F := F) d (cV i) (jV i) a6 ∗ any8 d (cV i) (jV i) a7 ∗ any8 d (cV i) (jV i) a8 ∗ any8 d (cV i) (jV i) a9
    ∗ any8 d (cV i) (jV i) a10 ∗ any8 d (cV i) (jV i) a11 ∗ any8 d (cV i) (jV i) a12 ∗ hists' d (cV i) (jV i) (four a13 a14 a15 a16))
def zeros : sProp 𝕄 :=
  iprop(semVal (V d (cV i) (jV i), SemLoc.dma r0.sem) 0 ∗ semVal (V d (cV i) (jV i), SemLoc.dma r1.sem) 0
    ∗ semVal (V d (cV i) (jV i), SemLoc.dma r2.sem) 0 ∗ semVal (V d (cV i) (jV i), SemLoc.dma r3.sem) 0)

/-- A tile that holds a row. -/
theorem run_task (h : k1_cond1 i = 1#1) (X Y : S8192.Idx → BitVec 32) (O : CellTallies nD τ sig (HIx 1)) (W : Waits sig (HIx 1)) :
    iprop(Transfers.MayWaits (V d (cV i) (jV i)) none O
        ∗ owns (V d (cV i) (jV i)) (row a2 (k1_off1 i) (k1_off1_inb i h)) fullShare (X : S8192.Idx → Elt F .i32)
        ∗ owns (V d (cV i) (jV i)) (row a3 (k1_off1 i) (k1_off1_inb i h)) fullShare (Y : S8192.Idx → Elt F .i32)
        ∗ (∃ Z : S8192.Idx → Elt F .i32, owns (V d (cV i) (jV i)) (row a4 (k1_off1 i) (k1_off1_inb i h)) fullShare Z)
        ∗ (∃ Z : S8192.Idx → Elt F .i32, owns (V d (cV i) (jV i)) (row a5 (k1_off1 i) (k1_off1_inb i h)) fullShare Z)
        ∗ scratch d i a6 a7 a8 a9 a10 a11 a12 a13 a14 a15 a16 ∗ zeros d i r0 r1 r2 r3 ∗ owes (V d (cV i) (jV i)) O W)
      ⊢ run (F := F) d (cV i) (jV i)
        (task (F := F) i a2 a3 a4 a5 a6 h6 a7 h7 a8 h8 a9 a10 a11 a12 a13 a14 a15 a16 r0 r1 r2 r3)
        (fun _ => iprop(owns (V d (cV i) (jV i)) (row a2 (k1_off1 i) (k1_off1_inb i h)) fullShare (X : S8192.Idx → Elt F .i32)
          ∗ owns (V d (cV i) (jV i)) (row a3 (k1_off1 i) (k1_off1_inb i h)) fullShare (Y : S8192.Idx → Elt F .i32)
          ∗ owns (V d (cV i) (jV i)) (row a4 (k1_off1 i) (k1_off1_inb i h)) fullShare (fun j : S8192.Idx => (ordOf (num8 X) (num8 Y) (j 0).val : Elt F .i32))
          ∗ owns (V d (cV i) (jV i)) (row a5 (k1_off1 i) (k1_off1_inb i h)) fullShare (fun j : S8192.Idx => (placeOf (num8 X) (num8 Y) (j 0).val : Elt F .i32))
          ∗ scratch d i a6 a7 a8 a9 a10 a11 a12 a13 a14 a15 a16 ∗ zeros d i r0 r1 r2 r3
          ∗ ∃ W', ⌜∀ p ∈ W', p ∈ W ∨ p.2 = none⌝ ∗ owes (V d (cV i) (jV i)) O W')) := by
  unfold task
  rw [dif_pos h]
  unfold scratch zeros
  iintro ⟨#Hmw, Hx, Hy, Hp, Hr, ⟨H6, H7, H8, H9, H10, H11, Ho, HH⟩, ⟨S0, S1, S2, S3⟩, HO⟩
  iapply (run_then d (cV i) (jV i) (run_cpIn d (cV i) (jV i) a2 (k1_off1 i) (k1_off1_inb i h) a6 h6 r0.sem X O W) _ _) $$ [Hx H6 S0 HO]
  · isplitr; · iexact Hmw
    isplitl [Hx]; · iexact Hx
    isplitl [H6]; · iexact H6
    isplitl [S0] <;> iassumption
  iintro %_ ⟨Hx, H6, S0, HO⟩
  iapply (run_then d (cV i) (jV i) (run_cpIn d (cV i) (jV i) a3 (k1_off1 i) (k1_off1_inb i h) a7 h7 r1.sem Y O _) _ _) $$ [Hy H7 S1 HO]
  · isplitr; · iexact Hmw
    isplitl [Hy]; · iexact Hy
    isplitl [H7]; · iexact H7
    isplitl [S1] <;> iassumption
  iintro %_ ⟨Hy, H7, S1, HO⟩
  iapply (run_then d (cV i) (jV i) (run_p0 d (cV i) (jV i) (num8 X) (num8 Y) (cH0 i h) (cD0 i h) (cR0 i h) (four a13 a14 a15 a16) a12 a6 a7 a9 a10 a11) _ _)
    $$ [H6 H7 H9 H10 H11 HH Ho]
  · isplitl [H6]; · iexact H6
    isplitl [H7]; · iexact H7
    isplitl [H9]; · iexact H9
    isplitl [H10]; · iexact H10
    isplitl [H11]; · iexact H11
    isplitl [HH] <;> iassumption
  iintro %_ ⟨H6, H7, H9, H10, H11, HH, Ho⟩
  iapply (run_then d (cV i) (jV i) (run_p1 d (cV i) (jV i) (num8 X) (num8 Y) (cH1 i h) (cD1 i h) (cR1 i h) (four a13 a14 a15 a16) a12 a6 a7 a8 a9 a10 a11) _ _)
    $$ [H6 H7 H8 H9 H10 H11 HH Ho]
  · isplitl [H9]; · iexact H9
    isplitl [H10]; · iexact H10
    isplitl [H11]; · iexact H11
    isplitl [H6]; · iexact H6
    isplitl [H7]; · iexact H7
    isplitl [H8]; · iexact H8
    isplitl [HH] <;> iassumption
  iintro %_ ⟨H9, H10, H11, H6, H7, H8, HH, Ho⟩
  iapply (run_then d (cV i) (jV i) (run_p2 d (cV i) (jV i) (num8 X) (num8 Y) (cH2 i h) (cD2 i h) (cR2 i h) (four a13 a14 a15 a16) a12 a6 a7 a8 a9 a11) _ _)
    $$ [H6 H7 H8 H9 H11 HH Ho]
  · isplitl [H6]; · iexact H6
    isplitl [H7]; · iexact H7
    isplitl [H8]; · iexact H8
    isplitl [H9]; · iexact H9
    isplitl [H11]; · iexact H11
    isplitl [HH] <;> iassumption
  iintro %_ ⟨H6, H7, H8, H9, H11, HH, Ho⟩
  iapply (run_then d (cV i) (jV i) (run_pm d (cV i) (jV i) (num8 X) (cH3 i h) (cD3 i h) (cR3 i h) (four a13 a14 a15 a16) a12 1#32
      (fun x _ => K3_lt (num8 X) (num8 Y) x) a9 a11 a6 a8) _ _) $$ [H6 H8 H9 H11 HH Ho]
  · isplitl [H9]; · iexact H9
    isplitl [H11]; · iexact H11
    isplitl [H6]; · iexact H6
    isplitl [H8]; · iexact H8
    isplitl [HH] <;> iassumption
  iintro %_ ⟨H9, H11, H6, H8, HH, Ho⟩
  iapply (run_then d (cV i) (jV i) (run_pm d (cV i) (jV i) (num8 X) (cH4 i h) (cD4 i h) (cR4 i h) (four a13 a14 a15 a16) a12 12#32
      (K := K4 (num8 X) (num8 Y)) (fun x _ => K4_lt (num8 X) (num8 Y) x) a6 a8 a9 a11) _ _) $$ [H6 H8 H9 H11 HH Ho]
  · isplitl [H6]; · iexact H6
    isplitl [H8]; · iexact H8
    isplitl [H9]; · iexact H9
    isplitl [H11]; · iexact H11
    isplitl [HH] <;> iassumption
  iintro %_ ⟨H6, H8, H9, H11, HH, Ho⟩
  iapply (run_then d (cV i) (jV i) (run_p5 d (cV i) (jV i) (num8 X) (num8 Y) (cH5 i h) (cD5 i h) (cR5 i h) (four a13 a14 a15 a16) a12 (cV5 i h)
      a9 a11 a8 a6) _ _) $$ [H6 H8 H9 H11 HH Ho]
  · isplitl [H9]; · iexact H9
    isplitl [H11]; · iexact H11
    isplitl [H8]; · iexact H8
    isplitl [H6]; · iexact H6
    isplitl [HH] <;> iassumption
  iintro %_ ⟨H9, H11, H8, H6, HH, Ho⟩
  ihave H8 := (filled_ord d (cV i) (jV i) a8 (num8 X) (num8 Y)) $$ H8
  ihave H6 := (filled_place d (cV i) (jV i) a6 (num8 X) (num8 Y)) $$ H6
  iapply (run_then d (cV i) (jV i) (run_cpOut d (cV i) (jV i) a4 (k1_off1 i) (k1_off1_inb i h) a8 h8 r2.sem (ordOf (num8 X) (num8 Y)) O _) _ _) $$ [Hp H8 S2 HO]
  · isplitr; · iexact Hmw
    isplitl [Hp]; · iexact Hp
    isplitl [H8]; · iexact H8
    isplitl [S2] <;> iassumption
  iintro %_ ⟨Hp, H8, S2, HO⟩
  iapply (wp_wand_r frame (wpE (defs₀ (F := F)) 𝒱₀ (V d (cV i) (jV i)) none) Set.univ)
  isplitl [Hr H6 S3 HO]
  · iapply (run_cpOut d (cV i) (jV i) a5 (k1_off1 i) (k1_off1_inb i h) a6 h6 r3.sem (placeOf (num8 X) (num8 Y)) O _)
    isplitr; · iexact Hmw
    isplitl [Hr]; · iexact Hr
    isplitl [H6]; · iexact H6
    isplitl [S3] <;> iassumption
  iintro %_ ⟨Hr, H6, S3, HO⟩
  isplitl [Hx]; · iexact Hx
  isplitl [Hy]; · iexact Hy
  isplitl [Hp]; · iexact Hp
  isplitl [Hr]; · iexact Hr
  isplitl [H6 H7 H8 H9 H10 H11 HH Ho]
  · isplitl [H6]; · iapply (own8_any d (cV i) (jV i) a6 _); iexact H6
    isplitl [H7]; · iexact H7
    isplitl [H8]; · iapply (own8_any d (cV i) (jV i) a8 _); iexact H8
    isplitl [H9]; · iexact H9
    isplitl [H10]; · iexact H10
    isplitl [H11]; · iexact H11
    isplitl [Ho] <;> iassumption
  isplitl [S0 S1 S2 S3]
  · isplitl [S0]; · iexact S0
    isplitl [S1]; · iexact S1
    isplitl [S2] <;> iassumption
  iexists _
  isplitr
  rotate_left
  · iexact HO
  ipureintro
  intro p hp
  simp only [Finset.mem_insert] at hp
  rcases hp with rfl | rfl | rfl | rfl | hp
  · exact .inr rfl
  · exact .inr rfl
  · exact .inr rfl
  · exact .inr rfl
  · exact .inl hp

/-- A tile that holds none: nothing to do. -/
theorem run_idle (h : ¬ k1_cond1 i = 1#1) (Q : sProp 𝕄) :
    Q ⊢ run (F := F) d (cV i) (jV i)
        (task (F := F) i a2 a3 a4 a5 a6 h6 a7 h7 a8 h8 a9 a10 a11 a12 a13 a14 a15 a16 r0 r1 r2 r3)
        (fun _ => Q) := by
  unfold task
  rw [dif_neg h]
  exact run_pure (F := F) d (cV i) (jV i) PUnit.unit (fun _ => Q)

end Task

end Cert.Proof.Tile

end
-- ==== Proof.Rows.lean ====
/-
  The sixteen rows of an array, and the tile that holds each. `tile_task` is a tile's task from its row to its row sorted,
  whatever the program's arrays and scratch are.
-/
module

public import proofs.«01_k».proof.Proof.Tile

@[expose] public section

noncomputable section

namespace Cert.Proof.Rows

open Cert.KernelIdeal hiding sig Λ₀ defs₀
open Cert.KernelIdeal.Gen
open Idealize.ShloMosaic
open Idealize.ShloMosaic.SparseCore (V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix Cert.Proof.Body Cert.Proof.Lanes Cert.Proof.Rules Cert.Proof.Loops Cert.Proof.Digits Cert.Proof.Sort Cert.Proof.Tile

/-! ## Rows -/

/-- An array of sixteen rows of words. -/
abbrev Arr : Type := S16x8192.Idx → BitVec 32

theorem hdiv : 16 ∣ S16x8192.size 0 := ⟨1, rfl⟩
abbrev rowR (i : Fin 16) : Rect S16x8192 := Rect.part (s := S16x8192) (a₀ := 0) hdiv i
abbrev rowSet (i : Fin 16) : Finset S16x8192.Idx := (rowR i).set

theorem rows_disjoint : ∀ i ∈ (Finset.univ : Finset (Fin 16)), ∀ j ∈ (Finset.univ : Finset (Fin 16)), i ≠ j → Disjoint (rowSet i) (rowSet j) :=
  fun _ _ _ _ h => Rect.part_disjoint hdiv h
theorem rows_cover : (Finset.univ : Finset (Fin 16)).biUnion rowSet = Finset.univ := Rect.biUnion_part hdiv

/-- The row of the tile at `i`. -/
abbrev rowNo (i : grid1.Coords) : Nat := 2 * (i 1).val + (i 0).val

/-- The tile of a core, as the grid names it. -/
def coords (c : Fin (grid1.bound 0)) (s : Fin (grid1.bound 1)) : grid1.Coords := fun
  | 0 => c
  | 1 => s
  | ⟨_ + 2, h⟩ => absurd h (Nat.not_lt.2 (Nat.le_add_left _ _))

theorem holds_row : ∀ i : grid1.Coords, k1_cond1 i = 1#1 ↔ rowNo i < 16 := by decide +kernel

theorem rect_row (i : grid1.Coords) (h : rowNo i < 16) (ho : ∀ x, k1_off1 i x + S1x8192.size x ≤ S16x8192.size x) :
    Rect.unit (s := S16x8192) (k1_off1 i) S1x8192.size ho = rowR ⟨rowNo i, h⟩ := by
  unfold rowR Rect.part Rect.block
  congr 1 <;> funext a
  · rw [k1_off1_eq]
    match a with
    | 0 => simp [Shape.partIx, Shape.partSize]
    | 1 => simp [Shape.partIx, Shape.partSize]
  · match a with
    | 0 => simp [Shape.partSize]
    | 1 => simp [Shape.partSize]

/-! ## The orders of the rows -/

/-- The orders of the rows, and their inverses. -/
def ordArr (H L : Arr) : Arr := fun x => ordOf (rowsAt H (x 0).val) (rowsAt L (x 0).val) (x 1).val
def placeArr (H L : Arr) : Arr := fun x => placeOf (rowsAt H (x 0).val) (rowsAt L (x 0).val) (x 1).val

theorem num8_rows (H : Arr) (r : Nat) : num8 (fun j : S8192.Idx => rowsAt H r (j 0).val) = rowsAt H r := by
  funext x
  unfold num8
  by_cases hx : x < 8192
  · rw [dif_pos hx]; rfl
  · rw [dif_neg hx]; unfold rowsAt; rw [dif_neg (fun h => hx h.2)]
theorem rows_ord (H L : Arr) {r : Nat} (hr : r < 16) (j : S8192.Idx) : rowsAt (ordArr H L) r (j 0).val = ordOf (rowsAt H r) (rowsAt L r) (j 0).val := by
  have hj : (j 0).val < 8192 := (j 0).isLt
  conv_lhs => unfold rowsAt
  rw [dif_pos ⟨hr, hj⟩]; rfl
theorem rows_place (H L : Arr) {r : Nat} (hr : r < 16) (j : S8192.Idx) : rowsAt (placeArr H L) r (j 0).val = placeOf (rowsAt H r) (rowsAt L r) (j 0).val := by
  have hj : (j 0).val < 8192 := (j 0).isLt
  conv_lhs => unfold rowsAt
  rw [dif_pos ⟨hr, hj⟩]; rfl

/-- The two cores' tiles, by row. -/
theorem num_inj : Set.InjOn (fun x : Fin 2 × Fin 16 => 2 * x.2.val + x.1.val) (Finset.univ : Finset (Fin 2 × Fin 16)) := by
  intro x _ y _ e
  have := x.1.isLt; have := y.1.isLt
  refine Prod.ext (Fin.ext ?_) (Fin.ext ?_) <;> simp only at e <;> omega

theorem num_image : (Finset.univ : Finset (Fin 2 × Fin 16)).image (fun x => 2 * x.2.val + x.1.val) = Finset.range 32 := by decide

variable [Prg] {F : FTy → Type} [FloatOps F]

local notation "𝕄" => MT nD τ sig (HIx 1) (Elt F) ℕ UU ℕ

/-! ## A row of a view -/

theorem set_row (a : Big) (i : grid1.Coords) (h : rowNo i < 16) (ho : ∀ x, k1_off1 i x + S1x8192.size x ≤ S16x8192.size x) :
    (row a (k1_off1 i) ho).view.set = (rowSet ⟨rowNo i, h⟩).map a.view.emb := by
  show ((a.view.slice (Rect.unit (s := S16x8192) (k1_off1 i) S1x8192.size ho)).reshape S8192 squeezes_S1x8192_S8192.numel_eq).set = _
  rw [View.set_reshape]
  exact (View.set_slice _ _).trans (congrArg (fun r : Rect S16x8192 => r.set.map a.view.emb) (rect_row i h ho))

/-- A view held at what `G` reads there is held at `G`. -/
theorem of_owns {thr : Thread nD τ} {sp : Space} {sh : Shape} {e : EltTy} (v : Memref sig thr.2.kind sp sh e) (G : v.view.ty.Contents (Elt F)) (X : sh.Idx → Elt F e)
    (hX : v.view.read (Elt F) G = X) :
    owns thr v fullShare X ⊢ (v.view.loc thr ↦[v.view.set]{fullShare} G : sProp 𝕄) := by
  unfold owns
  iintro ⟨%f, %hf, H⟩
  have e : ∀ x ∈ v.view.set, f x = G x := by
    intro x hx
    obtain ⟨j, -, rfl⟩ := Finset.mem_map.mp hx
    have := congrFun (hf.trans hX.symm) j
    rw [View.read_apply, View.read_apply] at this
    exact (cast_inj _).mp this
  iapply (Entails.of_eq (pointsTo_congr e))
  iexact H

/-- Rows' contents by number, and number by contents. -/
theorem any8_eq (d : Dev nD) (c : Fin τ.nSC) (s : Fin τ.nSub) (M : M8) :
    (any8 d c s M : sProp 𝕄) = iprop(∃ f : S8192.Idx → Elt F .i32, owns (V d c s) M fullShare f) := by
  have h₁ : any8 d c s M ⊢ (iprop(∃ f : S8192.Idx → Elt F .i32, owns (V d c s) M fullShare f) : sProp 𝕄) := by
    unfold any8 own8; iintro ⟨%g, H⟩; iexists _; iexact H
  have h₂ : iprop(∃ f : S8192.Idx → Elt F .i32, owns (V d c s) M fullShare f) ⊢ (any8 d c s M : sProp 𝕄) := by
    unfold any8 own8; iintro ⟨%f, H⟩; iexists (num8 f)
    have e : (fun j : S8192.Idx => (num8 f (j 0).val : Elt F .i32)) = f := funext fun j => num8_val f j
    iapply (Entails.of_eq (congrArg (fun X => (owns (V d c s) M fullShare X : sProp 𝕄)) e.symm))
    iexact H
  exact BI.equiv_iff.mp ⟨h₁, h₂⟩
theorem any2_eq (d : Dev nD) (c : Fin τ.nSC) (s : Fin τ.nSub) (M : M2) :
    (any2 d c s M : sProp 𝕄) = iprop(∃ f : S2048.Idx → Elt F .i32, owns (V d c s) M fullShare f) := by
  have h₁ : any2 d c s M ⊢ (iprop(∃ f : S2048.Idx → Elt F .i32, owns (V d c s) M fullShare f) : sProp 𝕄) := by
    unfold any2 own2; iintro ⟨%g, H⟩; iexists _; iexact H
  have h₂ : iprop(∃ f : S2048.Idx → Elt F .i32, owns (V d c s) M fullShare f) ⊢ (any2 d c s M : sProp 𝕄) := by
    unfold any2 own2; iintro ⟨%f, H⟩; iexists (num2 f)
    have e : (fun j : S2048.Idx => (num2 f (j 0).val : Elt F .i32)) = f := funext fun j => num2_val f j
    iapply (Entails.of_eq (congrArg (fun X => (owns (V d c s) M fullShare X : sProp 𝕄)) e.symm))
    iexact H
  exact BI.equiv_iff.mp ⟨h₁, h₂⟩

theorem hists'_four (d : Dev nD) (c : Fin τ.nSC) (s : Fin τ.nSub) (a₀ a₁ a₂ a₃ : M2) :
    hists' d c s (four a₀ a₁ a₂ a₃) = (iprop(any2 d c s a₀ ∗ any2 d c s a₁ ∗ any2 d c s a₂ ∗ any2 d c s a₃) : sProp 𝕄) := rfl

/-! ## Rows by core and tile -/

theorem nothing {I : Type} (s : Finset I) : (bigSep s fun _ => iprop(emp)) = (iprop(emp) : sProp 𝕄) := bigSep_emp_const s
theorem together {I : Type} (s : Finset I) (Φ Ψ : I → sProp 𝕄) : iprop(bigSep s Φ ∗ bigSep s Ψ) = bigSep s fun i => iprop(Φ i ∗ Ψ i) := (bigSep_sep s Φ Ψ).symm

theorem rows_all (A : Nat → sProp 𝕄) (hA : ∀ r, ¬ r < 16 → A r = iprop(emp)) :
    (bigSep Finset.univ fun c : Fin 2 => bigSep Finset.univ fun i : Fin 16 => A (2 * i.val + c.val))
      = bigSep Finset.univ fun r : Fin 16 => A r.val := by
  have h1 : (bigSep Finset.univ fun c : Fin 2 => bigSep Finset.univ fun i : Fin 16 => A (2 * i.val + c.val)) = bigSep (Finset.range 32) A := by
    rw [← num_image, bigSep_image_of_injOn num_inj]
    exact (bigSep_univ_prod (fun x : Fin 2 × Fin 16 => A (2 * x.2.val + x.1.val))).symm
  have h2 : bigSep (Finset.range 32) A = bigSep (Finset.range 16) A := by
    rw [SparseCore.bigSep_sdiff_split' (t := Finset.range 16) (by decide),
      bigSep_congr (s := Finset.range 32 \ Finset.range 16) (Ψ := fun _ => iprop(emp)) (fun r hr => hA r (by
        simp only [Finset.mem_sdiff, Finset.mem_range] at hr; exact hr.2)), nothing]
    exact BI.equiv_iff.mp BI.sep_emp
  have h3 : (bigSep Finset.univ fun r : Fin 16 => A r.val) = bigSep (Finset.range 16) A := by
    rw [show Finset.range 16 = (Finset.univ : Finset (Fin 16)).image (fun r => r.val) by decide,
      bigSep_image_of_injOn (fun a _ b _ e => Fin.ext e)]
  rw [h1, h2, h3]

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## A tile's task -/

section Task

variable (d : Dev nD) (i : grid1.Coords) (h : rowNo i < 16)

/-- The tile's row of an array, through its own view of it. -/
def rowV (a : Big) (X : Arr) : sProp 𝕄 :=
  owns (V d (cV i) (jV i)) (row a (k1_off1 i) (k1_off1_inb i ((holds_row i).mpr h))) fullShare (fun j : S8192.Idx => (rowsAt X (rowNo i) (j 0).val : Elt F .i32))

theorem rowV_in (a : Big) (G : a.view.ty.Contents (Elt F)) {S : Finset a.view.ty.shape.Idx} (e : (rowSet ⟨rowNo i, h⟩).map a.view.emb = S) :
    (a.view.loc (V d (cV i) (jV i)) ↦[S]{fullShare} G : sProp 𝕄) ⊢ rowV d i h a (a.view.read (Elt F) G) := by
  have h1 : k1_off1 i 1 = 0 := by rw [k1_off1_eq]; rfl
  have h0 : k1_off1 i 0 = rowNo i := by rw [k1_off1_eq]; rfl
  have g : _ ⊢ (owns (V d (cV i) (jV i)) (row a (k1_off1 i) (k1_off1_inb i ((holds_row i).mpr h))) fullShare
    ((row a (k1_off1 i) (k1_off1_inb i ((holds_row i).mpr h))).view.read (Elt F) G) : sProp 𝕄) := owns_intro _ _ _ _
  rw [read_row _ _ _ h1, h0, set_row a i h, e] at g
  exact g

theorem rowV_out (a : Big) (G : a.view.ty.Contents (Elt F)) {S : Finset a.view.ty.shape.Idx} (e : (rowSet ⟨rowNo i, h⟩).map a.view.emb = S) :
    rowV d i h a (a.view.read (Elt F) G) ⊢ (a.view.loc (V d (cV i) (jV i)) ↦[S]{fullShare} G : sProp 𝕄) := by
  have h1 : k1_off1 i 1 = 0 := by rw [k1_off1_eq]; rfl
  have h0 : k1_off1 i 0 = rowNo i := by rw [k1_off1_eq]; rfl
  have g := of_owns (F := F) (thr := V d (cV i) (jV i)) (row a (k1_off1 i) (k1_off1_inb i ((holds_row i).mpr h))) G _
    ((read_row _ _ _ h1 _).trans (by rw [h0]))
  rw [set_row a i h, e] at g
  exact g

variable (a2 a3 a4 a5 : Big) (a6 : M8) (h6 : a6.IsWhole) (a7 : M8) (h7 : a7.IsWhole) (a8 : M8) (h8 : a8.IsWhole)
  (a9 a10 a11 a12 : M8) (a13 a14 a15 a16 : M2) (r0 r1 r2 r3 : DmaSems sig S_)

/-- The tile's row of the four arrays. -/
def held (H L P R : Arr) : sProp 𝕄 := iprop(rowV d i h a2 H ∗ rowV d i h a3 L ∗ rowV d i h a4 P ∗ rowV d i h a5 R)

omit h in
/-- The tile at `i` from its row to its row sorted, where `A` and `A'` hold the row and `B` and `Z` the tile's scratch and
    counters. -/
theorem tile_task (H L P R : Arr) {A A' B B' Z Z' : sProp 𝕄} (hin : ∀ h, A ⊢ held d i h a2 a3 a4 a5 H L P R)
    (hout : ∀ h, held d i h a2 a3 a4 a5 H L (ordArr H L) (placeArr H L) ⊢ A') (hno : ¬ rowNo i < 16 → A' = iprop(emp))
    (hB : B = iprop(scratch d i a6 a7 a8 a9 a10 a11 a12 a13 a14 a15 a16 ∗ B')) (hZ : Z = iprop(zeros d i r0 r1 r2 r3 ∗ Z'))
    (O : CellTallies nD τ sig (HIx 1)) (W : Waits sig (HIx 1)) :
    iprop(Transfers.MayWaits (V d (cV i) (jV i)) none O ∗ A ∗ B ∗ Z ∗ owes (V d (cV i) (jV i)) O W)
      ⊢ run d (cV i) (jV i) (task (F := F) i a2 a3 a4 a5 a6 h6 a7 h7 a8 h8 a9 a10 a11 a12 a13 a14 a15 a16 r0 r1 r2 r3)
        (fun _ => iprop(A' ∗ B ∗ Z ∗ ∃ W', ⌜∀ p ∈ W', p ∈ W ∨ p.2 = none⌝ ∗ owes (V d (cV i) (jV i)) O W')) := by
  by_cases hc : k1_cond1 i = 1#1
  · have h := (holds_row i).mp hc
    have hin := hin h
    have hout := hout h
    unfold held rowV at hin hout
    rw [hB, hZ]
    iintro ⟨Hmw, Hrow, ⟨Hs, Hbufs⟩, ⟨Hz, Hsems⟩, HO⟩
    ihave Hrow := hin $$ Hrow
    icases Hrow with ⟨HH, HL, HP, HR⟩
    have key := run_task (F := F) d i a2 a3 a4 a5 a6 h6 a7 h7 a8 h8 a9 a10 a11 a12 a13 a14 a15 a16 r0 r1 r2 r3
      hc (fun j => rowsAt H (rowNo i) (j 0).val) (fun j => rowsAt L (rowNo i) (j 0).val) O W
    rw [num8_rows, num8_rows] at key
    iapply (wp_wand frame (wpE (defs₀ (F := F)) 𝒱₀ (V d (cV i) (jV i)) none) Set.univ) $$ [Hmw HH HL HP HR Hs Hz HO]
    · iapply key
      isplitl [Hmw]; · iexact Hmw
      isplitl [HH]; · iexact HH
      isplitl [HL]; · iexact HL
      isplitl [HP]; · iexists _; iexact HP
      isplitl [HR]; · iexists _; iexact HR
      isplitl [Hs]; · iexact Hs
      isplitl [Hz] <;> iassumption
    iintro %_ ⟨HH, HL, HP, HR, Hs, Hz, HO⟩
    isplitl [HH HL HP HR]
    · iapply hout
      isplitl [HH]; · iexact HH
      isplitl [HL]; · iexact HL
      simp only [rows_ord H L h, rows_place H L h]
      isplitl [HP] <;> iassumption
    isplitl [Hs Hbufs]
    · isplitl [Hs] <;> iassumption
    isplitl [Hz Hsems]
    · isplitl [Hz] <;> iassumption
    iexact HO
  · rw [hno fun h => hc ((holds_row i).mpr h)]
    iintro ⟨-, -, HB, HZ, HO⟩
    iapply (run_idle (F := F) d i _ _ _ _ _ _ _ _ _ _ _ _ _ _ _ _ _ _ _ _ _ _ hc _)
    isplitr; · iempintro
    isplitl [HB]; · iexact HB
    isplitl [HZ]; · iexact HZ
    iexists W; isplitr
    · ipureintro; exact fun p hp => .inl hp
    · iexact HO

end Task

end Cert.Proof.Rows

end
-- ==== Proof.Tiles.lean ====
/-
  What each tile is handed and hands back: its row of the four arrays. A tile's own scratch and counters are named one by
  one (`ownBufs_V`, `ownSems0_V`), so that `tile_task` applies (`tile_body`).
-/
module

public import proofs.«01_k».proof.Proof.Rows
public import proofs.«01_k».proof.Proof.Text

@[expose] public section

noncomputable section

namespace Cert.Proof.Tiles

open Cert.KernelIdeal Cert.KernelIdeal.Gen
open Idealize.ShloMosaic
open Idealize.ShloMosaic.SparseCore (V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Body hiding sig Λ₀ defs₀
open Cert.Proof.Rules Cert.Proof.Sort Cert.Proof.Tile Cert.Proof.Rows Cert.Proof.Text

variable {F : FTy → Type} [FloatOps F]

local notation "𝕄" => MT nD τ sig (HIx 1) (Elt F) ℕ UU ℕ

/-! ## The arrays -/

abbrev hA : Big := Memref.whole main_v3_scv
abbrev lA : Big := Memref.whole main_v4_scv
abbrev pA : Big := Memref.whole main_v5_0_scv
abbrev rA : Big := Memref.whole main_v5_1_scv
abbrev hLoc (d : Dev nD) : Loc nD τ sig := (SparseCore.T d).loc main_v3
abbrev lLoc (d : Dev nD) : Loc nD τ sig := (SparseCore.T d).loc main_v4
abbrev pLoc (d : Dev nD) : Loc nD τ sig := (SparseCore.T d).loc main_v5_0
abbrev rLoc (d : Dev nD) : Loc nD τ sig := (SparseCore.T d).loc main_v5_1

/-! ## A tile's own scratch and counters -/

def scr : Fin 11 → Ref sig .scVector :=
  ![cc1_scratch0, cc1_scratch1, cc1_scratch2, cc1_scratch3, cc1_scratch4, cc1_scratch5, cc1_scratch6, cc1_scratch7, cc1_scratch8, cc1_scratch9, cc1_scratch10]
def sems : Fin 4 → DmaSem sig := ![cc1_scoped0.sem, cc1_scoped1.sem, cc1_scoped2.sem, cc1_scoped3.sem]

theorem scr_inj : Function.Injective scr := by decide
theorem sems_inj : Function.Injective sems := by decide
theorem sems_own : ∀ k, (SemLoc.dma (sems k) : SemLoc sig).isScoped .scVector = true := by decide
theorem scr_own (c : Fin τ.nSC) (s : Fin τ.nSub) : ∀ k, ((Proc.scVector c s).devRef (scr k)).owner = .proc (Proc.scVector c s) := by
  intro k; fin_cases k <;> rfl

section Own

variable (d : Dev nD) (i : grid1.Coords)

abbrev myScratch : sProp 𝕄 :=
  scratch d i (Memref.whole cc1_scratch0) (Memref.whole cc1_scratch1) (Memref.whole cc1_scratch2) (Memref.whole cc1_scratch3) (Memref.whole cc1_scratch4)
    (Memref.whole cc1_scratch5) (Memref.whole cc1_scratch6) (Memref.whole cc1_scratch7) (Memref.whole cc1_scratch8) (Memref.whole cc1_scratch9) (Memref.whole cc1_scratch10)
abbrev myZeros : sProp 𝕄 := zeros d i cc1_scoped0 cc1_scoped1 cc1_scoped2 cc1_scoped3

def restBufs : Finset (DevRef τ sig) :=
  ownRefs (Proc.scVector (cV i) (jV i)) \ Finset.univ.image fun k => (Proc.scVector (cV i) (jV i)).devRef (scr k)
def restSems : Finset (GSem nD τ sig) :=
  ownCells (V d (cV i) (jV i)) \ Finset.univ.image fun k => ((V d (cV i) (jV i), SemLoc.dma (sems k)) : GSem nD τ sig)

theorem scratch_eq : (myScratch d i : sProp 𝕄)
    = bigSep Finset.univ fun k => iprop(∃ f, (V d (cV i) (jV i)).loc (scr k) ↦{fullShare} f) := by
  rw [show (Finset.univ : Finset (Fin 11)) = {0, 1, 2, 3, 4, 5, 6, 7, 8, 9, 10} by decide]
  repeat rw [SparseCore.bigSep_insert' (by decide)]
  rw [bigSep_singleton]
  unfold myScratch scratch
  rw [hists'_four]
  simp only [any8_eq, any2_eq]
  simp only [owns_whole]
  rfl

theorem ownBufs_V : (ownBufs (V d (cV i) (jV i)) : sProp 𝕄)
    = iprop(myScratch d i ∗ bigSep (restBufs i) fun b => iprop(∃ f, ((d, b) : Loc nD τ sig) ↦{fullShare} f)) := by
  unfold SparseCore.Cfg.ownBufs restBufs
  rw [scratch_eq]
  refine (SparseCore.bigSep_sdiff_split' (t := Finset.univ.image fun k => (Proc.scVector (cV i) (jV i)).devRef (scr k)) ?_).trans ?_
  · intro b hb
    obtain ⟨k, -, rfl⟩ := Finset.mem_image.mp hb
    exact SparseCore.Cfg.mem_ownRefs_of_owner (scr_own _ _ k)
  · rw [bigSep_image_of_injOn (fun a _ b _ e => scr_inj (Proc.devRef_injective _ e))]

theorem ownSems0_V : (ownSems0 (V d (cV i) (jV i)) : sProp 𝕄)
    = iprop(myZeros d i ∗ bigSep (restSems d i) fun g => semVal g 0) := by
  unfold SparseCore.Cfg.ownSems0 restSems
  refine (SparseCore.bigSep_sdiff_split' (t := Finset.univ.image fun k => ((V d (cV i) (jV i), SemLoc.dma (sems k)) : GSem nD τ sig)) ?_).trans ?_
  · intro b hb
    obtain ⟨k, -, rfl⟩ := Finset.mem_image.mp hb
    refine mem_ownCells.mpr ⟨rfl, ?_⟩
    exact sems_own k
  · rw [bigSep_image_of_injOn (fun a _ b _ e => sems_inj (by simpa using e)),
      show (Finset.univ : Finset (Fin 4)) = {0, 1, 2, 3} by decide]
    repeat rw [SparseCore.bigSep_insert' (by decide)]
    rw [bigSep_singleton]
    rfl

end Own

/-! ## A tile's row, in and out -/

/-- Row `r` of the four arrays: the two words at `H`, `L`, the results at `P`, `R`; nothing where there is no row `r`. -/
def forRow (d : Dev nD) (r : Nat) (H L P R : Arr) : sProp 𝕄 :=
  if h : r < 16 then
    iprop((hLoc d ↦[rowSet ⟨r, h⟩]{fullShare} (H : Buf (Elt F) (hLoc d))) ∗ (lLoc d ↦[rowSet ⟨r, h⟩]{fullShare} (L : Buf (Elt F) (lLoc d)))
      ∗ (pLoc d ↦[rowSet ⟨r, h⟩]{fullShare} (P : Buf (Elt F) (pLoc d))) ∗ (rLoc d ↦[rowSet ⟨r, h⟩]{fullShare} (R : Buf (Elt F) (rLoc d))))
  else iprop(emp)

section Task

variable (d : Dev nD) (i : grid1.Coords)

/-- What the tile at `i` runs. -/
abbrev body : Prog (Eff F (cV i) (jV i)) PUnit :=
  cc1__sort_body (F := F) i hA (Memref.isWhole_whole _) lA (Memref.isWhole_whole _) pA (Memref.isWhole_whole _) rA (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    (Memref.whole cc1_scratch6) (Memref.isWhole_whole _) (Memref.whole cc1_scratch7) (Memref.isWhole_whole _) (Memref.whole cc1_scratch8) (Memref.isWhole_whole _)
    (Memref.whole cc1_scratch9) (Memref.isWhole_whole _) (Memref.whole cc1_scratch10) (Memref.isWhole_whole _) cc1_scoped0 cc1_scoped1 cc1_scoped2 cc1_scoped3

theorem row_in (h : rowNo i < 16) (H L P R : Arr) : forRow d (rowNo i) H L P R ⊢ (held d i h hA lA pA rA H L P R : sProp 𝕄) := by
  unfold forRow held; rw [dif_pos h]
  exact BI.sep_mono (rowV_in d i h hA H Finset.map_refl) (BI.sep_mono (rowV_in d i h lA L Finset.map_refl)
    (BI.sep_mono (rowV_in d i h pA P Finset.map_refl) (rowV_in d i h rA R Finset.map_refl)))

theorem row_out (h : rowNo i < 16) (H L P R : Arr) : (held d i h hA lA pA rA H L P R : sProp 𝕄) ⊢ forRow d (rowNo i) H L P R := by
  unfold forRow held; rw [dif_pos h]
  exact BI.sep_mono (rowV_out d i h hA H Finset.map_refl) (BI.sep_mono (rowV_out d i h lA L Finset.map_refl)
    (BI.sep_mono (rowV_out d i h pA P Finset.map_refl) (rowV_out d i h rA R Finset.map_refl)))

/-- The tile at `i` from its row to its row sorted. -/
theorem tile_body (H L P R : Arr) (O : CellTallies nD τ sig (HIx 1)) (W : Waits sig (HIx 1)) :
    iprop(Transfers.MayWaits (V d (cV i) (jV i)) none O ∗ forRow d (rowNo i) H L P R
        ∗ ownBufs (V d (cV i) (jV i)) ∗ ownSems0 (V d (cV i) (jV i)) ∗ owes (V d (cV i) (jV i)) O W)
      ⊢ run d (cV i) (jV i) (body (F := F) i)
        (fun _ => iprop(forRow d (rowNo i) H L (ordArr H L) (placeArr H L) ∗ ownBufs (V d (cV i) (jV i)) ∗ ownSems0 (V d (cV i) (jV i))
          ∗ ∃ W', ⌜∀ p ∈ W', p ∈ W ∨ p.2 = none⌝ ∗ owes (V d (cV i) (jV i)) O W')) := by
  unfold body
  rw [task_eq]
  exact tile_task d i hA lA pA rA (Memref.whole cc1_scratch0) (Memref.isWhole_whole _) (Memref.whole cc1_scratch1) (Memref.isWhole_whole _)
    (Memref.whole cc1_scratch2) (Memref.isWhole_whole _) (Memref.whole cc1_scratch3) (Memref.whole cc1_scratch4)
    (Memref.whole cc1_scratch5) (Memref.whole cc1_scratch6) (Memref.whole cc1_scratch7) (Memref.whole cc1_scratch8)
    (Memref.whole cc1_scratch9) (Memref.whole cc1_scratch10) cc1_scoped0 cc1_scoped1 cc1_scoped2 cc1_scoped3
    H L P R (fun h => row_in d i h H L P R) (fun h => row_out d i h H L _ _) (fun h => dif_neg h) (ownBufs_V d i) (ownSems0_V d i) O W

end Task

end Cert.Proof.Tiles

end
-- ==== Proof.Call.lean ====
/-
  The TensorCore call inside the whole run: the pipeline's proof data, its body at every grid point (`Block.run_block`),
  the arrays it leaves, and the call as a region that carries what the core owes the SparseCore call.
-/
module

public import proofs.«01_k».proof.Proof.Block
public import proofs.«01_k».proof.Proof.Tiles
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody
public import Idealize.ShloMosaic.Lib.Pipeline.ValueKit

@[expose] public section

noncomputable section

namespace Cert.Proof.Call

open Cert.KernelIdeal Cert.KernelIdeal.Gen Cert.KernelIdeal.Keys
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rules Cert.Proof.Text Cert.Proof.Block
open Facts₀ Facts

variable {F : FTy → Type} [FloatOps F]

local notation "𝕄" => MT nD τ sig (HIx 1) (Elt F) ℕ UU ℕ

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀

abbrev adm : (p : Fin 1) → (pcfgs (F := F) p).Adm := fun p => (cfgs p).toPCfg_adm

/-! ## What the call leaves -/

/-- Coordinate `k` of cloud `b`, of the call's operand. -/
def cloud (A : S3x16x64x128.Idx → Elt F .f32) (k : Fin 3) (b : Fin 16) : Vec F S1x1x64x128 .f32 := fun j => A (fun
  | 0 => k
  | 1 => b
  | 2 => j 2
  | 3 => j 3
  | ⟨_ + 4, h⟩ => absurd h (Nat.not_lt.2 (Nat.le_add_left _ _)))

/-- The place in its cloud of an element of a result. -/
def inCloud (y : S16x64x128.Idx) : S1x64x128.Idx := fun
  | 0 => ⟨0, by decide⟩
  | 1 => y 1
  | 2 => y 2
  | ⟨_ + 3, h⟩ => absurd h (Nat.not_lt.2 (Nat.le_add_left _ _))

/-- The result of `o`, one of the two words. -/
def words (o : Out F) (A : S3x16x64x128.Idx → Elt F .f32) : S16x64x128.Idx → Elt F .i32 :=
  fun y => o (cloud A 0 (y 0)) (cloud A 1 (y 0)) (cloud A 2 (y 0)) (inCloud y)

/-! ## The proof data -/

variable (W : Dev nD → Valuation τ sig (Elt F))

/-- The operand's block at a grid point. -/
def inBlock (c : Dev nD) (t : Fin cfg0.N) : S3x4x64x128.Idx → Elt F .f32 :=
  (win0_0.blk t).view.read (Elt F) (W c (Proc.devRef .tc main_v1))

def dat0 (c : Dev nD) : Pipeline.Dat τ (Elt F) (HIx 1) ℕ UU ℕ cfg0 c where
  A w := W c (Proc.devRef .tc (Pipeline.arrRef spec0 w))
  after := fun
    | 0 => fun t => inBlock W c t
    | 1 => fun t => blockOf outHi (inBlock W c t)
    | 2 => fun t => blockOf outLo (inBlock W c t)
    | ⟨_ + 3, h⟩ => absurd h (Nat.not_lt.2 (Nat.le_add_left _ _))
  Φ _ := iprop(emp)
  q _ := fullShare
  owed _ := (K (F := F)).Otc c 0
  recorded _ := {p | (K (F := F)).lev ((c : Thread nD τ), p.1) p.2 ≤ 0}

def pdats : (p : Fin 1) → (c : Dev nD) → Pipeline.Dat τ (Elt F) (HIx 1) ℕ UU ℕ (Pipeline.pin (pcfgs (F := F)) adm p) c :=
  fun _ c => dat0 W c

theorem before0 (c : Dev nD) (t : Fin cfg0.N) (d) : (dat0 W c).before 0 t d = inBlock W c t := by
  rw [Pipeline.Dat.before_fetched _ 0 t (fetch0_0 t)]
  rfl

theorem body0 (c : Dev nD) : Pipeline.BodyObligation (dat0 W c) defs₀ 𝒱₀ none Set.univ := fun t => by
  rw [bigSep_W0, bigSep_W0]
  rw [show (dat0 W c).Φ t.castSucc = iprop(emp) from rfl, show (dat0 W c).Φ t.succ = iprop(emp) from rfl,
    show (dat0 W c).owesAt none t.succ = (dat0 W c).owesAt none t.castSucc from rfl]
  simp only [before0]
  change _ ⊢ wp frame (wpE (defs₀ (F := F)) 𝒱₀ (c : Thread nD τ) none) Set.univ (bodyAt0 (F := F) t) _
  unfold bodyAt0
  rw [body_eq]
  iintro ⟨-, HO, ⟨%d0, H1⟩, ⟨%d1, H2⟩, ⟨%d2, H3⟩⟩
  ihave H := (run_block c outHi outLo _ _ _ (inBlock W c t) _ _ _) $$ [H1 H2 H3]
  · isplitl [H1]; · iexact H1
    isplitl [H2]; · iexact H2
    iexact H3
  iapply H
  iintro ⟨H1, H2, H3⟩
  isplitr; · iempintro
  isplitl [HO]; · iexact HO
  isplitl [H1]; · iexact H1
  isplitl [H2]; · iexact H2
  iexact H3

/-! ## The arrays it leaves -/

theorem idx0 : ∀ t : Fin cfg0.N, win0_0.index t = ![0, (grid0.coords t 0).val, 0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)

theorem got_cloud (c : Dev nD) (t : Fin cfg0.N) (k : Fin 3) (r : Fin 4) (b : Fin 16) (hb : b.val = (grid0.coords t 0).val * 4 + r.val) :
    got (inBlock W c t) k r = cloud (W c (Proc.devRef .tc main_v1)) k b := by
  funext j
  unfold got inBlock cloud
  refine congrArg (W c (Proc.devRef .tc main_v1)) ?_
  funext a
  refine Fin.ext ?_
  match a with
  | 0 => blk_simp [idx0]; rfl
  | 1 => blk_simp [idx0]; exact hb.symm
  | 2 => blk_simp [idx0]; rfl
  | 3 => blk_simp [idx0]; rfl

theorem block_words (c : Dev nD) (t : Fin cfg0.N) (o : Out F) (y : S4x64x128.Idx) (e : S16x64x128.Idx)
    (h0 : (e 0).val = (grid0.coords t 0).val * 4 + (y 0).val) (h1 : (e 1).val = (y 1).val) (h2 : (e 2).val = (y 2).val) :
    blockOf o (inBlock W c t) y = words o (W c (Proc.devRef .tc main_v1)) e := by
  have hj : inRow y = inCloud e := by
    funext a
    refine Fin.ext ?_
    match a with
    | 0 => rfl
    | 1 => exact h1.symm
    | 2 => exact h2.symm
  unfold blockOf words
  rw [got_cloud W c t 0 (y 0) _ h0, got_cloud W c t 1 (y 0) _ h0, got_cloud W c t 2 (y 0) _ h0, hj]

theorem final1 (c : Dev nD) : (dat0 W c).arrAt 1 cfg0.N = words outHi (W c (Proc.devRef .tc main_v1)) := by
  refine (dat0 W c).arrAt_eq_of_covers 1 _ (by decide +kernel) fun t hf y => ?_
  blk_simp [idx1]
  exact block_words W c t outHi y _ (by blk_simp [idx1]) (by blk_simp [idx1]) (by blk_simp [idx1])

theorem final2 (c : Dev nD) : (dat0 W c).arrAt 2 cfg0.N = words outLo (W c (Proc.devRef .tc main_v1)) := by
  refine (dat0 W c).arrAt_eq_of_covers 2 _ (by decide +kernel) fun t hf y => ?_
  blk_simp [idx2]
  exact block_words W c t outLo y _ (by blk_simp [idx2]) (by blk_simp [idx2]) (by blk_simp [idx2])

theorem final0 (c : Dev nD) : (dat0 W c).arrAt 0 cfg0.N = W c (Proc.devRef .tc main_v1) := by
  exact (dat0 W c).arrAt_in 0 rfl _

/-! ## The call as a region -/

/-- The valuation after the call: its two results the words of the operand. -/
def leaves (c : Dev nD) : Valuation τ sig (Elt F) :=
  Function.update (Function.update (W c) (Proc.devRef .tc main_v2_0) (words outHi (W c (Proc.devRef .tc main_v1))))
    (Proc.devRef .tc main_v2_1) (words outLo (W c (Proc.devRef .tc main_v1)))

/-- What the core owes, its recorded waits all at the lowest level. -/
def dues (c : Dev nD) : sProp 𝕄 :=
  iprop(∃ Wd, ⌜(K (F := F)).WBelow (c : Thread nD τ) Wd 0⌝ ∗ owes (c : Thread nD τ) ((K (F := F)).Otc c 0) Wd)

theorem leaves_lo (c : Dev nD) : leaves W c (Proc.devRef .tc main_v2_1) = words outLo (W c (Proc.devRef .tc main_v1)) := Function.update_self _ _ _
theorem leaves_hi (c : Dev nD) : leaves W c (Proc.devRef .tc main_v2_0) = words outHi (W c (Proc.devRef .tc main_v1)) :=
  (Function.update_of_ne (by decide) _ _).trans (Function.update_self _ _ _)
theorem leaves_off (c : Dev nD) (b : DevRef τ sig) (h0 : b ≠ Proc.devRef .tc main_v2_0) (h1 : b ≠ Proc.devRef .tc main_v2_1) :
    leaves W c b = W c b := (Function.update_of_ne h1 _ _).trans (Function.update_of_ne h0 _ _)

theorem leaves_eq (c : Dev nD) (w : Fin 3) :
    (pdats W 0 c).arrAt w cfg0.N = leaves W c (Proc.devRef .tc (Pipeline.arrRef spec0 w)) := by
  match w with
  | 0 => exact (final0 W c).trans (leaves_off W c (Proc.devRef .tc main_v1) (by decide) (by decide)).symm
  | 1 => exact (final1 W c).trans (leaves_hi W c).symm
  | 2 => exact (final2 W c).trans (leaves_lo W c).symm

theorem share_eq (c : Dev nD) (w : Fin 3) : (pdats W 0 c).share w = fullShare := by
  unfold Pipeline.Dat.share
  exact ite_self _

def region : Pipeline.RegionSeg (pcfgs (F := F)) adm (pdats W) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body0 W c).loose
  hwaits c := Pipeline.PerCore.cellsWaits_of_cut _ _ none 0 c 0 ((K (F := F)).Otc c 0) (fun _ => rfl) (fun _ _ => Finset.mem_univ _)
    (fun _ _ => Nat.le_refl 0) (fun g i h => ⟨Finset.mem_univ _, Nat.lt_of_lt_of_le (Nat.succ_pos _) (SparseCore.Cfg.lev_of_Otc_pos h)⟩)
  pre c := iprop(StableHlo.held (c : Thread nD τ) (Pipeline.arrRefs spec0) (W c) ∗ dues c)
  post c := iprop(StableHlo.held (c : Thread nD τ) (Pipeline.arrRefs spec0) (leaves W c) ∗ dues c)
  X _ := iprop(emp)
  Y _ := iprop(emp)
  Z _ := iprop(emp)
  hentry c := by
    rw [← Pipeline.arrays_held (pcfgs (F := F)) adm (pdats W) 0 launch0.toP c (share_eq W c) ((pdats W 0 c).arrAt · 0) (W c) (fun _ => rfl),
      Pipeline.ownSems0_none, Pipeline.prefHeld_of_none _ rfl]
    unfold dues
    iintro ⟨⟨Ha, %Wd, %hWd, HO⟩, -, -⟩
    imodintro
    isplitl [Ha]; · iexact Ha
    isplitr; · iempintro
    isplitl [HO]
    · unfold Pipeline.Dat.owesAt Pipeline.owesWithin Pipeline.Dat.bound
      iexists Wd; isplitr; · ipureintro; exact fun p hp => Or.inl (hWd p hp)
      iexact HO
    isplitr <;> iempintro
  hin c := by
    iintro -
    iempintro
  hout c := by
    rw [Pipeline.ownSems0_none, scopedRest0_eq]
    iintro -
    isplitr; · iempintro
    isplitr <;> iempintro
  hexit c := by
    rw [← Pipeline.arrays_held (pcfgs (F := F)) adm (pdats W) 0 launch0.toP c (share_eq W c) ((pdats W 0 c).arrAt · cfg0.N) (leaves W c) (leaves_eq W c)]
    unfold dues
    iintro ⟨Ha, HO, -, -⟩
    imodintro
    isplitl [Ha]; · iexact Ha
    unfold Pipeline.Dat.owesAt Pipeline.owesWithin Pipeline.Dat.bound
    icases HO with ⟨%Wd, %hWd, HO⟩
    iexists Wd; isplitr
    · ipureintro
      intro p hp
      rcases hWd hp with h | ⟨w, s, h⟩
      · exact h
      · rw [h]; exact Nat.le_refl 0
    iexact HO

end Cert.Proof.Call

end
-- ==== Proof.Launch.lean ====
/-
  The whole run: the host operations that lay the points out in planes, the TensorCore call that makes the key words
  (`Call.region`), the SparseCore call over its two cores and their sixteen tiles each. Each core is handed the rows its
  tiles sort and hands them back sorted; the rows of the two cores are the arrays' sixteen (`rows_all`). One run, over any
  float values (`run_main`), gives both frames and the results' values.
-/
module

public import proofs.«01_k».proof.Proof.Call

@[expose] public section

noncomputable section

namespace Cert.Proof.Launch

open Cert.KernelIdeal Cert.KernelIdeal.Gen Cert.KernelIdeal.Keys
open Idealize.ShloMosaic
open Idealize.ShloMosaic.SparseCore (V)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Body hiding sig Λ₀ defs₀
open Cert.Proof.Rules Cert.Proof.Tile Cert.Proof.Rows Cert.Proof.Text Cert.Proof.Tiles Cert.Proof.Call

variable {F : FTy → Type} [FloatOps F]

local notation "𝕄" => MT nD τ sig (HIx 1) (Elt F) ℕ UU ℕ

abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := (Emb.inl : Emb UH UB).trans embL
abbrev EP : Emb (UR sig nD τ) (MT nD τ sig (HIx 1) (Elt F) ℕ UU ℕ) := (Emb.inr : Emb (UR sig nD τ) UB).trans embL

/-! ## What a core and a tile are handed -/

variable (m : (ℓ : Loc nD τ sig) → Buf (Elt F) ℓ) (ρ : Dev nD → PrngReg)

/-- The operations before the call, and those between the two calls. -/
abbrev opT : HloOp τ sig (Elt F) := StableHlo.unary main_arg0 main_v0 ((transpose S3x16x8192 [2, 0, 1] · transposes_S16x8192x3_S3x16x8192_2_0_1) : (⟨S16x8192x3, .f32⟩ : BufTy).Contents (Elt F) → (⟨S3x16x8192, .f32⟩ : BufTy).Contents (Elt F))
abbrev opR : HloOp τ sig (Elt F) := StableHlo.reshape main_v0 main_v1 (rfl : (.f32 : EltTy) = .f32) shapeCasts_S3x16x8192_S3x16x64x128
abbrev opH : HloOp τ sig (Elt F) := StableHlo.reshape main_v2_0 main_v3 (rfl : (.i32 : EltTy) = .i32) shapeCasts_S16x64x128_S16x8192
abbrev opL : HloOp τ sig (Elt F) := StableHlo.reshape main_v2_1 main_v4 (rfl : (.i32 : EltTy) = .i32) shapeCasts_S16x64x128_S16x8192

theorem subT : (opT (F := F)).bufs ⊆ Pipeline.ucRefs τ sig := by
  show ({Proc.devRef .tc main_arg0, Proc.devRef .tc main_v0} : Finset (DevRef τ sig)) ⊆ _; decide
theorem subR : (opR (F := F)).bufs ⊆ Pipeline.ucRefs τ sig := by
  show ({Proc.devRef .tc main_v0, Proc.devRef .tc main_v1} : Finset (DevRef τ sig)) ⊆ _; decide
theorem subH : (opH (F := F)).bufs ⊆ Pipeline.ucRefs τ sig := by
  show ({Proc.devRef .tc main_v2_0, Proc.devRef .tc main_v3} : Finset (DevRef τ sig)) ⊆ _; decide
theorem subL : (opL (F := F)).bufs ⊆ Pipeline.ucRefs τ sig := by
  show ({Proc.devRef .tc main_v2_1, Proc.devRef .tc main_v4} : Finset (DevRef τ sig)) ⊆ _; decide

/-- The buffers at launch, at the first call, and at the second. -/
abbrev atLaunch (d : Dev nD) : Valuation τ sig (Elt F) := fun b => m (d, b)
abbrev atCall (d : Dev nD) : Valuation τ sig (Elt F) := opR.result (opT.result (atLaunch m d))
abbrev atSort (d : Dev nD) : Valuation τ sig (Elt F) := opL.result (opH.result (leaves (atCall m) d))

abbrev hM (d : Dev nD) : Arr := atSort m d (Proc.devRef .tc main_v3)
abbrev lM (d : Dev nD) : Arr := atSort m d (Proc.devRef .tc main_v4)
abbrev pM (d : Dev nD) : Arr := atSort m d (Proc.devRef .tc main_v5_0)
abbrev rM (d : Dev nD) : Arr := atSort m d (Proc.devRef .tc main_v5_1)
/-- Row `r` before the call, and after. -/
abbrev pre (d : Dev nD) (r : Nat) : sProp 𝕄 := forRow d r (hM m d) (lM m d) (pM m d) (rM m d)
abbrev post (d : Dev nD) (r : Nat) : sProp 𝕄 := forRow d r (hM m d) (lM m d) (ordArr (hM m d) (lM m d)) (placeArr (hM m d) (lM m d))

instance forRow_storable (d : Dev nD) (r : Nat) (H L P R : Arr) : BI.Storable (upEmb : UEmb _ 𝕄) (forRow d r H L P R) := by
  unfold forRow; split <;> infer_instance

def P : (K (F := F)).Pay (nD := nD) (Val := Elt F) (Name := ℕ) (U := UU) where
  st := fun _ d c => bigSep Finset.univ fun i : Fin 16 => pre m d (2 * i.val + c.val)
  dn := fun _ d c => bigSep Finset.univ fun i : Fin 16 => post m d (2 * i.val + c.val)
  go := fun _ d c i => pre m d (2 * i.val + c.val)
  td := fun _ d c i => post m d (2 * i.val + c.val)
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## A tile's task and a core's split -/

theorem defs₀_vector (c : Fin τ.nSC) (s : Fin τ.nSub) :
    defs₀ (F := F) (.scVector c s) 1 () = SparseCore.onTile hcore1 hsub1 (fun c s => body (F := F) (coords c s)) ⟨⟩ c s := rfl

theorem tile_run (d : Dev nD) (i : grid1.Coords) (O : CellTallies nD τ sig (HIx 1)) (W : Waits sig (HIx 1)) (hO : ∀ g, O g none = 0) :
    iprop(levAts (K (F := F)).L (K (F := F)).lev ∗ emp ∗ pre m d (rowNo i)
        ∗ scopedBufs (V d (cV i) (jV i)) ∗ scopedSems0 (V d (cV i) (jV i)) ∗ owes (V d (cV i) (jV i)) O W)
      ⊢ run d (cV i) (jV i) (body (F := F) i)
        fun _ => iprop(post m d (rowNo i) ∗ scopedBufs (V d (cV i) (jV i)) ∗ scopedSems0 (V d (cV i) (jV i))
          ∗ ∃ W', ⌜∀ p ∈ W', p ∈ W ∨ p.2 = none⌝ ∗ owes (V d (cV i) (jV i)) O W') := by
  rw [(K (F := F)).scopedBufs_V facts d (cV i) (jV i), SparseCore.Cfg.scopedSems0_V (Val := Elt F) d (cV i) (jV i)]
  iintro ⟨#Hlv, -, Hrow, Hb, Hs, HO⟩
  ihave Hmw := ((K (F := F)).mayWaits_none (thr := V d (cV i) (jV i)) hO) $$ Hlv
  iapply (tile_body (F := F) d i (hM m d) (lM m d) (pM m d) (rM m d) O W)
  isplitl [Hmw]; · iexact Hmw
  isplitl [Hrow]; · iexact Hrow
  isplitl [Hb]; · iexact Hb
  isplitl [Hs] <;> iassumption

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_run m d (coords ⟨c.val, hc.1⟩ ⟨i.val, hc.2⟩) O W hO).trans (wp_mono frame _ _ fun _ => obl_post)

theorem vecSplit : (K (F := F)).VecSplit' (P m) 0 := by
  intro d c
  show (bigSep Finset.univ fun i : Fin 16 => pre m d (2 * i.val + c.val))
    ⊢ |={Set.univ}=> iprop((bigSep Finset.univ fun i : Fin 16 => pre m d (2 * i.val + c.val))
        ∗ ((bigSep Finset.univ fun i : Fin 16 => post m d (2 * i.val + c.val)) -∗ bigSep Finset.univ fun i : Fin 16 => post m d (2 * i.val + c.val)))
  iintro H
  imodintro
  isplitl [H]; · iexact H
  iintro H
  iexact H

/-! ## The sixteen rows -/

/-- The four arrays whole. -/
def whole (d : Dev nD) (H L P R : Arr) : sProp 𝕄 :=
  iprop((hLoc d ↦{fullShare} (H : Buf (Elt F) (hLoc d))) ∗ (lLoc d ↦{fullShare} (L : Buf (Elt F) (lLoc d)))
    ∗ (pLoc d ↦{fullShare} (P : Buf (Elt F) (pLoc d))) ∗ (rLoc d ↦{fullShare} (R : Buf (Elt F) (rLoc d))))

theorem cut_h (d : Dev nD) (f : Buf (Elt F) (hLoc d)) :
    (hLoc d ↦{fullShare} f : sProp 𝕄) = bigSep Finset.univ fun r : Fin 16 => hLoc d ↦[rowSet r]{fullShare} f := by
  rw [← pointsTo_biUnion Finset.univ (ℓ := hLoc d) rowSet rows_disjoint, rows_cover]; try rfl
theorem cut_l (d : Dev nD) (f : Buf (Elt F) (lLoc d)) :
    (lLoc d ↦{fullShare} f : sProp 𝕄) = bigSep Finset.univ fun r : Fin 16 => lLoc d ↦[rowSet r]{fullShare} f := by
  rw [← pointsTo_biUnion Finset.univ (ℓ := lLoc d) rowSet rows_disjoint, rows_cover]; try rfl
theorem cut_p (d : Dev nD) (f : Buf (Elt F) (pLoc d)) :
    (pLoc d ↦{fullShare} f : sProp 𝕄) = bigSep Finset.univ fun r : Fin 16 => pLoc d ↦[rowSet r]{fullShare} f := by
  rw [← pointsTo_biUnion Finset.univ (ℓ := pLoc d) rowSet rows_disjoint, rows_cover]; try rfl
theorem cut_r (d : Dev nD) (f : Buf (Elt F) (rLoc d)) :
    (rLoc d ↦{fullShare} f : sProp 𝕄) = bigSep Finset.univ fun r : Fin 16 => rLoc d ↦[rowSet r]{fullShare} f := by
  rw [← pointsTo_biUnion Finset.univ (ℓ := rLoc d) rowSet rows_disjoint, rows_cover]; try rfl

theorem rows_whole (d : Dev nD) (H L P R : Arr) :
    (bigSep Finset.univ fun c : Fin 2 => bigSep Finset.univ fun i : Fin 16 => forRow d (2 * i.val + c.val) H L P R) = (whole d H L P R : sProp 𝕄) := by
  rw [rows_all (fun r => forRow d r H L P R) (fun r hr => by unfold forRow; rw [dif_neg hr])]
  unfold whole
  rw [cut_h, cut_l, cut_p, cut_r, together, together, together]
  exact bigSep_congr fun r _ => by unfold forRow; rw [dif_pos r.isLt]

/-! ## @main -/

/-- The ghost state of the handshakes and of the staging buffers. -/
def u₀ : UU := ((initOf (K (F := F)).hsCells (K (F := F)).hsToks,
  initOf (Pipeline.cells cfgs cellOf_inj) (Pipeline.launchToks cfgs cellOf_inj)), 1)

/-- What a core's call of the pipeline starts from. -/
def start (d : Dev nD) : sProp 𝕄 :=
  iprop((bigSep Finset.univ fun p => Pipeline.cellsGhost cfgs (EP (F := F)) p d) ∗ (bigSep Finset.univ fun p => Pipeline.toksInit cfgs (EP (F := F)) p d))

theorem hu₀ : (ownU (u₀ (F := F)) : sProp 𝕄)
    ⊢ |={Set.univ}=> iprop(BI.own (EH (initOf (K (F := F)).hsCells (K (F := F)).hsToks)) ∗ (bigSep Finset.univ fun d : Dev nD => start (F := F) d)
        ∗ bigSep Finset.univ fun thr : Thread nD τ => bigSep Finset.univ fun q : Fin 1 => (P m).x q thr) := by
  unfold u₀
  iintro Hu
  ihave H := (ownU_pair _ _) $$ Hu
  icases H with ⟨HB, -⟩
  ihave H := (own_pair_emb embL _ _) $$ HB
  icases H with ⟨HH, HP⟩
  ihave H := (Pipeline.fund_ghost cfgs (EP (F := F)) cellOf_inj) $$ HP
  imod H
  icases H with ⟨Hc, Ht⟩
  imodintro
  isplitl [HH]; · iexact HH
  isplitl [Hc Ht]
  · unfold start; rw [← together]
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

/-- The argument's place. -/
abbrev aLoc (d : Dev nD) : Loc nD τ sig := (SparseCore.T d).loc main_arg0

/-- Of the buffers held, the argument and the second call's four. -/
theorem held_eq (d : Dev nD) (V : Valuation τ sig (Elt F)) :
    (StableHlo.held (d.tc : Thread nD τ) (Pipeline.ucRefs τ sig) V : sProp 𝕄)
      ⊢ iprop(whole d (V (Proc.devRef .tc main_v3)) (V (Proc.devRef .tc main_v4)) (V (Proc.devRef .tc main_v5_0)) (V (Proc.devRef .tc main_v5_1))
          ∗ (aLoc d ↦{fullShare} (V (Proc.devRef .tc main_arg0) : Buf (Elt F) (aLoc d)))) := by
  rw [show (StableHlo.held (d.tc : Thread nD τ) (Pipeline.ucRefs τ sig) V : sProp 𝕄)
      = iprop((hLoc d ↦{fullShare} (V (Proc.devRef .tc main_v3) : Buf (Elt F) (hLoc d))) ∗ (lLoc d ↦{fullShare} (V (Proc.devRef .tc main_v4) : Buf (Elt F) (lLoc d)))
        ∗ (pLoc d ↦{fullShare} (V (Proc.devRef .tc main_v5_0) : Buf (Elt F) (pLoc d))) ∗ (rLoc d ↦{fullShare} (V (Proc.devRef .tc main_v5_1) : Buf (Elt F) (rLoc d)))
        ∗ (aLoc d ↦{fullShare} (V (Proc.devRef .tc main_arg0) : Buf (Elt F) (aLoc d)))
        ∗ bigSepL [Proc.devRef .tc main_v0, Proc.devRef .tc main_v1, Proc.devRef .tc main_v2_0, Proc.devRef .tc main_v2_1]
            fun b : DevRef τ sig => ((d, b) : Loc nD τ sig) ↦{fullShare} V b) from by
    unfold StableHlo.held
    rw [bigSep_eq_bigSepL_of_eq [Proc.devRef .tc main_v3, Proc.devRef .tc main_v4, Proc.devRef .tc main_v5_0, Proc.devRef .tc main_v5_1, Proc.devRef .tc main_arg0,
      Proc.devRef .tc main_v0, Proc.devRef .tc main_v1, Proc.devRef .tc main_v2_0, Proc.devRef .tc main_v2_1] (by decide) (by decide)]
    rfl]
  unfold whole
  iintro ⟨H3, H4, H5, H6, Ha, -⟩
  isplitr [Ha]
  · isplitl [H3]; · iexact H3
    isplitl [H4]; · iexact H4
    isplitl [H5]; · iexact H5
    iexact H6
  iexact Ha

/-- The call of the pipeline, among all the buffers. -/
theorem region_run (W : Dev nD → Valuation τ sig (Elt F)) (d : Dev nD) (Q : PUnit → sProp 𝕄) [∀ e, Nonempty (Elt F e)] :
    iprop(((boundary (d.tc : Thread nD τ) ∗ StableHlo.held (d.tc : Thread nD τ) (Pipeline.ucRefs τ sig) (leaves W d) ∗ dues d) -∗ |={Set.univ}=> Q ⟨⟩)
        ∗ boundary (d.tc : Thread nD τ) ∗ StableHlo.held (d.tc : Thread nD τ) (Pipeline.ucRefs τ sig) (W d) ∗ dues d
        ∗ levAts (K (F := F)).L (K (F := F)).lev ∗ start (F := F) d)
      ⊢ wp frame (wpE ((K (F := F)).defs (D (F := F))) 𝒱 (SparseCore.T d) none) Set.univ
          (Prog.lift (.customCall (SparseCore.inner (Pipeline.entry 0)) ())) Q := by
  change _ ⊢ wp frame (wpE ((K (F := F)).defs (D (F := F))) 𝒱 (SparseCore.T d) none) Set.univ
          (SparseCore.liftProg (.op (.customCall (Pipeline.entry 0) ()) .ret)) Q
  refine BI.Entails.trans ?_ ((K (F := F)).wp_liftProg (D (F := F)) 𝒱 _ _ none _ _)
  refine BI.Entails.trans ?_ (Pipeline.RegionSeg.wp (pcfgs (F := F)) adm (pdats W) none cellOf_inj (EP (F := F)) defs₀ 𝒱₀ (K (F := F)).L (K (F := F)).lev
    (region W) d none (fun _ h => nomatch h) _ Q)
  have hsub := Pipeline.arrRefs_sub_ucRefs (τ := τ) spec0 (by decide)
  rw [StableHlo.held_sub_split _ hsub (W d), StableHlo.held_sub_split _ hsub (leaves W d),
    StableHlo.held_congr _ (S := Pipeline.ucRefs τ sig \ Pipeline.arrRefs spec0) (V := leaves W d) (V' := W d) (by
      intro b hb
      refine leaves_off W d b ?_ ?_ <;> · rintro rfl; revert hb; decide)]
  rw [show (region W).pre d = iprop(StableHlo.held (d.tc : Thread nD τ) (Pipeline.arrRefs spec0) (W d) ∗ dues d) from rfl,
    show (region W).post d = iprop(StableHlo.held (d.tc : Thread nD τ) (Pipeline.arrRefs spec0) (leaves W d) ∗ dues d) from rfl]
  unfold start
  rw [show (Finset.univ : Finset (Fin 1)) = {0} from rfl, bigSep_singleton, bigSep_singleton]
  refine (show (_ : sProp 𝕄) ⊢ _ from ?_)
  iintro ⟨Hk, Hb, ⟨Ha, Hrest⟩, Hd, Hl, Hc, Ht⟩
  isplitl [Hk Hrest]
  · iintro ⟨Hb, Ha, Hd⟩
    rw [wp_ret]
    iapply Hk
    isplitl [Hb]; · iexact Hb
    isplitl [Ha Hrest]
    · isplitl [Ha] <;> iassumption
    iexact Hd
  isplitl [Hb]; · iexact Hb
  isplitl [Ha Hd]
  · isplitl [Ha] <;> iassumption
  isplitl [Hl]; · iexact Hl
  isplitl [Hc] <;> iassumption

theorem st0_eq (d : Dev nD) : (bigSep Finset.univ fun c : Fin ((K (F := F)).nCore 0) => (P m).st 0 d c)
    = whole d (hM m d) (lM m d) (pM m d) (rM m d) := rows_whole d _ _ _ _
theorem dn0_eq (d : Dev nD) : (bigSep Finset.univ fun c : Fin ((K (F := F)).nCore 0) => (P m).dn 0 d c)
    = whole d (hM m d) (lM m d) (ordArr (hM m d) (lM m d)) (placeArr (hM m d) (lM m d)) := rows_whole d _ _ _ _

/-- No operation writes the argument. -/
theorem arg_kept (d : Dev nD) : atSort m d (Proc.devRef .tc main_arg0) = m (aLoc d) := by
  show opL.result (opH.result (leaves (atCall m) d)) (Proc.devRef .tc main_arg0) = _
  rw [StableHlo.reshape_result_ne _ _ _ _ _ _ _ (by decide), StableHlo.reshape_result_ne _ _ _ _ _ _ _ (by decide),
    leaves_off _ _ _ (by decide) (by decide)]
  show opR.result (opT.result (atLaunch m d)) (Proc.devRef .tc main_arg0) = _
  rw [StableHlo.reshape_result_ne _ _ _ _ _ _ _ (by decide), StableHlo.unary_result_ne _ _ _ _ _ _ (by decide)]

abbrev FIN (d : Dev nD) : sProp 𝕄 :=
  iprop(whole d (hM m d) (lM m d) (ordArr (hM m d) (lM m d)) (placeArr (hM m d) (lM m d)) ∗ (aLoc d ↦{fullShare} m (aLoc d)))

theorem tcSt_eq (d : Dev nD) : ∃ R : sProp 𝕄, (K (F := F)).tcSt EH d 0 = iprop(dues d ∗ R) := ⟨_, rfl⟩

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ start (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄)
    = StableHlo.held (d.tc : Thread nD τ) (Pipeline.ucRefs τ sig) (atLaunch m d) from Pipeline.unscopedBufs_held d (atLaunch m d)]
  simp only [main, wp_bind, wp_pure]
  obtain ⟨R, hR⟩ := tcSt_eq (F := F) d
  rw [hR]
  iintro ⟨#Hctx, Hst, ⟨Hb, Hw, Hts, -⟩, Hg⟩
  ihave #Hlev := (SparseCore.Cfg.ctx_levAts κ) $$ Hctx
  ihave H := (StableHlo.wp_hlo_within 𝒱 (SparseCore.T d) none Set.univ (op := opT) (hp := rfl) (S := Pipeline.ucRefs τ sig) (V := atLaunch m d) subT rfl) $$ [Hb Hw]
  · isplitl [Hb] <;> iassumption
  iapply H
  iintro ⟨Hb, Hw⟩
  rw [wp_ret]; imodintro
  ihave H := (StableHlo.wp_hlo_within 𝒱 (SparseCore.T d) none Set.univ (op := opR) (hp := rfl) (S := Pipeline.ucRefs τ sig) (V := opT.result (atLaunch m d)) subR rfl) $$ [Hb Hw]
  · isplitl [Hb] <;> iassumption
  iapply H
  iintro ⟨Hb, Hw⟩
  rw [wp_ret]; imodintro
  icases Hst with ⟨Hd, Hst⟩
  iapply (region_run (atCall m) d _)
  isplitr [Hb Hw Hd Hg]
  · iintro ⟨Hb, Hw, Hd⟩
    imodintro
    ihave H := (StableHlo.wp_hlo_within 𝒱 (SparseCore.T d) none Set.univ (op := opH) (hp := rfl) (S := Pipeline.ucRefs τ sig) (V := leaves (atCall m) d) subH rfl) $$ [Hb Hw]
    · isplitl [Hb] <;> iassumption
    iapply H
    iintro ⟨Hb, Hw⟩
    rw [wp_ret]; imodintro
    ihave H := (StableHlo.wp_hlo_within 𝒱 (SparseCore.T d) none Set.univ (op := opL) (hp := rfl) (S := Pipeline.ucRefs τ sig) (V := opH.result (leaves (atCall m) d)) subL rfl) $$ [Hb Hw]
    · isplitl [Hb] <;> iassumption
    iapply H
    iintro ⟨Hb, Hw⟩
    rw [wp_ret]; imodintro
    ihave Hw := (held_eq d (atSort m d)) $$ Hw
    icases Hw with ⟨Hw, Ha⟩
    ihave Hst := (Entails.of_eq hR.symm) $$ [Hd Hst]
    · isplitl [Hd] <;> iassumption
    iapply ((K (F := F)).wp_run (D (F := F)) 𝒱 (EH := EH) (P := P m) κ d 0) $$ [Hst Hw Ha Hb Hts]
    isplitr; · iexact Hctx
    isplitl [Hst]; · iexact Hst
    isplitl [Hw]
    · rw [st0_eq]; iexact Hw
    iintro ⟨Hst, Hdn⟩
    ihave Hdn := (Entails.of_eq (dn0_eq m d)) $$ Hdn
    rw [arg_kept]
    imodintro
    isplitl [Hst]; · iexact Hst
    isplitl [Hdn Ha]
    · isplitl [Hdn] <;> iassumption
    isplitl [Hb] <;> iassumption
  isplitl [Hb]; · iexact Hb
  isplitl [Hw]; · iexact Hw
  isplitl [Hd]; · iexact Hd
  isplitr; · iexact Hlev
  iexact Hg

def fq (d : Dev nD) (s' : Phys nD τ sig (Elt F)) : Prop :=
  s'.mem.mem (aLoc d) = m (aLoc d)
    ∧ s'.mem.mem (pLoc d) = ordArr (hM m d) (lM m d) ∧ s'.mem.mem (rLoc d) = placeArr (hM m d) (lM m d)

theorem hfin (d : Dev nD) (s' : Phys nD τ sig (Elt F)) : iprop(FIN m d ∗ SI s') ⊢ (⌜fq m d s'⌝ : sProp 𝕄) := by
  show iprop((whole d _ _ _ _ ∗ _) ∗ SI s') ⊢ _
  unfold whole
  iintro ⟨⟨⟨-, -, Hp, Hr⟩, Ha⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := pLoc d) (I := Finset.univ) (q := fullShare) (f := ordArr (hM m d) (lM m d)))) $$ [HSI Hp]
  · isplitl [HSI] <;> iassumption
  icases H with ⟨%h3, HSI, -⟩
  ihave H := (SI_pointsTo_agree (st := s') (ℓ := rLoc d) (I := Finset.univ) (q := fullShare) (f := placeArr (hM m d) (lM m d))) $$ [HSI Hr]
  · isplitl [HSI] <;> iassumption
  icases H with %h4
  ipureintro
  exact ⟨funext fun i => h1 i (Finset.mem_univ i), funext fun i => h3 i (Finset.mem_univ i), funext fun i => h4 i (Finset.mem_univ i)⟩

/-! ## The run -/

def QC : PUnit × MemSt nD τ sig (Elt F) → Prop := fun r =>
  (∀ c : Dev nD, r.2.mem (aLoc c) = m (aLoc c)
    ∧ r.2.mem (pLoc c) = ordArr (hM m c) (lM m c) ∧ r.2.mem (rLoc c) = placeArr (hM m c) (lM m c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => start (F := F) d) (FIN m) (u₀ (F := F)) (sep_elim_left.trans (hu₀ m)) (hmain m ρ) (fq m) (hfin m) (QC m) (fun _ h hz => ⟨h, hz⟩)

end Cert.Proof.Launch

end
-- ==== Proof.RefSort.lean ====
/-
  The reference's two sorts in closed form. The first, of the key words with their top bits flipped, puts at place `j` of
  a row the number of the element whose place in the unsigned order is `j`; the second, of that table, puts at `x` the
  place of element `x`.
-/
module

public import proofs.«01_k».proof.Proof.Rows
public import Idealize.ShloMosaic.Lib.SortFacts
public import Idealize.ShloMosaic.Lib.StableHlo.Predicate
public import proofs.«01_k».proof.Proof.Gen.ReferenceIdeal

@[expose] public section

noncomputable section

namespace Cert.Proof.RefSort

open Cert.ReferenceIdeal Cert.ReferenceIdeal.Gen
open Idealize.ShloMosaic
open Cert.Proof.Radix Cert.Proof.Lanes Cert.Proof.Digits Cert.Proof.Tile Cert.Proof.Rows

/-! ## A sort that keeps ties in place -/

/-- An ascending list's sort asks `R b a` of a later `b` and an earlier `a` alone. -/
theorem stableSort_later {n : Nat} {R T : Fin n → Fin n → Bool} (h : ∀ a b, a < b → R b a = T b a) :
    ∀ l : List (Fin n), l.Pairwise (· < ·) → stableSort R l = stableSort T l
  | [], _ => rfl
  | a :: l, hl => by
    rw [List.pairwise_cons] at hl
    unfold stableSort
    rw [stableSort_later h l hl.2]
    exact insertBefore_congr R T a _ fun b hb => h a b (hl.1 b ((perm_stableSort T l).mem_iff.mp hb))

/-- A sort whose comparison agrees with the order of a permutation's places on every later-earlier pair reads off that
    permutation. -/
theorem sortedFrom_places {n : Nat} {R : Fin n → Fin n → Bool} (σ : Equiv.Perm (Fin n))
    (h : ∀ a b, a < b → R b a = decide (σ.symm b < σ.symm a)) (k : Fin n) : sortedFrom R k = σ k := by
  have e : sortPositions n R = List.ofFn σ := by
    rw [← sortPositions_of_perm σ]
    exact stableSort_later h _ (List.pairwise_lt_finRange n)
  unfold sortedFrom
  rw [List.get_of_eq e]
  simp

/-! ## The row's places as a permutation -/

/-- Every element's place. -/
def places (K : Nat → Nat) : Equiv.Perm (Fin 8192) :=
  Equiv.ofBijective (fun x => ⟨rk K x.val, lt_of_lt_of_eq (rk_lt K (lt_of_lt_of_eq x.isLt N_eq.symm)) N_eq⟩)
    (Finite.injective_iff_bijective.mp fun x y h =>
      Fin.ext (rk_inj K (lt_of_lt_of_eq x.isLt N_eq.symm) (lt_of_lt_of_eq y.isLt N_eq.symm) (congrArg Fin.val h)))

theorem places_val (K : Nat → Nat) (x : Fin 8192) : (places K x).val = rk K x.val := rfl

/-- The number at place `j` is the element whose place it is. -/
theorem ordOf_places (hi lo : Nat → BitVec 32) (j : Fin 8192) : ordOf hi lo j.val = wd ((places (U hi lo)).symm j).val := by
  have h := ordOf_rk hi lo (x := ((places (U hi lo)).symm j).val) (lt_of_lt_of_eq (Fin.isLt _) N_eq.symm)
  rwa [← places_val, Equiv.apply_symm_apply] at h

/-! ## The comparisons -/

/-- Flipping the top bit moves the unsigned order to the signed one. -/
theorem toInt_flip (a : BitVec 32) : (a ^^^ 2147483648#32).toInt = (a.toNat : Int) - 2 ^ 31 := by
  have hb : (a ^^^ 2147483648#32).toNat = a.toNat ^^^ 2 ^ 31 := BitVec.toNat_xor ..
  have h1 : (a.toNat ^^^ 2 ^ 31) / 2 ^ 31 = a.toNat / 2 ^ 31 ^^^ 2 ^ 31 / 2 ^ 31 := Nat.xor_div_two_pow ..
  have h2 : (a.toNat ^^^ 2 ^ 31) % 2 ^ 31 = a.toNat % 2 ^ 31 ^^^ 2 ^ 31 % 2 ^ 31 := Nat.xor_mod_two_pow ..
  have ha := a.isLt
  have hq : a.toNat / 2 ^ 31 = 0 ∨ a.toNat / 2 ^ 31 = 1 := by omega
  rw [Nat.mod_self, Nat.xor_zero] at h2
  rw [BitVec.toInt_eq_toNat_cond, hb]
  rcases hq with hq | hq
  · rw [hq, show (0 ^^^ 2 ^ 31 / 2 ^ 31 : Nat) = 1 by decide] at h1
    split <;> omega
  · rw [hq, show (1 ^^^ 2 ^ 31 / 2 ^ 31 : Nat) = 0 by decide] at h1
    split <;> omega

theorem slt_flip (a b : BitVec 32) : IntOp.cmpi .slt (a ^^^ 2147483648#32) (b ^^^ 2147483648#32) = 1#1 ↔ a.toNat < b.toNat := by
  show BitVec.ofBool _ = 1#1 ↔ _
  rw [StableHlo.Predicate.ofBool_eq_one_iff, BitVec.slt_iff_toInt_lt, toInt_flip, toInt_flip]; omega

theorem eq_flip (a b : BitVec 32) : IntOp.cmpi .eq (a ^^^ 2147483648#32) (b ^^^ 2147483648#32) = 1#1 ↔ a.toNat = b.toNat := by
  show BitVec.ofBool _ = 1#1 ↔ _
  rw [StableHlo.Predicate.ofBool_eq_one_iff, beq_iff_eq, BitVec.xor_left_inj, BitVec.toNat_inj]

theorem or_and_one : ∀ x y z : BitVec 1, IntOp.ori x (IntOp.andi y z) = 1#1 ↔ (x = 1#1 ∨ (y = 1#1 ∧ z = 1#1)) := by decide

/-- The first sort's comparison is of the 64-bit keys. -/
theorem before_key (a b a' b' p q : BitVec 32) :
    comparator_i32_i32_i32_d1 (a ^^^ 2147483648#32, b ^^^ 2147483648#32, p) (a' ^^^ 2147483648#32, b' ^^^ 2147483648#32, q) = 1#1
      ↔ a.toNat * 2 ^ 32 + b.toNat < a'.toNat * 2 ^ 32 + b'.toNat := by
  show IntOp.ori _ (IntOp.andi _ _) = 1#1 ↔ _
  rw [or_and_one, slt_flip, eq_flip, slt_flip]
  have := b.isLt; have := b'.isLt
  omega

/-- The second's is of the numbers. -/
theorem before_num {n n' : Nat} (h : n < 8192) (h' : n' < 8192) (p q : BitVec 32) :
    comparator_i32_i32_d1 (wd n, p) (wd n', q) = 1#1 ↔ n < n' := by
  show IntOp.cmpi .slt (wd n) (wd n') = 1#1 ↔ _
  have e : (wd n).toNat = n := wd_toNat (by omega)
  have e' : (wd n').toNat = n' := wd_toNat (by omega)
  rw [StableHlo.Predicate.slt_iff_toNat (by omega) (by omega), e, e']

theorem bool_eq {x : BitVec 1} {p : Prop} [Decidable p] (h : x = 1#1 ↔ p) : (x == 1#1) = decide p := by
  rw [Bool.eq_iff_iff, beq_iff_eq, decide_eq_true_eq]; exact h

/-! ## The sorts -/

theorem along_at (x : S16x8192.Idx) (k : Fin 8192) : Shape.Idx.along x (1 : Fin 2) k = at16 (x 0).val k.val (x 0).isLt k.isLt := by
  funext a
  match a with
  | 0 => rfl
  | 1 => rfl

theorem rowsAt_along (X : Arr) (x : S16x8192.Idx) (k : Fin 8192) : X (Shape.Idx.along x (1 : Fin 2) k) = rowsAt X (x 0).val k.val := by
  unfold rowsAt
  rw [dif_pos ⟨(x 0).isLt, k.isLt⟩, along_at]

/-- A fiber's sort reads each row off its places. -/
theorem sortBy_places {s : Shape} {d : Nat} (hd : d < s.rank) {ι α : Type} (cmp : ι → ι → BitVec 1) (rows : s.Idx → ι)
    (z : s.Idx → α) (x : s.Idx) (σ : Equiv.Perm (Fin (s.size ⟨d, hd⟩)))
    (h : ∀ a b, a < b → (cmp (rows (x.along ⟨d, hd⟩ b)) (rows (x.along ⟨d, hd⟩ a)) = 1#1 ↔ σ.symm b < σ.symm a)) :
    Host.sortBy s d cmp rows z x = z (x.along ⟨d, hd⟩ (σ (x ⟨d, hd⟩))) := by
  unfold Host.sortBy
  rw [dif_pos hd]
  show z (x.along ⟨d, hd⟩ (sortedFrom _ (x ⟨d, hd⟩))) = _
  rw [sortedFrom_places σ (fun a b hab => bool_eq (h a b hab)) (x ⟨d, hd⟩)]

theorem one_lt : 1 < S16x8192.rank := by decide

/-- The same of the rows at hand. -/
theorem sortBy_row {ι : Type} (cmp : ι → ι → BitVec 1) (rows : S16x8192.Idx → ι) (x : S16x8192.Idx) (σ : Equiv.Perm (Fin 8192))
    (h : ∀ a b : Fin 8192, a < b → (cmp (rows (Shape.Idx.along x (1 : Fin 2) b)) (rows (Shape.Idx.along x (1 : Fin 2) a)) = 1#1 ↔ σ.symm b < σ.symm a)) :
    Host.sortBy S16x8192 1 cmp rows (fun x => wd (x 1).val) x = wd (σ (x 1)).val :=
  sortBy_places (s := S16x8192) one_lt cmp rows (fun x => wd (x 1).val) x σ h

variable (H L : Arr)

/-- The first sort's third result. -/
theorem sort_ord : (Host.sort3 S16x8192 1 comparator_i32_i32_i32_d1 (fun x => H x ^^^ 2147483648#32) (fun x => L x ^^^ 2147483648#32)
    (fun x => wd (x 1).val)).2.2 = ordArr H L := by
  rw [Host.sort3_eq_sortBy]
  funext x
  have key := sortBy_row comparator_i32_i32_i32_d1 (fun x => (H x ^^^ 2147483648#32, L x ^^^ 2147483648#32, wd (x 1).val)) x
    (places (U (rowsAt H (x 0).val) (rowsAt L (x 0).val))).symm
  refine (key fun a b hab => ?_).trans (ordOf_places _ _ (x 1)).symm
  rw [before_key, rowsAt_along H, rowsAt_along L, rowsAt_along H, rowsAt_along L, Equiv.symm_symm, Fin.lt_def, places_val, places_val,
    rk_lt_iff _ (lt_of_lt_of_eq a.isLt N_eq.symm) (lt_of_lt_of_eq b.isLt N_eq.symm)]
  unfold U
  have : a.val < b.val := hab
  omega

/-- The second sort's second result. -/
theorem sort_place : (Host.sort2 S16x8192 1 comparator_i32_i32_d1 (ordArr H L) (fun x => wd (x 1).val)).2 = placeArr H L := by
  rw [Host.sort2_eq_sortBy]
  funext x
  have key := sortBy_row comparator_i32_i32_d1 (fun x => (ordArr H L x, wd (x 1).val)) x
    (places (U (rowsAt H (x 0).val) (rowsAt L (x 0).val)))
  refine key fun a b _ => ?_
  have e : ∀ k : Fin 8192, ordArr H L (Shape.Idx.along x (1 : Fin 2) k)
      = wd ((places (U (rowsAt H (x 0).val) (rowsAt L (x 0).val))).symm k).val := fun k => ordOf_places _ _ k
  rw [e, e, before_num (Fin.isLt _) (Fin.isLt _), Fin.lt_def]

end Cert.Proof.RefSort

end
-- ==== Proof.Orders.lean ====
/-
  The two programs' key words compared: where one cloud's points are told apart they are the same words, else each
  program's are constant along the cloud. So the orders are the same.
-/
module

public import proofs.«01_k».proof.Proof.Agree
public import proofs.«01_k».proof.Proof.Launch
public import proofs.«01_k».proof.Proof.RefSort

@[expose] public section

noncomputable section

namespace Cert.Proof.Orders

open Idealize.ShloMosaic Idealize.SL.Sem
open Cert.Proof.Radix Cert.Proof.Digits Cert.Proof.Tile Cert.Proof.Rows
open Cert.Proof.Agree (cell agree)

/-! ## Keys that compare alike -/

/-- Two rows of keys that order their elements alike. -/
def Alike (h l h' l' : Nat → BitVec 32) : Prop :=
  (∀ x, x < N → h x = h' x ∧ l x = l' x) ∨
  ((∃ a b, ∀ x, x < N → h x = a ∧ l x = b) ∧ ∃ a b, ∀ x, x < N → h' x = a ∧ l' x = b)

variable {h l h' l' : Nat → BitVec 32}

theorem Alike.rk (e : Alike h l h' l') {x : Nat} (hx : x < N) : rk (U h l) x = rk (U h' l') x := by
  refine rk_congr hx fun y hy => ?_
  unfold U
  rcases e with e | ⟨⟨a, b, e⟩, a', b', e'⟩
  · rw [(e x hx).1, (e x hx).2, (e y hy).1, (e y hy).2]; exact ⟨Iff.rfl, Iff.rfl⟩
  · rw [(e x hx).1, (e x hx).2, (e y hy).1, (e y hy).2, (e' x hx).1, (e' x hx).2, (e' y hy).1, (e' y hy).2]; simp

theorem Alike.place (e : Alike h l h' l') {x : Nat} (hx : x < N) : placeOf h l x = placeOf h' l' x := by
  unfold placeOf; rw [e.rk hx]

theorem Alike.ord (e : Alike h l h' l') (j : Nat) : ordOf h l j = ordOf h' l' j := by
  have hp : (fun x => x < N ∧ Radix.rk (U h l) x = j) = fun x => x < N ∧ Radix.rk (U h' l') x = j :=
    funext fun x => propext ⟨fun hx => ⟨hx.1, (e.rk hx.1) ▸ hx.2⟩, fun hx => ⟨hx.1, (e.rk hx.1).symm ▸ hx.2⟩⟩
  unfold ordOf
  simp only [hp]

theorem ordArr_alike {H L H' L' : Arr} (e : ∀ b : Fin 16, Alike (rowsAt H b.val) (rowsAt L b.val) (rowsAt H' b.val) (rowsAt L' b.val)) :
    ordArr H L = ordArr H' L' := funext fun x => (e (x 0)).ord _

theorem placeArr_alike {H L H' L' : Arr} (e : ∀ b : Fin 16, Alike (rowsAt H b.val) (rowsAt L b.val) (rowsAt H' b.val) (rowsAt L' b.val)) :
    placeArr H L = placeArr H' L' := funext fun x => (e (x 0)).place (lt_of_lt_of_eq (x 1).isLt N_eq.symm)

theorem rowsAt_ix2 (X : Arr) (b : Fin 16) {x : Nat} (hx : x < 8192) : rowsAt X b.val x = X (ix2 b ⟨x, hx⟩) := by
  unfold rowsAt
  rw [dif_pos ⟨b.isLt, hx⟩]
  refine congrArg X (funext fun a => ?_)
  match a with
  | 0 => rfl
  | 1 => rfl

/-! ## The kernel's words -/

section Kernel

open Cert.KernelIdeal Cert.KernelIdeal.Keys Cert.Proof.Block Cert.Proof.Call Cert.Proof.Launch

variable (m : (ℓ : Loc nD τ sig) → Buf (Elt Ideal) ℓ) (d : Dev nD)

/-- A cloud of the argument. -/
def cloudAt (b : Fin 16) (i : Fin 8192) (k : Fin 3) : EReal := (m (aLoc d) : S16x8192x3.Idx → EReal) (ix3 b i k)

theorem cell_val (j : S64x128.Idx) : (cell j).val = (j 0).val * 128 + (j 1).val := Shape.rowMajor_val_two j

/-- The first call's operand. -/
theorem operand_at (k : Fin 3) (b : Fin 16) (r : Fin 64) (c : Fin 128) :
    (atCall m d (Proc.devRef .tc main_v1) : S3x16x64x128.Idx → EReal) (ix4 k b r c) = cloudAt m d b (cell (ix2 r c)) k := by
  have e : atCall m d (Proc.devRef .tc main_v1) = fun i => shapeCast S3x16x64x128 (transpose S3x16x8192 [2, 0, 1]
      (m (aLoc d) : S16x8192x3.Idx → EReal) Gen.transposes_S16x8192x3_S3x16x8192_2_0_1) Gen.shapeCasts_S3x16x8192_S3x16x64x128 i := by
    show opR.result (opT.result (atLaunch m d)) (Proc.devRef .tc main_v1) = _
    rw [StableHlo.reshape_result, StableHlo.unary_result]
    rfl
  rw [e]
  have hv := cell_val (ix2 r c)
  refine (shapeCast_apply _ _ _ (ix3 k b (cell (ix2 r c))) (by
    rw [Shape.rowMajor_val_three, Shape.rowMajor_val_four]
    show (k.val * 16 + b.val) * 8192 + (cell (ix2 r c)).val = ((k.val * 16 + b.val) * 64 + r.val) * 128 + c.val
    rw [hv]
    show _ + (r.val * 128 + c.val) = _
    omega)).trans ?_
  exact transpose_apply _ _ _ _ (ix3 b (cell (ix2 r c)) k) fun a => by
    match a with
    | 0 => rfl
    | 1 => rfl
    | 2 => rfl

theorem plane_at (k : Fin 3) (b : Fin 16) :
    Cert.KernelIdeal.Keys.plane (cloud (atCall m d (Proc.devRef .tc main_v1)) k b) = Agree.plane (cloudAt m d b) k := by
  funext j
  unfold Cert.KernelIdeal.Keys.plane
  refine (shapeCast_apply _ _ _ (ix4 0 0 (j 0) (j 1)) (by
    rw [Shape.rowMajor_val_two, Shape.rowMajor_val_four]
    show ((0 * 1 + 0) * 64 + (j 0).val) * 128 + (j 1).val = (j 0).val * 128 + (j 1).val
    omega)).trans ?_
  unfold cloud
  have e := operand_at m d k b (j 0) (j 1)
  have hj : ix2 (j 0) (j 1) = j := funext fun a => by
    match a with
    | 0 => rfl
    | 1 => rfl
  have e' := e.trans (congrArg (fun q => cloudAt m d b (cell q) k) hj)
  refine Eq.trans (congrArg _ (funext fun a => ?_)) e'
  match a with
  | 0 => rfl
  | 1 => rfl
  | 2 => rfl
  | 3 => rfl

/-- The kernel's grid points of a cloud, and its key's parts. -/
abbrev parts (b : Fin 16) : Pts S64x128 :=
  turned (grays (levels (gridPts (Agree.plane (cloudAt m d b) 0) (Agree.plane (cloudAt m d b) 1) (Agree.plane (cloudAt m d b) 2))))

theorem words_at (o : Out Ideal) (f : Pts S64x128 → IVec S64x128 32)
    (ho : ∀ a b c, o a b c = asPlane (f (turned (grays (levels (gridPts (Cert.KernelIdeal.Keys.plane a) (Cert.KernelIdeal.Keys.plane b) (Cert.KernelIdeal.Keys.plane c))))))) (b : Fin 16) (i : Fin 8192) :
    shapeCast S16x8192 (words o (atCall m d (Proc.devRef .tc main_v1))) Gen.shapeCasts_S16x64x128_S16x8192 (ix2 b i) = f (parts m d b) (cell.symm i) := by
  have hv := cell_val (cell.symm i)
  rw [Equiv.apply_symm_apply] at hv
  refine (shapeCast_apply _ _ _ (ix3 b ((cell.symm i) 0) ((cell.symm i) 1)) (by
    rw [Shape.rowMajor_val_two, Shape.rowMajor_val_three]
    show (b.val * 64 + ((cell.symm i) 0).val) * 128 + ((cell.symm i) 1).val = b.val * 8192 + i.val
    omega)).trans ?_
  show o (cloud _ 0 b) (cloud _ 1 b) (cloud _ 2 b) (inCloud (ix3 b ((cell.symm i) 0) ((cell.symm i) 1))) = _
  rw [ho, plane_at, plane_at, plane_at]
  unfold asPlane
  refine shapeCast_apply _ _ _ (cell.symm i) ?_
  rw [Shape.rowMajor_val_two, Shape.rowMajor_val_three]
  show ((cell.symm i) 0).val * 128 + ((cell.symm i) 1).val = (0 * 64 + ((cell.symm i) 0).val) * 128 + ((cell.symm i) 1).val
  omega

theorem hM_at (b : Fin 16) (i : Fin 8192) : hM m d (ix2 b i) = hiWord (parts m d b) (cell.symm i) := by
  rw [← words_at m d outHi hiWord (fun _ _ _ => rfl)]
  show opL.result (opH.result (leaves (atCall m) d)) (Proc.devRef .tc main_v3) (ix2 b i) = _
  rw [StableHlo.reshape_result_ne _ _ _ _ _ _ _ (by decide), StableHlo.reshape_result, leaves_hi]
  rfl

theorem lM_at (b : Fin 16) (i : Fin 8192) : lM m d (ix2 b i) = loWord (parts m d b) (cell.symm i) := by
  rw [← words_at m d outLo loWord (fun _ _ _ => rfl)]
  show opL.result (opH.result (leaves (atCall m) d)) (Proc.devRef .tc main_v4) (ix2 b i) = _
  rw [StableHlo.reshape_result, StableHlo.reshape_result_ne _ _ _ _ _ _ _ (by decide), leaves_lo]
  rfl

end Kernel

/-! ## Both programs' -/

open Cert.KernelIdeal.Keys (hiWord loWord turned grays levels gridPts Pts)
open Cert.Proof.RefKeys Cert.Proof.RefGrid

/-- The reference's words before their top bits are flipped. -/
def refHi (V0 : Valuation Cert.ReferenceIdeal.τ Cert.ReferenceIdeal.sig (Elt Ideal)) : Arr := hiWord (turned (grays (levels (pts V0))))
def refLo (V0 : Valuation Cert.ReferenceIdeal.τ Cert.ReferenceIdeal.sig (Elt Ideal)) : Arr := loWord (turned (grays (levels (pts V0))))

theorem word_congr {s t : Shape} {x : Pts s} {y : Pts t} {i : s.Idx} {j : t.Idx} (h : three x i = three y j) :
    hiWord x i = hiWord y j ∧ loWord x i = loWord y j := by
  rw [hiWord_apply, hiWord_apply, loWord_apply, loWord_apply, h]; exact ⟨rfl, rfl⟩

theorem alike (m : (ℓ : Loc Cert.KernelIdeal.nD Cert.KernelIdeal.τ Cert.KernelIdeal.sig) → Buf (Elt Ideal) ℓ) (d : Dev Cert.KernelIdeal.nD)
    (V0 : Valuation Cert.ReferenceIdeal.τ Cert.ReferenceIdeal.sig (Elt Ideal)) (hz : ∀ b, cloudOf V0 b = cloudAt m d b) (b : Fin 16) :
    Alike (rowsAt (Launch.hM m d) b.val) (rowsAt (Launch.lM m d) b.val) (rowsAt (refHi V0) b.val) (rowsAt (refLo V0) b.val) := by
  have hk : ∀ x (hx : x < N), rowsAt (Launch.hM m d) b.val x = hiWord (parts m d b) (cell.symm ⟨x, lt_of_lt_of_eq hx N_eq⟩)
      ∧ rowsAt (Launch.lM m d) b.val x = loWord (parts m d b) (cell.symm ⟨x, lt_of_lt_of_eq hx N_eq⟩) := fun x hx =>
    ⟨(rowsAt_ix2 _ b _).trans (hM_at m d b _), (rowsAt_ix2 _ b _).trans (lM_at m d b _)⟩
  have hr : ∀ x (hx : x < N), rowsAt (refHi V0) b.val x = refHi V0 (ix2 b ⟨x, lt_of_lt_of_eq hx N_eq⟩)
      ∧ rowsAt (refLo V0) b.val x = refLo V0 (ix2 b ⟨x, lt_of_lt_of_eq hx N_eq⟩) := fun x hx =>
    ⟨rowsAt_ix2 _ b _, rowsAt_ix2 _ b _⟩
  have h0 : 0 < N := by rw [N_eq]; decide
  rcases agree (cloudAt m d b) with e | ⟨⟨p, e⟩, q, e'⟩
  · left
    intro x hx
    rw [(hk x hx).1, (hk x hx).2, (hr x hx).1, (hr x hx).2]
    refine word_congr (curve_apply _ _ _ _ ?_)
    rw [e, Equiv.apply_symm_apply, pts_at, hz]
  · right
    refine ⟨⟨rowsAt (Launch.hM m d) b.val 0, rowsAt (Launch.lM m d) b.val 0, fun x hx => ?_⟩,
      ⟨rowsAt (refHi V0) b.val 0, rowsAt (refLo V0) b.val 0, fun x hx => ?_⟩⟩
    · rw [(hk x hx).1, (hk x hx).2, (hk 0 h0).1, (hk 0 h0).2]
      exact word_congr (curve_apply _ _ _ _ (by rw [e, e]))
    · rw [(hr x hx).1, (hr x hx).2, (hr 0 h0).1, (hr 0 h0).2]
      exact word_congr (curve_apply _ _ _ _ (by rw [pts_at, pts_at, hz, e', e']))

end Cert.Proof.Orders

end
-- ==== Proof.Alone.Text.lean ====
/-
  The body of a tile as the sort's call prints it by itself is `task` too.
-/
module

public import proofs.«01_k».proof.Proof.Gen.SortCall
public import proofs.«01_k».proof.Proof.Parts
public import proofs.«01_k».proof.Proof.Rules

@[expose] public section

noncomputable section

namespace Cert.Proof.Alone.Text

open Cert.SortCall Cert.SortCall.Gen
open Idealize.ShloMosaic
open Idealize.ShloMosaic.Rounds
open Idealize.SL Idealize.SL.RA Idealize.SL.Sem
open Cert.Proof.Body hiding sig Λ₀ defs₀

/-- The rounds of the handshakes, beside the counters of the copies. -/
abbrev UH : Type := URounds (GSem nD τ sig) ℕ

/-- The sort's call by itself. -/
@[reducible] instance prg : Prg where
  sig := sig
  Λ₀ := Λ₀
  defs₀ := defs₀
  U := UH

variable {F : FTy → Type} [FloatOps F]

variable (i : grid0.Coords) (a2 : Big) (h2 : a2.IsWhole)
    (a3 : Big) (h3 : a3.IsWhole)
    (a4 : Big) (h4 : a4.IsWhole)
    (a5 : Big) (h5 : a5.IsWhole)
    (a6 : M8) (h6 : a6.IsWhole)
    (a7 : M8) (h7 : a7.IsWhole)
    (a8 : M8) (h8 : a8.IsWhole)
    (a9 : M8) (h9 : a9.IsWhole)
    (a10 : M8) (h10 : a10.IsWhole)
    (a11 : M8) (h11 : a11.IsWhole)
    (a12 : M8) (h12 : a12.IsWhole)
    (a13 : M2) (h13 : a13.IsWhole)
    (a14 : M2) (h14 : a14.IsWhole)
    (a15 : M2) (h15 : a15.IsWhole)
    (a16 : M2) (h16 : a16.IsWhole)
    (r0 r1 r2 r3 : DmaSems sig S_)

omit [FloatOps F] in
theorem bind_congr₂ {c : Fin τ.nSC} {s : Fin τ.nSub} {α β : Type} {p p' : Prog (Eff F c s) α} {f f' : α → Prog (Eff F c s) β}
    (h : p = p') (hf : ∀ x, f x = f' x) : (p >>= f) = (p' >>= f') := by
  obtain rfl := h; obtain rfl := funext hf; rfl

set_option maxHeartbeats 4000000

theorem part15_eq (h : k0_cond1 i = 1#1) :
    k0_part15 (F := F) i a2 h2 a3 h3 a4 h4 a5 h5 a6 h6 a7 h7 a8 h8 a9 h9 a10 h10 a11 h11 a12 h12 a13 h13 a14 h14 a15 h15 a16 h16 r0 r1 r2 r3 h = (do
      cpIn a2 (k0_off1 i) (k0_off1_inb i h) a6 h6 r0.sem
      cpIn a3 (k0_off1 i) (k0_off1_inb i h) a7 h7 r1.sem
      let _ ← zloop (four a13 a14 a15 a16)
      let _ ← hloop (key1 a7 0#32) (cH0 i h) (four a13 a14 a15 a16) a12
      let _ ← sloop (four a13 a14 a15 a16)
      let _ ← ploop (key1 a7 0#32) (cD0 i h) (cR0 i h) (four a13 a14 a15 a16) a12 (tail0 a6 a9 a10 a11)
      pure ⟨broadcast S16 0#32, 0#32⟩) := by
  unfold k0_part15
  unfold cpIn
  iterate 4 refine congrArg (Prog.op _) (funext fun _ => ?_)
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k0_part1, k0_part2, key1, key2, tail0, tail1, tail2, tail5, rd8, st8, rd2, st2, Prog.bind_lift, Prog.bind_op, Prog.bind_ret, Prog.pure_eq_ret]
       repeat refine congrArg (Prog.op _) (funext fun _ => ?_)
       rfl)
    | rfl

theorem part16_eq (h : k0_cond1 i = 1#1) :
    k0_part16 (F := F) i a2 h2 a3 h3 a4 h4 a5 h5 a6 h6 a7 h7 a8 h8 a9 h9 a10 h10 a11 h11 a12 h12 a13 h13 a14 h14 a15 h15 a16 h16 r0 r1 r2 r3 h (broadcast S16 0#32) 0#32 = (do
      let _ ← zloop (four a13 a14 a15 a16)
      let _ ← hloop (key1 a10 11#32) (cH1 i h) (four a13 a14 a15 a16) a12
      let _ ← sloop (four a13 a14 a15 a16)
      let _ ← ploop (key1 a10 11#32) (cD1 i h) (cR1 i h) (four a13 a14 a15 a16) a12 (tail1 a9 a11 a6 a7 a8)
      let _ ← zloop (four a13 a14 a15 a16)
      let _ ← hloop (key2 a7 a6) (cH2 i h) (four a13 a14 a15 a16) a12
      let _ ← sloop (four a13 a14 a15 a16)
      let _ ← ploop (key2 a7 a6) (cD2 i h) (cR2 i h) (four a13 a14 a15 a16) a12 (tail2 Prod.snd a8 a9 a11)
      pure ⟨0#32, 0#32, 1#32⟩) := by
  unfold k0_part16
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k0_part3, k0_part4, k0_part5, k0_part6, k0_part7, k0_part8, key1, key2, tail0, tail1, tail2, tail5, rd8, st8, rd2, st2, Prog.bind_lift, Prog.bind_op, Prog.bind_ret, Prog.pure_eq_ret]
       repeat refine congrArg (Prog.op _) (funext fun _ => ?_)
       rfl)
    | rfl

theorem part17_eq (h : k0_cond1 i = 1#1) :
    k0_part17 (F := F) i a2 h2 a3 h3 a4 h4 a5 h5 a6 h6 a7 h7 a8 h8 a9 h9 a10 h10 a11 h11 a12 h12 a13 h13 a14 h14 a15 h15 a16 h16 r0 r1 r2 r3 h (broadcast S16 0#32) 0#32 0#32 1#32 = (do
      let _ ← zloop (four a13 a14 a15 a16)
      let _ ← hloop (key1 a9 1#32) (cH3 i h) (four a13 a14 a15 a16) a12
      let _ ← sloop (four a13 a14 a15 a16)
      let _ ← ploop (key1 a9 1#32) (cD3 i h) (cR3 i h) (four a13 a14 a15 a16) a12 (tail2 id a11 a6 a8)
      let _ ← zloop (four a13 a14 a15 a16)
      let _ ← hloop (key1 a6 12#32) (cH4 i h) (four a13 a14 a15 a16) a12
      let _ ← sloop (four a13 a14 a15 a16)
      let _ ← ploop (key1 a6 12#32) (cD4 i h) (cR4 i h) (four a13 a14 a15 a16) a12 (tail2 id a8 a9 a11)
      let _ ← zloop (four a13 a14 a15 a16)
      pure ⟨0#32, 0#32⟩) := by
  unfold k0_part17
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k0_part9, k0_part10, k0_part11, k0_part12, key1, key2, tail0, tail1, tail2, tail5, rd8, st8, rd2, st2, Prog.bind_lift, Prog.bind_op, Prog.bind_ret, Prog.pure_eq_ret]
       repeat refine congrArg (Prog.op _) (funext fun _ => ?_)
       rfl)
    | rfl

/-- The printed body is two copies in, six passes and two copies out, on the tiles that hold a row. -/
theorem task_eq : cc0__sort_body (F := F) i a2 h2 a3 h3 a4 h4 a5 h5 a6 h6 a7 h7 a8 h8 a9 h9 a10 h10 a11 h11 a12 h12 a13 h13 a14 h14 a15 h15 a16 h16 r0 r1 r2 r3 =
    task i a2 a3 a4 a5 a6 h6 a7 h7 a8 h8 a9 a10 a11 a12 a13 a14 a15 a16 r0 r1 r2 r3 := by
  unfold cc0__sort_body
  unfold task
  refine dite_congr rfl (fun h => ?_) (fun _ => rfl)
  simp only [part15_eq, part16_eq, part17_eq, pass, cpOut, Prog.bind_assoc, Prog.pure_eq_ret, Prog.bind_ret]
  repeat' refine bind_congr₂ ?_ fun _ => ?_
  all_goals first
    | (first | unfold zloop | unfold hloop | unfold sloop | unfold ploop
       refine congrArg (Scf.Loop.for lp lp_ok 0#32) (funext fun k => funext fun t => ?_)
       first | unfold zbody | unfold hbody hblk | unfold sbody | unfold pbody pblk
       dsimp only [k0_part13, k0_part14, key1, key2, tail0, tail1, tail2, tail5, rd8, st8, rd2, st2, Prog.bind_lift, Prog.bind_op, Prog.bind_ret, Prog.pure_eq_ret]
       repeat refine congrArg (Prog.op _) (funext fun _ => ?_)
       rfl)
    | rfl

end Cert.Proof.Alone.Text

end
-- ==== Proof.Alone.Tiles.lean ====
/-
  Tiles.lean for the sort's call by itself, whose arrays and scratch are other buffers.
-/
module

public import proofs.«01_k».proof.Proof.Rows
public import proofs.«01_k».proof.Proof.Alone.Text

@[expose] public section

noncomputable section

namespace Cert.Proof.Alone.Tiles

open Cert.SortCall Cert.SortCall.Gen
open Idealize.ShloMosaic
open Idealize.ShloMosaic.SparseCore (V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Body hiding sig Λ₀ defs₀
open Cert.Proof.Rules Cert.Proof.Sort Cert.Proof.Tile Cert.Proof.Rows Cert.Proof.Alone.Text

variable {F : FTy → Type} [FloatOps F]

local notation "𝕄" => MT nD τ sig (HIx 1) (Elt F) ℕ UU ℕ

/-! ## The arrays -/

abbrev hA : Big := Memref.whole main_arg0_scv
abbrev lA : Big := Memref.whole main_arg1_scv
abbrev pA : Big := Memref.whole main_v0_0_scv
abbrev rA : Big := Memref.whole main_v0_1_scv
abbrev hLoc (d : Dev nD) : Loc nD τ sig := (SparseCore.T d).loc main_arg0
abbrev lLoc (d : Dev nD) : Loc nD τ sig := (SparseCore.T d).loc main_arg1
abbrev pLoc (d : Dev nD) : Loc nD τ sig := (SparseCore.T d).loc main_v0_0
abbrev rLoc (d : Dev nD) : Loc nD τ sig := (SparseCore.T d).loc main_v0_1

/-! ## A tile's own scratch and counters -/

def scr : Fin 11 → Ref sig .scVector :=
  ![cc0_scratch0, cc0_scratch1, cc0_scratch2, cc0_scratch3, cc0_scratch4, cc0_scratch5, cc0_scratch6, cc0_scratch7, cc0_scratch8, cc0_scratch9, cc0_scratch10]
def sems : Fin 4 → DmaSem sig := ![cc0_scoped0.sem, cc0_scoped1.sem, cc0_scoped2.sem, cc0_scoped3.sem]

theorem scr_inj : Function.Injective scr := by decide
theorem sems_inj : Function.Injective sems := by decide
theorem sems_own : ∀ k, (SemLoc.dma (sems k) : SemLoc sig).isScoped .scVector = true := by decide
theorem scr_own (c : Fin τ.nSC) (s : Fin τ.nSub) : ∀ k, ((Proc.scVector c s).devRef (scr k)).owner = .proc (Proc.scVector c s) := by
  intro k; fin_cases k <;> rfl

section Own

variable (d : Dev nD) (i : grid0.Coords)

abbrev myScratch : sProp 𝕄 :=
  scratch d i (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) (Memref.whole cc0_scratch9) (Memref.whole cc0_scratch10)
abbrev myZeros : sProp 𝕄 := zeros d i cc0_scoped0 cc0_scoped1 cc0_scoped2 cc0_scoped3

def restBufs : Finset (DevRef τ sig) :=
  ownRefs (Proc.scVector (cV i) (jV i)) \ Finset.univ.image fun k => (Proc.scVector (cV i) (jV i)).devRef (scr k)
def restSems : Finset (GSem nD τ sig) :=
  ownCells (V d (cV i) (jV i)) \ Finset.univ.image fun k => ((V d (cV i) (jV i), SemLoc.dma (sems k)) : GSem nD τ sig)

theorem scratch_eq : (myScratch d i : sProp 𝕄)
    = bigSep Finset.univ fun k => iprop(∃ f, (V d (cV i) (jV i)).loc (scr k) ↦{fullShare} f) := by
  rw [show (Finset.univ : Finset (Fin 11)) = {0, 1, 2, 3, 4, 5, 6, 7, 8, 9, 10} by decide]
  repeat rw [SparseCore.bigSep_insert' (by decide)]
  rw [bigSep_singleton]
  unfold myScratch scratch
  rw [hists'_four]
  simp only [any8_eq, any2_eq]
  simp only [owns_whole]
  rfl

theorem ownBufs_V : (ownBufs (V d (cV i) (jV i)) : sProp 𝕄)
    = iprop(myScratch d i ∗ bigSep (restBufs i) fun b => iprop(∃ f, ((d, b) : Loc nD τ sig) ↦{fullShare} f)) := by
  unfold SparseCore.Cfg.ownBufs restBufs
  rw [scratch_eq]
  refine (SparseCore.bigSep_sdiff_split' (t := Finset.univ.image fun k => (Proc.scVector (cV i) (jV i)).devRef (scr k)) ?_).trans ?_
  · intro b hb
    obtain ⟨k, -, rfl⟩ := Finset.mem_image.mp hb
    exact SparseCore.Cfg.mem_ownRefs_of_owner (scr_own _ _ k)
  · rw [bigSep_image_of_injOn (fun a _ b _ e => scr_inj (Proc.devRef_injective _ e))]

theorem ownSems0_V : (ownSems0 (V d (cV i) (jV i)) : sProp 𝕄)
    = iprop(myZeros d i ∗ bigSep (restSems d i) fun g => semVal g 0) := by
  unfold SparseCore.Cfg.ownSems0 restSems
  refine (SparseCore.bigSep_sdiff_split' (t := Finset.univ.image fun k => ((V d (cV i) (jV i), SemLoc.dma (sems k)) : GSem nD τ sig)) ?_).trans ?_
  · intro b hb
    obtain ⟨k, -, rfl⟩ := Finset.mem_image.mp hb
    refine mem_ownCells.mpr ⟨rfl, ?_⟩
    exact sems_own k
  · rw [bigSep_image_of_injOn (fun a _ b _ e => sems_inj (by simpa using e)),
      show (Finset.univ : Finset (Fin 4)) = {0, 1, 2, 3} by decide]
    repeat rw [SparseCore.bigSep_insert' (by decide)]
    rw [bigSep_singleton]
    rfl

end Own

/-! ## A tile's row, in and out -/

/-- Row `r` of the four arrays: the two words at `H`, `L`, the results at `P`, `R`; nothing where there is no row `r`. -/
def forRow (d : Dev nD) (r : Nat) (H L P R : Arr) : sProp 𝕄 :=
  if h : r < 16 then
    iprop((hLoc d ↦[rowSet ⟨r, h⟩]{fullShare} (H : Buf (Elt F) (hLoc d))) ∗ (lLoc d ↦[rowSet ⟨r, h⟩]{fullShare} (L : Buf (Elt F) (lLoc d)))
      ∗ (pLoc d ↦[rowSet ⟨r, h⟩]{fullShare} (P : Buf (Elt F) (pLoc d))) ∗ (rLoc d ↦[rowSet ⟨r, h⟩]{fullShare} (R : Buf (Elt F) (rLoc d))))
  else iprop(emp)

section Task

variable (d : Dev nD) (i : grid0.Coords)

/-- What the tile at `i` runs. -/
abbrev body : Prog (Eff F (cV i) (jV i)) PUnit :=
  cc0__sort_body (F := F) i hA (Memref.isWhole_whole _) lA (Memref.isWhole_whole _) pA (Memref.isWhole_whole _) rA (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) cc0_scoped0 cc0_scoped1 cc0_scoped2 cc0_scoped3

theorem row_in (h : rowNo i < 16) (H L P R : Arr) : forRow d (rowNo i) H L P R ⊢ (held d i h hA lA pA rA H L P R : sProp 𝕄) := by
  unfold forRow held; rw [dif_pos h]
  exact BI.sep_mono (rowV_in d i h hA H Finset.map_refl) (BI.sep_mono (rowV_in d i h lA L Finset.map_refl)
    (BI.sep_mono (rowV_in d i h pA P Finset.map_refl) (rowV_in d i h rA R Finset.map_refl)))

theorem row_out (h : rowNo i < 16) (H L P R : Arr) : (held d i h hA lA pA rA H L P R : sProp 𝕄) ⊢ forRow d (rowNo i) H L P R := by
  unfold forRow held; rw [dif_pos h]
  exact BI.sep_mono (rowV_out d i h hA H Finset.map_refl) (BI.sep_mono (rowV_out d i h lA L Finset.map_refl)
    (BI.sep_mono (rowV_out d i h pA P Finset.map_refl) (rowV_out d i h rA R Finset.map_refl)))

/-- The tile at `i` from its row to its row sorted. -/
theorem tile_body (H L P R : Arr) (O : CellTallies nD τ sig (HIx 1)) (W : Waits sig (HIx 1)) :
    iprop(Transfers.MayWaits (V d (cV i) (jV i)) none O ∗ forRow d (rowNo i) H L P R
        ∗ ownBufs (V d (cV i) (jV i)) ∗ ownSems0 (V d (cV i) (jV i)) ∗ owes (V d (cV i) (jV i)) O W)
      ⊢ run d (cV i) (jV i) (body (F := F) i)
        (fun _ => iprop(forRow d (rowNo i) H L (ordArr H L) (placeArr H L) ∗ ownBufs (V d (cV i) (jV i)) ∗ ownSems0 (V d (cV i) (jV i))
          ∗ ∃ W', ⌜∀ p ∈ W', p ∈ W ∨ p.2 = none⌝ ∗ owes (V d (cV i) (jV i)) O W')) := by
  unfold body
  rw [task_eq]
  exact tile_task d i hA lA pA rA (Memref.whole cc0_scratch0) (Memref.isWhole_whole _) (Memref.whole cc0_scratch1) (Memref.isWhole_whole _)
    (Memref.whole cc0_scratch2) (Memref.isWhole_whole _) (Memref.whole cc0_scratch3) (Memref.whole cc0_scratch4)
    (Memref.whole cc0_scratch5) (Memref.whole cc0_scratch6) (Memref.whole cc0_scratch7) (Memref.whole cc0_scratch8)
    (Memref.whole cc0_scratch9) (Memref.whole cc0_scratch10) cc0_scoped0 cc0_scoped1 cc0_scoped2 cc0_scoped3
    H L P R (fun h => row_in d i h H L P R) (fun h => row_out d i h H L _ _) (fun h => dif_neg h) (ownBufs_V d i) (ownSems0_V d i) O W

end Task

end Cert.Proof.Alone.Tiles

end
-- ==== Proof.Alone.Launch.lean ====
/-
  The run of the sort's call by itself, over the two cores and their sixteen tiles each: no operation of the host and no
  other call stands beside it.
-/
module

public import proofs.«01_k».proof.Proof.Alone.Tiles

@[expose] public section

noncomputable section

namespace Cert.Proof.Alone.Launch

open Cert.SortCall Cert.SortCall.Gen
open Idealize.ShloMosaic
open Idealize.ShloMosaic.SparseCore (V)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Body hiding sig Λ₀ defs₀
open Cert.Proof.Rules Cert.Proof.Tile Cert.Proof.Rows Cert.Proof.Alone.Text Cert.Proof.Alone.Tiles

variable {F : FTy → Type} [FloatOps F]

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## What a core and a tile are handed -/

variable (m : (ℓ : Loc nD τ sig) → Buf (Elt F) ℓ) (ρ : Dev nD → PrngReg)

abbrev hM (d : Dev nD) : Arr := m (hLoc d)
abbrev lM (d : Dev nD) : Arr := m (lLoc d)
/-- Row `r` before the call, and after. -/
abbrev pre (d : Dev nD) (r : Nat) : sProp 𝕄 := forRow d r (hM m d) (lM m d) (m (pLoc d)) (m (rLoc d))
abbrev post (d : Dev nD) (r : Nat) : sProp 𝕄 := forRow d r (hM m d) (lM m d) (ordArr (hM m d) (lM m d)) (placeArr (hM m d) (lM m d))

instance forRow_storable (d : Dev nD) (r : Nat) (H L P R : Arr) : BI.Storable (upEmb : UEmb _ 𝕄) (forRow d r H L P R) := by
  unfold forRow; split <;> infer_instance

def P : (K (F := F)).Pay (nD := nD) (Val := Elt F) (Name := ℕ) (U := UU) where
  st := fun _ d c => bigSep Finset.univ fun i : Fin 16 => pre m d (2 * i.val + c.val)
  dn := fun _ d c => bigSep Finset.univ fun i : Fin 16 => post m d (2 * i.val + c.val)
  go := fun _ d c i => pre m d (2 * i.val + c.val)
  td := fun _ d c i => post m d (2 * i.val + c.val)
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## A tile's task and a core's split -/

theorem defs₀_vector (c : Fin τ.nSC) (s : Fin τ.nSub) :
    defs₀ (F := F) (.scVector c s) 0 () = SparseCore.onTile hcore0 hsub0 (fun c s => body (F := F) (coords c s)) ⟨⟩ c s := rfl

theorem tile_run (d : Dev nD) (i : grid0.Coords) (O : CellTallies nD τ sig (HIx 1)) (W : Waits sig (HIx 1)) (hO : ∀ g, O g none = 0) :
    iprop(levAts (K (F := F)).L (K (F := F)).lev ∗ emp ∗ pre m d (rowNo i)
        ∗ scopedBufs (V d (cV i) (jV i)) ∗ scopedSems0 (V d (cV i) (jV i)) ∗ owes (V d (cV i) (jV i)) O W)
      ⊢ run d (cV i) (jV i) (body (F := F) i)
        fun _ => iprop(post m d (rowNo i) ∗ scopedBufs (V d (cV i) (jV i)) ∗ scopedSems0 (V d (cV i) (jV i))
          ∗ ∃ W', ⌜∀ p ∈ W', p ∈ W ∨ p.2 = none⌝ ∗ owes (V d (cV i) (jV i)) O W') := by
  rw [(K (F := F)).scopedBufs_V facts d (cV i) (jV i), SparseCore.Cfg.scopedSems0_V (Val := Elt F) d (cV i) (jV i)]
  iintro ⟨#Hlv, -, Hrow, Hb, Hs, HO⟩
  ihave Hmw := ((K (F := F)).mayWaits_none (thr := V d (cV i) (jV i)) hO) $$ Hlv
  iapply (tile_body (F := F) d i (hM m d) (lM m d) (m (pLoc d)) (m (rLoc d)) O W)
  isplitl [Hmw]; · iexact Hmw
  isplitl [Hrow]; · iexact Hrow
  isplitl [Hb]; · iexact Hb
  isplitl [Hs] <;> iassumption

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_run m d (coords ⟨c.val, hc.1⟩ ⟨i.val, hc.2⟩) O W hO).trans (wp_mono frame _ _ fun _ => obl_post)

theorem vecSplit : (K (F := F)).VecSplit' (P m) 0 := by
  intro d c
  show (bigSep Finset.univ fun i : Fin 16 => pre m d (2 * i.val + c.val))
    ⊢ |={Set.univ}=> iprop((bigSep Finset.univ fun i : Fin 16 => pre m d (2 * i.val + c.val))
        ∗ ((bigSep Finset.univ fun i : Fin 16 => post m d (2 * i.val + c.val)) -∗ bigSep Finset.univ fun i : Fin 16 => post m d (2 * i.val + c.val)))
  iintro H
  imodintro
  isplitl [H]; · iexact H
  iintro H
  iexact H

/-! ## The sixteen rows -/

/-- The four arrays whole. -/
def whole (d : Dev nD) (H L P R : Arr) : sProp 𝕄 :=
  iprop((hLoc d ↦{fullShare} (H : Buf (Elt F) (hLoc d))) ∗ (lLoc d ↦{fullShare} (L : Buf (Elt F) (lLoc d)))
    ∗ (pLoc d ↦{fullShare} (P : Buf (Elt F) (pLoc d))) ∗ (rLoc d ↦{fullShare} (R : Buf (Elt F) (rLoc d))))

theorem cut_h (d : Dev nD) (f : Buf (Elt F) (hLoc d)) :
    (hLoc d ↦{fullShare} f : sProp 𝕄) = bigSep Finset.univ fun r : Fin 16 => hLoc d ↦[rowSet r]{fullShare} f := by
  rw [← pointsTo_biUnion Finset.univ (ℓ := hLoc d) rowSet rows_disjoint, rows_cover]; try rfl
theorem cut_l (d : Dev nD) (f : Buf (Elt F) (lLoc d)) :
    (lLoc d ↦{fullShare} f : sProp 𝕄) = bigSep Finset.univ fun r : Fin 16 => lLoc d ↦[rowSet r]{fullShare} f := by
  rw [← pointsTo_biUnion Finset.univ (ℓ := lLoc d) rowSet rows_disjoint, rows_cover]; try rfl
theorem cut_p (d : Dev nD) (f : Buf (Elt F) (pLoc d)) :
    (pLoc d ↦{fullShare} f : sProp 𝕄) = bigSep Finset.univ fun r : Fin 16 => pLoc d ↦[rowSet r]{fullShare} f := by
  rw [← pointsTo_biUnion Finset.univ (ℓ := pLoc d) rowSet rows_disjoint, rows_cover]; try rfl
theorem cut_r (d : Dev nD) (f : Buf (Elt F) (rLoc d)) :
    (rLoc d ↦{fullShare} f : sProp 𝕄) = bigSep Finset.univ fun r : Fin 16 => rLoc d ↦[rowSet r]{fullShare} f := by
  rw [← pointsTo_biUnion Finset.univ (ℓ := rLoc d) rowSet rows_disjoint, rows_cover]; try rfl

theorem rows_whole (d : Dev nD) (H L P R : Arr) :
    (bigSep Finset.univ fun c : Fin 2 => bigSep Finset.univ fun i : Fin 16 => forRow d (2 * i.val + c.val) H L P R) = (whole d H L P R : sProp 𝕄) := by
  rw [rows_all (fun r => forRow d r H L P R) (fun r hr => by unfold forRow; rw [dif_neg hr])]
  unfold whole
  rw [cut_h, cut_l, cut_p, cut_r, together, together, together]
  exact bigSep_congr fun r _ => by unfold forRow; rw [dif_pos r.isLt]

/-! ## @main -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

theorem unscopedBufs_eq (d : Dev nD) :
    (unscopedBufs d (fun b => m ((SparseCore.T d).loc b)) : sProp 𝕄) = whole d (hM m d) (lM m d) (m (pLoc d)) (m (rLoc d)) := by
  unfold unscopedBufs whole
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = whole d (hM m d) (lM m d) (m (pLoc d)) (m (rLoc d)) := rows_whole d _ _ _ _
theorem dn0_eq (d : Dev nD) : (bigSep Finset.univ fun c : Fin ((K (F := F)).nCore 0) => (P m).dn 0 d c)
    = whole d (hM m d) (lM m d) (ordArr (hM m d) (lM m d)) (placeArr (hM m d) (lM m d)) := rows_whole d _ _ _ _

abbrev FIN (d : Dev nD) : sProp 𝕄 := whole d (hM m d) (lM m d) (ordArr (hM m d) (lM m d)) (placeArr (hM m d) (lM m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hw, Hts, -⟩, -⟩
  iapply ((K (F := F)).wp_run (D (F := F)) 𝒱 (EH := EH) (P := P m) κ d 0) $$ [Hst Hw Hb Hts]
  isplitr; · iexact Hctx
  isplitl [Hst]; · iexact Hst
  isplitl [Hw]
  · rw [st0_eq]; iexact Hw
  iintro ⟨Hst, Hdn⟩
  ihave Hdn := (Entails.of_eq (dn0_eq m d)) $$ Hdn
  imodintro
  isplitl [Hst]; · iexact Hst
  isplitl [Hdn]; · iexact Hdn
  isplitl [Hb] <;> iassumption

def fq (d : Dev nD) (s' : Phys nD τ sig (Elt F)) : Prop :=
  s'.mem.mem (hLoc d) = m (hLoc d) ∧ s'.mem.mem (lLoc d) = m (lLoc d)
    ∧ s'.mem.mem (pLoc d) = ordArr (hM m d) (lM m d) ∧ s'.mem.mem (rLoc d) = placeArr (hM m d) (lM m d)

theorem hfin (d : Dev nD) (s' : Phys nD τ sig (Elt F)) : iprop(FIN m d ∗ SI s') ⊢ (⌜fq m d s'⌝ : sProp 𝕄) := by
  show iprop(whole d _ _ _ _ ∗ SI s') ⊢ _
  unfold whole
  iintro ⟨⟨Hh, Hl, Hp, Hr⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (persistent_entails_right (SI_pointsTo_agree (st := s') (ℓ := pLoc d) (I := Finset.univ) (q := fullShare) (f := ordArr (hM m d) (lM m d)))) $$ [HSI Hp]
  · isplitl [HSI] <;> iassumption
  icases H with ⟨%h3, HSI, -⟩
  ihave H := (SI_pointsTo_agree (st := s') (ℓ := rLoc d) (I := Finset.univ) (q := fullShare) (f := placeArr (hM m d) (lM m d))) $$ [HSI Hr]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The run -/

def QC : PUnit × MemSt nD τ sig (Elt F) → Prop := fun r =>
  (∀ c : Dev nD, r.2.mem (hLoc c) = m (hLoc c) ∧ r.2.mem (lLoc c) = m (lLoc c)
    ∧ r.2.mem (pLoc c) = ordArr (hM m c) (lM m c) ∧ r.2.mem (rLoc c) = placeArr (hM m c) (lM m c)) ∧ r.2.sem = fun _ => 0

theorem run_main [∀ e, Nonempty (Elt F e)] : θ_run (Cert.SortCall.defs (F := F)) (Cert.SortCall.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Alone.Launch

end
-- ==== Proof.lean ====
/-
  The claims put together: both frames and the value claim from one run of the kernel (`Launch.run_main`), the
  reference's from its own run, and the comparison of the two programs' key words (`Orders.alike`).
-/
module

public import proofs.«01_k».proof.Defs
public import proofs.«01_k».proof.Proof.Orders
public import proofs.«01_k».proof.Proof.Gen.Kernel
public import proofs.«01_k».proof.Proof.Gen.KernelIdeal
public import proofs.«01_k».proof.Proof.Alone.Launch
public import proofs.«01_k».proof.Proof.Gen.SortCall
public import proofs.«01_k».proof.Proof.Gen.SortReference.Run
public import proofs.«01_k».proof.Proof.Gen.ReferenceIdeal.Run

@[expose] public section

noncomputable section

namespace Cert.Proof

open Idealize.ShloMosaic Idealize.SL.Sem
open Cert.Proof.Tiles Cert.Proof.Rows

section Texts

variable {F : FTy → Type} [FloatOps F]

/-- The two texts of the kernel have the same bodies, label by label, -/
theorem bodies_eq : (Cert.Kernel.defs₀ (F := F)) = Cert.KernelIdeal.defs₀ := by
  funext p ℓ a
  match p, ℓ, a with
  | .tc, 0, (_, _) => rfl
  | .tc, 1, _ => rfl
  | .scVector _ _, 1, _ => rfl
  | .scVector _ _, 0, _ => rfl
  | .scScalar _, 0, _ => rfl
  | .scScalar _, 1, _ => rfl

/-- so the same body table. -/
theorem defs_eq : (Cert.Kernel.defs (F := F)) = Cert.KernelIdeal.defs :=
  congrArg (fun d => (Cert.KernelIdeal.sc (F := F)).defs (Pipeline.defs Cert.KernelIdeal.pcfgs d)) bodies_eq

end Texts

theorem frame_kernel : Cert.quiescent_Kernel := fun m ρ _ => by
  have h := Launch.run_main (F := Bits) m ρ
  rw [← defs_eq] at h
  exact (θ_run Cert.Kernel.defs Cert.Kernel.threads ⟨m, fun _ => 0, ρ⟩).mono (fun _ h => ⟨fun c => (h.1 c).1, h.2⟩) h

theorem frame_ideal : Cert.quiescent_KernelIdeal := fun m ρ _ =>
  (θ_run Cert.KernelIdeal.defs _ _).mono (fun _ h => ⟨fun c => (h.1 c).1, h.2⟩) (Launch.run_main (F := Ideal) m ρ)

theorem frame_refIdeal : Cert.quiescent_ReferenceIdeal := fun m ρ _ =>
  (θ_run Cert.ReferenceIdeal.defs _ _).mono (fun _ h => ⟨fun c => (h c).2.2, sem_eq_zero_of_no_sems rfl _⟩) (Cert.ReferenceIdeal.Value.run (F := Ideal) m ρ)

section Reference

open Cert.ReferenceIdeal Cert.ReferenceIdeal.Value

variable (V0 : Valuation τ sig (Elt Ideal))

/-- The reference's two results are the order and the places by its own words. -/
theorem ref_ord : (res_main_v1288_2 V0 : Arr) = ordArr (Orders.refHi V0) (Orders.refLo V0) := by
  refine Eq.trans ?_ (RefSort.sort_ord (Orders.refHi V0) (Orders.refLo V0))
  rw [← show (res_main_v1285 V0 : Arr) = fun x => Orders.refHi V0 x ^^^ 2147483648#32 from funext fun x => RefKeys.hi_eq V0 x,
    ← show (res_main_v1287 V0 : Arr) = fun x => Orders.refLo V0 x ^^^ 2147483648#32 from funext fun x => RefKeys.lo_eq V0 x]
  rfl

theorem ref_place : (Host.sort2 S16x8192 1 comparator_i32_i32_d1 (res_main_v1288_2 V0) (res_main_v1283 V0)).2
    = placeArr (Orders.refHi V0) (Orders.refLo V0) := by
  refine Eq.trans ?_ (RefSort.sort_place (Orders.refHi V0) (Orders.refLo V0))
  rw [← ref_ord]
  rfl

end Reference

theorem value_ideal : Cert.algebraic_KernelIdeal_ReferenceIdeal := fun m ρ m' ρ' _ hin => by
  have ha : ∀ c b, RefGrid.cloudOf (StableHlo.launchContents m' c) b = Orders.cloudAt m c b := fun c b => by
    funext i k
    exact congrFun (hin c) (ix3 b i k)
  refine ⟨fun c => ordArr (Launch.hM m c) (Launch.lM m c), fun c => placeArr (Launch.hM m c) (Launch.lM m c),
    (θ_run Cert.KernelIdeal.defs _ _).mono (fun _ h c => ⟨(h.1 c).2.1, (h.1 c).2.2, (h.1 c).1⟩) (Launch.run_main (F := Ideal) m ρ),
    (θ_run Cert.ReferenceIdeal.defs _ _).mono (fun _ h c => ?_) (Cert.ReferenceIdeal.Value.run (F := Ideal) m' ρ')⟩
  have e := Orders.alike m c _ (ha c)
  exact ⟨((h c).1.trans (ref_ord _)).trans (Orders.ordArr_alike e).symm,
    ((h c).2.1.trans (ref_place _)).trans (Orders.placeArr_alike e).symm, (h c).2.2⟩

theorem frame_sort : Cert.quiescent_SortCall := fun m ρ _ =>
  (θ_run Cert.SortCall.defs _ _).mono (fun _ h => ⟨fun c => ⟨(h.1 c).1, (h.1 c).2.1⟩, h.2⟩) (Alone.Launch.run_main (F := Bits) m ρ)

theorem frame_sortRef : Cert.quiescent_SortReference := fun m ρ _ =>
  (θ_run Cert.SortReference.defs _ _).mono (fun _ h => ⟨fun c => (h c).2.2, sem_eq_zero_of_no_sems rfl _⟩) (Cert.SortReference.Value.run (F := Bits) m ρ)

theorem value_sort : Cert.bitexact_SortCall_SortReference := fun m ρ m' ρ' _ hin =>
  ⟨fun c => Rows.ordArr (m (Alone.Tiles.hLoc c)) (m (Alone.Tiles.lLoc c)), fun c => Rows.placeArr (m (Alone.Tiles.hLoc c)) (m (Alone.Tiles.lLoc c)),
    (θ_run Cert.SortCall.defs _ _).mono (fun _ h c => ⟨(h.1 c).2.2.1, (h.1 c).2.2.2, (h.1 c).1, (h.1 c).2.1⟩)
      (Alone.Launch.run_main (F := Bits) m ρ),
    (θ_run Cert.SortReference.defs _ _).mono (fun _ h c => by
        obtain ⟨h1, h2, h3⟩ := h c
        rw [(hin c).1, (hin c).2] at h1 h2
        have e := RefSort.sort_ord (m (Alone.Tiles.hLoc c)) (m (Alone.Tiles.lLoc c))
        exact ⟨h1.trans e, (h2.trans (congrArg (fun X => (Host.sort2 _ 1 _ X _).2) e)).trans (RefSort.sort_place _ _), h3⟩)
      (Cert.SortReference.Value.run (F := Bits) m' ρ')⟩

theorem claim : Cert.Claim := ⟨Cert.Kernel.Gen.facts, Cert.KernelIdeal.Gen.facts, Cert.ReferenceIdeal.Gen.facts, Cert.SortCall.Gen.facts, Cert.SortReference.Gen.facts,
  frame_kernel, frame_ideal, frame_refIdeal, frame_sort, frame_sortRef, trivial, value_ideal, value_sort⟩

end Cert.Proof

end
